-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_fox_finite [hPre_fox_finite : Cert.Pre_fox_finite.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_fox_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_fox_finite [hPre_fox_finite : Cert.Pre_fox_finite.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_fox_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_xattn_finite [hPre_xattn_finite : Cert.Pre_xattn_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_xattn_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_xattn_finite [hPre_xattn_finite : Cert.Pre_xattn_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_xattn_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_xfwd_finite [hPre_xfwd_finite : Cert.Pre_xfwd_finite.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_xfwd_finite.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2))) = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_xfwd_finite [hPre_xfwd_finite : Cert.Pre_xfwd_finite.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_xfwd_finite.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_ffwd_finite [hPre_ffwd_finite : Cert.Pre_ffwd_finite.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_ffwd_finite.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3))) = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_ffwd_finite [hPre_ffwd_finite : Cert.Pre_ffwd_finite.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_ffwd_finite.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3))) = (fun _ => 1#1)

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Kernel12Ideal_dfwd_finite [hPre_dfwd_finite : Cert.Pre_dfwd_finite.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_dfwd_finite.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2))) = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_dfwd_finite [hPre_dfwd_finite : Cert.Pre_dfwd_finite.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_dfwd_finite.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2))) = (fun _ => 1#1)

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Kernel5Ideal_pre_fox_finite [hKernel5Ideal : Cert.Kernel5Ideal.Facts] [hPre_fox_finite : Cert.Pre_fox_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_fox_finite m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Reference5Ideal_pre_fox_finite [hReference5Ideal : Cert.Reference5Ideal.Facts] [hPre_fox_finite : Cert.Pre_fox_finite.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_fox_finite m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Kernel3Ideal_pre_xattn_finite [hKernel3Ideal : Cert.Kernel3Ideal.Facts] [hPre_xattn_finite : Cert.Pre_xattn_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_xattn_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Reference3Ideal_pre_xattn_finite [hReference3Ideal : Cert.Reference3Ideal.Facts] [hPre_xattn_finite : Cert.Pre_xattn_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_xattn_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8)
      ∧ r.2.mem ((c.tc : Thread Cert.Kernel9.nD Cert.Kernel9.τ).loc Cert.Kernel9.main_arg9) = m ((c.tc : Thread Cert.Kernel9.nD Cert.Kernel9.τ).loc Cert.Kernel9.main_arg9)
      ∧ r.2.mem ((c.tc : Thread Cert.Kernel9.nD Cert.Kernel9.τ).loc Cert.Kernel9.main_arg10) = m ((c.tc : Thread Cert.Kernel9.nD Cert.Kernel9.τ).loc Cert.Kernel9.main_arg10))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
      ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
      ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8)
      ∧ r.2.mem ((c.tc : Thread Cert.Reference9Ideal.nD Cert.Reference9Ideal.τ).loc Cert.Reference9Ideal.main_arg9) = m ((c.tc : Thread Cert.Reference9Ideal.nD Cert.Reference9Ideal.τ).loc Cert.Reference9Ideal.main_arg9)
      ∧ r.2.mem ((c.tc : Thread Cert.Reference9Ideal.nD Cert.Reference9Ideal.τ).loc Cert.Reference9Ideal.main_arg10) = m ((c.tc : Thread Cert.Reference9Ideal.nD Cert.Reference9Ideal.τ).loc Cert.Reference9Ideal.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Kernel10Ideal_pre_xfwd_finite [hKernel10Ideal : Cert.Kernel10Ideal.Facts] [hPre_xfwd_finite : Cert.Pre_xfwd_finite.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_xfwd_finite m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Reference10Ideal_pre_xfwd_finite [hReference10Ideal : Cert.Reference10Ideal.Facts] [hPre_xfwd_finite : Cert.Pre_xfwd_finite.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_xfwd_finite m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Kernel11Ideal_pre_ffwd_finite [hKernel11Ideal : Cert.Kernel11Ideal.Facts] [hPre_ffwd_finite : Cert.Pre_ffwd_finite.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_ffwd_finite m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Reference11Ideal_pre_ffwd_finite [hReference11Ideal : Cert.Reference11Ideal.Facts] [hPre_ffwd_finite : Cert.Pre_ffwd_finite.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_ffwd_finite m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Kernel12Ideal_pre_dfwd_finite [hKernel12Ideal : Cert.Kernel12Ideal.Facts] [hPre_dfwd_finite : Cert.Pre_dfwd_finite.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal_dfwd_finite m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Reference12Ideal_pre_dfwd_finite [hReference12Ideal : Cert.Reference12Ideal.Facts] [hPre_dfwd_finite : Cert.Pre_dfwd_finite.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_dfwd_finite m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4)
      ∧ r.2.mem ((c.tc : Thread Cert.Kernel18.nD Cert.Kernel18.τ).loc Cert.Kernel18.main_arg5) = m ((c.tc : Thread Cert.Kernel18.nD Cert.Kernel18.τ).loc Cert.Kernel18.main_arg5))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
      ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4)
      ∧ r.2.mem ((c.tc : Thread Cert.Reference18Ideal.nD Cert.Reference18Ideal.τ).loc Cert.Reference18Ideal.main_arg5) = m ((c.tc : Thread Cert.Reference18Ideal.nD Cert.Reference18Ideal.τ).loc Cert.Reference18Ideal.main_arg5))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v5_0)) (v1 : (c : Dev Cert.Kernel2Ideal.nD) → Buf (Elt Ideal) ((c.tc : Thread Cert.Kernel2Ideal.nD Cert.Kernel2Ideal.τ).loc Cert.Kernel2Ideal.main_v5_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5_0) = v0 c
          ∧ r.2.mem ((c.tc : Thread Cert.Kernel2Ideal.nD Cert.Kernel2Ideal.τ).loc Cert.Kernel2Ideal.main_v5_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v15) = v0 c
          ∧ r.2.mem ((c.tc : Thread Cert.Reference2Ideal.nD Cert.Reference2Ideal.τ).loc Cert.Reference2Ideal.main_v17) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel5_Kernel5Ideal : Prop :=
  True

def algebraic_Kernel5Ideal_Reference5Ideal_pre_fox_finite [hKernel5Ideal : Cert.Kernel5Ideal.Facts] [hReference5Ideal : Cert.Reference5Ideal.Facts] [hPre_fox_finite : Cert.Pre_fox_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_fox_finite m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v44_0)) (v1 : (c : Dev Cert.Kernel5Ideal.nD) → Buf (Elt Ideal) ((c.tc : Thread Cert.Kernel5Ideal.nD Cert.Kernel5Ideal.τ).loc Cert.Kernel5Ideal.main_v44_1)) (v2 : (c : Dev Cert.Kernel5Ideal.nD) → Buf (Elt Ideal) ((c.tc : Thread Cert.Kernel5Ideal.nD Cert.Kernel5Ideal.τ).loc Cert.Kernel5Ideal.main_v44_2)) (v3 : (c : Dev Cert.Kernel5Ideal.nD) → Buf (Elt Ideal) ((c.tc : Thread Cert.Kernel5Ideal.nD Cert.Kernel5Ideal.τ).loc Cert.Kernel5Ideal.main_v44_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v44_0) = v0 c
          ∧ r.2.mem ((c.tc : Thread Cert.Kernel5Ideal.nD Cert.Kernel5Ideal.τ).loc Cert.Kernel5Ideal.main_v44_1) = v1 c
          ∧ r.2.mem ((c.tc : Thread Cert.Kernel5Ideal.nD Cert.Kernel5Ideal.τ).loc Cert.Kernel5Ideal.main_v44_2) = v2 c
          ∧ r.2.mem ((c.tc : Thread Cert.Kernel5Ideal.nD Cert.Kernel5Ideal.τ).loc Cert.Kernel5Ideal.main_v44_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v94) = v0 c
          ∧ r.2.mem ((c.tc : Thread Cert.Reference5Ideal.nD Cert.Reference5Ideal.τ).loc Cert.Reference5Ideal.main_v95) = v1 c
          ∧ r.2.mem ((c.tc : Thread Cert.Reference5Ideal.nD Cert.Reference5Ideal.τ).loc Cert.Reference5Ideal.main_v96) = v2 c
          ∧ r.2.mem ((c.tc : Thread Cert.Reference5Ideal.nD Cert.Reference5Ideal.τ).loc Cert.Reference5Ideal.main_v98) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel3_Kernel3Ideal : Prop :=
  True

def algebraic_Kernel3Ideal_Reference3Ideal_pre_xattn_finite [hKernel3Ideal : Cert.Kernel3Ideal.Facts] [hReference3Ideal : Cert.Reference3Ideal.Facts] [hPre_xattn_finite : Cert.Pre_xattn_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_xattn_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v1_0)) (v1 : (c : Dev Cert.Kernel3Ideal.nD) → Buf (Elt Ideal) ((c.tc : Thread Cert.Kernel3Ideal.nD Cert.Kernel3Ideal.τ).loc Cert.Kernel3Ideal.main_v1_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1_0) = v0 c
          ∧ r.2.mem ((c.tc : Thread Cert.Kernel3Ideal.nD Cert.Kernel3Ideal.τ).loc Cert.Kernel3Ideal.main_v1_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v67) = v0 c
          ∧ r.2.mem ((c.tc : Thread Cert.Reference3Ideal.nD Cert.Reference3Ideal.τ).loc Cert.Reference3Ideal.main_v68) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v2_0)) (v1 : (c : Dev Cert.Kernel8Ideal.nD) → Buf (Elt Ideal) ((c.tc : Thread Cert.Kernel8Ideal.nD Cert.Kernel8Ideal.τ).loc Cert.Kernel8Ideal.main_v2_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2_0) = v0 c
          ∧ r.2.mem ((c.tc : Thread Cert.Kernel8Ideal.nD Cert.Kernel8Ideal.τ).loc Cert.Kernel8Ideal.main_v2_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v44) = v0 c
          ∧ r.2.mem ((c.tc : Thread Cert.Reference8Ideal.nD Cert.Reference8Ideal.τ).loc Cert.Reference8Ideal.main_v45) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v3_0)) (v1 : (c : Dev Cert.Kernel7Ideal.nD) → Buf (Elt Ideal) ((c.tc : Thread Cert.Kernel7Ideal.nD Cert.Kernel7Ideal.τ).loc Cert.Kernel7Ideal.main_v3_1)) (v2 : (c : Dev Cert.Kernel7Ideal.nD) → Buf (Elt Ideal) ((c.tc : Thread Cert.Kernel7Ideal.nD Cert.Kernel7Ideal.τ).loc Cert.Kernel7Ideal.main_v3_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3_0) = v0 c
          ∧ r.2.mem ((c.tc : Thread Cert.Kernel7Ideal.nD Cert.Kernel7Ideal.τ).loc Cert.Kernel7Ideal.main_v3_1) = v1 c
          ∧ r.2.mem ((c.tc : Thread Cert.Kernel7Ideal.nD Cert.Kernel7Ideal.τ).loc Cert.Kernel7Ideal.main_v3_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v44) = v0 c
          ∧ r.2.mem ((c.tc : Thread Cert.Reference7Ideal.nD Cert.Reference7Ideal.τ).loc Cert.Reference7Ideal.main_v47) = v1 c
          ∧ r.2.mem ((c.tc : Thread Cert.Reference7Ideal.nD Cert.Reference7Ideal.τ).loc Cert.Reference7Ideal.main_v48) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)
      ∧ m' ((c.tc : Thread Cert.Reference9Ideal.nD Cert.Reference9Ideal.τ).loc Cert.Reference9Ideal.main_arg8) = m ((c.tc : Thread Cert.Kernel9Ideal.nD Cert.Kernel9Ideal.τ).loc Cert.Kernel9Ideal.main_arg8)
      ∧ m' ((c.tc : Thread Cert.Reference9Ideal.nD Cert.Reference9Ideal.τ).loc Cert.Reference9Ideal.main_arg9) = m ((c.tc : Thread Cert.Kernel9Ideal.nD Cert.Kernel9Ideal.τ).loc Cert.Kernel9Ideal.main_arg9)
      ∧ m' ((c.tc : Thread Cert.Reference9Ideal.nD Cert.Reference9Ideal.τ).loc Cert.Reference9Ideal.main_arg10) = m ((c.tc : Thread Cert.Kernel9Ideal.nD Cert.Kernel9Ideal.τ).loc Cert.Kernel9Ideal.main_arg10)) →
    ∃ (v0 : (c : Dev Cert.Kernel9Ideal.nD) → Buf (Elt Ideal) ((c.tc : Thread Cert.Kernel9Ideal.nD Cert.Kernel9Ideal.τ).loc Cert.Kernel9Ideal.main_v3_0)) (v1 : (c : Dev Cert.Kernel9Ideal.nD) → Buf (Elt Ideal) ((c.tc : Thread Cert.Kernel9Ideal.nD Cert.Kernel9Ideal.τ).loc Cert.Kernel9Ideal.main_v3_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3_0) = v0 c
          ∧ r.2.mem ((c.tc : Thread Cert.Kernel9Ideal.nD Cert.Kernel9Ideal.τ).loc Cert.Kernel9Ideal.main_v3_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
          ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
          ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
          ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v62) = v0 c
          ∧ r.2.mem ((c.tc : Thread Cert.Reference9Ideal.nD Cert.Reference9Ideal.τ).loc Cert.Reference9Ideal.main_v63) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7)
          ∧ r.2.mem ((c.tc : Thread Cert.Reference9Ideal.nD Cert.Reference9Ideal.τ).loc Cert.Reference9Ideal.main_arg8) = m' ((c.tc : Thread Cert.Reference9Ideal.nD Cert.Reference9Ideal.τ).loc Cert.Reference9Ideal.main_arg8)
          ∧ r.2.mem ((c.tc : Thread Cert.Reference9Ideal.nD Cert.Reference9Ideal.τ).loc Cert.Reference9Ideal.main_arg9) = m' ((c.tc : Thread Cert.Reference9Ideal.nD Cert.Reference9Ideal.τ).loc Cert.Reference9Ideal.main_arg9)
          ∧ r.2.mem ((c.tc : Thread Cert.Reference9Ideal.nD Cert.Reference9Ideal.τ).loc Cert.Reference9Ideal.main_arg10) = m' ((c.tc : Thread Cert.Reference9Ideal.nD Cert.Reference9Ideal.τ).loc Cert.Reference9Ideal.main_arg10))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v1_0)) (v1 : (c : Dev Cert.Kernel4Ideal.nD) → Buf (Elt Ideal) ((c.tc : Thread Cert.Kernel4Ideal.nD Cert.Kernel4Ideal.τ).loc Cert.Kernel4Ideal.main_v1_1)) (v2 : (c : Dev Cert.Kernel4Ideal.nD) → Buf (Elt Ideal) ((c.tc : Thread Cert.Kernel4Ideal.nD Cert.Kernel4Ideal.τ).loc Cert.Kernel4Ideal.main_v1_2)) (v3 : (c : Dev Cert.Kernel4Ideal.nD) → Buf (Elt Ideal) ((c.tc : Thread Cert.Kernel4Ideal.nD Cert.Kernel4Ideal.τ).loc Cert.Kernel4Ideal.main_v1_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1_0) = v0 c
          ∧ r.2.mem ((c.tc : Thread Cert.Kernel4Ideal.nD Cert.Kernel4Ideal.τ).loc Cert.Kernel4Ideal.main_v1_1) = v1 c
          ∧ r.2.mem ((c.tc : Thread Cert.Kernel4Ideal.nD Cert.Kernel4Ideal.τ).loc Cert.Kernel4Ideal.main_v1_2) = v2 c
          ∧ r.2.mem ((c.tc : Thread Cert.Kernel4Ideal.nD Cert.Kernel4Ideal.τ).loc Cert.Kernel4Ideal.main_v1_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v55) = v0 c
          ∧ r.2.mem ((c.tc : Thread Cert.Reference4Ideal.nD Cert.Reference4Ideal.τ).loc Cert.Reference4Ideal.main_v56) = v1 c
          ∧ r.2.mem ((c.tc : Thread Cert.Reference4Ideal.nD Cert.Reference4Ideal.τ).loc Cert.Reference4Ideal.main_v57) = v2 c
          ∧ r.2.mem ((c.tc : Thread Cert.Reference4Ideal.nD Cert.Reference4Ideal.τ).loc Cert.Reference4Ideal.main_v58) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel10_Kernel10Ideal : Prop :=
  True

def algebraic_Kernel10Ideal_Reference10Ideal_pre_xfwd_finite [hKernel10Ideal : Cert.Kernel10Ideal.Facts] [hReference10Ideal : Cert.Reference10Ideal.Facts] [hPre_xfwd_finite : Cert.Pre_xfwd_finite.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_xfwd_finite m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v23) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel6_Kernel6Ideal : Prop :=
  IdealRules.named_const.Statement Cert.Kernel6Ideal.κ "mask" .f32 0xF149F2CA#32 ⊥

def preserves_Kernel11_Kernel11Ideal : Prop :=
  IdealRules.named_const.Statement Cert.Kernel11Ideal.κ "mask" .f32 0xF149F2CA#32 ⊥

def algebraic_Kernel11Ideal_Reference11Ideal_pre_ffwd_finite [hKernel11Ideal : Cert.Kernel11Ideal.Facts] [hReference11Ideal : Cert.Reference11Ideal.Facts] [hPre_ffwd_finite : Cert.Pre_ffwd_finite.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_ffwd_finite m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v6_0)) (v1 : (c : Dev Cert.Kernel11Ideal.nD) → Buf (Elt Ideal) ((c.tc : Thread Cert.Kernel11Ideal.nD Cert.Kernel11Ideal.τ).loc Cert.Kernel11Ideal.main_v6_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v6_0) = v0 c
          ∧ r.2.mem ((c.tc : Thread Cert.Kernel11Ideal.nD Cert.Kernel11Ideal.τ).loc Cert.Kernel11Ideal.main_v6_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v50) = v0 c
          ∧ r.2.mem ((c.tc : Thread Cert.Reference11Ideal.nD Cert.Reference11Ideal.τ).loc Cert.Reference11Ideal.main_v52) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  IdealRules.named_const.Statement Cert.Kernel12Ideal.κ "mask" .f32 0xF149F2CA#32 ⊥

def algebraic_Kernel12Ideal_Reference12Ideal_pre_dfwd_finite [hKernel12Ideal : Cert.Kernel12Ideal.Facts] [hReference12Ideal : Cert.Reference12Ideal.Facts] [hPre_dfwd_finite : Cert.Pre_dfwd_finite.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal_dfwd_finite m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v12_0)) (v1 : (c : Dev Cert.Kernel12Ideal.nD) → Buf (Elt Ideal) ((c.tc : Thread Cert.Kernel12Ideal.nD Cert.Kernel12Ideal.τ).loc Cert.Kernel12Ideal.main_v12_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v12_0) = v0 c
          ∧ r.2.mem ((c.tc : Thread Cert.Kernel12Ideal.nD Cert.Kernel12Ideal.τ).loc Cert.Kernel12Ideal.main_v12_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v168) = v0 c
          ∧ r.2.mem ((c.tc : Thread Cert.Reference12Ideal.nD Cert.Reference12Ideal.τ).loc Cert.Reference12Ideal.main_v171) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v3) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v8) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v1_0)) (v1 : (c : Dev Cert.Kernel14Ideal.nD) → Buf (Elt Ideal) ((c.tc : Thread Cert.Kernel14Ideal.nD Cert.Kernel14Ideal.τ).loc Cert.Kernel14Ideal.main_v1_1)) (v2 : (c : Dev Cert.Kernel14Ideal.nD) → Buf (Elt Ideal) ((c.tc : Thread Cert.Kernel14Ideal.nD Cert.Kernel14Ideal.τ).loc Cert.Kernel14Ideal.main_v1_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1_0) = v0 c
          ∧ r.2.mem ((c.tc : Thread Cert.Kernel14Ideal.nD Cert.Kernel14Ideal.τ).loc Cert.Kernel14Ideal.main_v1_1) = v1 c
          ∧ r.2.mem ((c.tc : Thread Cert.Kernel14Ideal.nD Cert.Kernel14Ideal.τ).loc Cert.Kernel14Ideal.main_v1_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v4) = v0 c
          ∧ r.2.mem ((c.tc : Thread Cert.Reference14Ideal.nD Cert.Reference14Ideal.τ).loc Cert.Reference14Ideal.main_v20) = v1 c
          ∧ r.2.mem ((c.tc : Thread Cert.Reference14Ideal.nD Cert.Reference14Ideal.τ).loc Cert.Reference14Ideal.main_v21) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v13) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v4_0)) (v1 : (c : Dev Cert.Kernel16Ideal.nD) → Buf (Elt Ideal) ((c.tc : Thread Cert.Kernel16Ideal.nD Cert.Kernel16Ideal.τ).loc Cert.Kernel16Ideal.main_v4_1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v4_0) = v0 c
          ∧ r.2.mem ((c.tc : Thread Cert.Kernel16Ideal.nD Cert.Kernel16Ideal.τ).loc Cert.Kernel16Ideal.main_v4_1) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v4) = v0 c
          ∧ r.2.mem ((c.tc : Thread Cert.Reference16Ideal.nD Cert.Reference16Ideal.τ).loc Cert.Reference16Ideal.main_v6) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v3) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v7) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)
      ∧ m' ((c.tc : Thread Cert.Reference18Ideal.nD Cert.Reference18Ideal.τ).loc Cert.Reference18Ideal.main_arg5) = m ((c.tc : Thread Cert.Kernel18Ideal.nD Cert.Kernel18Ideal.τ).loc Cert.Kernel18Ideal.main_arg5)) →
    ∃ (v0 : (c : Dev Cert.Kernel18Ideal.nD) → Buf (Elt Ideal) ((c.tc : Thread Cert.Kernel18Ideal.nD Cert.Kernel18Ideal.τ).loc Cert.Kernel18Ideal.main_v1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v1) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
          ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v21) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4)
          ∧ r.2.mem ((c.tc : Thread Cert.Reference18Ideal.nD Cert.Reference18Ideal.τ).loc Cert.Reference18Ideal.main_arg5) = m' ((c.tc : Thread Cert.Reference18Ideal.nD Cert.Reference18Ideal.τ).loc Cert.Reference18Ideal.main_arg5))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v1) = v0 c
          ∧ r.2.mem ((c.tc : Thread Cert.Reference19Ideal.nD Cert.Reference19Ideal.τ).loc Cert.Reference19Ideal.main_v25) = v1 c
          ∧ r.2.mem ((c.tc : Thread Cert.Reference19Ideal.nD Cert.Reference19Ideal.τ).loc Cert.Reference19Ideal.main_v6) = v2 c
          ∧ r.2.mem ((c.tc : Thread Cert.Reference19Ideal.nD Cert.Reference19Ideal.τ).loc Cert.Reference19Ideal.main_v12) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel5 : Cert.Kernel5.Facts) (hKernel5Ideal : Cert.Kernel5Ideal.Facts) (hReference5Ideal : Cert.Reference5Ideal.Facts) (hKernel3 : Cert.Kernel3.Facts) (hKernel3Ideal : Cert.Kernel3Ideal.Facts) (hReference3Ideal : Cert.Reference3Ideal.Facts) (hKernel8 : Cert.Kernel8.Facts) (hKernel8Ideal : Cert.Kernel8Ideal.Facts) (hReference8Ideal : Cert.Reference8Ideal.Facts) (hKernel7 : Cert.Kernel7.Facts) (hKernel7Ideal : Cert.Kernel7Ideal.Facts) (hReference7Ideal : Cert.Reference7Ideal.Facts) (hKernel9 : Cert.Kernel9.Facts) (hKernel9Ideal : Cert.Kernel9Ideal.Facts) (hReference9Ideal : Cert.Reference9Ideal.Facts) (hKernel4 : Cert.Kernel4.Facts) (hKernel4Ideal : Cert.Kernel4Ideal.Facts) (hReference4Ideal : Cert.Reference4Ideal.Facts) (hKernel10 : Cert.Kernel10.Facts) (hKernel10Ideal : Cert.Kernel10Ideal.Facts) (hReference10Ideal : Cert.Reference10Ideal.Facts) (hKernel6 : Cert.Kernel6.Facts) (hKernel6Ideal : Cert.Kernel6Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hPre_fox_finite : Cert.Pre_fox_finite.Facts) (hPre_xattn_finite : Cert.Pre_xattn_finite.Facts) (hPre_xfwd_finite : Cert.Pre_xfwd_finite.Facts) (hPre_ffwd_finite : Cert.Pre_ffwd_finite.Facts) (hPre_dfwd_finite : Cert.Pre_dfwd_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel5 (hKernel5 := hKernel5)
    ∧ quiescent_Kernel5Ideal (hKernel5Ideal := hKernel5Ideal)
    ∧ quiescent_Kernel5Ideal_pre_fox_finite (hKernel5Ideal := hKernel5Ideal) (hPre_fox_finite := hPre_fox_finite)
    ∧ quiescent_Reference5Ideal (hReference5Ideal := hReference5Ideal)
    ∧ quiescent_Reference5Ideal_pre_fox_finite (hReference5Ideal := hReference5Ideal) (hPre_fox_finite := hPre_fox_finite)
    ∧ quiescent_Kernel3 (hKernel3 := hKernel3)
    ∧ quiescent_Kernel3Ideal (hKernel3Ideal := hKernel3Ideal)
    ∧ quiescent_Kernel3Ideal_pre_xattn_finite (hKernel3Ideal := hKernel3Ideal) (hPre_xattn_finite := hPre_xattn_finite)
    ∧ quiescent_Reference3Ideal (hReference3Ideal := hReference3Ideal)
    ∧ quiescent_Reference3Ideal_pre_xattn_finite (hReference3Ideal := hReference3Ideal) (hPre_xattn_finite := hPre_xattn_finite)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel10 (hKernel10 := hKernel10)
    ∧ quiescent_Kernel10Ideal (hKernel10Ideal := hKernel10Ideal)
    ∧ quiescent_Kernel10Ideal_pre_xfwd_finite (hKernel10Ideal := hKernel10Ideal) (hPre_xfwd_finite := hPre_xfwd_finite)
    ∧ quiescent_Reference10Ideal (hReference10Ideal := hReference10Ideal)
    ∧ quiescent_Reference10Ideal_pre_xfwd_finite (hReference10Ideal := hReference10Ideal) (hPre_xfwd_finite := hPre_xfwd_finite)
    ∧ quiescent_Kernel6 (hKernel6 := hKernel6)
    ∧ quiescent_Kernel6Ideal (hKernel6Ideal := hKernel6Ideal)
    ∧ quiescent_Kernel11 (hKernel11 := hKernel11)
    ∧ quiescent_Kernel11Ideal (hKernel11Ideal := hKernel11Ideal)
    ∧ quiescent_Kernel11Ideal_pre_ffwd_finite (hKernel11Ideal := hKernel11Ideal) (hPre_ffwd_finite := hPre_ffwd_finite)
    ∧ quiescent_Reference11Ideal (hReference11Ideal := hReference11Ideal)
    ∧ quiescent_Reference11Ideal_pre_ffwd_finite (hReference11Ideal := hReference11Ideal) (hPre_ffwd_finite := hPre_ffwd_finite)
    ∧ quiescent_Kernel12 (hKernel12 := hKernel12)
    ∧ quiescent_Kernel12Ideal (hKernel12Ideal := hKernel12Ideal)
    ∧ quiescent_Kernel12Ideal_pre_dfwd_finite (hKernel12Ideal := hKernel12Ideal) (hPre_dfwd_finite := hPre_dfwd_finite)
    ∧ quiescent_Reference12Ideal (hReference12Ideal := hReference12Ideal)
    ∧ quiescent_Reference12Ideal_pre_dfwd_finite (hReference12Ideal := hReference12Ideal) (hPre_dfwd_finite := hPre_dfwd_finite)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel5_Kernel5Ideal
    ∧ algebraic_Kernel5Ideal_Reference5Ideal_pre_fox_finite (hKernel5Ideal := hKernel5Ideal) (hReference5Ideal := hReference5Ideal) (hPre_fox_finite := hPre_fox_finite)
    ∧ preserves_Kernel3_Kernel3Ideal
    ∧ algebraic_Kernel3Ideal_Reference3Ideal_pre_xattn_finite (hKernel3Ideal := hKernel3Ideal) (hReference3Ideal := hReference3Ideal) (hPre_xattn_finite := hPre_xattn_finite)
    ∧ preserves_Kernel8_Kernel8Ideal
    ∧ algebraic_Kernel8Ideal_Reference8Ideal (hKernel8Ideal := hKernel8Ideal) (hReference8Ideal := hReference8Ideal)
    ∧ preserves_Kernel7_Kernel7Ideal
    ∧ algebraic_Kernel7Ideal_Reference7Ideal (hKernel7Ideal := hKernel7Ideal) (hReference7Ideal := hReference7Ideal)
    ∧ preserves_Kernel9_Kernel9Ideal
    ∧ algebraic_Kernel9Ideal_Reference9Ideal (hKernel9Ideal := hKernel9Ideal) (hReference9Ideal := hReference9Ideal)
    ∧ preserves_Kernel4_Kernel4Ideal
    ∧ algebraic_Kernel4Ideal_Reference4Ideal (hKernel4Ideal := hKernel4Ideal) (hReference4Ideal := hReference4Ideal)
    ∧ preserves_Kernel10_Kernel10Ideal
    ∧ algebraic_Kernel10Ideal_Reference10Ideal_pre_xfwd_finite (hKernel10Ideal := hKernel10Ideal) (hReference10Ideal := hReference10Ideal) (hPre_xfwd_finite := hPre_xfwd_finite)
    ∧ preserves_Kernel6_Kernel6Ideal
    ∧ preserves_Kernel11_Kernel11Ideal
    ∧ algebraic_Kernel11Ideal_Reference11Ideal_pre_ffwd_finite (hKernel11Ideal := hKernel11Ideal) (hReference11Ideal := hReference11Ideal) (hPre_ffwd_finite := hPre_ffwd_finite)
    ∧ preserves_Kernel12_Kernel12Ideal
    ∧ algebraic_Kernel12Ideal_Reference12Ideal_pre_dfwd_finite (hKernel12Ideal := hKernel12Ideal) (hReference12Ideal := hReference12Ideal) (hPre_dfwd_finite := hPre_dfwd_finite)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
-- ==== Pre_dfwd_finite.lean ====
abbrev S8192x512 : Shape := ⟨2, ![8192, 512]⟩
abbrev S_ : Shape := ⟨0, ![]⟩

class Facts : Prop where
  bitsLt_bf16_f32 : FTy.bits .bf16 < FTy.bits .f32
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .bf16) (main_arg1 : FVec F S8192x512 .bf16) (main_arg2 : FVec F S8192x512 .bf16) : IVec S_ 1 :=
  let main_v0 : FVec F S8192x512 .f32 := (extf .f32 · bitsLt_bf16_f32) main_arg0
  let main_v1 : FVec F S8192x512 .f32 := (extf .f32 · bitsLt_bf16_f32) main_arg1
  let main_v2 : FVec F S8192x512 .f32 := Host.absf main_v0
  let main_cst : FVec F S_ .f32 := constant S_ .f32 0x7F800000#32
  let main_v3 : FVec F S8192x512 .f32 := broadcastInDim S8192x512 ![] bcast_S_S8192x512 main_cst
  let main_v4 : IVec S8192x512 1 := cmpf .olt main_v2 main_v3
  let main_c : IVec S_ 1 := constantI S_ 1 1#1
  let main_v5 : IVec S_ 1 := (fun x v => Host.reduce IntOp.andi x v reducesTo_S8192x512_S_d0_1 h_S_) main_v4 main_c
  let main_v6 : FVec F S8192x512 .f32 := Host.absf main_v1
  let main_cst_0 : FVec F S_ .f32 := constant S_ .f32 0x7F800000#32
  let main_v7 : FVec F S8192x512 .f32 := broadcastInDim S8192x512 ![] bcast_S_S8192x512 main_cst_0
  let main_v8 : IVec S8192x512 1 := cmpf .olt main_v6 main_v7
  let main_c_1 : IVec S_ 1 := constantI S_ 1 1#1
  let main_v9 : IVec S_ 1 := (fun x v => Host.reduce IntOp.andi x v reducesTo_S8192x512_S_d0_1 h_S_) main_v8 main_c_1
  let main_v10 : IVec S_ 1 := andi main_v5 main_v9
  main_v10
-- ==== Pre_ffwd_finite.lean ====
abbrev S8192x512 : Shape := ⟨2, ![8192, 512]⟩
abbrev S8192x8 : Shape := ⟨2, ![8192, 8]⟩
abbrev S_ : Shape := ⟨0, ![]⟩

class Facts : Prop where
  bitsLt_bf16_f32 : FTy.bits .bf16 < FTy.bits .f32
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x8 : S_.BroadcastsInDim S8192x8 (![] : Fin 0 → Fin S8192x8.rank)
  reducesTo_S8192x8_S_d0_1 : S8192x8.ReducesTo [0, 1] S_

variable [Facts]

def fn {F : FTy → Type} [FloatOps F] (main_arg0 : FVec F S8192x512 .bf16) (main_arg1 : FVec F S8192x512 .bf16) (main_arg2 : FVec F S8192x512 .bf16) (main_arg3 : FVec F S8192x8 .f32) : IVec S_ 1 :=
  let main_v0 : FVec F S8192x512 .f32 := (extf .f32 · bitsLt_bf16_f32) main_arg0
  let main_v1 : FVec F S8192x512 .f32 := (extf .f32 · bitsLt_bf16_f32) main_arg1
  let main_v2 : FVec F S8192x512 .f32 := Host.absf main_v0
  let main_cst : FVec F S_ .f32 := constant S_ .f32 0x7F800000#32
  let main_v3 : FVec F S8192x512 .f32 := broadcastInDim S8192x512 ![] bcast_S_S8192x512 main_cst
  let main_v4 : IVec S8192x512 1 := cmpf .olt main_v2 main_v3
  let main_c : IVec S_ 1 := constantI S_ 1 1#1
  let main_v5 : IVec S_ 1 := (fun x v => Host.reduce IntOp.andi x v reducesTo_S8192x512_S_d0_1 h_S_) main_v4 main_c
  let main_v6 : FVec F S8192x512 .f32 := Host.absf main_v1
  let main_cst_0 : FVec F S_ .f32 := constant S_ .f32 0x7F800000#32
  let main_v7 : FVec F S8192x512 .f32 := broadcastInDim S8192x512 ![] bcast_S_S8192x512 main_cst_0
  let main_v8 : IVec S8192x512 1 := cmpf .olt main_v6 main_v7
  let main_c_1 : IVec S_ 1 := constantI S_ 1 1#1
  let main_v9 : IVec S_ 1 := (fun x v => Host.reduce IntOp.andi x v reducesTo_S8192x512_S_d0_1 h_S_) main_v8 main_c_1
  let main_v10 : IVec S_ 1 := andi main_v5 main_v9
  let main_v11 : FVec F S8192x8 .f32 := Host.absf main_arg3
  let main_cst_2 : FVec F S_ .f32 := constant S_ .f32 0x7F800000#32
  let main_v12 : FVec F S8192x8 .f32 := broadcastInDim S8192x8 ![] bcast_S_S8192x8 main_cst_2
  let main_v13 : IVec S8192x8 1 := cmpf .olt main_v11 main_v12
  let main_c_3 : IVec S_ 1 := constantI S_ 1 1#1
  let main_v14 : IVec S_ 1 := (fun x v => Host.reduce IntOp.andi x v reducesTo_S8192x8_S_d0_1 h_S_) main_v13 main_c_3
  let main_v15 : IVec S_ 1 := andi main_v10 main_v14
  main_v15
-- ==== Pre_fox_finite.lean ====
abbrev S8192x512 : Shape := ⟨2, ![8192, 512]⟩
abbrev S8192x8 : Shape := ⟨2, ![8192, 8]⟩
abbrev S_ : Shape := ⟨0, ![]⟩

class Facts : Prop where
  bitsLt_bf16_f32 : FTy.bits .bf16 < FTy.bits .f32
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x8 : S_.BroadcastsInDim S8192x8 (![] : Fin 0 → Fin S8192x8.rank)
  reducesTo_S8192x8_S_d0_1 : S8192x8.ReducesTo [0, 1] S_

variable [Facts]

def fn_part1 {F : FTy → Type} [FloatOps F] (main_arg3 : FVec F S8192x8 .f32) (main_v3 : FVec F S8192x512 .f32) (main_v17 : IVec S_ 1) : IVec S_ 1 :=
  let main_v18 : FVec F S8192x8 .f32 := Host.absf main_arg3
  let main_cst_4 : FVec F S_ .f32 := constant S_ .f32 0x7F800000#32
  let main_v19 : FVec F S8192x8 .f32 := broadcastInDim S8192x8 ![] bcast_S_S8192x8 main_cst_4
  let main_v20 : IVec S8192x8 1 := cmpf .olt main_v18 main_v19
  let main_c_5 : IVec S_ 1 := constantI S_ 1 1#1
  let main_v21 : IVec S_ 1 := (fun x v => Host.reduce IntOp.andi x v reducesTo_S8192x8_S_d0_1 h_S_) main_v20 main_c_5
  let main_v22 : IVec S_ 1 := andi main_v17 main_v21
  let main_v23 : FVec F S8192x512 .f32 := Host.absf main_v3
  let main_cst_6 : FVec F S_ .f32 := constant S_ .f32 0x7F800000#32
  let main_v24 : FVec F S8192x512 .f32 := broadcastInDim S8192x512 ![] bcast_S_S8192x512 main_cst_6
  let main_v25 : IVec S8192x512 1 := cmpf .olt main_v23 main_v24
  let main_c_7 : IVec S_ 1 := constantI S_ 1 1#1
  let main_v26 : IVec S_ 1 := (fun x v => Host.reduce IntOp.andi x v reducesTo_S8192x512_S_d0_1 h_S_) main_v25 main_c_7
  let main_v27 : IVec S_ 1 := andi main_v22 main_v26
  main_v27

def fn {F : FTy → Type} [FloatOps F] (main_arg0 : FVec F S8192x512 .bf16) (main_arg1 : FVec F S8192x512 .bf16) (main_arg2 : FVec F S8192x512 .bf16) (main_arg3 : FVec F S8192x8 .f32) (main_arg4 : FVec F S8192x512 .bf16) : IVec S_ 1 :=
  let main_v0 : FVec F S8192x512 .f32 := (extf .f32 · bitsLt_bf16_f32) main_arg0
  let main_v1 : FVec F S8192x512 .f32 := (extf .f32 · bitsLt_bf16_f32) main_arg1
  let main_v2 : FVec F S8192x512 .f32 := (extf .f32 · bitsLt_bf16_f32) main_arg2
  let main_v3 : FVec F S8192x512 .f32 := (extf .f32 · bitsLt_bf16_f32) main_arg4
  let main_v4 : FVec F S8192x512 .f32 := Host.absf main_v0
  let main_cst : FVec F S_ .f32 := constant S_ .f32 0x7F800000#32
  let main_v5 : FVec F S8192x512 .f32 := broadcastInDim S8192x512 ![] bcast_S_S8192x512 main_cst
  let main_v6 : IVec S8192x512 1 := cmpf .olt main_v4 main_v5
  let main_c : IVec S_ 1 := constantI S_ 1 1#1
  let main_v7 : IVec S_ 1 := (fun x v => Host.reduce IntOp.andi x v reducesTo_S8192x512_S_d0_1 h_S_) main_v6 main_c
  let main_v8 : FVec F S8192x512 .f32 := Host.absf main_v1
  let main_cst_0 : FVec F S_ .f32 := constant S_ .f32 0x7F800000#32
  let main_v9 : FVec F S8192x512 .f32 := broadcastInDim S8192x512 ![] bcast_S_S8192x512 main_cst_0
  let main_v10 : IVec S8192x512 1 := cmpf .olt main_v8 main_v9
  let main_c_1 : IVec S_ 1 := constantI S_ 1 1#1
  let main_v11 : IVec S_ 1 := (fun x v => Host.reduce IntOp.andi x v reducesTo_S8192x512_S_d0_1 h_S_) main_v10 main_c_1
  let main_v12 : IVec S_ 1 := andi main_v7 main_v11
  let main_v13 : FVec F S8192x512 .f32 := Host.absf main_v2
  let main_cst_2 : FVec F S_ .f32 := constant S_ .f32 0x7F800000#32
  let main_v14 : FVec F S8192x512 .f32 := broadcastInDim S8192x512 ![] bcast_S_S8192x512 main_cst_2
  let main_v15 : IVec S8192x512 1 := cmpf .olt main_v13 main_v14
  let main_c_3 : IVec S_ 1 := constantI S_ 1 1#1
  let main_v16 : IVec S_ 1 := (fun x v => Host.reduce IntOp.andi x v reducesTo_S8192x512_S_d0_1 h_S_) main_v15 main_c_3
  let main_v17 : IVec S_ 1 := andi main_v12 main_v16
  fn_part1 (F := F) main_arg3 main_v3 main_v17
-- ==== Pre_xattn_finite.lean ====
abbrev S8192x1024 : Shape := ⟨2, ![8192, 1024]⟩
abbrev S1024x1024 : Shape := ⟨2, ![1024, 1024]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S8192x1024 .bf16) (main_arg1 : FVec F S1024x1024 .bf16) (main_arg2 : FVec F S1024x1024 .bf16) (main_arg3 : FVec F S8192x1024 .bf16) : IVec S_ 1 :=
  let main_v0 : FVec F S8192x1024 .f32 := (extf .f32 · bitsLt_bf16_f32) main_arg0
  let main_v1 : FVec F S1024x1024 .f32 := (extf .f32 · bitsLt_bf16_f32) main_arg1
  let main_v2 : FVec F S8192x1024 .f32 := Host.absf main_v0
  let main_cst : FVec F S_ .f32 := constant S_ .f32 0x7F800000#32
  let main_v3 : FVec F S8192x1024 .f32 := broadcastInDim S8192x1024 ![] bcast_S_S8192x1024 main_cst
  let main_v4 : IVec S8192x1024 1 := cmpf .olt main_v2 main_v3
  let main_c : IVec S_ 1 := constantI S_ 1 1#1
  let main_v5 : IVec S_ 1 := (fun x v => Host.reduce IntOp.andi x v reducesTo_S8192x1024_S_d0_1 h_S_) main_v4 main_c
  let main_v6 : FVec F S1024x1024 .f32 := Host.absf main_v1
  let main_cst_0 : FVec F S_ .f32 := constant S_ .f32 0x7F800000#32
  let main_v7 : FVec F S1024x1024 .f32 := broadcastInDim S1024x1024 ![] bcast_S_S1024x1024 main_cst_0
  let main_v8 : IVec S1024x1024 1 := cmpf .olt main_v6 main_v7
  let main_c_1 : IVec S_ 1 := constantI S_ 1 1#1
  let main_v9 : IVec S_ 1 := (fun x v => Host.reduce IntOp.andi x v reducesTo_S1024x1024_S_d0_1 h_S_) main_v8 main_c_1
  let main_v10 : IVec S_ 1 := andi main_v5 main_v9
  main_v10
-- ==== Pre_xfwd_finite.lean ====
abbrev S8192x1024 : Shape := ⟨2, ![8192, 1024]⟩
abbrev S1024x1024 : Shape := ⟨2, ![1024, 1024]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S8192x1024 .bf16) (main_arg1 : FVec F S1024x1024 .bf16) (main_arg2 : FVec F S1024x1024 .bf16) : IVec S_ 1 :=
  let main_v0 : FVec F S8192x1024 .f32 := (extf .f32 · bitsLt_bf16_f32) main_arg0
  let main_v1 : FVec F S1024x1024 .f32 := (extf .f32 · bitsLt_bf16_f32) main_arg1
  let main_v2 : FVec F S8192x1024 .f32 := Host.absf main_v0
  let main_cst : FVec F S_ .f32 := constant S_ .f32 0x7F800000#32
  let main_v3 : FVec F S8192x1024 .f32 := broadcastInDim S8192x1024 ![] bcast_S_S8192x1024 main_cst
  let main_v4 : IVec S8192x1024 1 := cmpf .olt main_v2 main_v3
  let main_c : IVec S_ 1 := constantI S_ 1 1#1
  let main_v5 : IVec S_ 1 := (fun x v => Host.reduce IntOp.andi x v reducesTo_S8192x1024_S_d0_1 h_S_) main_v4 main_c
  let main_v6 : FVec F S1024x1024 .f32 := Host.absf main_v1
  let main_cst_0 : FVec F S_ .f32 := constant S_ .f32 0x7F800000#32
  let main_v7 : FVec F S1024x1024 .f32 := broadcastInDim S1024x1024 ![] bcast_S_S1024x1024 main_cst_0
  let main_v8 : IVec S1024x1024 1 := cmpf .olt main_v6 main_v7
  let main_c_1 : IVec S_ 1 := constantI S_ 1 1#1
  let main_v9 : IVec S_ 1 := (fun x v => Host.reduce IntOp.andi x v reducesTo_S1024x1024_S_d0_1 h_S_) main_v8 main_c_1
  let main_v10 : IVec S_ 1 := andi main_v5 main_v9
  main_v10
-- ==== Kernel.lean ====
abbrev S8192x4096 : Shape := ⟨2, ![8192, 4096]⟩
abbrev S4096x1024 : Shape := ⟨2, ![4096, 1024]⟩
abbrev S8192x1024 : Shape := ⟨2, ![8192, 1024]⟩
abbrev S_ : Shape := ⟨0, ![]⟩
abbrev S512x1024 : Shape := ⟨2, ![512, 1024]⟩
abbrev S512x4096 : Shape := ⟨2, ![512, 4096]⟩

abbrev nBuf : Space → Nat
  | .hbm => 8
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S4096x1024, .bf16⟩
  | .hbm, ⟨2, _⟩ => ⟨S8192x1024, .bf16⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S8192x4096, .bf16⟩
  | .hbm, ⟨7, _⟩ => ⟨S8192x4096, .bf16⟩
  | .local _ .vmem, ⟨0, _⟩ => ⟨S512x1024, .bf16⟩
  | .local _ .vmem, ⟨1, _⟩ => ⟨S512x1024, .bf16⟩
  | .local _ .vmem, ⟨2, _⟩ => ⟨S4096x1024, .bf16⟩
  | .local _ .vmem, ⟨3, _⟩ => ⟨S512x4096, .bf16⟩
  | .local _ .vmem, ⟨4, _⟩ => ⟨S512x4096, .bf16⟩
  | .local _ .vmem, ⟨5, _⟩ => ⟨S512x4096, .bf16⟩
  | .local _ .vmem, ⟨6, _⟩ => ⟨S512x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S8192x4096 : Shape := ⟨2, ![8192, 4096]⟩
abbrev S4096x1024 : Shape := ⟨2, ![4096, 1024]⟩
abbrev S8192x1024 : Shape := ⟨2, ![8192, 1024]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x1024, .bf16⟩
  | .hbm, ⟨2, _⟩ => ⟨S8192x1024, .bf16⟩
  | .hbm, ⟨3, _⟩ => ⟨S4096x1024, .f32⟩
  | .hbm, ⟨4, _⟩ => ⟨S8192x1024, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S_, .f32⟩
  | .hbm, ⟨9, _⟩ => ⟨S8192x4096, .f32⟩
  | .hbm, ⟨10, _⟩ => ⟨S8192x4096, .i1⟩
  | .hbm, ⟨11, _⟩ => ⟨S_, .f32⟩
  | .hbm, ⟨12, _⟩ => ⟨S8192x4096, .f32⟩
  | .hbm, ⟨13, _⟩ => ⟨S8192x4096, .f32⟩
  | .hbm, ⟨14, _⟩ => ⟨S8192x1024, .f32⟩
  | .hbm, ⟨15, _⟩ => ⟨S8192x4096, .f32⟩
  | .hbm, ⟨16, _⟩ => ⟨S8192x4096, .f32⟩
  | .hbm, ⟨17, _⟩ => ⟨S8192x4096, .f32⟩
  | .hbm, ⟨18, _⟩ => ⟨S8192x4096, .f32⟩
  | .hbm, ⟨19, _⟩ => ⟨S_, .f32⟩
  | .hbm, ⟨20, _⟩ => ⟨S8192x4096, .f32⟩
  | .hbm, ⟨21, _⟩ => ⟨S8192x4096, .f32⟩
  | .hbm, ⟨22, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]
-- ==== Kernel2.lean ====
abbrev S8192x8 : Shape := ⟨2, ![8192, 8]⟩
abbrev S8 : Shape := ⟨1, ![8]⟩
abbrev S_ : Shape := ⟨0, ![]⟩
abbrev S128 : Shape := ⟨1, ![128]⟩
abbrev S1x128 : Shape := ⟨2, ![1, 128]⟩
abbrev S8192x128 : Shape := ⟨2, ![8192, 128]⟩
abbrev S8192x8x64 : Shape := ⟨3, ![8192, 8, 64]⟩
abbrev S8192x512 : Shape := ⟨2, ![8192, 512]⟩
abbrev S2048x512 : Shape := ⟨2, ![2048, 512]⟩
abbrev S2048x128 : Shape := ⟨2, ![2048, 128]⟩
abbrev S2048x1 : Shape := ⟨2, ![2048, 1]⟩

abbrev nBuf : Space → Nat
  | .hbm => 14
  | .vmem => 8
  | .smem => 0
  | _ => 0

abbrev bufTy : (tb : Table) → Fin (tcTables nBuf tb) → BufTy
  | .hbm, ⟨0, _⟩ => ⟨S8192x8, .f32⟩
  | .hbm, ⟨1, _⟩ => ⟨S8, .f32⟩
  | .hbm, ⟨2, _⟩ => ⟨S8192x8, .f32⟩
  | .hbm, ⟨3, _⟩ => ⟨S_, .i32⟩
  | .hbm, ⟨4, _⟩ => ⟨S_, .f32⟩
  | .hbm, ⟨5, _⟩ => ⟨S128, .f32⟩
  | .hbm, ⟨6, _⟩ => ⟨S1x128, .f32⟩
  | .hbm, ⟨7, _⟩ => ⟨S_, .i32⟩
  | .hbm, ⟨8, _⟩ => ⟨S_, .f32⟩
  | .hbm, ⟨9, _⟩ => ⟨S8192x128, .f32⟩
  | .hbm, ⟨10, _⟩ => ⟨S8192x8x64, .f32⟩
  | .hbm, ⟨11, _⟩ => ⟨S8192x512, .f32⟩
  | .hbm, ⟨12, _⟩ => ⟨S8192x128, .bf16⟩
  | .hbm, ⟨13, _⟩ => ⟨S1x128, .f32⟩
  | .local _ .vmem, ⟨0, _⟩ => ⟨S2048x512, .f32⟩
  | .local _ .vmem, ⟨1, _⟩ => ⟨S2048x512, .f32⟩
  | .local _ .vmem, ⟨2, _⟩ => ⟨S2048x128, .f32⟩
  | .local _ .vmem, ⟨3, _⟩ => ⟨S2048x128, .f32⟩
  | .local _ .vmem, ⟨4, _⟩ => ⟨S1x128, .f32⟩
  | .local _ .vmem, ⟨5, _⟩ => ⟨S2048x128, .bf16⟩
  | .local _ .vmem, ⟨6, _⟩ => ⟨S2048x128, .bf16⟩
  | .local _ .vmem, ⟨7, _⟩ => ⟨S1x128, .f32⟩
  | _, _ => ⟨S8192x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_call1_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32_32 : BitVec 32 := 0#32
  let v137 : BitVec 1 := Scalar.cmpi .eq arg0 c0_i32_32
  let v138 : BitVec 32 := Scalar.extui v137
  let c0_i32_33 : BitVec 32 := 0#32
  let v139 : BitVec 1 := Scalar.cmpi .ne v138 c0_i32_33
  v139

def k0_cond2 (i : grid0.Coords) : BitVec 1 :=
  let arg0 : BitVec 32 := BitVec.ofNat 32 (i 0).val
  let c0_i32_34 : BitVec 32 := 0#32
  let v140 : BitVec 1 := Scalar.cmpi .sgt arg0 c0_i32_34
  let v141 : BitVec 32 := Scalar.extui v140
  let c0_i32_35 : BitVec 32 := 0#32
  let v142 : BitVec 1 := Scalar.cmpi .ne v141 c0_i32_35
  v142

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference2Ideal.lean ====
abbrev S8192x8 : Shape := ⟨2, ![8192, 8]⟩
abbrev S8 : Shape := ⟨1, ![8]⟩
abbrev S4x2048x8 : Shape := ⟨3, ![4, 2048, 8]⟩
abbrev S1x1x8 : Shape := ⟨3, ![1, 1, 8]⟩
abbrev S_ : Shape := ⟨0, ![]⟩
abbrev S8192x128 : Shape := ⟨2, ![8192, 128]⟩
abbrev S128 : Shape := ⟨1, ![128]⟩
abbrev S1x128 : Shape := ⟨2, ![1, 128]⟩

abbrev nBuf : Space → Nat
  | .hbm => 80
  | .vmem => 0
  | .smem => 0
  | _ => 0

abbrev bufTy : (tb : Table) → Fin (tcTables nBuf tb) → BufTy
  | .hbm, ⟨0, _⟩ => ⟨S8192x8, .f32⟩
  | .hbm, ⟨1, _⟩ => ⟨S8, .f32⟩
  | .hbm, ⟨2, _⟩ => ⟨S8192x8, .f32⟩
  | .hbm, ⟨3, _⟩ => ⟨S4x2048x8, .f32⟩
  | .hbm, ⟨4, _⟩ => ⟨S1x1x8, .f32⟩
  | .hbm, ⟨5, _⟩ => ⟨S4x2048x8, .f32⟩
  | .hbm, ⟨6, _⟩ => ⟨S4x2048x8, .f32⟩
  | .hbm, ⟨7, _⟩ => ⟨S4x2048x8, .f32⟩
  | .hbm, ⟨8, _⟩ => ⟨S_, .f32⟩
  | .hbm, ⟨9, _⟩ => ⟨S4x2048x8, .f32⟩
  | .hbm, ⟨10, _⟩ => ⟨S4x2048x8, .f32⟩
  | .hbm, ⟨11, _⟩ => ⟨S4x2048x8, .f32⟩
  | .hbm, ⟨12, _⟩ => ⟨S4x2048x8, .f32⟩
  | .hbm, ⟨13, _⟩ => ⟨S4x2048x8, .i1⟩
  | .hbm, ⟨14, _⟩ => ⟨S4x2048x8, .f32⟩
  | .hbm, ⟨15, _⟩ => ⟨S4x2048x8, .f32⟩
  | .hbm, ⟨16, _⟩ => ⟨S4x2048x8, .f32⟩
  | .hbm, ⟨17, _⟩ => ⟨S4x2048x8, .f32⟩
  | .hbm, ⟨18, _⟩ => ⟨S4x2048x8, .f32⟩
  | .hbm, ⟨19, _⟩ => ⟨S4x2048x8, .f32⟩
  | .hbm, ⟨20, _⟩ => ⟨S4x2048x8, .f32⟩
  | .hbm, ⟨21, _⟩ => ⟨S4x2048x8, .f32⟩
  | .hbm, ⟨22, _⟩ => ⟨S_, .f32⟩
  | .hbm, ⟨23, _⟩ => ⟨S4x2048x8, .f32⟩
  | .hbm, ⟨24, _⟩ => ⟨S4x2048x8, .i1⟩
  | .hbm, ⟨25, _⟩ => ⟨S_, .f32⟩
  | .hbm, ⟨26, _⟩ => ⟨S4x2048x8, .f32⟩
  | .hbm, ⟨27, _⟩ => ⟨S4x2048x8, .f32⟩
  | .hbm, ⟨28, _⟩ => ⟨S_, .f32⟩
  | .hbm, ⟨29, _⟩ => ⟨S4x2048x8, .f32⟩
  | .hbm, ⟨30, _⟩ => ⟨S4x2048x8, .i1⟩
  | .hbm, ⟨31, _⟩ => ⟨S_, .f32⟩
  | .hbm, ⟨32, _⟩ => ⟨S4x2048x8, .f32⟩
  | .hbm, ⟨33, _⟩ => ⟨S4x2048x8, .f32⟩
  | .hbm, ⟨34, _⟩ => ⟨S4x2048x8, .f32⟩
  | .hbm, ⟨35, _⟩ => ⟨S4x2048x8, .f32⟩
  | .hbm, ⟨36, _⟩ => ⟨S_, .f32⟩
  | .hbm, ⟨37, _⟩ => ⟨S_, .f32⟩
  | .hbm, ⟨38, _⟩ => ⟨S_, .i1⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S4x2048x8, .f32⟩
  | .hbm, ⟨44, _⟩ => ⟨S4x2048x8, .i1⟩
  | .hbm, ⟨45, _⟩ => ⟨S_, .f32⟩
  | .hbm, ⟨46, _⟩ => ⟨S4x2048x8, .f32⟩
  | .hbm, ⟨47, _⟩ => ⟨S4x2048x8, .f32⟩
  | .hbm, ⟨48, _⟩ => ⟨S4x2048x8, .f32⟩
  | .hbm, ⟨49, _⟩ => ⟨S4x2048x8, .f32⟩
  | .hbm, ⟨50, _⟩ => ⟨S4x2048x8, .f32⟩
  | .hbm, ⟨51, _⟩ => ⟨S_, .f32⟩
  | .hbm, ⟨52, _⟩ => ⟨S4x2048x8, .f32⟩
  | .hbm, ⟨53, _⟩ => ⟨S4x2048x8, .f32⟩
  | .hbm, ⟨54, _⟩ => ⟨S4x2048x8, .f32⟩
  | .hbm, ⟨55, _⟩ => ⟨S_, .f32⟩
  | .hbm, ⟨56, _⟩ => ⟨S_, .f32⟩
  | .hbm, ⟨57, _⟩ => ⟨S4x2048x8, .f32⟩
  | .hbm, ⟨58, _⟩ => ⟨S8192x8, .f32⟩
  | .hbm, ⟨59, _⟩ => ⟨S4x2048x8, .f32⟩
  | .hbm, ⟨60, _⟩ => ⟨S_, .f32⟩
  | .hbm, ⟨61, _⟩ => ⟨S_, .f32⟩
  | .hbm, ⟨62, _⟩ => ⟨S4x2048x8, .f32⟩
  | .hbm, ⟨63, _⟩ => ⟨S4x2048x8, .f32⟩
  | .hbm, ⟨64, _⟩ => ⟨S4x2048x8, .f32⟩
  | .hbm, ⟨65, _⟩ => ⟨S4x2048x8, .f32⟩
  | .hbm, ⟨66, _⟩ => ⟨S_, .f32⟩
  | .hbm, ⟨67, _⟩ => ⟨S8, .f32⟩
  | .hbm, ⟨68, _⟩ => ⟨S1x1x8, .f32⟩
  | .hbm, ⟨69, _⟩ => ⟨S_, .f32⟩
  | .hbm, ⟨70, _⟩ => ⟨S8, .f32⟩
  | .hbm, ⟨71, _⟩ => ⟨S8192x8, .f32⟩
  | .hbm, ⟨72, _⟩ => ⟨S_, .i32⟩
  | .hbm, ⟨73, _⟩ => ⟨S_, .f32⟩
  | .hbm, ⟨74, _⟩ => ⟨S8192x128, .f32⟩
  | .hbm, ⟨75, _⟩ => ⟨S8192x128, .bf16⟩
  | .hbm, ⟨76, _⟩ => ⟨S_, .i32⟩
  | .hbm, ⟨77, _⟩ => ⟨S_, .f32⟩
  | .hbm, ⟨78, _⟩ => ⟨S128, .f32⟩
  | .hbm, ⟨79, _⟩ => ⟨S1x128, .f32⟩
  | _, _ => ⟨S8192x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_call0_cst : Ref sig .tc := ⟨.hbm, 8, rfl⟩
abbrev main_call0_call0_v0 : Ref sig .tc := ⟨.hbm, 9, rfl⟩
abbrev main_call0_call0_v1 : Ref sig .tc := ⟨.hbm, 10, rfl⟩
abbrev main_call0_call0_v2 : Ref sig .tc := ⟨.hbm, 11, rfl⟩
abbrev main_call0_call0_v3 : Ref sig .tc := ⟨.hbm, 12, rfl⟩
abbrev main_call0_call0_v4 : Ref sig .tc := ⟨.hbm, 13, rfl⟩
abbrev main_call0_call0_v5 : Ref sig .tc := ⟨.hbm, 14, rfl⟩
abbrev main_call0_call0_v6 : Ref sig .tc := ⟨.hbm, 15, rfl⟩
abbrev main_call0_call0_v7 : Ref sig .tc := ⟨.hbm, 16, rfl⟩
abbrev main_call0_call0_v8 : Ref sig .tc := ⟨.hbm, 17, rfl⟩
abbrev main_call0_call0_v9 : Ref sig .tc := ⟨.hbm, 18, rfl⟩
abbrev main_call0_call0_v10 : Ref sig .tc := ⟨.hbm, 19, rfl⟩
abbrev main_call0_call0_v11 : Ref sig .tc := ⟨.hbm, 20, rfl⟩
abbrev main_call0_v1_0 : Ref sig .tc := ⟨.hbm, 21, rfl⟩
abbrev main_call0_call0_cst_0 : Ref sig .tc := ⟨.hbm, 22, rfl⟩
abbrev main_call0_call0_v13 : Ref sig .tc := ⟨.hbm, 23, rfl⟩
abbrev main_call0_call0_v14 : Ref sig .tc := ⟨.hbm, 24, rfl⟩
abbrev main_call0_call0_cst_1 : Ref sig .tc := ⟨.hbm, 25, rfl⟩
abbrev main_call0_call0_v15 : Ref sig .tc := ⟨.hbm, 26, rfl⟩
abbrev main_call0_call0_v16 : Ref sig .tc := ⟨.hbm, 27, rfl⟩
abbrev main_call0_call0_cst_2 : Ref sig .tc := ⟨.hbm, 28, rfl⟩
abbrev main_call0_call0_v17 : Ref sig .tc := ⟨.hbm, 29, rfl⟩
abbrev main_call0_call0_v18 : Ref sig .tc := ⟨.hbm, 30, rfl⟩
abbrev main_call0_call0_cst_3 : Ref sig .tc := ⟨.hbm, 31, rfl⟩
abbrev main_call0_call0_v19 : Ref sig .tc := ⟨.hbm, 32, rfl⟩
abbrev main_call0_call0_v20 : Ref sig .tc := ⟨.hbm, 33, rfl⟩
abbrev main_call0_call0_v21 : Ref sig .tc := ⟨.hbm, 34, rfl⟩
abbrev main_v4_1 : Ref sig .tc := ⟨.hbm, 35, rfl⟩
abbrev main_call0_call0_cst_4 : Ref sig .tc := ⟨.hbm, 36, rfl⟩
abbrev main_call0_call0_cst_5 : Ref sig .tc := ⟨.hbm, 37, rfl⟩
abbrev main_call0_call0_v23 : Ref sig .tc := ⟨.hbm, 38, rfl⟩
abbrev main_call0_call0_cst_6 : Ref sig .tc := ⟨.hbm, 39, rfl⟩
abbrev main_call0_call0_cst_7 : Ref sig .tc := ⟨.hbm, 40, rfl⟩
abbrev main_call0_call0_v24 : Ref sig .tc := ⟨.hbm, 41, rfl⟩
abbrev main_call0_call0_cst_8 : Ref sig .tc := ⟨.hbm, 42, rfl⟩
abbrev main_call0_call0_v25 : Ref sig .tc := ⟨.hbm, 43, rfl⟩
abbrev main_call0_call0_v26 : Ref sig .tc := ⟨.hbm, 44, rfl⟩
abbrev main_call0_call0_cst_9 : Ref sig .tc := ⟨.hbm, 45, rfl⟩
abbrev main_call0_call0_v27 : Ref sig .tc := ⟨.hbm, 46, rfl⟩
abbrev main_call0_call0_v28 : Ref sig .tc := ⟨.hbm, 47, rfl⟩
abbrev main_call0_call0_v29 : Ref sig .tc := ⟨.hbm, 48, rfl⟩
abbrev main_call0_call0_v30 : Ref sig .tc := ⟨.hbm, 49, rfl⟩
abbrev main_call0_call0_v31 : Ref sig .tc := ⟨.hbm, 50, rfl⟩
abbrev main_call0_call0_cst_10 : Ref sig .tc := ⟨.hbm, 51, rfl⟩
abbrev main_call0_call0_v32 : Ref sig .tc := ⟨.hbm, 52, rfl⟩
abbrev main_v4_2 : Ref sig .tc := ⟨.hbm, 53, rfl⟩
abbrev main_v4_0 : Ref sig .tc := ⟨.hbm, 54, rfl⟩
abbrev main_call1_call0_cst : Ref sig .tc := ⟨.hbm, 55, rfl⟩
abbrev main_call1_call0_v0 : Ref sig .tc := ⟨.hbm, 56, rfl⟩
abbrev main_v5 : Ref sig .tc := ⟨.hbm, 57, rfl⟩
abbrev main_v6 : Ref sig .tc := ⟨.hbm, 58, rfl⟩
abbrev main_v7 : Ref sig .tc := ⟨.hbm, 59, rfl⟩
abbrev main_call2_call0_cst : Ref sig .tc := ⟨.hbm, 60, rfl⟩
abbrev main_call2_call0_v0 : Ref sig .tc := ⟨.hbm, 61, rfl⟩
abbrev main_v8 : Ref sig .tc := ⟨.hbm, 62, rfl⟩
abbrev main_call3_v0 : Ref sig .tc := ⟨.hbm, 63, rfl⟩
abbrev main_call3_v1 : Ref sig .tc := ⟨.hbm, 64, rfl⟩
abbrev main_v9 : Ref sig .tc := ⟨.hbm, 65, rfl⟩
abbrev main_cst : Ref sig .tc := ⟨.hbm, 66, rfl⟩
abbrev main_v10 : Ref sig .tc := ⟨.hbm, 67, rfl⟩
abbrev main_v11 : Ref sig .tc := ⟨.hbm, 68, rfl⟩
abbrev main_cst_0 : Ref sig .tc := ⟨.hbm, 69, rfl⟩
abbrev main_v12 : Ref sig .tc := ⟨.hbm, 70, rfl⟩
abbrev main_v13 : Ref sig .tc := ⟨.hbm, 71, rfl⟩
abbrev main_c : Ref sig .tc := ⟨.hbm, 72, rfl⟩
abbrev main_call4_v0 : Ref sig .tc := ⟨.hbm, 73, rfl⟩
abbrev main_v14 : Ref sig .tc := ⟨.hbm, 74, rfl⟩
abbrev main_v15 : Ref sig .tc := ⟨.hbm, 75, rfl⟩
abbrev main_c_1 : Ref sig .tc := ⟨.hbm, 76, rfl⟩
abbrev main_call5_v0 : Ref sig .tc := ⟨.hbm, 77, rfl⟩
abbrev main_v16 : Ref sig .tc := ⟨.hbm, 78, rfl⟩
abbrev main_v17 : Ref sig .tc := ⟨.hbm, 79, rfl⟩

abbrev nD : Nat := 1
abbrev τ : Topo := Topo.v7x

variable {F : FTy → Type} [FloatOps F]
-- ==== Kernel5.lean ====
abbrev S8192x512 : Shape := ⟨2, ![8192, 512]⟩
abbrev S8192x8 : Shape := ⟨2, ![8192, 8]⟩
abbrev S4x2048x8x64 : Shape := ⟨4, ![4, 2048, 8, 64]⟩
abbrev S4x2048x8 : Shape := ⟨3, ![4, 2048, 8]⟩
abbrev S4x8x2048 : Shape := ⟨3, ![4, 8, 2048]⟩
abbrev S4x8x2048x2048 : Shape := ⟨4, ![4, 8, 2048, 2048]⟩
abbrev S_ : Shape := ⟨0, ![]⟩
abbrev S4x8x2048x1 : Shape := ⟨4, ![4, 8, 2048, 1]⟩
abbrev S4x8x1x2048 : Shape := ⟨4, ![4, 8, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S1x1x2048x2048 : Shape := ⟨4, ![1, 1, 2048, 2048]⟩
abbrev S8192x1536 : Shape := ⟨2, ![8192, 1536]⟩
abbrev S8192x2048 : Shape := ⟨2, ![8192, 2048]⟩
abbrev S8192x1024 : Shape := ⟨2, ![8192, 1024]⟩
abbrev S8192x3072 : Shape := ⟨2, ![8192, 3072]⟩
abbrev S8192x8x64 : Shape := ⟨3, ![8192, 8, 64]⟩
abbrev S2048x128 : Shape := ⟨2, ![2048, 128]⟩
abbrev S2x2048x128 : Shape := ⟨3, ![2, 2048, 128]⟩
abbrev S1x128 : Shape := ⟨2, ![1, 128]⟩
abbrev S1x2048x128 : Shape := ⟨3, ![1, 2048, 128]⟩
abbrev S256x256 : Shape := ⟨2, ![256, 256]⟩
abbrev S256x128 : Shape := ⟨2, ![256, 128]⟩
abbrev S1x256x128 : Shape := ⟨3, ![1, 256, 128]⟩
abbrev S256 : Shape := ⟨1, ![256]⟩
abbrev S1x256 : Shape := ⟨2, ![1, 256]⟩
abbrev S256x1 : Shape := ⟨2, ![256, 1]⟩
abbrev S512x256 : Shape := ⟨2, ![512, 256]⟩
abbrev S1x512x128 : Shape := ⟨3, ![1, 512, 128]⟩
abbrev S512x128 : Shape := ⟨2, ![512, 128]⟩
abbrev S512 : Shape := ⟨1, ![512]⟩
abbrev S512x1 : Shape := ⟨2, ![512, 1]⟩
abbrev S768x256 : Shape := ⟨2, ![768, 256]⟩
abbrev S1x768x128 : Shape := ⟨3, ![1, 768, 128]⟩
abbrev S768x128 : Shape := ⟨2, ![768, 128]⟩
abbrev S768 : Shape := ⟨1, ![768]⟩
abbrev S768x1 : Shape := ⟨2, ![768, 1]⟩
abbrev S1024x256 : Shape := ⟨2, ![1024, 256]⟩
abbrev S1x1024x128 : Shape := ⟨3, ![1, 1024, 128]⟩
abbrev S1024x128 : Shape := ⟨2, ![1024, 128]⟩
abbrev S1024 : Shape := ⟨1, ![1024]⟩
abbrev S1024x1 : Shape := ⟨2, ![1024, 1]⟩
abbrev S1280x256 : Shape := ⟨2, ![1280, 256]⟩
abbrev S1x1280x128 : Shape := ⟨3, ![1, 1280, 128]⟩
abbrev S1280x128 : Shape := ⟨2, ![1280, 128]⟩
abbrev S1280 : Shape := ⟨1, ![1280]⟩
abbrev S1280x1 : Shape := ⟨2, ![1280, 1]⟩
abbrev S1536x256 : Shape := ⟨2, ![1536, 256]⟩
abbrev S1x1536x128 : Shape := ⟨3, ![1, 1536, 128]⟩
abbrev S1536x128 : Shape := ⟨2, ![1536, 128]⟩
abbrev S1536 : Shape := ⟨1, ![1536]⟩
abbrev S1536x1 : Shape := ⟨2, ![1536, 1]⟩
abbrev S1792x256 : Shape := ⟨2, ![1792, 256]⟩
abbrev S1x1792x128 : Shape := ⟨3, ![1, 1792, 128]⟩
abbrev S1792x128 : Shape := ⟨2, ![1792, 128]⟩
abbrev S1792 : Shape := ⟨1, ![1792]⟩
abbrev S1792x1 : Shape := ⟨2, ![1792, 1]⟩
abbrev S2048x256 : Shape := ⟨2, ![2048, 256]⟩

abbrev nBuf : Space → Nat
  | .hbm => 61
  | .vmem => 29
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x512, .bf16⟩
  | .hbm, ⟨3, _⟩ => ⟨S8192x8, .f32⟩
  | .hbm, ⟨4, _⟩ => ⟨S8192x512, .bf16⟩
  | .hbm, ⟨5, _⟩ => ⟨S8192x512, .f32⟩
  | .hbm, ⟨6, _⟩ => ⟨S4x2048x8x64, .f32⟩
  | .hbm, ⟨7, _⟩ => ⟨S8192x512, .f32⟩
  | .hbm, ⟨8, _⟩ => ⟨S4x2048x8x64, .f32⟩
  | .hbm, ⟨9, _⟩ => ⟨S4x2048x8, .f32⟩
  | .hbm, ⟨10, _⟩ => ⟨S4x8x2048, .f32⟩
  | .hbm, ⟨11, _⟩ => ⟨S4x8x2048x2048, .f32⟩
  | .hbm, ⟨12, _⟩ => ⟨S_, .f32⟩
  | .hbm, ⟨13, _⟩ => ⟨S4x8x2048x2048, .f32⟩
  | .hbm, ⟨14, _⟩ => ⟨S4x8x2048x2048, .f32⟩
  | .hbm, ⟨15, _⟩ => ⟨S4x8x2048x1, .f32⟩
  | .hbm, ⟨16, _⟩ => ⟨S4x8x1x2048, .f32⟩
  | .hbm, ⟨17, _⟩ => ⟨S4x8x2048x2048, .f32⟩
  | .hbm, ⟨18, _⟩ => ⟨S4x8x2048x2048, .f32⟩
  | .hbm, ⟨19, _⟩ => ⟨S4x8x2048x2048, .f32⟩
  | .hbm, ⟨20, _⟩ => ⟨S4x8x2048x2048, .f32⟩
  | .hbm, ⟨21, _⟩ => ⟨S2048, .i32⟩
  | .hbm, ⟨22, _⟩ => ⟨S1x2048, .i32⟩
  | .hbm, ⟨23, _⟩ => ⟨S2048x1, .i32⟩
  | .hbm, ⟨24, _⟩ => ⟨S2048x2048, .i32⟩
  | .hbm, ⟨25, _⟩ => ⟨S2048x2048, .i32⟩
  | .hbm, ⟨26, _⟩ => ⟨S2048x2048, .i1⟩
  | .hbm, ⟨27, _⟩ => ⟨S1x1x2048x2048, .i1⟩
  | .hbm, ⟨28, _⟩ => ⟨S_, .f32⟩
  | .hbm, ⟨29, _⟩ => ⟨S_, .f32⟩
  | .hbm, ⟨30, _⟩ => ⟨S4x8x2048x2048, .i1⟩
  | .hbm, ⟨31, _⟩ => ⟨S4x8x2048x2048, .f32⟩
  | .hbm, ⟨32, _⟩ => ⟨S4x8x2048x2048, .f32⟩
  | .hbm, ⟨33, _⟩ => ⟨S_, .f32⟩
  | .hbm, ⟨34, _⟩ => ⟨S4x8x2048, .f32⟩
  | .hbm, ⟨35, _⟩ => ⟨S4x8x2048x1, .f32⟩
  | .hbm, ⟨36, _⟩ => ⟨S4x8x2048, .f32⟩
  | .hbm, ⟨37, _⟩ => ⟨S4x8x2048x2048, .f32⟩
  | .hbm, ⟨38, _⟩ => ⟨S4x8x2048x2048, .f32⟩
  | .hbm, ⟨39, _⟩ => ⟨S4x8x2048x2048, .f32⟩
  | .hbm, ⟨40, _⟩ => ⟨S_, .f32⟩
  | .hbm, ⟨41, _⟩ => ⟨S4x8x2048, .f32⟩
  | .hbm, ⟨42, _⟩ => ⟨S4x8x2048, .f32⟩
  | .hbm, ⟨43, _⟩ => ⟨S4x8x2048, .f32⟩
  | .hbm, ⟨44, _⟩ => ⟨S4x2048x8, .f32⟩
  | .hbm, ⟨45, _⟩ => ⟨S8192x8, .f32⟩
  | .hbm, ⟨46, _⟩ => ⟨S_, .bf16⟩
  | .hbm, ⟨47, _⟩ => ⟨S8192x1536, .bf16⟩
  | .hbm, ⟨48, _⟩ => ⟨S8192x2048, .bf16⟩
  | .hbm, ⟨49, _⟩ => ⟨S8192x1024, .bf16⟩
  | .hbm, ⟨50, _⟩ => ⟨S8192x3072, .bf16⟩
  | .hbm, ⟨51, _⟩ => ⟨S8192x512, .bf16⟩
  | .hbm, ⟨52, _⟩ => ⟨S8192x1024, .bf16⟩
  | .hbm, ⟨53, _⟩ => ⟨S8192x8x64, .f32⟩
  | .hbm, ⟨54, _⟩ => ⟨S8192x512, .f32⟩
  | .hbm, ⟨55, _⟩ => ⟨S8192x8x64, .f32⟩
  | .hbm, ⟨56, _⟩ => ⟨S8192x512, .f32⟩
  | .hbm, ⟨57, _⟩ => ⟨S8192x512, .bf16⟩
  | .hbm, ⟨58, _⟩ => ⟨S8192x512, .bf16⟩
  | .hbm, ⟨59, _⟩ => ⟨S8192x512, .bf16⟩
  | .hbm, ⟨60, _⟩ => ⟨S8192x512, .f32⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .bf16⟩
  | .local _ .vmem, ⟨13, _⟩ => ⟨S2048x128, .bf16⟩
  | .local _ .vmem, ⟨14, _⟩ => ⟨S2048x128, .bf16⟩
  | .local _ .vmem, ⟨15, _⟩ => ⟨S2048x128, .bf16⟩
  | .local _ .vmem, ⟨16, _⟩ => ⟨S2048x128, .bf16⟩
  | .local _ .vmem, ⟨17, _⟩ => ⟨S2048x128, .bf16⟩
  | .local _ .vmem, ⟨18, _⟩ => ⟨S2048x128, .f32⟩
  | .local _ .vmem, ⟨19, _⟩ => ⟨S2048x128, .f32⟩
  | .local _ .vmem, ⟨20, _⟩ => ⟨S2x2048x128, .bf16⟩
  | .local _ .vmem, ⟨21, _⟩ => ⟨S2x2048x128, .bf16⟩
  | .local _ .vmem, ⟨22, _⟩ => ⟨S2x2048x128, .bf16⟩
  | .local _ .vmem, ⟨23, _⟩ => ⟨S2x2048x128, .bf16⟩
  | .local _ .vmem, ⟨24, _⟩ => ⟨S2x2048x128, .bf16⟩
  | .local _ .vmem, ⟨25, _⟩ => ⟨S2x2048x128, .bf16⟩
  | .local _ .vmem, ⟨26, _⟩ => ⟨S2048x128, .f32⟩
  | .local _ .vmem, ⟨27, _⟩ => ⟨S2048x128, .f32⟩
  | .local _ .vmem, ⟨28, _⟩ => ⟨S2048x128, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_0 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v22 : Ref sig .tc := ⟨.hbm, 32, rfl⟩
abbrev main_cst_1 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_2 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_3 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44_0 : Ref sig .tc := ⟨.hbm, 57, rfl⟩
abbrev main_v44_1 : Ref sig .tc := ⟨.hbm, 58, rfl⟩
abbrev main_v44_2 : Ref sig .tc := ⟨.hbm, 59, rfl⟩
abbrev main_v44_3 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_scratch6 : Ref sig .tc := ⟨.vmem, 26, rfl⟩
abbrev cc0_scratch7 : Ref sig .tc := ⟨.vmem, 27, rfl⟩
abbrev cc0_scratch8 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference5Ideal.lean ====
abbrev S8192x512 : Shape := ⟨2, ![8192, 512]⟩
abbrev S8192x8 : Shape := ⟨2, ![8192, 8]⟩
abbrev S4x2048x8x64 : Shape := ⟨4, ![4, 2048, 8, 64]⟩
abbrev S4x2048x8 : Shape := ⟨3, ![4, 2048, 8]⟩
abbrev S4x8x2048 : Shape := ⟨3, ![4, 8, 2048]⟩
abbrev S4x8x2048x2048 : Shape := ⟨4, ![4, 8, 2048, 2048]⟩
abbrev S_ : Shape := ⟨0, ![]⟩
abbrev S4x8x2048x1 : Shape := ⟨4, ![4, 8, 2048, 1]⟩
abbrev S4x8x1x2048 : Shape := ⟨4, ![4, 8, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S1x1x2048x2048 : Shape := ⟨4, ![1, 1, 2048, 2048]⟩
abbrev S4x8x64x2048 : Shape := ⟨4, ![4, 8, 64, 2048]⟩
abbrev S4x8x2048x64 : Shape := ⟨4, ![4, 8, 2048, 64]⟩
abbrev S8192x8x64 : Shape := ⟨3, ![8192, 8, 64]⟩

abbrev nBuf : Space → Nat
  | .hbm => 130
  | .vmem => 0
  | .smem => 0
  | _ => 0

abbrev hbmTy0_0 (i : Nat) : BufTy := match i % 128 with
  | 0 => ⟨S8192x512, .bf16⟩
  | 1 => ⟨S8192x512, .bf16⟩
  | 2 => ⟨S8192x512, .bf16⟩
  | 3 => ⟨S8192x8, .f32⟩
  | 4 => ⟨S8192x512, .bf16⟩
  | 5 => ⟨S8192x512, .f32⟩
  | 6 => ⟨S8192x512, .f32⟩
  | 7 => ⟨S8192x512, .f32⟩
  | 8 => ⟨S8192x512, .f32⟩
  | 9 => ⟨S4x2048x8x64, .f32⟩
  | 10 => ⟨S4x2048x8x64, .f32⟩
  | 11 => ⟨S4x2048x8x64, .f32⟩
  | 12 => ⟨S4x2048x8, .f32⟩
  | 13 => ⟨S4x8x2048, .f32⟩
  | 14 => ⟨S4x8x2048x2048, .f32⟩
  | 15 => ⟨S_, .f32⟩
  | 16 => ⟨S4x8x2048x2048, .f32⟩
  | 17 => ⟨S4x8x2048x2048, .f32⟩
  | 18 => ⟨S4x8x2048x1, .f32⟩
  | 19 => ⟨S4x8x1x2048, .f32⟩
  | 20 => ⟨S4x8x2048x2048, .f32⟩
  | 21 => ⟨S4x8x2048x2048, .f32⟩
  | 22 => ⟨S4x8x2048x2048, .f32⟩
  | 23 => ⟨S4x8x2048x2048, .f32⟩
  | 24 => ⟨S2048, .i32⟩
  | 25 => ⟨S1x2048, .i32⟩
  | 26 => ⟨S2048x1, .i32⟩
  | 27 => ⟨S2048x2048, .i32⟩
  | 28 => ⟨S2048x2048, .i32⟩
  | 29 => ⟨S2048x2048, .i1⟩
  | 30 => ⟨S1x1x2048x2048, .i1⟩
  | 31 => ⟨S_, .f32⟩
  | 32 => ⟨S_, .f32⟩
  | 33 => ⟨S4x8x2048x2048, .i1⟩
  | 34 => ⟨S4x8x2048x2048, .f32⟩
  | 35 => ⟨S4x8x2048x2048, .f32⟩
  | 36 => ⟨S_, .f32⟩
  | 37 => ⟨S4x8x2048x2048, .f32⟩
  | 38 => ⟨S_, .f32⟩
  | 39 => ⟨S4x8x2048, .f32⟩
  | 40 => ⟨S4x8x2048x1, .f32⟩
  | 41 => ⟨S4x8x2048x2048, .f32⟩
  | 42 => ⟨S4x8x2048x2048, .i1⟩
  | 43 => ⟨S4x8x2048x2048, .f32⟩
  | 44 => ⟨S_, .f32⟩
  | 45 => ⟨S4x8x2048, .f32⟩
  | 46 => ⟨S_, .f32⟩
  | 47 => ⟨S4x8x2048, .f32⟩
  | 48 => ⟨S4x8x2048, .f32⟩
  | 49 => ⟨S_, .f32⟩
  | 50 => ⟨S4x8x2048, .f32⟩
  | 51 => ⟨S4x8x2048, .i1⟩
  | 52 => ⟨S_, .f32⟩
  | 53 => ⟨S4x8x2048, .f32⟩
  | 54 => ⟨S4x8x2048, .i1⟩
  | 55 => ⟨S_, .f32⟩
  | 56 => ⟨S4x8x2048, .f32⟩
  | 57 => ⟨S_, .f32⟩
  | 58 => ⟨S4x8x2048, .f32⟩
  | 59 => ⟨S_, .f32⟩
  | 60 => ⟨S4x8x2048, .f32⟩
  | 61 => ⟨S4x8x2048, .f32⟩
  | 62 => ⟨S4x8x2048, .f32⟩
  | 63 => ⟨S4x8x2048x1, .f32⟩
  | 64 => ⟨S4x8x2048x2048, .f32⟩
  | 65 => ⟨S4x8x2048x2048, .f32⟩
  | 66 => ⟨S4x8x2048x2048, .f32⟩
  | 67 => ⟨S_, .f32⟩
  | 68 => ⟨S4x8x2048, .f32⟩
  | 69 => ⟨S4x8x2048x1, .f32⟩
  | 70 => ⟨S4x8x2048x2048, .f32⟩
  | 71 => ⟨S4x8x2048x2048, .f32⟩
  | 72 => ⟨S4x8x2048x1, .f32⟩
  | 73 => ⟨S_, .f32⟩
  | 74 => ⟨S4x8x2048x1, .f32⟩
  | 75 => ⟨S4x8x2048x1, .f32⟩
  | 76 => ⟨S4x8x64x2048, .f32⟩
  | 77 => ⟨S4x2048x8x64, .f32⟩
  | 78 => ⟨S8192x512, .f32⟩
  | 79 => ⟨S4x2048x8x64, .f32⟩
  | 80 => ⟨S4x8x64x2048, .f32⟩
  | 81 => ⟨S4x8x2048x2048, .f32⟩
  | 82 => ⟨S4x8x64x2048, .f32⟩
  | 83 => ⟨S4x2048x8x64, .f32⟩
  | 84 => ⟨S4x8x2048x2048, .f32⟩
  | 85 => ⟨S4x8x2048x2048, .f32⟩
  | 86 => ⟨S4x8x2048x2048, .f32⟩
  | 87 => ⟨S_, .f32⟩
  | 88 => ⟨S4x8x2048, .f32⟩
  | 89 => ⟨S4x8x2048x1, .f32⟩
  | 90 => ⟨S4x8x2048x1, .f32⟩
  | 91 => ⟨S4x8x2048x2048, .f32⟩
  | 92 => ⟨S4x8x2048x2048, .f32⟩
  | 93 => ⟨S_, .f32⟩
  | 94 => ⟨S4x8x2048, .f32⟩
  | 95 => ⟨S4x8x2048x2048, .f32⟩
  | 96 => ⟨S4x8x2048x2048, .f32⟩
  | 97 => ⟨S4x8x2048x2048, .f32⟩
  | 98 => ⟨S_, .f32⟩
  | 99 => ⟨S4x8x2048x2048, .f32⟩
  | 100 => ⟨S4x8x2048x2048, .f32⟩
  | 101 => ⟨S_, .f32⟩
  | 102 => ⟨S4x8x2048, .f32⟩
  | 103 => ⟨S4x8x2048x1, .f32⟩
  | 104 => ⟨S4x8x2048x2048, .f32⟩
  | 105 => ⟨S_, .f32⟩
  | 106 => ⟨S4x8x2048, .f32⟩
  | 107 => ⟨S4x8x1x2048, .f32⟩
  | 108 => ⟨S_, .f32⟩
  | 109 => ⟨S4x8x2048, .f32⟩
  | 110 => ⟨S_, .f32⟩
  | 111 => ⟨S4x8x2048, .f32⟩
  | 112 => ⟨S4x8x2048, .f32⟩
  | 113 => ⟨S_, .f32⟩
  | 114 => ⟨S4x8x2048x2048, .f32⟩
  | 115 => ⟨S4x8x2048x2048, .f32⟩
  | 116 => ⟨S4x8x2048x64, .f32⟩
  | 117 => ⟨S4x2048x8x64, .f32⟩
  | 118 => ⟨S4x8x2048x64, .f32⟩
  | 119 => ⟨S4x2048x8x64, .f32⟩
  | 120 => ⟨S4x2048x8, .f32⟩
  | 121 => ⟨S8192x8, .f32⟩
  | 122 => ⟨S8192x512, .f32⟩
  | 123 => ⟨S8192x512, .f32⟩
  | 124 => ⟨S8192x512, .f32⟩
  | 125 => ⟨S8192x512, .bf16⟩
  | 126 => ⟨S8192x512, .bf16⟩
  | 127 => ⟨S8192x512, .bf16⟩
  | _ => ⟨S8192x512, .bf16⟩

abbrev hbmTy0_1 (i : Nat) : BufTy := match i % 128 with
  | 0 => ⟨S8192x8x64, .f32⟩
  | 1 => ⟨S8192x512, .f32⟩
  | _ => ⟨S8192x512, .bf16⟩

abbrev hbmTy (i : Nat) : BufTy := match i / 128 with
  | 0 => hbmTy0_0 i
  | 1 => hbmTy0_1 i
  | _ => ⟨S8192x512, .bf16⟩

abbrev bufTy : (tb : Table) → Fin (tcTables nBuf tb) → BufTy
  | .hbm, ⟨i, _⟩ => hbmTy i
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_0 : Ref sig .tc := ⟨.hbm, 31, rfl⟩
abbrev main_call0_v0 : Ref sig .tc := ⟨.hbm, 32, rfl⟩
abbrev main_v25_1 : Ref sig .tc := ⟨.hbm, 33, rfl⟩
abbrev main_call0_v2 : Ref sig .tc := ⟨.hbm, 34, rfl⟩
abbrev main_v25_0 : Ref sig .tc := ⟨.hbm, 35, rfl⟩
abbrev main_call0_cst : Ref sig .tc := ⟨.hbm, 36, rfl⟩
abbrev main_v25_2 : Ref sig .tc := ⟨.hbm, 37, rfl⟩
abbrev main_cst_1 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_2 : Ref sig .tc := ⟨.hbm, 44, rfl⟩
abbrev main_v31 : Ref sig .tc := ⟨.hbm, 45, rfl⟩
abbrev main_cst_3 : Ref sig .tc := ⟨.hbm, 46, rfl⟩
abbrev main_v32 : Ref sig .tc := ⟨.hbm, 47, rfl⟩
abbrev main_v33 : Ref sig .tc := ⟨.hbm, 48, rfl⟩
abbrev main_cst_4 : Ref sig .tc := ⟨.hbm, 49, rfl⟩
abbrev main_v34 : Ref sig .tc := ⟨.hbm, 50, rfl⟩
abbrev main_v35 : Ref sig .tc := ⟨.hbm, 51, rfl⟩
abbrev main_cst_5 : Ref sig .tc := ⟨.hbm, 52, rfl⟩
abbrev main_v36 : Ref sig .tc := ⟨.hbm, 53, rfl⟩
abbrev main_v37 : Ref sig .tc := ⟨.hbm, 54, rfl⟩
abbrev main_cst_6 : Ref sig .tc := ⟨.hbm, 55, rfl⟩
abbrev main_v38 : Ref sig .tc := ⟨.hbm, 56, rfl⟩
abbrev main_cst_7 : Ref sig .tc := ⟨.hbm, 57, rfl⟩
abbrev main_v39 : Ref sig .tc := ⟨.hbm, 58, rfl⟩
abbrev main_cst_8 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_9 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_10 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_11 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_cst_12 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_call1_cst : Ref sig .tc := ⟨.hbm, 98, rfl⟩
abbrev main_call1_v0 : Ref sig .tc := ⟨.hbm, 99, rfl⟩
abbrev main_v74 : Ref sig .tc := ⟨.hbm, 100, rfl⟩
abbrev main_cst_13 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_cst_14 : Ref sig .tc := ⟨.hbm, 105, rfl⟩
abbrev main_v78 : Ref sig .tc := ⟨.hbm, 106, rfl⟩
abbrev main_v79 : Ref sig .tc := ⟨.hbm, 107, rfl⟩
abbrev main_cst_15 : Ref sig .tc := ⟨.hbm, 108, rfl⟩
abbrev main_v80 : Ref sig .tc := ⟨.hbm, 109, rfl⟩
abbrev main_cst_16 : Ref sig .tc := ⟨.hbm, 110, rfl⟩
abbrev main_v81 : Ref sig .tc := ⟨.hbm, 111, rfl⟩
abbrev main_v82 : Ref sig .tc := ⟨.hbm, 112, rfl⟩
abbrev main_cst_17 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩

abbrev nD : Nat := 1
abbrev τ : Topo := Topo.v7x

variable {F : FTy → Type} [FloatOps F]
-- ==== Kernel3.lean ====
abbrev S8192x1024 : Shape := ⟨2, ![8192, 1024]⟩
abbrev S1024x1024 : Shape := ⟨2, ![1024, 1024]⟩
abbrev S1024x2048 : Shape := ⟨2, ![1024, 2048]⟩
abbrev S256x2048 : Shape := ⟨2, ![256, 2048]⟩
abbrev S1024x256 : Shape := ⟨2, ![1024, 256]⟩
abbrev S256x256 : Shape := ⟨2, ![256, 256]⟩
abbrev S1024 : Shape := ⟨1, ![1024]⟩
abbrev S1024x1 : Shape := ⟨2, ![1024, 1]⟩

abbrev nBuf : Space → Nat
  | .hbm => 7
  | .vmem => 10
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S1024x1024, .bf16⟩
  | .hbm, ⟨3, _⟩ => ⟨S8192x1024, .bf16⟩
  | .hbm, ⟨4, _⟩ => ⟨S1024x2048, .bf16⟩
  | .hbm, ⟨5, _⟩ => ⟨S8192x1024, .bf16⟩
  | .hbm, ⟨6, _⟩ => ⟨S1024x2048, .f32⟩
  | .local _ .vmem, ⟨0, _⟩ => ⟨S1024x1024, .bf16⟩
  | .local _ .vmem, ⟨1, _⟩ => ⟨S1024x1024, .bf16⟩
  | .local _ .vmem, ⟨2, _⟩ => ⟨S256x2048, .bf16⟩
  | .local _ .vmem, ⟨3, _⟩ => ⟨S256x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S256x2048, .f32⟩
  | .local _ .vmem, ⟨9, _⟩ => ⟨S256x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference3Ideal.lean ====
abbrev S8192x1024 : Shape := ⟨2, ![8192, 1024]⟩
abbrev S1024x1024 : Shape := ⟨2, ![1024, 1024]⟩
abbrev S4x2048x4x256 : Shape := ⟨4, ![4, 2048, 4, 256]⟩
abbrev S4x256x4x256 : Shape := ⟨4, ![4, 256, 4, 256]⟩
abbrev S4x4x2048x256 : Shape := ⟨4, ![4, 4, 2048, 256]⟩
abbrev S_ : Shape := ⟨0, ![]⟩
abbrev S4x4x2048 : Shape := ⟨3, ![4, 4, 2048]⟩
abbrev S4x4x2048x1 : Shape := ⟨4, ![4, 4, 2048, 1]⟩
abbrev S4x4x256x2048 : Shape := ⟨4, ![4, 4, 256, 2048]⟩
abbrev S4x4x256x256 : Shape := ⟨4, ![4, 4, 256, 256]⟩
abbrev S1024x2048 : Shape := ⟨2, ![1024, 2048]⟩

abbrev nBuf : Space → Nat
  | .hbm => 87
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S1024x1024, .bf16⟩
  | .hbm, ⟨3, _⟩ => ⟨S8192x1024, .bf16⟩
  | .hbm, ⟨4, _⟩ => ⟨S8192x1024, .f32⟩
  | .hbm, ⟨5, _⟩ => ⟨S1024x1024, .f32⟩
  | .hbm, ⟨6, _⟩ => ⟨S1024x1024, .f32⟩
  | .hbm, ⟨7, _⟩ => ⟨S8192x1024, .f32⟩
  | .hbm, ⟨8, _⟩ => ⟨S4x2048x4x256, .f32⟩
  | .hbm, ⟨9, _⟩ => ⟨S4x256x4x256, .f32⟩
  | .hbm, ⟨10, _⟩ => ⟨S4x256x4x256, .f32⟩
  | .hbm, ⟨11, _⟩ => ⟨S4x4x2048x256, .f32⟩
  | .hbm, ⟨12, _⟩ => ⟨S_, .f32⟩
  | .hbm, ⟨13, _⟩ => ⟨S4x4x2048x256, .f32⟩
  | .hbm, ⟨14, _⟩ => ⟨S4x4x2048x256, .f32⟩
  | .hbm, ⟨15, _⟩ => ⟨S_, .f32⟩
  | .hbm, ⟨16, _⟩ => ⟨S4x4x2048, .f32⟩
  | .hbm, ⟨17, _⟩ => ⟨S4x4x2048x1, .f32⟩
  | .hbm, ⟨18, _⟩ => ⟨S4x4x2048x256, .f32⟩
  | .hbm, ⟨19, _⟩ => ⟨S4x4x2048x256, .i1⟩
  | .hbm, ⟨20, _⟩ => ⟨S4x4x2048x256, .f32⟩
  | .hbm, ⟨21, _⟩ => ⟨S_, .f32⟩
  | .hbm, ⟨22, _⟩ => ⟨S4x4x2048, .f32⟩
  | .hbm, ⟨23, _⟩ => ⟨S_, .f32⟩
  | .hbm, ⟨24, _⟩ => ⟨S4x4x2048, .f32⟩
  | .hbm, ⟨25, _⟩ => ⟨S4x4x2048, .f32⟩
  | .hbm, ⟨26, _⟩ => ⟨S_, .f32⟩
  | .hbm, ⟨27, _⟩ => ⟨S4x4x2048, .f32⟩
  | .hbm, ⟨28, _⟩ => ⟨S4x4x2048, .i1⟩
  | .hbm, ⟨29, _⟩ => ⟨S_, .f32⟩
  | .hbm, ⟨30, _⟩ => ⟨S4x4x2048, .f32⟩
  | .hbm, ⟨31, _⟩ => ⟨S4x4x2048, .i1⟩
  | .hbm, ⟨32, _⟩ => ⟨S_, .f32⟩
  | .hbm, ⟨33, _⟩ => ⟨S4x4x2048, .f32⟩
  | .hbm, ⟨34, _⟩ => ⟨S_, .f32⟩
  | .hbm, ⟨35, _⟩ => ⟨S4x4x2048, .f32⟩
  | .hbm, ⟨36, _⟩ => ⟨S_, .f32⟩
  | .hbm, ⟨37, _⟩ => ⟨S4x4x2048, .f32⟩
  | .hbm, ⟨38, _⟩ => ⟨S4x4x2048, .f32⟩
  | .hbm, ⟨39, _⟩ => ⟨S4x4x2048, .f32⟩
  | .hbm, ⟨40, _⟩ => ⟨S4x4x2048x1, .f32⟩
  | .hbm, ⟨41, _⟩ => ⟨S4x4x2048x256, .f32⟩
  | .hbm, ⟨42, _⟩ => ⟨S4x4x2048x256, .f32⟩
  | .hbm, ⟨43, _⟩ => ⟨S4x4x2048x256, .f32⟩
  | .hbm, ⟨44, _⟩ => ⟨S_, .f32⟩
  | .hbm, ⟨45, _⟩ => ⟨S4x4x2048, .f32⟩
  | .hbm, ⟨46, _⟩ => ⟨S4x4x2048x1, .f32⟩
  | .hbm, ⟨47, _⟩ => ⟨S4x4x2048x256, .f32⟩
  | .hbm, ⟨48, _⟩ => ⟨S4x4x2048x256, .f32⟩
  | .hbm, ⟨49, _⟩ => ⟨S4x4x2048x1, .f32⟩
  | .hbm, ⟨50, _⟩ => ⟨S_, .f32⟩
  | .hbm, ⟨51, _⟩ => ⟨S4x4x2048x1, .f32⟩
  | .hbm, ⟨52, _⟩ => ⟨S4x4x2048x1, .f32⟩
  | .hbm, ⟨53, _⟩ => ⟨S4x4x256x2048, .f32⟩
  | .hbm, ⟨54, _⟩ => ⟨S4x2048x4x256, .f32⟩
  | .hbm, ⟨55, _⟩ => ⟨S8192x1024, .f32⟩
  | .hbm, ⟨56, _⟩ => ⟨S4x2048x4x256, .f32⟩
  | .hbm, ⟨57, _⟩ => ⟨S4x4x256x2048, .f32⟩
  | .hbm, ⟨58, _⟩ => ⟨S4x4x2048x256, .f32⟩
  | .hbm, ⟨59, _⟩ => ⟨S4x4x256x256, .f32⟩
  | .hbm, ⟨60, _⟩ => ⟨S4x256x4x256, .f32⟩
  | .hbm, ⟨61, _⟩ => ⟨S4x4x2048x256, .f32⟩
  | .hbm, ⟨62, _⟩ => ⟨S4x4x2048x256, .f32⟩
  | .hbm, ⟨63, _⟩ => ⟨S4x4x2048x256, .f32⟩
  | .hbm, ⟨64, _⟩ => ⟨S_, .f32⟩
  | .hbm, ⟨65, _⟩ => ⟨S4x4x2048, .f32⟩
  | .hbm, ⟨66, _⟩ => ⟨S4x4x2048x1, .f32⟩
  | .hbm, ⟨67, _⟩ => ⟨S4x4x2048x1, .f32⟩
  | .hbm, ⟨68, _⟩ => ⟨S4x4x2048x256, .f32⟩
  | .hbm, ⟨69, _⟩ => ⟨S4x4x2048x256, .f32⟩
  | .hbm, ⟨70, _⟩ => ⟨S_, .f32⟩
  | .hbm, ⟨71, _⟩ => ⟨S4x4x2048, .f32⟩
  | .hbm, ⟨72, _⟩ => ⟨S4x4x2048x256, .f32⟩
  | .hbm, ⟨73, _⟩ => ⟨S4x4x2048x256, .f32⟩
  | .hbm, ⟨74, _⟩ => ⟨S4x4x2048x256, .f32⟩
  | .hbm, ⟨75, _⟩ => ⟨S_, .f32⟩
  | .hbm, ⟨76, _⟩ => ⟨S4x4x2048x256, .f32⟩
  | .hbm, ⟨77, _⟩ => ⟨S4x4x2048x256, .f32⟩
  | .hbm, ⟨78, _⟩ => ⟨S4x4x256x256, .f32⟩
  | .hbm, ⟨79, _⟩ => ⟨S4x256x4x256, .f32⟩
  | .hbm, ⟨80, _⟩ => ⟨S4x4x2048x256, .f32⟩
  | .hbm, ⟨81, _⟩ => ⟨S4x2048x4x256, .f32⟩
  | .hbm, ⟨82, _⟩ => ⟨S1024x1024, .f32⟩
  | .hbm, ⟨83, _⟩ => ⟨S1024x1024, .f32⟩
  | .hbm, ⟨84, _⟩ => ⟨S8192x1024, .f32⟩
  | .hbm, ⟨85, _⟩ => ⟨S8192x1024, .bf16⟩
  | .hbm, ⟨86, _⟩ => ⟨S1024x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_8 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_9 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_10 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_11 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_12 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩

abbrev nD : Nat := 1
abbrev τ : Topo := Topo.v7x

variable {F : FTy → Type} [FloatOps F]
-- ==== Kernel8.lean ====
abbrev S1024x1024 : Shape := ⟨2, ![1024, 1024]⟩
abbrev S1024 : Shape := ⟨1, ![1024]⟩
abbrev S1024x2048 : Shape := ⟨2, ![1024, 2048]⟩
abbrev S1x1024 : Shape := ⟨2, ![1, 1024]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 9
  | .smem => 0
  | _ => 0

abbrev bufTy : (tb : Table) → Fin (tcTables nBuf tb) → BufTy
  | .hbm, ⟨0, _⟩ => ⟨S1024x1024, .f32⟩
  | .hbm, ⟨1, _⟩ => ⟨S1024, .f32⟩
  | .hbm, ⟨2, _⟩ => ⟨S1024x1024, .bf16⟩
  | .hbm, ⟨3, _⟩ => ⟨S1024x1024, .bf16⟩
  | .hbm, ⟨4, _⟩ => ⟨S1024x2048, .f32⟩
  | .hbm, ⟨5, _⟩ => ⟨S1024x2048, .bf16⟩
  | .hbm, ⟨6, _⟩ => ⟨S1x1024, .f32⟩
  | .hbm, ⟨7, _⟩ => ⟨S1024x1024, .f32⟩
  | .hbm, ⟨8, _⟩ => ⟨S1x1024, .f32⟩
  | .local _ .vmem, ⟨0, _⟩ => ⟨S512x2048, .f32⟩
  | .local _ .vmem, ⟨1, _⟩ => ⟨S512x2048, .f32⟩
  | .local _ .vmem, ⟨2, _⟩ => ⟨S1024x2048, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v34 : BitVec 1 := Scalar.cmpi .eq arg0 c0_i32
  let v35 : BitVec 32 := Scalar.extui v34
  let c0_i32_15 : BitVec 32 := 0#32
  let v36 : BitVec 1 := Scalar.cmpi .ne v35 c0_i32_15
  v36

def k0_cond2 (i : grid0.Coords) : BitVec 1 :=
  let arg0 : BitVec 32 := BitVec.ofNat 32 (i 0).val
  let c0_i32_16 : BitVec 32 := 0#32
  let v37 : BitVec 1 := Scalar.cmpi .sgt arg0 c0_i32_16
  let v38 : BitVec 32 := Scalar.extui v37
  let c0_i32_17 : BitVec 32 := 0#32
  let v39 : BitVec 1 := Scalar.cmpi .ne v38 c0_i32_17
  v39

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== Reference8Ideal.lean ====
abbrev S1024x1024 : Shape := ⟨2, ![1024, 1024]⟩
abbrev S1024 : Shape := ⟨1, ![1024]⟩
abbrev S1024x2048 : Shape := ⟨2, ![1024, 2048]⟩
abbrev S_ : Shape := ⟨0, ![]⟩
abbrev S1024x1 : Shape := ⟨2, ![1024, 1]⟩
abbrev S1x1024 : Shape := ⟨2, ![1, 1024]⟩

abbrev nBuf : Space → Nat
  | .hbm => 60
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024, .f32⟩
  | .hbm, ⟨2, _⟩ => ⟨S1024x1024, .bf16⟩
  | .hbm, ⟨3, _⟩ => ⟨S1024x1024, .bf16⟩
  | .hbm, ⟨4, _⟩ => ⟨S1024x2048, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S_, .f32⟩
  | .hbm, ⟨9, _⟩ => ⟨S1024, .f32⟩
  | .hbm, ⟨10, _⟩ => ⟨S1024x1, .f32⟩
  | .hbm, ⟨11, _⟩ => ⟨S_, .f32⟩
  | .hbm, ⟨12, _⟩ => ⟨S1024x1, .f32⟩
  | .hbm, ⟨13, _⟩ => ⟨S1024x1, .f32⟩
  | .hbm, ⟨14, _⟩ => ⟨S_, .f32⟩
  | .hbm, ⟨15, _⟩ => ⟨S1024x1, .f32⟩
  | .hbm, ⟨16, _⟩ => ⟨S1024x1, .f32⟩
  | .hbm, ⟨17, _⟩ => ⟨S1024x1, .f32⟩
  | .hbm, ⟨18, _⟩ => ⟨S1024x1, .f32⟩
  | .hbm, ⟨19, _⟩ => ⟨S_, .f32⟩
  | .hbm, ⟨20, _⟩ => ⟨S1024x1, .f32⟩
  | .hbm, ⟨21, _⟩ => ⟨S1024x1, .f32⟩
  | .hbm, ⟨22, _⟩ => ⟨S1024x1024, .f32⟩
  | .hbm, ⟨23, _⟩ => ⟨S1024x1024, .f32⟩
  | .hbm, ⟨24, _⟩ => ⟨S1x1024, .f32⟩
  | .hbm, ⟨25, _⟩ => ⟨S1024x1024, .f32⟩
  | .hbm, ⟨26, _⟩ => ⟨S1024x1024, .f32⟩
  | .hbm, ⟨27, _⟩ => ⟨S1024x1024, .f32⟩
  | .hbm, ⟨28, _⟩ => ⟨S1024x1024, .f32⟩
  | .hbm, ⟨29, _⟩ => ⟨S1024x1024, .f32⟩
  | .hbm, ⟨30, _⟩ => ⟨S1024x1024, .f32⟩
  | .hbm, ⟨31, _⟩ => ⟨S1024x1024, .f32⟩
  | .hbm, ⟨32, _⟩ => ⟨S1024x1024, .f32⟩
  | .hbm, ⟨33, _⟩ => ⟨S1024x1024, .f32⟩
  | .hbm, ⟨34, _⟩ => ⟨S1024x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S1024x1024, .f32⟩
  | .hbm, ⟨39, _⟩ => ⟨S1024x1024, .f32⟩
  | .hbm, ⟨40, _⟩ => ⟨S_, .f32⟩
  | .hbm, ⟨41, _⟩ => ⟨S1024, .f32⟩
  | .hbm, ⟨42, _⟩ => ⟨S1024x1024, .f32⟩
  | .hbm, ⟨43, _⟩ => ⟨S_, .f32⟩
  | .hbm, ⟨44, _⟩ => ⟨S1024, .f32⟩
  | .hbm, ⟨45, _⟩ => ⟨S1024x1, .f32⟩
  | .hbm, ⟨46, _⟩ => ⟨S1024x1024, .f32⟩
  | .hbm, ⟨47, _⟩ => ⟨S1024x1024, .f32⟩
  | .hbm, ⟨48, _⟩ => ⟨S1024x1, .f32⟩
  | .hbm, ⟨49, _⟩ => ⟨S_, .f32⟩
  | .hbm, ⟨50, _⟩ => ⟨S1024x1, .f32⟩
  | .hbm, ⟨51, _⟩ => ⟨S1024x1, .f32⟩
  | .hbm, ⟨52, _⟩ => ⟨S_, .f32⟩
  | .hbm, ⟨53, _⟩ => ⟨S1024, .f32⟩
  | .hbm, ⟨54, _⟩ => ⟨S1024x1024, .f32⟩
  | .hbm, ⟨55, _⟩ => ⟨S1024x1024, .f32⟩
  | .hbm, ⟨56, _⟩ => ⟨S1024x1024, .f32⟩
  | .hbm, ⟨57, _⟩ => ⟨S1024x1024, .f32⟩
  | .hbm, ⟨58, _⟩ => ⟨S1024x1024, .f32⟩
  | .hbm, ⟨59, _⟩ => ⟨S1x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_cst_7 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩

abbrev nD : Nat := 1
abbrev τ : Topo := Topo.v7x

variable {F : FTy → Type} [FloatOps F]
-- ==== Kernel7.lean ====
abbrev S8192x1024 : Shape := ⟨2, ![8192, 1024]⟩
abbrev S1024x1024 : Shape := ⟨2, ![1024, 1024]⟩
abbrev S1024 : Shape := ⟨1, ![1024]⟩
abbrev S1024x4096 : Shape := ⟨2, ![1024, 4096]⟩
abbrev S8192x4096 : Shape := ⟨2, ![8192, 4096]⟩
abbrev S1x1024 : Shape := ⟨2, ![1, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩

abbrev nBuf : Space → Nat
  | .hbm => 13
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1024x1024, .bf16⟩
  | .hbm, ⟨3, _⟩ => ⟨S1024, .f32⟩
  | .hbm, ⟨4, _⟩ => ⟨S1024x4096, .bf16⟩
  | .hbm, ⟨5, _⟩ => ⟨S8192x1024, .f32⟩
  | .hbm, ⟨6, _⟩ => ⟨S8192x4096, .bf16⟩
  | .hbm, ⟨7, _⟩ => ⟨S8192x1024, .f32⟩
  | .hbm, ⟨8, _⟩ => ⟨S8192x1024, .f32⟩
  | .hbm, ⟨9, _⟩ => ⟨S1x1024, .f32⟩
  | .hbm, ⟨10, _⟩ => ⟨S8192x1024, .f32⟩
  | .hbm, ⟨11, _⟩ => ⟨S1x1024, .f32⟩
  | .hbm, ⟨12, _⟩ => ⟨S8192x1024, .bf16⟩
  | .local _ .vmem, ⟨0, _⟩ => ⟨S512x4096, .bf16⟩
  | .local _ .vmem, ⟨1, _⟩ => ⟨S512x4096, .bf16⟩
  | .local _ .vmem, ⟨2, _⟩ => ⟨S1024x4096, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S1024x1024, .bf16⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .bf16⟩
  | .local _ .vmem, ⟨13, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![16, 1], ![false, false]⟩

def k0_cond1 (i : grid0.Coords) : BitVec 1 :=
  let arg0 : BitVec 32 := BitVec.ofNat 32 (i 0).val
  let c0_i32 : BitVec 32 := 0#32
  let v40 : BitVec 1 := Scalar.cmpi .eq arg0 c0_i32
  let v41 : BitVec 32 := Scalar.extui v40
  let c0_i32_22 : BitVec 32 := 0#32
  let v42 : BitVec 1 := Scalar.cmpi .ne v41 c0_i32_22
  v42

def k0_cond2 (i : grid0.Coords) : BitVec 1 :=
  let arg0 : BitVec 32 := BitVec.ofNat 32 (i 0).val
  let c0_i32_23 : BitVec 32 := 0#32
  let v43 : BitVec 1 := Scalar.cmpi .sgt arg0 c0_i32_23
  let v44 : BitVec 32 := Scalar.extui v43
  let c0_i32_24 : BitVec 32 := 0#32
  let v45 : BitVec 1 := Scalar.cmpi .ne v44 c0_i32_24
  v45

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference7Ideal.lean ====
abbrev S8192x1024 : Shape := ⟨2, ![8192, 1024]⟩
abbrev S1024x1024 : Shape := ⟨2, ![1024, 1024]⟩
abbrev S1024 : Shape := ⟨1, ![1024]⟩
abbrev S1024x4096 : Shape := ⟨2, ![1024, 4096]⟩
abbrev S8192x4096 : Shape := ⟨2, ![8192, 4096]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 65
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1024x1024, .bf16⟩
  | .hbm, ⟨3, _⟩ => ⟨S1024, .f32⟩
  | .hbm, ⟨4, _⟩ => ⟨S1024x4096, .bf16⟩
  | .hbm, ⟨5, _⟩ => ⟨S8192x1024, .f32⟩
  | .hbm, ⟨6, _⟩ => ⟨S8192x4096, .bf16⟩
  | .hbm, ⟨7, _⟩ => ⟨S8192x1024, .f32⟩
  | .hbm, ⟨8, _⟩ => ⟨S1024x1024, .f32⟩
  | .hbm, ⟨9, _⟩ => ⟨S1024x4096, .f32⟩
  | .hbm, ⟨10, _⟩ => ⟨S8192x4096, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1024, .f32⟩
  | .hbm, ⟨29, _⟩ => ⟨S8192x1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S8192x4096, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S1024, .f32⟩
  | .hbm, ⟨43, _⟩ => ⟨S8192x1024, .f32⟩
  | .hbm, ⟨44, _⟩ => ⟨S_, .f32⟩
  | .hbm, ⟨45, _⟩ => ⟨S8192, .f32⟩
  | .hbm, ⟨46, _⟩ => ⟨S8192x1, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1, .f32⟩
  | .hbm, ⟨51, _⟩ => ⟨S_, .f32⟩
  | .hbm, ⟨52, _⟩ => ⟨S8192x1, .f32⟩
  | .hbm, ⟨53, _⟩ => ⟨S8192x1, .f32⟩
  | .hbm, ⟨54, _⟩ => ⟨S_, .f32⟩
  | .hbm, ⟨55, _⟩ => ⟨S8192, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S1x1024, .f32⟩
  | .hbm, ⟨64, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩

abbrev nD : Nat := 1
abbrev τ : Topo := Topo.v7x

variable {F : FTy → Type} [FloatOps F]
-- ==== Kernel9.lean ====
abbrev S8192x1024 : Shape := ⟨2, ![8192, 1024]⟩
abbrev S1024 : Shape := ⟨1, ![1024]⟩
abbrev S1024x3080 : Shape := ⟨2, ![1024, 3080]⟩
abbrev S8192x512 : Shape := ⟨2, ![8192, 512]⟩
abbrev S8192x8 : Shape := ⟨2, ![8192, 8]⟩
abbrev S_ : Shape := ⟨0, ![]⟩
abbrev S1024x3200 : Shape := ⟨2, ![1024, 3200]⟩
abbrev S8192x128 : Shape := ⟨2, ![8192, 128]⟩
abbrev S1x1024 : Shape := ⟨2, ![1, 1024]⟩
abbrev S512x512 : Shape := ⟨2, ![512, 512]⟩
abbrev S512x128 : Shape := ⟨2, ![512, 128]⟩
abbrev S512x1024 : Shape := ⟨2, ![512, 1024]⟩
abbrev S1024x512 : Shape := ⟨2, ![1024, 512]⟩
abbrev S1024x128 : Shape := ⟨2, ![1024, 128]⟩
abbrev S512 : Shape := ⟨1, ![512]⟩
abbrev S512x1 : Shape := ⟨2, ![512, 1]⟩

abbrev nBuf : Space → Nat
  | .hbm => 20
  | .vmem => 23
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x3080, .bf16⟩
  | .hbm, ⟨3, _⟩ => ⟨S8192x1024, .f32⟩
  | .hbm, ⟨4, _⟩ => ⟨S8192x512, .bf16⟩
  | .hbm, ⟨5, _⟩ => ⟨S8192x512, .bf16⟩
  | .hbm, ⟨6, _⟩ => ⟨S8192x512, .bf16⟩
  | .hbm, ⟨7, _⟩ => ⟨S8192x512, .bf16⟩
  | .hbm, ⟨8, _⟩ => ⟨S8192x512, .bf16⟩
  | .hbm, ⟨9, _⟩ => ⟨S8192x512, .bf16⟩
  | .hbm, ⟨10, _⟩ => ⟨S8192x8, .bf16⟩
  | .hbm, ⟨11, _⟩ => ⟨S_, .i32⟩
  | .hbm, ⟨12, _⟩ => ⟨S_, .bf16⟩
  | .hbm, ⟨13, _⟩ => ⟨S1024x3200, .bf16⟩
  | .hbm, ⟨14, _⟩ => ⟨S_, .i32⟩
  | .hbm, ⟨15, _⟩ => ⟨S_, .bf16⟩
  | .hbm, ⟨16, _⟩ => ⟨S8192x128, .bf16⟩
  | .hbm, ⟨17, _⟩ => ⟨S1x1024, .f32⟩
  | .hbm, ⟨18, _⟩ => ⟨S8192x1024, .f32⟩
  | .hbm, ⟨19, _⟩ => ⟨S1x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x128, .bf16⟩
  | .local _ .vmem, ⟨13, _⟩ => ⟨S512x128, .bf16⟩
  | .local _ .vmem, ⟨14, _⟩ => ⟨S1024x3200, .bf16⟩
  | .local _ .vmem, ⟨15, _⟩ => ⟨S512x1024, .f32⟩
  | .local _ .vmem, ⟨16, _⟩ => ⟨S512x1024, .f32⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_call0_v0 : Ref sig .tc := ⟨.hbm, 12, rfl⟩
abbrev main_v0 : Ref sig .tc := ⟨.hbm, 13, rfl⟩
abbrev main_c_0 : Ref sig .tc := ⟨.hbm, 14, rfl⟩
abbrev main_call1_v0 : Ref sig .tc := ⟨.hbm, 15, rfl⟩
abbrev main_v1 : Ref sig .tc := ⟨.hbm, 16, rfl⟩
abbrev main_v2 : Ref sig .tc := ⟨.hbm, 17, rfl⟩
abbrev main_v3_0 : Ref sig .tc := ⟨.hbm, 18, rfl⟩
abbrev main_v3_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22

abbrev nD : Nat := 1
abbrev τ : Topo := Topo.v7x

variable {F : FTy → Type} [FloatOps F]

abbrev grid0 : Pipeline.Grid := ⟨2, ![16, 1], ![false, false]⟩

def k0_cond1 (i : grid0.Coords) : BitVec 1 :=
  let arg0 : BitVec 32 := BitVec.ofNat 32 (i 0).val
  let c0_i32 : BitVec 32 := 0#32
  let v66 : BitVec 1 := Scalar.cmpi .eq arg0 c0_i32
  let v67 : BitVec 32 := Scalar.extui v66
  let c0_i32_41 : BitVec 32 := 0#32
  let v68 : BitVec 1 := Scalar.cmpi .ne v67 c0_i32_41
  v68

def k0_cond2 (i : grid0.Coords) : BitVec 1 :=
  let arg0 : BitVec 32 := BitVec.ofNat 32 (i 0).val
  let c0_i32_42 : BitVec 32 := 0#32
  let v69 : BitVec 1 := Scalar.cmpi .sgt arg0 c0_i32_42
  let v70 : BitVec 32 := Scalar.extui v69
  let c0_i32_43 : BitVec 32 := 0#32
  let v71 : BitVec 1 := Scalar.cmpi .ne v70 c0_i32_43
  v71

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1024x3200 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]
-- ==== Reference9Ideal.lean ====
abbrev S8192x1024 : Shape := ⟨2, ![8192, 1024]⟩
abbrev S1024 : Shape := ⟨1, ![1024]⟩
abbrev S1024x3080 : Shape := ⟨2, ![1024, 3080]⟩
abbrev S8192x512 : Shape := ⟨2, ![8192, 512]⟩
abbrev S8192x8 : Shape := ⟨2, ![8192, 8]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x3080 : Shape := ⟨2, ![8192, 3080]⟩
abbrev S8192x1536 : Shape := ⟨2, ![8192, 1536]⟩

abbrev nBuf : Space → Nat
  | .hbm => 87
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x3080, .bf16⟩
  | .hbm, ⟨3, _⟩ => ⟨S8192x1024, .f32⟩
  | .hbm, ⟨4, _⟩ => ⟨S8192x512, .bf16⟩
  | .hbm, ⟨5, _⟩ => ⟨S8192x512, .bf16⟩
  | .hbm, ⟨6, _⟩ => ⟨S8192x512, .bf16⟩
  | .hbm, ⟨7, _⟩ => ⟨S8192x512, .bf16⟩
  | .hbm, ⟨8, _⟩ => ⟨S8192x512, .bf16⟩
  | .hbm, ⟨9, _⟩ => ⟨S8192x512, .bf16⟩
  | .hbm, ⟨10, _⟩ => ⟨S8192x8, .bf16⟩
  | .hbm, ⟨11, _⟩ => ⟨S1024x3080, .f32⟩
  | .hbm, ⟨12, _⟩ => ⟨S8192x512, .f32⟩
  | .hbm, ⟨13, _⟩ => ⟨S8192x512, .f32⟩
  | .hbm, ⟨14, _⟩ => ⟨S8192x512, .f32⟩
  | .hbm, ⟨15, _⟩ => ⟨S8192x512, .f32⟩
  | .hbm, ⟨16, _⟩ => ⟨S8192x512, .f32⟩
  | .hbm, ⟨17, _⟩ => ⟨S8192x512, .f32⟩
  | .hbm, ⟨18, _⟩ => ⟨S8192x8, .f32⟩
  | .hbm, ⟨19, _⟩ => ⟨S8192x1024, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1024, .f32⟩
  | .hbm, ⟨35, _⟩ => ⟨S8192x1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S8192x3080, .f32⟩
  | .hbm, ⟨40, _⟩ => ⟨S8192x1536, .f32⟩
  | .hbm, ⟨41, _⟩ => ⟨S8192x512, .f32⟩
  | .hbm, ⟨42, _⟩ => ⟨S8192x512, .f32⟩
  | .hbm, ⟨43, _⟩ => ⟨S8192x512, .f32⟩
  | .hbm, ⟨44, _⟩ => ⟨S8192x1536, .f32⟩
  | .hbm, ⟨45, _⟩ => ⟨S8192x512, .f32⟩
  | .hbm, ⟨46, _⟩ => ⟨S8192x512, .f32⟩
  | .hbm, ⟨47, _⟩ => ⟨S8192x512, .f32⟩
  | .hbm, ⟨48, _⟩ => ⟨S8192x8, .f32⟩
  | .hbm, ⟨49, _⟩ => ⟨S_, .f32⟩
  | .hbm, ⟨50, _⟩ => ⟨S8192x3080, .f32⟩
  | .hbm, ⟨51, _⟩ => ⟨S8192x1536, .f32⟩
  | .hbm, ⟨52, _⟩ => ⟨S_, .f32⟩
  | .hbm, ⟨53, _⟩ => ⟨S8192x3080, .f32⟩
  | .hbm, ⟨54, _⟩ => ⟨S8192x3080, .f32⟩
  | .hbm, ⟨55, _⟩ => ⟨S8192x1536, .f32⟩
  | .hbm, ⟨56, _⟩ => ⟨S_, .f32⟩
  | .hbm, ⟨57, _⟩ => ⟨S8192x3080, .f32⟩
  | .hbm, ⟨58, _⟩ => ⟨S8192x3080, .f32⟩
  | .hbm, ⟨59, _⟩ => ⟨S8192x1024, .f32⟩
  | .hbm, ⟨60, _⟩ => ⟨S8192x1024, .f32⟩
  | .hbm, ⟨61, _⟩ => ⟨S_, .f32⟩
  | .hbm, ⟨62, _⟩ => ⟨S1024, .f32⟩
  | .hbm, ⟨63, _⟩ => ⟨S1x1024, .f32⟩
  | .hbm, ⟨64, _⟩ => ⟨S8192x1024, .f32⟩
  | .hbm, ⟨65, _⟩ => ⟨S8192x1024, .f32⟩
  | .hbm, ⟨66, _⟩ => ⟨S_, .f32⟩
  | .hbm, ⟨67, _⟩ => ⟨S1024, .f32⟩
  | .hbm, ⟨68, _⟩ => ⟨S8192x1024, .f32⟩
  | .hbm, ⟨69, _⟩ => ⟨S_, .f32⟩
  | .hbm, ⟨70, _⟩ => ⟨S8192, .f32⟩
  | .hbm, ⟨71, _⟩ => ⟨S8192x1, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1, .f32⟩
  | .hbm, ⟨76, _⟩ => ⟨S_, .f32⟩
  | .hbm, ⟨77, _⟩ => ⟨S8192x1, .f32⟩
  | .hbm, ⟨78, _⟩ => ⟨S8192x1, .f32⟩
  | .hbm, ⟨79, _⟩ => ⟨S_, .f32⟩
  | .hbm, ⟨80, _⟩ => ⟨S8192, .f32⟩
  | .hbm, ⟨81, _⟩ => ⟨S8192x1024, .f32⟩
  | .hbm, ⟨82, _⟩ => ⟨S8192x1024, .f32⟩
  | .hbm, ⟨83, _⟩ => ⟨S8192x1024, .f32⟩
  | .hbm, ⟨84, _⟩ => ⟨S8192x1024, .f32⟩
  | .hbm, ⟨85, _⟩ => ⟨S8192x1024, .f32⟩
  | .hbm, ⟨86, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_v10 : Ref sig .tc := ⟨.hbm, 22, rfl⟩
abbrev main_cst_0 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_3 : Ref sig .tc := ⟨.hbm, 49, rfl⟩
abbrev main_v34 : Ref sig .tc := ⟨.hbm, 50, rfl⟩
abbrev main_v35 : Ref sig .tc := ⟨.hbm, 51, rfl⟩
abbrev main_cst_4 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_5 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_6 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_7 : Ref sig .tc := ⟨.hbm, 66, rfl⟩
abbrev main_v47 : Ref sig .tc := ⟨.hbm, 67, rfl⟩
abbrev main_v48 : Ref sig .tc := ⟨.hbm, 68, rfl⟩
abbrev main_cst_8 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_9 : Ref sig .tc := ⟨.hbm, 76, rfl⟩
abbrev main_v55 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩

abbrev nD : Nat := 1
abbrev τ : Topo := Topo.v7x

variable {F : FTy → Type} [FloatOps F]
-- ==== Kernel4.lean ====
abbrev S8192x4096 : Shape := ⟨2, ![8192, 4096]⟩
abbrev S4096x1024 : Shape := ⟨2, ![4096, 1024]⟩
abbrev S8192x1024 : Shape := ⟨2, ![8192, 1024]⟩
abbrev S1024 : Shape := ⟨1, ![1024]⟩
abbrev S1x1024 : Shape := ⟨2, ![1, 1024]⟩
abbrev S8x128 : Shape := ⟨2, ![8, 128]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 10
  | .vmem => 14
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S8192x1024, .bf16⟩
  | .hbm, ⟨8, _⟩ => ⟨S1x1024, .f32⟩
  | .hbm, ⟨9, _⟩ => ⟨S8x128, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S8x128, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v55 : BitVec 1 := Scalar.cmpi .eq arg0 c0_i32
  let v56 : BitVec 32 := Scalar.extui v55
  let c0_i32_24 : BitVec 32 := 0#32
  let v57 : BitVec 1 := Scalar.cmpi .ne v56 c0_i32_24
  v57

def k0_cond2 (i : grid0.Coords) : BitVec 1 :=
  let arg0 : BitVec 32 := BitVec.ofNat 32 (i 0).val
  let c0_i32_25 : BitVec 32 := 0#32
  let v58 : BitVec 1 := Scalar.cmpi .sgt arg0 c0_i32_25
  let v59 : BitVec 32 := Scalar.extui v58
  let c0_i32_26 : BitVec 32 := 0#32
  let v60 : BitVec 1 := Scalar.cmpi .ne v59 c0_i32_26
  v60

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference4Ideal.lean ====
abbrev S8192x4096 : Shape := ⟨2, ![8192, 4096]⟩
abbrev S4096x1024 : Shape := ⟨2, ![4096, 1024]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8x128 : Shape := ⟨2, ![8, 128]⟩

abbrev nBuf : Space → Nat
  | .hbm => 81
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S8192x4096, .f32⟩
  | .hbm, ⟨6, _⟩ => ⟨S4096x1024, .f32⟩
  | .hbm, ⟨7, _⟩ => ⟨S8192x4096, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192, .f32⟩
  | .hbm, ⟨37, _⟩ => ⟨S_, .f32⟩
  | .hbm, ⟨38, _⟩ => ⟨S8192, .f32⟩
  | .hbm, ⟨39, _⟩ => ⟨S8192, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S8192, .f32⟩
  | .hbm, ⟨48, _⟩ => ⟨S_, .f32⟩
  | .hbm, ⟨49, _⟩ => ⟨S8192, .f32⟩
  | .hbm, ⟨50, _⟩ => ⟨S8192, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S1024, .f32⟩
  | .hbm, ⟨61, _⟩ => ⟨S8192x1024, .f32⟩
  | .hbm, ⟨62, _⟩ => ⟨S_, .f32⟩
  | .hbm, ⟨63, _⟩ => ⟨S8192, .f32⟩
  | .hbm, ⟨64, _⟩ => ⟨S8192x1, .f32⟩
  | .hbm, ⟨65, _⟩ => ⟨S8192x1024, .f32⟩
  | .hbm, ⟨66, _⟩ => ⟨S8192x1024, .f32⟩
  | .hbm, ⟨67, _⟩ => ⟨S8192x1, .f32⟩
  | .hbm, ⟨68, _⟩ => ⟨S_, .f32⟩
  | .hbm, ⟨69, _⟩ => ⟨S8192x1, .f32⟩
  | .hbm, ⟨70, _⟩ => ⟨S8192x1, .f32⟩
  | .hbm, ⟨71, _⟩ => ⟨S_, .f32⟩
  | .hbm, ⟨72, _⟩ => ⟨S8192, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S8192x1024, .bf16⟩
  | .hbm, ⟨79, _⟩ => ⟨S1x1024, .f32⟩
  | .hbm, ⟨80, _⟩ => ⟨S8x128, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_cst_8 : Ref sig .tc := ⟨.hbm, 44, rfl⟩
abbrev main_cst_9 : Ref sig .tc := ⟨.hbm, 45, rfl⟩
abbrev main_v30 : Ref sig .tc := ⟨.hbm, 46, rfl⟩
abbrev main_v31 : Ref sig .tc := ⟨.hbm, 47, rfl⟩
abbrev main_cst_10 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_11 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_12 : Ref sig .tc := ⟨.hbm, 59, rfl⟩
abbrev main_v41 : Ref sig .tc := ⟨.hbm, 60, rfl⟩
abbrev main_v42 : Ref sig .tc := ⟨.hbm, 61, rfl⟩
abbrev main_cst_13 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_14 : Ref sig .tc := ⟨.hbm, 68, rfl⟩
abbrev main_v48 : Ref sig .tc := ⟨.hbm, 69, rfl⟩
abbrev main_v49 : Ref sig .tc := ⟨.hbm, 70, rfl⟩
abbrev main_cst_15 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]
-- ==== Kernel10.lean ====
abbrev S8192x1024 : Shape := ⟨2, ![8192, 1024]⟩
abbrev S1024x1024 : Shape := ⟨2, ![1024, 1024]⟩
abbrev S1024x2048 : Shape := ⟨2, ![1024, 2048]⟩
abbrev S256x2048 : Shape := ⟨2, ![256, 2048]⟩
abbrev S1024x256 : Shape := ⟨2, ![1024, 256]⟩
abbrev S256x256 : Shape := ⟨2, ![256, 256]⟩
abbrev S1024 : Shape := ⟨1, ![1024]⟩
abbrev S1024x1 : Shape := ⟨2, ![1024, 1]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S1024x1024, .bf16⟩
  | .hbm, ⟨3, _⟩ => ⟨S1024x2048, .bf16⟩
  | .hbm, ⟨4, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S256x2048, .bf16⟩
  | .local _ .vmem, ⟨3, _⟩ => ⟨S256x2048, .bf16⟩
  | .local _ .vmem, ⟨4, _⟩ => ⟨S1024x1024, .bf16⟩
  | .local _ .vmem, ⟨5, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S8192x1024 : Shape := ⟨2, ![8192, 1024]⟩
abbrev S1024x1024 : Shape := ⟨2, ![1024, 1024]⟩
abbrev S4x2048x4x256 : Shape := ⟨4, ![4, 2048, 4, 256]⟩
abbrev S4x256x4x256 : Shape := ⟨4, ![4, 256, 4, 256]⟩
abbrev S4x4x2048x256 : Shape := ⟨4, ![4, 4, 2048, 256]⟩
abbrev S_ : Shape := ⟨0, ![]⟩
abbrev S4x4x2048 : Shape := ⟨3, ![4, 4, 2048]⟩
abbrev S4x4x2048x1 : Shape := ⟨4, ![4, 4, 2048, 1]⟩
abbrev S4x4x256x2048 : Shape := ⟨4, ![4, 4, 256, 2048]⟩

abbrev nBuf : Space → Nat
  | .hbm => 31
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S1024x1024, .bf16⟩
  | .hbm, ⟨3, _⟩ => ⟨S8192x1024, .f32⟩
  | .hbm, ⟨4, _⟩ => ⟨S1024x1024, .f32⟩
  | .hbm, ⟨5, _⟩ => ⟨S1024x1024, .f32⟩
  | .hbm, ⟨6, _⟩ => ⟨S4x2048x4x256, .f32⟩
  | .hbm, ⟨7, _⟩ => ⟨S4x256x4x256, .f32⟩
  | .hbm, ⟨8, _⟩ => ⟨S4x256x4x256, .f32⟩
  | .hbm, ⟨9, _⟩ => ⟨S4x4x2048x256, .f32⟩
  | .hbm, ⟨10, _⟩ => ⟨S_, .f32⟩
  | .hbm, ⟨11, _⟩ => ⟨S4x4x2048x256, .f32⟩
  | .hbm, ⟨12, _⟩ => ⟨S4x4x2048x256, .f32⟩
  | .hbm, ⟨13, _⟩ => ⟨S_, .f32⟩
  | .hbm, ⟨14, _⟩ => ⟨S4x4x2048, .f32⟩
  | .hbm, ⟨15, _⟩ => ⟨S_, .f32⟩
  | .hbm, ⟨16, _⟩ => ⟨S4x4x2048, .f32⟩
  | .hbm, ⟨17, _⟩ => ⟨S4x4x2048, .f32⟩
  | .hbm, ⟨18, _⟩ => ⟨S4x4x2048x1, .f32⟩
  | .hbm, ⟨19, _⟩ => ⟨S4x4x2048x256, .f32⟩
  | .hbm, ⟨20, _⟩ => ⟨S4x4x2048x256, .f32⟩
  | .hbm, ⟨21, _⟩ => ⟨S4x4x2048x256, .f32⟩
  | .hbm, ⟨22, _⟩ => ⟨S_, .f32⟩
  | .hbm, ⟨23, _⟩ => ⟨S4x4x2048, .f32⟩
  | .hbm, ⟨24, _⟩ => ⟨S4x4x2048x1, .f32⟩
  | .hbm, ⟨25, _⟩ => ⟨S4x4x2048x256, .f32⟩
  | .hbm, ⟨26, _⟩ => ⟨S4x4x2048x256, .f32⟩
  | .hbm, ⟨27, _⟩ => ⟨S4x4x256x2048, .f32⟩
  | .hbm, ⟨28, _⟩ => ⟨S4x2048x4x256, .f32⟩
  | .hbm, ⟨29, _⟩ => ⟨S8192x1024, .f32⟩
  | .hbm, ⟨30, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== Kernel6.lean ====
abbrev S8192x512 : Shape := ⟨2, ![8192, 512]⟩
abbrev S_ : Shape := ⟨0, ![]⟩
abbrev S8192x1536 : Shape := ⟨2, ![8192, 1536]⟩
abbrev S8192x1024 : Shape := ⟨2, ![8192, 1024]⟩
abbrev S8192x2048 : Shape := ⟨2, ![8192, 2048]⟩
abbrev S8192x3072 : Shape := ⟨2, ![8192, 3072]⟩
abbrev S8 : Shape := ⟨1, ![8]⟩
abbrev S2048x128 : Shape := ⟨2, ![2048, 128]⟩
abbrev S16x128x128 : Shape := ⟨3, ![16, 128, 128]⟩
abbrev S17x128x128 : Shape := ⟨3, ![17, 128, 128]⟩
abbrev S1x128 : Shape := ⟨2, ![1, 128]⟩
abbrev S128x128 : Shape := ⟨2, ![128, 128]⟩
abbrev S1x128x128 : Shape := ⟨3, ![1, 128, 128]⟩
abbrev S16x1x1 : Shape := ⟨3, ![16, 1, 1]⟩
abbrev S1 : Shape := ⟨1, ![1]⟩
abbrev S1x1x128 : Shape := ⟨3, ![1, 1, 128]⟩
abbrev S16x128 : Shape := ⟨2, ![16, 128]⟩
abbrev S16x128x1 : Shape := ⟨3, ![16, 128, 1]⟩
abbrev S512x128 : Shape := ⟨2, ![512, 128]⟩
abbrev S4x128x128 : Shape := ⟨3, ![4, 128, 128]⟩
abbrev S2048 : Shape := ⟨1, ![2048]⟩
abbrev S2048x1 : Shape := ⟨2, ![2048, 1]⟩
abbrev S15x128x128 : Shape := ⟨3, ![15, 128, 128]⟩

abbrev nBuf : Space → Nat
  | .hbm => 38
  | .vmem => 53
  | .smem => 2
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x512, .bf16⟩
  | .hbm, ⟨3, _⟩ => ⟨S8192x512, .bf16⟩
  | .hbm, ⟨4, _⟩ => ⟨S_, .bf16⟩
  | .hbm, ⟨5, _⟩ => ⟨S8192x1536, .bf16⟩
  | .hbm, ⟨6, _⟩ => ⟨S8192x1024, .bf16⟩
  | .hbm, ⟨7, _⟩ => ⟨S8192x2048, .bf16⟩
  | .hbm, ⟨8, _⟩ => ⟨S8192x3072, .bf16⟩
  | .hbm, ⟨9, _⟩ => ⟨S8192x512, .bf16⟩
  | .hbm, ⟨10, _⟩ => ⟨S8192x1024, .bf16⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S8, .f32⟩
  | .hbm, ⟨19, _⟩ => ⟨S_, .f32⟩
  | .hbm, ⟨20, _⟩ => ⟨S8, .f32⟩
  | .hbm, ⟨21, _⟩ => ⟨S8, .f32⟩
  | .hbm, ⟨22, _⟩ => ⟨S8192x512, .bf16⟩
  | .hbm, ⟨23, _⟩ => ⟨S8192x512, .f32⟩
  | .hbm, ⟨24, _⟩ => ⟨S8, .f32⟩
  | .hbm, ⟨25, _⟩ => ⟨S_, .f32⟩
  | .hbm, ⟨26, _⟩ => ⟨S8, .f32⟩
  | .hbm, ⟨27, _⟩ => ⟨S8, .f32⟩
  | .hbm, ⟨28, _⟩ => ⟨S_, .f32⟩
  | .hbm, ⟨29, _⟩ => ⟨S8, .f32⟩
  | .hbm, ⟨30, _⟩ => ⟨S8, .f32⟩
  | .hbm, ⟨31, _⟩ => ⟨S8, .f32⟩
  | .hbm, ⟨32, _⟩ => ⟨S_, .f32⟩
  | .hbm, ⟨33, _⟩ => ⟨S8, .f32⟩
  | .hbm, ⟨34, _⟩ => ⟨S8, .f32⟩
  | .hbm, ⟨35, _⟩ => ⟨S8192x512, .bf16⟩
  | .hbm, ⟨36, _⟩ => ⟨S8192x512, .bf16⟩
  | .hbm, ⟨37, _⟩ => ⟨S8192x512, .bf16⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S16x128x128, .bf16⟩
  | .local _ .vmem, ⟨14, _⟩ => ⟨S17x128x128, .bf16⟩
  | .local _ .vmem, ⟨15, _⟩ => ⟨S17x128x128, .bf16⟩
  | .local _ .vmem, ⟨16, _⟩ => ⟨S16x128x128, .f32⟩
  | .local _ .vmem, ⟨17, _⟩ => ⟨S16x128x128, .f32⟩
  | .local _ .vmem, ⟨18, _⟩ => ⟨S2048x128, .f32⟩
  | .local _ .vmem, ⟨19, _⟩ => ⟨S2048x128, .f32⟩
  | .local _ .vmem, ⟨20, _⟩ => ⟨S2048x128, .bf16⟩
  | .local _ .vmem, ⟨21, _⟩ => ⟨S2048x128, .bf16⟩
  | .local _ .vmem, ⟨22, _⟩ => ⟨S2048x128, .bf16⟩
  | .local _ .vmem, ⟨23, _⟩ => ⟨S2048x128, .bf16⟩
  | .local _ .vmem, ⟨24, _⟩ => ⟨S2048x128, .bf16⟩
  | .local _ .vmem, ⟨25, _⟩ => ⟨S2048x128, .bf16⟩
  | .local _ .vmem, ⟨26, _⟩ => ⟨S2048x128, .bf16⟩
  | .local _ .vmem, ⟨27, _⟩ => ⟨S2048x128, .bf16⟩
  | .local _ .vmem, ⟨28, _⟩ => ⟨S2048x128, .bf16⟩
  | .local _ .vmem, ⟨29, _⟩ => ⟨S2048x128, .bf16⟩
  | .local _ .vmem, ⟨30, _⟩ => ⟨S2048x128, .f32⟩
  | .local _ .vmem, ⟨31, _⟩ => ⟨S2048x128, .f32⟩
  | .local _ .vmem, ⟨32, _⟩ => ⟨S2048x128, .bf16⟩
  | .local _ .vmem, ⟨33, _⟩ => ⟨S2048x128, .bf16⟩
  | .local _ .vmem, ⟨34, _⟩ => ⟨S2048x128, .bf16⟩
  | .local _ .vmem, ⟨35, _⟩ => ⟨S2048x128, .bf16⟩
  | .local _ .vmem, ⟨36, _⟩ => ⟨S2048x128, .bf16⟩
  | .local _ .vmem, ⟨37, _⟩ => ⟨S2048x128, .bf16⟩
  | .local _ .vmem, ⟨38, _⟩ => ⟨S2048x128, .f32⟩
  | .local _ .vmem, ⟨39, _⟩ => ⟨S2048x128, .f32⟩
  | .local _ .vmem, ⟨40, _⟩ => ⟨S2048x128, .f32⟩
  | .local _ .vmem, ⟨41, _⟩ => ⟨S2048x128, .f32⟩
  | .local _ .vmem, ⟨42, _⟩ => ⟨S2048x128, .f32⟩
  | .local _ .vmem, ⟨43, _⟩ => ⟨S16x128x128, .bf16⟩
  | .local _ .vmem, ⟨44, _⟩ => ⟨S16x128x128, .bf16⟩
  | .local _ .vmem, ⟨45, _⟩ => ⟨S17x128x128, .bf16⟩
  | .local _ .vmem, ⟨46, _⟩ => ⟨S17x128x128, .bf16⟩
  | .local _ .vmem, ⟨47, _⟩ => ⟨S16x128x128, .f32⟩
  | .local _ .vmem, ⟨48, _⟩ => ⟨S17x128x128, .f32⟩
  | .local _ .vmem, ⟨49, _⟩ => ⟨S17x128x128, .f32⟩
  | .local _ .vmem, ⟨50, _⟩ => ⟨S2048x128, .f32⟩
  | .local _ .vmem, ⟨51, _⟩ => ⟨S2048x128, .f32⟩
  | .local _ .vmem, ⟨52, _⟩ => ⟨S2048x128, .f32⟩
  | .local _ .smem, ⟨0, _⟩ => ⟨S8, .f32⟩
  | .local _ .smem, ⟨1, _⟩ => ⟨S8, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14_0 : Ref sig .tc := ⟨.hbm, 22, rfl⟩
abbrev main_v14_1 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_v23_0 : Ref sig .tc := ⟨.hbm, 35, rfl⟩
abbrev main_v23_1 : Ref sig .tc := ⟨.hbm, 36, rfl⟩
abbrev main_v23_2 : Ref sig .tc := ⟨.hbm, 37, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_scratch7 : Ref sig .tc := ⟨.vmem, 17, rfl⟩
abbrev cc0_scratch8 : Ref sig .tc := ⟨.vmem, 18, rfl⟩
abbrev cc0_scratch9 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_stg4_0 : Ref sig .tc := ⟨.vmem, 26, rfl⟩
abbrev cc1_stg4_1 : Ref sig .tc := ⟨.vmem, 27, rfl⟩
abbrev cc1_stg5_0 : Ref sig .tc := ⟨.vmem, 28, rfl⟩
abbrev cc1_stg5_1 : Ref sig .tc := ⟨.vmem, 29, rfl⟩
abbrev cc1_stg6_0 : Ref sig .tc := ⟨.vmem, 30, rfl⟩
abbrev cc1_stg6_1 : Ref sig .tc := ⟨.vmem, 31, rfl⟩
abbrev cc1_stg7_0 : Ref sig .tc := ⟨.vmem, 32, rfl⟩
abbrev cc1_stg7_1 : Ref sig .tc := ⟨.vmem, 33, rfl⟩
abbrev cc1_stg8_0 : Ref sig .tc := ⟨.vmem, 34, rfl⟩
abbrev cc1_stg8_1 : Ref sig .tc := ⟨.vmem, 35, rfl⟩
abbrev cc1_stg9_0 : Ref sig .tc := ⟨.vmem, 36, rfl⟩
abbrev cc1_stg9_1 : Ref sig .tc := ⟨.vmem, 37, rfl⟩
abbrev cc1_scratch0 : Ref sig .tc := ⟨.vmem, 38, rfl⟩
abbrev cc1_scratch1 : Ref sig .tc := ⟨.vmem, 39, rfl⟩
abbrev cc1_scratch2 : Ref sig .tc := ⟨.vmem, 40, rfl⟩
abbrev cc1_scratch3 : Ref sig .tc := ⟨.vmem, 41, rfl⟩
abbrev cc1_scratch4 : Ref sig .tc := ⟨.vmem, 42, rfl⟩
abbrev cc1_scratch5 : Ref sig .tc := ⟨.vmem, 43, rfl⟩
abbrev cc1_scratch6 : Ref sig .tc := ⟨.vmem, 44, rfl⟩
abbrev cc1_scratch7 : Ref sig .tc := ⟨.vmem, 45, rfl⟩
abbrev cc1_scratch8 : Ref sig .tc := ⟨.vmem, 46, rfl⟩
abbrev cc1_scratch9 : Ref sig .tc := ⟨.vmem, 47, rfl⟩
abbrev cc1_scratch10 : Ref sig .tc := ⟨.vmem, 48, rfl⟩
abbrev cc1_scratch11 : Ref sig .tc := ⟨.vmem, 49, rfl⟩
abbrev cc1_scratch12 : Ref sig .tc := ⟨.vmem, 50, rfl⟩
abbrev cc1_scratch13 : Ref sig .tc := ⟨.vmem, 51, rfl⟩
abbrev cc1_scratch14 : Ref sig .tc := ⟨.vmem, 52, rfl⟩
abbrev cc0_stg0_0 : Ref sig .tc := ⟨.smem, 0, rfl⟩
abbrev cc1_stg0_0 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc1_sem0_0 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26
abbrev cc1_sem8_1 : DmaSem sig := 27
abbrev cc1_sem9_0 : DmaSem sig := 28
abbrev cc1_sem9_1 : DmaSem sig := 29

abbrev nD : Nat := 1
abbrev τ : Topo := Topo.v7x

variable {F : FTy → Type} [FloatOps F]

abbrev grid0 : Pipeline.Grid := ⟨2, ![4, 4], ![false, false]⟩

def k0_off1 (i : grid0.Coords) (c0_i32 : BitVec 32) : Fin 1 → Nat :=
  let c2_i32 : BitVec 32 := 2#32
  let arg1 : BitVec 32 := BitVec.ofNat 32 (i 1).val
  let v58 : BitVec 32 := Scalar.muli c2_i32 arg1
  let v59 : BitVec 32 := Scalar.addi v58 c0_i32
  let v60 : Index := Scalar.indexCast v59
  ![v60.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![4, 4], ![false, false]⟩

def k1_off1 (i : grid1.Coords) (c0_i32_76 : BitVec 32) : Fin 1 → Nat :=
  let c2_i32 : BitVec 32 := 2#32
  let arg1 : BitVec 32 := BitVec.ofNat 32 (i 1).val
  let v127 : BitVec 32 := Scalar.muli c2_i32 arg1
  let v128 : BitVec 32 := Scalar.addi v127 c0_i32_76
  let v129 : Index := Scalar.indexCast v128
  ![v129.toNat]
def cc1_transform_0 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc1_transform_2 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc1_transform_3 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 1 → Memref sig .tc .smem S8 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S2048x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S2048x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S2048x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S2048x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S2048x128 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S2048x128 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S2048x128 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]
-- ==== Kernel6Ideal.lean ====
variable {F : FTy → Type} [FloatOps F] [Named F]
def κ : String → Option EReal := fun
  | "mask" => some ⊥
  | _ => none
-- ==== Kernel11.lean ====
abbrev S8192x512 : Shape := ⟨2, ![8192, 512]⟩
abbrev S8192x8 : Shape := ⟨2, ![8192, 8]⟩
abbrev S_ : Shape := ⟨0, ![]⟩
abbrev S8192x1536 : Shape := ⟨2, ![8192, 1536]⟩
abbrev S8192x2048 : Shape := ⟨2, ![8192, 2048]⟩
abbrev S8192x1024 : Shape := ⟨2, ![8192, 1024]⟩
abbrev S8192x3072 : Shape := ⟨2, ![8192, 3072]⟩
abbrev S8192x8x64 : Shape := ⟨3, ![8192, 8, 64]⟩
abbrev S2048x128 : Shape := ⟨2, ![2048, 128]⟩
abbrev S2x2048x128 : Shape := ⟨3, ![2, 2048, 128]⟩
abbrev S1x128 : Shape := ⟨2, ![1, 128]⟩
abbrev S2048x1 : Shape := ⟨2, ![2048, 1]⟩
abbrev S1x2048x128 : Shape := ⟨3, ![1, 2048, 128]⟩
abbrev S512x128 : Shape := ⟨2, ![512, 128]⟩
abbrev S512x512 : Shape := ⟨2, ![512, 512]⟩
abbrev S1x512x128 : Shape := ⟨3, ![1, 512, 128]⟩
abbrev S512 : Shape := ⟨1, ![512]⟩
abbrev S512x1 : Shape := ⟨2, ![512, 1]⟩
abbrev S1024x128 : Shape := ⟨2, ![1024, 128]⟩
abbrev S512x1024 : Shape := ⟨2, ![512, 1024]⟩
abbrev S1x1024x128 : Shape := ⟨3, ![1, 1024, 128]⟩
abbrev S1536x128 : Shape := ⟨2, ![1536, 128]⟩
abbrev S512x1536 : Shape := ⟨2, ![512, 1536]⟩
abbrev S1x1536x128 : Shape := ⟨3, ![1, 1536, 128]⟩
abbrev S512x2048 : Shape := ⟨2, ![512, 2048]⟩

abbrev nBuf : Space → Nat
  | .hbm => 13
  | .vmem => 14
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x512, .bf16⟩
  | .hbm, ⟨3, _⟩ => ⟨S8192x8, .f32⟩
  | .hbm, ⟨4, _⟩ => ⟨S_, .bf16⟩
  | .hbm, ⟨5, _⟩ => ⟨S8192x1536, .bf16⟩
  | .hbm, ⟨6, _⟩ => ⟨S8192x2048, .bf16⟩
  | .hbm, ⟨7, _⟩ => ⟨S8192x1024, .bf16⟩
  | .hbm, ⟨8, _⟩ => ⟨S8192x3072, .bf16⟩
  | .hbm, ⟨9, _⟩ => ⟨S8192x8x64, .f32⟩
  | .hbm, ⟨10, _⟩ => ⟨S8192x512, .f32⟩
  | .hbm, ⟨11, _⟩ => ⟨S8192x512, .bf16⟩
  | .hbm, ⟨12, _⟩ => ⟨S8192x512, .f32⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .f32⟩
  | .local _ .vmem, ⟨7, _⟩ => ⟨S2048x128, .f32⟩
  | .local _ .vmem, ⟨8, _⟩ => ⟨S2048x128, .bf16⟩
  | .local _ .vmem, ⟨9, _⟩ => ⟨S2048x128, .bf16⟩
  | .local _ .vmem, ⟨10, _⟩ => ⟨S2048x128, .f32⟩
  | .local _ .vmem, ⟨11, _⟩ => ⟨S2048x128, .f32⟩
  | .local _ .vmem, ⟨12, _⟩ => ⟨S2x2048x128, .bf16⟩
  | .local _ .vmem, ⟨13, _⟩ => ⟨S2x2048x128, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Kernel11Ideal.lean ====
variable {F : FTy → Type} [FloatOps F] [Named F]
def κ : String → Option EReal := fun
  | "mask" => some ⊥
  | _ => none
-- ==== Reference11Ideal.lean ====
abbrev S8192x512 : Shape := ⟨2, ![8192, 512]⟩
abbrev S8192x8 : Shape := ⟨2, ![8192, 8]⟩
abbrev S4x2048x8x64 : Shape := ⟨4, ![4, 2048, 8, 64]⟩
abbrev S4x2048x8 : Shape := ⟨3, ![4, 2048, 8]⟩
abbrev S4x8x2048 : Shape := ⟨3, ![4, 8, 2048]⟩
abbrev S4x8x2048x2048 : Shape := ⟨4, ![4, 8, 2048, 2048]⟩
abbrev S_ : Shape := ⟨0, ![]⟩
abbrev S4x8x2048x1 : Shape := ⟨4, ![4, 8, 2048, 1]⟩
abbrev S4x8x1x2048 : Shape := ⟨4, ![4, 8, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S1x1x2048x2048 : Shape := ⟨4, ![1, 1, 2048, 2048]⟩
abbrev S4x8x64x2048 : Shape := ⟨4, ![4, 8, 64, 2048]⟩
abbrev S8192x8x64 : Shape := ⟨3, ![8192, 8, 64]⟩

abbrev nBuf : Space → Nat
  | .hbm => 67
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x512, .bf16⟩
  | .hbm, ⟨3, _⟩ => ⟨S8192x8, .f32⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S4x2048x8x64, .f32⟩
  | .hbm, ⟨8, _⟩ => ⟨S4x2048x8x64, .f32⟩
  | .hbm, ⟨9, _⟩ => ⟨S4x2048x8x64, .f32⟩
  | .hbm, ⟨10, _⟩ => ⟨S4x2048x8, .f32⟩
  | .hbm, ⟨11, _⟩ => ⟨S4x8x2048, .f32⟩
  | .hbm, ⟨12, _⟩ => ⟨S4x8x2048x2048, .f32⟩
  | .hbm, ⟨13, _⟩ => ⟨S_, .f32⟩
  | .hbm, ⟨14, _⟩ => ⟨S4x8x2048x2048, .f32⟩
  | .hbm, ⟨15, _⟩ => ⟨S4x8x2048x2048, .f32⟩
  | .hbm, ⟨16, _⟩ => ⟨S4x8x2048x1, .f32⟩
  | .hbm, ⟨17, _⟩ => ⟨S4x8x1x2048, .f32⟩
  | .hbm, ⟨18, _⟩ => ⟨S4x8x2048x2048, .f32⟩
  | .hbm, ⟨19, _⟩ => ⟨S4x8x2048x2048, .f32⟩
  | .hbm, ⟨20, _⟩ => ⟨S4x8x2048x2048, .f32⟩
  | .hbm, ⟨21, _⟩ => ⟨S4x8x2048x2048, .f32⟩
  | .hbm, ⟨22, _⟩ => ⟨S2048, .i32⟩
  | .hbm, ⟨23, _⟩ => ⟨S1x2048, .i32⟩
  | .hbm, ⟨24, _⟩ => ⟨S2048x1, .i32⟩
  | .hbm, ⟨25, _⟩ => ⟨S2048x2048, .i32⟩
  | .hbm, ⟨26, _⟩ => ⟨S2048x2048, .i32⟩
  | .hbm, ⟨27, _⟩ => ⟨S2048x2048, .i1⟩
  | .hbm, ⟨28, _⟩ => ⟨S1x1x2048x2048, .i1⟩
  | .hbm, ⟨29, _⟩ => ⟨S_, .f32⟩
  | .hbm, ⟨30, _⟩ => ⟨S_, .f32⟩
  | .hbm, ⟨31, _⟩ => ⟨S4x8x2048x2048, .i1⟩
  | .hbm, ⟨32, _⟩ => ⟨S4x8x2048x2048, .f32⟩
  | .hbm, ⟨33, _⟩ => ⟨S4x8x2048x2048, .f32⟩
  | .hbm, ⟨34, _⟩ => ⟨S_, .f32⟩
  | .hbm, ⟨35, _⟩ => ⟨S4x8x2048, .f32⟩
  | .hbm, ⟨36, _⟩ => ⟨S_, .f32⟩
  | .hbm, ⟨37, _⟩ => ⟨S4x8x2048, .f32⟩
  | .hbm, ⟨38, _⟩ => ⟨S4x8x2048, .f32⟩
  | .hbm, ⟨39, _⟩ => ⟨S4x8x2048x1, .f32⟩
  | .hbm, ⟨40, _⟩ => ⟨S4x8x2048x2048, .f32⟩
  | .hbm, ⟨41, _⟩ => ⟨S4x8x2048x2048, .f32⟩
  | .hbm, ⟨42, _⟩ => ⟨S4x8x2048x2048, .f32⟩
  | .hbm, ⟨43, _⟩ => ⟨S_, .f32⟩
  | .hbm, ⟨44, _⟩ => ⟨S4x8x2048, .f32⟩
  | .hbm, ⟨45, _⟩ => ⟨S4x8x2048x1, .f32⟩
  | .hbm, ⟨46, _⟩ => ⟨S4x8x2048x2048, .f32⟩
  | .hbm, ⟨47, _⟩ => ⟨S4x8x2048x2048, .f32⟩
  | .hbm, ⟨48, _⟩ => ⟨S4x8x64x2048, .f32⟩
  | .hbm, ⟨49, _⟩ => ⟨S4x2048x8x64, .f32⟩
  | .hbm, ⟨50, _⟩ => ⟨S8192x512, .f32⟩
  | .hbm, ⟨51, _⟩ => ⟨S_, .f32⟩
  | .hbm, ⟨52, _⟩ => ⟨S4x8x2048, .f32⟩
  | .hbm, ⟨53, _⟩ => ⟨S4x8x2048x1, .f32⟩
  | .hbm, ⟨54, _⟩ => ⟨S4x8x2048, .f32⟩
  | .hbm, ⟨55, _⟩ => ⟨S4x8x2048x2048, .f32⟩
  | .hbm, ⟨56, _⟩ => ⟨S4x8x2048x2048, .f32⟩
  | .hbm, ⟨57, _⟩ => ⟨S4x8x2048x2048, .f32⟩
  | .hbm, ⟨58, _⟩ => ⟨S_, .f32⟩
  | .hbm, ⟨59, _⟩ => ⟨S4x8x2048, .f32⟩
  | .hbm, ⟨60, _⟩ => ⟨S4x8x2048, .f32⟩
  | .hbm, ⟨61, _⟩ => ⟨S4x8x2048, .f32⟩
  | .hbm, ⟨62, _⟩ => ⟨S4x2048x8, .f32⟩
  | .hbm, ⟨63, _⟩ => ⟨S8192x8, .f32⟩
  | .hbm, ⟨64, _⟩ => ⟨S8192x512, .bf16⟩
  | .hbm, ⟨65, _⟩ => ⟨S8192x8x64, .f32⟩
  | .hbm, ⟨66, _⟩ => ⟨S8192x512, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst_0 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v24 : Ref sig .tc := ⟨.hbm, 33, rfl⟩
abbrev main_cst_1 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_4 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_5 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩

abbrev nD : Nat := 1
abbrev τ : Topo := Topo.v7x

variable {F : FTy → Type} [FloatOps F]
-- ==== Kernel12.lean ====
abbrev S8192x512 : Shape := ⟨2, ![8192, 512]⟩
abbrev S_ : Shape := ⟨0, ![]⟩
abbrev S8192x1536 : Shape := ⟨2, ![8192, 1536]⟩
abbrev S8192x1024 : Shape := ⟨2, ![8192, 1024]⟩
abbrev S8192x2048 : Shape := ⟨2, ![8192, 2048]⟩
abbrev S8192x3072 : Shape := ⟨2, ![8192, 3072]⟩
abbrev S8 : Shape := ⟨1, ![8]⟩
abbrev S2048x128 : Shape := ⟨2, ![2048, 128]⟩
abbrev S16x128x128 : Shape := ⟨3, ![16, 128, 128]⟩
abbrev S17x128x128 : Shape := ⟨3, ![17, 128, 128]⟩
abbrev S1x128 : Shape := ⟨2, ![1, 128]⟩
abbrev S128x128 : Shape := ⟨2, ![128, 128]⟩
abbrev S1x128x128 : Shape := ⟨3, ![1, 128, 128]⟩
abbrev S16x1x1 : Shape := ⟨3, ![16, 1, 1]⟩
abbrev S1 : Shape := ⟨1, ![1]⟩
abbrev S1x1x128 : Shape := ⟨3, ![1, 1, 128]⟩
abbrev S16x128 : Shape := ⟨2, ![16, 128]⟩
abbrev S16x128x1 : Shape := ⟨3, ![16, 128, 1]⟩
abbrev S512x128 : Shape := ⟨2, ![512, 128]⟩
abbrev S4x128x128 : Shape := ⟨3, ![4, 128, 128]⟩

abbrev nBuf : Space → Nat
  | .hbm => 21
  | .vmem => 20
  | .smem => 1
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x512, .bf16⟩
  | .hbm, ⟨3, _⟩ => ⟨S_, .bf16⟩
  | .hbm, ⟨4, _⟩ => ⟨S8192x1536, .bf16⟩
  | .hbm, ⟨5, _⟩ => ⟨S8192x1024, .bf16⟩
  | .hbm, ⟨6, _⟩ => ⟨S8192x2048, .bf16⟩
  | .hbm, ⟨7, _⟩ => ⟨S8192x3072, .bf16⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S8, .f32⟩
  | .hbm, ⟨16, _⟩ => ⟨S_, .f32⟩
  | .hbm, ⟨17, _⟩ => ⟨S8, .f32⟩
  | .hbm, ⟨18, _⟩ => ⟨S8, .f32⟩
  | .hbm, ⟨19, _⟩ => ⟨S8192x512, .bf16⟩
  | .hbm, ⟨20, _⟩ => ⟨S8192x512, .f32⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S16x128x128, .bf16⟩
  | .local _ .vmem, ⟨14, _⟩ => ⟨S17x128x128, .bf16⟩
  | .local _ .vmem, ⟨15, _⟩ => ⟨S17x128x128, .bf16⟩
  | .local _ .vmem, ⟨16, _⟩ => ⟨S16x128x128, .f32⟩
  | .local _ .vmem, ⟨17, _⟩ => ⟨S16x128x128, .f32⟩
  | .local _ .vmem, ⟨18, _⟩ => ⟨S2048x128, .f32⟩
  | .local _ .vmem, ⟨19, _⟩ => ⟨S2048x128, .f32⟩
  | .local _ .smem, ⟨0, _⟩ => ⟨S8, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12_0 : Ref sig .tc := ⟨.hbm, 19, rfl⟩
abbrev main_v12_1 : Ref sig .tc := ⟨.hbm, 20, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_scratch7 : Ref sig .tc := ⟨.vmem, 17, rfl⟩
abbrev cc0_scratch8 : Ref sig .tc := ⟨.vmem, 18, rfl⟩
abbrev cc0_scratch9 : Ref sig .tc := ⟨.vmem, 19, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 4], ![false, false]⟩

def k0_off1 (i : grid0.Coords) (c0_i32 : BitVec 32) : Fin 1 → Nat :=
  let c2_i32 : BitVec 32 := 2#32
  let arg1 : BitVec 32 := BitVec.ofNat 32 (i 1).val
  let v58 : BitVec 32 := Scalar.muli c2_i32 arg1
  let v59 : BitVec 32 := Scalar.addi v58 c0_i32
  let v60 : Index := Scalar.indexCast v59
  ![v60.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Kernel12Ideal.lean ====
variable {F : FTy → Type} [FloatOps F] [Named F]
def κ : String → Option EReal := fun
  | "mask" => some ⊥
  | _ => none
-- ==== Reference12Ideal.lean ====
abbrev S8192x512 : Shape := ⟨2, ![8192, 512]⟩
abbrev S4x2048x8x64 : Shape := ⟨4, ![4, 2048, 8, 64]⟩
abbrev S8 : Shape := ⟨1, ![8]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S4x8x2048x2048 : Shape := ⟨4, ![4, 8, 2048, 2048]⟩
abbrev S1x8x1x1 : Shape := ⟨4, ![1, 8, 1, 1]⟩
abbrev S2048x2048 : Shape := ⟨2, ![2048, 2048]⟩
abbrev S1x1x2048x2048 : Shape := ⟨4, ![1, 1, 2048, 2048]⟩
abbrev S1x8x2048x2048 : Shape := ⟨4, ![1, 8, 2048, 2048]⟩
abbrev S4x8x2048 : Shape := ⟨3, ![4, 8, 2048]⟩
abbrev S4x8x2048x1 : Shape := ⟨4, ![4, 8, 2048, 1]⟩
abbrev S4x8x64x2048 : Shape := ⟨4, ![4, 8, 64, 2048]⟩
abbrev S4x2048x8 : Shape := ⟨3, ![4, 2048, 8]⟩
abbrev S1x4x2048x8 : Shape := ⟨4, ![1, 4, 2048, 8]⟩
abbrev S3x4x2048x8 : Shape := ⟨4, ![3, 4, 2048, 8]⟩
abbrev S3x4x2048x8x1 : Shape := ⟨5, ![3, 4, 2048, 8, 1]⟩
abbrev S1x4x2048x8x64 : Shape := ⟨5, ![1, 4, 2048, 8, 64]⟩
abbrev S3x4x2048x8x64 : Shape := ⟨5, ![3, 4, 2048, 8, 64]⟩
abbrev S8192x8 : Shape := ⟨2, ![8192, 8]⟩
abbrev S8192x8x64 : Shape := ⟨3, ![8192, 8, 64]⟩

abbrev nBuf : Space → Nat
  | .hbm => 212
  | .vmem => 0
  | .smem => 0
  | _ => 0

abbrev hbmTy0_0 (i : Nat) : BufTy := match i % 128 with
  | 0 => ⟨S8192x512, .bf16⟩
  | 1 => ⟨S8192x512, .bf16⟩
  | 2 => ⟨S8192x512, .bf16⟩
  | 3 => ⟨S8192x512, .f32⟩
  | 4 => ⟨S4x2048x8x64, .f32⟩
  | 5 => ⟨S8192x512, .f32⟩
  | 6 => ⟨S4x2048x8x64, .f32⟩
  | 7 => ⟨S8192x512, .f32⟩
  | 8 => ⟨S4x2048x8x64, .f32⟩
  | 9 => ⟨S8, .f32⟩
  | 10 => ⟨S_, .f32⟩
  | 11 => ⟨S8, .f32⟩
  | 12 => ⟨S8, .f32⟩
  | 13 => ⟨S_, .f32⟩
  | 14 => ⟨S8, .f32⟩
  | 15 => ⟨S8, .f32⟩
  | 16 => ⟨S8, .f32⟩
  | 17 => ⟨S_, .f32⟩
  | 18 => ⟨S8, .f32⟩
  | 19 => ⟨S8, .f32⟩
  | 20 => ⟨S2048, .i32⟩
  | 21 => ⟨S2048x1, .i32⟩
  | 22 => ⟨S1x2048, .i32⟩
  | 23 => ⟨S4x8x2048x2048, .f32⟩
  | 24 => ⟨S_, .f32⟩
  | 25 => ⟨S4x8x2048x2048, .f32⟩
  | 26 => ⟨S4x8x2048x2048, .f32⟩
  | 27 => ⟨S1x8x1x1, .f32⟩
  | 28 => ⟨S2048x2048, .i32⟩
  | 29 => ⟨S2048x2048, .i32⟩
  | 30 => ⟨S2048x2048, .i32⟩
  | 31 => ⟨S2048x2048, .f32⟩
  | 32 => ⟨S1x1x2048x2048, .f32⟩
  | 33 => ⟨S1x8x2048x2048, .f32⟩
  | 34 => ⟨S1x8x2048x2048, .f32⟩
  | 35 => ⟨S1x8x2048x2048, .f32⟩
  | 36 => ⟨S4x8x2048x2048, .f32⟩
  | 37 => ⟨S4x8x2048x2048, .f32⟩
  | 38 => ⟨S2048x2048, .i32⟩
  | 39 => ⟨S2048x2048, .i32⟩
  | 40 => ⟨S2048x2048, .i1⟩
  | 41 => ⟨S_, .i32⟩
  | 42 => ⟨S1x2048, .i32⟩
  | 43 => ⟨S1x2048, .i32⟩
  | 44 => ⟨S2048x2048, .i32⟩
  | 45 => ⟨S2048x2048, .i32⟩
  | 46 => ⟨S2048x2048, .i1⟩
  | 47 => ⟨S2048x2048, .i1⟩
  | 48 => ⟨S_, .i32⟩
  | 49 => ⟨S2048x1, .i32⟩
  | 50 => ⟨S2048x1, .i32⟩
  | 51 => ⟨S_, .i32⟩
  | 52 => ⟨S1x2048, .i32⟩
  | 53 => ⟨S1x2048, .i32⟩
  | 54 => ⟨S2048x2048, .i32⟩
  | 55 => ⟨S2048x2048, .i32⟩
  | 56 => ⟨S2048x2048, .i1⟩
  | 57 => ⟨S2048x2048, .i1⟩
  | 58 => ⟨S1x1x2048x2048, .i1⟩
  | 59 => ⟨S_, .f32⟩
  | 60 => ⟨S_, .f32⟩
  | 61 => ⟨S4x8x2048x2048, .i1⟩
  | 62 => ⟨S4x8x2048x2048, .f32⟩
  | 63 => ⟨S4x8x2048x2048, .f32⟩
  | 64 => ⟨S_, .f32⟩
  | 65 => ⟨S4x8x2048, .f32⟩
  | 66 => ⟨S4x8x2048x1, .f32⟩
  | 67 => ⟨S4x8x2048x2048, .f32⟩
  | 68 => ⟨S4x8x2048x2048, .f32⟩
  | 69 => ⟨S4x8x2048x2048, .f32⟩
  | 70 => ⟨S_, .f32⟩
  | 71 => ⟨S4x8x2048, .f32⟩
  | 72 => ⟨S4x8x2048x1, .f32⟩
  | 73 => ⟨S4x8x2048x1, .f32⟩
  | 74 => ⟨S4x8x2048x1, .f32⟩
  | 75 => ⟨S4x8x2048x2048, .f32⟩
  | 76 => ⟨S4x8x2048x2048, .f32⟩
  | 77 => ⟨S4x8x2048x2048, .f32⟩
  | 78 => ⟨S4x8x64x2048, .f32⟩
  | 79 => ⟨S4x2048x8x64, .f32⟩
  | 80 => ⟨S4x8x2048, .f32⟩
  | 81 => ⟨S4x2048x8, .f32⟩
  | 82 => ⟨S2048x2048, .i32⟩
  | 83 => ⟨S2048x2048, .i32⟩
  | 84 => ⟨S2048x2048, .i1⟩
  | 85 => ⟨S_, .i32⟩
  | 86 => ⟨S1x2048, .i32⟩
  | 87 => ⟨S1x2048, .i32⟩
  | 88 => ⟨S2048x2048, .i32⟩
  | 89 => ⟨S2048x2048, .i32⟩
  | 90 => ⟨S2048x2048, .i1⟩
  | 91 => ⟨S2048x2048, .i1⟩
  | 92 => ⟨S_, .i32⟩
  | 93 => ⟨S2048x1, .i32⟩
  | 94 => ⟨S2048x1, .i32⟩
  | 95 => ⟨S_, .i32⟩
  | 96 => ⟨S1x2048, .i32⟩
  | 97 => ⟨S1x2048, .i32⟩
  | 98 => ⟨S2048x2048, .i32⟩
  | 99 => ⟨S2048x2048, .i32⟩
  | 100 => ⟨S2048x2048, .i1⟩
  | 101 => ⟨S2048x2048, .i1⟩
  | 102 => ⟨S1x1x2048x2048, .i1⟩
  | 103 => ⟨S_, .f32⟩
  | 104 => ⟨S_, .f32⟩
  | 105 => ⟨S4x8x2048x2048, .i1⟩
  | 106 => ⟨S4x8x2048x2048, .f32⟩
  | 107 => ⟨S4x8x2048x2048, .f32⟩
  | 108 => ⟨S_, .f32⟩
  | 109 => ⟨S4x8x2048, .f32⟩
  | 110 => ⟨S4x8x2048x1, .f32⟩
  | 111 => ⟨S4x8x2048x2048, .f32⟩
  | 112 => ⟨S4x8x2048x2048, .f32⟩
  | 113 => ⟨S4x8x2048x2048, .f32⟩
  | 114 => ⟨S_, .f32⟩
  | 115 => ⟨S4x8x2048, .f32⟩
  | 116 => ⟨S4x8x2048x1, .f32⟩
  | 117 => ⟨S4x8x2048x1, .f32⟩
  | 118 => ⟨S4x8x2048x1, .f32⟩
  | 119 => ⟨S4x8x2048x2048, .f32⟩
  | 120 => ⟨S4x8x2048x2048, .f32⟩
  | 121 => ⟨S4x8x2048x2048, .f32⟩
  | 122 => ⟨S4x8x64x2048, .f32⟩
  | 123 => ⟨S4x2048x8x64, .f32⟩
  | 124 => ⟨S4x8x2048, .f32⟩
  | 125 => ⟨S4x2048x8, .f32⟩
  | 126 => ⟨S2048x2048, .i32⟩
  | 127 => ⟨S2048x2048, .i32⟩
  | _ => ⟨S8192x512, .bf16⟩

abbrev hbmTy0_1 (i : Nat) : BufTy := match i % 128 with
  | 0 => ⟨S2048x2048, .i1⟩
  | 1 => ⟨S_, .i32⟩
  | 2 => ⟨S1x2048, .i32⟩
  | 3 => ⟨S1x2048, .i32⟩
  | 4 => ⟨S2048x2048, .i32⟩
  | 5 => ⟨S2048x2048, .i32⟩
  | 6 => ⟨S2048x2048, .i1⟩
  | 7 => ⟨S2048x2048, .i1⟩
  | 8 => ⟨S_, .i32⟩
  | 9 => ⟨S2048x1, .i32⟩
  | 10 => ⟨S2048x1, .i32⟩
  | 11 => ⟨S_, .i32⟩
  | 12 => ⟨S1x2048, .i32⟩
  | 13 => ⟨S1x2048, .i32⟩
  | 14 => ⟨S2048x2048, .i32⟩
  | 15 => ⟨S2048x2048, .i32⟩
  | 16 => ⟨S2048x2048, .i1⟩
  | 17 => ⟨S2048x2048, .i1⟩
  | 18 => ⟨S1x1x2048x2048, .i1⟩
  | 19 => ⟨S_, .f32⟩
  | 20 => ⟨S_, .f32⟩
  | 21 => ⟨S4x8x2048x2048, .i1⟩
  | 22 => ⟨S4x8x2048x2048, .f32⟩
  | 23 => ⟨S4x8x2048x2048, .f32⟩
  | 24 => ⟨S_, .f32⟩
  | 25 => ⟨S4x8x2048, .f32⟩
  | 26 => ⟨S4x8x2048x1, .f32⟩
  | 27 => ⟨S4x8x2048x2048, .f32⟩
  | 28 => ⟨S4x8x2048x2048, .f32⟩
  | 29 => ⟨S4x8x2048x2048, .f32⟩
  | 30 => ⟨S_, .f32⟩
  | 31 => ⟨S4x8x2048, .f32⟩
  | 32 => ⟨S4x8x2048x1, .f32⟩
  | 33 => ⟨S4x8x2048x1, .f32⟩
  | 34 => ⟨S4x8x2048x1, .f32⟩
  | 35 => ⟨S4x8x2048x2048, .f32⟩
  | 36 => ⟨S4x8x2048x2048, .f32⟩
  | 37 => ⟨S4x8x2048x2048, .f32⟩
  | 38 => ⟨S4x8x64x2048, .f32⟩
  | 39 => ⟨S4x2048x8x64, .f32⟩
  | 40 => ⟨S4x8x2048, .f32⟩
  | 41 => ⟨S4x2048x8, .f32⟩
  | 42 => ⟨S1x4x2048x8, .f32⟩
  | 43 => ⟨S1x4x2048x8, .f32⟩
  | 44 => ⟨S1x4x2048x8, .f32⟩
  | 45 => ⟨S3x4x2048x8, .f32⟩
  | 46 => ⟨S_, .f32⟩
  | 47 => ⟨S4x2048x8, .f32⟩
  | 48 => ⟨S_, .f32⟩
  | 49 => ⟨S4x2048x8, .f32⟩
  | 50 => ⟨S4x2048x8, .f32⟩
  | 51 => ⟨S1x4x2048x8, .f32⟩
  | 52 => ⟨S3x4x2048x8, .f32⟩
  | 53 => ⟨S3x4x2048x8, .f32⟩
  | 54 => ⟨S3x4x2048x8, .f32⟩
  | 55 => ⟨S_, .f32⟩
  | 56 => ⟨S4x2048x8, .f32⟩
  | 57 => ⟨S1x4x2048x8, .f32⟩
  | 58 => ⟨S3x4x2048x8, .f32⟩
  | 59 => ⟨S3x4x2048x8, .f32⟩
  | 60 => ⟨S3x4x2048x8x1, .f32⟩
  | 61 => ⟨S1x4x2048x8x64, .f32⟩
  | 62 => ⟨S1x4x2048x8x64, .f32⟩
  | 63 => ⟨S1x4x2048x8x64, .f32⟩
  | 64 => ⟨S3x4x2048x8x64, .f32⟩
  | 65 => ⟨S3x4x2048x8x64, .f32⟩
  | 66 => ⟨S3x4x2048x8x64, .f32⟩
  | 67 => ⟨S_, .f32⟩
  | 68 => ⟨S4x2048x8x64, .f32⟩
  | 69 => ⟨S8192x512, .f32⟩
  | 70 => ⟨S_, .f32⟩
  | 71 => ⟨S4x2048x8, .f32⟩
  | 72 => ⟨S1x4x2048x8, .f32⟩
  | 73 => ⟨S3x4x2048x8, .f32⟩
  | 74 => ⟨S3x4x2048x8, .f32⟩
  | 75 => ⟨S3x4x2048x8, .f32⟩
  | 76 => ⟨S_, .f32⟩
  | 77 => ⟨S4x2048x8, .f32⟩
  | 78 => ⟨S4x2048x8, .f32⟩
  | 79 => ⟨S4x2048x8, .f32⟩
  | 80 => ⟨S8192x512, .bf16⟩
  | 81 => ⟨S8192x8, .f32⟩
  | 82 => ⟨S8192x8x64, .f32⟩
  | 83 => ⟨S8192x512, .f32⟩
  | _ => ⟨S8192x512, .bf16⟩

abbrev hbmTy (i : Nat) : BufTy := match i / 128 with
  | 0 => hbmTy0_0 i
  | 1 => hbmTy0_1 i
  | _ => ⟨S8192x512, .bf16⟩

abbrev bufTy : (tb : Table) → Fin (tcTables nBuf tb) → BufTy
  | .hbm, ⟨i, _⟩ => hbmTy i
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_c : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_c_3 : Ref sig .tc := ⟨.hbm, 48, rfl⟩
abbrev main_v40 : Ref sig .tc := ⟨.hbm, 49, rfl⟩
abbrev main_v41 : Ref sig .tc := ⟨.hbm, 50, rfl⟩
abbrev main_c_4 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_cst_5 : Ref sig .tc := ⟨.hbm, 59, rfl⟩
abbrev main_call0_v0 : Ref sig .tc := ⟨.hbm, 60, rfl⟩
abbrev main_call0_v1 : Ref sig .tc := ⟨.hbm, 61, rfl⟩
abbrev main_call0_v2 : Ref sig .tc := ⟨.hbm, 62, rfl⟩
abbrev main_v49 : Ref sig .tc := ⟨.hbm, 63, rfl⟩
abbrev main_cst_6 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_7 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_c_8 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_c_9 : Ref sig .tc := ⟨.hbm, 92, rfl⟩
abbrev main_v75 : Ref sig .tc := ⟨.hbm, 93, rfl⟩
abbrev main_v76 : Ref sig .tc := ⟨.hbm, 94, rfl⟩
abbrev main_c_10 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_cst_11 : Ref sig .tc := ⟨.hbm, 103, rfl⟩
abbrev main_call1_v0 : Ref sig .tc := ⟨.hbm, 104, rfl⟩
abbrev main_call1_v1 : Ref sig .tc := ⟨.hbm, 105, rfl⟩
abbrev main_call1_v2 : Ref sig .tc := ⟨.hbm, 106, rfl⟩
abbrev main_v84 : Ref sig .tc := ⟨.hbm, 107, rfl⟩
abbrev main_cst_12 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_cst_13 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_c_14 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_c_15 : Ref sig .tc := ⟨.hbm, 136, rfl⟩
abbrev main_v110 : Ref sig .tc := ⟨.hbm, 137, rfl⟩
abbrev main_v111 : Ref sig .tc := ⟨.hbm, 138, rfl⟩
abbrev main_c_16 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_cst_17 : Ref sig .tc := ⟨.hbm, 147, rfl⟩
abbrev main_call2_v0 : Ref sig .tc := ⟨.hbm, 148, rfl⟩
abbrev main_call2_v1 : Ref sig .tc := ⟨.hbm, 149, rfl⟩
abbrev main_call2_v2 : Ref sig .tc := ⟨.hbm, 150, rfl⟩
abbrev main_v119 : Ref sig .tc := ⟨.hbm, 151, rfl⟩
abbrev main_cst_18 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_cst_19 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_cst_20 : Ref sig .tc := ⟨.hbm, 174, rfl⟩
abbrev main_v140 : Ref sig .tc := ⟨.hbm, 175, rfl⟩
abbrev main_cst_21 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_cst_22 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩
abbrev main_v153 : Ref sig .tc := ⟨.hbm, 190, rfl⟩
abbrev main_v154 : Ref sig .tc := ⟨.hbm, 191, rfl⟩
abbrev main_v155 : Ref sig .tc := ⟨.hbm, 192, rfl⟩
abbrev main_v156 : Ref sig .tc := ⟨.hbm, 193, rfl⟩
abbrev main_v157 : Ref sig .tc := ⟨.hbm, 194, rfl⟩
abbrev main_cst_23 : Ref sig .tc := ⟨.hbm, 195, rfl⟩
abbrev main_v158 : Ref sig .tc := ⟨.hbm, 196, rfl⟩
abbrev main_v159 : Ref sig .tc := ⟨.hbm, 197, rfl⟩
abbrev main_cst_24 : Ref sig .tc := ⟨.hbm, 198, rfl⟩
abbrev main_v160 : Ref sig .tc := ⟨.hbm, 199, rfl⟩
abbrev main_v161 : Ref sig .tc := ⟨.hbm, 200, rfl⟩
abbrev main_v162 : Ref sig .tc := ⟨.hbm, 201, rfl⟩
abbrev main_v163 : Ref sig .tc := ⟨.hbm, 202, rfl⟩
abbrev main_v164 : Ref sig .tc := ⟨.hbm, 203, rfl⟩
abbrev main_cst_25 : Ref sig .tc := ⟨.hbm, 204, rfl⟩
abbrev main_v165 : Ref sig .tc := ⟨.hbm, 205, rfl⟩
abbrev main_v166 : Ref sig .tc := ⟨.hbm, 206, rfl⟩
abbrev main_v167 : Ref sig .tc := ⟨.hbm, 207, rfl⟩
abbrev main_v168 : Ref sig .tc := ⟨.hbm, 208, rfl⟩
abbrev main_v169 : Ref sig .tc := ⟨.hbm, 209, rfl⟩
abbrev main_v170 : Ref sig .tc := ⟨.hbm, 210, rfl⟩
abbrev main_v171 : Ref sig .tc := ⟨.hbm, 211, rfl⟩

abbrev nD : Nat := 1
abbrev τ : Topo := Topo.v7x

variable {F : FTy → Type} [FloatOps F]
-- ==== Kernel13.lean ====
abbrev S8192x8 : Shape := ⟨2, ![8192, 8]⟩
abbrev S8 : Shape := ⟨1, ![8]⟩
abbrev S_ : Shape := ⟨0, ![]⟩
abbrev S128 : Shape := ⟨1, ![128]⟩
abbrev S1x128 : Shape := ⟨2, ![1, 128]⟩
abbrev S8192x128 : Shape := ⟨2, ![8192, 128]⟩
abbrev S8192x512 : Shape := ⟨2, ![8192, 512]⟩
abbrev S2048x128 : Shape := ⟨2, ![2048, 128]⟩
abbrev S2048x512 : Shape := ⟨2, ![2048, 512]⟩
abbrev S2048x1 : Shape := ⟨2, ![2048, 1]⟩

abbrev nBuf : Space → Nat
  | .hbm => 10
  | .vmem => 5
  | .smem => 0
  | _ => 0

abbrev bufTy : (tb : Table) → Fin (tcTables nBuf tb) → BufTy
  | .hbm, ⟨0, _⟩ => ⟨S8192x8, .f32⟩
  | .hbm, ⟨1, _⟩ => ⟨S8, .f32⟩
  | .hbm, ⟨2, _⟩ => ⟨S_, .i32⟩
  | .hbm, ⟨3, _⟩ => ⟨S_, .f32⟩
  | .hbm, ⟨4, _⟩ => ⟨S128, .f32⟩
  | .hbm, ⟨5, _⟩ => ⟨S1x128, .f32⟩
  | .hbm, ⟨6, _⟩ => ⟨S_, .i32⟩
  | .hbm, ⟨7, _⟩ => ⟨S_, .f32⟩
  | .hbm, ⟨8, _⟩ => ⟨S8192x128, .f32⟩
  | .hbm, ⟨9, _⟩ => ⟨S8192x512, .f32⟩
  | .local _ .vmem, ⟨0, _⟩ => ⟨S2048x128, .f32⟩
  | .local _ .vmem, ⟨1, _⟩ => ⟨S2048x128, .f32⟩
  | .local _ .vmem, ⟨2, _⟩ => ⟨S1x128, .f32⟩
  | .local _ .vmem, ⟨3, _⟩ => ⟨S2048x512, .f32⟩
  | .local _ .vmem, ⟨4, _⟩ => ⟨S2048x512, .f32⟩
  | _, _ => ⟨S8192x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_call1_v0 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference13Ideal.lean ====
abbrev S8192x8 : Shape := ⟨2, ![8192, 8]⟩
abbrev S8 : Shape := ⟨1, ![8]⟩
abbrev S4x2048x8 : Shape := ⟨3, ![4, 2048, 8]⟩
abbrev S1x1x8 : Shape := ⟨3, ![1, 1, 8]⟩
abbrev S_ : Shape := ⟨0, ![]⟩
abbrev S8192x8x64 : Shape := ⟨3, ![8192, 8, 64]⟩
abbrev S8192x512 : Shape := ⟨2, ![8192, 512]⟩

abbrev nBuf : Space → Nat
  | .hbm => 28
  | .vmem => 0
  | .smem => 0
  | _ => 0

abbrev bufTy : (tb : Table) → Fin (tcTables nBuf tb) → BufTy
  | .hbm, ⟨0, _⟩ => ⟨S8192x8, .f32⟩
  | .hbm, ⟨1, _⟩ => ⟨S8, .f32⟩
  | .hbm, ⟨2, _⟩ => ⟨S4x2048x8, .f32⟩
  | .hbm, ⟨3, _⟩ => ⟨S1x1x8, .f32⟩
  | .hbm, ⟨4, _⟩ => ⟨S4x2048x8, .f32⟩
  | .hbm, ⟨5, _⟩ => ⟨S4x2048x8, .f32⟩
  | .hbm, ⟨6, _⟩ => ⟨S4x2048x8, .f32⟩
  | .hbm, ⟨7, _⟩ => ⟨S_, .f32⟩
  | .hbm, ⟨8, _⟩ => ⟨S4x2048x8, .f32⟩
  | .hbm, ⟨9, _⟩ => ⟨S4x2048x8, .f32⟩
  | .hbm, ⟨10, _⟩ => ⟨S4x2048x8, .f32⟩
  | .hbm, ⟨11, _⟩ => ⟨S4x2048x8, .f32⟩
  | .hbm, ⟨12, _⟩ => ⟨S4x2048x8, .i1⟩
  | .hbm, ⟨13, _⟩ => ⟨S4x2048x8, .f32⟩
  | .hbm, ⟨14, _⟩ => ⟨S4x2048x8, .f32⟩
  | .hbm, ⟨15, _⟩ => ⟨S4x2048x8, .f32⟩
  | .hbm, ⟨16, _⟩ => ⟨S4x2048x8, .f32⟩
  | .hbm, ⟨17, _⟩ => ⟨S4x2048x8, .f32⟩
  | .hbm, ⟨18, _⟩ => ⟨S4x2048x8, .f32⟩
  | .hbm, ⟨19, _⟩ => ⟨S4x2048x8, .f32⟩
  | .hbm, ⟨20, _⟩ => ⟨S4x2048x8, .f32⟩
  | .hbm, ⟨21, _⟩ => ⟨S4x2048x8, .f32⟩
  | .hbm, ⟨22, _⟩ => ⟨S_, .f32⟩
  | .hbm, ⟨23, _⟩ => ⟨S_, .f32⟩
  | .hbm, ⟨24, _⟩ => ⟨S4x2048x8, .f32⟩
  | .hbm, ⟨25, _⟩ => ⟨S8192x8, .f32⟩
  | .hbm, ⟨26, _⟩ => ⟨S8192x8x64, .f32⟩
  | .hbm, ⟨27, _⟩ => ⟨S8192x512, .f32⟩
  | _, _ => ⟨S8192x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_call0_cst : Ref sig .tc := ⟨.hbm, 7, rfl⟩
abbrev main_call0_call0_v0 : Ref sig .tc := ⟨.hbm, 8, rfl⟩
abbrev main_call0_call0_v1 : Ref sig .tc := ⟨.hbm, 9, rfl⟩
abbrev main_call0_call0_v2 : Ref sig .tc := ⟨.hbm, 10, rfl⟩
abbrev main_call0_call0_v3 : Ref sig .tc := ⟨.hbm, 11, rfl⟩
abbrev main_call0_call0_v4 : Ref sig .tc := ⟨.hbm, 12, rfl⟩
abbrev main_call0_call0_v5 : Ref sig .tc := ⟨.hbm, 13, rfl⟩
abbrev main_call0_call0_v6 : Ref sig .tc := ⟨.hbm, 14, rfl⟩
abbrev main_call0_call0_v7 : Ref sig .tc := ⟨.hbm, 15, rfl⟩
abbrev main_call0_call0_v8 : Ref sig .tc := ⟨.hbm, 16, rfl⟩
abbrev main_call0_call0_v9 : Ref sig .tc := ⟨.hbm, 17, rfl⟩
abbrev main_call0_call0_v10 : Ref sig .tc := ⟨.hbm, 18, rfl⟩
abbrev main_call0_call0_v11 : Ref sig .tc := ⟨.hbm, 19, rfl⟩
abbrev main_call0_v1 : Ref sig .tc := ⟨.hbm, 20, rfl⟩
abbrev main_v4 : Ref sig .tc := ⟨.hbm, 21, rfl⟩
abbrev main_call1_call0_cst : Ref sig .tc := ⟨.hbm, 22, rfl⟩
abbrev main_call1_call0_v0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩

abbrev nD : Nat := 1
abbrev τ : Topo := Topo.v7x

variable {F : FTy → Type} [FloatOps F]
-- ==== Kernel14.lean ====
abbrev S8192x1024 : Shape := ⟨2, ![8192, 1024]⟩
abbrev S1024x1024 : Shape := ⟨2, ![1024, 1024]⟩
abbrev S1024 : Shape := ⟨1, ![1024]⟩
abbrev S1024x4096 : Shape := ⟨2, ![1024, 4096]⟩
abbrev S1x1024 : Shape := ⟨2, ![1, 1024]⟩
abbrev S8192x4096 : Shape := ⟨2, ![8192, 4096]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩

abbrev nBuf : Space → Nat
  | .hbm => 9
  | .vmem => 13
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024, .f32⟩
  | .hbm, ⟨4, _⟩ => ⟨S1024x4096, .bf16⟩
  | .hbm, ⟨5, _⟩ => ⟨S1x1024, .f32⟩
  | .hbm, ⟨6, _⟩ => ⟨S8192x1024, .f32⟩
  | .hbm, ⟨7, _⟩ => ⟨S8192x1024, .bf16⟩
  | .hbm, ⟨8, _⟩ => ⟨S8192x4096, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1024x4096, .bf16⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x4096, .bf16⟩
  | .local _ .vmem, ⟨12, _⟩ => ⟨S512x4096, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference14Ideal.lean ====
abbrev S8192x1024 : Shape := ⟨2, ![8192, 1024]⟩
abbrev S1024x1024 : Shape := ⟨2, ![1024, 1024]⟩
abbrev S1024 : Shape := ⟨1, ![1024]⟩
abbrev S1024x4096 : Shape := ⟨2, ![1024, 4096]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4096 : Shape := ⟨2, ![8192, 4096]⟩

abbrev nBuf : Space → Nat
  | .hbm => 32
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024, .f32⟩
  | .hbm, ⟨4, _⟩ => ⟨S1024x4096, .bf16⟩
  | .hbm, ⟨5, _⟩ => ⟨S8192x1024, .f32⟩
  | .hbm, ⟨6, _⟩ => ⟨S1024x1024, .f32⟩
  | .hbm, ⟨7, _⟩ => ⟨S1024x4096, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x4096, .f32⟩
  | .hbm, ⟨27, _⟩ => ⟨S_, .f32⟩
  | .hbm, ⟨28, _⟩ => ⟨S8192x4096, .f32⟩
  | .hbm, ⟨29, _⟩ => ⟨S8192x4096, .f32⟩
  | .hbm, ⟨30, _⟩ => ⟨S8192x1024, .bf16⟩
  | .hbm, ⟨31, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_cst : Ref sig .tc := ⟨.hbm, 27, rfl⟩
abbrev main_call0_v0 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== Kernel15.lean ====
abbrev S8192x1024 : Shape := ⟨2, ![8192, 1024]⟩
abbrev S1024 : Shape := ⟨1, ![1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1x1024, .f32⟩
  | .hbm, ⟨3, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference15Ideal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S1x1024, .f32⟩
  | .hbm, ⟨16, _⟩ => ⟨S8192x1024, .f32⟩
  | .hbm, ⟨17, _⟩ => ⟨S8192x1024, .f32⟩
  | .hbm, ⟨18, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel16.lean ====
abbrev S8192x1024 : Shape := ⟨2, ![8192, 1024]⟩
abbrev S1024 : Shape := ⟨1, ![1024]⟩
abbrev S1024x3080 : Shape := ⟨2, ![1024, 3080]⟩
abbrev S_ : Shape := ⟨0, ![]⟩
abbrev S1024x3200 : Shape := ⟨2, ![1024, 3200]⟩
abbrev S1024x3072 : Shape := ⟨2, ![1024, 3072]⟩
abbrev S1024x128 : Shape := ⟨2, ![1024, 128]⟩
abbrev S1x1024 : Shape := ⟨2, ![1, 1024]⟩
abbrev S8192x3072 : Shape := ⟨2, ![8192, 3072]⟩
abbrev S8192x128 : Shape := ⟨2, ![8192, 128]⟩
abbrev S512x1024 : Shape := ⟨2, ![512, 1024]⟩
abbrev S512x3072 : Shape := ⟨2, ![512, 3072]⟩
abbrev S512x128 : Shape := ⟨2, ![512, 128]⟩

abbrev nBuf : Space → Nat
  | .hbm => 11
  | .vmem => 10
  | .smem => 0
  | _ => 0

abbrev bufTy : (tb : Table) → Fin (tcTables nBuf tb) → BufTy
  | .hbm, ⟨0, _⟩ => ⟨S8192x1024, .bf16⟩
  | .hbm, ⟨1, _⟩ => ⟨S1024, .f32⟩
  | .hbm, ⟨2, _⟩ => ⟨S1024x3080, .bf16⟩
  | .hbm, ⟨3, _⟩ => ⟨S_, .i32⟩
  | .hbm, ⟨4, _⟩ => ⟨S_, .bf16⟩
  | .hbm, ⟨5, _⟩ => ⟨S1024x3200, .bf16⟩
  | .hbm, ⟨6, _⟩ => ⟨S1024x3072, .bf16⟩
  | .hbm, ⟨7, _⟩ => ⟨S1024x128, .bf16⟩
  | .hbm, ⟨8, _⟩ => ⟨S1x1024, .f32⟩
  | .hbm, ⟨9, _⟩ => ⟨S8192x3072, .bf16⟩
  | .hbm, ⟨10, _⟩ => ⟨S8192x128, .f32⟩
  | .local _ .vmem, ⟨0, _⟩ => ⟨S512x1024, .bf16⟩
  | .local _ .vmem, ⟨1, _⟩ => ⟨S512x1024, .bf16⟩
  | .local _ .vmem, ⟨2, _⟩ => ⟨S1x1024, .f32⟩
  | .local _ .vmem, ⟨3, _⟩ => ⟨S1024x3072, .bf16⟩
  | .local _ .vmem, ⟨4, _⟩ => ⟨S1024x128, .bf16⟩
  | .local _ .vmem, ⟨5, _⟩ => ⟨S512x3072, .bf16⟩
  | .local _ .vmem, ⟨6, _⟩ => ⟨S512x3072, .bf16⟩
  | .local _ .vmem, ⟨7, _⟩ => ⟨S512x128, .f32⟩
  | .local _ .vmem, ⟨8, _⟩ => ⟨S512x128, .f32⟩
  | .local _ .vmem, ⟨9, _⟩ => ⟨S512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![16, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference16Ideal.lean ====
abbrev S8192x1024 : Shape := ⟨2, ![8192, 1024]⟩
abbrev S1024 : Shape := ⟨1, ![1024]⟩
abbrev S1024x3080 : Shape := ⟨2, ![1024, 3080]⟩
abbrev S8192x3080 : Shape := ⟨2, ![8192, 3080]⟩
abbrev S8192x3072 : Shape := ⟨2, ![8192, 3072]⟩
abbrev S8192x8 : Shape := ⟨2, ![8192, 8]⟩
abbrev S_ : Shape := ⟨0, ![]⟩
abbrev S8192x128 : Shape := ⟨2, ![8192, 128]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024, .f32⟩
  | .hbm, ⟨2, _⟩ => ⟨S1024x3080, .bf16⟩
  | .hbm, ⟨3, _⟩ => ⟨S8192x1024, .f32⟩
  | .hbm, ⟨4, _⟩ => ⟨S1024x3080, .f32⟩
  | .hbm, ⟨5, _⟩ => ⟨S8192x3080, .f32⟩
  | .hbm, ⟨6, _⟩ => ⟨S8192x3072, .f32⟩
  | .hbm, ⟨7, _⟩ => ⟨S8192x3072, .bf16⟩
  | .hbm, ⟨8, _⟩ => ⟨S8192x8, .f32⟩
  | .hbm, ⟨9, _⟩ => ⟨S_, .i32⟩
  | .hbm, ⟨10, _⟩ => ⟨S_, .f32⟩
  | .hbm, ⟨11, _⟩ => ⟨S8192x128, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Kernel17.lean ====
abbrev S8192x4096 : Shape := ⟨2, ![8192, 4096]⟩
abbrev S4096x1024 : Shape := ⟨2, ![4096, 1024]⟩
abbrev S8192x1024 : Shape := ⟨2, ![8192, 1024]⟩
abbrev S_ : Shape := ⟨0, ![]⟩
abbrev S1024x1024 : Shape := ⟨2, ![1024, 1024]⟩

abbrev nBuf : Space → Nat
  | .hbm => 8
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S4096x1024, .bf16⟩
  | .hbm, ⟨2, _⟩ => ⟨S8192x1024, .bf16⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S8192x4096, .bf16⟩
  | .hbm, ⟨7, _⟩ => ⟨S4096x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32_6 : BitVec 32 := 1#32
  let v15 : BitVec 1 := Scalar.cmpi .eq arg2 c1_i32_6
  let v16 : BitVec 32 := Scalar.extui v15
  let c0_i32_7 : BitVec 32 := 0#32
  let v17 : BitVec 1 := Scalar.cmpi .ne v16 c0_i32_7
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S8192x4096 : Shape := ⟨2, ![8192, 4096]⟩
abbrev S4096x1024 : Shape := ⟨2, ![4096, 1024]⟩
abbrev S8192x1024 : Shape := ⟨2, ![8192, 1024]⟩
abbrev S_ : Shape := ⟨0, ![]⟩
abbrev S1024x4096 : Shape := ⟨2, ![1024, 4096]⟩

abbrev nBuf : Space → Nat
  | .hbm => 13
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x1024, .bf16⟩
  | .hbm, ⟨2, _⟩ => ⟨S8192x1024, .bf16⟩
  | .hbm, ⟨3, _⟩ => ⟨S4096x1024, .f32⟩
  | .hbm, ⟨4, _⟩ => ⟨S_, .f32⟩
  | .hbm, ⟨5, _⟩ => ⟨S8192x4096, .f32⟩
  | .hbm, ⟨6, _⟩ => ⟨S8192x4096, .f32⟩
  | .hbm, ⟨7, _⟩ => ⟨S8192x4096, .f32⟩
  | .hbm, ⟨8, _⟩ => ⟨S8192x1024, .f32⟩
  | .hbm, ⟨9, _⟩ => ⟨S8192x1024, .f32⟩
  | .hbm, ⟨10, _⟩ => ⟨S1024x4096, .f32⟩
  | .hbm, ⟨11, _⟩ => ⟨S4096x1024, .f32⟩
  | .hbm, ⟨12, _⟩ => ⟨S4096x1024, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Kernel18.lean ====
abbrev S8192x1024 : Shape := ⟨2, ![8192, 1024]⟩
abbrev S1024x1544 : Shape := ⟨2, ![1024, 1544]⟩
abbrev S8192x512 : Shape := ⟨2, ![8192, 512]⟩
abbrev S8192x8 : Shape := ⟨2, ![8192, 8]⟩
abbrev S_ : Shape := ⟨0, ![]⟩
abbrev S8192x128 : Shape := ⟨2, ![8192, 128]⟩
abbrev S1024x1664 : Shape := ⟨2, ![1024, 1664]⟩
abbrev S2048x1024 : Shape := ⟨2, ![2048, 1024]⟩
abbrev S2048x512 : Shape := ⟨2, ![2048, 512]⟩
abbrev S2048x128 : Shape := ⟨2, ![2048, 128]⟩
abbrev S1024x512 : Shape := ⟨2, ![1024, 512]⟩
abbrev S1024x128 : Shape := ⟨2, ![1024, 128]⟩

abbrev nBuf : Space → Nat
  | .hbm => 10
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S1024x1544, .bf16⟩
  | .hbm, ⟨2, _⟩ => ⟨S8192x512, .bf16⟩
  | .hbm, ⟨3, _⟩ => ⟨S8192x512, .bf16⟩
  | .hbm, ⟨4, _⟩ => ⟨S8192x512, .bf16⟩
  | .hbm, ⟨5, _⟩ => ⟨S8192x8, .bf16⟩
  | .hbm, ⟨6, _⟩ => ⟨S_, .i32⟩
  | .hbm, ⟨7, _⟩ => ⟨S_, .bf16⟩
  | .hbm, ⟨8, _⟩ => ⟨S8192x128, .bf16⟩
  | .hbm, ⟨9, _⟩ => ⟨S1024x1664, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x128, .bf16⟩
  | .local _ .vmem, ⟨9, _⟩ => ⟨S2048x128, .bf16⟩
  | .local _ .vmem, ⟨10, _⟩ => ⟨S1024x1664, .bf16⟩
  | .local _ .vmem, ⟨11, _⟩ => ⟨S1024x1664, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10

abbrev nD : Nat := 1
abbrev τ : Topo := Topo.v7x

variable {F : FTy → Type} [FloatOps F]

abbrev grid0 : Pipeline.Grid := ⟨1, ![4], ![false]⟩

def k0_cond9 (i : grid0.Coords) : BitVec 1 :=
  let arg0 : BitVec 32 := BitVec.ofNat 32 (i 0).val
  let c3_i32 : BitVec 32 := 3#32
  let v34 : BitVec 1 := Scalar.cmpi .eq arg0 c3_i32
  let v35 : BitVec 32 := Scalar.extui v34
  let c0_i32_27 : BitVec 32 := 0#32
  let v36 : BitVec 1 := Scalar.cmpi .ne v35 c0_i32_27
  v36

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1664 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference18Ideal.lean ====
abbrev S8192x1024 : Shape := ⟨2, ![8192, 1024]⟩
abbrev S1024x1544 : Shape := ⟨2, ![1024, 1544]⟩
abbrev S8192x512 : Shape := ⟨2, ![8192, 512]⟩
abbrev S8192x8 : Shape := ⟨2, ![8192, 8]⟩
abbrev S8192x1544 : Shape := ⟨2, ![8192, 1544]⟩
abbrev S_ : Shape := ⟨0, ![]⟩
abbrev S1544x1024 : Shape := ⟨2, ![1544, 1024]⟩
abbrev S1024x1664 : Shape := ⟨2, ![1024, 1664]⟩

abbrev nBuf : Space → Nat
  | .hbm => 34
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1544, .bf16⟩
  | .hbm, ⟨2, _⟩ => ⟨S8192x512, .bf16⟩
  | .hbm, ⟨3, _⟩ => ⟨S8192x512, .bf16⟩
  | .hbm, ⟨4, _⟩ => ⟨S8192x512, .bf16⟩
  | .hbm, ⟨5, _⟩ => ⟨S8192x8, .bf16⟩
  | .hbm, ⟨6, _⟩ => ⟨S8192x1024, .f32⟩
  | .hbm, ⟨7, _⟩ => ⟨S8192x512, .f32⟩
  | .hbm, ⟨8, _⟩ => ⟨S8192x512, .f32⟩
  | .hbm, ⟨9, _⟩ => ⟨S8192x512, .f32⟩
  | .hbm, ⟨10, _⟩ => ⟨S8192x8, .f32⟩
  | .hbm, ⟨11, _⟩ => ⟨S1024x1544, .f32⟩
  | .hbm, ⟨12, _⟩ => ⟨S8192x1544, .f32⟩
  | .hbm, ⟨13, _⟩ => ⟨S8192x512, .f32⟩
  | .hbm, ⟨14, _⟩ => ⟨S8192x512, .f32⟩
  | .hbm, ⟨15, _⟩ => ⟨S8192x512, .f32⟩
  | .hbm, ⟨16, _⟩ => ⟨S8192x8, .f32⟩
  | .hbm, ⟨17, _⟩ => ⟨S_, .f32⟩
  | .hbm, ⟨18, _⟩ => ⟨S8192x1544, .f32⟩
  | .hbm, ⟨19, _⟩ => ⟨S_, .f32⟩
  | .hbm, ⟨20, _⟩ => ⟨S8192x1544, .f32⟩
  | .hbm, ⟨21, _⟩ => ⟨S8192x1544, .f32⟩
  | .hbm, ⟨22, _⟩ => ⟨S_, .f32⟩
  | .hbm, ⟨23, _⟩ => ⟨S8192x1544, .f32⟩
  | .hbm, ⟨24, _⟩ => ⟨S8192x1544, .f32⟩
  | .hbm, ⟨25, _⟩ => ⟨S_, .f32⟩
  | .hbm, ⟨26, _⟩ => ⟨S8192x1544, .f32⟩
  | .hbm, ⟨27, _⟩ => ⟨S8192x1544, .f32⟩
  | .hbm, ⟨28, _⟩ => ⟨S1544x1024, .f32⟩
  | .hbm, ⟨29, _⟩ => ⟨S1024x1544, .f32⟩
  | .hbm, ⟨30, _⟩ => ⟨S_, .i32⟩
  | .hbm, ⟨31, _⟩ => ⟨S_, .f32⟩
  | .hbm, ⟨32, _⟩ => ⟨S1024x1664, .f32⟩
  | .hbm, ⟨33, _⟩ => ⟨S1024x1664, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c : Ref sig .tc := ⟨.hbm, 30, rfl⟩
abbrev main_call0_v0 : Ref sig .tc := ⟨.hbm, 31, rfl⟩
abbrev main_v20 : Ref sig .tc := ⟨.hbm, 32, rfl⟩
abbrev main_v21 : Ref sig .tc := ⟨.hbm, 33, rfl⟩

abbrev nD : Nat := 1
abbrev τ : Topo := Topo.v7x

variable {F : FTy → Type} [FloatOps F]
-- ==== Kernel19.lean ====
abbrev S8x512x1024 : Shape := ⟨3, ![8, 512, 1024]⟩
abbrev S512x1024 : Shape := ⟨2, ![512, 1024]⟩
abbrev S8x256x1024 : Shape := ⟨3, ![8, 256, 1024]⟩
abbrev S256x1024 : Shape := ⟨2, ![256, 1024]⟩
abbrev S1x256x1024 : Shape := ⟨3, ![1, 256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x512x1024, .bf16⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .local _ .vmem, ⟨0, _⟩ => ⟨S8x256x1024, .bf16⟩
  | .local _ .vmem, ⟨1, _⟩ => ⟨S8x256x1024, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S8x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference19Ideal.lean ====
abbrev S8x512x1024 : Shape := ⟨3, ![8, 512, 1024]⟩
abbrev S512x1024 : Shape := ⟨2, ![512, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x512x1024, .bf16⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S8x512x1024, .f32⟩
  | .hbm, ⟨5, _⟩ => ⟨S_, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S_, .f32⟩
  | .hbm, ⟨11, _⟩ => ⟨S512x1024, .f32⟩
  | .hbm, ⟨12, _⟩ => ⟨S512x1024, .f32⟩
  | .hbm, ⟨13, _⟩ => ⟨S512x1024, .f32⟩
  | .hbm, ⟨14, _⟩ => ⟨S_, .f32⟩
  | .hbm, ⟨15, _⟩ => ⟨S512x1024, .f32⟩
  | .hbm, ⟨16, _⟩ => ⟨S512x1024, .f32⟩
  | .hbm, ⟨17, _⟩ => ⟨S512x1024, .f32⟩
  | .hbm, ⟨18, _⟩ => ⟨S_, .f32⟩
  | .hbm, ⟨19, _⟩ => ⟨S512x1024, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S_, .f32⟩
  | .hbm, ⟨26, _⟩ => ⟨S512x1024, .f32⟩
  | .hbm, ⟨27, _⟩ => ⟨S512x1024, .f32⟩
  | .hbm, ⟨28, _⟩ => ⟨S512x1024, .f32⟩
  | .hbm, ⟨29, _⟩ => ⟨S_, .f32⟩
  | .hbm, ⟨30, _⟩ => ⟨S512x1024, .f32⟩
  | .hbm, ⟨31, _⟩ => ⟨S512x1024, .f32⟩
  | .hbm, ⟨32, _⟩ => ⟨S512x1024, .f32⟩
  | .hbm, ⟨33, _⟩ => ⟨S_, .f32⟩
  | .hbm, ⟨34, _⟩ => ⟨S512x1024, .f32⟩
  | .hbm, ⟨35, _⟩ => ⟨S512x1024, .f32⟩
  | .hbm, ⟨36, _⟩ => ⟨S512x1024, .f32⟩
  | .hbm, ⟨37, _⟩ => ⟨S_, .f32⟩
  | .hbm, ⟨38, _⟩ => ⟨S512x1024, .f32⟩
  | .hbm, ⟨39, _⟩ => ⟨S512x1024, .f32⟩
  | _, _ => ⟨S8x512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Proof.InFwd.lean ====
/-
  The input projection of a layer: each of the kernel's sixteen row blocks multiplies by the weight's first columns and,
  apart, by its last ones, the gates', which the host pads with columns of zeros.
-/
module

public import proofs.«01_k».proof.Proof.Gen.Kernel16Ideal.Frame
public import proofs.«01_k».proof.Proof.Gen.Reference16Ideal.Read
public import Idealize.ShloMosaic.Lib.Pipeline.ValueKit

@[expose] public section

set_option maxRecDepth 16384

noncomputable section

namespace Cert.Kernel16Ideal.InFwd

open Cert.Kernel16Ideal Cert.Kernel16Ideal.Gen Idealize.ShloMosaic Idealize.ShloMosaic.TcCoe Idealize.SL.Sem
open Idealize.ShloMosaic.Pipeline (Dat)

section
variable (h : Vec Ideal S512x1024 .bf16) (w : Vec Ideal S1024x3072 .bf16) (g : Vec Ideal S1024x128 .bf16)

theorem same_eq (r : Fin 512) (k : Fin 1024) : k0_pay1 h (ix2 r k) = h (ix2 r k) := by
  pointwise [k0_pay1]
theorem main_eq (r : Fin 512) (j : Fin 3072) : k0_pay3 h w (ix2 r j) = ∑ k : Fin 1024, (h (ix2 r k) : EReal) * w (ix2 k j) := by
  pointwise [k0_pay3]
theorem gate_eq (r : Fin 512) (j : Fin 128) : k0_pay2 h g (ix2 r j) = ∑ k : Fin 1024, (h (ix2 r k) : EReal) * g (ix2 k j) := by
  pointwise [k0_pay2]
end

/-- What the two programs pad with. -/
theorem filler (f : FTy) : (FloatOps.sitofp (F := Ideal) f 0#32 : EReal) = 0 := by
  change (((0#32 : BitVec 32).toInt : ℝ) : EReal) = 0
  simp

section
open Cert.Reference16Ideal.Read
variable (H : S8192x1024.Idx → EReal) (W : S1024x3080.Idx → EReal)

theorem ref_first (r : Fin 8192) (j : Fin 3072) : val_main_v4 (F := Ideal) H W (ix2 r j) = ∑ k : Fin 1024, H (ix2 r k) * W (ix2 k ⟨j.val, by omega⟩) := by
  pointwise [val_main_v4, val_main_v3, val_main_v2, val_main_v1, val_main_v0]
theorem ref_gate (r : Fin 8192) (j : Fin 8) : val_main_v5 (F := Ideal) H W (ix2 r j) = ∑ k : Fin 1024, H (ix2 r k) * W (ix2 k ⟨3072 + j.val, by omega⟩) := by
  pointwise [val_main_v5, val_main_v2, val_main_v1, val_main_v0]
theorem ref_second (r : Fin 8192) (j : Fin 128) : val_main_v6 (F := Ideal) H W (ix2 r j)
    = if h : j.val < 8 then ∑ k : Fin 1024, H (ix2 r k) * W (ix2 k ⟨3072 + j.val, by omega⟩) else 0 := by
  unfold val_main_v6
  pointwise [val_main_call0_v0, val_main_c]
  rw [filler]
  split
  · exact ref_gate H W r ⟨j.val, by assumption⟩
  · rfl
end

variable (m : (ℓ : Loc nD τ sig) → Buf (Elt Ideal) ℓ) (c : Dev nD)

/-- The block of every window at every grid point. -/
theorem idx : ∀ t : Fin cfg0.N, win0_0.index t = ![t.val, 0] ∧ win0_2.index t = ![0, 0] ∧ win0_3.index t = ![0, 0] ∧ win0_4.index t = ![t.val, 0] ∧ win0_5.index t = ![t.val, 0] :=
  (by decide +kernel : ∀ t : Fin grid0.N, _)

/-- The row of the stream that row `r` of block `t` is. -/
def at_ (t : Fin cfg0.N) (r : Fin 512) : Fin 8192 := ⟨t.val * 512 + r.val, by have h : t.val < 16 := t.isLt; omega⟩

abbrev H : S8192x1024.Idx → EReal := m ((c : Thread nD τ).loc main_arg0)
abbrev W : S1024x3080.Idx → EReal := m ((c : Thread nD τ).loc main_arg2)

/-- The weight the host pads, at a column. -/
def padded (k : Fin 1024) (j : Fin 3200) : EReal := if h : j.val < 3080 then W m c (ix2 k ⟨j.val, h⟩) else 0

theorem pad_apply (k : Fin 1024) (j : Fin 3200) : pad S1024x3200 ![0, 0] ![0, 120] ![0, 0] (W m c : Vec Ideal S1024x3080 .bf16) (sitofp (F := Ideal) .bf16 (constantI S_ 32 0#32)) pads_S1024x3080_S1024x3200_000_01200 h_S_ (ix2 k j) = padded m c k j := by
  unfold padded
  pointwise
  rw [filler]
theorem w_apply (k : Fin 1024) (j : Fin 3072) : V m c main_v1 (ix2 k j) = W m c (ix2 k ⟨j.val, by omega⟩) := by
  unfold V
  simp only [hostOps0, hostOps0_1, hostOps0_2, List.flatten_cons, List.flatten_nil, List.append_nil, List.cons_append, List.nil_append]
  entry_read
  pointwise
  refine (pad_apply m c k ⟨j.val, by omega⟩).trans ?_
  exact dif_pos (by change j.val < 3080; omega)
theorem g_apply (k : Fin 1024) (j : Fin 128) : V m c main_v2 (ix2 k j) = padded m c k ⟨3072 + j.val, by omega⟩ := by
  unfold V
  simp only [hostOps0, hostOps0_1, hostOps0_2, List.flatten_cons, List.flatten_nil, List.append_nil, List.cons_append, List.nil_append]
  entry_read
  pointwise
  exact pad_apply m c k ⟨3072 + j.val, by omega⟩

theorem h_blk (t : Fin cfg0.N) (r : Fin 512) (k : Fin 1024) : iblk m c 0 t (ix2 r k) = H m c (ix2 (at_ t r) k) := by
  blk_ext [iblk, V, idx t, at_]
theorem w_blk (t : Fin cfg0.N) (k : Fin 1024) (j : Fin 3072) : iblk m c 2 t (ix2 k j) = W m c (ix2 k ⟨j.val, by omega⟩) := by
  refine Eq.trans ?_ (w_apply m c k j)
  blk_ext [iblk, idx t]
theorem g_blk (t : Fin cfg0.N) (k : Fin 1024) (j : Fin 128) : iblk m c 3 t (ix2 k j) = padded m c k ⟨3072 + j.val, by omega⟩ := by
  refine Eq.trans ?_ (g_apply m c k j)
  blk_ext [iblk, idx t]

/-- The gates' columns: a product in the first eight, zero in the padding. -/
theorem gates (f : Fin 1024 → EReal) (j : Fin 128) : ∑ k : Fin 1024, f k * padded m c k ⟨3072 + j.val, by omega⟩
    = if h : j.val < 8 then ∑ k : Fin 1024, f k * W m c (ix2 k ⟨3072 + j.val, by omega⟩) else 0 := by
  by_cases h : j.val < 8
  · rw [dif_pos h]
    exact Finset.sum_congr rfl fun k _ => congrArg (f k * ·) (dif_pos (show 3072 + j.val < 3080 by omega))
  · rw [dif_neg h]
    exact Finset.sum_eq_zero fun k _ => (congrArg (f k * ·) (dif_neg (show ¬3072 + j.val < 3080 by omega))).trans (mul_zero _)

/-- The first result after the run: the projection's first columns. -/
theorem final4 : (dats m 0 c).arrAt 4 (cfgs 0).N = Cert.Reference16Ideal.Read.val_main_v4 (F := Ideal) (H m c) (W m c) := by
  refine (dats m 0 c).arrAt_eq_of_covers 4 _ (by decide +kernel) fun t _ y => ?_
  blk_simp
  obtain ⟨r, j, rfl⟩ : ∃ (r : Fin 512) (j : Fin 3072), y = ix2 r j := ⟨y 0, y 1, by idx_vars y⟩
  rw [after0_4]; unfold outsAt0; frame_out
  refine (main_eq _ _ r j).trans ?_
  simp only [same_eq, h_blk, w_blk]
  refine (ref_first (H m c) (W m c) (at_ t r) j).symm.trans ?_
  blk_ext [idx t, at_]

/-- The second result after the run: the gates, padded. -/
theorem final5 : (dats m 0 c).arrAt 5 (cfgs 0).N = Cert.Reference16Ideal.Read.val_main_v6 (F := Ideal) (H m c) (W m c) := by
  refine (dats m 0 c).arrAt_eq_of_covers 5 _ (by decide +kernel) fun t _ y => ?_
  blk_simp
  obtain ⟨r, j, rfl⟩ : ∃ (r : Fin 512) (j : Fin 128), y = ix2 r j := ⟨y 0, y 1, by idx_vars y⟩
  rw [after0_5]; unfold outsAt0; frame_out
  refine (gate_eq _ _ r j).trans ?_
  simp only [same_eq, h_blk, g_blk]
  rw [gates]
  refine (ref_second (H m c) (W m c) (at_ t r) j).symm.trans ?_
  blk_ext [idx t, at_]

end Cert.Kernel16Ideal.InFwd

end
-- ==== Proof.DownGrad.lean ====
/-
  The gradient of the down projection's weight: for each block of its rows the kernel squares the activation, multiplies
  it transposed by the upstream gradient over the first half of the rows, and adds the product over the second half.
-/
module

public import proofs.«01_k».proof.Proof.Gen.Kernel17Ideal.Frame
public import proofs.«01_k».proof.Proof.Gen.Reference17Ideal.Read
public import Idealize.ShloMosaic.Lib.Pipeline.ValueKit

@[expose] public section

set_option maxRecDepth 16384

noncomputable section

namespace Cert.Kernel17Ideal.DownGrad

open Cert.Kernel17Ideal Cert.Kernel17Ideal.Gen Idealize.ShloMosaic Idealize.ShloMosaic.TcCoe Idealize.SL.Sem
open Idealize.ShloMosaic.Pipeline (Dat)

/-- A product of squared rows with upstream rows, summed over the rows. -/
def prod {n : ℕ} (a d : Fin n → EReal) : EReal := ∑ r : Fin n, a r * a r * d r

section
variable (a d : Vec Ideal S4096x1024 .bf16) (s : Vec Ideal S1024x1024 .f32)

theorem half_eq (i j : Fin 1024) : k0_pay1 a d (ix2 i j) = prod (fun r => a (ix2 r i)) (fun r => d (ix2 r j)) := by
  pointwise [k0_pay1]; rfl
theorem kept_eq (i j : Fin 1024) : k0_pay2 a d (ix2 i j) = prod (fun r => a (ix2 r i)) (fun r => d (ix2 r j)) := by
  pointwise [k0_pay2]; rw [half_eq]
theorem both_eq (i j : Fin 1024) : k0_pay4 a d s (ix2 i j) = (s (ix2 i j) : EReal) + prod (fun r => a (ix2 r i)) (fun r => d (ix2 r j)) := by
  pointwise [k0_pay4]; rw [half_eq]
end

section
open Cert.Reference17Ideal.Read
variable (U : S8192x4096.Idx → EReal) (D : S8192x1024.Idx → EReal)

theorem ref_eq (i : Fin 4096) (j : Fin 1024) : val_main_v7 (F := Ideal) U D (ix2 i j) = prod (fun r => max (U (ix2 r i)) 0) (fun r => D (ix2 r j)) := by
  pointwise [val_main_v7, val_main_v6, val_main_v5, val_main_v4, val_main_v2, val_main_v1, val_main_call0_v0, val_main_call0_cst]
  exact Finset.sum_congr rfl fun r _ => mul_comm _ _
end

variable (m : (ℓ : Loc nD τ sig) → Buf (Elt Ideal) ℓ) (c : Dev nD)

/-- The block of every window at every grid point. -/
theorem idx : ∀ t : Fin cfg0.N, win0_0.index t = ![t.val % 2, t.val / 2] ∧ win0_1.index t = ![t.val % 2, 0] ∧ win0_2.index t = ![t.val / 2, 0] :=
  (by decide +kernel : ∀ t : Fin grid0.N, _)

/-- The row of the stream that row `r` of the half at point `t` is. -/
def row (t : Fin cfg0.N) (r : Fin 4096) : Fin 8192 := ⟨t.val % 2 * 4096 + r.val, by omega⟩
/-- The row of the weight that row `i` of the block at point `t` is. -/
def col (t : Fin cfg0.N) (i : Fin 1024) : Fin 4096 := ⟨t.val / 2 * 1024 + i.val, by have h : t.val < 8 := t.isLt; omega⟩

abbrev U : S8192x4096.Idx → EReal := m ((c : Thread nD τ).loc main_arg0)
abbrev D : S8192x1024.Idx → EReal := m ((c : Thread nD τ).loc main_arg2)

theorem act_apply (r : Fin 8192) (i : Fin 4096) : V m c main_v2 (ix2 r i) = max (U m c (ix2 r i)) 0 := by
  entry_read
  pointwise
theorem a_blk (t : Fin cfg0.N) (r : Fin 4096) (i : Fin 1024) : iblk m c 0 t (ix2 r i) = max (U m c (ix2 (row t r) (col t i))) 0 := by
  refine Eq.trans ?_ (act_apply m c _ _)
  blk_ext [iblk, idx t, row, col]
theorem d_blk (t : Fin cfg0.N) (r : Fin 4096) (j : Fin 1024) : iblk m c 1 t (ix2 r j) = D m c (ix2 (row t r) j) := by
  blk_ext [iblk, V, idx t, row]

/-- The gradient at a row and a column of the weight. -/
abbrev whole (i : Fin 4096) (j : Fin 1024) : EReal := prod (fun r => max (U m c (ix2 r i)) 0) (fun r => D m c (ix2 r j))
/-- What the half at a grid point adds to it. -/
abbrev half (t : Fin cfg0.N) (i j : Fin 1024) : EReal := prod (fun r => max (U m c (ix2 (row t r) (col t i))) 0) (fun r => D m c (ix2 (row t r) j))

/-- The two halves add up to the sum over all rows. -/
theorem halves (s t : Fin cfg0.N) (hs : s.val % 2 = 0) (ht : t.val % 2 = 1) (hst : s.val / 2 = t.val / 2) (i j : Fin 1024) :
    half m c s i j + half m c t i j = whole m c (col t i) j := by
  have hc : col s i = col t i := Fin.ext (by change s.val / 2 * 1024 + i.val = t.val / 2 * 1024 + i.val; rw [hst])
  have h0 (r : Fin 4096) : row s r = (Fin.castAdd 4096 r : Fin (4096 + 4096)) := Fin.ext (by change s.val % 2 * 4096 + r.val = r.val; rw [hs]; omega)
  have h1 (r : Fin 4096) : row t r = (Fin.natAdd 4096 r : Fin (4096 + 4096)) := Fin.ext (by change t.val % 2 * 4096 + r.val = 4096 + r.val; rw [ht])
  unfold half whole prod
  rw [hc, Fin.sum_univ_add (a := 4096) (b := 4096)]
  simp only [h0, h1]

/-- What the first point of a block leaves in the accumulator. -/
theorem out_even (t : Fin cfg0.N) (h : t.val % 2 = 0) (i j : Fin 1024) : (outsAt0 m c t.val t.isLt).2 (ix2 i j) = half m c t i j := by
  rw [outsAt0_A m c t h (by omega)]; frame_out
  rw [kept_eq]
  simp only [a_blk, d_blk]
/-- What the second point of a block stores to the result. -/
theorem out_odd (t : Fin cfg0.N) (h : t.val % 2 = 1) (i j : Fin 1024) : (outsAt0 m c t.val t.isLt).1 (ix2 i j) = whole m c (col t i) j := by
  rw [outsAt0_B m c t (by omega) h]; frame_out
  rw [both_eq]
  simp only [a_blk, d_blk]
  refine Eq.trans ?_ (halves m c ⟨t.val - 1, by omega⟩ t (by change (t.val - 1) % 2 = 0; omega) h (by change (t.val - 1) / 2 = t.val / 2; omega) i j)
  refine congrArg (· + _) ((congrFun ((Memref.isWhole_whole cc0_scratch0).read_unread _) _).trans ?_)
  exact out_even m c ⟨t.val - 1, by omega⟩ (by change (t.val - 1) % 2 = 0; omega) i j

/-- The result after the run: the weight's gradient. -/
theorem final2 : (dats m 0 c).arrAt 2 (cfgs 0).N = Cert.Reference17Ideal.Read.val_main_v7 (F := Ideal) (U m c) (D m c) := by
  refine (dats m 0 c).arrAt_eq_of_covers 2 _ (by decide +kernel) fun t hf y => ?_
  blk_simp
  rw [after0_2]
  obtain ⟨i, j, rfl⟩ : ∃ (i : Fin 1024) (j : Fin 1024), y = ix2 i j := ⟨y 0, y 1, by idx_vars y⟩
  refine (out_odd m c t ((flush0_2 t).mp hf) i j).trans ?_
  refine (ref_eq (U m c) (D m c) (col t i) j).symm.trans ?_
  blk_ext [idx t, col]

end Cert.Kernel17Ideal.DownGrad

end
-- ==== Proof.PieceGrad.lean ====
/-
  The gradient of the input projection's weight at the forgetting attention's columns: over four row blocks the kernel adds
  the products of the transposed stream with four pieces, each into its own columns of one accumulator.
-/
module

public import proofs.«01_k».proof.Proof.Gen.Kernel18Ideal.Frame
public import proofs.«01_k».proof.Proof.Gen.Reference18Ideal.Read
public import Idealize.ShloMosaic.Lib.Pipeline.ValueKit

@[expose] public section

set_option maxRecDepth 16384

noncomputable section

namespace Cert.Kernel18Ideal.PieceGrad

open Cert.Kernel18Ideal Cert.Kernel18Ideal.Gen Idealize.ShloMosaic Idealize.ShloMosaic.TcCoe Idealize.SL.Sem
open Idealize.ShloMosaic.Pipeline (Dat)

/-- Four pieces side by side, and zeros behind them. -/
def pick (a b c : Fin 512 → EReal) (g : Fin 8 → EReal) (j : ℕ) : EReal :=
  if h : j < 512 then a ⟨j, h⟩
  else if h : j < 1024 then b ⟨j - 512, by omega⟩
  else if h : j < 1536 then c ⟨j - 1024, by omega⟩
  else if h : j < 1544 then g ⟨j - 1536, by omega⟩
  else 0

section
variable (a b c : Fin 512 → EReal) (g : Fin 8 → EReal)

theorem pick_a (k : Fin 512) : pick a b c g (0 + k.val) = a k := by
  unfold pick
  rw [dif_pos (by omega)]
  exact congrArg a (Fin.ext (Nat.zero_add _))
theorem pick_b (k : Fin 512) : pick a b c g (512 + k.val) = b k := by
  unfold pick
  rw [dif_neg (by omega), dif_pos (by omega)]
  exact congrArg b (Fin.ext (Nat.add_sub_cancel_left ..))
theorem pick_c (k : Fin 512) : pick a b c g (1024 + k.val) = c k := by
  unfold pick
  rw [dif_neg (by omega), dif_neg (by omega), dif_pos (by omega)]
  exact congrArg c (Fin.ext (Nat.add_sub_cancel_left ..))
theorem pick_g (k : Fin 128) : pick a b c g (1536 + k.val) = if h : k.val < 8 then g ⟨k.val, h⟩ else 0 := by
  unfold pick
  rw [dif_neg (by omega), dif_neg (by omega), dif_neg (by omega)]
  by_cases h : k.val < 8
  · rw [dif_pos (by omega), dif_pos h]
    exact congrArg g (Fin.ext (Nat.add_sub_cancel_left ..))
  · rw [dif_neg (by omega), dif_neg h]
end

/-- A transposed product at a place. -/
def prod {n w : ℕ} (h : Vec Ideal (⟨2, ![n, 1024]⟩ : Shape) .bf16) (x : Vec Ideal (⟨2, ![n, w]⟩ : Shape) .bf16) (i : Fin 1024) (k : Fin w) : EReal :=
  ∑ r : Fin n, (h (ix2 r i) : EReal) * x (ix2 r k)

section
variable (h : Vec Ideal S2048x1024 .bf16) (x : Vec Ideal S2048x512 .bf16) (g : Vec Ideal S2048x128 .bf16) (s : Vec Ideal S1024x512 .f32) (z : Vec Ideal S1024x128 .f32)
  (i : Fin 1024) (k : Fin 512) (l : Fin 128)

theorem first_eq : k0_pay6 h x (ix2 i k) = prod h x i k := by
  pointwise [k0_pay6, k0_pay5]; rfl
theorem second_eq : k0_pay9 h x (ix2 i k) = prod h x i k := by
  pointwise [k0_pay9, k0_pay8]; rfl
theorem third_eq : k0_pay12 h x (ix2 i k) = prod h x i k := by
  pointwise [k0_pay12, k0_pay11]; rfl
theorem gate_eq : k0_pay2 h (k0_pay14 g) (constant S1024x128 FTy.f32 0#32) (ix2 i l) = prod h g i l := by
  pointwise [k0_pay2, k0_pay1, k0_pay14]; rfl
theorem first_add : k0_pay7 h x s (ix2 i k) = s (ix2 i k) + prod h x i k := by
  pointwise [k0_pay7, k0_pay5]; rfl
theorem second_add : k0_pay10 h x s (ix2 i k) = s (ix2 i k) + prod h x i k := by
  pointwise [k0_pay10, k0_pay8]; rfl
theorem third_add : k0_pay13 h x s (ix2 i k) = s (ix2 i k) + prod h x i k := by
  pointwise [k0_pay13, k0_pay11]; rfl
theorem gate_add : k0_pay3 h (k0_pay14 g) (constant S1024x128 FTy.f32 0#32) z (ix2 i l) = z (ix2 i l) + prod h g i l := by
  pointwise [k0_pay3, k0_pay1, k0_pay14]; rfl
theorem cast_eq (y : Vec Ideal S1024x1664 .f32) (j : Fin 1664) : k0_pay4 y (ix2 i j) = y (ix2 i j) := by
  pointwise [k0_pay4]
end

/-- The first `n` columns are written. -/
def Upto (L : List (View.Piece (Elt Ideal) S1024x1664 .f32)) (S : Fin 1024 → Fin 1664 → EReal) (n : ℕ) : Prop :=
  ∀ (i : Fin 1024) (j : Fin 1664), j.val < n → View.canon L (ix2 i j) = S i j

theorem Upto.push {L : List (View.Piece (Elt Ideal) S1024x1664 .f32)} {S : Fin 1024 → Fin 1664 → EReal} {a w : ℕ} (ha : a + w ≤ 1664)
    {v : Vec Ideal (⟨2, ![1024, w]⟩ : Shape) .f32} {h : ∀ i, (![0, a] : Fin 2 → ℕ) i + (![1024, w] : Fin 2 → ℕ) i ≤ S1024x1664.size i}
    (hw : ∀ i (k : Fin w), v (ix2 i k) = S i ⟨a + k.val, by omega⟩) (hL : Upto L S a) :
    Upto ((⟨Rect.unit (s := S1024x1664) ![0, a] ![1024, w] h, v⟩ : View.Piece (Elt Ideal) S1024x1664 .f32) :: L) S (a + w) := by
  intro i j hj
  by_cases hlt : j.val < a
  · rw [View.canon_cons_of_not_mem, hL i j hlt]
    intro hm
    have := ((Rect.mem_set_unit (inb := h)).mp hm) 1
    have h2 : a ≤ j.val := this.1
    omega
  · have hc : j.val - a < w := by omega
    have e : ix2 i j = (Rect.unit (s := S1024x1664) ![0, a] ![1024, w] h).emb (ix2 i (⟨j.val - a, hc⟩ : Fin w)) := by
      funext q; apply Fin.ext
      match q with
      | ⟨0, _⟩ => show i.val = 0 + 1 * i.val; omega
      | ⟨1, _⟩ => show j.val = a + 1 * (j.val - a); omega
    rw [e, View.canon_cons_emb, hw]
    exact congrArg (S i) (Fin.ext (by show a + (j.val - a) = j.val; omega))

/-- The accumulator read at one piece's columns. -/
theorem ld_at (x : Vec Ideal S1024x1664 .f32) {a w : ℕ} (ha : a + w ≤ 1664) (h) (i : Fin 1024) (k : Fin w) :
    View.ld x (Rect.unit (s := S1024x1664) ![0, a] ![1024, w] h) (ix2 i k) = x (ix2 i ⟨a + k.val, by omega⟩) := by
  refine congrArg x ?_
  ext q
  match q with
  | ⟨0, _⟩ => exact (Nat.zero_add _).trans (Nat.one_mul _)
  | ⟨1, _⟩ => exact congrArg (a + ·) (Nat.one_mul _)

/-- The whole accumulator read behind the stores of its pieces. -/
theorem read_at {sig : RefSig} {κ : Kind} {sp : Space} (v : View sig κ sp S1024x1664 .f32) {L : List (View.Piece (Elt Ideal) S1024x1664 .f32)}
    {h : ∀ i, (![0, 0] : Fin 2 → ℕ) i + (![1024, 1664] : Fin 2 → ℕ) i ≤ S1024x1664.size i} (i : Fin 1024) (j : Fin 1664) :
    v.readCov L (Rect.unit (s := S1024x1664) ![0, 0] ![1024, 1664] h).toLoadRect (ix2 i j) = View.canon L (ix2 i j) := by
  rw [View.readCov_eq_canon']
  refine congrArg (View.canon L) ?_
  funext q; apply Fin.ext
  match q with
  | ⟨0, _⟩ => show 0 + 1 * i.val = i.val; omega
  | ⟨1, _⟩ => show 0 + 1 * j.val = j.val; omega

/-- What the two programs pad with. -/
theorem filler (f : FTy) : (FloatOps.sitofp (F := Ideal) f 0#32 : EReal) = 0 := by
  change (((0#32 : BitVec 32).toInt : ℝ) : EReal) = 0
  simp

section
open Cert.Reference18Ideal.Read
variable (H : S8192x1024.Idx → EReal) (A B C : S8192x512.Idx → EReal) (G : S8192x8.Idx → EReal)

/-- A row of the joined cotangent. -/
abbrev joined (r : Fin 8192) (j : ℕ) : EReal := pick (fun k => A (ix2 r k)) (fun k => B (ix2 r k)) (fun k => C (ix2 r k)) (fun k => G (ix2 r k)) j
/-- The gradient at a row and a column of the weight. -/
abbrev whole (i : Fin 1024) (j : Fin 1664) : EReal := ∑ r : Fin 8192, H (ix2 r i) * joined A B C G r j.val

theorem ref_joined (r : Fin 8192) (j : Fin 1544) : val_main_v17 (F := Ideal) A B C G (ix2 r j) = joined A B C G r j.val := by
  pointwise [val_main_v17, val_main_v16, val_main_v15, val_main_v14, val_main_v13, val_main_v12, val_main_v11, val_main_v4, val_main_v3, val_main_v2, val_main_v1,
    val_main_cst, val_main_cst_0, val_main_cst_1, val_main_cst_2]
  unfold joined pick
  split_ifs <;> first | omega | simp only [zero_add, add_zero]
theorem ref_prod (i : Fin 1024) (j : Fin 1544) : val_main_v19 (F := Ideal) H A B C G (ix2 i j) = ∑ r : Fin 8192, H (ix2 r i) * joined A B C G r j.val := by
  pointwise [val_main_v19, val_main_v18, val_main_v0]
  exact Finset.sum_congr rfl fun r _ => (mul_comm _ _).trans (congrArg (H (ix2 r i) * ·) (ref_joined A B C G r j))
theorem ref_eq (i : Fin 1024) (j : Fin 1664) : val_main_v21 (F := Ideal) H A B C G (ix2 i j) = whole H A B C G i j := by
  pointwise [val_main_v21, val_main_v20, val_main_call0_v0, val_main_c]
  rw [filler]
  split
  · exact ref_prod H A B C G i ⟨j.val, by assumption⟩
  · rename_i h
    refine (Finset.sum_eq_zero fun r _ => ?_).symm
    unfold joined pick
    rw [dif_neg (by omega), dif_neg (by omega), dif_neg (by omega), dif_neg (by omega), mul_zero]
end

variable (m : (ℓ : Loc nD τ sig) → Buf (Elt Ideal) ℓ) (c : Dev nD)

/-- The block of every window at every grid point. -/
theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![0, 0] :=
  (by decide +kernel : ∀ t : Fin grid0.N, _)

/-- The row of the stream that row `r` of block `t` is. -/
def at_ (t : Fin cfg0.N) (r : Fin 2048) : Fin 8192 := ⟨t.val * 2048 + r.val, by have h : t.val < 4 := t.isLt; omega⟩

abbrev H : S8192x1024.Idx → EReal := m ((c : Thread nD τ).loc main_arg0)
abbrev A : S8192x512.Idx → EReal := m ((c : Thread nD τ).loc main_arg2)
abbrev B : S8192x512.Idx → EReal := m ((c : Thread nD τ).loc main_arg3)
abbrev C : S8192x512.Idx → EReal := m ((c : Thread nD τ).loc main_arg4)
abbrev G : S8192x8.Idx → EReal := m ((c : Thread nD τ).loc main_arg5)

/-- The gate's gradient that the host pads. -/
theorem g_apply (r : Fin 8192) (k : Fin 128) : V m c main_v0 (ix2 r k) = if h : k.val < 8 then G m c (ix2 r ⟨k.val, h⟩) else 0 := by
  unfold V
  simp only [hostOps0, hostOps0_1, List.flatten_cons, List.flatten_nil, List.append_nil, List.cons_append, List.nil_append]
  entry_read
  change pad S8192x128 ![0, 0] ![0, 120] ![0, 0] (G m c : Vec Ideal S8192x8 .bf16) (sitofp (F := Ideal) .bf16 (constantI S_ 32 0#32)) pads_S8192x8_S8192x128_000_01200 h_S_ (ix2 r k) = _
  pointwise
  rw [filler]

theorem h_blk (t : Fin cfg0.N) (r : Fin 2048) (i : Fin 1024) : iblk m c 0 t (ix2 r i) = H m c (ix2 (at_ t r) i) := by
  blk_ext [iblk, V, idx t, at_]
theorem a_blk (t : Fin cfg0.N) (r : Fin 2048) (k : Fin 512) : iblk m c 1 t (ix2 r k) = A m c (ix2 (at_ t r) k) := by
  blk_ext [iblk, V, idx t, at_]
theorem b_blk (t : Fin cfg0.N) (r : Fin 2048) (k : Fin 512) : iblk m c 2 t (ix2 r k) = B m c (ix2 (at_ t r) k) := by
  blk_ext [iblk, V, idx t, at_]
theorem c_blk (t : Fin cfg0.N) (r : Fin 2048) (k : Fin 512) : iblk m c 3 t (ix2 r k) = C m c (ix2 (at_ t r) k) := by
  blk_ext [iblk, V, idx t, at_]
theorem g_blk (t : Fin cfg0.N) (r : Fin 2048) (k : Fin 128) : iblk m c 4 t (ix2 r k) = if h : k.val < 8 then G m c (ix2 (at_ t r) ⟨k.val, h⟩) else 0 := by
  refine Eq.trans ?_ (g_apply m c (at_ t r) k)
  blk_ext [iblk, idx t, at_]

/-- What a row block adds at a row and a column of the weight. -/
def part (t : Fin cfg0.N) (i : Fin 1024) (j : Fin 1664) : EReal :=
  ∑ r : Fin 2048, H m c (ix2 (at_ t r) i) * joined (A m c) (B m c) (C m c) (G m c) (at_ t r) j.val

section
variable (t : Fin cfg0.N) (i : Fin 1024) (k : Fin 512) (l : Fin 128)

theorem part_a : prod (iblk m c 0 t) (iblk m c 1 t) i k = part m c t i ⟨0 + k.val, by omega⟩ := by
  refine Finset.sum_congr rfl fun r _ => ?_
  rw [h_blk, a_blk]
  exact congrArg (_ * ·) (pick_a (fun k => A m c (ix2 (at_ t r) k)) (fun k => B m c (ix2 (at_ t r) k)) (fun k => C m c (ix2 (at_ t r) k)) (fun k => G m c (ix2 (at_ t r) k)) k).symm
theorem part_b : prod (iblk m c 0 t) (iblk m c 2 t) i k = part m c t i ⟨512 + k.val, by omega⟩ := by
  refine Finset.sum_congr rfl fun r _ => ?_
  rw [h_blk, b_blk]
  exact congrArg (_ * ·) (pick_b (fun k => A m c (ix2 (at_ t r) k)) (fun k => B m c (ix2 (at_ t r) k)) (fun k => C m c (ix2 (at_ t r) k)) (fun k => G m c (ix2 (at_ t r) k)) k).symm
theorem part_c : prod (iblk m c 0 t) (iblk m c 3 t) i k = part m c t i ⟨1024 + k.val, by omega⟩ := by
  refine Finset.sum_congr rfl fun r _ => ?_
  rw [h_blk, c_blk]
  exact congrArg (_ * ·) (pick_c (fun k => A m c (ix2 (at_ t r) k)) (fun k => B m c (ix2 (at_ t r) k)) (fun k => C m c (ix2 (at_ t r) k)) (fun k => G m c (ix2 (at_ t r) k)) k).symm
theorem part_g : prod (iblk m c 0 t) (iblk m c 4 t) i l = part m c t i ⟨1536 + l.val, by omega⟩ := by
  refine Finset.sum_congr rfl fun r _ => ?_
  rw [h_blk, g_blk]
  exact congrArg (_ * ·) (pick_g (fun k => A m c (ix2 (at_ t r) k)) (fun k => B m c (ix2 (at_ t r) k)) (fun k => C m c (ix2 (at_ t r) k)) (fun k => G m c (ix2 (at_ t r) k)) l).symm
end

/-- The accumulator behind the first row block. -/
theorem out_zero (t : Fin cfg0.N) (h : t.val = 0) (i : Fin 1024) (j : Fin 1664) : (outsAt0 m c t.val t.isLt).2 (ix2 i j) = part m c t i j := by
  rw [outsAt0_A m c t (by omega) (by omega) (by omega) (by omega) (by omega) (by omega) (by omega) (by omega) (by omega)]; frame_out
  refine Upto.push (a := 1536) (w := 128) (by omega) (fun i k => (gate_eq ..).trans (part_g m c t i k)) ?_ i j j.isLt
  refine Upto.push (a := 1024) (w := 512) (by omega) (fun i k => (third_eq ..).trans (part_c m c t i k)) ?_
  refine Upto.push (a := 512) (w := 512) (by omega) (fun i k => (second_eq ..).trans (part_b m c t i k)) ?_
  refine Upto.push (a := 0) (w := 512) (by omega) (fun i k => (first_eq ..).trans (part_a m c t i k)) ?_
  exact fun i j h => absurd h (Nat.not_lt_zero _)

/-- The pieces stored at a later row block, over what the one before left. -/
theorem pieces (t : Fin cfg0.N) (p : Vec Ideal S1024x1664 .f32) (i : Fin 1024) (j : Fin 1664) :
    View.canon (Val := Elt Ideal) (e := .f32)
      [⟨Rect.unit (s := S1024x1664) ![0, 1536] ![1024, 128] inb_S1024x1664_S1024x128_0_1536, k0_pay3 (iblk m c 0 t) (k0_pay14 (iblk m c 4 t)) (constant S1024x128 FTy.f32 0#32)
          (View.ld p (Rect.unit (s := S1024x1664) ![0, 1536] ![1024, 128] inb_S1024x1664_S1024x128_0_1536))⟩,
        ⟨Rect.unit (s := S1024x1664) ![0, 1024] ![1024, 512] inb_S1024x1664_S1024x512_0_1024, k0_pay13 (iblk m c 0 t) (iblk m c 3 t)
          (View.ld p (Rect.unit (s := S1024x1664) ![0, 1024] ![1024, 512] inb_S1024x1664_S1024x512_0_1024))⟩,
        ⟨Rect.unit (s := S1024x1664) ![0, 512] ![1024, 512] inb_S1024x1664_S1024x512_0_512, k0_pay10 (iblk m c 0 t) (iblk m c 2 t)
          (View.ld p (Rect.unit (s := S1024x1664) ![0, 512] ![1024, 512] inb_S1024x1664_S1024x512_0_512))⟩,
        ⟨Rect.unit (s := S1024x1664) ![0, 0] ![1024, 512] inb_S1024x1664_S1024x512_0_0, k0_pay7 (iblk m c 0 t) (iblk m c 1 t)
          (View.ld p (Rect.unit (s := S1024x1664) ![0, 0] ![1024, 512] inb_S1024x1664_S1024x512_0_0))⟩] (ix2 i j)
    = (p (ix2 i j) : EReal) + part m c t i j := by
  refine Upto.push (S := fun i j => (p (ix2 i j) : EReal) + part m c t i j) (a := 1536) (w := 128) (by omega)
    (fun i k => (gate_add ..).trans (congrArg₂ (· + ·) (ld_at p (by omega) _ i k) (part_g m c t i k))) ?_ i j j.isLt
  refine Upto.push (a := 1024) (w := 512) (by omega) (fun i k => (third_add ..).trans (congrArg₂ (· + ·) (ld_at p (by omega) _ i k) (part_c m c t i k))) ?_
  refine Upto.push (a := 512) (w := 512) (by omega) (fun i k => (second_add ..).trans (congrArg₂ (· + ·) (ld_at p (by omega) _ i k) (part_b m c t i k))) ?_
  refine Upto.push (a := 0) (w := 512) (by omega) (fun i k => (first_add ..).trans (congrArg₂ (· + ·) (ld_at p (by omega) _ i k) (part_a m c t i k))) ?_
  exact fun i j h => absurd h (Nat.not_lt_zero _)

/-- The accumulator behind the first three row blocks. -/
theorem out_acc (n : ℕ) (hn : n < cfg0.N) (h3 : n < 3) (i : Fin 1024) (j : Fin 1664) : (outsAt0 m c n hn).2 (ix2 i j)
    = ∑ t : Fin (n + 1), part m c ⟨t, by omega⟩ i j := by
  induction n with
  | zero =>
    rw [Fin.sum_univ_one]
    exact out_zero m c ⟨0, hn⟩ rfl i j
  | succ n ih =>
    have e : ¬(n + 1) % 4 = 0 := by omega
    have f : 1 ≤ n + 1 := by omega
    rw [outsAt0_B m c ⟨n + 1, hn⟩ e f e f e f e f (by change ¬(n + 1) % 4 = 3; omega)]; frame_out
    refine (pieces m c ⟨n + 1, hn⟩ _ i j).trans ?_
    rw [Fin.sum_univ_castSucc]
    refine congrArg (· + _) ((congrFun ((Memref.isWhole_whole cc0_scratch0).read_unread _) _).trans ?_)
    exact ih (by omega) (by omega)

/-- The row blocks' parts add up to the sum over all rows. -/
theorem total_eq (i : Fin 1024) (j : Fin 1664) : ∑ t : Fin 4, part m c t i j = whole (H m c) (A m c) (B m c) (C m c) (G m c) i j := by
  unfold part
  exact Fin.sum_mul_add_congr (S := 4) (n := 2048) fun t r hl => rfl

/-- The result after the run: the weight's gradient. -/
theorem final5 : (dats m 0 c).arrAt 5 (cfgs 0).N = Cert.Reference18Ideal.Read.val_main_v21 (F := Ideal) (H m c) (A m c) (B m c) (C m c) (G m c) := by
  refine (dats m 0 c).arrAt_eq_of_covers 5 _ (by decide +kernel) fun t hf y => ?_
  have h3 : t.val % 4 = 3 := (flush0_5 t).mp hf
  have ht : t.val = 3 := by have : t.val < 4 := t.isLt; omega
  blk_simp
  obtain ⟨i, j, rfl⟩ : ∃ (i : Fin 1024) (j : Fin 1664), y = ix2 i j := ⟨y 0, y 1, by idx_vars y⟩
  rw [after0_5, outsAt0_C m c t (by omega) (by omega) (by omega) (by omega) (by omega) (by omega) (by omega) (by omega) h3]; frame_out
  rw [cast_eq]
  refine (read_at _ i j).trans ((pieces m c t _ i j).trans ?_)
  refine Eq.trans ?_ ((total_eq m c i j).trans ((ref_eq (H m c) (A m c) (B m c) (C m c) (G m c) i j).symm.trans ?_))
  · rw [Fin.sum_univ_castSucc]
    obtain ⟨t, h⟩ := t
    obtain rfl : t = 3 := ht
    refine congrArg (· + _) ((congrFun ((Memref.isWhole_whole cc0_scratch0).read_unread _) _).trans ?_)
    exact out_acc m c 2 _ (by omega) i j
  · blk_ext [idx t]

end Cert.Kernel18Ideal.PieceGrad

end
-- ==== Proof.Optimiser.lean ====
/-
  The optimiser's step for the down projection: each of the kernel's two row blocks adds the eight gradients, moves the two
  averages and forms the change of the weight.
-/
module

public import proofs.«01_k».proof.Proof.Gen.Kernel19Ideal.Frame
public import proofs.«01_k».proof.Proof.Gen.Reference19Ideal.Read
public import Idealize.ShloMosaic.Lib.Pipeline.ValueKit

@[expose] public section

set_option maxRecDepth 16384

noncomputable section

namespace Cert.Kernel19Ideal.Optimiser

open Cert.Kernel19Ideal Cert.Kernel19Ideal.Gen Idealize.ShloMosaic Idealize.ShloMosaic.TcCoe Idealize.SL.Sem
open Idealize.ShloMosaic.Pipeline (Dat)

/-- A word of the program read as a number. -/
abbrev num (b : BitVec 32) : EReal := FloatOps.ofBits (F := Ideal) .f32 b
/-- The first average. -/
def mean (g m : EReal) : EReal := num 0x3F666666#32 * m + num 0x3DCCCCCD#32 * g
/-- The average of the squares. -/
def square (g v : EReal) : EReal := num 0x3F7FBE77#32 * v + num 0x3A83126F#32 * (g * g)
/-- The change of the weight. -/
def change (g w m v : EReal) : EReal :=
  num 0xBA83126F#32 * (Ideal.div (Ideal.div (mean g m) (num 0x3F26BD02#32)) (Ideal.sqrt (Ideal.div (square g v) (num 0x3C231ACC#32)) + num 0x322BCC77#32) + num 0x3C23D70A#32 * w)

section
variable (p : Vec Ideal S8x256x1024 .bf16) (w m v : Vec Ideal S256x1024 .f32) (g : Vec Ideal S256x1024 .f32)

theorem mean_eq (y : S256x1024.Idx) : k0_pay1 g m (Scalar.ofBits .f32 0x3F666666#32) y = mean (g y) (m y) := by
  pointwise [k0_pay1]; rfl
theorem square_eq (y : S256x1024.Idx) : k0_pay2 g v y = square (g y) (v y) := by
  pointwise [k0_pay2]; rfl
theorem change_eq (y : S256x1024.Idx) : k0_pay3 g m (Scalar.ofBits .f32 0x3F666666#32) v w y = change (g y) (w y) (m y) (v y) := by
  pointwise [k0_pay3]
  rw [square_eq, show k0_pay1 g m (Ideal.ofBits .f32 0x3F666666#32) y = _ from mean_eq m g y]; rfl
theorem grad_eq (r : Fin 256) (j : Fin 1024) : k0_pay5 p w m v (ix2 r j) = ∑ q : Fin 8, (p (ix3 q r j) : EReal) := by
  pointwise [k0_pay5, k0_pay4]
  rw [Fin.sum_univ_eight]
end

section
open Cert.Reference19Ideal.Read
variable (P : S8x512x1024.Idx → EReal) (W M V : S512x1024.Idx → EReal)

theorem ref_grad (r : Fin 512) (j : Fin 1024) : val_main_v1 (F := Ideal) P (ix2 r j) = ∑ q : Fin 8, P (ix3 q r j) := by
  pointwise [val_main_v1, val_main_v0, val_main_cst]
theorem ref_mean (y : S512x1024.Idx) : val_main_v6 (F := Ideal) P M y = mean (val_main_v1 (F := Ideal) P y) (M y) := by
  pointwise [val_main_v6, val_main_v5, val_main_v4, val_main_v3, val_main_v2, val_main_cst_0, val_main_cst_1]; rfl
theorem ref_square (y : S512x1024.Idx) : val_main_v12 (F := Ideal) P V y = square (val_main_v1 (F := Ideal) P y) (V y) := by
  pointwise [val_main_v12, val_main_v11, val_main_v10, val_main_v9, val_main_v8, val_main_v7, val_main_cst_2, val_main_cst_3]; rfl
theorem ref_change (y : S512x1024.Idx) : val_main_v25 (F := Ideal) P W M V y = change (val_main_v1 (F := Ideal) P y) (W y) (M y) (V y) := by
  pointwise [val_main_v25, val_main_v24, val_main_v23, val_main_v22, val_main_v21, val_main_v20, val_main_v19, val_main_v18, val_main_v17, val_main_v16, val_main_v15, val_main_v14, val_main_v13,
    val_main_cst_4, val_main_cst_5, val_main_cst_6, val_main_cst_7, val_main_cst_8]
  rw [ref_mean, ref_square]; rfl
end

variable (m : (ℓ : Loc nD τ sig) → Buf (Elt Ideal) ℓ) (c : Dev nD)

/-- The block of every window at every grid point. -/
theorem idx : ∀ t : Fin cfg0.N, win0_0.index t = ![0, t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

/-- The row of the weight that row `r` of block `t` is. -/
def at_ (t : Fin cfg0.N) (r : Fin 256) : Fin 512 := ⟨t.val * 256 + r.val, by have h : t.val < 2 := t.isLt; omega⟩

abbrev P : S8x512x1024.Idx → EReal := m ((c : Thread nD τ).loc main_arg0)
abbrev W : S512x1024.Idx → EReal := m ((c : Thread nD τ).loc main_arg1)
abbrev M : S512x1024.Idx → EReal := m ((c : Thread nD τ).loc main_arg2)
abbrev S : S512x1024.Idx → EReal := m ((c : Thread nD τ).loc main_arg3)

theorem p_blk (t : Fin cfg0.N) (q : Fin 8) (r : Fin 256) (j : Fin 1024) : iblk m c 0 t (ix3 q r j) = P m c (ix3 q (at_ t r) j) := by
  blk_ext [iblk, V, idx t, at_]
theorem w_blk (t : Fin cfg0.N) (r : Fin 256) (j : Fin 1024) : iblk m c 1 t (ix2 r j) = W m c (ix2 (at_ t r) j) := by
  blk_ext [iblk, V, idx t, at_]
theorem m_blk (t : Fin cfg0.N) (r : Fin 256) (j : Fin 1024) : iblk m c 2 t (ix2 r j) = M m c (ix2 (at_ t r) j) := by
  blk_ext [iblk, V, idx t, at_]
theorem s_blk (t : Fin cfg0.N) (r : Fin 256) (j : Fin 1024) : iblk m c 3 t (ix2 r j) = S m c (ix2 (at_ t r) j) := by
  blk_ext [iblk, V, idx t, at_]
/-- The sum of the gradients at a grid point is the reference's. -/
theorem grad_at (t : Fin cfg0.N) (r : Fin 256) (j : Fin 1024) : k0_pay5 (iblk m c 0 t) (iblk m c 1 t) (iblk m c 2 t) (iblk m c 3 t) (ix2 r j)
    = Cert.Reference19Ideal.Read.val_main_v1 (F := Ideal) (P m c) (ix2 (at_ t r) j) := by
  rw [grad_eq, ref_grad]
  simp only [p_blk]

/-- The first result after the run: the gradient. -/
theorem final4 : (dats m 0 c).arrAt 4 (cfgs 0).N = Cert.Reference19Ideal.Read.val_main_v1 (F := Ideal) (P m c) := by
  refine (dats m 0 c).arrAt_eq_of_covers 4 _ (by decide +kernel) fun t _ y => ?_
  blk_simp
  obtain ⟨r, j, rfl⟩ : ∃ (r : Fin 256) (j : Fin 1024), y = ix2 r j := ⟨y 0, y 1, by idx_vars y⟩
  rw [after0_4]; frame_out
  refine (grad_at m c t r j).trans ?_
  blk_ext [idx t, at_]

/-- The second result after the run: the change of the weight. -/
theorem final5 : (dats m 0 c).arrAt 5 (cfgs 0).N = Cert.Reference19Ideal.Read.val_main_v25 (F := Ideal) (P m c) (W m c) (M m c) (S m c) := by
  refine (dats m 0 c).arrAt_eq_of_covers 5 _ (by decide +kernel) fun t _ y => ?_
  blk_simp
  obtain ⟨r, j, rfl⟩ : ∃ (r : Fin 256) (j : Fin 1024), y = ix2 r j := ⟨y 0, y 1, by idx_vars y⟩
  rw [after0_5]; frame_out
  rw [change_eq, grad_at, w_blk, m_blk, s_blk]
  refine (ref_change (P m c) (W m c) (M m c) (S m c) (ix2 (at_ t r) j)).symm.trans ?_
  blk_ext [idx t, at_]

/-- The third result after the run: the first average. -/
theorem final6 : (dats m 0 c).arrAt 6 (cfgs 0).N = Cert.Reference19Ideal.Read.val_main_v6 (F := Ideal) (P m c) (M m c) := by
  refine (dats m 0 c).arrAt_eq_of_covers 6 _ (by decide +kernel) fun t _ y => ?_
  blk_simp
  obtain ⟨r, j, rfl⟩ : ∃ (r : Fin 256) (j : Fin 1024), y = ix2 r j := ⟨y 0, y 1, by idx_vars y⟩
  rw [after0_6]; frame_out
  rw [mean_eq, grad_at, m_blk]
  refine (ref_mean (P m c) (M m c) (ix2 (at_ t r) j)).symm.trans ?_
  blk_ext [idx t, at_]

/-- The fourth result after the run: the average of the squares. -/
theorem final7 : (dats m 0 c).arrAt 7 (cfgs 0).N = Cert.Reference19Ideal.Read.val_main_v12 (F := Ideal) (P m c) (S m c) := by
  refine (dats m 0 c).arrAt_eq_of_covers 7 _ (by decide +kernel) fun t _ y => ?_
  blk_simp
  obtain ⟨r, j, rfl⟩ : ∃ (r : Fin 256) (j : Fin 1024), y = ix2 r j := ⟨y 0, y 1, by idx_vars y⟩
  rw [after0_7]; frame_out
  rw [square_eq, grad_at, s_blk]
  refine (ref_square (P m c) (S m c) (ix2 (at_ t r) j)).symm.trans ?_
  blk_ext [idx t, at_]

end Cert.Kernel19Ideal.Optimiser

end
-- ==== Proof.ActValue.lean ====
/-
  The gradient through the squared rectifier of the feed-forward block: the kernel's product of the upstream gradient
  with the transposed weight, scaled row block by row block by twice the activation, is the derivative of
  `(relu u * relu u) @ w` in `u` — on every extended real.
-/
module

public import proofs.«01_k».proof.Proof.Gen.KernelIdeal.Frame
public import proofs.«01_k».proof.Proof.Gen.ReferenceIdeal.Read
public import Idealize.ShloMosaic.Lib.Pipeline.ValueKit

@[expose] public section

set_option maxRecDepth 16384

noncomputable section

namespace Cert.KernelIdeal.ActValue

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The block of every window at every grid point. -/
theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

theorem two_mul_of_nonneg {u : EReal} (h : 0 ≤ u) : 2 * u = u + u := by
  rw [show (2 : EReal) = 1 + 1 by norm_num, EReal.right_distrib_of_nonneg zero_le_one zero_le_one, one_mul]

/-- The scalar law: a gradient `p` times twice the rectified value is the two product-rule terms, and zero where the
    rectifier is not open. -/
theorem twice (p u : EReal) : p * (2 * max u 0) = if 0 < u then max u 0 * p + p * max u 0 else 0 := by
  split
  · rename_i h
    rw [max_eq_left h.le, mul_comm u p, two_mul_of_nonneg h.le]
    exact EReal.left_distrib_of_nonneg h.le h.le
  · rename_i h
    rw [max_eq_right (not_lt.mp h)]; simp

/-- The word of `2.0`. -/
theorem word_two : Ideal.ofBits FTy.f32 1073741824#32 = 2 := by
  rw [show (2 : EReal) = ((2 : ℝ) : EReal) by norm_cast]
  simp [Ideal.ofBits, Ideal.ieee, -EReal.coe_mul]; norm_num

/-- The activation the host prepares. -/
theorem act_apply (c : Dev nD) (i : S8192x4096.Idx) : V m c main_v2 i = max (show EReal from m ((c : Thread nD τ).loc main_arg0) i) 0 := by
  entry_read
  pointwise

theorem act_blk (c : Dev nD) (t : Fin cfg0.N) (y : S512x4096.Idx) :
    iblk m c 2 t y = max (show EReal from m ((c : Thread nD τ).loc main_arg0) (((cfg0.win 3).blk t).view.emb y)) 0 := by
  refine Eq.trans ?_ (act_apply m c _)
  blk_ext [iblk, idx t]

/-- What a grid point stores at a block index is the derivative at the array index the block index sits at. -/
theorem point (c : Dev nD) (t : Fin cfg0.N) (y) : k0_pay1 (iblk m c 0 t) (iblk m c 1 t) (iblk m c 2 t) y
    = Cert.ReferenceIdeal.Read.val_main_v14 (F := Ideal) (m ((c : Thread nD τ).loc main_arg0)) (m ((c : Thread nD τ).loc main_arg1)) (m ((c : Thread nD τ).loc main_arg2)) (((cfg0.win 3).blk t).view.emb y) := by
  pointwise [k0_pay1, ← Cert.ReferenceIdeal.Read.val_main_v14_eq]
  rw [word_two, ← twice, act_blk]
  blk_point [iblk, V, idx t]

/-- The result array after the run. -/
theorem final (c : Dev nD) : (dats m 0 c).arrAt 3 (cfgs 0).N
    = Cert.ReferenceIdeal.Read.val_main_v14 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.KernelIdeal.ActValue

end
-- ==== Proof.ScanMath.lean ====
/-
  Running sums from the end, in the two forms the programs write them: a sum over a padded window of the whole axis, and
  eleven doublings, each adding the column shifted by a power of two.
-/
module

public import Idealize.ShloMosaic.Lib.Pipeline.ValueKit

@[expose] public section

set_option maxRecDepth 16384

noncomputable section

namespace Cert.ScanMath

open Idealize.ShloMosaic

/-- A left fold of additions is the sum. -/
theorem foldl_add {n : ℕ} (g : Fin n → EReal) (r : EReal) : (List.finRange n).foldl (fun r k => r + g k) r = r + ∑ k, g k := by
  have : ∀ (l : List (Fin n)) (r : EReal), l.foldl (fun r k => r + g k) r = r + (l.map g).sum := by
    intro l
    induction l with
    | nil => intro r; simp
    | cons a l ih => intro r; simp [ih, add_assoc]
  rw [this, Fin.sum_univ_def]

/-- A windowed sum from zero is the sum over the window's positions of what lies inside the operand. -/
theorem window_sum {s t : Shape} (window strides lo hi : Fin s.rank → Nat) (h : s.ReduceWindows window strides lo hi t)
    (x : s.Idx → EReal) (j : t.Idx) : Ideal.hostReduceWindowAdd window strides lo hi h x 0 j
      = ∑ w : (⟨s.rank, window⟩ : Shape).Idx,
          if hin : ∀ a, lo a ≤ (j (a.cast h.1.symm)).val * strides a + (w a).val ∧ (j (a.cast h.1.symm)).val * strides a + (w a).val - lo a < s.size a
          then x (fun a => ⟨(j (a.cast h.1.symm)).val * strides a + (w a).val - lo a, (hin a).2⟩) else 0 := by
  unfold Ideal.hostReduceWindowAdd Host.reduceWindow
  refine (foldl_add _ _).trans ?_
  rw [zero_add]
  refine Eq.trans (Finset.sum_congr rfl fun k _ => ?_) (Equiv.sum_comp (⟨s.rank, window⟩ : Shape).rowMajor.symm
    (fun w : (⟨s.rank, window⟩ : Shape).Idx =>
          if hin : ∀ a, lo a ≤ (j (a.cast h.1.symm)).val * strides a + (w a).val ∧ (j (a.cast h.1.symm)).val * strides a + (w a).val - lo a < s.size a
          then x (fun a => ⟨(j (a.cast h.1.symm)).val * strides a + (w a).val - lo a, (hin a).2⟩) else 0))
  dsimp only
  congr

/-- A doubling: from sums of `w` terms to sums of `2 w` terms. -/
theorem double (g : ℕ → EReal) (w r : ℕ) :
    (∑ j ∈ Finset.range w, g (r + j)) + ∑ j ∈ Finset.range w, g (r + w + j) = ∑ j ∈ Finset.range (2 * w), g (r + j) := by
  rw [two_mul, Finset.sum_range_add]
  simp only [add_assoc]

section
variable {n0 n1 n2 : ℕ} {t : Shape} (h : (⟨3, ![n0, n1, n2]⟩ : Shape).ReducesTo [0, 1] t)
include h

theorem rank_axes01 : t.rank = 1 := h.1

theorem lt_axes01 : 0 < t.rank := rank_axes01 h ▸ (by decide)

theorem size_axes01 : t.size ⟨0, lt_axes01 h⟩ = n2 := h.2 ⟨0, lt_axes01 h⟩

/-- The host's sum over the first two of three axes. -/
theorem sum_axes01 (x : (⟨3, ![n0, n1, n2]⟩ : Shape).Idx → EReal) (init : EReal) (j : t.Idx) :
    Ideal.hostReduceAdd h x init j
      = init + ∑ b : Fin n0, ∑ r : Fin n1, x (ix3 b r ⟨(j ⟨0, lt_axes01 h⟩).val, Shape.coordLt (j ⟨0, lt_axes01 h⟩) (size_axes01 h)⟩) := by
  have key : ∀ i, h.drop i = j ↔ ∃ k : Fin n0 × Fin n1,
      ix3 k.1 k.2 ⟨(j ⟨0, lt_axes01 h⟩).val, Shape.coordLt (j ⟨0, lt_axes01 h⟩) (size_axes01 h)⟩ = i := by
    intro i
    constructor
    · intro e
      refine ⟨(i 0, i 1), ?_⟩
      funext a
      apply Fin.ext
      match a with
      | ⟨0, _⟩ => rfl
      | ⟨1, _⟩ => rfl
      | ⟨2, _⟩ => exact (congrArg Fin.val (congrFun e ⟨0, lt_axes01 h⟩)).symm
    · rintro ⟨k, rfl⟩
      funext b
      apply Fin.ext
      match b with
      | ⟨0, _⟩ => rfl
      | ⟨_ + 1, hb⟩ => exact absurd hb (by have := rank_axes01 h; omega)
  refine congrArg (init + ·) ((Finset.sum_filter_eq_sum_of_fiber _ (fun k : Fin n0 × Fin n1 =>
    ix3 k.1 k.2 ⟨(j ⟨0, lt_axes01 h⟩).val, Shape.coordLt (j ⟨0, lt_axes01 h⟩) (size_axes01 h)⟩)
    (fun _ _ e => Prod.ext (congrFun e 0) (congrFun e 1)) key x).trans ?_)
  simp only [Fintype.sum_prod_type]
end

theorem one_add_exp_ne_zero (r : ℝ) : (1 + Real.exp r) ≠ 0 := by positivity

theorem log_one : Ideal.log 1 = 0 := by
  rw [show (1 : EReal) = ((1 : ℝ) : EReal) by norm_cast, Ideal.log_coe]
  simp

theorem exp_zero : Ideal.exp 0 = 1 := by
  rw [show (0 : EReal) = ((0 : ℝ) : EReal) by norm_cast, Ideal.exp_coe]
  simp

/-- The guarded soft-plus of a real number is the logarithm of `1 + eʸ`. -/
theorem softplus_coe (y : ℝ) : max (y : EReal) 0 + Ideal.log1p (Ideal.exp (-(max (y : EReal) (-(y : EReal))))) = ((Real.log (1 + Real.exp y) : ℝ) : EReal) := by
  have h0 : max (y : EReal) 0 = ((max y 0 : ℝ) : EReal) := (EReal.coe_strictMono.monotone.map_max (a := y) (b := 0)).symm
  have h1 : -(max (y : EReal) (-(y : EReal))) = ((-|y| : ℝ) : EReal) := by
    rw [abs_eq_max_neg, EReal.coe_neg, EReal.coe_strictMono.monotone.map_max, EReal.coe_neg]
  have hp : 0 < 1 + Real.exp (-|y|) := by positivity
  rw [h0, h1, Ideal.exp_coe, Ideal.log1p, show (1 : EReal) + ((Real.exp (-|y|) : ℝ) : EReal) = ((1 + Real.exp (-|y|) : ℝ) : EReal) by norm_cast,
    Ideal.log_coe, if_neg (not_le.mpr hp), ← EReal.coe_add]
  congr 1
  rcases le_total 0 y with hy | hy
  · rw [max_eq_left hy, abs_of_nonneg hy]
    have : 1 + Real.exp y = Real.exp y * (1 + Real.exp (-y)) := by rw [mul_add, ← Real.exp_add]; simp [add_comm]
    rw [this, Real.log_mul (by positivity) (by positivity), Real.log_exp]
  · rw [max_eq_right hy, abs_of_nonpos hy]
    simp

/-- The derivative of the log-sigmoid as it is written out (through the guarded soft-plus of `-x`), times an upstream
    gradient, is the gradient over `1 + eˣ` — on every extended real. -/
theorem gate_law (d x n out : EReal) (hn : n = -x) (hout : out = max n 0 + Ideal.log1p (Ideal.exp (-(max n (-n))))) :
    -(-d * Ideal.exp ((if n = ⊤ then 0 else n) - (if out = ⊤ then 0 else out))) = Ideal.div d (1 + Ideal.exp x) := by
  subst hn hout
  induction x with
  | bot => simp [Ideal.log1p, Ideal.div_coe, Ideal.div, log_one, exp_zero, EReal.top_add_of_ne_bot]
  | top =>
    have h1 : (1 : EReal) + ⊤ = ⊤ := EReal.add_top_of_ne_bot (by decide)
    simp [Ideal.log1p, Ideal.div_coe, Ideal.div, h1]
  | coe x =>
    have h1 : (1 : EReal) + Ideal.exp x = ((1 + Real.exp x : ℝ) : EReal) := by rw [Ideal.exp_coe]; norm_cast
    have h3 : (-(x : EReal)) = ((-x : ℝ) : EReal) := by norm_cast
    rw [h1, Ideal.div_coe (one_add_exp_ne_zero x), h3, softplus_coe]
    rw [if_neg (EReal.coe_ne_top _), if_neg (EReal.coe_ne_top _), ← EReal.coe_sub, Ideal.exp_coe, EReal.neg_mul, neg_neg]
    congr 2
    rw [Real.exp_sub, Real.exp_log (by positivity), Real.exp_neg]
    field_simp
    ring
end Cert.ScanMath
end
-- ==== Proof.GateValue.lean ====
module

public import proofs.«01_k».proof.Proof.Gen.Kernel2Ideal.Frame
public import proofs.«01_k».proof.Proof.Gen.Reference2Ideal.Read
public import Idealize.ShloMosaic.Lib.Pipeline.ValueKit
public import proofs.«01_k».proof.Proof.ScanMath

@[expose] public section

set_option maxRecDepth 16384

noncomputable section

namespace Cert.Kernel2Ideal.GateValue

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ)

/-- One doubling of the running sum: to each row, while it is above row `n`, add the row `2048 - n` below it. -/
def step (n : BitVec 32) (x : FVec Ideal S2048x128 .f32) : FVec Ideal S2048x128 .f32 :=
  addf x (select (cmpi .slt (iota .tc S2048x128 32 [0] iota_S2048x128_d0_w32) (broadcast S2048x128 n)) (dynamicRotate 0 n none x rotates_S2048x128_d0)
    (broadcast S2048x128 (Scalar.ofBits .f32 0x00000000#32)))

theorem step_apply (k w : ℕ) (hk : k + w = 2048) (h0 : 0 < w) (x : FVec Ideal S2048x128 .f32) (r : Fin 2048) (c : Fin 128) :
    step (BitVec.ofNat 32 k) x (ix2 r c) = (show EReal from x (ix2 r c)) + (if h : r.val + w < 2048 then x (ix2 ⟨r.val + w, h⟩ c) else 0 : EReal) := by
  have hr := r.isLt
  have hlt : (IntOp.cmpi .slt (BitVec.ofNat 32 r.val) (BitVec.ofNat 32 k) = 1#1) ↔ r.val + w < 2048 := by
    rw [WordCmp.cmpi_slt_ofNat_eq_one_iff (by omega) (by omega)]
    omega
  have hm : (BitVec.ofNat 32 k).toNat = k := by simp; omega
  pointwise [step]
  congr 1
  unfold Scalar.select
  split_ifs with h1 h2 h2
  · congr 3
    rw [hm]
    omega
  · exact absurd (hlt.mp h1) h2
  · exact absurd (hlt.mpr h2) h1
  · rfl

/-- A column of the tile at any row number, zero past the end. -/
def cell (x : FVec Ideal S2048x128 .f32) (c : Fin 128) (r : ℕ) : EReal := if h : r < 2048 then x (ix2 ⟨r, h⟩ c) else 0

/-- The running sums of `w` rows from each row on. -/
def run (w : ℕ) (x : FVec Ideal S2048x128 .f32) : FVec Ideal S2048x128 .f32 := fun i => ∑ j ∈ Finset.range w, cell x (i 1) ((i 0).val + j)

theorem run_one (x : FVec Ideal S2048x128 .f32) : run 1 x = x := by
  funext i
  obtain ⟨r, c, rfl⟩ : ∃ (r : Fin 2048) (c : Fin 128), i = ix2 r c := ⟨i 0, i 1, by idx_vars i⟩
  have hr := r.isLt
  change ∑ j ∈ Finset.range 1, cell x c (r.val + j) = _
  rw [Finset.sum_range_one, cell, dif_pos (by omega)]
  rfl

theorem step_run (k w : ℕ) (hk : k + w = 2048) (h0 : 0 < w) (x : FVec Ideal S2048x128 .f32) : step (BitVec.ofNat 32 k) (run w x) = run (2 * w) x := by
  funext i
  obtain ⟨r, c, rfl⟩ : ∃ (r : Fin 2048) (c : Fin 128), i = ix2 r c := ⟨i 0, i 1, by idx_vars i⟩
  rw [step_apply k w hk h0]
  refine Eq.trans ?_ (ScanMath.double (cell x c) w r.val)
  refine congrArg ((run w x (ix2 r c) : EReal) + ·) ?_
  split_ifs with h
  · rfl
  · exact (Finset.sum_eq_zero fun j _ => dif_neg (by omega)).symm

/-- The eleven doublings of a tile. -/
def scan (x : FVec Ideal S2048x128 .f32) : FVec Ideal S2048x128 .f32 :=
  step 1024#32 (step 1536#32 (step 1792#32 (step 1920#32 (step 1984#32 (step 2016#32 (step 2032#32 (step 2040#32 (step 2044#32 (step 2046#32
    (step 2047#32 x))))))))))

/-- The tile summed: head `h`'s column of the cotangent in lane `h`, zero in the lanes behind. -/
def base (v : FVec Ideal S2048x512 .f32) : FVec Ideal S2048x128 .f32 :=
  select (cmpi .eq (iota .tc S2048x128 32 [1] iota_S2048x128_d1_w32) k0_pay7)
    (broadcastTo S2048x128 (shapeCast S2048x1 (extractStridedSlice S2048x1 ![0, 448] (k0_pay5 (F := Ideal) v) slices_S2048x512_o0_448_S2048x1)
      shapeCasts_S2048x1_S2048x1) broadcasts_S2048x1_S2048x128) (k0_pay6 v)

theorem scan_eq (v : FVec Ideal S2048x512 .f32) :
    k0_pay9 (F := Ideal) (iota .tc S2048x128 32 [0] iota_S2048x128_d0_w32) (k0_pay8 (k0_pay5 v) (iota .tc S2048x128 32 [1] iota_S2048x128_d1_w32) (iota .tc S2048x128 32 [0] iota_S2048x128_d0_w32) (k0_pay6 v) k0_pay7) 1984#32
      = scan (base v) := rfl

/-- The doublings leave the sum from each row to the last. -/
theorem scan_run (x : FVec Ideal S2048x128 .f32) : scan x = run 2048 x := by
  unfold scan
  conv_lhs => rw [← run_one x]
  rw [step_run 2047 1 rfl (by decide), step_run 2046 (2 * 1) rfl (by decide), step_run 2044 (2 * (2 * 1)) rfl (by decide)]
  rw [step_run 2040 _ rfl (by decide), step_run 2032 _ rfl (by decide), step_run 2016 _ rfl (by decide), step_run 1984 _ rfl (by decide),
    step_run 1920 _ rfl (by decide), step_run 1792 _ rfl (by decide), step_run 1536 _ rfl (by decide), step_run 1024 _ rfl (by decide)]

/-- Lane `h` of the tile is column `64 h` of the repeated cotangent. -/
theorem base_head (v : FVec Ideal S2048x512 .f32) (r : Fin 2048) (h : Fin 8) :
    base v (ix2 r ⟨h.val, by omega⟩) = v (ix2 r ⟨64 * h.val, by omega⟩) := by
  fin_cases h <;> pointwise [base, k0_pay6, k0_pay5, k0_pay7] <;> rfl

theorem select_lt8 (c : Fin 128) (a : EReal) : Scalar.select (IntOp.cmpi .slt (BitVec.ofNat 32 c.val) 8#32) a 0 = if c.val < 8 then a else 0 := by
  have := WordCmp.cmpi_slt_ofNat_eq_one_iff (w := 32) (a := c.val) (b := 8) (by omega) (by omega)
  unfold Scalar.select
  split_ifs with h1 h2 h2
  · rfl
  · exact absurd (this.mp h1) h2
  · exact absurd (this.mpr h2) h1
  · rfl

/-- The gate's gradient at one position, from the sum below it and the gate's argument. -/
theorem point_apply (s g : FVec Ideal S2048x128 .f32) (b : FVec Ideal S1x128 .f32) (r : Fin 2048) (c : Fin 128) :
    k0_pay2 (F := Ideal) s (k0_pay10 (iota .tc S2048x128 32 [1] iota_S2048x128_d1_w32)) (k0_pay11 g b) k0_pay12 (ix2 r c)
      = if c.val < 8 then Ideal.div (s (ix2 r c)) (1 + Ideal.exp (g (ix2 r c) + b (ix2 0 c))) else 0 := by
  rw [← select_lt8]
  pointwise [k0_pay2, k0_pay1, k0_pay10, k0_pay11, k0_pay12]

/-- What a batch's gradients sum to, lane by lane. -/
def total (s g : FVec Ideal S2048x128 .f32) (b : FVec Ideal S1x128 .f32) (c : Fin 128) : EReal :=
  ∑ r : Fin 2048, if c.val < 8 then Ideal.div (s (ix2 r c)) (1 + Ideal.exp (g (ix2 r c) + b (ix2 0 c))) else 0

theorem first_apply (s g : FVec Ideal S2048x128 .f32) (b : FVec Ideal S1x128 .f32) (c : Fin 128) :
    k0_pay3 (F := Ideal) s (k0_pay10 (iota .tc S2048x128 32 [1] iota_S2048x128_d1_w32)) (k0_pay11 g b) k0_pay12 (ix2 0 c) = total s g b c := by
  unfold total
  simp only [← select_lt8]
  pointwise [k0_pay3, k0_pay1, k0_pay10, k0_pay11, k0_pay12]

theorem next_apply (s g : FVec Ideal S2048x128 .f32) (b a : FVec Ideal S1x128 .f32) (c : Fin 128) :
    k0_pay4 (F := Ideal) s (k0_pay10 (iota .tc S2048x128 32 [1] iota_S2048x128_d1_w32)) (k0_pay11 g b) k0_pay12 a (ix2 0 c)
      = (show EReal from a (ix2 0 c)) + total s g b c := by
  unfold total
  simp only [← select_lt8]
  pointwise [k0_pay4, k0_pay3, k0_pay1, k0_pay10, k0_pay11, k0_pay12]

/-- The block of every window at every grid point. -/
theorem idx : ∀ t : Fin cfg0.N, win0_0.index t = ![t.val, 0] ∧ win0_1.index t = ![t.val, 0] ∧ win0_2.index t = ![0, 0] ∧ win0_3.index t = ![t.val, 0]
    ∧ win0_4.index t = ![0, 0] :=
  (by decide +kernel : ∀ t : Fin grid0.N, _)

/-- The sum of the cotangent from a row on, in one batch and head. -/
def below (C : S8192x8.Idx → EReal) (b : Fin 4) (r : Fin 2048) (h : Fin 8) : EReal :=
  ∑ j : Fin 2048, if hr : r.val + j.val < 2048 then C (ix2 ⟨b.val * 2048 + (r.val + j.val), by omega⟩ h) else 0

/-- The gradient of the gate's argument. -/
def dgate (G : S8192x8.Idx → EReal) (B : S8.Idx → EReal) (C : S8192x8.Idx → EReal) (b : Fin 4) (r : Fin 2048) (h : Fin 8) : EReal :=
  Ideal.div (below C b r h) (1 + Ideal.exp (G (ix2 ⟨b.val * 2048 + r.val, by omega⟩ h) + B (ix1 h)))

/-- The cotangent repeated over 64 lanes. -/
theorem cot_apply (c : Dev nD) (i : S8192x512.Idx) : V m c main_v4 i
    = (show EReal from m ((c : Thread nD τ).loc main_arg2) (ix2 (i 0) ⟨(i 1).val / 64, by idx_bounds; omega⟩)) := by
  simp only [V, List.flatten_cons, List.flatten_nil, List.cons_append, List.nil_append]
  entry_read
  pointwise

/-- The gate's argument with lanes behind the heads. -/
theorem gate_apply (c : Dev nD) (r : Fin 8192) (h : Fin 8) : V m c main_v2 (ix2 r ⟨h.val, by omega⟩)
    = (show EReal from m ((c : Thread nD τ).loc main_arg0) (ix2 r h)) := by
  simp only [V, List.flatten_cons, List.flatten_nil, List.cons_append, List.nil_append]
  entry_read
  change pad (α := EReal) (s := S8192x8) S8192x128 ![0, 0] ![0, 120] ![0, 0] (m ((c : Thread nD τ).loc main_arg0)) (sitofp (F := Ideal) .f32 (constantI S_ 32 0#32))
    pads_S8192x8_S8192x128_000_01200 h_S_ (ix2 r ⟨h.val, by omega⟩) = _
  pointwise

theorem bias_apply (c : Dev nD) (h : Fin 8) : V m c main_v1 (ix2 0 ⟨h.val, by omega⟩)
    = (show EReal from m ((c : Thread nD τ).loc main_arg1) (ix1 h)) := by
  simp only [V, List.flatten_cons, List.flatten_nil, List.cons_append, List.nil_append]
  entry_read
  change shapeCast S1x128 (pad (α := EReal) (s := S8) S128 ![0] ![120] ![0] (m ((c : Thread nD τ).loc main_arg1)) (sitofp (F := Ideal) .f32 (constantI S_ 32 0#32))
    pads_S8_S128_01200 h_S_) shapeCasts_S128_S1x128 (ix2 0 ⟨h.val, by omega⟩) = _
  pointwise

theorem cot_blk (c : Dev nD) (t : Fin cfg0.N) (ht : t.val < 4) (r : Fin 2048) (h : Fin 8) : iblk m c 0 t (ix2 r ⟨64 * h.val, by omega⟩)
    = (show EReal from m ((c : Thread nD τ).loc main_arg2) (ix2 ⟨t.val * 2048 + r.val, by omega⟩ h)) := by
  refine Eq.trans (b := V m c main_v4 (ix2 ⟨t.val * 2048 + r.val, by omega⟩ ⟨64 * h.val, by omega⟩)) ?_ ((cot_apply m c _).trans ?_)
  · blk_ext [iblk, idx t]
  · refine congrArg (show S8192x8.Idx → EReal from m ((c : Thread nD τ).loc main_arg2)) ?_
    blk_ext

theorem gate_blk (c : Dev nD) (t : Fin cfg0.N) (ht : t.val < 4) (r : Fin 2048) (h : Fin 8) : iblk m c 1 t (ix2 r ⟨h.val, by omega⟩)
    = (show EReal from m ((c : Thread nD τ).loc main_arg0) (ix2 ⟨t.val * 2048 + r.val, by omega⟩ h)) := by
  refine Eq.trans ?_ (gate_apply m c _ h)
  blk_ext [iblk, idx t]

theorem bias_blk (c : Dev nD) (t : Fin cfg0.N) (h : Fin 8) : iblk m c 2 t (ix2 0 ⟨h.val, by omega⟩)
    = (show EReal from m ((c : Thread nD τ).loc main_arg1) (ix1 h)) := by
  refine Eq.trans ?_ (bias_apply m c h)
  blk_ext [iblk, idx t]

/-- What a grid point finds at one position. -/
theorem at_point (c : Dev nD) (t : Fin cfg0.N) (ht : t.val < 4) (r : Fin 2048) (h : Fin 8) :
    Ideal.div (scan (base (iblk m c 0 t)) (ix2 r ⟨h.val, by omega⟩))
        (1 + Ideal.exp ((show EReal from iblk m c 1 t (ix2 r ⟨h.val, by omega⟩)) + (show EReal from iblk m c 2 t (ix2 0 ⟨h.val, by omega⟩))))
      = dgate (m ((c : Thread nD τ).loc main_arg0)) (m ((c : Thread nD τ).loc main_arg1)) (m ((c : Thread nD τ).loc main_arg2)) ⟨t.val, ht⟩ r h := by
  rw [gate_blk m c t ht, bias_blk m c t, scan_run]
  refine congrArg (fun z => Ideal.div z _) ?_
  refine (Finset.sum_range _).trans (Finset.sum_congr rfl fun j _ => ?_)
  change cell _ _ (r.val + j.val) = _
  by_cases hj : r.val + j.val < 2048
  · refine (dif_pos hj).trans (Eq.trans ?_ (dif_pos hj).symm)
    exact (base_head _ ⟨r.val + j.val, hj⟩ h).trans (cot_blk m c t ht _ h)
  · refine (dif_neg hj).trans (Eq.symm ?_)
    exact dif_neg hj

section
open Cert.Reference2Ideal.Read
variable (G : S8192x8.Idx → EReal) (B : S8.Idx → EReal) (C : S8192x8.Idx → EReal)

/-- The reference's running sum. -/
theorem ref_below (b : Fin 4) (r : Fin 2048) (h : Fin 8) : val_main_v8 (F := Ideal) C (ix3 b r h) = below C b r h := by
  have h0 : val_main_call2_call0_v0 (F := Ideal) (Shape.Idx.first h_S_) = 0 := by
    pointwise [val_main_call2_call0_v0, val_main_call2_call0_cst]
  unfold val_main_v8 Host.reduceWindowAdd
  rw [Ideal.hostReduceWindowAdd_def, h0, ScanMath.window_sum]
  refine (sum_idx3 (n0 := 1) (n1 := 2048) (n2 := 1) _).trans ?_
  rw [Fin.sum_univ_one]
  refine Finset.sum_congr rfl fun j _ => ?_
  rw [Fin.sum_univ_one]
  by_cases hj : r.val + j.val < 2048
  · rw [dif_pos (show _ from ?_)]
    · refine Eq.trans (b := val_main_v7 (F := Ideal) C (ix3 b ⟨r.val + j.val, hj⟩ h)) (congrArg (val_main_v7 (F := Ideal) C) ?_) ?_
      · funext a
        apply Fin.ext
        match a with
        | ⟨0, _⟩ => change b.val * 1 + 0 - 0 = b.val; omega
        | ⟨1, _⟩ => change r.val * 1 + j.val - 0 = r.val + j.val; omega
        | ⟨2, _⟩ => change h.val * 1 + 0 - 0 = h.val; omega
      · pointwise [val_main_v7]
        rw [dif_pos hj]
    · intro a
      match a with
      | ⟨0, _⟩ => exact ⟨Nat.zero_le _, by change b.val * 1 + 0 - 0 < 4; omega⟩
      | ⟨1, _⟩ => exact ⟨Nat.zero_le _, by change r.val * 1 + j.val - 0 < 2048; omega⟩
      | ⟨2, _⟩ => exact ⟨Nat.zero_le _, by change h.val * 1 + 0 - 0 < 8; omega⟩
  · rw [dif_neg hj, dif_neg]
    intro hin
    have := (hin ⟨1, by decide⟩).2
    change r.val * 1 + j.val - 0 < 2048 at this
    omega

theorem ref_neg (b : Fin 4) (r : Fin 2048) (h : Fin 8) :
    val_main_call0_v0 (F := Ideal) G B (ix3 b r h) = -(G (ix2 ⟨b.val * 2048 + r.val, by omega⟩ h) + B (ix1 h)) := by
  pointwise [val_main_call0_v0, val_main_v3, val_main_v2, val_main_v1, val_main_v0]

/-- The reference's soft-plus: its test for an undefined value never holds. -/
theorem ref_soft (b : Fin 4) (r : Fin 2048) (h : Fin 8) (n : EReal) (hn : val_main_call0_v0 (F := Ideal) G B (ix3 b r h) = n) :
    val_main_call0_v1_0 (F := Ideal) G B (ix3 b r h) = max n 0 + Ideal.log1p (Ideal.exp (-(max n (-n)))) := by
  pointwise [val_main_call0_v1_0, val_main_call0_call0_v11, val_main_call0_call0_v10, val_main_call0_call0_v9, val_main_call0_call0_v8,
    val_main_call0_call0_v7, val_main_call0_call0_v6, val_main_call0_call0_v5, val_main_call0_call0_v4, val_main_call0_call0_v3,
    val_main_call0_call0_v2, val_main_call0_call0_v1, val_main_call0_call0_v0, val_main_call0_call0_cst]
  rw [hn, if_neg (by simp)]
  rfl

theorem word_top : Ideal.ofBits FTy.f32 0x7F800000#32 = ⊤ := by
  simp [Ideal.ofBits, Ideal.ieee]

/-- The reference's gradient of the gate's argument. -/
theorem ref_dgate (b : Fin 4) (r : Fin 2048) (h : Fin 8) : val_main_v9 (F := Ideal) G B C (ix3 b r h) = dgate G B C b r h := by
  pointwise [val_main_v9, val_main_call3_v1, val_main_call3_v0, val_main_v4_1, ref_below, val_main_call0_call0_v21, val_main_call0_call0_v20,
    val_main_call0_call0_v19, val_main_call0_call0_v18, val_main_call0_call0_v17, val_main_call0_call0_v16, val_main_call0_call0_v15,
    val_main_call0_call0_v14, val_main_call0_call0_v13, val_main_call0_call0_cst_0, val_main_call0_call0_cst_1, val_main_call0_call0_cst_2,
    val_main_call0_call0_cst_3]
  rw [word_top]
  exact ScanMath.gate_law _ _ _ _ (ref_neg G B b r h) (ref_soft G B b r h _ rfl)

end

section
open Cert.Reference2Ideal.Read
variable (G : S8192x8.Idx → EReal) (B : S8.Idx → EReal) (C : S8192x8.Idx → EReal)

theorem sitofp_zero : (FloatOps.sitofp FTy.f32 0#32 : Ideal .f32) = (0 : EReal) := by
  change (((0#32 : BitVec 32).toInt : ℝ) : EReal) = 0
  simp

/-- The reference's first result. -/
theorem ref_first (b : Fin 4) (r : Fin 2048) (k : Fin 128) :
    val_main_v15 (F := Ideal) G B C (ix2 ⟨b.val * 2048 + r.val, by omega⟩ k) = if h : k.val < 8 then dgate G B C b r ⟨k.val, h⟩ else 0 := by
  pointwise [val_main_v15, val_main_v14, val_main_v13, val_main_call4_v0, val_main_c]
  by_cases hk : k.val < 8
  · rw [dif_pos ⟨by omega, hk⟩, dif_pos hk]
    exact ref_dgate G B C b r ⟨k.val, hk⟩
  · rw [dif_neg (fun h => hk h.2), dif_neg hk, sitofp_zero]

/-- The reference's second result. -/
theorem ref_second (k : Fin 128) :
    val_main_v17 (F := Ideal) G B C (ix2 0 k) = if h : k.val < 8 then ∑ b : Fin 4, ∑ r : Fin 2048, dgate G B C b r ⟨k.val, h⟩ else 0 := by
  pointwise [val_main_v17, val_main_v16, val_main_v12, val_main_v11, val_main_v10, val_main_call5_v0, val_main_c_1, val_main_cst, val_main_cst_0]
  by_cases hk : k.val < 8
  · rw [dif_pos hk, dif_pos hk, ScanMath.sum_axes01, zero_add, Fin.sum_univ_one, Fin.sum_univ_one]
    pointwise
    rw [ScanMath.sum_axes01, zero_add]
    exact Finset.sum_congr rfl fun b _ => Finset.sum_congr rfl fun r _ => ref_dgate G B C b r ⟨k.val, hk⟩
  · rw [dif_neg hk, dif_neg hk, sitofp_zero]
end

/-- What a grid point stores to its block of the first result. -/
theorem out_first (c : Dev nD) (t : Fin cfg0.N) (ht : t.val < 4) (y : S2048x128.Idx) : (outsAt0 m c t.val t.isLt).1 y
    = Cert.Reference2Ideal.Read.val_main_v15 (F := Ideal) (m ((c : Thread nD τ).loc main_arg0)) (m ((c : Thread nD τ).loc main_arg1)) (m ((c : Thread nD τ).loc main_arg2))
        (ix2 ⟨t.val * 2048 + (y 0).val, by idx_bounds; omega⟩ (y 1)) := by
  have key : (outsAt0 m c t.val t.isLt).1 y = k0_pay2 (F := Ideal) (scan (base (iblk m c 0 t))) (k0_pay10 (iota .tc S2048x128 32 [1] iota_S2048x128_d1_w32)) (k0_pay11 (iblk m c 1 t) (iblk m c 2 t)) k0_pay12 y := by
    by_cases h : t.val % 4 = 0
    · rw [outsAt0_A m c t h (by omega)]; frame_out
      rfl
    · rw [outsAt0_B m c t h (by omega)]; frame_out
      rfl
  rw [key]
  obtain ⟨r, k, rfl⟩ : ∃ (r : Fin 2048) (k : Fin 128), y = ix2 r k := ⟨y 0, y 1, by idx_vars y⟩
  refine (point_apply _ _ _ r k).trans (Eq.trans ?_ (ref_first _ _ _ ⟨t.val, ht⟩ r k).symm)
  by_cases hk : k.val < 8
  · rw [if_pos hk, dif_pos hk]
    exact at_point m c t ht r ⟨k.val, hk⟩
  · rw [if_neg hk, dif_neg hk]

/-- The first result after the run. -/
theorem final3 (c : Dev nD) : (dats m 0 c).arrAt 3 (cfgs 0).N
    = Cert.Reference2Ideal.Read.val_main_v15 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  have ht : t.val < 4 := t.isLt
  blk_simp
  rw [after0_3]
  refine (out_first m c t ht y).trans ?_
  blk_point [idx t]

theorem one_row (y : S1x128.Idx) : y = ix2 0 (y 1) := by
  funext a
  match a with
  | ⟨0, _⟩ => exact Fin.ext (by have := (y 0).isLt; change (y 0).val < 1 at this; change (y 0).val = 0; omega)
  | ⟨1, _⟩ => rfl

/-- The running total over the batches so far. -/
theorem out_second (c : Dev nD) (n : ℕ) (hn : n < cfg0.N) (k : Fin 128) : (outsAt0 m c n hn).2 (ix2 0 k) = ∑ t : Fin (n + 1),
   total (scan (base (iblk m c 0 ⟨t, by omega⟩))) (iblk m c 1 ⟨t, by omega⟩) (iblk m c 2 ⟨t, by omega⟩) k := by
  induction n with
  | zero =>
    rw [outsAt0_A m c ⟨0, hn⟩ rfl (by change ¬1 ≤ 0; omega)]; frame_out
    rw [Fin.sum_univ_one]
    exact first_apply _ _ _ k
  | succ n ih =>
    have h4 : n + 1 < 4 := hn
    rw [outsAt0_B m c ⟨n + 1, hn⟩ (by change ¬(n + 1) % 4 = 0; omega) (by change 1 ≤ n + 1; omega)]; frame_out
    rw [Fin.sum_univ_castSucc]
    refine (next_apply _ _ _ _ k).trans ?_
    exact congrArg (· + _) (ih (by omega))

theorem total_eq (c : Dev nD) (t : Fin cfg0.N) (ht : t.val < 4) (k : Fin 128) : total (scan (base (iblk m c 0 t))) (iblk m c 1 t) (iblk m c 2 t) k
    = if h : k.val < 8 then ∑ r : Fin 2048, dgate (m ((c : Thread nD τ).loc main_arg0)) (m ((c : Thread nD τ).loc main_arg1)) (m ((c : Thread nD τ).loc main_arg2)) ⟨t.val, ht⟩ r ⟨k.val, h⟩ else 0 := by
  unfold total
  by_cases hk : k.val < 8
  · rw [dif_pos hk]
    refine Finset.sum_congr rfl fun r _ => ?_
    rw [if_pos hk]
    exact at_point m c t ht r ⟨k.val, hk⟩
  · rw [dif_neg hk]
    exact Finset.sum_eq_zero fun r _ => if_neg hk

/-- The second result after the run. -/
theorem final4 (c : Dev nD) : (dats m 0 c).arrAt 4 (cfgs 0).N
    = Cert.Reference2Ideal.Read.val_main_v17 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  have ht : t.val = 3 := by
    have := (flush0_4 t).mp hf
    have : t.val < 4 := t.isLt
    omega
  blk_simp
  rw [after0_4]
  obtain ⟨k, rfl⟩ : ∃ k : Fin 128, y = ix2 0 k := ⟨y 1, one_row y⟩
  refine (out_second m c t.val t.isLt k).trans (Eq.trans ?_ (Eq.trans (ref_second (m ((c : Thread nD τ).loc main_arg0))
    (m ((c : Thread nD τ).loc main_arg1)) (m ((c : Thread nD τ).loc main_arg2)) k).symm ?_))
  · obtain ⟨t, h4⟩ := t
    obtain rfl : t = 3 := ht
    refine (Finset.sum_congr rfl fun s _ => total_eq m c ⟨s.val, s.isLt⟩ s.isLt k).trans ?_
    by_cases hk : k.val < 8
    · simp only [dif_pos hk]
    · simp only [dif_neg hk, Finset.sum_const_zero]
  · blk_ext [idx t]
end Cert.Kernel2Ideal.GateValue

end
-- ==== Proof.FoxTile.lean ====
module

public import Idealize.ShloMosaic.Lib.Pipeline.ValueKit
public import Idealize.ShloMosaic.Lib.MatmulPlain
public import Idealize.ShloMosaic.Lib.WordCmp

@[expose] public section

set_option maxRecDepth 16384

noncomputable section

namespace Cert.FoxTile

open Idealize.ShloMosaic Idealize.ShloMosaic.TcCoe
open scoped BigOperators

/-- A matrix shape. -/
abbrev M2 (a b : ℕ) : Shape := ⟨2, ![a, b]⟩

/-- A plane of a stack of matrices. -/
abbrev M3 (a b : ℕ) : Shape := ⟨3, ![1, a, b]⟩

variable {K : ℕ}

/-- `[K, M]` by `[K, N]`, both contracted on their rows. -/
def transposedLhs (K M N : ℕ) : DotDims (M2 K M) (M2 K N) (M2 M N) where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

/-- A plane read as a matrix. -/
theorem cast_plane {φ : FTy} (x : FVec Ideal (M3 K 128) φ) (h : (M3 K 128).ShapeCasts (M2 K 128)) (r : Fin K) (l : Fin 128) :
    shapeCast (M2 K 128) x h (ix2 r l) = x (ix3 (0 : Fin 1) r l) :=
  shapeCast_apply x h _ _ (by
    rw [Shape.rowMajor_val_two, Shape.rowMajor_val_three]
    show (0 * K + r.val) * 128 + l.val = r.val * 128 + l.val
    omega)

/-- A product over the lanes. -/
theorem score_apply (ka : FVec Ideal (M2 K 128) .bf16) (qa : FVec Ideal (M2 256 128) .bf16) (r : Fin K) (c : Fin 256) :
    matmul (DotDims.transposedRhs K 128 256) none ka qa (constant (M2 K 256) .f32 0x00000000#32) (ix2 r c)
      = ∑ l : Fin 128, ka (ix2 r l) * qa (ix2 c l) := by
  refine (Ideal.matmul_transposedRhs_apply none ka qa _ r c).trans ?_
  show Ideal.ofBits .f32 0x00000000#32 + _ = _
  rw [Ideal.ofBits_zero_f32, zero_add]
  rfl

/-- The masked exponentials of a tile of scores. -/
def weights (msk : IVec (M2 K 256) 1) (ka : FVec Ideal (M3 K 128) .bf16) (qa : FVec Ideal (M3 256 128) .bf16)
    (hk : (M3 K 128).ShapeCasts (M2 K 128)) (hq : (M3 256 128).ShapeCasts (M2 256 128)) : FVec Ideal (M2 K 256) .f32 :=
  select msk (exp (matmul (DotDims.transposedRhs K 128 256) none (shapeCast (M2 K 128) ka hk) (shapeCast (M2 256 128) qa hq)
    (constant (M2 K 256) .f32 0x00000000#32))) (broadcast (M2 K 256) (Scalar.ofBits .f32 0x00000000#32))

theorem weights_apply (msk : IVec (M2 K 256) 1) (ka : FVec Ideal (M3 K 128) .bf16) (qa : FVec Ideal (M3 256 128) .bf16)
    (hk : (M3 K 128).ShapeCasts (M2 K 128)) (hq : (M3 256 128).ShapeCasts (M2 256 128)) (r : Fin K) (c : Fin 256) :
    weights msk ka qa hk hq (ix2 r c) = if msk (ix2 r c) = 1#1 then
      Ideal.exp (∑ l : Fin 128, ka (ix3 (0 : Fin 1) r l) * qa (ix3 (0 : Fin 1) c l)) else 0 := by
  have h := score_apply (shapeCast (M2 K 128) ka hk) (shapeCast (M2 256 128) qa hq) r c
  simp only [cast_plane] at h
  show Scalar.select (msk (ix2 r c)) (Ideal.exp (matmul (DotDims.transposedRhs K 128 256) none (shapeCast (M2 K 128) ka hk)
    (shapeCast (M2 256 128) qa hq) (constant (M2 K 256) .f32 0x00000000#32) (ix2 r c))) (Ideal.ofBits .f32 0x00000000#32) = _
  rw [h, Ideal.ofBits_zero]
  rfl

/-- The centred weights. -/
def centred (pt : FVec Ideal (M2 K 256) .f32) (dpt : FVec Ideal (M2 K 256) .f32)
    (hr : (M2 K 256).Reduces [0] ⟨1, ![256]⟩) (hc : Shape.ShapeCasts ⟨1, ![256]⟩ (M2 1 256)) (hb : (M2 1 256).Broadcasts (M2 K 256)) :
    FVec Ideal (M2 K 256) .f32 :=
  mulf pt (subf dpt (broadcastTo (M2 K 256) (divf
    (shapeCast (M2 1 256) (multiReduction .add [0] ⟨1, ![256]⟩ (mulf pt dpt) 0x00000000#32 hr (.inl rfl) rfl) hc)
    (shapeCast (M2 1 256) (multiReduction .add [0] ⟨1, ![256]⟩ pt 0x00000000#32 hr (.inl rfl) rfl) hc)) hb))

theorem centred_apply (pt : FVec Ideal (M2 K 256) .f32) (dpt : FVec Ideal (M2 K 256) .f32)
    (hr : (M2 K 256).Reduces [0] ⟨1, ![256]⟩) (hc : Shape.ShapeCasts ⟨1, ![256]⟩ (M2 1 256)) (hb : (M2 1 256).Broadcasts (M2 K 256))
    (r : Fin K) (c : Fin 256) :
    centred pt dpt hr hc hb (ix2 r c) = pt (ix2 r c) * (dpt (ix2 r c) -
      Ideal.div (∑ s : Fin K, pt (ix2 s c) * dpt (ix2 s c)) (∑ s : Fin K, pt (ix2 s c))) := by
  pointwise [centred]

/-- A product over the columns of the tile. -/
theorem spread_apply (w : FVec Ideal (M2 K 256) .bf16) (x : FVec Ideal (M2 256 128) .bf16) (r : Fin K) (l : Fin 128) :
    matmul (DotDims.plain K 256 128) none w x (constant (M2 K 128) .f32 0x00000000#32) (ix2 r l)
      = ∑ c : Fin 256, w (ix2 r c) * x (ix2 c l) := by
  refine (Ideal.matmul_plain_apply none w x _ r l).trans ?_
  show Ideal.ofBits .f32 0x00000000#32 + _ = _
  rw [Ideal.ofBits_zero_f32, zero_add]
  rfl

/-- The contracted row as a coordinate. -/
def rowCoord (K : ℕ) : (transposedLhs K 256 128).contr.Idx ≃ Fin K :=
  ValueIdx.contrEquiv1 _ K (show (transposedLhs K 256 128).contr.rank = 1 from rfl) rfl

/-- A product over the rows of the tile. -/
theorem gather_apply (w : FVec Ideal (M2 K 256) .bf16) (x : FVec Ideal (M2 K 128) .bf16) (c : Fin 256) (l : Fin 128) :
    matmul (transposedLhs K 256 128) none w x (constant (M2 256 128) .f32 0x00000000#32) (ix2 c l)
      = ∑ r : Fin K, w (ix2 r c) * x (ix2 r l) := by
  show FloatOps.matmul (transposedLhs K 256 128) none w x _ (ix2 c l) = _
  rw [Ideal.matmul_apply, ← Equiv.sum_comp (rowCoord K).symm]
  show Ideal.ofBits .f32 0x00000000#32 + _ = _
  rw [Ideal.ofBits_zero_f32, zero_add]
  refine Finset.sum_congr rfl fun k _ => ?_
  have hk := ValueIdx.contrEquiv1_symm_val (transposedLhs K 256 128) K (show (transposedLhs K 256 128).contr.rank = 1 from rfl) rfl k
  have el : (transposedLhs K 256 128).lhsIdx (ix2 c l) ((rowCoord K).symm k) = ix2 k c := by
    funext a; apply Fin.ext
    match a with
    | ⟨0, _⟩ => exact hk
    | ⟨1, _⟩ => rfl
  have er : (transposedLhs K 256 128).rhsIdx (ix2 c l) ((rowCoord K).symm k) = ix2 k l := by
    funext a; apply Fin.ext
    match a with
    | ⟨0, _⟩ => exact hk
    | ⟨1, _⟩ => rfl
  rw [el, er]

/-- A vector read as a column. -/
theorem cast_col (x : FVec Ideal ⟨1, ![K]⟩ .f32) (h : Shape.ShapeCasts ⟨1, ![K]⟩ (M2 K 1)) (r : Fin K) :
    shapeCast (M2 K 1) x h (ix2 r (0 : Fin 1)) = x (ix1 r) :=
  shapeCast_apply x h _ _ (by
    rw [Shape.rowMajor_val_two, Shape.rowMajor_val_one]
    show r.val = r.val * 1 + 0
    omega)

/-- A column spread over the lanes. -/
theorem col_apply (x : FVec Ideal (M2 K 1) .f32) (h : (M2 K 1).ShapeCasts (M2 K 1)) (hb : (M2 K 1).Broadcasts (M2 K 128))
    (r : Fin K) (l : Fin 128) :
    broadcastTo (M2 K 128) (shapeCast (M2 K 1) x h) hb (ix2 r l) = x (ix2 r (0 : Fin 1)) := by
  refine (broadcastTo_apply _ hb (ix2 r l) (ix2 r (0 : Fin 1)) ?_).trans (shapeCast_apply x h _ _ rfl)
  intro a
  match a with
  | ⟨0, _⟩ =>
    show r.val = if K = 1 then 0 else r.val
    split_ifs with hK
    · have := r.isLt; omega
    · rfl
  | ⟨1, _⟩ => rfl

/-- A sum over the tile's columns under a lane selection. -/
def rowSums (sel : IVec (M2 1 128) 1) (ds : FVec Ideal (M2 K 256) .f32) (old : FVec Ideal (M2 K 128) .f32)
    (hr : (M2 K 256).Reduces [1] ⟨1, ![K]⟩) (hc : Shape.ShapeCasts ⟨1, ![K]⟩ (M2 K 1)) (hc' : (M2 K 1).ShapeCasts (M2 K 1))
    (hs : (M2 1 128).ShapeCasts (M2 1 128)) (hb : (M2 K 1).Broadcasts (M2 K 128)) (hbs : (M2 1 128).Broadcasts (M2 K 128)) :
    FVec Ideal (M2 K 128) .f32 :=
  addf old (select (broadcastTo (M2 K 128) (shapeCast (M2 1 128) sel hs) hbs)
    (broadcastTo (M2 K 128) (shapeCast (M2 K 1) (subf (broadcast (M2 K 1) (Scalar.ofBits .f32 0x00000000#32))
      (shapeCast (M2 K 1) (multiReduction .add [1] ⟨1, ![K]⟩ ds 0x00000000#32 hr (.inl rfl) rfl) hc)) hc') hb)
    (broadcast (M2 K 128) (Scalar.ofBits .f32 0x00000000#32)))

theorem rowSums_apply (sel : IVec (M2 1 128) 1) (ds : FVec Ideal (M2 K 256) .f32) (old : FVec Ideal (M2 K 128) .f32)
    (hr : (M2 K 256).Reduces [1] ⟨1, ![K]⟩) (hc : Shape.ShapeCasts ⟨1, ![K]⟩ (M2 K 1)) (hc' : (M2 K 1).ShapeCasts (M2 K 1))
    (hs : (M2 1 128).ShapeCasts (M2 1 128)) (hb : (M2 K 1).Broadcasts (M2 K 128)) (hbs : (M2 1 128).Broadcasts (M2 K 128))
    (r : Fin K) (l : Fin 128) :
    rowSums sel ds old hr hc hc' hs hb hbs (ix2 r l) = old (ix2 r l) +
      (if sel (ix2 (0 : Fin 1) l) = 1#1 then 0 - ∑ c : Fin 256, ds (ix2 r c) else 0) := by
  have h1 : broadcastTo (M2 K 128) (shapeCast (M2 K 1) (subf (broadcast (M2 K 1) (Scalar.ofBits (F := Ideal) .f32 0x00000000#32))
      (shapeCast (M2 K 1) (multiReduction .add [1] ⟨1, ![K]⟩ ds 0x00000000#32 hr (.inl rfl) rfl) hc)) hc') hb (ix2 r l)
      = 0 - ∑ c : Fin 256, ds (ix2 r c) := by
    rw [col_apply]
    show (Ideal.ofBits .f32 0x00000000#32 : EReal) - shapeCast (M2 K 1) _ hc (ix2 r (0 : Fin 1)) = _
    rw [cast_col, Ideal.ofBits_zero]
    pointwise
  have h2 : broadcastTo (M2 K 128) (shapeCast (M2 1 128) sel hs) hbs (ix2 r l) = sel (ix2 (0 : Fin 1) l) := by
    pointwise
  show old (ix2 r l) + Scalar.select (broadcastTo (M2 K 128) (shapeCast (M2 1 128) sel hs) hbs (ix2 r l)) (broadcastTo (M2 K 128) (shapeCast (M2 K 1) (subf (broadcast (M2 K 1) (Scalar.ofBits (F := Ideal) .f32 0x00000000#32))
      (shapeCast (M2 K 1) (multiReduction .add [1] ⟨1, ![K]⟩ ds 0x00000000#32 hr (.inl rfl) rfl) hc)) hc') hb (ix2 r l)) (Ideal.ofBits .f32 0x00000000#32) = _
  rw [h1, h2, Ideal.ofBits_zero]
  rfl

/-! ## Rows of the whole read through a tile -/

/-- Row `a + r` of the 2048. -/
def up (a : ℕ) {n : ℕ} (h : a + n ≤ 2048) (r : Fin n) : Fin 2048 := ⟨a + r.val, by have := r.isLt; omega⟩

/-- A plane that holds the rows from `a` on of `X`. -/
def IsRows {n : ℕ} (x : FVec Ideal (M3 n 128) .bf16) (X : Fin 2048 → Fin 128 → EReal) (a : ℕ) : Prop :=
  ∀ (h : a + n ≤ 2048) (r : Fin n) (l : Fin 128), x (ix3 (0 : Fin 1) r l) = X (up a h r) l

/-- What the writes so far have left in an accumulator. -/
def Reads (L : List (View.Piece (Elt Ideal) (M2 2048 128) .f32)) (S : Fin 2048 → Fin 128 → EReal) : Prop :=
  ∀ (s : Fin 2048) (l : Fin 128), View.canon L (ix2 s l) = S s l

/-- A load of the first `K` rows. -/
theorem Reads.load {L : List (View.Piece (Elt Ideal) (M2 2048 128) .f32)} {S : Fin 2048 → Fin 128 → EReal} (hL : Reads L S)
    {sig : RefSig} {κ : Kind} {sp : Space} (v : View sig κ sp (M2 2048 128) .f32)
    {h : ∀ a, (![0, 0] : Fin 2 → ℕ) a + (M2 K 128).size a ≤ (M2 2048 128).size a} (hK : 0 + K ≤ 2048) (r : Fin K) (l : Fin 128) :
    v.readCov L (Rect.unit (s := M2 2048 128) ![0, 0] (M2 K 128).size h).toLoadRect (ix2 r l) = S (up 0 hK r) l := by
  rw [View.readCov_eq_canon']
  refine Eq.trans (congrArg (View.canon L) ?_) (hL (up 0 hK r) l)
  funext a; apply Fin.ext
  match a with
  | ⟨0, _⟩ => show 0 + 1 * r.val = 0 + r.val; omega
  | ⟨1, _⟩ => show 0 + 1 * l.val = l.val; omega

/-- A store to the whole accumulator. -/
theorem Reads.init {w : FVec Ideal (M2 2048 128) .f32} {h : ∀ a, (![0, 0] : Fin 2 → ℕ) a + (M2 2048 128).size a ≤ (M2 2048 128).size a}
    {S : Fin 2048 → Fin 128 → EReal} (hw : ∀ s l, w (ix2 s l) = S s l) :
    Reads [(⟨Rect.unit (s := M2 2048 128) ![0, 0] (M2 2048 128).size h, w⟩ : View.Piece (Elt Ideal) (M2 2048 128) .f32)] S := by
  intro s l
  exact (congrFun (View.canon_cons_unit_lit (S := M2 2048 128) (Val := Elt Ideal) (e := .f32) h w [] (by decide)) (ix2 s l)).trans (hw s l)

/-- A store to the first `K` rows that adds a term vanishing on the other rows. -/
theorem Reads.push {L : List (View.Piece (Elt Ideal) (M2 2048 128) .f32)} {S : Fin 2048 → Fin 128 → EReal} (hL : Reads L S)
    {w : FVec Ideal (M2 K 128) .f32} {h : ∀ a, (![0, 0] : Fin 2 → ℕ) a + (M2 K 128).size a ≤ (M2 2048 128).size a}
    (hK : 0 + K ≤ 2048) (T : Fin 2048 → Fin 128 → EReal) (hT : ∀ s l, K ≤ s.val → T s l = 0)
    (hw : ∀ r l, w (ix2 r l) = S (up 0 hK r) l + T (up 0 hK r) l) :
    Reads ((⟨Rect.unit (s := M2 2048 128) ![0, 0] (M2 K 128).size h, w⟩ : View.Piece (Elt Ideal) (M2 2048 128) .f32) :: L)
      (fun s l => S s l + T s l) := by
  intro s l
  by_cases hs : s.val < K
  · have e : ix2 s l = (Rect.unit (s := M2 2048 128) ![0, 0] (M2 K 128).size h).emb (ix2 (⟨s.val, hs⟩ : Fin K) l) := by
      funext a; apply Fin.ext
      match a with
      | ⟨0, _⟩ => show s.val = 0 + 1 * s.val; omega
      | ⟨1, _⟩ => show l.val = 0 + 1 * l.val; omega
    have e2 : up 0 hK (⟨s.val, hs⟩ : Fin K) = s := Fin.ext (Nat.zero_add _)
    rw [e, View.canon_cons_emb, hw, e2]
  · show View.canon (Val := Elt Ideal) (e := .f32) _ _ = S s l + T s l
    rw [View.canon_cons_of_not_mem, hL, hT s l (Nat.le_of_not_lt hs), add_zero]
    intro hm
    have := ((Rect.mem_set_unit (inb := h)).mp hm) 0
    exact hs (by have h2 : s.val < 0 + K := this.2; omega)

/-- The two heads' planes stored one after the other: what a load of rows of one of them reads. -/
theorem rows_second {w₀ w₁ : FVec Ideal (M3 2048 128) .bf16} {X : Fin 2048 → Fin 128 → EReal} (hw : IsRows w₁ X 0)
    {sig : RefSig} {κ : Kind} {sp : Space} (v : View sig κ sp ⟨3, ![2, 2048, 128]⟩ .bf16) {n a : ℕ}
    {h₀ : ∀ i, (![0, 0, 0] : Fin 3 → ℕ) i + (M3 2048 128).size i ≤ (⟨3, ![2, 2048, 128]⟩ : Shape).size i}
    {h₁ : ∀ i, (![1, 0, 0] : Fin 3 → ℕ) i + (M3 2048 128).size i ≤ (⟨3, ![2, 2048, 128]⟩ : Shape).size i}
    {h : ∀ i, (![1, a, 0] : Fin 3 → ℕ) i + (M3 n 128).size i ≤ (⟨3, ![2, 2048, 128]⟩ : Shape).size i} :
    IsRows (n := n) (v.readCov (Val := Elt Ideal) [⟨Rect.unit (s := ⟨3, ![2, 2048, 128]⟩) ![1, 0, 0] (M3 2048 128).size h₁, w₁⟩,
      ⟨Rect.unit (s := ⟨3, ![2, 2048, 128]⟩) ![0, 0, 0] (M3 2048 128).size h₀, w₀⟩]
      (Rect.unit (s := ⟨3, ![2, 2048, 128]⟩) ![1, a, 0] (M3 n 128).size h).toLoadRect) X a := by
  intro ha r l
  rw [View.readCov_eq_canon']
  have e : (Rect.unit (s := ⟨3, ![2, 2048, 128]⟩) ![1, a, 0] (M3 n 128).size h).toLoadRect.idx (ix3 (0 : Fin 1) r l)
      = (Rect.unit (s := ⟨3, ![2, 2048, 128]⟩) ![1, 0, 0] (M3 2048 128).size h₁).emb (ix3 (0 : Fin 1) (up a ha r) l) := by
    funext i; apply Fin.ext
    match i with
    | ⟨0, _⟩ => rfl
    | ⟨1, _⟩ => show a + 1 * r.val = 0 + 1 * (a + r.val); omega
    | ⟨2, _⟩ => rfl
  show View.canon _ _ = _
  rw [e, View.canon_cons_emb, hw (by omega)]
  congr 1
  exact Fin.ext (Nat.zero_add _)

theorem rows_first {w₀ w₁ : FVec Ideal (M3 2048 128) .bf16} {X : Fin 2048 → Fin 128 → EReal} (hw : IsRows w₀ X 0)
    {sig : RefSig} {κ : Kind} {sp : Space} (v : View sig κ sp ⟨3, ![2, 2048, 128]⟩ .bf16) {n a : ℕ}
    {h₀ : ∀ i, (![0, 0, 0] : Fin 3 → ℕ) i + (M3 2048 128).size i ≤ (⟨3, ![2, 2048, 128]⟩ : Shape).size i}
    {h₁ : ∀ i, (![1, 0, 0] : Fin 3 → ℕ) i + (M3 2048 128).size i ≤ (⟨3, ![2, 2048, 128]⟩ : Shape).size i}
    {h : ∀ i, (![0, a, 0] : Fin 3 → ℕ) i + (M3 n 128).size i ≤ (⟨3, ![2, 2048, 128]⟩ : Shape).size i} :
    IsRows (n := n) (v.readCov (Val := Elt Ideal) [⟨Rect.unit (s := ⟨3, ![2, 2048, 128]⟩) ![1, 0, 0] (M3 2048 128).size h₁, w₁⟩,
      ⟨Rect.unit (s := ⟨3, ![2, 2048, 128]⟩) ![0, 0, 0] (M3 2048 128).size h₀, w₀⟩]
      (Rect.unit (s := ⟨3, ![2, 2048, 128]⟩) ![0, a, 0] (M3 n 128).size h).toLoadRect) X a := by
  intro ha r l
  rw [View.readCov_eq_canon']
  have e : (Rect.unit (s := ⟨3, ![2, 2048, 128]⟩) ![0, a, 0] (M3 n 128).size h).toLoadRect.idx (ix3 (0 : Fin 1) r l)
      = (Rect.unit (s := ⟨3, ![2, 2048, 128]⟩) ![0, 0, 0] (M3 2048 128).size h₀).emb (ix3 (0 : Fin 1) (up a ha r) l) := by
    funext i; apply Fin.ext
    match i with
    | ⟨0, _⟩ => rfl
    | ⟨1, _⟩ => show a + 1 * r.val = 0 + 1 * (a + r.val); omega
    | ⟨2, _⟩ => rfl
  show View.canon _ _ = _
  rw [View.canon_cons_of_not_mem, e, View.canon_cons_emb, hw (by omega)]
  · congr 1
    exact Fin.ext (Nat.zero_add _)
  · intro hm
    have := ((Rect.mem_set_unit (inb := h₁)).mp hm) 0
    have h2 : 1 ≤ 0 + 1 * 0 := this.1
    omega

theorem rows_only {w₀ : FVec Ideal (M3 2048 128) .bf16} {X : Fin 2048 → Fin 128 → EReal} (hw : IsRows w₀ X 0)
    {sig : RefSig} {κ : Kind} {sp : Space} (v : View sig κ sp ⟨3, ![2, 2048, 128]⟩ .bf16) {n a : ℕ}
    {h₀ : ∀ i, (![0, 0, 0] : Fin 3 → ℕ) i + (M3 2048 128).size i ≤ (⟨3, ![2, 2048, 128]⟩ : Shape).size i}
    {h : ∀ i, (![0, a, 0] : Fin 3 → ℕ) i + (M3 n 128).size i ≤ (⟨3, ![2, 2048, 128]⟩ : Shape).size i} :
    IsRows (n := n) (v.readCov (Val := Elt Ideal) [⟨Rect.unit (s := ⟨3, ![2, 2048, 128]⟩) ![0, 0, 0] (M3 2048 128).size h₀, w₀⟩]
      (Rect.unit (s := ⟨3, ![2, 2048, 128]⟩) ![0, a, 0] (M3 n 128).size h).toLoadRect) X a := by
  intro ha r l
  rw [View.readCov_eq_canon']
  have e : (Rect.unit (s := ⟨3, ![2, 2048, 128]⟩) ![0, a, 0] (M3 n 128).size h).toLoadRect.idx (ix3 (0 : Fin 1) r l)
      = (Rect.unit (s := ⟨3, ![2, 2048, 128]⟩) ![0, 0, 0] (M3 2048 128).size h₀).emb (ix3 (0 : Fin 1) (up a ha r) l) := by
    funext i; apply Fin.ext
    match i with
    | ⟨0, _⟩ => rfl
    | ⟨1, _⟩ => show a + 1 * r.val = 0 + 1 * (a + r.val); omega
    | ⟨2, _⟩ => rfl
  show View.canon _ _ = _
  rw [e, View.canon_cons_emb, hw (by omega)]
  congr 1
  exact Fin.ext (Nat.zero_add _)

/-! ## One tile of the attention's backward pass -/

/-- The operands of a pair of heads, a row and a lane at a time. -/
structure Operands where
  (ka qa kp qp dp vp : Fin 2 → Fin 2048 → Fin 128 → EReal)

namespace Operands

variable (O : Operands)

/-- The weight of the key row `s` for the query row `t`. -/
def p (e : Fin 2) (s t : Fin 2048) : EReal :=
  if s.val ≤ t.val then Ideal.exp (∑ l : Fin 128, O.ka e s l * O.qa e t l) else 0

/-- Its cotangent. -/
def g (e : Fin 2) (s t : Fin 2048) : EReal := ∑ l : Fin 128, O.vp e s l * O.dp e t l

/-- The cotangents' weighted mean. -/
def mean (e : Fin 2) (t : Fin 2048) : EReal := Ideal.div (∑ s, O.p e s t * O.g e s t) (∑ s, O.p e s t)

/-- The score's gradient. -/
def ds (e : Fin 2) (s t : Fin 2048) : EReal := O.p e s t * (O.g e s t - O.mean e t)

/-- A column of the tile `n`. -/
def col (n : Fin 8) (c : Fin 256) : Fin 2048 := ⟨256 * n.val + c.val, by have := n.isLt; have := c.isLt; omega⟩

theorem p_zero (e : Fin 2) {s t : Fin 2048} (h : t.val < s.val) : O.p e s t = 0 := if_neg (Nat.not_le.mpr h)

theorem ds_zero (e : Fin 2) {s t : Fin 2048} (h : t.val < s.val) : O.ds e s t = 0 := by
  unfold ds; rw [O.p_zero e h, zero_mul]

/-- A tile's share of the value gradient. -/
def tv (n : Fin 8) (e : Fin 2) (s : Fin 2048) (l : Fin 128) : EReal := ∑ c : Fin 256, O.p e s (col n c) * O.dp e (col n c) l
/-- A tile's share of the key gradient. -/
def tk (n : Fin 8) (e : Fin 2) (s : Fin 2048) (l : Fin 128) : EReal :=
  (∑ c : Fin 256, O.ds e s (col n c) * O.qp e (col n c) l) * Ideal.ofBits .f32 0x3E000000#32
/-- A tile's share of the gate gradient. -/
def tc (sel : Fin 2 → Fin 128 → Prop) [∀ e l, Decidable (sel e l)] (n : Fin 8) (e : Fin 2) (s : Fin 2048) (l : Fin 128) : EReal :=
  if sel e l then 0 - ∑ c : Fin 256, O.ds e s (col n c) else 0
/-- A row of the query gradient, one head's share. -/
def tq (e : Fin 2) (t : Fin 2048) (l : Fin 128) : EReal := ∑ s, O.ds e s t * O.kp e s l

theorem tv_zero (n : Fin 8) (e : Fin 2) (s : Fin 2048) (l : Fin 128) (h : 256 * n.val + 256 ≤ s.val) : O.tv n e s l = 0 :=
  Finset.sum_eq_zero fun c _ => by
    rw [O.p_zero e (show (col n c).val < s.val by show 256 * n.val + c.val < s.val; have := c.isLt; omega), zero_mul]

theorem sum_ds_zero (n : Fin 8) (e : Fin 2) (s : Fin 2048) (f : Fin 256 → EReal) (h : 256 * n.val + 256 ≤ s.val) :
    ∑ c : Fin 256, O.ds e s (col n c) * f c = 0 :=
  Finset.sum_eq_zero fun c _ => by
    rw [O.ds_zero e (show (col n c).val < s.val by show 256 * n.val + c.val < s.val; have := c.isLt; omega), zero_mul]

theorem tk_zero (n : Fin 8) (e : Fin 2) (s : Fin 2048) (l : Fin 128) (h : 256 * n.val + 256 ≤ s.val) : O.tk n e s l = 0 := by
  unfold tk
  rw [sum_ds_zero O n e s _ h, zero_mul]

theorem tc_zero (sel : Fin 2 → Fin 128 → Prop) [∀ e l, Decidable (sel e l)] (n : Fin 8) (e : Fin 2) (s : Fin 2048) (l : Fin 128)
    (h : 256 * n.val + 256 ≤ s.val) : O.tc sel n e s l = 0 := by
  unfold tc
  have h0 := sum_ds_zero O n e s (fun _ => 1) h
  simp only [mul_one] at h0
  rw [h0, sub_zero, ite_self]

/-- A sum over the rows of the tile is one over all rows, the others adding nothing. -/
theorem sum_up (hK : 0 + K ≤ 2048) (f : Fin 2048 → EReal) (hf : ∀ s : Fin 2048, K ≤ s.val → f s = 0) :
    ∑ r : Fin K, f (up 0 hK r) = ∑ s, f s := by
  refine Finset.sum_bij_ne_zero (fun r _ _ => up 0 hK r) (fun _ _ _ => Finset.mem_univ _) ?_ ?_ (fun _ _ _ => rfl)
  · intro a _ _ b _ _ h
    have := congrArg Fin.val h
    exact Fin.ext (by simpa [up] using this)
  · intro s _ hs
    have hlt : s.val < K := by
      by_contra hc
      exact hs (hf s (Nat.le_of_not_lt hc))
    have e : up 0 hK (⟨s.val, hlt⟩ : Fin K) = s := Fin.ext (Nat.zero_add _)
    exact ⟨⟨s.val, hlt⟩, Finset.mem_univ _, by rw [e]; exact hs, e⟩

/-- The mask of the tile at row `r0` of the queries. -/
def IsMask (msk : IVec (M2 K 256) 1) (r0 : ℕ) : Prop :=
  ∀ (r : Fin K) (c : Fin 256), msk (ix2 r c) = 1#1 ↔ r.val ≤ r0 + c.val

theorem isMask_iota {r0 : ℕ} (h0 h1) (hK : K ≤ 2048) (hr : r0 + 256 ≤ 2048) :
    IsMask (K := K) (cmpi .sle (iota .tc (M2 K 256) 32 [0] h0) (addi (iota .tc (M2 K 256) 32 [1] h1)
      (broadcast (M2 K 256) (BitVec.ofNat 32 r0)))) r0 := by
  intro r c
  pointwise
  have hr' := r.isLt
  have hc' := c.isLt
  rw [show IntOp.addi (BitVec.ofNat 32 c.val) (BitVec.ofNat 32 r0) = BitVec.ofNat 32 (c.val + r0) from (BitVec.ofNat_add ..).symm,
    Idealize.ShloMosaic.WordCmp.cmpi_sle_of_lt (by simp only [BitVec.toNat_ofNat]; omega) (by simp only [BitVec.toNat_ofNat]; omega)]
  simp only [BitVec.toNat_ofNat]
  rw [Nat.mod_eq_of_lt (by omega : r.val < 2 ^ 32), Nat.mod_eq_of_lt (by omega : c.val + r0 < 2 ^ 32)]
  by_cases h : r.val ≤ c.val + r0
  · simp only [h, decide_true]
    exact ⟨fun _ => by omega, fun _ => rfl⟩
  · simp only [h, decide_false]
    exact ⟨fun h' => absurd h' (by decide), fun h' => absurd h' (by omega)⟩

section tile

variable (n : Fin 8) (e : Fin 2) {r0 : ℕ} (hr0 : r0 = 256 * n.val) (hK : 0 + K ≤ 2048) (hKr : K = r0 + 256)
  {msk : IVec (M2 K 256) 1} {ka va kp : FVec Ideal (M3 K 128) .bf16} {qa da qp : FVec Ideal (M3 256 128) .bf16}
  {hk hv hp : (M3 K 128).ShapeCasts (M2 K 128)} {hq hd hqp : (M3 256 128).ShapeCasts (M2 256 128)}
  (hm : IsMask msk r0) (hka : IsRows ka (O.ka e) 0) (hqa : IsRows qa (O.qa e) r0)
  (hva : IsRows va (O.vp e) 0) (hda : IsRows da (O.dp e) r0) (hqp' : IsRows qp (O.qp e) r0) (hkp : IsRows kp (O.kp e) 0)

include hr0 hK hKr

theorem row_col (h : r0 + 256 ≤ 2048) (c : Fin 256) : up r0 h c = col n c := Fin.ext (by show r0 + c.val = 256 * n.val + c.val; omega)

include hm hka hqa in
theorem weights_tile (r : Fin K) (c : Fin 256) :
    weights msk ka qa hk hq (ix2 r c) = O.p e (up 0 hK r) (col n c) := by
  rw [weights_apply]
  unfold p
  have h1 : (msk (ix2 r c) = 1#1) ↔ ((up 0 hK r).val ≤ (col n c).val) := by
    rw [hm r c]
    show _ ↔ 0 + r.val ≤ 256 * n.val + c.val
    omega
  simp only [h1]
  have h2 : r0 + 256 ≤ 2048 := by omega
  split_ifs
  · refine congrArg _ (Finset.sum_congr rfl fun l _ => ?_)
    rw [hka hK, hqa h2, row_col n hr0 hK hKr h2]
  · rfl

include hva hda in
theorem grad_tile (r : Fin K) (c : Fin 256) :
    matmul (DotDims.transposedRhs K 128 256) none (shapeCast (M2 K 128) va hv) (shapeCast (M2 256 128) da hd)
      (constant (M2 K 256) .f32 0x00000000#32) (ix2 r c) = O.g e (up 0 hK r) (col n c) := by
  have h2 : r0 + 256 ≤ 2048 := by omega
  rw [score_apply]
  refine Finset.sum_congr rfl fun l _ => ?_
  rw [cast_plane, cast_plane, hva hK, hda h2, row_col n hr0 hK hKr h2]

/-- The tile's score gradients. -/
def scores (msk : IVec (M2 K 256) 1) (ka va : FVec Ideal (M3 K 128) .bf16) (qa da : FVec Ideal (M3 256 128) .bf16)
    (hk hv : (M3 K 128).ShapeCasts (M2 K 128)) (hq hd : (M3 256 128).ShapeCasts (M2 256 128))
    (hr : (M2 K 256).Reduces [0] ⟨1, ![256]⟩) (hc : Shape.ShapeCasts ⟨1, ![256]⟩ (M2 1 256)) (hb : (M2 1 256).Broadcasts (M2 K 256)) :
    FVec Ideal (M2 K 256) .f32 :=
  centred (weights msk ka qa hk hq) (matmul (DotDims.transposedRhs K 128 256) none (shapeCast (M2 K 128) va hv)
    (shapeCast (M2 256 128) da hd) (constant (M2 K 256) .f32 0x00000000#32)) hr hc hb

include hm hka hqa hva hda in
theorem scores_tile {hr : (M2 K 256).Reduces [0] ⟨1, ![256]⟩} {hc : Shape.ShapeCasts ⟨1, ![256]⟩ (M2 1 256)}
    {hb : (M2 1 256).Broadcasts (M2 K 256)} (r : Fin K) (c : Fin 256) :
    scores msk ka va qa da hk hv hq hd hr hc hb (ix2 r c) = O.ds e (up 0 hK r) (col n c) := by
  unfold scores
  rw [centred_apply]
  simp only [weights_tile O n e hr0 hK hKr hm hka hqa, grad_tile O n e hr0 hK hKr hva hda]
  unfold ds mean
  have hz : ∀ s : Fin 2048, K ≤ s.val → O.p e s (col n c) = 0 := fun s hs => O.p_zero e (by
    show 256 * n.val + c.val < s.val
    have := c.isLt; omega)
  rw [sum_up hK (fun s => O.p e s (col n c) * O.g e s (col n c)) (fun s hs => by rw [hz s hs, zero_mul]),
    sum_up hK (fun s => O.p e s (col n c)) hz]

include hm hka hqa hda in
/-- The tile's step of the value gradient. -/
theorem v_tile {old : FVec Ideal (M2 K 128) .f32} {ho : (M2 K 128).ShapeCasts (M2 K 128)} {S : Fin 2048 → Fin 128 → EReal}
    (hold : ∀ r l, old (ix2 r l) = S (up 0 hK r) l) {hw : FTy.bf16.bits < FTy.f32.bits} (r : Fin K) (l : Fin 128) :
    shapeCast (M2 K 128) (addf old (matmul (DotDims.plain K 256 128) none (truncf .bf16 (weights msk ka qa hk hq) hw)
      (shapeCast (M2 256 128) da hd) (constant (M2 K 128) .f32 0x00000000#32))) ho (ix2 r l)
      = S (up 0 hK r) l + O.tv n e (up 0 hK r) l := by
  have h2 : r0 + 256 ≤ 2048 := by omega
  refine (shapeCast_apply _ _ _ (ix2 r l) rfl).trans (congrArg₂ (· + ·) (hold r l) ?_)
  rw [spread_apply]
  refine Finset.sum_congr rfl fun c _ => ?_
  rw [cast_plane, hda h2, row_col n hr0 hK hKr h2]
  exact congrArg (· * _) (weights_tile O n e hr0 hK hKr hm hka hqa r c)

include hm hka hqa hva hda hqp' in
/-- The tile's step of the key gradient. -/
theorem k_tile {hr : (M2 K 256).Reduces [0] ⟨1, ![256]⟩} {hc : Shape.ShapeCasts ⟨1, ![256]⟩ (M2 1 256)}
    {hb : (M2 1 256).Broadcasts (M2 K 256)} {old : FVec Ideal (M2 K 128) .f32} {ho : (M2 K 128).ShapeCasts (M2 K 128)}
    {S : Fin 2048 → Fin 128 → EReal}
    (hold : ∀ r l, old (ix2 r l) = S (up 0 hK r) l) {hw : FTy.bf16.bits < FTy.f32.bits} (r : Fin K) (l : Fin 128) :
    shapeCast (M2 K 128) (addf old (mulf (matmul (DotDims.plain K 256 128) none
      (truncf .bf16 (scores msk ka va qa da hk hv hq hd hr hc hb) hw)
      (shapeCast (M2 256 128) qp hqp) (constant (M2 K 128) .f32 0x00000000#32))
      (broadcast (M2 K 128) (Scalar.ofBits .f32 0x3E000000#32)))) ho (ix2 r l)
      = S (up 0 hK r) l + O.tk n e (up 0 hK r) l := by
  have h2 : r0 + 256 ≤ 2048 := by omega
  refine (shapeCast_apply _ _ _ (ix2 r l) rfl).trans (congrArg₂ (· + ·) (hold r l) (congrArg (· * _) ?_))
  rw [spread_apply]
  refine Finset.sum_congr rfl fun c _ => ?_
  rw [cast_plane, hqp' h2, row_col n hr0 hK hKr h2]
  exact congrArg (· * _) (scores_tile O n e hr0 hK hKr hm hka hqa hva hda r c)

include hm hka hqa hva hda hkp in
/-- The tile's share of the query gradient. -/
theorem q_tile {hr : (M2 K 256).Reduces [0] ⟨1, ![256]⟩} {hc : Shape.ShapeCasts ⟨1, ![256]⟩ (M2 1 256)}
    {hb : (M2 1 256).Broadcasts (M2 K 256)} {hw : FTy.bf16.bits < FTy.f32.bits} (c : Fin 256) (l : Fin 128) :
    matmul (transposedLhs K 256 128) none
      (truncf .bf16 (scores msk ka va qa da hk hv hq hd hr hc hb) hw)
      (shapeCast (M2 K 128) kp hp) (constant (M2 256 128) .f32 0x00000000#32) (ix2 c l)
      = O.tq e (col n c) l := by
  rw [gather_apply]
  unfold tq
  rw [← sum_up hK (fun s => O.ds e s (col n c) * O.kp e s l) (fun s hs => by
    rw [O.ds_zero e (show (col n c).val < s.val by show 256 * n.val + c.val < s.val; have := c.isLt; omega), zero_mul])]
  refine Finset.sum_congr rfl fun r _ => ?_
  rw [cast_plane, hkp hK]
  exact congrArg (· * _) (scores_tile O n e hr0 hK hKr hm hka hqa hva hda r c)

include hm hka hqa hva hda in
/-- The tile's step of the gate gradient. -/
theorem c_tile {hr : (M2 K 256).Reduces [0] ⟨1, ![256]⟩} {hc : Shape.ShapeCasts ⟨1, ![256]⟩ (M2 1 256)}
    {hb : (M2 1 256).Broadcasts (M2 K 256)} {old : FVec Ideal (M2 K 128) .f32} {ho : (M2 K 128).ShapeCasts (M2 K 128)}
    {S : Fin 2048 → Fin 128 → EReal} (sel : Fin 2 → Fin 128 → Prop) [∀ e l, Decidable (sel e l)]
    {slv : IVec (M2 1 128) 1} (hsel : ∀ l, slv (ix2 (0 : Fin 1) l) = 1#1 ↔ sel e l)
    (hold : ∀ r l, old (ix2 r l) = S (up 0 hK r) l)
    {hr' : (M2 K 256).Reduces [1] ⟨1, ![K]⟩} {hc1 : Shape.ShapeCasts ⟨1, ![K]⟩ (M2 K 1)} {hc' : (M2 K 1).ShapeCasts (M2 K 1)}
    {hs : (M2 1 128).ShapeCasts (M2 1 128)} {hb' : (M2 K 1).Broadcasts (M2 K 128)} {hbs : (M2 1 128).Broadcasts (M2 K 128)}
    (r : Fin K) (l : Fin 128) :
    shapeCast (M2 K 128) (rowSums slv (scores msk ka va qa da hk hv hq hd hr hc hb) old hr' hc1 hc' hs hb' hbs) ho (ix2 r l)
      = S (up 0 hK r) l + O.tc sel n e (up 0 hK r) l := by
  refine (shapeCast_apply _ _ _ (ix2 r l) rfl).trans ?_
  rw [rowSums_apply, hold r l]
  simp only [hsel, scores_tile O n e hr0 hK hKr hm hka hqa hva hda]
  rfl

end tile

/-- The sixteen tiles' shares in the order they are added. -/
def chain (T : Fin 8 → Fin 2 → Fin 2048 → Fin 128 → EReal) : ℕ → Fin 2048 → Fin 128 → EReal
  | 0 => fun _ _ => 0
  | n + 1 => fun s l => chain T n s l + T (Fin.ofNat 8 (n / 2)) (Fin.ofNat 2 n) s l

theorem tile_val {j : ℕ} (hj : j < 16) : 256 * (Fin.ofNat 8 (j / 2)).val = 256 * (j / 2) := by
  show 256 * (j / 2 % 8) = _
  omega

/-- One row spreads over any number of rows. -/
theorem spreads (K : ℕ) : (M2 1 256).Broadcasts (M2 K 256) := by
  refine ⟨le_refl _, fun a => ?_⟩
  match a with
  | ⟨0, _⟩ => exact .inl rfl
  | ⟨1, _⟩ => exact .inr fun _ => rfl

theorem spreads_row (K : ℕ) : (M2 1 128).Broadcasts (M2 K 128) := by
  refine ⟨le_refl _, fun a => ?_⟩
  match a with
  | ⟨0, _⟩ => exact .inl rfl
  | ⟨1, _⟩ => exact .inr fun _ => rfl

theorem spreads_lanes (K : ℕ) : (M2 K 1).Broadcasts (M2 K 128) := by
  refine ⟨le_refl _, fun a => ?_⟩
  match a with
  | ⟨0, _⟩ => exact .inr fun _ => rfl
  | ⟨1, _⟩ => exact .inl rfl

section push

variable {j : ℕ} (hj : j < 16) (hK : 0 + K ≤ 2048) (hKr : K = 256 * (j / 2) + 256)
  {msk : IVec (M2 K 256) 1} {ka va kp : FVec Ideal (M3 K 128) .bf16} {qa da qp : FVec Ideal (M3 256 128) .bf16}
  {hk hv hp : (M3 K 128).ShapeCasts (M2 K 128)} {hq hd hqp : (M3 256 128).ShapeCasts (M2 256 128)}
  {ho : (M2 K 128).ShapeCasts (M2 K 128)} {hw : FTy.bf16.bits < FTy.f32.bits}
  {hr : (M2 K 256).Reduces [0] ⟨1, ![256]⟩} {hc : Shape.ShapeCasts ⟨1, ![256]⟩ (M2 1 256)}
  {L : List (View.Piece (Elt Ideal) (M2 2048 128) .f32)}
  {sig : RefSig} {κ : Kind} {sp : Space} (v : View sig κ sp (M2 2048 128) .f32)
  {h h' : ∀ a, (![0, 0] : Fin 2 → ℕ) a + (M2 K 128).size a ≤ (M2 2048 128).size a}
  (hm : IsMask msk (256 * (j / 2))) (hka : IsRows ka (O.ka (Fin.ofNat 2 j)) 0) (hqa : IsRows qa (O.qa (Fin.ofNat 2 j)) (256 * (j / 2)))
  (hva : IsRows va (O.vp (Fin.ofNat 2 j)) 0) (hda : IsRows da (O.dp (Fin.ofNat 2 j)) (256 * (j / 2)))
  (hqp' : IsRows qp (O.qp (Fin.ofNat 2 j)) (256 * (j / 2)))

include hj hK hKr hm hka hqa hda in
theorem v_push (hL : Reads L (chain O.tv j)) :
    Reads ((⟨Rect.unit (s := M2 2048 128) ![0, 0] (M2 K 128).size h,
      shapeCast (M2 K 128) (addf (F := Ideal) (φ := .f32) (v.readCov L (Rect.unit (s := M2 2048 128) ![0, 0] (M2 K 128).size h').toLoadRect)
        (matmul (DotDims.plain K 256 128) none (truncf .bf16 (weights msk ka qa hk hq) hw)
          (shapeCast (M2 256 128) da hd) (constant (M2 K 128) .f32 0x00000000#32))) ho⟩ : View.Piece (Elt Ideal) (M2 2048 128) .f32) :: L)
      (chain O.tv (j + 1)) :=
  Reads.push hL hK _ (fun s l hs => O.tv_zero _ _ s l (by have := tile_val hj; omega))
    (fun r l => O.v_tile _ _ (tile_val hj).symm hK hKr hm hka hqa hda (fun r l => hL.load v hK r l) r l)

include hj hK hKr hm hka hqa hva hda hqp' in
theorem k_push (hL : Reads L (chain O.tk j)) :
    Reads ((⟨Rect.unit (s := M2 2048 128) ![0, 0] (M2 K 128).size h,
      shapeCast (M2 K 128) (addf (F := Ideal) (φ := .f32) (v.readCov L (Rect.unit (s := M2 2048 128) ![0, 0] (M2 K 128).size h').toLoadRect)
        (mulf (matmul (DotDims.plain K 256 128) none
          (truncf .bf16 (scores msk ka va qa da hk hv hq hd hr hc (spreads K)) hw)
          (shapeCast (M2 256 128) qp hqp) (constant (M2 K 128) .f32 0x00000000#32))
          (broadcast (M2 K 128) (Scalar.ofBits .f32 0x3E000000#32)))) ho⟩ : View.Piece (Elt Ideal) (M2 2048 128) .f32) :: L)
      (chain O.tk (j + 1)) :=
  Reads.push hL hK _ (fun s l hs => O.tk_zero _ _ s l (by have := tile_val hj; omega))
    (fun r l => O.k_tile _ _ (tile_val hj).symm hK hKr hm hka hqa hva hda hqp' (fun r l => hL.load v hK r l) r l)

include hj hK hKr hm hka hqa hva hda in
theorem c_push (sel : Fin 2 → Fin 128 → Prop) [∀ e l, Decidable (sel e l)]
    {slv : IVec (M2 1 128) 1} (hsel : ∀ l, slv (ix2 (0 : Fin 1) l) = 1#1 ↔ sel (Fin.ofNat 2 j) l)
    {hr' : (M2 K 256).Reduces [1] ⟨1, ![K]⟩} {hc1 : Shape.ShapeCasts ⟨1, ![K]⟩ (M2 K 1)} {hc' : (M2 K 1).ShapeCasts (M2 K 1)}
    {hs : (M2 1 128).ShapeCasts (M2 1 128)}
    (hL : Reads L (chain (O.tc sel) j)) :
    Reads ((⟨Rect.unit (s := M2 2048 128) ![0, 0] (M2 K 128).size h,
      shapeCast (M2 K 128) (rowSums slv (scores msk ka va qa da hk hv hq hd hr hc (spreads K))
        (v.readCov L (Rect.unit (s := M2 2048 128) ![0, 0] (M2 K 128).size h').toLoadRect) hr' hc1 hc' hs (spreads_lanes K) (spreads_row K)) ho⟩ :
        View.Piece (Elt Ideal) (M2 2048 128) .f32) :: L)
      (chain (O.tc sel) (j + 1)) :=
  Reads.push hL hK _ (fun s l hs => O.tc_zero sel _ _ s l (by have := tile_val hj; omega))
    (fun r l => O.c_tile _ _ (tile_val hj).symm hK hKr hm hka hqa hva hda sel hsel (fun r l => hL.load v hK r l) r l)

end push

/-- The query gradient of a row. -/
def rowQ (t : Fin 2048) (l : Fin 128) : EReal := (O.tq 0 t l + O.tq 1 t l) * Ideal.ofBits .f32 0x3E000000#32

/-- The stores so far have filled the first `j` tiles of rows. -/
def Fills (L : List (View.Piece (Elt Ideal) (M2 2048 128) .bf16)) (S : Fin 2048 → Fin 128 → EReal) (j : ℕ) : Prop :=
  ∀ (s : Fin 2048) (l : Fin 128), s.val < 256 * j → View.canon L (ix2 s l) = S s l

theorem Fills.push {L : List (View.Piece (Elt Ideal) (M2 2048 128) .bf16)} {S : Fin 2048 → Fin 128 → EReal} {j : ℕ} (hj : j < 8)
    {w : FVec Ideal (M2 256 128) .bf16}
    {h : ∀ a, (![256 * j, 0] : Fin 2 → ℕ) a + (M2 256 128).size a ≤ (M2 2048 128).size a}
    (hw : ∀ c l, w (ix2 c l) = S (col ⟨j, hj⟩ c) l) (hL : Fills L S j) :
    Fills ((⟨Rect.unit (s := M2 2048 128) ![256 * j, 0] (M2 256 128).size h, w⟩ : View.Piece (Elt Ideal) (M2 2048 128) .bf16) :: L) S (j + 1) := by
  intro s l hs
  by_cases hlt : s.val < 256 * j
  · show View.canon (Val := Elt Ideal) (e := .bf16) _ _ = S s l
    rw [View.canon_cons_of_not_mem, hL s l hlt]
    intro hm
    have := ((Rect.mem_set_unit (inb := h)).mp hm) 0
    have h2 : 256 * j ≤ s.val := this.1
    omega
  · have hc : s.val - 256 * j < 256 := by omega
    have e : ix2 s l = (Rect.unit (s := M2 2048 128) ![256 * j, 0] (M2 256 128).size h).emb (ix2 (⟨s.val - 256 * j, hc⟩ : Fin 256) l) := by
      funext a; apply Fin.ext
      match a with
      | ⟨0, _⟩ => show s.val = 256 * j + 1 * (s.val - 256 * j); omega
      | ⟨1, _⟩ => show l.val = 0 + 1 * l.val; omega
    have e2 : col ⟨j, hj⟩ (⟨s.val - 256 * j, hc⟩ : Fin 256) = s := Fin.ext (by show 256 * j + (s.val - 256 * j) = s.val; omega)
    rw [e, View.canon_cons_emb, hw, e2]

/-- One tile's query gradient of both heads. -/
theorem q_push {j : ℕ} (hj : j < 8) (hK : 0 + K ≤ 2048) (hKr : K = 256 * j + 256)
    {msk : IVec (M2 K 256) 1} {ka va kp ka' va' kp' : FVec Ideal (M3 K 128) .bf16} {qa da qa' da' : FVec Ideal (M3 256 128) .bf16}
    {hk hv hp : (M3 K 128).ShapeCasts (M2 K 128)} {hq hd : (M3 256 128).ShapeCasts (M2 256 128)}
    {hw hw' : FTy.bf16.bits < FTy.f32.bits}
    {hr : (M2 K 256).Reduces [0] ⟨1, ![256]⟩} {hc : Shape.ShapeCasts ⟨1, ![256]⟩ (M2 1 256)}
    {L : List (View.Piece (Elt Ideal) (M2 2048 128) .bf16)}
    {h : ∀ a, (![256 * j, 0] : Fin 2 → ℕ) a + (M2 256 128).size a ≤ (M2 2048 128).size a}
    (hm : IsMask msk (256 * j)) (hka : IsRows ka (O.ka 0) 0) (hqa : IsRows qa (O.qa 0) (256 * j))
    (hva : IsRows va (O.vp 0) 0) (hda : IsRows da (O.dp 0) (256 * j)) (hkp : IsRows kp (O.kp 0) 0)
    (hka' : IsRows ka' (O.ka 1) 0) (hqa' : IsRows qa' (O.qa 1) (256 * j))
    (hva' : IsRows va' (O.vp 1) 0) (hda' : IsRows da' (O.dp 1) (256 * j)) (hkp' : IsRows kp' (O.kp 1) 0)
    (hL : Fills L O.rowQ j) :
    Fills ((⟨Rect.unit (s := M2 2048 128) ![256 * j, 0] (M2 256 128).size h,
      truncf .bf16 (mulf (addf (addf (broadcast (M2 256 128) (Scalar.ofBits .f32 0x00000000#32))
        (matmul (transposedLhs K 256 128) none (truncf .bf16 (scores msk ka va qa da hk hv hq hd hr hc (spreads K)) hw)
          (shapeCast (M2 K 128) kp hp) (constant (M2 256 128) .f32 0x00000000#32)))
        (matmul (transposedLhs K 256 128) none (truncf .bf16 (scores msk ka' va' qa' da' hk hv hq hd hr hc (spreads K)) hw)
          (shapeCast (M2 K 128) kp' hp) (constant (M2 256 128) .f32 0x00000000#32)))
        (broadcast (M2 256 128) (Scalar.ofBits .f32 0x3E000000#32))) hw'⟩ : View.Piece (Elt Ideal) (M2 2048 128) .bf16) :: L)
      O.rowQ (j + 1) := by
  refine Fills.push hj (fun c l => ?_) hL
  have h1 := O.q_tile ⟨j, hj⟩ 0 rfl hK hKr (hk := hk) (hv := hv) (hp := hp) (hq := hq) (hd := hd) (hr := hr) (hc := hc) (hb := spreads K) (hw := hw)
    hm hka hqa hva hda hkp c l
  have h2 := O.q_tile ⟨j, hj⟩ 1 rfl hK hKr (hk := hk) (hv := hv) (hp := hp) (hq := hq) (hd := hd) (hr := hr) (hc := hc) (hb := spreads K) (hw := hw)
    hm hka' hqa' hva' hda' hkp' c l
  refine (congrArg (· * Ideal.ofBits .f32 0x3E000000#32) (congrArg₂ (· + ·) (congrArg₂ (· + ·) Ideal.ofBits_zero_f32 h1) h2)).trans ?_
  rw [zero_add]
  rfl

end Operands

end Cert.FoxTile
-- ==== Proof.FoxBody.lean ====
module

public import proofs.«01_k».proof.Proof.Gen.Kernel5Ideal.Frame
public import Idealize.ShloMosaic.Lib.Pipeline.ValueKit
public import proofs.«01_k».proof.Proof.FoxTile

@[expose] public section

set_option maxRecDepth 16384

noncomputable section

namespace Cert.Kernel5Ideal.FoxBody

open Cert.Kernel5Ideal Cert.Kernel5Ideal.Gen Idealize.ShloMosaic Idealize.ShloMosaic.TcCoe Idealize.SL.Sem
open Idealize.ShloMosaic.Pipeline (Dat)

variable (m : (ℓ : Loc nD τ sig) → Buf (Elt Ideal) ℓ)
open Cert.FoxTile

/-- The lanes of a head of the pair. -/
def half (e : Fin 2) (l : Fin 128) : Prop := l.val / 64 = e.val

instance (e : Fin 2) (l : Fin 128) : Decidable (half e l) := inferInstanceAs (Decidable (_ = _))

/-- A head's lane mask. -/
def mask (e : Fin 2) (l : Fin 128) : EReal := if half e l then 1 else 0

theorem first_apply (l : Fin 128) : k0_pay2 (ix2 (0 : Fin 1) l) = 1#1 ↔ half 0 l := by
  pointwise [k0_pay2]
  revert l; decide

theorem second_apply (l : Fin 128) : k0_pay63 k0_pay2 (ix2 (0 : Fin 1) l) = 1#1 ↔ half 1 l := by
  pointwise [k0_pay63, k0_pay2]
  revert l; decide

theorem mask_first (l : Fin 128) : k0_pay3 (F := Ideal) (ix2 (0 : Fin 1) l) = mask 0 l := by
  pointwise [k0_pay3]
  have h := first_apply l
  by_cases hh : half 0 l
  · rw [h.mpr hh]
    unfold mask; rw [if_pos hh]
    show (((1#32 : BitVec 32).toInt : ℝ) : EReal) = 1
    simp
  · have h0 : k0_pay2 (ix2 (0 : Fin 1) l) = 0#1 := (BitVec.eq_zero_or_eq_one _).resolve_right fun h1 => hh (h.mp h1)
    rw [h0]
    unfold mask; rw [if_neg hh]
    show (((0#32 : BitVec 32).toInt : ℝ) : EReal) = 0
    simp

theorem mask_second (l : Fin 128) : k0_pay4 (F := Ideal) (ix2 (0 : Fin 1) l) = mask 1 l := by
  pointwise [k0_pay4]
  have h := second_apply l
  have e : IntOp.xori (k0_pay2 (ix2 (0 : Fin 1) l)) 1#1 = k0_pay63 k0_pay2 (ix2 (0 : Fin 1) l) := by pointwise [k0_pay63]
  rw [e]
  by_cases hh : half 1 l
  · rw [h.mpr hh]
    unfold mask; rw [if_pos hh]
    show (((1#32 : BitVec 32).toInt : ℝ) : EReal) = 1
    simp
  · have h0 : k0_pay63 k0_pay2 (ix2 (0 : Fin 1) l) = 0#1 := (BitVec.eq_zero_or_eq_one _).resolve_right fun h1 => hh (h.mp h1)
    rw [h0]
    unfold mask; rw [if_neg hh]
    show (((0#32 : BitVec 32).toInt : ℝ) : EReal) = 0
    simp

theorem up_zero (h : 0 + 2048 ≤ 2048) (r : Fin 2048) : up 0 h r = r := Fin.ext (Nat.zero_add _)

/-- A block with the other head's lanes zeroed. -/
def masked (x : FVec Ideal S2048x128 .bf16) (e : Fin 2) (t : Fin 2048) (l : Fin 128) : EReal := x (ix2 t l) * mask e l

section planes
variable (x : FVec Ideal S2048x128 .bf16)

theorem q_first : IsRows (k0_pay9 x) (masked x 0) 0 := by
  intro h r l; pointwise [k0_pay9]; rw [mask_first, up_zero]; rfl
theorem q_second : IsRows (k0_pay29 (k0_pay28 k0_pay4 x)) (masked x 1) 0 := by
  intro h r l; pointwise [k0_pay29, k0_pay28]; rw [mask_second, up_zero]; rfl
theorem k_first : IsRows (k0_pay10 x) (masked x 0) 0 := by
  intro h r l; pointwise [k0_pay10]; rw [mask_first, up_zero]; rfl
theorem k_second : IsRows (k0_pay30 k0_pay4 x) (masked x 1) 0 := by
  intro h r l; pointwise [k0_pay30]; rw [mask_second, up_zero]; rfl
theorem v_first : IsRows (k0_pay25 k0_pay3 x) (masked x 0) 0 := by
  intro h r l; pointwise [k0_pay25]; rw [mask_first, up_zero]; rfl
theorem v_second : IsRows (k0_pay48 (k0_pay47 k0_pay4 x)) (masked x 1) 0 := by
  intro h r l; pointwise [k0_pay48, k0_pay47]; rw [mask_second, up_zero]; rfl
theorem d_first : IsRows (k0_pay12 (k0_pay11 x)) (masked x 0) 0 := by
  intro h r l; pointwise [k0_pay12, k0_pay11]; rw [mask_first, up_zero]; rfl
theorem d_second : IsRows (k0_pay31 k0_pay4 x) (masked x 1) 0 := by
  intro h r l; pointwise [k0_pay31]; rw [mask_second, up_zero]; rfl

end planes

theorem sel_eq (l : Fin 128) (k : ℕ) (hk : k < 128) (a b : EReal) :
    Scalar.select (IntOp.cmpi .eq (BitVec.ofNat 32 l.val) (BitVec.ofNat 32 k)) a b = if l.val = k then a else b := by
  have h : IntOp.cmpi .eq (BitVec.ofNat 32 l.val) (BitVec.ofNat 32 k) = 1#1 ↔ l.val = k := by
    revert l; exact fun l => Idealize.ShloMosaic.WordCmp.cmpi_eq_ofNat_eq_one_iff (w := 32) (by have := l.isLt; omega) (by omega)
  show (if _ = 1#1 then a else b) = _
  simp only [h]

/-- A number's three parts in three lanes, three ones in the next three, from lane `b` on. -/
def spareQ (b : ℕ) (u : EReal) (l : Fin 128) : EReal :=
  if l.val = b + 5 then 1 else if l.val = b + 4 then 1 else if l.val = b + 3 then 1 else
    if l.val = b + 2 then u - u - (u - u) else if l.val = b + 1 then u - u else if l.val = b then u else 0

/-- Three ones and a number's three parts, from lane `b` on. -/
def spareK (b : ℕ) (u : EReal) (l : Fin 128) : EReal :=
  if l.val = b + 5 then u - u - (u - u) else if l.val = b + 4 then u - u else if l.val = b + 3 then u else
    if l.val = b + 2 then 1 else if l.val = b + 1 then 1 else if l.val = b then 1 else 0

theorem qa_first (q : FVec Ideal S1x2048x128 .bf16) (Q : Fin 2048 → Fin 128 → EReal) (hq : IsRows q Q 0) (x4 x5 : FVec Ideal S2048x128 .f32) :
    IsRows (k0_pay16 (k0_pay13 q) (iota Kind.tc S1x128 32 [1] iota_S1x128_d1_w32) (k0_pay14 (k0_pay7 x5) (k0_pay8 x4))
      (FloatOps.ofBits FTy.f32 1065353216#32) k0_pay15)
      (fun t l => Q t l * Ideal.ofBits .bf16 0x3E00#16 + spareQ 64 (x5 (ix2 t 0) - x4 (ix2 t 0)) l) 0 := by
  intro h r l
  pointwise [k0_pay16, k0_pay13, k0_pay14, k0_pay7, k0_pay8, k0_pay15, k0_pay5, k0_pay6]
  rw [hq h, up_zero]
  rw [sel_eq l 69 (by decide), sel_eq l 68 (by decide), sel_eq l 67 (by decide), sel_eq l 66 (by decide), sel_eq l 65 (by decide), sel_eq l 64 (by decide)]
  rfl

theorem qa_second (q : FVec Ideal S1x2048x128 .bf16) (Q : Fin 2048 → Fin 128 → EReal) (hq : IsRows q Q 0) (x4 x5 : FVec Ideal S2048x128 .f32) :
    IsRows (k0_pay39 (k0_pay32 q) (k0_pay35 (k0_pay26 (k0_pay5 x5)) (k0_pay27 (k0_pay6 x4)))
      (k0_pay36 (k0_pay26 (k0_pay5 x5)) (k0_pay27 (k0_pay6 x4))) (iota Kind.tc S1x128 32 [1] iota_S1x128_d1_w32)
      (k0_pay37 (k0_pay26 (k0_pay5 x5)) (k0_pay27 (k0_pay6 x4))) k0_pay38)
      (fun t l => Q t l * Ideal.ofBits .bf16 0x3E00#16 + spareQ 0 (x5 (ix2 t 64) - x4 (ix2 t 64)) l) 0 := by
  intro h r l
  pointwise [k0_pay39, k0_pay32, k0_pay33, k0_pay34, k0_pay35, k0_pay36, k0_pay37, k0_pay38, k0_pay26, k0_pay27, k0_pay5, k0_pay6]
  rw [hq h, up_zero]
  rw [sel_eq l 5 (by decide), sel_eq l 4 (by decide), sel_eq l 3 (by decide), sel_eq l 2 (by decide), sel_eq l 1 (by decide), sel_eq l 0 (by decide)]
  rfl

theorem ka_first (q : FVec Ideal S1x2048x128 .bf16) (Q : Fin 2048 → Fin 128 → EReal) (hq : IsRows q Q 0) (x5 : FVec Ideal S2048x128 .f32) :
    IsRows (k0_pay24 (k0_pay17 q) (k0_pay19 (k0_pay7 x5)) (k0_pay20 (k0_pay7 x5)) (k0_pay21 (k0_pay7 x5))
      (iota Kind.tc S1x128 32 [1] iota_S1x128_d1_w32) k0_pay22 (FloatOps.ofBits FTy.f32 1065353216#32) k0_pay23)
      (fun t l => Q t l + spareK 64 (0 - x5 (ix2 t 0)) l) 0 := by
  intro h r l
  pointwise [k0_pay24, k0_pay17, k0_pay18, k0_pay19, k0_pay20, k0_pay21, k0_pay22, k0_pay23, k0_pay7, k0_pay5]
  rw [hq h, up_zero]
  rw [sel_eq l 69 (by decide), sel_eq l 68 (by decide), sel_eq l 67 (by decide), sel_eq l 66 (by decide), sel_eq l 65 (by decide), sel_eq l 64 (by decide)]
  rfl

theorem ka_second (q : FVec Ideal S1x2048x128 .bf16) (Q : Fin 2048 → Fin 128 → EReal) (hq : IsRows q Q 0) (x5 : FVec Ideal S2048x128 .f32) :
    IsRows (k0_pay46 (k0_pay40 q) (k0_pay42 (k0_pay26 (k0_pay5 x5))) (k0_pay43 (k0_pay26 (k0_pay5 x5))) (k0_pay44 (k0_pay26 (k0_pay5 x5)))
      (iota Kind.tc S1x128 32 [1] iota_S1x128_d1_w32) k0_pay45)
      (fun t l => Q t l + spareK 0 (0 - x5 (ix2 t 64)) l) 0 := by
  intro h r l
  pointwise [k0_pay46, k0_pay40, k0_pay41, k0_pay42, k0_pay43, k0_pay44, k0_pay45, k0_pay26, k0_pay5]
  rw [hq h, up_zero]
  rw [sel_eq l 5 (by decide), sel_eq l 4 (by decide), sel_eq l 3 (by decide), sel_eq l 2 (by decide), sel_eq l 1 (by decide), sel_eq l 0 (by decide)]
  rfl

/-- The operands of the grid point with these blocks. -/
def ops (x0 x1 x2 x3 : FVec Ideal S2048x128 .bf16) (x4 x5 : FVec Ideal S2048x128 .f32) : Operands where
  ka e t l := masked x1 e t l + spareK (64 - 64 * e.val) (0 - x5 (ix2 t (⟨64 * e.val, by have := e.isLt; omega⟩ : Fin 128))) l
  qa e t l := masked x0 e t l * Ideal.ofBits .bf16 0x3E00#16 + spareQ (64 - 64 * e.val)
    (x5 (ix2 t (⟨64 * e.val, by have := e.isLt; omega⟩ : Fin 128)) - x4 (ix2 t (⟨64 * e.val, by have := e.isLt; omega⟩ : Fin 128))) l
  kp := masked x1
  qp := masked x0
  dp := masked x3
  vp := masked x2

variable (m : (ℓ : Loc nD τ sig) → Buf (Elt Ideal) ℓ)

/-- The operands of a grid point. -/
abbrev opsAt (c : Dev nD) (t : Fin cfg0.N) : Operands :=
  ops (iblk m c 0 t) (iblk m c 1 t) (iblk m c 2 t) (iblk m c 3 t) (iblk m c 4 t) (iblk m c 5 t)

open Operands

theorem load_out {L : List (View.Piece (Elt Ideal) S2048x128 .f32)} {S : Fin 2048 → Fin 128 → EReal} (hL : Reads L S)
    {sig : RefSig} {κ : Kind} {sp : Space} (v : View sig κ sp S2048x128 .f32) (y : S2048x128.Idx) :
    v.readCov (Val := Elt Ideal) L (Rect.unit (s := S2048x128) ![0, 0] S2048x128.size inb_S2048x128_S2048x128_0_0).toLoadRect y
      = S (y 0) (y 1) := by
  obtain ⟨r, l, rfl⟩ : ∃ r l, y = ix2 (n0 := 2048) (n1 := 128) r l := ⟨y 0, y 1, by ext a; match a with | ⟨0, _⟩ => rfl | ⟨1, _⟩ => rfl⟩
  refine (hL.load v (K := 2048) (by decide) r l).trans ?_
  rw [up_zero]; rfl

theorem cast_out {L : List (View.Piece (Elt Ideal) S2048x128 .f32)} {S : Fin 2048 → Fin 128 → EReal} (hL : Reads L S)
    {sig : RefSig} {κ : Kind} {sp : Space} (v : View sig κ sp S2048x128 .f32) (y : S2048x128.Idx) :
    k0_pay1 (v.readCov (Val := Elt Ideal) L (Rect.unit (s := S2048x128) ![0, 0] S2048x128.size inb_S2048x128_S2048x128_0_0).toLoadRect) y
      = S (y 0) (y 1) :=
  load_out hL v y

/-- The accumulators start from zero. -/
theorem zeros (h : ∀ a, (![0, 0] : Fin 2 → ℕ) a + S2048x128.size a ≤ S2048x128.size a) (T : Fin 8 → Fin 2 → Fin 2048 → Fin 128 → EReal) :
    Reads [(⟨Rect.unit (s := S2048x128) ![0, 0] S2048x128.size h, k0_pay49 (F := Ideal)⟩ : View.Piece (Elt Ideal) S2048x128 .f32)] (chain T 0) :=
  Reads.init fun s l => by pointwise [k0_pay49]; rfl

set_option maxHeartbeats 4000000 in
theorem after8 (c : Dev nD) (t : Fin cfg0.N) (y : S2048x128.Idx) :
    ((dats m 0 c).after 8 t) y = chain (opsAt m c t).tv 16 (y 0) (y 1) := by
  rw [after0_8]; unfold outsAt0; frame_open
  simp (disch := decide) only [View.read_writes_junk_eq_canon, View.readAt_eq_ld, View.ld_unit_lit', Memref.IsWhole.read_unread]
  rw [View.canon_cons_unit_lit (S := S2048x128) (by decide)]
  refine cast_out (?_ : Reads _ (chain (opsAt m c t).tv 16)) _ y
  iterate 8
    refine (opsAt m c t).v_push ?_ ?_ ?_ _ ?_ ?_ ?_ ?_ ?_
    · decide
    · decide
    · exact rfl
    · exact isMask_iota _ _ (by decide) (by decide)
    · exact rows_second (ka_second _ _ (rows_second (k_second _) _) _) _
    · exact rows_second (qa_second _ _ (rows_second (q_second _) _) _ _) _
    · exact rows_second (d_second _) _
    refine (opsAt m c t).v_push ?_ ?_ ?_ _ ?_ ?_ ?_ ?_ ?_
    · decide
    · decide
    · exact rfl
    · exact isMask_iota _ _ (by decide) (by decide)
    · exact rows_first (ka_first _ _ (rows_only (k_first _) _) _) _
    · exact rows_first (qa_first _ _ (rows_only (q_first _) _) _ _) _
    · exact rows_first (d_first _) _
  · exact zeros _ _
  · decide

end Cert.Kernel5Ideal.FoxBody
-- ==== Proof.SoftMath.lean ====
module

public import Idealize.ShloMosaic.Lib.Pipeline.ValueKit

@[expose] public section

noncomputable section

/-! Softmax of one row over the reals, some keys masked. -/

namespace Cert.SoftMath

open Idealize.ShloMosaic
open scoped BigOperators

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_ite (p : Prop) [Decidable p] (a b : ℝ) : ((if p then a else b : ℝ) : EReal) = if p then (a : EReal) else (b : EReal) := by
  split_ifs <;> rfl

variable {κ : Type} [Fintype κ] (on : κ → Prop) [DecidablePred on] (s : κ → ℝ)

/-- The masked scores. -/
def sc (k : κ) : EReal := if on k then (s k : EReal) else ⊥

/-- The greatest score. -/
def top : ℝ := (Finset.univ.sup (sc on s)).toReal

/-- The shifted exponentials. -/
def ex (k : κ) : ℝ := if on k then Real.exp (s k - top on s) else 0

/-- Their sum. -/
def tot : ℝ := ∑ k, ex on s k

/-- The weights. -/
def wt (k : κ) : ℝ := ex on s k / tot on s

variable {on} (k₀ : κ) (h₀ : on k₀)

include h₀ in
theorem sup_eq : Finset.univ.sup (sc on s) = (top on s : EReal) := by
  refine (EReal.coe_toReal ?_ ?_).symm
  · refine ne_of_lt ((Finset.sup_lt_iff (by exact bot_lt_top)).mpr fun k _ => ?_)
    unfold sc; split_ifs
    · exact EReal.coe_lt_top _
    · exact bot_lt_top
  · refine ne_of_gt (lt_of_lt_of_le ?_ (Finset.le_sup (f := sc on s) (Finset.mem_univ k₀)))
    unfold sc; rw [if_pos h₀]
    exact EReal.bot_lt_coe _

theorem exp_sc (k : κ) : Ideal.exp (sc on s k - (top on s : EReal)) = (ex on s k : EReal) := by
  unfold sc ex
  split_ifs
  · rw [← EReal.coe_sub, Ideal.exp_coe]
  · rw [EReal.bot_sub]; rfl

theorem ex_nonneg (k : κ) : 0 ≤ ex on s k := by
  unfold ex; split_ifs
  · exact (Real.exp_pos _).le
  · exact le_refl _

include h₀ in
theorem tot_pos : 0 < tot on s := by
  refine lt_of_lt_of_le ?_ (Finset.single_le_sum (f := ex on s) (fun k _ => ex_nonneg s k) (Finset.mem_univ k₀))
  unfold ex; rw [if_pos h₀]
  exact Real.exp_pos _

include h₀ in
theorem sum_wt : ∑ k, wt on s k = 1 := by
  unfold wt
  rw [← Finset.sum_div]
  exact div_self (tot_pos s k₀ h₀).ne'

theorem wt_off {k : κ} (h : ¬ on k) : wt on s k = 0 := by
  unfold wt ex; rw [if_neg h, zero_div]

include h₀ in
/-- A weight from its score less the row's log-sum. -/
theorem wt_eq {k : κ} (h : on k) : Real.exp (s k - (top on s + Real.log (tot on s))) = wt on s k := by
  unfold wt ex
  rw [if_pos h, ← sub_sub, Real.exp_sub, Real.exp_log (tot_pos s k₀ h₀)]

include h₀ in
/-- The row's log-sum. -/
theorem log_tot : Ideal.log (tot on s : EReal) = (Real.log (tot on s) : EReal) := by
  rw [Ideal.log_coe, if_neg (not_le.mpr (tot_pos s k₀ h₀))]

variable (g : κ → ℝ)

/-- The weighted mean of the weights' cotangents. -/
def avg (on : κ → Prop) [DecidablePred on] (s g : κ → ℝ) : ℝ := ∑ k, wt on s k * g k

/-- The scores' cotangents. -/
def dsc (on : κ → Prop) [DecidablePred on] (s g : κ → ℝ) (k : κ) : ℝ := wt on s k * (g k - avg on s g)

theorem dsc_off {k : κ} (h : ¬ on k) : dsc on s g k = 0 := by
  unfold dsc; rw [wt_off s h, zero_mul]

include h₀ in
theorem sum_dsc : ∑ k, dsc on s g k = 0 := by
  unfold dsc
  simp only [mul_sub, Finset.sum_sub_distrib, ← Finset.sum_mul]
  rw [sum_wt s k₀ h₀, one_mul]
  exact sub_self _

include h₀ in
/-- Differentiating the quotient as it stands. -/
theorem dsc_quotient (k : κ) :
    (g k / tot on s + -(∑ j, g j * (1 / (tot on s * tot on s)) * ex on s j)) * ex on s k = dsc on s g k := by
  have hz := (tot_pos s k₀ h₀).ne'
  have e : ∑ j, g j * (1 / (tot on s * tot on s)) * ex on s j = avg on s g / tot on s := by
    unfold avg wt
    rw [Finset.sum_div]
    refine Finset.sum_congr rfl fun j _ => ?_
    field_simp
  rw [e]
  unfold dsc wt
  field_simp
  ring

end Cert.SoftMath
-- ==== Proof.FoxHead.lean ====
module

public import proofs.«01_k».proof.Proof.FoxBody
public import proofs.«01_k».proof.Proof.SoftMath
public import Idealize.ShloMosaic.Lib.Pipeline.ValueKit

@[expose] public section

set_option maxRecDepth 16384

noncomputable section

namespace Cert.Kernel5Ideal.FoxBody

open Cert.Kernel5Ideal Cert.Kernel5Ideal.Gen Idealize.ShloMosaic Idealize.ShloMosaic.TcCoe Idealize.SL.Sem
open Idealize.ShloMosaic.Pipeline (Dat)

variable (m : (ℓ : Loc nD τ sig) → Buf (Elt Ideal) ℓ)
open Cert.FoxTile Cert.FoxTile.Operands Cert.SoftMath
open scoped BigOperators

/-- One head of the attention, every entry a real number. -/
structure Head where
  (q k v d : Fin 2048 → Fin 64 → ℝ)
  (c : Fin 2048 → ℝ)

namespace Head

variable (H : Head)

/-- The keys a query may see. -/
abbrev on (t s : Fin 2048) : Prop := s.val ≤ t.val
def score (t s : Fin 2048) : ℝ := (∑ i, H.q t i * H.k s i) * (1 / 8) + (H.c t - H.c s)
def dp (t s : Fin 2048) : ℝ := ∑ i, H.d t i * H.v s i
def lse (t : Fin 2048) : ℝ := top (on t) (H.score t) + Real.log (tot (on t) (H.score t))
def w (t s : Fin 2048) : ℝ := wt (on t) (H.score t) s
def ds (t s : Fin 2048) : ℝ := dsc (on t) (H.score t) (H.dp t) s
def dq (t : Fin 2048) (i : Fin 64) : ℝ := (∑ s, H.ds t s * H.k s i) * (1 / 8)
def dk (s : Fin 2048) (i : Fin 64) : ℝ := (∑ t, H.ds t s * H.q t i) * (1 / 8)
def dv (s : Fin 2048) (i : Fin 64) : ℝ := ∑ t, H.w t s * H.d t i
def dc (s : Fin 2048) : ℝ := -∑ t, H.ds t s

end Head

/-- A lane's head and its place there. -/
def hd (l : Fin 128) : Fin 2 := ⟨l.val / 64, by have := l.isLt; omega⟩
def pl (l : Fin 128) : Fin 64 := ⟨l.val % 64, Nat.mod_lt _ (by decide)⟩

theorem half_iff (e : Fin 2) (l : Fin 128) : half e l ↔ hd l = e := by
  unfold half hd
  exact ⟨fun h => Fin.ext h, fun h => congrArg Fin.val h⟩

theorem masked_coe (f : Fin 2 → Fin 2048 → Fin 64 → ℝ) (x : FVec Ideal S2048x128 .bf16)
    (hx : ∀ t l, x (ix2 t l) = (f (hd l) t (pl l) : EReal)) (e : Fin 2) (t : Fin 2048) (l : Fin 128) :
    masked x e t l = ((if hd l = e then f e t (pl l) else 0 : ℝ) : EReal) := by
  unfold masked mask
  rw [hx]
  simp only [half_iff]
  split_ifs with h
  · rw [h, mul_one]
  · rw [mul_zero]; rfl

/-- A sum over the lanes of one head. -/
theorem sum_half (e : Fin 2) (f : Fin 64 → ℝ) : ∑ l : Fin 128, (if hd l = e then f (pl l) else 0) = ∑ i, f i := by
  rw [← (finProdFinEquiv (m := 2) (n := 64)).sum_comp, Fintype.sum_prod_type]
  have h : ∀ (a : Fin 2) (i : Fin 64), (if hd (finProdFinEquiv (a, i)) = e then f (pl (finProdFinEquiv (a, i))) else 0)
      = if a = e then f i else 0 := by
    intro a i
    have ha := a.isLt
    have hi := i.isLt
    have e1 : hd (finProdFinEquiv (a, i)) = a := Fin.ext (by show (i.val + 64 * a.val) / 64 = a.val; omega)
    have e2 : pl (finProdFinEquiv (a, i)) = i := Fin.ext (by show (i.val + 64 * a.val) % 64 = i.val; omega)
    rw [e1, e2]
  simp only [h]
  rw [Finset.sum_eq_single e (fun b _ hb => Finset.sum_eq_zero fun i _ => if_neg hb) (fun h => absurd (Finset.mem_univ _) h)]
  simp

def rq (b : ℕ) (u : ℝ) (l : Fin 128) : ℝ :=
  if l.val = b + 5 then 1 else if l.val = b + 4 then 1 else if l.val = b + 3 then 1 else if l.val = b then u else 0
def rk (b : ℕ) (u : ℝ) (l : Fin 128) : ℝ :=
  if l.val = b + 3 then u else if l.val = b + 2 then 1 else if l.val = b + 1 then 1 else if l.val = b then 1 else 0

theorem spareQ_coe (b : ℕ) (u : ℝ) (l : Fin 128) : spareQ b (u : EReal) l = (rq b u l : EReal) := by
  have h0 : (u : EReal) - u = 0 := by rw [← EReal.coe_sub, sub_self]; rfl
  unfold spareQ rq
  rw [h0, show (0 : EReal) - 0 = 0 from sub_zero 0]
  split_ifs <;> first | rfl | omega

theorem spareK_coe (b : ℕ) (u : ℝ) (l : Fin 128) : spareK b (u : EReal) l = (rk b u l : EReal) := by
  have h0 : (u : EReal) - u = 0 := by rw [← EReal.coe_sub, sub_self]; rfl
  unfold spareK rk
  rw [h0, show (0 : EReal) - 0 = 0 from sub_zero 0]
  split_ifs <;> first | rfl | omega

/-- The spare lanes add the row's and the column's shift. -/
theorem sum_spare (e : Fin 2) (kk qq : Fin 64 → ℝ) (a u : ℝ) :
    ∑ l : Fin 128, ((if hd l = e then kk (pl l) else 0) + rk (64 - 64 * e.val) a l) *
      ((if hd l = e then qq (pl l) else 0) * (1 / 8) + rq (64 - 64 * e.val) u l) = (∑ i, qq i * kk i) * (1 / 8) + (u + a) := by
  have he := e.isLt
  have hl : ∀ l : Fin 128, ((if hd l = e then kk (pl l) else 0) + rk (64 - 64 * e.val) a l) *
      ((if hd l = e then qq (pl l) else 0) * (1 / 8) + rq (64 - 64 * e.val) u l)
      = (if hd l = e then qq (pl l) * kk (pl l) * (1 / 8) else 0)
        + ((if l = (⟨64 - 64 * e.val, by omega⟩ : Fin 128) then u else 0) + (if l = (⟨64 - 64 * e.val + 3, by omega⟩ : Fin 128) then a else 0)) := by
    intro l
    have hl := l.isLt
    simp only [Fin.ext_iff]
    by_cases h : hd l = e
    · have h' : l.val / 64 = e.val := congrArg Fin.val h
      have r1 : rk (64 - 64 * e.val) a l = 0 := by
        unfold rk; rw [if_neg (by omega), if_neg (by omega), if_neg (by omega), if_neg (by omega)]
      have r2 : rq (64 - 64 * e.val) u l = 0 := by
        unfold rq; rw [if_neg (by omega), if_neg (by omega), if_neg (by omega), if_neg (by omega)]
      have h2 : (hd l).val = e.val := congrArg Fin.val h
      rw [r1, r2, if_pos h2, if_pos h2, if_pos h2, if_neg (by omega), if_neg (by omega)]
      ring
    · have h2 : ¬ (hd l).val = e.val := fun h' => h (Fin.ext h')
      rw [if_neg h2, if_neg h2, if_neg h2]
      unfold rk rq
      split_ifs <;> first | omega | ring
  simp only [hl, Finset.sum_add_distrib]
  rw [sum_half e (fun i => qq i * kk i * (1 / 8)), Finset.sum_ite_eq', Finset.sum_ite_eq', if_pos (Finset.mem_univ _), if_pos (Finset.mem_univ _),
    Finset.sum_mul]

end Cert.Kernel5Ideal.FoxBody
-- ==== Proof.FoxRef.lean ====
module

public import proofs.«01_k».proof.Proof.FoxHead
public import proofs.«01_k».proof.Proof.Gen.Reference5Ideal.Read
public import Idealize.ShloMosaic.Lib.Pipeline.ValueKit

@[expose] public section

set_option maxRecDepth 16384

noncomputable section

namespace Cert.FoxRef

open Cert.Reference5Ideal Cert.Reference5Ideal.Read Cert.SoftMath Idealize.ShloMosaic Idealize.ShloMosaic.TcCoe Idealize.SL.Sem

open Cert.Kernel5Ideal.FoxBody (Head)
open scoped BigOperators

/-- The row of a batch's token, the column of a head's entry. -/
def row (b : Fin 4) (t : Fin 2048) : Fin 8192 := ⟨2048 * b.val + t.val, by have := b.isLt; have := t.isLt; omega⟩
def col (h : Fin 8) (i : Fin 64) : Fin 512 := ⟨64 * h.val + i.val, by have := h.isLt; have := i.isLt; omega⟩

variable (x0 x1 x2 x4 : (⟨S8192x512, .bf16⟩ : BufTy).Contents (Elt Ideal)) (x3 : (⟨S8192x8, .f32⟩ : BufTy).Contents (Elt Ideal))

/-- The five arrays hold the heads. -/
structure Args (H : Fin 4 → Fin 8 → Head) : Prop where
  q : ∀ b t h i, x0 (ix2 (row b t) (col h i)) = (((H b h).q t i : ℝ) : EReal)
  k : ∀ b t h i, x1 (ix2 (row b t) (col h i)) = (((H b h).k t i : ℝ) : EReal)
  v : ∀ b t h i, x2 (ix2 (row b t) (col h i)) = (((H b h).v t i : ℝ) : EReal)
  c : ∀ b t h, x3 (ix2 (row b t) h) = (((H b h).c t : ℝ) : EReal)
  d : ∀ b t h i, x4 (ix2 (row b t) (col h i)) = (((H b h).d t i : ℝ) : EReal)

theorem idx_eq (j : S8192x512.Idx) (b : Fin 4) (t : Fin 2048) (h : Fin 8) (i : Fin 64)
    (h0 : (j 0).val = 2048 * b.val + t.val) (h1 : (j 1).val = 64 * h.val + i.val) : j = ix2 (row b t) (col h i) := by
  ext a
  match a with
  | ⟨0, _⟩ => exact h0
  | ⟨1, _⟩ => exact h1

theorem v4_at (b t h i) : val_main_v4 (F := Ideal) x0 (ix4 b t h i) = x0 (ix2 (row b t) (col h i)) := by
  rw [val_main_v4_apply]
  refine congrArg x0 (idx_eq _ b t h i ?_ ?_)
  · show (((b.val * 2048 + t.val) * 8 + h.val) * 64 + i.val) / 512 = _
    have := h.isLt; have := i.isLt; omega
  · show (((b.val * 2048 + t.val) * 8 + h.val) * 64 + i.val) % 512 = _
    have := h.isLt; have := i.isLt; omega

theorem v7_at (b t h) : val_main_v7 (F := Ideal) x3 (ix3 b t h) = x3 (ix2 (row b t) h) := by
  rw [val_main_v7_apply]
  refine congrArg x3 ?_
  ext a
  match a with
  | ⟨0, _⟩ =>
    show ((b.val * 2048 + t.val) * 8 + h.val) / 8 = 2048 * b.val + t.val
    have := h.isLt; omega
  | ⟨1, _⟩ =>
    show ((b.val * 2048 + t.val) * 8 + h.val) % 8 = h.val
    have := h.isLt; omega

theorem v57_at (b t h i) : val_main_v57 (F := Ideal) x4 (ix4 b t h i) = x4 (ix2 (row b t) (col h i)) := by
  rw [val_main_v57_apply]
  refine congrArg x4 (idx_eq _ b t h i ?_ ?_)
  · show (((b.val * 2048 + t.val) * 8 + h.val) * 64 + i.val) / 512 = _
    have := h.isLt; have := i.isLt; omega
  · show (((b.val * 2048 + t.val) * 8 + h.val) * 64 + i.val) % 512 = _
    have := h.isLt; have := i.isLt; omega

theorem eighth : Ideal.ofBits .f32 0x3E000000#32 = ((1 / 8 : ℝ) : EReal) := by
  simp [Ideal.ofBits, Ideal.ieee, -EReal.coe_mul]; norm_num
theorem bottom : Ideal.ofBits .f32 0xFF800000#32 = (⊥ : EReal) := by
  simp [Ideal.ofBits, Ideal.ieee]

variable {x0 x1 x2 x4 x3} {H : Fin 4 → Fin 8 → Head} (A : Args x0 x1 x2 x4 x3 H)

/-- A sum of real terms. -/
theorem sum_real {n : ℕ} {f : Fin n → EReal} {g : Fin n → ℝ} (h : ∀ k, f k = (g k : EReal)) : ∑ k, f k = ((∑ k, g k : ℝ) : EReal) := by
  rw [coe_sum]; exact Finset.sum_congr rfl fun k _ => h k

include A

theorem v9_at (b h t s) : val_main_v9 (F := Ideal) x0 x1 (ix4 b h t s) = ((∑ i, (H b h).q t i * (H b h).k s i : ℝ) : EReal) := by
  pointwise [val_main_v9]
  refine sum_real fun i => ?_
  rw [v4_at, show val_main_v5 (F := Ideal) x1 (ix4 b s h i) = _ from v4_at x1 b s h i, A.q, A.k, EReal.coe_mul]

omit A in
theorem v25_1_at (b h t s) : val_main_v25_1 (F := Ideal) (ix4 b h t s) = 1#1 ↔ s.val ≤ t.val := by
  pointwise [val_main_v25_1, val_main_v24, val_main_v23, val_main_v22, val_main_v21, val_main_v20, val_main_v19, val_main_v18]
  have hs := s.isLt
  have ht := t.isLt
  rw [Idealize.ShloMosaic.WordCmp.cmpi_sle_of_lt (w := 32) (by rw [BitVec.toNat_ofNat]; omega) (by rw [BitVec.toNat_ofNat]; omega),
    BitVec.toNat_ofNat, BitVec.toNat_ofNat, Nat.mod_eq_of_lt (by omega), Nat.mod_eq_of_lt (by omega)]
  by_cases h' : s.val ≤ t.val <;> simp [h']

theorem v25_at (b h t s) : val_main_v25_0 (F := Ideal) x0 x1 x3 (ix4 b h t s) = sc (Head.on t) ((H b h).score t) s := by
  show Scalar.select (val_main_v25_1 (F := Ideal) (ix4 b h t s)) (val_main_v17 (F := Ideal) x0 x1 x3 (ix4 b h t s))
    (val_main_call0_v2 (F := Ideal) (ix4 b h t s)) = _
  have e1 : val_main_v17 (F := Ideal) x0 x1 x3 (ix4 b h t s) = (((H b h).score t s : ℝ) : EReal) := by
    pointwise [val_main_v17, val_main_v16, val_main_v15, val_main_v14, val_main_v13, val_main_v12, val_main_v8, val_main_v11, val_main_v10, val_main_cst]
    rw [v9_at A, v7_at, v7_at, A.c, A.c, eighth, ← EReal.coe_mul, ← EReal.coe_sub, ← EReal.coe_add]
    rfl
  have e2 : val_main_call0_v2 (F := Ideal) (ix4 b h t s) = (⊥ : EReal) := by
    pointwise [val_main_call0_v2, val_main_call0_v0, val_main_cst_0]
    exact bottom
  rw [e1, e2]
  unfold Scalar.select sc
  by_cases hs : s.val ≤ t.val
  · exact (if_pos ((v25_1_at b h t s).mpr hs)).trans (if_pos hs).symm
  · exact (if_neg (fun h' => hs ((v25_1_at b h t s).mp h'))).trans (if_neg hs).symm

theorem v26_at (b h t) : val_main_v26 (F := Ideal) x0 x1 x3 (ix3 b h t) = (top (Head.on t) ((H b h).score t) : EReal) := by
  rw [← sup_eq (on := Head.on t) ((H b h).score t) t (le_refl _)]
  pointwise [val_main_v26, val_main_cst_1]
  simp only [v25_at A, bottom]
  rfl

omit A in
theorem idx3 (j : S4x8x2048.Idx) (b : Fin 4) (h : Fin 8) (t : Fin 2048) (h0 : (j 0).val = b.val) (h1 : (j 1).val = h.val)
    (h2 : (j 2).val = t.val) : j = ix3 b h t := by
  ext a
  match a with
  | ⟨0, _⟩ => exact h0
  | ⟨1, _⟩ => exact h1
  | ⟨2, _⟩ => exact h2

omit A in
theorem idx4 (j : S4x8x2048x2048.Idx) (b : Fin 4) (h : Fin 8) (t s : Fin 2048) (h0 : (j 0).val = b.val) (h1 : (j 1).val = h.val)
    (h2 : (j 2).val = t.val) (h3 : (j 3).val = s.val) : j = ix4 b h t s := by
  ext a
  match a with
  | ⟨0, _⟩ => exact h0
  | ⟨1, _⟩ => exact h1
  | ⟨2, _⟩ => exact h2
  | ⟨3, _⟩ => exact h3

theorem v33_at (b h t) : val_main_v33 (F := Ideal) x0 x1 x3 (ix3 b h t) = (top (Head.on t) ((H b h).score t) : EReal) := by
  rw [val_main_v33_apply, v26_at A, val_main_v32_apply]
  exact (congrArg (max · _) bottom).trans (max_eq_right bot_le)

theorem v44_at (b h t s) : val_main_v44 (F := Ideal) x0 x1 x3 (ix4 b h t s) = (top (Head.on t) ((H b h).score t) : EReal) := by
  rw [val_main_v44_apply, val_main_v43_apply, idx3 (idx_main_v43 (idx_main_v44 (ix4 b h t s))) b h t rfl rfl rfl, v33_at A]

theorem v46_at (b h t s) : val_main_v46 (F := Ideal) x0 x1 x3 (ix4 b h t s) = (ex (Head.on t) ((H b h).score t) s : EReal) := by
  rw [← exp_sc, val_main_v46_apply, val_main_v45_apply, v25_at A, v44_at A]
  rfl

theorem v47_at (b h t) : val_main_v47 (F := Ideal) x0 x1 x3 (ix3 b h t) = (tot (Head.on t) ((H b h).score t) : EReal) := by
  have e : ∀ s, val_main_v46 (F := Ideal) x0 x1 x3 (idx_main_v47 (ix3 b h t) s) = (ex (Head.on t) ((H b h).score t) s : EReal) := fun s => by
    rw [idx4 (idx_main_v47 (ix3 b h t) s) b h t s rfl rfl rfl rfl, v46_at A]
  rw [val_main_v47_apply, sum_real e, show val_main_cst_9 (F := Ideal) (Shape.Idx.first Cert.Reference5Ideal.Gen.h_S_) = (0 : EReal) from Ideal.ofBits_zero_f32, zero_add]
  rfl

theorem v50_at (b h t s) : val_main_v50 (F := Ideal) x0 x1 x3 (ix4 b h t s) = (((H b h).w t s : ℝ) : EReal) := by
  pointwise [val_main_v50, val_main_v49, val_main_v48]
  rw [v46_at A, v47_at A, Ideal.div_coe (tot_pos (on := Head.on t) _ t (le_refl _)).ne', ← EReal.coe_mul]
  exact congrArg _ (mul_one_div _ _)

theorem v59_at (b h t s) : val_main_v59 (F := Ideal) x2 x4 (ix4 b h t s) = (((H b h).dp t s : ℝ) : EReal) := by
  pointwise [val_main_v59, val_main_v58]
  refine sum_real fun i => ?_
  rw [v57_at, show val_main_v6 (F := Ideal) x2 (ix4 b s h i) = _ from v4_at x2 b s h i, A.d, A.v, EReal.coe_mul]

theorem v64_at (b h t s) : val_main_v64 (F := Ideal) x0 x1 x2 x3 x4 (ix4 b h t s)
    = (((H b h).dp t s * (1 / (tot (Head.on t) ((H b h).score t) * tot (Head.on t) ((H b h).score t))) * ex (Head.on t) ((H b h).score t) s : ℝ) : EReal) := by
  have hz := (tot_pos (on := Head.on t) ((H b h).score t) t (le_refl _)).ne'
  pointwise [val_main_v64, val_main_v63, val_main_v62, val_main_v53, val_main_v52, val_main_v51, val_main_v48, val_main_cst_10]
  rw [v46_at A, v47_at A, v59_at A, ← EReal.coe_mul, Ideal.div_coe (mul_ne_zero hz hz), one_mul, ← EReal.coe_mul, ← EReal.coe_mul]

theorem v65_at (b h t) : val_main_v65 (F := Ideal) x0 x1 x2 x3 x4 (ix3 b h t)
    = ((∑ s, (H b h).dp t s * (1 / (tot (Head.on t) ((H b h).score t) * tot (Head.on t) ((H b h).score t))) * ex (Head.on t) ((H b h).score t) s : ℝ) : EReal) := by
  have e := fun s => (congrArg (val_main_v64 (F := Ideal) x0 x1 x2 x3 x4) (idx4 (idx_main_v65 (ix3 b h t) s) b h t s rfl rfl rfl rfl)).trans (v64_at A b h t s)
  rw [val_main_v65_apply, sum_real e, show val_main_cst_11 (F := Ideal) (Shape.Idx.first Cert.Reference5Ideal.Gen.h_S_) = (0 : EReal) from Ideal.ofBits_zero_f32, zero_add]

theorem v73_at (b h t s) : val_main_v73 (F := Ideal) x0 x1 x2 x3 x4 (ix4 b h t s) = (((H b h).ds t s : ℝ) : EReal) := by
  have hz := (tot_pos (on := Head.on t) ((H b h).score t) t (le_refl _)).ne'
  pointwise [val_main_v73, val_main_v72, val_main_v71, val_main_v70, val_main_v67, val_main_v66, val_main_v69, val_main_v68, val_main_v48, val_main_cst_12]
  rw [v46_at A, v47_at A, v59_at A, v65_at A, Fin.sum_univ_one, Ideal.div_coe hz, ← EReal.coe_neg, ← EReal.coe_mul, ← EReal.coe_add, ← EReal.coe_mul]
  refine congrArg _ (Eq.trans ?_ (dsc_quotient (on := Head.on t) ((H b h).score t) t (le_refl _) ((H b h).dp t) s))
  rw [mul_one_div]

theorem v74_at (b h t s) : val_main_v74 (F := Ideal) x0 x1 x2 x3 x4 (ix4 b h t s) = (((H b h).ds t s : ℝ) : EReal) := by
  rw [val_main_v74_apply, v73_at A]
  by_cases hs : s.val ≤ t.val
  · exact if_pos ((v25_1_at b h t s).mpr hs)
  · refine (if_neg (fun h' => hs ((v25_1_at b h t s).mp h'))).trans ?_
    rw [show (H b h).ds t s = 0 from dsc_off (on := Head.on t) _ _ hs]
    pointwise [val_main_call1_v0, val_main_call1_cst]
    rfl

theorem v84_at (b h t s) : val_main_v84 (F := Ideal) x0 x1 x2 x3 x4 (ix4 b h t s) = (((H b h).ds t s * (1 / 8) : ℝ) : EReal) := by
  pointwise [val_main_v84, val_main_v83, val_main_cst_17]
  rw [v74_at A, eighth, ← EReal.coe_mul]

omit A in
theorem ix_back (j : S4x2048x8x64.Idx) (b : Fin 4) (t : Fin 2048) (h : Fin 8) (i : Fin 64) (h0 : (j 0).val = b.val) (h1 : (j 1).val = t.val)
    (h2 : (j 2).val = h.val) (h3 : (j 3).val = i.val) : j = ix4 b t h i := by
  ext a
  match a with
  | ⟨0, _⟩ => exact h0
  | ⟨1, _⟩ => exact h1
  | ⟨2, _⟩ => exact h2
  | ⟨3, _⟩ => exact h3

omit A in
theorem hidx (b t h i) : idx_main_v93 (ix2 (row b t) (col h i)) = ix4 b t h i := by
  have hb := b.isLt; have ht := t.isLt; have hh := h.isLt; have hi := i.isLt
  exact ix_back _ b t h i (by show _ / _ = _; simp only [row, col, ix2]; omega) (by simp only [row, col, ix2]; omega)
    (by simp only [row, col, ix2]; omega) (by simp only [row, col, ix2]; omega)

/-- The four gradients of the reference at a token of a batch and an entry of a head. -/
theorem dq_at (b t h i) : val_main_v94 (F := Ideal) x0 x1 x2 x3 x4 (ix2 (row b t) (col h i)) = (((H b h).dq t i : ℝ) : EReal) := by
  rw [val_main_v94_apply, val_main_v93_apply, hidx]
  show val_main_v88 (F := Ideal) x0 x1 x2 x3 x4 (ix4 b t h i) = _
  pointwise [val_main_v88, val_main_v87]
  unfold Head.dq
  rw [Finset.sum_mul]
  refine sum_real fun s => ?_
  rw [v84_at A, show val_main_v5 (F := Ideal) x1 (ix4 b s h i) = _ from v4_at x1 b s h i, A.k, ← EReal.coe_mul]
  exact congrArg _ (by ring)

theorem dk_at (b s h i) : val_main_v95 (F := Ideal) x0 x1 x2 x3 x4 (ix2 (row b s) (col h i)) = (((H b h).dk s i : ℝ) : EReal) := by
  rw [val_main_v95_apply, val_main_v92_apply, show idx_main_v92 (ix2 (row b s) (col h i)) = _ from hidx b s h i]
  show val_main_v86 (F := Ideal) x0 x1 x2 x3 x4 (ix4 b s h i) = _
  pointwise [val_main_v86, val_main_v85]
  unfold Head.dk
  rw [Finset.sum_mul]
  refine sum_real fun t => ?_
  rw [v84_at A, v4_at, A.q, ← EReal.coe_mul]
  exact congrArg _ (by ring)

theorem dv_at (b s h i) : val_main_v96 (F := Ideal) x0 x1 x3 x4 (ix2 (row b s) (col h i)) = (((H b h).dv s i : ℝ) : EReal) := by
  rw [val_main_v96_apply, val_main_v91_apply, show idx_main_v91 (ix2 (row b s) (col h i)) = _ from hidx b s h i]
  show val_main_v61 (F := Ideal) x0 x1 x3 x4 (ix4 b s h i) = _
  pointwise [val_main_v61, val_main_v60, val_main_v58]
  refine sum_real fun t => ?_
  rw [v50_at A, v57_at, A.d, ← EReal.coe_mul]
  exact congrArg _ (mul_comm _ _)

theorem v75_at (b h t) : val_main_v75 (F := Ideal) x0 x1 x2 x3 x4 (ix3 b h t) = 0 := by
  have e := fun s => (congrArg (val_main_v74 (F := Ideal) x0 x1 x2 x3 x4) (idx4 (idx_main_v75 (ix3 b h t) s) b h t s rfl rfl rfl rfl)).trans (v74_at A b h t s)
  rw [val_main_v75_apply, sum_real e, show val_main_cst_13 (F := Ideal) (Shape.Idx.first Cert.Reference5Ideal.Gen.h_S_) = (0 : EReal) from Ideal.ofBits_zero_f32, zero_add]
  exact congrArg _ (sum_dsc (on := Head.on t) _ t (le_refl _) _)

theorem v78_at (b h s) : val_main_v78 (F := Ideal) x0 x1 x2 x3 x4 (ix3 b h s) = (((H b h).dc s : ℝ) : EReal) := by
  have e : ∀ t, val_main_v77 (F := Ideal) x0 x1 x2 x3 x4 (idx_main_v78 (ix3 b h s) t) = ((-(H b h).ds t s : ℝ) : EReal) := fun t => by
    rw [idx4 (idx_main_v78 (ix3 b h s) t) b h t s rfl rfl rfl rfl, val_main_v77_apply, v74_at A]
    rfl
  rw [val_main_v78_apply, sum_real e, show val_main_cst_14 (F := Ideal) (Shape.Idx.first Cert.Reference5Ideal.Gen.h_S_) = (0 : EReal) from Ideal.ofBits_zero_f32, zero_add]
  exact congrArg _ (Finset.sum_neg_distrib _)

theorem v82_at (b h t) : val_main_v82 (F := Ideal) x0 x1 x2 x3 x4 (ix3 b h t) = (((H b h).dc t : ℝ) : EReal) := by
  pointwise [val_main_v82, val_main_v81, val_main_v80, val_main_v79, val_main_v76]
  rw [Fin.sum_univ_one, Fin.sum_univ_one, v78_at A, v75_at A,
    show val_main_cst_15 (F := Ideal) (Shape.Idx.first Cert.Reference5Ideal.Gen.h_S_) = (0 : EReal) from Ideal.ofBits_zero_f32,
    show val_main_cst_16 (F := Ideal) (Shape.Idx.first Cert.Reference5Ideal.Gen.h_S_) = (0 : EReal) from Ideal.ofBits_zero_f32, zero_add, zero_add, add_zero]

theorem dc_at (b t h i) : val_main_v98 (F := Ideal) x0 x1 x2 x3 x4 (ix2 (row b t) (col h i)) = (((H b h).dc t : ℝ) : EReal) := by
  have hb := b.isLt; have ht := t.isLt; have hh := h.isLt; have hi := i.isLt
  rw [← v82_at A]
  pointwise [val_main_v98, val_main_v97, val_main_v90, val_main_v89]
  exact congrArg _ (idx3 _ b h t (by simp only [row, col, ix3]; omega) (by simp only [row, col, ix3]; omega) (by simp only [row, col, ix3]; omega))

end Cert.FoxRef
-- ==== Proof.FoxReal.lean ====
module

public import proofs.«01_k».proof.Proof.FoxHead
public import Idealize.ShloMosaic.Lib.Pipeline.ValueKit

@[expose] public section

set_option maxRecDepth 16384

noncomputable section

namespace Cert.Kernel5Ideal.FoxBody

open Cert.Kernel5Ideal Cert.Kernel5Ideal.Gen Idealize.ShloMosaic Idealize.ShloMosaic.TcCoe Idealize.SL.Sem
open Idealize.ShloMosaic.Pipeline (Dat)

variable (m : (ℓ : Loc nD τ sig) → Buf (Elt Ideal) ℓ)
open Cert.FoxTile Cert.FoxTile.Operands Cert.SoftMath
open scoped BigOperators

/-- The six blocks of a grid point hold the two heads and the rows' log-sums. -/
structure Blocks (H : Fin 2 → Head) (x0 x1 x2 x3 : FVec Ideal S2048x128 .bf16) (x4 x5 : FVec Ideal S2048x128 .f32) : Prop where
  q : ∀ t l, x0 (ix2 t l) = ((H (hd l)).q t (pl l) : EReal)
  k : ∀ t l, x1 (ix2 t l) = ((H (hd l)).k t (pl l) : EReal)
  v : ∀ t l, x2 (ix2 t l) = ((H (hd l)).v t (pl l) : EReal)
  d : ∀ t l, x3 (ix2 t l) = ((H (hd l)).d t (pl l) : EReal)
  lse : ∀ t l, x4 (ix2 t l) = ((H (hd l)).lse t : EReal)
  c : ∀ t l, x5 (ix2 t l) = ((H (hd l)).c t : EReal)

namespace Blocks

variable {H : Fin 2 → Head} {x0 x1 x2 x3 : FVec Ideal S2048x128 .bf16} {x4 x5 : FVec Ideal S2048x128 .f32}
variable (B : Blocks H x0 x1 x2 x3 x4 x5)

include B

theorem ka (e s l) : (ops x0 x1 x2 x3 x4 x5).ka e s l
    = (((if hd l = e then (H e).k s (pl l) else 0) + rk (64 - 64 * e.val) (-(H e).c s) l : ℝ) : EReal) := by
  have he := e.isLt
  have h1 : hd (⟨64 * e.val, by omega⟩ : Fin 128) = e := Fin.ext (by show 64 * e.val / 64 = e.val; omega)
  show masked x1 e s l + spareK (64 - 64 * e.val) (0 - x5 (ix2 s (⟨64 * e.val, by omega⟩ : Fin 128))) l = _
  rw [masked_coe (fun e => (H e).k) x1 B.k, B.c, h1, zero_sub, ← EReal.coe_neg, spareK_coe, ← EReal.coe_add]

theorem qa (e t l) : (ops x0 x1 x2 x3 x4 x5).qa e t l
    = (((if hd l = e then (H e).q t (pl l) else 0) * (1 / 8) + rq (64 - 64 * e.val) ((H e).c t - (H e).lse t) l : ℝ) : EReal) := by
  have he := e.isLt
  have h1 : hd (⟨64 * e.val, by omega⟩ : Fin 128) = e := Fin.ext (by show 64 * e.val / 64 = e.val; omega)
  have h8 : Ideal.ofBits .bf16 0x3E00#16 = ((1 / 8 : ℝ) : EReal) := by
    simp [Ideal.ofBits, Ideal.ieee, -EReal.coe_mul]; norm_num
  show masked x0 e t l * Ideal.ofBits .bf16 0x3E00#16 + spareQ (64 - 64 * e.val)
    (x5 (ix2 t (⟨64 * e.val, by omega⟩ : Fin 128)) - x4 (ix2 t (⟨64 * e.val, by omega⟩ : Fin 128))) l = _
  rw [masked_coe (fun e => (H e).q) x0 B.q, B.c, B.lse, h1, h8, ← EReal.coe_sub, spareQ_coe, ← EReal.coe_mul, ← EReal.coe_add]

theorem p (e s t) : (ops x0 x1 x2 x3 x4 x5).p e s t = ((H e).w t s : EReal) := by
  unfold Operands.p
  split_ifs with h
  · simp only [B.ka, B.qa, ← EReal.coe_mul, ← coe_sum]
    rw [sum_spare, Ideal.exp_coe]
    unfold Head.w
    rw [← wt_eq (on := Head.on t) ((H e).score t) t (le_refl _) h]
    congr 2
    unfold Head.lse
    generalize top (Head.on t) ((H e).score t) + Real.log (tot (Head.on t) ((H e).score t)) = a
    unfold Head.score
    ring
  · rw [show (H e).w t s = 0 from wt_off (on := Head.on t) _ h]
    rfl

theorem g (e s t) : (ops x0 x1 x2 x3 x4 x5).g e s t = ((H e).dp t s : EReal) := by
  have h : ∀ l, (ops x0 x1 x2 x3 x4 x5).vp e s l * (ops x0 x1 x2 x3 x4 x5).dp e t l
      = ((if hd l = e then (H e).d t (pl l) * (H e).v s (pl l) else 0 : ℝ) : EReal) := by
    intro l
    show masked x2 e s l * masked x3 e t l = _
    rw [masked_coe (fun e => (H e).v) x2 B.v, masked_coe (fun e => (H e).d) x3 B.d, ← EReal.coe_mul]
    split_ifs
    · rw [mul_comm]
    · rw [mul_zero]
  unfold Operands.g
  simp only [h, ← coe_sum]
  rw [sum_half e (fun i => (H e).d t i * (H e).v s i)]
  rfl

theorem mean (e t) : (ops x0 x1 x2 x3 x4 x5).mean e t = (avg (Head.on t) ((H e).score t) ((H e).dp t) : EReal) := by
  unfold Operands.mean
  simp only [B.p, B.g, ← EReal.coe_mul, ← coe_sum]
  have h1 : ∑ s, (H e).w t s = 1 := sum_wt (on := Head.on t) _ t (le_refl _)
  rw [h1, Ideal.div_coe one_ne_zero, ← EReal.coe_mul, one_div_one, mul_one]
  rfl

theorem ds (e s t) : (ops x0 x1 x2 x3 x4 x5).ds e s t = ((H e).ds t s : EReal) := by
  unfold Operands.ds
  rw [B.p, B.g, B.mean, ← EReal.coe_sub, ← EReal.coe_mul]
  rfl

omit B in
/-- All tiles and both heads. -/
theorem chain_all (T : Fin 8 → Fin 2 → Fin 2048 → Fin 128 → EReal) (s : Fin 2048) (l : Fin 128) :
    chain T 16 s l = ∑ n, ∑ e, T n e s l := by
  simp only [Fin.sum_univ_two, Fin.sum_univ_eight]
  show ((((((((((((((((0 : EReal) + T 0 0 s l) + T 0 1 s l) + T 1 0 s l) + T 1 1 s l) + T 2 0 s l) + T 2 1 s l) + T 3 0 s l) + T 3 1 s l) + T 4 0 s l) + T 4 1 s l)
    + T 5 0 s l) + T 5 1 s l) + T 6 0 s l) + T 6 1 s l) + T 7 0 s l) + T 7 1 s l = _
  rw [zero_add]
  simp only [add_assoc]

omit B in
/-- The rows, tile by tile. -/
theorem sum_rows (f : Fin 2048 → ℝ) : ∑ n : Fin 8, ∑ c : Fin 256, f (col n c) = ∑ t, f t := by
  rw [← (finProdFinEquiv (m := 8) (n := 256)).sum_comp, Fintype.sum_prod_type]
  refine Finset.sum_congr rfl fun n _ => Finset.sum_congr rfl fun c _ => congrArg f (Fin.ext ?_)
  show 256 * n.val + c.val = c.val + 256 * n.val
  exact add_comm _ _

omit B in
/-- Real tile sums that only the lane's own head adds to. -/
theorem chain_real (T : Fin 8 → Fin 2 → Fin 2048 → Fin 128 → EReal) (f : Fin 2048 → Fin 2048 → ℝ) (s : Fin 2048) (l : Fin 128)
    (h : ∀ n e, T n e s l = ((if hd l = e then ∑ c, f s (col n c) else 0 : ℝ) : EReal)) :
    chain T 16 s l = ((∑ t, f s t : ℝ) : EReal) := by
  rw [chain_all]
  simp only [h, ← coe_sum, Finset.sum_ite_eq, Finset.mem_univ, if_true]
  rw [sum_rows]

theorem tv (s l) : chain (ops x0 x1 x2 x3 x4 x5).tv 16 s l = ((H (hd l)).dv s (pl l) : EReal) := by
  refine chain_real _ (fun s t => (H (hd l)).w t s * (H (hd l)).d t (pl l)) s l fun n e => ?_
  have h : ∀ c, (ops x0 x1 x2 x3 x4 x5).p e s (col n c) * (ops x0 x1 x2 x3 x4 x5).dp e (col n c) l
      = ((if hd l = e then (H (hd l)).w (col n c) s * (H (hd l)).d (col n c) (pl l) else 0 : ℝ) : EReal) := by
    intro c
    rw [B.p]
    show _ * masked x3 e _ l = _
    rw [masked_coe (fun e => (H e).d) x3 B.d, ← EReal.coe_mul]
    split_ifs with h
    · rw [h]
    · rw [mul_zero]
  unfold Operands.tv
  simp only [h, ← coe_sum]
  split_ifs
  · rfl
  · rw [Finset.sum_const_zero]

theorem tk (s l) : chain (ops x0 x1 x2 x3 x4 x5).tk 16 s l = ((H (hd l)).dk s (pl l) : EReal) := by
  have h8 : Ideal.ofBits .f32 0x3E000000#32 = ((1 / 8 : ℝ) : EReal) := by
    simp [Ideal.ofBits, Ideal.ieee, -EReal.coe_mul]; norm_num
  unfold Head.dk
  rw [Finset.sum_mul]
  refine chain_real _ (fun s t => (H (hd l)).ds t s * (H (hd l)).q t (pl l) * (1 / 8)) s l fun n e => ?_
  have h : ∀ c, (ops x0 x1 x2 x3 x4 x5).ds e s (col n c) * (ops x0 x1 x2 x3 x4 x5).qp e (col n c) l
      = ((if hd l = e then (H (hd l)).ds (col n c) s * (H (hd l)).q (col n c) (pl l) else 0 : ℝ) : EReal) := by
    intro c
    rw [B.ds]
    show _ * masked x0 e _ l = _
    rw [masked_coe (fun e => (H e).q) x0 B.q, ← EReal.coe_mul]
    split_ifs with h
    · rw [h]
    · rw [mul_zero]
  unfold Operands.tk
  simp only [h, ← coe_sum]
  rw [h8, ← EReal.coe_mul, Finset.sum_mul]
  split_ifs
  · rfl
  · rw [Finset.sum_congr rfl fun _ _ => zero_mul _, Finset.sum_const_zero]

theorem tc (s l) : chain ((ops x0 x1 x2 x3 x4 x5).tc half) 16 s l = ((H (hd l)).dc s : EReal) := by
  unfold Head.dc
  rw [← Finset.sum_neg_distrib]
  refine chain_real _ (fun s t => -(H (hd l)).ds t s) s l fun n e => ?_
  unfold Operands.tc
  simp only [B.ds, ← coe_sum, half_iff]
  split_ifs with h
  · rw [zero_sub, ← EReal.coe_neg, h, Finset.sum_neg_distrib]
  · rfl

theorem tq (t l) : (ops x0 x1 x2 x3 x4 x5).rowQ t l = ((H (hd l)).dq t (pl l) : EReal) := by
  have h8 : Ideal.ofBits .f32 0x3E000000#32 = ((1 / 8 : ℝ) : EReal) := by
    simp [Ideal.ofBits, Ideal.ieee, -EReal.coe_mul]; norm_num
  have h : ∀ e, (ops x0 x1 x2 x3 x4 x5).tq e t l = ((if hd l = e then ∑ s, (H (hd l)).ds t s * (H (hd l)).k s (pl l) else 0 : ℝ) : EReal) := by
    intro e
    have h1 : ∀ s, (ops x0 x1 x2 x3 x4 x5).ds e s t * (ops x0 x1 x2 x3 x4 x5).kp e s l
        = ((if hd l = e then (H (hd l)).ds t s * (H (hd l)).k s (pl l) else 0 : ℝ) : EReal) := by
      intro s
      rw [B.ds]
      show _ * masked x1 e _ l = _
      rw [masked_coe (fun e => (H e).k) x1 B.k, ← EReal.coe_mul]
      split_ifs with h
      · rw [h]
      · rw [mul_zero]
    unfold Operands.tq
    simp only [h1, ← coe_sum]
    split_ifs
    · rfl
    · rw [Finset.sum_const_zero]
  unfold Operands.rowQ
  rw [h, h, h8, ← EReal.coe_add, ← EReal.coe_mul]
  refine congrArg _ (congrArg (· * _) ?_)
  rw [← Fin.sum_univ_two (fun e : Fin 2 => if hd l = e then ∑ s, (H (hd l)).ds t s * (H (hd l)).k s (pl l) else (0 : ℝ)),
    Finset.sum_ite_eq, if_pos (Finset.mem_univ _)]

end Blocks

end Cert.Kernel5Ideal.FoxBody
-- ==== Proof.FoxHost.lean ====
module

public import proofs.«01_k».proof.Proof.FoxRef
public import proofs.«01_k».proof.Proof.FoxReal
public import proofs.«01_k».proof.Proof.Gen.Reference5Ideal.Read
public import Idealize.ShloMosaic.Lib.Pipeline.ValueKit

@[expose] public section

set_option maxRecDepth 16384

noncomputable section

namespace Cert.Kernel5Ideal.FoxHost

open Cert.Kernel5Ideal Cert.Kernel5Ideal.Gen Idealize.ShloMosaic Idealize.ShloMosaic.TcCoe Idealize.SL.Sem
open Idealize.ShloMosaic.Pipeline (Dat)

variable (m : (ℓ : Loc nD τ sig) → Buf (Elt Ideal) ℓ)
open Cert.FoxRef (row col Args idx3 idx4 bottom)
open Cert.Kernel5Ideal.FoxBody Cert.SoftMath

/-- The rows' greatest scores, as the host takes them. -/
def mx (s : FVec Ideal S4x8x2048x2048 .f32) : FVec Ideal S4x8x2048 .f32 :=
  Host.reduce FloatOps.maximumf s (constant S_ .f32 0xFF800000#32) reducesTo_S4x8x2048x2048_S4x8x2048_d3 h_S_

/-- The shifted exponentials. -/
def es (s : FVec Ideal S4x8x2048x2048 .f32) (M : FVec Ideal S4x8x2048 .f32) : FVec Ideal S4x8x2048x2048 .f32 :=
  Host.exp (subf s (broadcastInDim S4x8x2048x2048 ![0, 1, 2, 3] bcast_S4x8x2048x1_S4x8x2048x2048_0_1_2_3
    (broadcastInDim S4x8x2048x1 ![0, 1, 2] bcast_S4x8x2048_S4x8x2048x1_0_1_2 M)))

/-- Their rows' sums. -/
def zs (e : FVec Ideal S4x8x2048x2048 .f32) : FVec Ideal S4x8x2048 .f32 :=
  Host.reduceAdd e (constant S_ .f32 0x00000000#32) reducesTo_S4x8x2048x2048_S4x8x2048_d3 h_S_

/-- The rows' log-sums in the columns of their heads. -/
def spread (M Z : FVec Ideal S4x8x2048 .f32) : FVec Ideal S8192x512 .f32 :=
  shapeCast S8192x512 (broadcastInDim S8192x8x64 ![0, 1] bcast_S8192x8_S8192x8x64_0_1
    (shapeCast S8192x8 (transpose S4x2048x8 [0, 2, 1] (addf (shapeCast S4x8x2048
      (broadcastInDim S4x8x2048x1 ![0, 1, 2] bcast_S4x8x2048_S4x8x2048x1_0_1_2 M) shapeCasts_S4x8x2048x1_S4x8x2048) (Host.log Z))
      transposes_S4x8x2048_S4x2048x8_0_2_1) shapeCasts_S4x2048x8_S8192x8)) shapeCasts_S8192x8x64_S8192x512

theorem mx_at (s : FVec Ideal S4x8x2048x2048 .f32) (b h t) :
    mx s (ix3 b h t) = Finset.univ.sup fun k => s (ix4 b h t k) := by
  unfold mx
  pointwise
  rw [bottom]
  rfl

theorem es_at (s : FVec Ideal S4x8x2048x2048 .f32) (M : FVec Ideal S4x8x2048 .f32) (b h t k) :
    es s M (ix4 b h t k) = Ideal.exp (s (ix4 b h t k) - M (ix3 b h t)) := by
  unfold es
  pointwise

theorem zs_at (e : FVec Ideal S4x8x2048x2048 .f32) (b h t) : zs e (ix3 b h t) = ∑ k, e (ix4 b h t k) := by
  unfold zs
  pointwise

theorem spread_at (M Z : FVec Ideal S4x8x2048 .f32) (b t h i) :
    spread M Z (ix2 (row b t) (col h i)) = M (ix3 b h t) + Ideal.log (Z (ix3 b h t)) := by
  have hb := b.isLt; have ht := t.isLt; have hh := h.isLt; have hi := i.isLt
  unfold spread
  pointwise
  rw [idx3 (ix3 (⟨(row b t).val / 2048, _⟩ : Fin 4) (⟨(col h i).val / 64, _⟩ : Fin 8) (⟨(row b t).val % 2048, _⟩ : Fin 2048)) b h t
    (by simp only [row, ix3]; omega) (by simp only [col, ix3]; omega) (by simp only [row, ix3]; omega)]

variable {H : Fin 4 → Fin 8 → Head} (c : Dev nD)

/-- The arguments hold the heads. -/
abbrev Given (H : Fin 4 → Fin 8 → Head) : Prop :=
  Args (m ((c : Thread nD τ).loc main_arg0)) (m ((c : Thread nD τ).loc main_arg1)) (m ((c : Thread nD τ).loc main_arg2))
    (m ((c : Thread nD τ).loc main_arg4)) (m ((c : Thread nD τ).loc main_arg3)) H

/-- The host's masked scores are the reference's. -/
abbrev masked : FVec Ideal S4x8x2048x2048 .f32 :=
  Cert.Reference5Ideal.Read.val_main_v25_0 (F := Ideal) (m ((c : Thread nD τ).loc main_arg0)) (m ((c : Thread nD τ).loc main_arg1))
    (m ((c : Thread nD τ).loc main_arg3))

theorem lse_eq : V m c main_v41 = spread (mx (masked m c)) (zs (es (masked m c) (mx (masked m c)))) := by
  simp only [V, List.flatten_cons, List.flatten_nil, List.cons_append, List.nil_append]; entry_read
  rfl

theorem lse_at (A : Given m c H) (b t h i) : V m c main_v41 (ix2 (row b t) (col h i)) = (((H b h).lse t : ℝ) : EReal) := by
  have e1 : mx (masked m c) (ix3 b h t) = (top (Head.on t) ((H b h).score t) : EReal) := by
    rw [mx_at, ← sup_eq (on := Head.on t) ((H b h).score t) t (le_refl _)]
    exact congrArg _ (funext fun k => Cert.FoxRef.v25_at A b h t k)
  have e2 : zs (es (masked m c) (mx (masked m c))) (ix3 b h t) = (tot (Head.on t) ((H b h).score t) : EReal) := by
    rw [zs_at]
    refine Cert.FoxRef.sum_real fun k => ?_
    rw [es_at, e1, ← exp_sc]
    exact congrArg (fun z => Ideal.exp (z - _)) (Cert.FoxRef.v25_at A b h t k)
  rw [lse_eq, spread_at, e1, e2, log_tot (on := Head.on t) _ t (le_refl _), ← EReal.coe_add]
  rfl

/-- The array of the saved projections and the one of the cotangents. -/
def zcat (q k v : FVec Ideal S8192x512 .bf16) : FVec Ideal S8192x3072 .bf16 :=
  concatenate S8192x3072 1 [⟨S8192x2048, concatenate S8192x2048 1 [⟨S8192x1536, broadcastInDim S8192x1536 ![] bcast_S_S8192x1536
    (constant S_ .bf16 0x0000#16)⟩, ⟨S8192x512, q⟩] concatenates_S8192x1536_S8192x512_S8192x2048_d1⟩,
    ⟨S8192x1024, concatenate S8192x1024 1 [⟨S8192x512, k⟩, ⟨S8192x512, v⟩] concatenates_S8192x512_S8192x512_S8192x1024_d1⟩]
    concatenates_S8192x2048_S8192x1024_S8192x3072_d1
def dcat (d : FVec Ideal S8192x512 .bf16) : FVec Ideal S8192x1024 .bf16 :=
  concatenate S8192x1024 1 [⟨S8192x512, extractStridedSlice S8192x512 ![0, 0] (broadcastInDim S8192x1536 ![] bcast_S_S8192x1536
    (constant S_ .bf16 0x0000#16)) slices_S8192x1536_S8192x512_0_0⟩, ⟨S8192x512, d⟩] concatenates_S8192x512_S8192x512_S8192x1024_d1

set_option maxHeartbeats 2000000 in
theorem z_eq : V m c main_v37 = zcat (m ((c : Thread nD τ).loc main_arg0)) (m ((c : Thread nD τ).loc main_arg1)) (m ((c : Thread nD τ).loc main_arg2)) := by
  simp only [V, List.flatten_cons, List.flatten_nil, List.cons_append, List.nil_append]; entry_read
  rfl

set_option maxHeartbeats 2000000 in
theorem d_eq : V m c main_v39 = dcat (m ((c : Thread nD τ).loc main_arg4)) := by
  simp only [V, List.flatten_cons, List.flatten_nil, List.cons_append, List.nil_append]; entry_read
  rfl

theorem zq_at (q k v : FVec Ideal S8192x512 .bf16) (r : Fin 8192) (j : Fin 512) (h : 1536 + j.val < 3072) :
    zcat q k v (ix2 r ⟨1536 + j.val, h⟩) = q (ix2 r j) := by
  have hj := j.isLt
  unfold zcat
  pointwise
  rw [dif_pos (by omega)]
theorem zk_at (q k v : FVec Ideal S8192x512 .bf16) (r : Fin 8192) (j : Fin 512) (h : 2048 + j.val < 3072) :
    zcat q k v (ix2 r ⟨2048 + j.val, h⟩) = k (ix2 r j) := by
  have hj := j.isLt
  unfold zcat
  pointwise
theorem zv_at (q k v : FVec Ideal S8192x512 .bf16) (r : Fin 8192) (j : Fin 512) (h : 2560 + j.val < 3072) :
    zcat q k v (ix2 r ⟨2560 + j.val, h⟩) = v (ix2 r j) := by
  have hj := j.isLt
  unfold zcat
  pointwise
  rw [dif_neg (by omega), dif_neg (by omega)]
  exact congrArg (fun x => v (ix2 r x)) (Fin.ext (by show 2560 + j.val - 2048 - 512 = j.val; omega))
theorem dd_at (d : FVec Ideal S8192x512 .bf16) (r : Fin 8192) (j : Fin 512) (h : 512 + j.val < 1024) :
    dcat d (ix2 r ⟨512 + j.val, h⟩) = d (ix2 r j) := by
  unfold dcat
  pointwise

theorem c_at (r : Fin 8192) (h : Fin 8) (i : Fin 64) : V m c main_v43 (ix2 r (col h i))
    = (show EReal from m ((c : Thread nD τ).loc main_arg3) (ix2 r h)) := by
  have hh := h.isLt; have hi := i.isLt
  simp only [V, List.flatten_cons, List.flatten_nil, List.cons_append, List.nil_append]; entry_read
  pointwise
  refine congrArg (show S8192x8.Idx → EReal from m ((c : Thread nD τ).loc main_arg3)) ?_
  ext a
  match a with
  | ⟨0, _⟩ => rfl
  | ⟨1, _⟩ => show (64 * h.val + i.val) / 64 = h.val; omega

/-- The block of every window at every grid point. -/
theorem idx : ∀ t : Fin cfg0.N, win0_0.index t = ![t.val / 4, 12 + t.val % 4] ∧ win0_1.index t = ![t.val / 4, 16 + t.val % 4]
    ∧ win0_2.index t = ![t.val / 4, 20 + t.val % 4] ∧ win0_3.index t = ![t.val / 4, 4 + t.val % 4] ∧ win0_4.index t = ![t.val / 4, t.val % 4]
    ∧ win0_5.index t = ![t.val / 4, t.val % 4] ∧ win0_6.index t = ![t.val / 4, t.val % 4] ∧ win0_7.index t = ![t.val / 4, t.val % 4]
    ∧ win0_8.index t = ![t.val / 4, t.val % 4] ∧ win0_9.index t = ![t.val / 4, t.val % 4] :=
  (by decide +kernel : ∀ t : Fin grid0.N, _)

theorem points : ∀ t : Fin cfg0.N, t.val < 16 := (by decide +kernel : ∀ t : Fin grid0.N, _)

/-- A grid point's batch and its two heads. -/
def bt (t : Fin cfg0.N) : Fin 4 := ⟨t.val / 4, by have := points t; omega⟩
def ht (t : Fin cfg0.N) (e : Fin 2) : Fin 8 := ⟨2 * (t.val % 4) + e.val, by have := points t; have := e.isLt; omega⟩

theorem lane (t : Fin cfg0.N) (l : Fin 128) : (col (ht t (hd l)) (pl l)).val = 128 * (t.val % 4) + l.val := by
  show 64 * (2 * (t.val % 4) + l.val / 64) + l.val % 64 = _
  omega

theorem place (t : Fin cfg0.N) (r : Fin 2048) : t.val / 4 * 2048 + r.val = (row (bt t) r).val := by
  show _ = 2048 * (t.val / 4) + r.val
  omega
theorem lane' (t : Fin cfg0.N) (l : Fin 128) : t.val % 4 * 128 + l.val = (col (ht t (hd l)) (pl l)).val := by
  rw [lane]
  omega

/-- The blocks read of the four arrays. -/
theorem read0 (t : Fin cfg0.N) (r l) (a : Buf (Elt Ideal) ((c : Thread nD τ).loc main_v37)) :
    View.read (Elt Ideal) ((cfg0.win 0).blk t).view a (ix2 r l) = a (ix2 (row (bt t) r) ⟨1536 + (col (ht t (hd l)) (pl l)).val, by omega⟩) := by
  have hl := lane t l
  blk_ext [idx t]
  exact place t r
theorem read1 (t : Fin cfg0.N) (r l) (a : Buf (Elt Ideal) ((c : Thread nD τ).loc main_v37)) :
    View.read (Elt Ideal) ((cfg0.win 1).blk t).view a (ix2 r l) = a (ix2 (row (bt t) r) ⟨2048 + (col (ht t (hd l)) (pl l)).val, by omega⟩) := by
  have hl := lane t l
  blk_ext [idx t]
  exact place t r
theorem read2 (t : Fin cfg0.N) (r l) (a : Buf (Elt Ideal) ((c : Thread nD τ).loc main_v37)) :
    View.read (Elt Ideal) ((cfg0.win 2).blk t).view a (ix2 r l) = a (ix2 (row (bt t) r) ⟨2560 + (col (ht t (hd l)) (pl l)).val, by omega⟩) := by
  have hl := lane t l
  blk_ext [idx t]
  exact place t r
theorem read3 (t : Fin cfg0.N) (r l) (a : Buf (Elt Ideal) ((c : Thread nD τ).loc main_v39)) :
    View.read (Elt Ideal) ((cfg0.win 3).blk t).view a (ix2 r l) = a (ix2 (row (bt t) r) ⟨512 + (col (ht t (hd l)) (pl l)).val, by omega⟩) := by
  have hl := lane t l
  blk_ext [idx t]
  exact place t r
theorem read4 (t : Fin cfg0.N) (r l) (a : Buf (Elt Ideal) ((c : Thread nD τ).loc main_v41)) :
    View.read (Elt Ideal) ((cfg0.win 4).blk t).view a (ix2 r l) = a (ix2 (row (bt t) r) (col (ht t (hd l)) (pl l))) := by
  have hl := lane t l
  blk_ext [idx t]
  exact place t r
theorem read5 (t : Fin cfg0.N) (r l) (a : Buf (Elt Ideal) ((c : Thread nD τ).loc main_v43)) :
    View.read (Elt Ideal) ((cfg0.win 5).blk t).view a (ix2 r l) = a (ix2 (row (bt t) r) (col (ht t (hd l)) (pl l))) := by
  have hl := lane t l
  blk_ext [idx t]
  exact place t r

theorem blocks (A : Given m c H) (t : Fin cfg0.N) : Blocks (fun e => H (bt t) (ht t e)) (iblk m c 0 t) (iblk m c 1 t) (iblk m c 2 t) (iblk m c 3 t)
    (iblk m c 4 t) (iblk m c 5 t) where
  q r l := (read0 c t r l _).trans (by rw [z_eq, zq_at, A.q])
  k r l := (read1 c t r l _).trans (by rw [z_eq, zk_at, A.k])
  v r l := (read2 c t r l _).trans (by rw [z_eq, zv_at, A.v])
  d r l := (read3 c t r l _).trans (by rw [d_eq, dd_at, A.d])
  lse r l := (read4 c t r l _).trans (lse_at m c A _ _ _ _)
  c r l := (read5 c t r l _).trans ((c_at m c _ _ _).trans (A.c _ _ _))

end Cert.Kernel5Ideal.FoxHost
-- ==== Proof.FoxKeys.lean ====
module

public import proofs.«01_k».proof.Proof.Gen.Kernel5Ideal.Frame
public import Idealize.ShloMosaic.Lib.Pipeline.ValueKit
public import proofs.«01_k».proof.Proof.FoxBody

@[expose] public section

set_option maxRecDepth 16384

noncomputable section

namespace Cert.Kernel5Ideal.FoxBody

open Cert.Kernel5Ideal Cert.Kernel5Ideal.Gen Idealize.ShloMosaic Idealize.ShloMosaic.TcCoe Idealize.SL.Sem
open Idealize.ShloMosaic.Pipeline (Dat)

open Cert.FoxTile Cert.FoxTile.Operands

variable (m : (ℓ : Loc nD τ sig) → Buf (Elt Ideal) ℓ)

set_option maxHeartbeats 4000000 in
set_option pp.maxSteps 300 in
theorem after7 (c : Dev nD) (t : Fin cfg0.N) (y : S2048x128.Idx) :
    ((dats m 0 c).after 7 t) y = chain (opsAt m c t).tk 16 (y 0) (y 1) := by
  rw [after0_7]; unfold outsAt0; frame_open
  simp (disch := decide) only [View.read_writes_junk_eq_canon, View.readAt_eq_ld, View.ld_unit_lit', Memref.IsWhole.read_unread]
  rw [View.canon_cons_unit_lit (S := S2048x128) (by decide)]
  refine cast_out (?_ : Reads _ (chain (opsAt m c t).tk 16)) _ y
  iterate 8
    refine (opsAt m c t).k_push ?_ ?_ ?_ _ ?_ ?_ ?_ ?_ ?_ ?_ ?_
    · decide
    · decide
    · exact rfl
    · exact isMask_iota _ _ (by decide) (by decide)
    · exact rows_second (ka_second _ _ (rows_second (k_second _) _) _) _
    · exact rows_second (qa_second _ _ (rows_second (q_second _) _) _ _) _
    · exact rows_second (v_second _) _
    · exact rows_second (d_second _) _
    · exact rows_second (q_second _) _
    refine (opsAt m c t).k_push ?_ ?_ ?_ _ ?_ ?_ ?_ ?_ ?_ ?_ ?_
    · decide
    · decide
    · exact rfl
    · exact isMask_iota _ _ (by decide) (by decide)
    · exact rows_first (ka_first _ _ (rows_only (k_first _) _) _) _
    · exact rows_first (qa_first _ _ (rows_only (q_first _) _) _ _) _
    · exact rows_first (v_first _) _
    · exact rows_first (d_first _) _
    · exact rows_first (q_first _) _
  · exact zeros _ _
  · decide

end Cert.Kernel5Ideal.FoxBody
-- ==== Proof.FoxGates.lean ====
module

public import proofs.«01_k».proof.Proof.Gen.Kernel5Ideal.Frame
public import Idealize.ShloMosaic.Lib.Pipeline.ValueKit
public import proofs.«01_k».proof.Proof.FoxBody

@[expose] public section

set_option maxRecDepth 16384

noncomputable section

namespace Cert.Kernel5Ideal.FoxBody

open Cert.Kernel5Ideal Cert.Kernel5Ideal.Gen Idealize.ShloMosaic Idealize.ShloMosaic.TcCoe Idealize.SL.Sem
open Idealize.ShloMosaic.Pipeline (Dat)

open Cert.FoxTile Cert.FoxTile.Operands

variable (m : (ℓ : Loc nD τ sig) → Buf (Elt Ideal) ℓ)

set_option maxHeartbeats 4000000 in
set_option pp.maxSteps 300 in
theorem after9 (c : Dev nD) (t : Fin cfg0.N) (y : S2048x128.Idx) :
    ((dats m 0 c).after 9 t) y = chain ((opsAt m c t).tc half) 16 (y 0) (y 1) := by
  rw [after0_9]; unfold outsAt0; frame_open
  simp only [View.read_writes_junk_eq_canon]
  rw [View.canon_cons_unit_lit (S := S2048x128) (by decide)]
  simp (disch := decide) only [View.readAt_eq_ld, View.ld_unit_lit', Memref.IsWhole.read_unread]
  refine load_out (?_ : Reads _ (chain ((opsAt m c t).tc half) 16)) _ y
  iterate 8
    refine (opsAt m c t).c_push ?_ ?_ ?_ _ ?_ ?_ ?_ ?_ ?_ half ?_ ?_
    · decide
    · decide
    · exact rfl
    · exact isMask_iota _ _ (by decide) (by decide)
    · exact rows_second (ka_second _ _ (rows_second (k_second _) _) _) _
    · exact rows_second (qa_second _ _ (rows_second (q_second _) _) _ _) _
    · exact rows_second (v_second _) _
    · exact rows_second (d_second _) _
    · exact second_apply
    refine (opsAt m c t).c_push ?_ ?_ ?_ _ ?_ ?_ ?_ ?_ ?_ half ?_ ?_
    · decide
    · decide
    · exact rfl
    · exact isMask_iota _ _ (by decide) (by decide)
    · exact rows_first (ka_first _ _ (rows_only (k_first _) _) _) _
    · exact rows_first (qa_first _ _ (rows_only (q_first _) _) _ _) _
    · exact rows_first (v_first _) _
    · exact rows_first (d_first _) _
    · exact first_apply
  · exact zeros _ _
  · decide

end Cert.Kernel5Ideal.FoxBody
-- ==== Proof.FoxRows.lean ====
module

public import proofs.«01_k».proof.Proof.Gen.Kernel5Ideal.Frame
public import Idealize.ShloMosaic.Lib.Pipeline.ValueKit
public import proofs.«01_k».proof.Proof.FoxBody

@[expose] public section

set_option maxRecDepth 16384

noncomputable section

namespace Cert.Kernel5Ideal.FoxBody

open Cert.Kernel5Ideal Cert.Kernel5Ideal.Gen Idealize.ShloMosaic Idealize.ShloMosaic.TcCoe Idealize.SL.Sem
open Idealize.ShloMosaic.Pipeline (Dat)

open Cert.FoxTile Cert.FoxTile.Operands

variable (m : (ℓ : Loc nD τ sig) → Buf (Elt Ideal) ℓ)

theorem whole_of_fills {L : List (View.Piece (Elt Ideal) S2048x128 .bf16)} {S : Fin 2048 → Fin 128 → EReal} (h : Fills L S 8)
    (y : S2048x128.Idx) : View.canon L y = S (y 0) (y 1) := by
  obtain ⟨r, l, rfl⟩ : ∃ r l, y = ix2 (n0 := 2048) (n1 := 128) r l := ⟨y 0, y 1, by ext a; match a with | ⟨0, _⟩ => rfl | ⟨1, _⟩ => rfl⟩
  exact h r l r.isLt

set_option maxHeartbeats 4000000 in
set_option pp.maxSteps 300 in
theorem after6 (c : Dev nD) (t : Fin cfg0.N) (y : S2048x128.Idx) :
    ((dats m 0 c).after 6 t) y = (opsAt m c t).rowQ (y 0) (y 1) := by
  rw [after0_6]; unfold outsAt0; frame_open
  simp (disch := decide) only [View.read_writes_junk_eq_canon, View.readAt_eq_ld, View.ld_unit_lit', Memref.IsWhole.read_unread]
  refine whole_of_fills ?_ y
  iterate 8
    refine (opsAt m c t).q_push ?_ ?_ ?_ ?_ ?_ ?_ ?_ ?_ ?_ ?_ ?_ ?_ ?_ ?_ ?_
    · decide
    · decide
    · exact rfl
    · exact isMask_iota _ _ (by decide) (by decide)
    · exact rows_first (ka_first _ _ (rows_only (k_first _) _) _) _
    · exact rows_first (qa_first _ _ (rows_only (q_first _) _) _ _) _
    · exact rows_first (v_first _) _
    · exact rows_first (d_first _) _
    · exact rows_first (k_first _) _
    · exact rows_second (ka_second _ _ (rows_second (k_second _) _) _) _
    · exact rows_second (qa_second _ _ (rows_second (q_second _) _) _ _) _
    · exact rows_second (v_second _) _
    · exact rows_second (d_second _) _
    · exact rows_second (k_second _) _
  exact fun s l h => absurd h (by omega)

end Cert.Kernel5Ideal.FoxBody
-- ==== Proof.Finite.lean ====
module

public import Idealize.ShloMosaic.Lib.Pipeline.ValueKit
public import Idealize.ShloMosaic.Lib.ReduceAll

@[expose] public section

noncomputable section

/-! A test that all entries of an array are below infinity in absolute value makes every entry a real number. -/
namespace Cert.Finite

open Idealize.ShloMosaic

theorem inf_word : Ideal.ofBits .f32 0x7F800000#32 = ⊤ := by simp [Ideal.ofBits, Ideal.ieee]

theorem real_of_lt (z : EReal) (h : max z (-z) < ⊤) : z = (z.toReal : EReal) := by
  refine (EReal.coe_toReal ?_ ?_).symm
  · rintro rfl
    simp at h
  · rintro rfl
    simp at h

theorem of_and {a b : BitVec 1} (h : a &&& b = 1#1) : a = 1#1 ∧ b = 1#1 := by
  revert a b
  decide

theorem real_of_all {s t u : Shape} {axes : List (Fin s.rank)} [Subsingleton t.Idx] (x b : FVec Ideal s .f32) (init : u.Idx → BitVec 1)
    (h : s.ReducesTo axes t) (hu : 0 < u.numel) (j : t.Idx) (hb : ∀ i, b i = (⊤ : EReal))
    (e : Host.reduce IntOp.andi (cmpf .olt (Host.absf x) b) init h hu j = 1#1) (i : s.Idx) :
    (x i : EReal) = (((x i : EReal).toReal : ℝ) : EReal) := by
  have e1 := Host.reduce_andi_all (cmpf .olt (Host.absf x) b) init h hu j e i
  have e2 : Ideal.cmp .olt (max (x i : EReal) (-(x i : EReal))) (b i) = 1#1 := e1
  rw [hb i] at e2
  refine real_of_lt _ ?_
  by_contra hn
  simp [Ideal.cmp, hn] at e2

end Cert.Finite
-- ==== Proof.FoxValue.lean ====
module

public import proofs.«01_k».proof.Proof.FoxHost
public import proofs.«01_k».proof.Proof.FoxKeys
public import proofs.«01_k».proof.Proof.FoxGates
public import proofs.«01_k».proof.Proof.FoxRows
public import proofs.«01_k».proof.Proof.Finite
public import proofs.«01_k».proof.Pre_fox_finite
public import proofs.«01_k».proof.Proof.Gen.Reference5Ideal.Read
public import Idealize.ShloMosaic.Lib.Pipeline.ValueKit

@[expose] public section

set_option maxRecDepth 16384

noncomputable section

namespace Cert.Kernel5Ideal.FoxValue

open Cert.Kernel5Ideal Cert.Kernel5Ideal.Gen Idealize.ShloMosaic Idealize.ShloMosaic.TcCoe Idealize.SL.Sem
open Idealize.ShloMosaic.Pipeline (Dat)

variable (m : (ℓ : Loc nD τ sig) → Buf (Elt Ideal) ℓ)
open Cert.FoxRef (row col Args)
open Cert.Kernel5Ideal.FoxBody Cert.Kernel5Ideal.FoxHost

/-- The array with an entry per batch, head, token and place. -/
def flat (f : Fin 4 → Fin 8 → Fin 2048 → Fin 64 → ℝ) (i : S8192x512.Idx) : EReal :=
  ((f ⟨(i 0).val / 2048, by idx_bounds; omega⟩ ⟨(i 1).val / 64, by idx_bounds; omega⟩ ⟨(i 0).val % 2048, Nat.mod_lt _ (by decide)⟩
    ⟨(i 1).val % 64, Nat.mod_lt _ (by decide)⟩ : ℝ) : EReal)

theorem flat_at (f b h t i) : flat f (ix2 (row b t) (col h i)) = (f b h t i : EReal) := by
  have hb := b.isLt; have ht := t.isLt; have hh := h.isLt; have hi := i.isLt
  have e0 : (⟨(row b t).val / 2048, by show (2048 * b.val + t.val) / 2048 < 4; omega⟩ : Fin 4) = b := Fin.ext (by show (2048 * b.val + t.val) / 2048 = b.val; omega)
  have e1 : (⟨(col h i).val / 64, by show (64 * h.val + i.val) / 64 < 8; omega⟩ : Fin 8) = h := Fin.ext (by show (64 * h.val + i.val) / 64 = h.val; omega)
  have e2 : (⟨(row b t).val % 2048, Nat.mod_lt _ (by decide)⟩ : Fin 2048) = t := Fin.ext (by show (2048 * b.val + t.val) % 2048 = t.val; omega)
  have e3 : (⟨(col h i).val % 64, Nat.mod_lt _ (by decide)⟩ : Fin 64) = i := Fin.ext (by show (64 * h.val + i.val) % 64 = i.val; omega)
  show ((f (⟨(row b t).val / 2048, _⟩ : Fin 4) (⟨(col h i).val / 64, _⟩ : Fin 8) (⟨(row b t).val % 2048, _⟩ : Fin 2048) (⟨(col h i).val % 64, _⟩ : Fin 64) : ℝ) : EReal) = _
  rw [e0, e1, e2, e3]

theorem eq_flat {g : S8192x512.Idx → EReal} {f : Fin 4 → Fin 8 → Fin 2048 → Fin 64 → ℝ}
    (hg : ∀ b h t i, g (ix2 (row b t) (col h i)) = (f b h t i : EReal)) : g = flat f := by
  funext y
  have h0 : (y 0).val < 8192 := (y 0).isLt
  have h1 : (y 1).val < 512 := (y 1).isLt
  have e : y = ix2 (row ⟨(y 0).val / 2048, by omega⟩ ⟨(y 0).val % 2048, Nat.mod_lt _ (by decide)⟩)
      (col ⟨(y 1).val / 64, by omega⟩ ⟨(y 1).val % 64, Nat.mod_lt _ (by decide)⟩) := by
    ext a
    match a with
    | ⟨0, _⟩ => show (y 0).val = 2048 * ((y 0).val / 2048) + (y 0).val % 2048; omega
    | ⟨1, _⟩ => show (y 1).val = 64 * ((y 1).val / 64) + (y 1).val % 64; omega
  rw [e, hg, flat_at]

variable {H : Fin 4 → Fin 8 → Head} (c : Dev nD)

/-- The blocks of the result windows. -/
theorem emb6 (t : Fin cfg0.N) (r : Fin 2048) (l : Fin 128) : (win0_6.blk t).view.emb (ix2 r l) = ix2 (row (bt t) r) (col (ht t (hd l)) (pl l)) := by
  have hl := lane t l
  blk_ext [idx t]
  exact place t r
theorem emb7 (t : Fin cfg0.N) (r : Fin 2048) (l : Fin 128) : (win0_7.blk t).view.emb (ix2 r l) = ix2 (row (bt t) r) (col (ht t (hd l)) (pl l)) := by
  have hl := lane t l
  blk_ext [idx t]
  exact place t r
theorem emb8 (t : Fin cfg0.N) (r : Fin 2048) (l : Fin 128) : (win0_8.blk t).view.emb (ix2 r l) = ix2 (row (bt t) r) (col (ht t (hd l)) (pl l)) := by
  have hl := lane t l
  blk_ext [idx t]
  exact place t r
theorem emb9 (t : Fin cfg0.N) (r : Fin 2048) (l : Fin 128) : (win0_9.blk t).view.emb (ix2 r l) = ix2 (row (bt t) r) (col (ht t (hd l)) (pl l)) := by
  have hl := lane t l
  blk_ext [idx t]
  exact place t r

/-- An entry of a flat array read through the block of a result window. -/
theorem read_flat (f : Fin 4 → Fin 8 → Fin 2048 → Fin 64 → ℝ) (t : Fin cfg0.N) (r : Fin 2048) (l : Fin 128) {j : S8192x512.Idx}
    (hj : j = ix2 (row (bt t) r) (col (ht t (hd l)) (pl l))) : (f (bt t) (ht t (hd l)) r (pl l) : EReal) = flat f j :=
  ((congrArg (flat f) hj).trans (flat_at f _ _ _ _)).symm

theorem split (y : S2048x128.Idx) : y = ix2 (n0 := 2048) (n1 := 128) (y 0) (y 1) := by
  ext a
  match a with
  | ⟨0, _⟩ => rfl
  | ⟨1, _⟩ => rfl

/-! The four result arrays: the gradients of the queries, the keys, the values and the gate. -/
theorem final6 (A : Given m c H) : (dats m 0 c).arrAt 6 cfg0.N = flat fun b h t i => (H b h).dq t i := by
  refine (dats m 0 c).arrAt_eq_of_covers 6 _ (by decide +kernel) fun t hf y => ?_
  obtain ⟨r, l, rfl⟩ : ∃ r l, y = ix2 (n0 := 2048) (n1 := 128) r l := ⟨y 0, y 1, split y⟩
  exact (after6 m c t _).trans (((blocks m c A t).tq r l).trans (read_flat (fun b h t i => (H b h).dq t i) t r l (emb6 t r l)))
theorem final7 (A : Given m c H) : (dats m 0 c).arrAt 7 cfg0.N = flat fun b h t i => (H b h).dk t i := by
  refine (dats m 0 c).arrAt_eq_of_covers 7 _ (by decide +kernel) fun t hf y => ?_
  obtain ⟨r, l, rfl⟩ : ∃ r l, y = ix2 (n0 := 2048) (n1 := 128) r l := ⟨y 0, y 1, split y⟩
  exact (after7 m c t _).trans (((blocks m c A t).tk r l).trans (read_flat (fun b h t i => (H b h).dk t i) t r l (emb7 t r l)))
theorem final8 (A : Given m c H) : (dats m 0 c).arrAt 8 cfg0.N = flat fun b h t i => (H b h).dv t i := by
  refine (dats m 0 c).arrAt_eq_of_covers 8 _ (by decide +kernel) fun t hf y => ?_
  obtain ⟨r, l, rfl⟩ : ∃ r l, y = ix2 (n0 := 2048) (n1 := 128) r l := ⟨y 0, y 1, split y⟩
  exact (after8 m c t _).trans (((blocks m c A t).tv r l).trans (read_flat (fun b h t i => (H b h).dv t i) t r l (emb8 t r l)))
theorem final9 (A : Given m c H) : (dats m 0 c).arrAt 9 cfg0.N = flat fun b h t i => (H b h).dc t := by
  refine (dats m 0 c).arrAt_eq_of_covers 9 _ (by decide +kernel) fun t hf y => ?_
  obtain ⟨r, l, rfl⟩ : ∃ r l, y = ix2 (n0 := 2048) (n1 := 128) r l := ⟨y 0, y 1, split y⟩
  exact (after9 m c t _).trans (((blocks m c A t).tc r l).trans (read_flat (fun b h t i => (H b h).dc t) t r l (emb9 t r l)))

/-- The precondition makes every entry a number. -/
theorem finite [Cert.Pre_fox_finite.Facts] (x0 x1 x2 x4 : FVec Ideal S8192x512 .bf16) (x3 : FVec Ideal S8192x8 .f32)
    (h : Cert.Pre_fox_finite.fn (F := Ideal) x0 x1 x2 x3 x4 = fun _ => 1#1) :
    (∀ i, x0 i = ((x0 i : EReal).toReal : EReal)) ∧ (∀ i, x1 i = ((x1 i : EReal).toReal : EReal)) ∧ (∀ i, x2 i = ((x2 i : EReal).toReal : EReal))
      ∧ (∀ i, x4 i = ((x4 i : EReal).toReal : EReal)) ∧ (∀ i, x3 i = ((x3 i : EReal).toReal : EReal)) := by
  have h0 := congrFun h ix0
  dsimp only [Cert.Pre_fox_finite.fn, Cert.Pre_fox_finite.fn_part1] at h0
  obtain ⟨h0, e4⟩ := Cert.Finite.of_and h0
  obtain ⟨h0, e3⟩ := Cert.Finite.of_and h0
  obtain ⟨h0, e2⟩ := Cert.Finite.of_and h0
  obtain ⟨e0, e1⟩ := Cert.Finite.of_and h0
  haveI : Subsingleton Cert.Pre_fox_finite.S_.Idx := ⟨fun a b => funext fun k => k.elim0⟩
  exact ⟨Cert.Finite.real_of_all _ _ _ _ _ _ (fun _ => Cert.Finite.inf_word) e0, Cert.Finite.real_of_all _ _ _ _ _ _ (fun _ => Cert.Finite.inf_word) e1,
    Cert.Finite.real_of_all _ _ _ _ _ _ (fun _ => Cert.Finite.inf_word) e2, Cert.Finite.real_of_all _ _ _ _ _ _ (fun _ => Cert.Finite.inf_word) e4,
    Cert.Finite.real_of_all _ _ _ _ _ _ (fun _ => Cert.Finite.inf_word) e3⟩

/-- The heads in the five arrays. -/
def heads (x0 x1 x2 x4 : FVec Ideal S8192x512 .bf16) (x3 : FVec Ideal S8192x8 .f32) (b : Fin 4) (h : Fin 8) : Head where
  q t i := (x0 (ix2 (row b t) (col h i)) : EReal).toReal
  k t i := (x1 (ix2 (row b t) (col h i)) : EReal).toReal
  v t i := (x2 (ix2 (row b t) (col h i)) : EReal).toReal
  d t i := (x4 (ix2 (row b t) (col h i)) : EReal).toReal
  c t := (x3 (ix2 (row b t) h) : EReal).toReal

theorem args [Cert.Pre_fox_finite.Facts] (x0 x1 x2 x4 : FVec Ideal S8192x512 .bf16) (x3 : FVec Ideal S8192x8 .f32)
    (h : Cert.Pre_fox_finite.fn (F := Ideal) x0 x1 x2 x3 x4 = fun _ => 1#1) : Args x0 x1 x2 x4 x3 (heads x0 x1 x2 x4 x3) := by
  obtain ⟨h0, h1, h2, h4, h3⟩ := finite x0 x1 x2 x4 x3 h
  exact ⟨fun _ _ _ _ => h0 _, fun _ _ _ _ => h1 _, fun _ _ _ _ => h2 _, fun _ _ _ => h3 _, fun _ _ _ _ => h4 _⟩

end Cert.Kernel5Ideal.FoxValue
-- ==== Proof.XTile.lean ====
module

public import proofs.«01_k».proof.Proof.Gen.Kernel3Ideal.Frame
public import proofs.«01_k».proof.Proof.Gen.Reference3Ideal.Read
public import Idealize.ShloMosaic.Lib.Pipeline.ValueKit

@[expose] public section

set_option maxRecDepth 16384

noncomputable section

namespace Cert.Kernel3Ideal.XTile

open Cert.Kernel3Ideal Cert.Kernel3Ideal.Gen Idealize.ShloMosaic Idealize.ShloMosaic.TcCoe Idealize.SL.Sem
open Idealize.ShloMosaic.Pipeline (Dat)

variable (m : (ℓ : Loc nD τ sig) → Buf (Elt Ideal) ℓ)
variable (q d : Vec Ideal S1024x256 .bf16) (k v : Vec Ideal S256x256 .bf16) (o : Vec Ideal S256x256 .f32)
  (p : FVec Ideal S1024x256 .f32) (kk vv : FVec Ideal S256x256 .bf16)

/-! ### The four heads' bodies are one function -/

theorem p1 : k0_pay12 q k = k0_pay5 q k := by unfold k0_pay12 k0_pay5 k0_pay10 k0_pay4; rfl
theorem p2 : k0_pay19 q (k0_pay17 k) = k0_pay5 q k := by unfold k0_pay19 k0_pay5 k0_pay17 k0_pay4; rfl
theorem p3 : k0_pay27 q k = k0_pay5 q k := by unfold k0_pay27 k0_pay5 k0_pay26 k0_pay4; rfl
theorem ds3 : k0_pay28 q k v d = k0_pay6 q k v d := by unfold k0_pay28 k0_pay6; rw [p3]
theorem ds2 : k0_pay20 q (k0_pay17 k) (k0_pay18 v) d = k0_pay6 q k v d := by
  unfold k0_pay20 k0_pay6 k0_pay18; rw [p2]
theorem ds1 : k0_pay13 (k0_pay11 v) d (k0_pay12 q k) = k0_pay6 q k v d := by
  unfold k0_pay13 k0_pay6 k0_pay11; rw [p1]
theorem dq1 : k0_pay14 (k0_pay10 k) (k0_pay11 v) d (k0_pay12 q k) = k0_pay7 q k v d := by
  unfold k0_pay14 k0_pay7; rw [ds1]; rfl
theorem dq2 : k0_pay21 q (k0_pay17 k) (k0_pay18 v) d = k0_pay7 q k v d := by
  unfold k0_pay21 k0_pay7; rw [ds2]; rfl
theorem dq3 : k0_pay29 q k v d = k0_pay7 q k v d := by
  unfold k0_pay29 k0_pay7; rw [ds3]; rfl
theorem dk1 : k0_pay15 q (k0_pay11 v) d (k0_pay12 q k) o = k0_pay8 q (k0_pay6 q k v d) o := by
  unfold k0_pay15 k0_pay8; rw [ds1]
theorem dk2 : k0_pay22 q (k0_pay17 k) (k0_pay18 v) d o = k0_pay8 q (k0_pay6 q k v d) o := by
  unfold k0_pay22 k0_pay8; rw [ds2]
theorem dk3 : k0_pay1 q (k0_pay28 q k v d) o = k0_pay8 q (k0_pay6 q k v d) o := by
  rw [ds3]; rfl
theorem dv1 : k0_pay16 d (k0_pay12 q k) o = k0_pay9 d (k0_pay5 q k) o := by
  rw [p1]; rfl
theorem dv2 : k0_pay25 (k0_pay23 o) (k0_pay24 q (k0_pay17 k) d) = k0_pay9 d (k0_pay5 q k) o := by
  unfold k0_pay24; rw [p2]; rfl
theorem dv3 : k0_pay2 d (k0_pay27 q k) o = k0_pay9 d (k0_pay5 q k) o := by
  rw [p3]; rfl

/-! ### Columns of a block -/

/-- Column `j` of head `h` among the 1024 columns of the queries. -/
def qc (h : Fin 4) (j : Fin 256) : Fin 1024 := ⟨256 * h.val + j.val, by omega⟩
/-- Column `j` of block `b` among the 2048 columns of the keys and values. -/
def kc (b : Fin 8) (j : Fin 256) : Fin 2048 := ⟨256 * b.val + j.val, by omega⟩
/-- The keys' block of head `h`. -/
def kb (h : Fin 4) : Fin 8 := ⟨h.val, by omega⟩
/-- The values' block of head `h`. -/
def vb (h : Fin 4) : Fin 8 := ⟨h.val + 4, by omega⟩

/-- Head `h`'s columns of a block of queries. -/
def part (x : Vec Ideal S1024x1024 .bf16) (h : Fin 4) : Vec Ideal S1024x256 .bf16 := fun i => x (ix2 (i 0) (qc h (i 1)))
/-- Block `b`'s columns of a block of keys and values. -/
def cut {e : EltTy} (x : Vec Ideal S256x2048 e) (b : Fin 8) : Vec Ideal S256x256 e := fun i => x (ix2 (i 0) (kc b (i 1)))

theorem ld_part (x : Vec Ideal S1024x1024 .bf16) (off : ℕ) (hin) (h : Fin 4) (ho : off = 256 * h.val) :
    View.ld x (Rect.unit ![0, off] ![1024, 256] hin) = part x h := by
  subst ho
  funext i
  refine congrArg x ?_
  ext a
  match a with
  | ⟨0, _⟩ => exact (Nat.zero_add _).trans (Nat.one_mul _)
  | ⟨1, _⟩ => exact congrArg (256 * h.val + ·) (Nat.one_mul _)

theorem ld_cut {e : EltTy} (x : Vec Ideal S256x2048 e) (off : ℕ) (hin) (b : Fin 8) (ho : off = 256 * b.val) :
    View.ld x (Rect.unit ![0, off] ![256, 256] hin) = cut x b := by
  subst ho
  funext i
  refine congrArg x ?_
  ext a
  match a with
  | ⟨0, _⟩ => exact (Nat.zero_add _).trans (Nat.one_mul _)
  | ⟨1, _⟩ => exact congrArg (256 * b.val + ·) (Nat.one_mul _)

/-! ### A block written column block by column block -/

theorem mem_col {off : ℕ} (hin) (r : Fin 256) (l : Fin 2048) :
    ix2 (n0 := 256) (n1 := 2048) r l ∈ (Rect.unit (s := S256x2048) ![0, off] ![256, 256] hin).set ↔ off ≤ l.val ∧ l.val < off + 256 := by
  rw [Rect.mem_set_unit]
  constructor
  · intro h
    exact h 1
  · intro h a
    match a with
    | ⟨0, _⟩ => exact ⟨Nat.zero_le _, by show r.val < 0 + 256; omega⟩
    | ⟨1, _⟩ => exact h

theorem hit {off : ℕ} (hin) (w : Vec Ideal S256x256 .f32) (L : List (View.Piece (Elt Ideal) S256x2048 .f32)) (b : Fin 8) (r j : Fin 256)
    (ho : off = 256 * b.val) :
    View.canon (⟨Rect.unit (s := S256x2048) ![0, off] ![256, 256] hin, w⟩ :: L) (ix2 r (kc b j)) = w (ix2 r j) := by
  subst ho
  have e : ix2 (n0 := 256) (n1 := 2048) r (kc b j)
      = (Rect.unit (s := S256x2048) ![0, 256 * b.val] ![256, 256] hin).emb (ix2 (n0 := 256) (n1 := 256) r j) := by
    ext a
    match a with
    | ⟨0, _⟩ => exact ((Nat.zero_add _).trans (Nat.one_mul _)).symm
    | ⟨1, _⟩ => exact (congrArg (256 * b.val + ·) (Nat.one_mul _)).symm
  rw [e]
  exact View.canon_cons_emb _ _ L _

theorem miss {off : ℕ} (hin) (w : Vec Ideal S256x256 .f32) (L : List (View.Piece (Elt Ideal) S256x2048 .f32)) (b : Fin 8) (r j : Fin 256)
    (ho : off + 256 ≤ 256 * b.val ∨ 256 * b.val + 256 ≤ off) :
    View.canon (⟨Rect.unit (s := S256x2048) ![0, off] ![256, 256] hin, w⟩ :: L) (ix2 r (kc b j)) = View.canon L (ix2 r (kc b j)) := by
  refine View.canon_cons_of_not_mem _ _ fun h => ?_
  have h' := (mem_col hin r (kc b j)).mp h
  have hb : (kc b j).val = 256 * b.val + j.val := rfl
  omega

/-- The eight blocks of columns, written in the kernel's order. -/
theorem canon8 (w : Fin 8 → Vec Ideal S256x256 .f32) (L : List (View.Piece (Elt Ideal) S256x2048 .f32)) (b : Fin 8) (r j : Fin 256) :
    View.canon (⟨Rect.unit (s := S256x2048) ![0, 1792] ![256, 256] inb_S256x2048_S256x256_0_1792, w 7⟩
      :: ⟨Rect.unit (s := S256x2048) ![0, 768] ![256, 256] inb_S256x2048_S256x256_0_768, w 3⟩
      :: ⟨Rect.unit (s := S256x2048) ![0, 1536] ![256, 256] inb_S256x2048_S256x256_0_1536, w 6⟩
      :: ⟨Rect.unit (s := S256x2048) ![0, 512] ![256, 256] inb_S256x2048_S256x256_0_512, w 2⟩
      :: ⟨Rect.unit (s := S256x2048) ![0, 1280] ![256, 256] inb_S256x2048_S256x256_0_1280, w 5⟩
      :: ⟨Rect.unit (s := S256x2048) ![0, 256] ![256, 256] inb_S256x2048_S256x256_0_256, w 1⟩
      :: ⟨Rect.unit (s := S256x2048) ![0, 1024] ![256, 256] inb_S256x2048_S256x256_0_1024, w 4⟩
      :: ⟨Rect.unit (s := S256x2048) ![0, 0] ![256, 256] inb_S256x2048_S256x256_0_0, w 0⟩ :: L) (ix2 r (kc b j)) = w b (ix2 r j) := by
  match b with
  | 7 =>
    exact hit _ _ _ 7 _ _ rfl
  | 3 =>
    iterate 1 refine (miss _ _ _ _ _ _ (by decide)).trans ?_
    exact hit _ _ _ 3 _ _ rfl
  | 6 =>
    iterate 2 refine (miss _ _ _ _ _ _ (by decide)).trans ?_
    exact hit _ _ _ 6 _ _ rfl
  | 2 =>
    iterate 3 refine (miss _ _ _ _ _ _ (by decide)).trans ?_
    exact hit _ _ _ 2 _ _ rfl
  | 5 =>
    iterate 4 refine (miss _ _ _ _ _ _ (by decide)).trans ?_
    exact hit _ _ _ 5 _ _ rfl
  | 1 =>
    iterate 5 refine (miss _ _ _ _ _ _ (by decide)).trans ?_
    exact hit _ _ _ 1 _ _ rfl
  | 4 =>
    iterate 6 refine (miss _ _ _ _ _ _ (by decide)).trans ?_
    exact hit _ _ _ 4 _ _ rfl
  | 0 =>
    iterate 7 refine (miss _ _ _ _ _ _ (by decide)).trans ?_
    exact hit _ _ _ 0 _ _ rfl

/-- Nothing but zeros stands yet in column block `b`. -/
def Zero (L : List (View.Piece (Elt Ideal) S256x2048 .f32)) (b : Fin 8) : Prop := ∀ r j, View.canon L (ix2 r (kc b j)) = (0 : EReal)

theorem zero_base (b : Fin 8) :
    Zero [⟨Rect.unit (s := S256x2048) ![0, 0] ![256, 2048] inb_S256x2048_S256x2048_0_0, k0_pay3 (F := Ideal)⟩] b := by
  intro r j
  rw [View.canon_cons_unit_lit _ _ _ (by decide)]
  pointwise [k0_pay3]

theorem zero_cons {off : ℕ} (hin) (w : Vec Ideal S256x256 .f32) (L : List (View.Piece (Elt Ideal) S256x2048 .f32)) (b : Fin 8)
    (ho : off + 256 ≤ 256 * b.val ∨ 256 * b.val + 256 ≤ off) (h : Zero L b) :
    Zero (⟨Rect.unit (s := S256x2048) ![0, off] ![256, 256] hin, w⟩ :: L) b := fun r j => (miss hin w L b r j ho).trans (h r j)

/-- A load of a column block that holds zeros. -/
theorem old_zero {κ : Kind} {sp : Space} (v : View sig κ sp S256x2048 .f32) (L : List (View.Piece (Elt Ideal) S256x2048 .f32)) {off : ℕ} (hin) (b : Fin 8)
    (ho : off = 256 * b.val) (h : Zero L b) :
    v.readCov L (Rect.unit (s := S256x2048) ![0, off] ![256, 256] hin).toLoadRect = fun _ => (0 : EReal) := by
  subst ho
  rw [View.readCov_eq_canon']
  funext i
  refine Eq.trans (congrArg (View.canon L) ?_) (h (i 0) (i 1))
  ext a
  match a with
  | ⟨0, _⟩ => exact (Nat.zero_add _).trans (Nat.one_mul _)
  | ⟨1, _⟩ => exact congrArg (256 * b.val + ·) (Nat.one_mul _)

/-! ### What a point leaves in the block of the keys' and values' gradients -/

/-- The keys' part of head `h`, over what stood there. -/
def dkP (x0 x2 : Vec Ideal S1024x1024 .bf16) (x1 : Vec Ideal S256x2048 .bf16) (o : Fin 8 → Vec Ideal S256x256 .f32) (h : Fin 4) : Vec Ideal S256x256 .f32 :=
  k0_pay8 (part x0 h) (k0_pay6 (part x0 h) (cut x1 (kb h)) (cut x1 (vb h)) (part x2 h)) (o (kb h))
/-- The values' part of head `h`, over what stood there. -/
def dvP (x0 x2 : Vec Ideal S1024x1024 .bf16) (x1 : Vec Ideal S256x2048 .bf16) (o : Fin 8 → Vec Ideal S256x256 .f32) (h : Fin 4) : Vec Ideal S256x256 .f32 :=
  k0_pay9 (part x2 h) (k0_pay5 (part x0 h) (cut x1 (kb h))) (o (vb h))
/-- All eight of them. -/
def kvP (x0 x2 : Vec Ideal S1024x1024 .bf16) (x1 : Vec Ideal S256x2048 .bf16) (o : Fin 8 → Vec Ideal S256x256 .f32) : Fin 8 → Vec Ideal S256x256 .f32 :=
  ![dkP x0 x2 x1 o 0, dkP x0 x2 x1 o 1, dkP x0 x2 x1 o 2, dkP x0 x2 x1 o 3, dvP x0 x2 x1 o 0, dvP x0 x2 x1 o 1, dvP x0 x2 x1 o 2, dvP x0 x2 x1 o 3]

theorem kvP_kb (x0 x2 x1 o) (h : Fin 4) : kvP x0 x2 x1 o (kb h) = dkP x0 x2 x1 o h := by fin_cases h <;> rfl
theorem kvP_vb (x0 x2 x1 o) (h : Fin 4) : kvP x0 x2 x1 o (vb h) = dvP x0 x2 x1 o h := by fin_cases h <;> rfl

/-! ### What a point leaves in the block of the queries' gradient -/

theorem mem_colq {off : ℕ} (hin) (r l : Fin 1024) :
    ix2 (n0 := 1024) (n1 := 1024) r l ∈ (Rect.unit (s := S1024x1024) ![0, off] ![1024, 256] hin).set ↔ off ≤ l.val ∧ l.val < off + 256 := by
  rw [Rect.mem_set_unit]
  constructor
  · intro h
    exact h 1
  · intro h a
    match a with
    | ⟨0, _⟩ => exact ⟨Nat.zero_le _, by show r.val < 0 + 1024; omega⟩
    | ⟨1, _⟩ => exact h

theorem hitq {off : ℕ} (hin) (w : Vec Ideal S1024x256 .bf16) (L : List (View.Piece (Elt Ideal) S1024x1024 .bf16)) (h : Fin 4) (r : Fin 1024) (j : Fin 256)
    (ho : off = 256 * h.val) :
    View.canon (⟨Rect.unit (s := S1024x1024) ![0, off] ![1024, 256] hin, w⟩ :: L) (ix2 r (qc h j)) = w (ix2 r j) := by
  subst ho
  have e : ix2 (n0 := 1024) (n1 := 1024) r (qc h j)
      = (Rect.unit (s := S1024x1024) ![0, 256 * h.val] ![1024, 256] hin).emb (ix2 (n0 := 1024) (n1 := 256) r j) := by
    ext a
    match a with
    | ⟨0, _⟩ => exact ((Nat.zero_add _).trans (Nat.one_mul _)).symm
    | ⟨1, _⟩ => exact (congrArg (256 * h.val + ·) (Nat.one_mul _)).symm
  rw [e]
  exact View.canon_cons_emb _ _ L _

theorem missq {off : ℕ} (hin) (w : Vec Ideal S1024x256 .bf16) (L : List (View.Piece (Elt Ideal) S1024x1024 .bf16)) (h : Fin 4) (r : Fin 1024) (j : Fin 256)
    (ho : off + 256 ≤ 256 * h.val ∨ 256 * h.val + 256 ≤ off) :
    View.canon (⟨Rect.unit (s := S1024x1024) ![0, off] ![1024, 256] hin, w⟩ :: L) (ix2 r (qc h j)) = View.canon L (ix2 r (qc h j)) := by
  refine View.canon_cons_of_not_mem _ _ fun hm => ?_
  have h' := (mem_colq hin r (qc h j)).mp hm
  have hb : (qc h j).val = 256 * h.val + j.val := rfl
  omega

/-- The four heads' columns, written in the kernel's order. -/
theorem canon4 (w : Fin 4 → Vec Ideal S1024x256 .bf16) (h : Fin 4) (r : Fin 1024) (j : Fin 256) :
    View.canon (Val := Elt Ideal) [⟨Rect.unit (s := S1024x1024) ![0, 768] ![1024, 256] inb_S1024x1024_S1024x256_0_768, w 3⟩,
      ⟨Rect.unit (s := S1024x1024) ![0, 512] ![1024, 256] inb_S1024x1024_S1024x256_0_512, w 2⟩,
      ⟨Rect.unit (s := S1024x1024) ![0, 256] ![1024, 256] inb_S1024x1024_S1024x256_0_256, w 1⟩,
      ⟨Rect.unit (s := S1024x1024) ![0, 0] ![1024, 256] inb_S1024x1024_S1024x256_0_0, w 0⟩] (ix2 r (qc h j)) = w h (ix2 r j) := by
  match h with
  | 3 => exact hitq _ _ _ 3 _ _ rfl
  | 2 => exact (missq _ _ _ _ _ _ (by decide)).trans (hitq _ _ _ 2 _ _ rfl)
  | 1 =>
    iterate 2 refine (missq _ _ _ _ _ _ (by decide)).trans ?_
    exact hitq _ _ _ 1 _ _ rfl
  | 0 =>
    iterate 3 refine (missq _ _ _ _ _ _ (by decide)).trans ?_
    exact hitq _ _ _ 0 _ _ rfl

/-- The queries' part of head `h`. -/
def dqP (x0 x2 : Vec Ideal S1024x1024 .bf16) (x1 : Vec Ideal S256x2048 .bf16) (h : Fin 4) : Vec Ideal S1024x256 .bf16 :=
  k0_pay7 (part x0 h) (cut x1 (kb h)) (cut x1 (vb h)) (part x2 h)

set_option maxHeartbeats 4000000 in
theorem queries (c : Dev nD) (t : Fin cfg0.N) (h : Fin 4) (r : Fin 1024) (j : Fin 256) :
    (outsAt0 (F := Ideal) m c t.val t.isLt).1 (ix2 r (qc h j)) = dqP (iblk m c 0 t) (iblk m c 2 t) (iblk m c 1 t) h (ix2 r j) := by
  by_cases ht : t.val % 2 = 0
  all_goals first | rw [outsAt0_A m c t ht]; unfold out0_A_3 | rw [outsAt0_B m c t ht]; unfold out0_B_3
  all_goals
    frame_open
    simp (disch := decide) only [View.read_writes_junk_eq_canon, View.readAt_eq_ld, View.ld_unit_lit', Memref.IsWhole.read_unread]
    generalize iblk m c 0 t = x0
    generalize iblk m c 1 t = x1
    generalize iblk m c 2 t = x2
    rw [ld_part x0 0 _ 0 rfl, ld_part x0 256 _ 1 rfl, ld_part x0 512 _ 2 rfl, ld_part x0 768 _ 3 rfl,
      ld_part x2 0 _ 0 rfl, ld_part x2 256 _ 1 rfl, ld_part x2 512 _ 2 rfl, ld_part x2 768 _ 3 rfl,
      ld_cut x1 0 _ 0 rfl, ld_cut x1 256 _ 1 rfl, ld_cut x1 512 _ 2 rfl, ld_cut x1 768 _ 3 rfl,
      ld_cut x1 1024 _ 4 rfl, ld_cut x1 1280 _ 5 rfl, ld_cut x1 1536 _ 6 rfl, ld_cut x1 1792 _ 7 rfl, dq1, dq2, dq3]
    exact canon4 (dqP x0 x2 x1) h r j

set_option maxHeartbeats 4000000 in
theorem second (c : Dev nD) (t : Fin cfg0.N) (h : ¬t.val % 2 = 0) (b : Fin 8) (r j : Fin 256) :
    (outsAt0 (F := Ideal) m c t.val t.isLt).2 (ix2 r (kc b j))
      = kvP (iblk m c 0 t) (iblk m c 2 t) (iblk m c 1 t)
          (cut (e := .f32) (outsAt0 (F := Ideal) m c (t.val - 1) (Nat.lt_of_le_of_lt (Nat.sub_le _ _) t.isLt)).2) b (ix2 r j) := by
  rw [outsAt0_B m c t h]; unfold out0_B_4; frame_open
  simp (disch := decide) only [View.read_writes_junk_eq_canon, View.readAt_eq_ld, View.ld_unit_lit', Memref.IsWhole.read_unread]
  generalize outsAt0 m c (t.val - 1) _ = xo
  generalize iblk m c 0 t = x0
  generalize iblk m c 1 t = x1
  generalize iblk m c 2 t = x2
  rw [ld_part x0 0 _ 0 rfl, ld_part x0 256 _ 1 rfl, ld_part x0 512 _ 2 rfl, ld_part x0 768 _ 3 rfl,
    ld_part x2 0 _ 0 rfl, ld_part x2 256 _ 1 rfl, ld_part x2 512 _ 2 rfl, ld_part x2 768 _ 3 rfl,
    ld_cut x1 0 _ 0 rfl, ld_cut x1 256 _ 1 rfl, ld_cut x1 512 _ 2 rfl, ld_cut x1 768 _ 3 rfl,
    ld_cut x1 1024 _ 4 rfl, ld_cut x1 1280 _ 5 rfl, ld_cut x1 1536 _ 6 rfl, ld_cut x1 1792 _ 7 rfl,
    ld_cut xo.2 0 _ 0 rfl, ld_cut xo.2 256 _ 1 rfl, ld_cut xo.2 512 _ 2 rfl, ld_cut xo.2 768 _ 3 rfl,
    ld_cut xo.2 1024 _ 4 rfl, ld_cut xo.2 1280 _ 5 rfl, ld_cut xo.2 1536 _ 6 rfl, ld_cut xo.2 1792 _ 7 rfl,
    dk1, dk2, dk3, dv1, dv2, dv3]
  exact canon8 (kvP x0 x2 x1 (cut (e := .f32) xo.2)) [] b r j

set_option maxHeartbeats 4000000 in
theorem first (c : Dev nD) (t : Fin cfg0.N) (h : t.val % 2 = 0) (b : Fin 8) (r j : Fin 256) :
    (outsAt0 (F := Ideal) m c t.val t.isLt).2 (ix2 r (kc b j))
      = kvP (iblk m c 0 t) (iblk m c 2 t) (iblk m c 1 t) (fun _ _ => (0 : EReal)) b (ix2 r j) := by
  rw [outsAt0_A m c t h]; unfold out0_A_4; frame_open
  simp (disch := decide) only [View.read_writes_junk_eq_canon, View.readAt_eq_ld, View.ld_unit_lit', Memref.IsWhole.read_unread]
  generalize iblk m c 0 t = x0
  generalize iblk m c 1 t = x1
  generalize iblk m c 2 t = x2
  rw [ld_part x0 0 _ 0 rfl, ld_part x0 256 _ 1 rfl, ld_part x0 512 _ 2 rfl, ld_part x0 768 _ 3 rfl,
    ld_part x2 0 _ 0 rfl, ld_part x2 256 _ 1 rfl, ld_part x2 512 _ 2 rfl, ld_part x2 768 _ 3 rfl,
    ld_cut x1 0 _ 0 rfl, ld_cut x1 256 _ 1 rfl, ld_cut x1 512 _ 2 rfl, ld_cut x1 768 _ 3 rfl,
    ld_cut x1 1024 _ 4 rfl, ld_cut x1 1280 _ 5 rfl, ld_cut x1 1536 _ 6 rfl, ld_cut x1 1792 _ 7 rfl]
  rw [old_zero _ _ (off := 0) _ 0 rfl (by repeat first | exact zero_base _ | refine zero_cons _ _ _ _ (by decide) ?_)]
  rw [old_zero _ _ (off := 1024) _ 4 rfl (by repeat first | exact zero_base _ | refine zero_cons _ _ _ _ (by decide) ?_)]
  rw [old_zero _ _ (off := 256) _ 1 rfl (by repeat first | exact zero_base _ | refine zero_cons _ _ _ _ (by decide) ?_)]
  rw [old_zero _ _ (off := 1280) _ 5 rfl (by repeat first | exact zero_base _ | refine zero_cons _ _ _ _ (by decide) ?_)]
  rw [old_zero _ _ (off := 512) _ 2 rfl (by repeat first | exact zero_base _ | refine zero_cons _ _ _ _ (by decide) ?_)]
  rw [old_zero _ _ (off := 1536) _ 6 rfl (by repeat first | exact zero_base _ | refine zero_cons _ _ _ _ (by decide) ?_)]
  rw [old_zero _ _ (off := 768) _ 3 rfl (by repeat first | exact zero_base _ | refine zero_cons _ _ _ _ (by decide) ?_)]
  rw [old_zero _ _ (off := 1792) _ 7 rfl (by repeat first | exact zero_base _ | refine zero_cons _ _ _ _ (by decide) ?_)]
  rw [dk1, dk2, dk3, dv1, dv2, dv3]
  exact canon8 (kvP x0 x2 x1 (fun _ _ => (0 : EReal))) _ b r j

/-! ### The body's arrays at an entry -/

theorem weights_apply (t : Fin 1024) (s : Fin 256) : k0_pay5 q k (ix2 t s)
    = Ideal.exp ((∑ x : Fin 256, q (ix2 t x) * k (ix2 s x)) * Ideal.ofBits FTy.f32 1031798784#32 -
          Finset.fold max (Ideal.ofBits FTy.f32 4286578688#32)
            (fun x : Fin 256 => (∑ x_1 : Fin 256, q (ix2 t x_1) * k (ix2 x x_1)) * Ideal.ofBits FTy.f32 1031798784#32) Finset.univ) *
      Ideal.div 1 (∑ x : Fin 256, Ideal.exp ((∑ x_1 : Fin 256, q (ix2 t x_1) * k (ix2 x x_1)) * Ideal.ofBits FTy.f32 1031798784#32 -
              Finset.fold max (Ideal.ofBits FTy.f32 4286578688#32)
                (fun x : Fin 256 => (∑ x_1 : Fin 256, q (ix2 t x_1) * k (ix2 x x_1)) * Ideal.ofBits FTy.f32 1031798784#32) Finset.univ)) := by
  pointwise [k0_pay5, k0_pay4]
theorem ds_apply (t : Fin 1024) (s : Fin 256) : k0_pay6 q k v d (ix2 t s)
    = k0_pay5 q k (ix2 t s) * (∑ x : Fin 256, d (ix2 t x) * v (ix2 s x)
        - ∑ x : Fin 256, k0_pay5 q k (ix2 t x) * ∑ x_1 : Fin 256, d (ix2 t x_1) * v (ix2 x x_1)) := by
  pointwise [k0_pay6]
theorem dq_apply (t : Fin 1024) (j : Fin 256) : k0_pay7 q k v d (ix2 t j)
    = (∑ s : Fin 256, k0_pay6 q k v d (ix2 t s) * k (ix2 s j)) * Ideal.ofBits FTy.f32 1031798784#32 := by
  pointwise [k0_pay7, k0_pay4]
theorem dk_apply (s : FVec Ideal S1024x256 .bf16) (r j : Fin 256) : k0_pay8 q s o (ix2 r j)
    = o (ix2 r j) + (∑ t : Fin 1024, s (ix2 t r) * q (ix2 t j)) * Ideal.ofBits FTy.f32 1031798784#32 := by
  pointwise [k0_pay8]
theorem dv_apply (r j : Fin 256) : k0_pay9 d p o (ix2 r j) = o (ix2 r j) + ∑ t : Fin 1024, p (ix2 t r) * d (ix2 t j) := by
  pointwise [k0_pay9]

end Cert.Kernel3Ideal.XTile
-- ==== Proof.XHead.lean ====
module

public import proofs.«01_k».proof.Proof.SoftMath

@[expose] public section

noncomputable section

namespace Cert.XHead

open Idealize.ShloMosaic Cert.SoftMath
open scoped BigOperators

/-- One head of one batch: queries and keys are numbers, values and the cotangent may be infinite. -/
structure Head where
  q : Fin 2048 → Fin 256 → ℝ
  k : Fin 256 → Fin 256 → ℝ
  v : Fin 256 → Fin 256 → EReal
  d : Fin 2048 → Fin 256 → EReal

/-- Every key is read. -/
abbrev all : Fin 256 → Prop := fun _ => True

namespace Head
variable (H : Head)

/-- The score of a query against a key. -/
def score (t : Fin 2048) (s : Fin 256) : ℝ := (∑ i, H.q t i * H.k s i) * (1 / 16)
/-- The softmax weight. -/
def w (t : Fin 2048) (s : Fin 256) : ℝ := wt all (H.score t) s
/-- The gradient of a weight. -/
def dp (t : Fin 2048) (s : Fin 256) : EReal := ∑ i, H.d t i * H.v s i
/-- The gradient of a score. -/
def ds (t : Fin 2048) (s : Fin 256) : EReal := (H.w t s : EReal) * (H.dp t s - ∑ x, (H.w t x : EReal) * H.dp t x)
/-- The three gradients. -/
def dq (t : Fin 2048) (i : Fin 256) : EReal := (∑ s, H.ds t s * (H.k s i : EReal)) * ((1 / 16 : ℝ) : EReal)
def dk (s : Fin 256) (i : Fin 256) : EReal := (∑ t, H.ds t s * (H.q t i : EReal)) * ((1 / 16 : ℝ) : EReal)
def dv (s : Fin 256) (i : Fin 256) : EReal := ∑ t, (H.w t s : EReal) * H.d t i
end Head

theorem sixteenth : Ideal.ofBits .f32 0x3D800000#32 = ((1 / 16 : ℝ) : EReal) := by
  simp [Ideal.ofBits, Ideal.ieee, -EReal.coe_mul]; norm_num
theorem sixteen : Ideal.ofBits .f32 0x41800000#32 = ((16 : ℝ) : EReal) := by
  simp [Ideal.ofBits, Ideal.ieee, -EReal.coe_mul]; norm_num
theorem bottom : Ideal.ofBits .f32 0xFF800000#32 = (⊥ : EReal) := by
  simp [Ideal.ofBits, Ideal.ieee]

/-- A positive number passes through a sum of extended reals. -/
theorem mul_sum {ι : Type*} (S : Finset ι) (a : ℝ) (ha : 0 ≤ a) (f : ι → EReal) : (a : EReal) * ∑ i ∈ S, f i = ∑ i ∈ S, (a : EReal) * f i := by
  classical
  induction S using Finset.induction_on with
  | empty => simp
  | insert b S hb ih =>
    rw [Finset.sum_insert hb, Finset.sum_insert hb,
      EReal.left_distrib_of_nonneg_of_ne_top (by exact_mod_cast ha) (EReal.coe_ne_top a), ih]

theorem mul_sub {a : ℝ} (ha : 0 ≤ a) (x y : EReal) : (a : EReal) * (x - y) = (a : EReal) * x - (a : EReal) * y := by
  rw [sub_eq_add_neg, EReal.left_distrib_of_nonneg_of_ne_top (by exact_mod_cast ha) (EReal.coe_ne_top a), mul_neg, ← sub_eq_add_neg]

/-- The greatest score, as the programs take it. -/
theorem fold_eq (s : Fin 256 → ℝ) : Finset.fold max (⊥ : EReal) (fun k => (s k : EReal)) Finset.univ = (top all s : EReal) := by
  rw [← sup_eq (on := all) s 0 trivial]
  refine congrArg (fun f => Finset.fold max (⊥ : EReal) f Finset.univ) ?_
  funext k
  exact (if_pos trivial).symm

theorem exp_eq (s : Fin 256 → ℝ) (k : Fin 256) : Ideal.exp ((s k : EReal) - (top all s : EReal)) = (ex all s k : EReal) := by
  rw [← exp_sc]
  exact congrArg (fun x => Ideal.exp (x - (top all s : EReal))) (if_pos trivial).symm

theorem tot_ne (s : Fin 256 → ℝ) : tot all s ≠ 0 := (tot_pos (on := all) s 0 trivial).ne'

theorem wt_mul (s : Fin 256 → ℝ) (k : Fin 256) : (ex all s k : EReal) * ((1 / tot all s : ℝ) : EReal) = (wt all s k : EReal) := by
  rw [← EReal.coe_mul]
  exact congrArg _ (mul_one_div _ _)

/-- The gradient through the quotient `e / Σ e`, as differentiation writes it, is the weight times the centred gradient. -/
theorem quotient (s : Fin 256 → ℝ) (g : Fin 256 → EReal) (k : Fin 256) :
    (g k * ((1 / tot all s : ℝ) : EReal) + -∑ x, g x * ((1 / (tot all s * tot all s) : ℝ) : EReal) * (ex all s x : EReal)) * (ex all s k : EReal)
      = (wt all s k : EReal) * (g k - ∑ x, (wt all s x : EReal) * g x) := by
  have hp := (tot_pos (on := all) s 0 trivial)
  have ha : (0 : ℝ) ≤ 1 / tot all s := by positivity
  have e : ∑ x, g x * ((1 / (tot all s * tot all s) : ℝ) : EReal) * (ex all s x : EReal)
      = ((1 / tot all s : ℝ) : EReal) * ∑ x, (wt all s x : EReal) * g x := by
    rw [mul_sum _ _ ha]
    refine Finset.sum_congr rfl fun x _ => ?_
    rw [← wt_mul, show (1 / (tot all s * tot all s) : ℝ) = 1 / tot all s * (1 / tot all s) by rw [one_div_mul_one_div], EReal.coe_mul]
    ac_rfl
  rw [e, ← sub_eq_add_neg, mul_comm (g k), ← mul_sub ha, ← wt_mul s k]
  ac_rfl

end Cert.XHead
-- ==== Proof.XRef.lean ====
module

public import proofs.«01_k».proof.Proof.XHead
public import proofs.«01_k».proof.Proof.Gen.Reference3Ideal.Read
public import Idealize.ShloMosaic.Lib.Pipeline.ValueKit

@[expose] public section

set_option maxRecDepth 16384

noncomputable section

namespace Cert.XRef

open Cert.Reference3Ideal Cert.Reference3Ideal.Read Idealize.ShloMosaic Cert.SoftMath
open Cert.XHead
open scoped BigOperators

/-- The row of a batch's query, the row of a batch's key, the column of a head's entry. -/
def row (b : Fin 4) (t : Fin 2048) : Fin 8192 := ⟨2048 * b.val + t.val, by omega⟩
def krow (b : Fin 4) (s : Fin 256) : Fin 1024 := ⟨256 * b.val + s.val, by omega⟩
def col (h : Fin 4) (i : Fin 256) : Fin 1024 := ⟨256 * h.val + i.val, by omega⟩

variable (x0 x3 : (⟨S8192x1024, .bf16⟩ : BufTy).Contents (Elt Ideal)) (x1 x2 : (⟨S1024x1024, .bf16⟩ : BufTy).Contents (Elt Ideal))

/-- The four arrays hold the heads. -/
structure Args (H : Fin 4 → Fin 4 → Head) : Prop where
  q : ∀ b t h i, x0 (ix2 (row b t) (col h i)) = (((H b h).q t i : ℝ) : EReal)
  k : ∀ b s h i, x1 (ix2 (krow b s) (col h i)) = (((H b h).k s i : ℝ) : EReal)
  v : ∀ b s h i, x2 (ix2 (krow b s) (col h i)) = (H b h).v s i
  d : ∀ b t h i, x3 (ix2 (row b t) (col h i)) = (H b h).d t i

theorem v4_at (b t h i) : val_main_v4 (F := Ideal) x0 (ix4 b t h i) = x0 (ix2 (row b t) (col h i)) := by
  rw [val_main_v4_apply]
  refine congrArg x0 ?_
  ext a
  match a with
  | ⟨0, _⟩ => show (((b.val * 2048 + t.val) * 4 + h.val) * 256 + i.val) / 1024 = 2048 * b.val + t.val; omega
  | ⟨1, _⟩ => show (((b.val * 2048 + t.val) * 4 + h.val) * 256 + i.val) % 1024 = 256 * h.val + i.val; omega

theorem v41_at (b t h i) : val_main_v41 (F := Ideal) x3 (ix4 b t h i) = x3 (ix2 (row b t) (col h i)) := by
  rw [val_main_v41_apply]
  exact (val_main_v4_apply x3 (ix4 b t h i)).symm.trans (v4_at x3 b t h i)

theorem v5_at (b s h i) : val_main_v5 (F := Ideal) x1 (ix4 b s h i) = x1 (ix2 (krow b s) (col h i)) := by
  rw [val_main_v5_apply]
  refine congrArg x1 ?_
  ext a
  match a with
  | ⟨0, _⟩ => show (((b.val * 256 + s.val) * 4 + h.val) * 256 + i.val) / 1024 = 256 * b.val + s.val; omega
  | ⟨1, _⟩ => show (((b.val * 256 + s.val) * 4 + h.val) * 256 + i.val) % 1024 = 256 * h.val + i.val; omega

variable {x0 x1 x2 x3} {H : Fin 4 → Fin 4 → Head} (A : Args x0 x3 x1 x2 H)

/-- A sum of real terms. -/
theorem sum_real {n : ℕ} {f : Fin n → EReal} {g : Fin n → ℝ} (h : ∀ k, f k = (g k : EReal)) : ∑ k, f k = ((∑ k, g k : ℝ) : EReal) := by
  rw [coe_sum]; exact Finset.sum_congr rfl fun k _ => h k

theorem idx3 (j : S4x4x2048.Idx) (b h : Fin 4) (t : Fin 2048) (h0 : (j 0).val = b.val) (h1 : (j 1).val = h.val)
    (h2 : (j 2).val = t.val) : j = ix3 b h t := by
  ext a
  match a with
  | ⟨0, _⟩ => exact h0
  | ⟨1, _⟩ => exact h1
  | ⟨2, _⟩ => exact h2

theorem idx4 (j : S4x4x2048x256.Idx) (b h : Fin 4) (t : Fin 2048) (s : Fin 256) (h0 : (j 0).val = b.val) (h1 : (j 1).val = h.val)
    (h2 : (j 2).val = t.val) (h3 : (j 3).val = s.val) : j = ix4 b h t s := by
  ext a
  match a with
  | ⟨0, _⟩ => exact h0
  | ⟨1, _⟩ => exact h1
  | ⟨2, _⟩ => exact h2
  | ⟨3, _⟩ => exact h3

include A

theorem v9_at (b h t s) : val_main_v9 (F := Ideal) x0 x1 (ix4 b h t s) = ((H b h).score t s : EReal) := by
  have e : val_main_v7 (F := Ideal) x0 x1 (ix4 b h t s) = ((∑ i, (H b h).q t i * (H b h).k s i : ℝ) : EReal) := by
    pointwise [val_main_v7]
    refine sum_real fun i => ?_
    rw [v4_at, v5_at, A.q, A.k, EReal.coe_mul]
  pointwise [val_main_v9, val_main_v8, val_main_cst]
  rw [e, sixteen, Ideal.div_coe (by norm_num), ← EReal.coe_mul]
  rfl

theorem v10_at (b h t) : val_main_v10 (F := Ideal) x0 x1 (ix3 b h t) = (top all ((H b h).score t) : EReal) := by
  rw [← fold_eq]
  pointwise [val_main_v10, val_main_cst_0]
  simp only [v9_at A, bottom]

theorem v17_at (b h t) : val_main_v17 (F := Ideal) x0 x1 (ix3 b h t) = (top all ((H b h).score t) : EReal) := by
  rw [val_main_v17_apply, v10_at A, val_main_v16_apply]
  exact (congrArg (max · _) bottom).trans (max_eq_right bot_le)

theorem v30_at (b h t s) : val_main_v30 (F := Ideal) x0 x1 (ix4 b h t s) = (ex all ((H b h).score t) s : EReal) := by
  rw [← exp_eq, val_main_v30_apply, val_main_v29_apply, v9_at A, val_main_v28_apply, val_main_v27_apply,
    idx3 (idx_main_v27 (idx_main_v28 (ix4 b h t s))) b h t rfl rfl rfl, v17_at A]
  rfl

theorem v31_at (b h t) : val_main_v31 (F := Ideal) x0 x1 (ix3 b h t) = (tot all ((H b h).score t) : EReal) := by
  have e : ∀ s, val_main_v30 (F := Ideal) x0 x1 (idx_main_v31 (ix3 b h t) s) = (ex all ((H b h).score t) s : EReal) := fun s => by
    rw [idx4 (idx_main_v31 (ix3 b h t) s) b h t s rfl rfl rfl rfl, v30_at A]
  rw [val_main_v31_apply, sum_real e, show val_main_cst_8 (F := Ideal) (Shape.Idx.first Cert.Reference3Ideal.Gen.h_S_) = (0 : EReal) from Ideal.ofBits_zero_f32, zero_add]
  rfl

theorem v34_at (b h t s) : val_main_v34 (F := Ideal) x0 x1 (ix4 b h t s) = ((H b h).w t s : EReal) := by
  pointwise [val_main_v34, val_main_v33, val_main_v32]
  rw [v30_at A, v31_at A, Ideal.div_coe (tot_ne _), wt_mul]
  rfl

theorem v46_at (b h t s) : val_main_v46 (F := Ideal) x0 x1 (ix4 b h t s)
    = ((1 / (tot all ((H b h).score t) * tot all ((H b h).score t)) : ℝ) : EReal) := by
  pointwise [val_main_v46, val_main_v37, val_main_v36, val_main_cst_9, val_main_v35, val_main_v32]
  rw [v31_at A, ← EReal.coe_mul, Ideal.div_coe (mul_ne_zero (tot_ne _) (tot_ne _)), one_mul]

theorem v43_at (b h t s) : val_main_v43 (F := Ideal) x2 x3 (ix4 b h t s) = (H b h).dp t s := by
  pointwise [val_main_v43, val_main_v42]
  refine Finset.sum_congr rfl fun i _ => ?_
  rw [v41_at, show val_main_v6 (F := Ideal) x2 (ix4 b s h i) = _ from v5_at x2 b s h i, A.d, A.v]

theorem v48_at (b h t s) : val_main_v48 (F := Ideal) x0 x1 x2 x3 (ix4 b h t s)
    = (H b h).dp t s * ((1 / (tot all ((H b h).score t) * tot all ((H b h).score t)) : ℝ) : EReal) * (ex all ((H b h).score t) s : EReal) := by
  rw [val_main_v48_apply, val_main_v47_apply, v43_at A, v46_at A, v30_at A]
  rfl

theorem v49_at (b h t) : val_main_v49 (F := Ideal) x0 x1 x2 x3 (ix3 b h t)
    = ∑ s, (H b h).dp t s * ((1 / (tot all ((H b h).score t) * tot all ((H b h).score t)) : ℝ) : EReal) * (ex all ((H b h).score t) s : EReal) := by
  rw [val_main_v49_apply, show val_main_cst_10 (F := Ideal) (Shape.Idx.first Cert.Reference3Ideal.Gen.h_S_) = (0 : EReal) from Ideal.ofBits_zero_f32, zero_add]
  refine Finset.sum_congr rfl fun s _ => ?_
  rw [idx4 (idx_main_v49 (ix3 b h t) s) b h t s rfl rfl rfl rfl, v48_at A]

theorem v51_at (b h t) (z : Fin 1) : val_main_v51 (F := Ideal) x0 x1 x2 x3 (ix4 b h t z) = -val_main_v49 (F := Ideal) x0 x1 x2 x3 (ix3 b h t) := by
  rw [val_main_v51_apply, val_main_v50_apply, idx3 (idx_main_v50 (ix4 b h t z)) b h t ?_ ?_ ?_]
  · rfl
  · show (((b.val * 4 + h.val) * 2048 + t.val) * 1 + z.val) / 8192 = b.val; omega
  · show (((b.val * 4 + h.val) * 2048 + t.val) * 1 + z.val) / 2048 % 4 = h.val; omega
  · show (((b.val * 4 + h.val) * 2048 + t.val) * 1 + z.val) % 2048 = t.val; omega

theorem v54_at (b h t) : val_main_v54 (F := Ideal) x0 x1 x2 x3 (ix3 b h t) = -val_main_v49 (F := Ideal) x0 x1 x2 x3 (ix3 b h t) := by
  rw [val_main_v54_apply, show val_main_cst_11 (F := Ideal) (Shape.Idx.first Cert.Reference3Ideal.Gen.h_S_) = (0 : EReal) from Ideal.ofBits_zero_f32, zero_add]
  rw [Finset.sum_eq_single 0]
  · refine Eq.trans (congrArg _ ?_) (v51_at A b h t 0)
    ext a
    match a with
    | ⟨0, _⟩ => rfl
    | ⟨1, _⟩ => rfl
    | ⟨2, _⟩ => rfl
    | ⟨3, _⟩ => rfl
  all_goals simp

theorem v59_at (b h t s) : val_main_v59 (F := Ideal) x0 x1 x2 x3 (ix4 b h t s) = (H b h).ds t s * ((1 / 16 : ℝ) : EReal) := by
  pointwise [val_main_v59, val_main_v58, val_main_cst_12, val_main_v57, val_main_v56, val_main_v55, val_main_v53, val_main_v52, val_main_v32]
  rw [sixteen, Ideal.div_coe (by norm_num), v43_at A, v31_at A, v30_at A, v54_at A, v49_at A, Ideal.div_coe (tot_ne _), quotient]
  rfl

omit A in
theorem hidx (b : Fin 4) (t : Fin 2048) (h : Fin 4) (i : Fin 256) : idx_main_v66 (ix2 (row b t) (col h i)) = ix4 b t h i := by
  ext a
  match a with
  | ⟨0, _⟩ => show ((2048 * b.val + t.val) * 1024 + (256 * h.val + i.val)) / 2097152 = b.val; omega
  | ⟨1, _⟩ => show ((2048 * b.val + t.val) * 1024 + (256 * h.val + i.val)) / 1024 % 2048 = t.val; omega
  | ⟨2, _⟩ => show ((2048 * b.val + t.val) * 1024 + (256 * h.val + i.val)) / 256 % 4 = h.val; omega
  | ⟨3, _⟩ => show ((2048 * b.val + t.val) * 1024 + (256 * h.val + i.val)) % 256 = i.val; omega

omit A in
theorem hidxk (b : Fin 4) (s : Fin 256) (h : Fin 4) (i : Fin 256) : idx_main_v65 (ix2 (krow b s) (col h i)) = ix4 b s h i := by
  ext a
  match a with
  | ⟨0, _⟩ => show ((256 * b.val + s.val) * 1024 + (256 * h.val + i.val)) / 262144 = b.val; omega
  | ⟨1, _⟩ => show ((256 * b.val + s.val) * 1024 + (256 * h.val + i.val)) / 1024 % 256 = s.val; omega
  | ⟨2, _⟩ => show ((256 * b.val + s.val) * 1024 + (256 * h.val + i.val)) / 256 % 4 = h.val; omega
  | ⟨3, _⟩ => show ((256 * b.val + s.val) * 1024 + (256 * h.val + i.val)) % 256 = i.val; omega

omit A in
/-- The factor of the scores passes out of the sum. -/
theorem scaled {n : ℕ} (f g : Fin n → EReal) :
    ∑ s, f s * ((1 / 16 : ℝ) : EReal) * g s = (∑ s, f s * g s) * ((1 / 16 : ℝ) : EReal) := by
  rw [mul_comm _ ((1 / 16 : ℝ) : EReal), mul_sum _ _ (by norm_num)]
  refine Finset.sum_congr rfl fun s _ => ?_
  ac_rfl

/-- The queries' gradient. -/
theorem dq_at (b t h i) : val_main_v67 (F := Ideal) x0 x1 x2 x3 (ix2 (row b t) (col h i)) = (H b h).dq t i := by
  rw [val_main_v67_apply, val_main_v66_apply, hidx]
  show val_main_v63 (F := Ideal) x0 x1 x2 x3 (ix4 b t h i) = _
  pointwise [val_main_v63, val_main_v62]
  unfold Head.dq
  rw [← scaled]
  refine Finset.sum_congr rfl fun s _ => ?_
  rw [v59_at A, v5_at, A.k]

/-- The keys' gradient. -/
theorem dk_at (b s h i) : val_main_v65 (F := Ideal) x0 x1 x2 x3 (ix2 (krow b s) (col h i)) = (H b h).dk s i := by
  rw [val_main_v65_apply, hidxk]
  pointwise [val_main_v61, val_main_v60]
  unfold Head.dk
  rw [← scaled]
  refine Finset.sum_congr rfl fun t _ => ?_
  rw [v59_at A, v4_at, A.q]

/-- The values' gradient. -/
theorem dv_at (b s h i) : val_main_v64 (F := Ideal) x0 x1 x3 (ix2 (krow b s) (col h i)) = (H b h).dv s i := by
  rw [val_main_v64_apply, show idx_main_v64 (ix2 (krow b s) (col h i)) = _ from hidxk b s h i]
  pointwise [val_main_v45, val_main_v44, val_main_v42]
  refine Finset.sum_congr rfl fun t _ => ?_
  rw [v34_at A, v41_at, A.d, mul_comm]

/-- The columns of the keys' and the values' halves. -/
def kcol (h : Fin 4) (i : Fin 256) : Fin 2048 := ⟨256 * h.val + i.val, by omega⟩
def vcol (h : Fin 4) (i : Fin 256) : Fin 2048 := ⟨256 * (h.val + 4) + i.val, by omega⟩

theorem kv_k (b s h i) : val_main_v68 (F := Ideal) x0 x1 x2 x3 (ix2 (krow b s) (kcol h i)) = (H b h).dk s i := by
  rw [← dk_at A b s h i]
  pointwise [val_main_v68]
  exact dif_pos (show 256 * h.val + i.val < 1024 by omega)

theorem kv_v (b s h i) : val_main_v68 (F := Ideal) x0 x1 x2 x3 (ix2 (krow b s) (vcol h i)) = (H b h).dv s i := by
  rw [← dv_at A b s h i]
  pointwise [val_main_v68]
  refine (dif_neg (show ¬256 * (h.val + 4) + i.val < 1024 by omega)).trans ?_
  exact congrArg (fun x => val_main_v64 (F := Ideal) x0 x1 x3 (ix2 (krow b s) x)) (Fin.ext (by show 256 * (h.val + 4) + i.val - 1024 = 256 * h.val + i.val; omega))

end Cert.XRef
-- ==== Proof.XValue.lean ====
module

public import proofs.«01_k».proof.Proof.XTile
public import proofs.«01_k».proof.Proof.XRef
public import proofs.«01_k».proof.Proof.Finite
public import proofs.«01_k».proof.Pre_xattn_finite
public import proofs.«01_k».proof.Proof.Gen.Reference3Ideal.Read
public import Idealize.ShloMosaic.Lib.Pipeline.ValueKit

@[expose] public section

set_option maxRecDepth 16384

noncomputable section

namespace Cert.Kernel3Ideal.XValue

open Cert.Kernel3Ideal Cert.Kernel3Ideal.Gen Idealize.ShloMosaic Idealize.ShloMosaic.TcCoe Idealize.SL.Sem
open Idealize.ShloMosaic.Pipeline (Dat)

variable (m : (ℓ : Loc nD τ sig) → Buf (Elt Ideal) ℓ)
open Cert.SoftMath Cert.XHead Cert.XRef Cert.Kernel3Ideal.XTile
open scoped BigOperators

variable {H : Fin 4 → Fin 4 → Head} (c : Dev nD)

/-- The four arguments hold the heads. -/
abbrev Given (m : (ℓ : Loc nD τ sig) → Buf (Elt Ideal) ℓ) (c : Dev nD) (H : Fin 4 → Fin 4 → Head) : Prop :=
  Args (m ((c : Thread nD τ).loc main_arg0)) (m ((c : Thread nD τ).loc main_arg3)) (m ((c : Thread nD τ).loc main_arg1)) (m ((c : Thread nD τ).loc main_arg2)) H

/-! ### The blocks of a grid point -/

theorem idx : ∀ t : Fin cfg0.N, win0_0.index t = ![t.val, 0] ∧ win0_1.index t = ![t.val / 2, 0] ∧ win0_2.index t = ![t.val, 0]
    ∧ win0_3.index t = ![t.val, 0] ∧ win0_4.index t = ![t.val / 2, 0] :=
  (by decide +kernel : ∀ t : Fin grid0.N, _)

theorem points : ∀ t : Fin cfg0.N, t.val < 8 := (by decide +kernel : ∀ t : Fin grid0.N, _)

/-- A grid point's batch and the tokens of its tile. -/
def bt (t : Fin cfg0.N) : Fin 4 := ⟨t.val / 2, by have := points t; omega⟩
def tok (t : Fin cfg0.N) (r : Fin 1024) : Fin 2048 := ⟨1024 * (t.val % 2) + r.val, by omega⟩

theorem place (t : Fin cfg0.N) (r : Fin 1024) : t.val * 1024 + r.val = (row (bt t) (tok t r)).val := by
  show _ = 2048 * (t.val / 2) + (1024 * (t.val % 2) + r.val)
  omega
theorem placek (t : Fin cfg0.N) (s : Fin 256) : t.val / 2 * 256 + s.val = (krow (bt t) s).val := by
  show _ = 256 * (t.val / 2) + s.val
  omega

theorem read0 (t : Fin cfg0.N) (r l) (a : Buf (Elt Ideal) ((c : Thread nD τ).loc main_arg0)) :
    View.read (Elt Ideal) ((cfg0.win 0).blk t).view a (ix2 r l) = a (ix2 (row (bt t) (tok t r)) l) := by
  blk_ext [idx t]
  exact place t r
theorem read1 (t : Fin cfg0.N) (s l) (a : Buf (Elt Ideal) ((c : Thread nD τ).loc main_v0)) :
    View.read (Elt Ideal) ((cfg0.win 1).blk t).view a (ix2 s l) = a (ix2 (krow (bt t) s) l) := by
  blk_ext [idx t]
  exact placek t s
theorem read2 (t : Fin cfg0.N) (r l) (a : Buf (Elt Ideal) ((c : Thread nD τ).loc main_arg3)) :
    View.read (Elt Ideal) ((cfg0.win 2).blk t).view a (ix2 r l) = a (ix2 (row (bt t) (tok t r)) l) := by
  blk_ext [idx t]
  exact place t r

/-- The keys and the values side by side. -/
def both (k v : FVec Ideal S1024x1024 .bf16) : FVec Ideal S1024x2048 .bf16 :=
  concatenate S1024x2048 1 [⟨S1024x1024, k⟩, ⟨S1024x1024, v⟩] concatenates_S1024x1024_S1024x1024_S1024x2048_d1

theorem both_eq : V m c main_v0 = both (m ((c : Thread nD τ).loc main_arg1)) (m ((c : Thread nD τ).loc main_arg2)) := by
  simp only [V, List.flatten_cons, List.flatten_nil, List.cons_append, List.nil_append]; entry_read
  rfl
theorem both_k (k v : FVec Ideal S1024x1024 .bf16) (r : Fin 1024) (h i) : both k v (ix2 r (kcol h i)) = k (ix2 r (col h i)) := by
  unfold both
  pointwise
  exact dif_pos (show 256 * h.val + i.val < 1024 by omega)
theorem both_v (k v : FVec Ideal S1024x1024 .bf16) (r : Fin 1024) (h i) : both k v (ix2 r (vcol h i)) = v (ix2 r (col h i)) := by
  unfold both
  pointwise
  refine (dif_neg (show ¬256 * (h.val + 4) + i.val < 1024 by omega)).trans ?_
  exact congrArg (fun x => v (ix2 r x)) (Fin.ext (by show 256 * (h.val + 4) + i.val - 1024 = 256 * h.val + i.val; omega))

theorem q_at (A : Given m c H) (t : Fin cfg0.N) (h r j) : part (iblk m c 0 t) h (ix2 r j) = ((H (bt t) h).q (tok t r) j : EReal) :=
  (read0 c t r (qc h j) _).trans (A.q _ _ _ _)
theorem d_at (A : Given m c H) (t : Fin cfg0.N) (h r j) : part (iblk m c 2 t) h (ix2 r j) = (H (bt t) h).d (tok t r) j :=
  (read2 c t r (qc h j) _).trans (A.d _ _ _ _)
theorem k_at (A : Given m c H) (t : Fin cfg0.N) (h s j) : cut (e := .bf16) (iblk m c 1 t) (kb h) (ix2 s j) = ((H (bt t) h).k s j : EReal) :=
  (read1 c t s (kc (kb h) j) (V m c main_v0)).trans ((congrFun (both_eq m c) _).trans ((both_k _ _ _ h j).trans (A.k _ _ _ _)))
theorem v_at (A : Given m c H) (t : Fin cfg0.N) (h s j) : cut (e := .bf16) (iblk m c 1 t) (vb h) (ix2 s j) = (H (bt t) h).v s j :=
  (read1 c t s (kc (vb h) j) (V m c main_v0)).trans ((congrFun (both_eq m c) _).trans ((both_v _ _ _ h j).trans (A.v _ _ _ _)))

/-- The factor of the scores over a sum. -/
theorem scale_add (x y : EReal) : (x + y) * ((1 / 16 : ℝ) : EReal) = x * ((1 / 16 : ℝ) : EReal) + y * ((1 / 16 : ℝ) : EReal) := by
  rw [mul_comm, EReal.left_distrib_of_nonneg_of_ne_top (by exact_mod_cast (by norm_num : (0 : ℝ) ≤ 1 / 16)) (EReal.coe_ne_top _), mul_comm x, mul_comm y]

/-! ### The body at a grid point -/

section
variable {P : Head} {T : Fin 1024 → Fin 2048} {q d : Vec Ideal S1024x256 .bf16} {k v : Vec Ideal S256x256 .bf16}
  (hq : ∀ r j, q (ix2 r j) = (P.q (T r) j : EReal)) (hd : ∀ r j, d (ix2 r j) = P.d (T r) j)
  (hk : ∀ s j, k (ix2 s j) = (P.k s j : EReal)) (hv : ∀ s j, v (ix2 s j) = P.v s j)

include hq hk in
theorem w_of (r s) : k0_pay5 q k (ix2 r s) = (P.w (T r) s : EReal) := by
  have e : ∀ x : Fin 256, (∑ i : Fin 256, q (ix2 r i) * k (ix2 x i)) * Ideal.ofBits FTy.f32 1031798784#32 = (P.score (T r) x : EReal) := fun x => by
    rw [sum_real (g := fun i => P.q (T r) i * P.k x i) (fun i => by rw [hq, hk, EReal.coe_mul]), sixteenth, ← EReal.coe_mul]
    rfl
  rw [weights_apply]
  simp only [e, bottom, fold_eq, exp_eq]
  rw [← coe_sum, show ∑ x, ex all (P.score (T r)) x = tot all (P.score (T r)) from rfl, Ideal.div_coe (tot_ne _), one_mul, wt_mul]
  rfl

include hq hk hd hv in
theorem ds_of (r s) : k0_pay6 q k v d (ix2 r s) = P.ds (T r) s := by
  rw [ds_apply]
  simp only [w_of hq hk, hd, hv]
  rfl

include hq hk hd hv in
theorem dq_of (r j) : k0_pay7 q k v d (ix2 r j) = P.dq (T r) j := by
  rw [dq_apply, sixteenth]
  simp only [ds_of hq hd hk hv, hk]
  rfl

include hq hk hd hv in
theorem dk_of (o : Vec Ideal S256x256 .f32) (s j) : k0_pay8 q (k0_pay6 q k v d) o (ix2 s j)
    = o (ix2 s j) + (∑ r, P.ds (T r) s * (P.q (T r) j : EReal)) * ((1 / 16 : ℝ) : EReal) := by
  rw [dk_apply, sixteenth]
  simp only [ds_of hq hd hk hv, hq]

include hq hk hd in
theorem dv_of (o : Vec Ideal S256x256 .f32) (s j) : k0_pay9 d (k0_pay5 q k) o (ix2 s j)
    = o (ix2 s j) + ∑ r, (P.w (T r) s : EReal) * P.d (T r) j := by
  rw [dv_apply]
  simp only [w_of hq hk, hd]
end

theorem queries_at (A : Given m c H) (t : Fin cfg0.N) (h r j) :
    (outsAt0 (F := Ideal) m c t.val t.isLt).1 (ix2 r (qc h j)) = (H (bt t) h).dq (tok t r) j :=
  (queries m c t h r j).trans (dq_of (T := tok t) (q_at m c A t h) (d_at m c A t h) (k_at m c A t h) (v_at m c A t h) r j)

/-- The two tiles of a batch together. -/
theorem tiles (f : Fin 2048 → EReal) (t u : Fin cfg0.N) (ht : t.val % 2 = 1) (hu : u.val = t.val - 1) :
    ∑ r, f (tok u r) + ∑ r, f (tok t r) = ∑ s, f s := by
  rw [show ∑ s, f s = _ from Fin.sum_univ_add (a := 1024) (b := 1024) f]
  refine congrArg₂ (· + ·) (Finset.sum_congr rfl fun r _ => congrArg f (Fin.ext ?_)) (Finset.sum_congr rfl fun r _ => congrArg f (Fin.ext ?_))
  · show 1024 * (u.val % 2) + r.val = r.val
    omega
  · show 1024 * (t.val % 2) + r.val = 1024 + r.val
    omega

theorem keys_at (A : Given m c H) (t : Fin cfg0.N) (ht : t.val % 2 = 1) (h s j) :
    (outsAt0 (F := Ideal) m c t.val t.isLt).2 (ix2 s (kcol h j)) = (H (bt t) h).dk s j := by
  have hu : t.val - 1 < cfg0.N := Nat.lt_of_le_of_lt (Nat.sub_le _ _) t.isLt
  have eb : bt ⟨t.val - 1, hu⟩ = bt t := Fin.ext (by show (t.val - 1) / 2 = t.val / 2; omega)
  have e2 := second m c t (by omega) (kb h) s j
  have e1 := first m c ⟨t.val - 1, hu⟩ (by show (t.val - 1) % 2 = 0; omega) (kb h) s j
  rw [kvP_kb] at e1 e2
  have d1 := dk_of (T := tok _) (q_at m c A ⟨t.val - 1, hu⟩ h) (d_at m c A _ h) (k_at m c A _ h) (v_at m c A _ h) (fun _ => (0 : EReal)) s j
  have d2 := dk_of (T := tok t) (q_at m c A t h) (d_at m c A t h) (k_at m c A t h) (v_at m c A t h)
    (cut (e := .f32) (outsAt0 (F := Ideal) m c (t.val - 1) hu).2 (kb h)) s j
  refine e2.trans (d2.trans ?_)
  refine (congrArg (· + _) (e1.trans d1)).trans ?_
  rw [eb]
  unfold Head.dk
  rw [← tiles (fun x => (H (bt t) h).ds x s * ((H (bt t) h).q x j : EReal)) t ⟨t.val - 1, hu⟩ ht rfl, zero_add, ← scale_add]

theorem values_at (A : Given m c H) (t : Fin cfg0.N) (ht : t.val % 2 = 1) (h s j) :
    (outsAt0 (F := Ideal) m c t.val t.isLt).2 (ix2 s (vcol h j)) = (H (bt t) h).dv s j := by
  have hu : t.val - 1 < cfg0.N := Nat.lt_of_le_of_lt (Nat.sub_le _ _) t.isLt
  have eb : bt ⟨t.val - 1, hu⟩ = bt t := Fin.ext (by show (t.val - 1) / 2 = t.val / 2; omega)
  have e2 := second m c t (by omega) (vb h) s j
  have e1 := first m c ⟨t.val - 1, hu⟩ (by show (t.val - 1) % 2 = 0; omega) (vb h) s j
  rw [kvP_vb] at e1 e2
  have d1 := dv_of (T := tok _) (q_at m c A ⟨t.val - 1, hu⟩ h) (d_at m c A _ h) (k_at m c A _ h) (fun _ => (0 : EReal)) s j
  have d2 := dv_of (T := tok t) (q_at m c A t h) (d_at m c A t h) (k_at m c A t h)
    (cut (e := .f32) (outsAt0 (F := Ideal) m c (t.val - 1) hu).2 (vb h)) s j
  refine e2.trans (d2.trans ?_)
  refine (congrArg (· + _) (e1.trans d1)).trans ?_
  rw [eb]
  unfold Head.dv
  rw [← tiles (fun x => ((H (bt t) h).w x s : EReal) * (H (bt t) h).d x j) t ⟨t.val - 1, hu⟩ ht rfl, zero_add]

/-! ### The two result arrays -/

theorem after3 (t : Fin cfg0.N) (y) : (dats m 0 c).after 3 t y = (outsAt0 (F := Ideal) m c t.val t.isLt).1 y := congrFun (after0_3 m c t) y
theorem after4 (t : Fin cfg0.N) (y) : (dats m 0 c).after 4 t y = (outsAt0 (F := Ideal) m c t.val t.isLt).2 y := congrFun (after0_4 m c t) y

theorem emb3 (t : Fin cfg0.N) (r l) : (win0_3.blk t).view.emb (ix2 r l) = ix2 (row (bt t) (tok t r)) l := by
  blk_ext [idx t]
  exact place t r
theorem emb4 (t : Fin cfg0.N) (s l) : (win0_4.blk t).view.emb (ix2 s l) = ix2 (krow (bt t) s) l := by
  blk_ext [idx t]
  exact placek t s

theorem splitq (l : Fin 1024) : l = col ⟨l.val / 256, by omega⟩ ⟨l.val % 256, Nat.mod_lt _ (by decide)⟩ :=
  Fin.ext (Nat.div_add_mod _ _).symm

theorem final3 (A : Given m c H) : (dats m 0 c).arrAt 3 cfg0.N = Cert.Reference3Ideal.Read.val_main_v67 (F := Ideal) (m ((c : Thread nD τ).loc main_arg0))
    (m ((c : Thread nD τ).loc main_arg1)) (m ((c : Thread nD τ).loc main_arg2)) (m ((c : Thread nD τ).loc main_arg3)) := by
  refine (dats m 0 c).arrAt_eq_of_covers 3 _ (by decide +kernel) fun t hf y => ?_
  obtain ⟨r, l, rfl⟩ : ∃ r l, y = ix2 (n0 := 1024) (n1 := 1024) r l := ⟨y 0, y 1, by ext a; match a with | ⟨0, _⟩ => rfl | ⟨1, _⟩ => rfl⟩
  obtain ⟨h, j, rfl⟩ : ∃ h j, l = qc h j := ⟨_, _, splitq l⟩
  exact (after3 m c t _).trans ((queries_at m c A t h r j).trans ((dq_at A _ _ _ _).symm.trans
    (congrArg (Cert.Reference3Ideal.Read.val_main_v67 (F := Ideal) _ _ _ _) (emb3 t r (qc h j)).symm)))

theorem final4 (A : Given m c H) : (dats m 0 c).arrAt 4 cfg0.N = Cert.Reference3Ideal.Read.val_main_v68 (F := Ideal) (m ((c : Thread nD τ).loc main_arg0))
    (m ((c : Thread nD τ).loc main_arg1)) (m ((c : Thread nD τ).loc main_arg2)) (m ((c : Thread nD τ).loc main_arg3)) := by
  refine (dats m 0 c).arrAt_eq_of_covers 4 _ (by decide +kernel) fun t hf y => ?_
  have ht : t.val % 2 = 1 := by
    have := (flush0_4 t).mp hf
    omega
  obtain ⟨s, l, rfl⟩ : ∃ s l, y = ix2 (n0 := 256) (n1 := 2048) s l := ⟨y 0, y 1, by ext a; match a with | ⟨0, _⟩ => rfl | ⟨1, _⟩ => rfl⟩
  refine (after4 m c t _).trans (Eq.trans ?_ (congrArg (Cert.Reference3Ideal.Read.val_main_v68 (F := Ideal) _ _ _ _) (emb4 t s l).symm))
  by_cases hl : l.val < 1024
  · obtain ⟨h, j, rfl⟩ : ∃ h j, l = kcol h j := ⟨⟨l.val / 256, by omega⟩, ⟨l.val % 256, Nat.mod_lt _ (by decide)⟩, Fin.ext (Nat.div_add_mod _ _).symm⟩
    exact (keys_at m c A t ht h s j).trans (kv_k A _ _ _ _).symm
  · obtain ⟨h, j, rfl⟩ : ∃ h j, l = vcol h j := ⟨⟨l.val / 256 - 4, by omega⟩, ⟨l.val % 256, Nat.mod_lt _ (by decide)⟩,
      Fin.ext (by show l.val = 256 * (l.val / 256 - 4 + 4) + l.val % 256; omega)⟩
    exact (values_at m c A t ht h s j).trans (kv_v A _ _ _ _).symm

/-! ### The precondition -/

/-- The heads in the four arrays. -/
def heads (x0 x3 : FVec Ideal S8192x1024 .bf16) (x1 x2 : FVec Ideal S1024x1024 .bf16) (b h : Fin 4) : Head where
  q t i := (x0 (ix2 (row b t) (col h i)) : EReal).toReal
  k s i := (x1 (ix2 (krow b s) (col h i)) : EReal).toReal
  v s i := x2 (ix2 (krow b s) (col h i))
  d t i := x3 (ix2 (row b t) (col h i))

theorem args [Cert.Pre_xattn_finite.Facts] (x0 x3 : FVec Ideal S8192x1024 .bf16) (x1 x2 : FVec Ideal S1024x1024 .bf16)
    (h : Cert.Pre_xattn_finite.fn (F := Ideal) x0 x1 x2 x3 = fun _ => 1#1) : Args x0 x3 x1 x2 (heads x0 x3 x1 x2) := by
  have h0 := congrFun h ix0
  dsimp only [Cert.Pre_xattn_finite.fn] at h0
  obtain ⟨e0, e1⟩ := Cert.Finite.of_and h0
  haveI : Subsingleton Cert.Pre_xattn_finite.S_.Idx := ⟨fun a b => funext fun k => k.elim0⟩
  exact ⟨fun _ _ _ _ => Cert.Finite.real_of_all _ _ _ _ _ _ (fun _ => Cert.Finite.inf_word) e0 _,
    fun _ _ _ _ => Cert.Finite.real_of_all _ _ _ _ _ _ (fun _ => Cert.Finite.inf_word) e1 _, fun _ _ _ _ => rfl, fun _ _ _ _ => rfl⟩

end Cert.Kernel3Ideal.XValue
-- ==== Proof.XFwd.lean ====
/-
  The forward cross attention: each grid point takes 1024 queries of one batch against its 256 keys, head by head; the
  weighted sum of the values is divided by the row's sum afterwards.  The heads and the softmax weights are those of the
  backward call's modules.
-/
module

public import proofs.«01_k».proof.Proof.XValue
public import proofs.«01_k».proof.Pre_xfwd_finite
public import proofs.«01_k».proof.Proof.Gen.Kernel10Ideal.Value
public import proofs.«01_k».proof.Proof.Gen.Reference10Ideal.Read

@[expose] public section

set_option maxRecDepth 16384

noncomputable section

namespace Cert.Kernel10Ideal.XFwd

open Cert.Kernel10Ideal Cert.Kernel10Ideal.Gen Idealize.ShloMosaic Idealize.ShloMosaic.TcCoe Idealize.SL.Sem
open Idealize.ShloMosaic.Pipeline (Dat)
open Cert.SoftMath Cert.XHead
open Cert.XRef (row krow col kcol vcol Args sum_real v34_at hidx)
open Cert.Kernel3Ideal.XTile (part cut qc kc kb vb ld_part ld_cut canon4)
open scoped BigOperators

/-- What the attention returns for a query. -/
def out (P : Head) (t : Fin 2048) (i : Fin 256) : EReal := ∑ s, (P.w t s : EReal) * P.v s i

/-! ### The reference -/

section
variable {x0 x3 : FVec Ideal S8192x1024 .bf16} {x1 x2 : FVec Ideal S1024x1024 .bf16} {H : Fin 4 → Fin 4 → Head} (A : Args x0 x3 x1 x2 H)

/-- The forward call's softmax weights are the ones that the backward call's reference recomputes. -/
theorem weights_eq : Cert.Reference10Ideal.Read.val_main_v19 (F := Ideal) x0 x1 = Cert.Reference3Ideal.Read.val_main_v34 (F := Ideal) x0 x1 := rfl

theorem heads_eq (b s h i) : Cert.Reference10Ideal.Read.val_main_v5 (F := Ideal) x2 (ix4 b s h i) = x2 (ix2 (krow b s) (col h i)) :=
  Cert.XRef.v5_at x2 b s h i

include A in
theorem ref_at (b t h i) : Cert.Reference10Ideal.Read.val_main_v23 (F := Ideal) x0 x1 x2 (ix2 (row b t) (col h i)) = out (H b h) t i := by
  rw [Cert.Reference10Ideal.Read.val_main_v23_apply, Cert.Reference10Ideal.Read.val_main_v22_apply,
    show Cert.Reference10Ideal.Read.idx_main_v22 (ix2 (row b t) (col h i)) = ix4 b t h i from hidx b t h i]
  show Cert.Reference10Ideal.Read.val_main_v21 (F := Ideal) x0 x1 x2 (ix4 b t h i) = _
  pointwise [Cert.Reference10Ideal.Read.val_main_v21, Cert.Reference10Ideal.Read.val_main_v20]
  unfold out
  refine Finset.sum_congr rfl fun s _ => ?_
  rw [heads_eq, A.v, weights_eq, v34_at A, mul_comm]
end

/-! ### The body at a grid point -/

section
variable (q : Vec Ideal S1024x256 .bf16) (k v : Vec Ideal S256x256 .bf16)

theorem p1 : k0_pay5 (k0_pay3 q k) (k0_pay4 q k) v = k0_pay2 q k v := rfl
theorem p2 : k0_pay6 q k v = k0_pay2 q k v := rfl
theorem p3 : k0_pay1 q k v = k0_pay2 q k v := rfl

variable {P : Head} {T : Fin 1024 → Fin 2048} {q k v} (hq : ∀ r j, q (ix2 r j) = (P.q (T r) j : EReal))
  (hk : ∀ s j, k (ix2 s j) = (P.k s j : EReal)) (hv : ∀ s j, v (ix2 s j) = P.v s j)

include hq hk hv in
/-- One head of one tile. -/
theorem out_of (r j) : k0_pay2 q k v (ix2 r j) = out P (T r) j := by
  have e : ∀ x : Fin 256, (∑ i : Fin 256, q (ix2 r i) * k (ix2 x i)) * Ideal.ofBits FTy.f32 1031798784#32 = (P.score (T r) x : EReal) := fun x => by
    rw [sum_real (g := fun i => P.q (T r) i * P.k x i) (fun i => by rw [hq, hk, EReal.coe_mul]), sixteenth, ← EReal.coe_mul]
    rfl
  pointwise [k0_pay2]
  simp only [e, bottom, fold_eq, exp_eq, hv]
  rw [← coe_sum, show ∑ x, ex all (P.score (T r)) x = tot all (P.score (T r)) from rfl, Ideal.div_coe (tot_ne _), one_mul, mul_comm,
    mul_sum _ _ (by have := tot_pos (on := all) (P.score (T r)) 0 trivial; positivity)]
  unfold out
  refine Finset.sum_congr rfl fun s _ => ?_
  rw [show (P.w (T r) s : EReal) = _ from (wt_mul (P.score (T r)) s).symm]
  ac_rfl
end

/-- The four heads' columns of a tile. -/
theorem tile (x0 : Vec Ideal S1024x1024 .bf16) (x1 : Vec Ideal S256x2048 .bf16) (h : Fin 4) (r : Fin 1024) (j : Fin 256) :
    out0_2 x0 x1 (ix2 r (qc h j)) = k0_pay2 (part x0 h) (cut (e := .bf16) x1 (kb h)) (cut (e := .bf16) x1 (vb h)) (ix2 r j) := by
  have q0 : View.ld x0 r0_0 = part x0 0 := ld_part x0 0 _ 0 rfl
  have q1 : View.ld x0 r0_3 = part x0 1 := ld_part x0 256 _ 1 rfl
  have q2 : View.ld x0 r0_6 = part x0 2 := ld_part x0 512 _ 2 rfl
  have q3 : View.ld x0 r0_9 = part x0 3 := ld_part x0 768 _ 3 rfl
  have k0 : View.ld x1 r0_1 = cut (e := .bf16) x1 (kb 0) := ld_cut x1 0 _ 0 rfl
  have k1 : View.ld x1 r0_4 = cut (e := .bf16) x1 (kb 1) := ld_cut x1 256 _ 1 rfl
  have k2 : View.ld x1 r0_7 = cut (e := .bf16) x1 (kb 2) := ld_cut x1 512 _ 2 rfl
  have k3 : View.ld x1 r0_10 = cut (e := .bf16) x1 (kb 3) := ld_cut x1 768 _ 3 rfl
  have v0 : View.ld x1 r0_2 = cut (e := .bf16) x1 (vb 0) := ld_cut x1 1024 _ 4 rfl
  have v1 : View.ld x1 r0_5 = cut (e := .bf16) x1 (vb 1) := ld_cut x1 1280 _ 5 rfl
  have v2 : View.ld x1 r0_8 = cut (e := .bf16) x1 (vb 2) := ld_cut x1 1536 _ 6 rfl
  have v3 : View.ld x1 r0_11 = cut (e := .bf16) x1 (vb 3) := ld_cut x1 1792 _ 7 rfl
  unfold out0_2
  rw [q0, q1, q2, q3, k0, k1, k2, k3, v0, v1, v2, v3, p1, p2, p3]
  exact canon4 (fun h => k0_pay2 (part x0 h) (cut (e := .bf16) x1 (kb h)) (cut (e := .bf16) x1 (vb h))) h r j

/-! ### The result array -/

variable (m : (ℓ : Loc nD τ sig) → Buf (Elt Ideal) ℓ) (c : Dev nD)

abbrev Q : FVec Ideal S8192x1024 .bf16 := m ((c : Thread nD τ).loc main_arg0)
abbrev K : FVec Ideal S1024x1024 .bf16 := m ((c : Thread nD τ).loc main_arg1)
abbrev V' : FVec Ideal S1024x1024 .bf16 := m ((c : Thread nD τ).loc main_arg2)

theorem idx : ∀ t : Fin cfg0.N, win0_0.index t = ![t.val, 0] ∧ win0_1.index t = ![t.val / 2, 0] ∧ win0_2.index t = ![t.val, 0] :=
  (by decide +kernel : ∀ t : Fin grid0.N, _)

/-- A grid point's batch and the tokens of its tile. -/
def bt (t : Fin cfg0.N) : Fin 4 := ⟨t.val / 2, by have : t.val < 8 := t.isLt; omega⟩
def tok (t : Fin cfg0.N) (r : Fin 1024) : Fin 2048 := ⟨1024 * (t.val % 2) + r.val, by omega⟩

theorem place (t : Fin cfg0.N) (r : Fin 1024) : t.val * 1024 + r.val = (row (bt t) (tok t r)).val := by
  show _ = 2048 * (t.val / 2) + (1024 * (t.val % 2) + r.val)
  omega

theorem read0 (t : Fin cfg0.N) (r l) : iblk m c 0 t (ix2 r l) = Q m c (ix2 (row (bt t) (tok t r)) l) := by
  show View.read (Elt Ideal) ((cfg0.win 0).blk t).view (m ((c : Thread nD τ).loc main_arg0)) (ix2 r l) = _
  blk_ext [idx t]
  exact place t r

theorem both_eq : V m c main_v0 = Cert.Kernel3Ideal.XValue.both (K m c) (V' m c) := by
  simp only [V, List.flatten_cons, List.flatten_nil, List.cons_append, List.nil_append]; entry_read
  rfl

theorem read1 (t : Fin cfg0.N) (s l) : iblk m c 1 t (ix2 s l) = Cert.Kernel3Ideal.XValue.both (K m c) (V' m c) (ix2 (krow (bt t) s) l) := by
  refine Eq.trans ?_ (congrFun (both_eq m c) _)
  show View.read (Elt Ideal) ((cfg0.win 1).blk t).view (V m c main_v0) (ix2 s l) = _
  blk_ext [idx t]
  show t.val / 2 * 256 + s.val = 256 * (t.val / 2) + s.val
  omega

variable {x3 : FVec Ideal S8192x1024 .bf16} {H : Fin 4 → Fin 4 → Head} (A : Args (Q m c) x3 (K m c) (V' m c) H)

include A in
theorem q_at (t : Fin cfg0.N) (h r j) : part (iblk m c 0 t) h (ix2 r j) = ((H (bt t) h).q (tok t r) j : EReal) :=
  (read0 m c t r (qc h j)).trans (A.q _ _ _ _)
include A in
theorem k_at (t : Fin cfg0.N) (h s j) : cut (e := .bf16) (iblk m c 1 t) (kb h) (ix2 s j) = ((H (bt t) h).k s j : EReal) :=
  (read1 m c t s (kc (kb h) j)).trans ((Cert.Kernel3Ideal.XValue.both_k _ _ _ h j).trans (A.k _ _ _ _))
include A in
theorem v_at (t : Fin cfg0.N) (h s j) : cut (e := .bf16) (iblk m c 1 t) (vb h) (ix2 s j) = (H (bt t) h).v s j :=
  (read1 m c t s (kc (vb h) j)).trans ((Cert.Kernel3Ideal.XValue.both_v _ _ _ h j).trans (A.v _ _ _ _))

theorem emb2 (t : Fin cfg0.N) (r l) : (win0_2.blk t).view.emb (ix2 r l) = ix2 (row (bt t) (tok t r)) l := by
  blk_ext [idx t]
  exact place t r

include A in
/-- The kernel leaves the reference's array. -/
theorem final2 : (dats m 0 c).arrAt 2 cfg0.N = Cert.Reference10Ideal.Read.val_main_v23 (F := Ideal) (Q m c) (K m c) (V' m c) := by
  refine (dats m 0 c).arrAt_eq_of_covers 2 _ (by decide +kernel) fun t hf y => ?_
  obtain ⟨r, l, rfl⟩ : ∃ r l, y = ix2 (n0 := 1024) (n1 := 1024) r l := ⟨y 0, y 1, by ext a; match a with | ⟨0, _⟩ => rfl | ⟨1, _⟩ => rfl⟩
  obtain ⟨h, j, rfl⟩ : ∃ h j, l = qc h j := ⟨_, _, Cert.Kernel3Ideal.XValue.splitq l⟩
  exact (congrFun (after0_2 m c t) _).trans ((tile _ _ h r j).trans
    ((out_of (T := tok t) (q_at m c A t h) (k_at m c A t h) (v_at m c A t h) r j).trans ((ref_at A _ _ _ _).symm.trans
      (congrArg (Cert.Reference10Ideal.Read.val_main_v23 (F := Ideal) _ _ _) (emb2 t r (qc h j)).symm))))

/-! ### The precondition -/

theorem args [Cert.Pre_xfwd_finite.Facts] (x0 : FVec Ideal S8192x1024 .bf16) (x1 x2 : FVec Ideal S1024x1024 .bf16)
    (h : Cert.Pre_xfwd_finite.fn (F := Ideal) x0 x1 x2 = fun _ => 1#1) :
    Args x0 (fun _ => (0 : EReal)) x1 x2 (Cert.Kernel3Ideal.XValue.heads x0 (fun _ => (0 : EReal)) x1 x2) := by
  have h0 := congrFun h ix0
  dsimp only [Cert.Pre_xfwd_finite.fn] at h0
  obtain ⟨e0, e1⟩ := Cert.Finite.of_and h0
  haveI : Subsingleton Cert.Pre_xfwd_finite.S_.Idx := ⟨fun a b => funext fun k => k.elim0⟩
  exact ⟨fun _ _ _ _ => Cert.Finite.real_of_all _ _ _ _ _ _ (fun _ => Cert.Finite.inf_word) e0 _,
    fun _ _ _ _ => Cert.Finite.real_of_all _ _ _ _ _ _ (fun _ => Cert.Finite.inf_word) e1 _, fun _ _ _ _ => rfl, fun _ _ _ _ => rfl⟩

end Cert.Kernel10Ideal.XFwd

end
-- ==== Proof.FoxFwdTile.lean ====
/-
  One tile of the forward forgetting attention, for any number of keys: the masked scores of 512 queries, their greatest,
  the shifted exponentials and their sum, the weighted values and the log-sum.
-/
module

public import proofs.«01_k».proof.Proof.FoxReal
public import proofs.«01_k».proof.Proof.XHead
public import Idealize.ShloMosaic.Lib.Pipeline.ValueKit
public import Idealize.ShloMosaic.Lib.MatmulPlain
public import Idealize.ShloMosaic.Lib.WordCmp

@[expose] public section

set_option maxRecDepth 16384

noncomputable section

namespace Cert.FoxFwd

open Idealize.ShloMosaic Idealize.ShloMosaic.TcCoe
open Cert.FoxTile Cert.SoftMath
open Cert.Kernel5Ideal.FoxBody (Head hd pl)
open scoped BigOperators

variable {K : ℕ}

/-- A sum over the first keys of what the later keys do not add to. -/
theorem sum_up {M : Type*} [AddCommMonoid M] (hK : 0 + K ≤ 2048) (f : Fin 2048 → M) (hf : ∀ s, K ≤ s.val → f s = 0) : ∑ c : Fin K, f (up 0 hK c) = ∑ s, f s := by
  refine Fintype.sum_of_injective (up 0 hK) (fun a b h => ?_) _ _ (fun s hs => hf s ?_) fun _ => rfl
  · have := congrArg Fin.val h
    exact Fin.ext (by simpa [up] using this)
  · by_contra hlt
    exact hs ⟨⟨s.val, by omega⟩, Fin.ext (Nat.zero_add _)⟩

theorem sup_up (hK : 0 + K ≤ 2048) (f : Fin 2048 → EReal) (hf : ∀ s, K ≤ s.val → f s = ⊥) :
    (Finset.univ.sup fun c : Fin K => f (up 0 hK c)) = Finset.univ.sup f := by
  refine le_antisymm (Finset.sup_le fun c _ => Finset.le_sup (f := f) (Finset.mem_univ _)) (Finset.sup_le fun s _ => ?_)
  by_cases hs : K ≤ s.val
  · rw [hf s hs]; exact bot_le
  · have e : up 0 hK (⟨s.val, by omega⟩ : Fin K) = s := Fin.ext (Nat.zero_add _)
    have h := Finset.le_sup (f := fun c : Fin K => f (up 0 hK c)) (Finset.mem_univ (⟨s.val, by omega⟩ : Fin K))
    rw [← e]; exact h

/-- The keys of a tile with `K` keys, its queries from `a` on. -/
def Causal (msk : IVec (M2 512 K) 1) (a : ℕ) : Prop := ∀ (r : Fin 512) (c : Fin K), msk (ix2 r c) = 1#1 ↔ c.val ≤ a + r.val

theorem causal_iota {a : ℕ} (h0 h1) (hK : K ≤ 2048) (ha : a + 512 ≤ 2048) :
    Causal (K := K) (cmpi .sle (iota .tc (M2 512 K) 32 [1] h1) (addi (iota .tc (M2 512 K) 32 [0] h0)
      (broadcast (M2 512 K) (BitVec.ofNat 32 a)))) a := by
  intro r c
  pointwise
  have hr' := r.isLt
  have hc' := c.isLt
  rw [show IntOp.addi (BitVec.ofNat 32 r.val) (BitVec.ofNat 32 a) = BitVec.ofNat 32 (r.val + a) from (BitVec.ofNat_add ..).symm,
    Idealize.ShloMosaic.WordCmp.cmpi_sle_of_lt (by simp only [BitVec.toNat_ofNat]; omega) (by simp only [BitVec.toNat_ofNat]; omega)]
  simp only [BitVec.toNat_ofNat]
  rw [Nat.mod_eq_of_lt (by omega : c.val < 2 ^ 32), Nat.mod_eq_of_lt (by omega : r.val + a < 2 ^ 32)]
  by_cases h : c.val ≤ r.val + a
  · simp only [h, decide_true]
    exact ⟨fun _ => by omega, fun _ => rfl⟩
  · simp only [h, decide_false]
    exact ⟨fun h' => absurd h' (by decide), fun h' => absurd h' (by omega)⟩

theorem spread_col (x : FVec Ideal (M2 512 1) .f32) (hb : (M2 512 1).Broadcasts (M2 512 128)) (r : Fin 512) (l : Fin 128) :
    broadcastTo (M2 512 128) x hb (ix2 r l) = x (ix2 r (0 : Fin 1)) := by
  refine broadcastTo_apply _ hb (ix2 r l) (ix2 r (0 : Fin 1)) ?_
  intro a
  match a with
  | ⟨0, _⟩ =>
    show r.val = if 512 = 1 then 0 else r.val
    exact (if_neg (by decide)).symm
  | ⟨1, _⟩ => rfl

section
variable (hq : (M3 512 128).ShapeCasts (M2 512 128)) (hk : (M3 K 128).ShapeCasts (M2 K 128))
  (hr : (M2 512 K).Reduces [1] ⟨1, ![512]⟩) (hc : Shape.ShapeCasts ⟨1, ![512]⟩ (M2 512 1)) (hb : (M2 512 1).Broadcasts (M2 512 K))
  (hw : FTy.bits .bf16 < FTy.bits .f32) (hl : (M2 512 1).Broadcasts (M2 512 128))

def scores (msk : IVec (M2 512 K) 1) (qa : FVec Ideal (M3 512 128) .bf16) (ka : FVec Ideal (M3 K 128) .bf16) (b : Ideal .f32) :
    FVec Ideal (M2 512 K) .f32 :=
  select msk (matmul (DotDims.transposedRhs 512 128 K) none (shapeCast (M2 512 128) qa hq) (shapeCast (M2 K 128) ka hk)
    (constant (M2 512 K) .f32 0x00000000#32)) (broadcast (M2 512 K) b)

variable (s : FVec Ideal (M2 512 K) .f32)

def peak : FVec Ideal (M2 512 1) .f32 := shapeCast (M2 512 1) (multiReduction .maximumf [1] ⟨1, ![512]⟩ s 0xFF800000#32 hr (.inl rfl) rfl) hc

def pe : FVec Ideal (M2 512 K) .f32 := exp (subf s (broadcastTo (M2 512 K) (peak hr hc s) hb))

def total : FVec Ideal (M2 512 1) .f32 :=
  shapeCast (M2 512 1) (multiReduction .add [1] ⟨1, ![512]⟩ (pe hr hc hb s) 0x00000000#32 hr (.inl rfl) rfl) hc

def outs (v : FVec Ideal (M2 K 128) .bf16) : FVec Ideal (M2 512 128) .f32 :=
  mulf (matmul (DotDims.plain 512 K 128) none (truncf .bf16 (pe hr hc hb s) hw) v (constant (M2 512 128) .f32 0x00000000#32))
    (broadcastTo (M2 512 128) (divf (broadcast (M2 512 1) (Scalar.ofBits .f32 0x3F800000#32)) (total hr hc hb s)) hl)

def logs : FVec Ideal (M2 512 1) .f32 := addf (peak hr hc s) (log (total hr hc hb s))

theorem scores_apply (msk : IVec (M2 512 K) 1) (qa : FVec Ideal (M3 512 128) .bf16) (ka : FVec Ideal (M3 K 128) .bf16) (b : Ideal .f32)
    (r : Fin 512) (c : Fin K) : scores hq hk msk qa ka b (ix2 r c)
      = if msk (ix2 r c) = 1#1 then ∑ l : Fin 128, qa (ix3 (0 : Fin 1) r l) * ka (ix3 (0 : Fin 1) c l) else b := by
  have h : matmul (DotDims.transposedRhs 512 128 K) none (shapeCast (M2 512 128) qa hq) (shapeCast (M2 K 128) ka hk)
      (constant (M2 512 K) .f32 0x00000000#32) (ix2 r c) = ∑ l : Fin 128, qa (ix3 (0 : Fin 1) r l) * ka (ix3 (0 : Fin 1) c l) := by
    refine (Ideal.matmul_transposedRhs_apply none _ _ _ r c).trans ?_
    show Ideal.ofBits .f32 0x00000000#32 + _ = _
    rw [Ideal.ofBits_zero_f32, zero_add]
    exact Finset.sum_congr rfl fun l _ => congrArg₂ (· * ·) (cast_plane qa hq r l) (cast_plane ka hk c l)
  rw [← h]
  rfl

theorem peak_apply (r : Fin 512) : peak hr hc s (ix2 r (0 : Fin 1)) = Finset.univ.sup fun c => s (ix2 r c) := by
  pointwise [peak]
  rw [show Ideal.ofBits .f32 0xFF800000#32 = (⊥ : EReal) by simp [Ideal.ofBits, Ideal.ieee]]
  rfl

theorem pe_apply (r : Fin 512) (c : Fin K) : pe hr hc hb s (ix2 r c) = Ideal.exp (s (ix2 r c) - peak hr hc s (ix2 r (0 : Fin 1))) := by
  pointwise [pe]

theorem total_apply (r : Fin 512) : total hr hc hb s (ix2 r (0 : Fin 1)) = ∑ c, pe hr hc hb s (ix2 r c) := by
  pointwise [total]

theorem outs_apply (v : FVec Ideal (M2 K 128) .bf16) (r : Fin 512) (l : Fin 128) : outs hr hc hb hw hl s v (ix2 r l)
    = (∑ c, pe hr hc hb s (ix2 r c) * v (ix2 c l)) * Ideal.div 1 (total hr hc hb s (ix2 r (0 : Fin 1))) := by
  have h : matmul (DotDims.plain 512 K 128) none (truncf .bf16 (pe hr hc hb s) hw) v (constant (M2 512 128) .f32 0x00000000#32) (ix2 r l)
      = ∑ c, pe hr hc hb s (ix2 r c) * v (ix2 c l) := by
    refine (Ideal.matmul_plain_apply none _ v _ r l).trans ?_
    show Ideal.ofBits .f32 0x00000000#32 + _ = _
    rw [Ideal.ofBits_zero_f32, zero_add]
    rfl
  rw [← h]
  have h1 : broadcastTo (M2 512 128) (divf (broadcast (M2 512 1) (Scalar.ofBits .f32 0x3F800000#32)) (total hr hc hb s)) hl (ix2 r l)
      = Ideal.div 1 (total hr hc hb s (ix2 r (0 : Fin 1))) := by
    refine (spread_col (divf (broadcast (M2 512 1) (Scalar.ofBits .f32 0x3F800000#32)) (total hr hc hb s)) hl r l).trans ?_
    generalize total hr hc hb s = z
    pointwise
  rw [← h1]
  rfl

variable {s} {a : ℕ} (ha : a + 512 ≤ 2048) (hK : 0 + K ≤ 2048) (hKa : K = a + 512) (score : Fin 2048 → Fin 2048 → ℝ)
  (hs : ∀ r c, s (ix2 r c) = sc (Head.on (up a ha r)) (score (up a ha r)) (up 0 hK c))

include hs hKa

theorem off (r : Fin 512) (t : Fin 2048) (h : K ≤ t.val) : ¬ Head.on (up a ha r) t := by
  intro h'
  have := r.isLt
  have h2 : t.val ≤ a + r.val := h'
  omega

theorem peak_eq (r : Fin 512) : peak hr hc s (ix2 r (0 : Fin 1)) = (top (Head.on (up a ha r)) (score (up a ha r)) : EReal) := by
  rw [peak_apply, ← sup_eq (on := Head.on (up a ha r)) (score (up a ha r)) (up a ha r) (le_refl _),
    ← sup_up hK (sc (Head.on (up a ha r)) (score (up a ha r))) fun t h => if_neg (off ha hK hKa score hs r t h)]
  exact congrArg _ (funext fun c => hs r c)

theorem pe_eq (r : Fin 512) (c : Fin K) :
    pe hr hc hb s (ix2 r c) = (ex (Head.on (up a ha r)) (score (up a ha r)) (up 0 hK c) : EReal) := by
  rw [pe_apply, peak_eq hr hc ha hK hKa score hs, hs, exp_sc]

theorem total_eq (r : Fin 512) : total hr hc hb s (ix2 r (0 : Fin 1)) = (tot (Head.on (up a ha r)) (score (up a ha r)) : EReal) := by
  rw [total_apply]
  simp only [pe_eq hr hc hb ha hK hKa score hs]
  rw [← coe_sum, sum_up hK (ex (Head.on (up a ha r)) (score (up a ha r))) fun t h => if_neg (off ha hK hKa score hs r t h)]
  rfl

theorem logs_eq (r : Fin 512) : logs hr hc hb s (ix2 r (0 : Fin 1))
    = ((top (Head.on (up a ha r)) (score (up a ha r)) + Real.log (tot (Head.on (up a ha r)) (score (up a ha r))) : ℝ) : EReal) := by
  show peak hr hc s (ix2 r (0 : Fin 1)) + Ideal.log (total hr hc hb s (ix2 r (0 : Fin 1))) = _
  rw [peak_eq hr hc ha hK hKa score hs, total_eq hr hc hb ha hK hKa score hs, log_tot (on := Head.on (up a ha r)) _ (up a ha r) (le_refl _), ← EReal.coe_add]

theorem outs_eq (v : FVec Ideal (M2 K 128) .bf16) (V : Fin 2048 → Fin 128 → EReal) (hv : ∀ c l, v (ix2 c l) = V (up 0 hK c) l)
    (r : Fin 512) (l : Fin 128) : outs hr hc hb hw hl s v (ix2 r l)
      = ∑ t, (wt (Head.on (up a ha r)) (score (up a ha r)) t : EReal) * V t l := by
  have e : ∀ c, pe hr hc hb s (ix2 r c) * v (ix2 c l)
      = (ex (Head.on (up a ha r)) (score (up a ha r)) (up 0 hK c) : EReal) * V (up 0 hK c) l := fun c => by
    rw [pe_eq hr hc hb ha hK hKa score hs, hv]
  have hp := tot_pos (on := Head.on (up a ha r)) (score (up a ha r)) (up a ha r) (le_refl _)
  rw [outs_apply, total_eq hr hc hb ha hK hKa score hs, Ideal.div_coe hp.ne', one_mul]
  simp only [e]
  rw [sum_up hK (fun t => (ex (Head.on (up a ha r)) (score (up a ha r)) t : EReal) * V t l) fun t h => by
    unfold ex; rw [if_neg (off ha hK hKa score hs r t h), EReal.coe_zero, zero_mul], mul_comm, Cert.XHead.mul_sum _ _ (one_div_pos.mpr hp).le]
  refine Finset.sum_congr rfl fun t _ => ?_
  rw [← mul_assoc, ← EReal.coe_mul]
  refine congrArg (fun x : ℝ => (x : EReal) * V t l) ?_
  unfold wt
  rw [one_div_mul_eq_div]

end

end Cert.FoxFwd
-- ==== Proof.FoxFwdPlanes.lean ====
/-
  The planes of the forward forgetting attention: each head's queries and keys, the gate's sums in their spare lanes.
-/
module

public import proofs.«01_k».proof.Proof.Gen.Kernel11Ideal.Frame
public import proofs.«01_k».proof.Proof.FoxReal

@[expose] public section

set_option maxRecDepth 16384

noncomputable section

namespace Cert.Kernel11Ideal.FoxFwd

open Cert.Kernel11Ideal Cert.Kernel11Ideal.Gen Idealize.ShloMosaic Idealize.ShloMosaic.TcCoe Idealize.SL.Sem
open Cert.FoxTile
open Cert.Kernel5Ideal.FoxBody (half mask masked up_zero sel_eq spareQ spareK)

theorem lanes (l : Fin 128) : k0_pay7 (ix2 (0 : Fin 1) l) = 1#1 ↔ half 0 l := Cert.Kernel5Ideal.FoxBody.first_apply l
theorem mask_first (l : Fin 128) : k0_pay8 (F := Ideal) (ix2 (0 : Fin 1) l) = mask 0 l := Cert.Kernel5Ideal.FoxBody.mask_first l
theorem mask_second (l : Fin 128) : k0_pay9 (F := Ideal) (ix2 (0 : Fin 1) l) = mask 1 l := Cert.Kernel5Ideal.FoxBody.mask_second l

/-- A head's queries, scaled, beside its gate's sums. -/
def qp (x : FVec Ideal S2048x128 .bf16) (g : FVec Ideal S2048x128 .f32) (e : Fin 2) (t : Fin 2048) (l : Fin 128) : EReal :=
  masked x e t l * Ideal.ofBits .bf16 0x3E00#16 + spareQ (64 - 64 * e.val) (g (ix2 t (⟨64 * e.val, by have := e.isLt; omega⟩ : Fin 128))) l

/-- A head's keys beside its gate's sums. -/
def kp (x : FVec Ideal S2048x128 .bf16) (g : FVec Ideal S2048x128 .f32) (e : Fin 2) (t : Fin 2048) (l : Fin 128) : EReal :=
  masked x e t l + spareK (64 - 64 * e.val) (0 - g (ix2 t (⟨64 * e.val, by have := e.isLt; omega⟩ : Fin 128))) l

variable (x : FVec Ideal S2048x128 .bf16) (g : FVec Ideal S2048x128 .f32)

theorem q_first : IsRows (k0_pay14 (k0_pay12 x) (iota Kind.tc S1x128 32 [1] iota_S1x128_d1_w32) (k0_pay13 g)) (qp x g 0) 0 := by
  intro h r l
  pointwise [k0_pay14, k0_pay12, k0_pay13, k0_pay11, k0_pay10]
  rw [mask_first, up_zero]
  rw [sel_eq l 69 (by decide), sel_eq l 68 (by decide), sel_eq l 67 (by decide), sel_eq l 66 (by decide), sel_eq l 65 (by decide), sel_eq l 64 (by decide)]
  rfl

theorem k_first : IsRows (k0_pay22 (k0_pay15 k0_pay8 x) (k0_pay17 (k0_pay11 g)) (k0_pay18 (k0_pay11 g)) (k0_pay19 (k0_pay11 g))
    (iota Kind.tc S1x128 32 [1] iota_S1x128_d1_w32) k0_pay20 (FloatOps.ofBits FTy.f32 1065353216#32) k0_pay21) (kp x g 0) 0 := by
  intro h r l
  pointwise [k0_pay22, k0_pay15, k0_pay16, k0_pay17, k0_pay18, k0_pay19, k0_pay20, k0_pay21, k0_pay11, k0_pay10]
  rw [mask_first, up_zero]
  rw [sel_eq l 69 (by decide), sel_eq l 68 (by decide), sel_eq l 67 (by decide), sel_eq l 66 (by decide), sel_eq l 65 (by decide), sel_eq l 64 (by decide)]
  rfl

theorem q_second : IsRows (k0_pay27 (k0_pay23 (k0_pay10 g)) (k0_pay24 k0_pay9 x) (k0_pay25 (k0_pay10 g)) (k0_pay26 (k0_pay10 g))) (qp x g 1) 0 := by
  intro h r l
  pointwise [k0_pay27, k0_pay23, k0_pay24, k0_pay25, k0_pay26, k0_pay10]
  rw [mask_second, up_zero]
  rw [sel_eq l 5 (by decide), sel_eq l 4 (by decide), sel_eq l 3 (by decide), sel_eq l 2 (by decide), sel_eq l 1 (by decide), sel_eq l 0 (by decide)]
  rfl

theorem k_second : IsRows (k0_pay35 (k0_pay28 k0_pay9 x) (k0_pay32 (k0_pay23 (k0_pay10 g))) (k0_pay33 (k0_pay23 (k0_pay10 g))) k0_pay34) (kp x g 1) 0 := by
  intro h r l
  pointwise [k0_pay35, k0_pay28, k0_pay29, k0_pay30, k0_pay31, k0_pay32, k0_pay33, k0_pay34, k0_pay23, k0_pay10]
  rw [mask_second, up_zero]
  rw [sel_eq l 5 (by decide), sel_eq l 4 (by decide), sel_eq l 3 (by decide), sel_eq l 2 (by decide), sel_eq l 1 (by decide), sel_eq l 0 (by decide)]
  rfl

end Cert.Kernel11Ideal.FoxFwd
-- ==== Proof.FoxFwdBody.lean ====
/-
  The body of the forward forgetting attention at a grid point: four tiles of 512 queries, each with its two heads.
-/
module

public import proofs.«01_k».proof.Proof.FoxFwdTile
public import proofs.«01_k».proof.Proof.FoxFwdPlanes

@[expose] public section

set_option maxRecDepth 16384

noncomputable section

namespace Cert.Kernel11Ideal.FoxFwd

open Cert.Kernel11Ideal Cert.Kernel11Ideal.Gen Idealize.ShloMosaic Idealize.ShloMosaic.TcCoe Idealize.SL.Sem
open Idealize.ShloMosaic.Pipeline (Dat)
open Cert.FoxTile Cert.FoxFwd Cert.SoftMath
open Cert.Kernel5Ideal.FoxBody (Head hd pl half half_iff mask masked masked_coe spareQ spareK spareQ_coe spareK_coe sum_spare rq rk)
open scoped BigOperators

/-- The blocks of a grid point hold its two heads. -/
structure Blocks (H : Fin 2 → Head) (x0 x1 : FVec Ideal S2048x128 .bf16) (x3 : FVec Ideal S2048x128 .f32) : Prop where
  q : ∀ t l, x0 (ix2 t l) = ((H (hd l)).q t (pl l) : EReal)
  k : ∀ t l, x1 (ix2 t l) = ((H (hd l)).k t (pl l) : EReal)
  c : ∀ t l, x3 (ix2 t l) = ((H (hd l)).c t : EReal)

/-- What the attention returns for a query. -/
def out (P : Head) (V : Fin 2048 → EReal) (t : Fin 2048) : EReal := ∑ s, (P.w t s : EReal) * V s

variable {H : Fin 2 → Head} {x0 x1 x2 : FVec Ideal S2048x128 .bf16} {x3 : FVec Ideal S2048x128 .f32} (B : Blocks H x0 x1 x3)

include B in
theorem kp_eq (e s l) : kp x1 x3 e s l = (((if hd l = e then (H e).k s (pl l) else 0) + rk (64 - 64 * e.val) (-(H e).c s) l : ℝ) : EReal) := by
  have he := e.isLt
  have h1 : hd (⟨64 * e.val, by omega⟩ : Fin 128) = e := Fin.ext (by show 64 * e.val / 64 = e.val; omega)
  show masked x1 e s l + spareK (64 - 64 * e.val) (0 - x3 (ix2 s (⟨64 * e.val, by omega⟩ : Fin 128))) l = _
  rw [masked_coe (fun e => (H e).k) x1 B.k, B.c, h1, zero_sub, ← EReal.coe_neg, spareK_coe, ← EReal.coe_add]

include B in
theorem qp_eq (e t l) : qp x0 x3 e t l = (((if hd l = e then (H e).q t (pl l) else 0) * (1 / 8) + rq (64 - 64 * e.val) ((H e).c t) l : ℝ) : EReal) := by
  have he := e.isLt
  have h1 : hd (⟨64 * e.val, by omega⟩ : Fin 128) = e := Fin.ext (by show 64 * e.val / 64 = e.val; omega)
  have h8 : Ideal.ofBits .bf16 0x3E00#16 = ((1 / 8 : ℝ) : EReal) := by
    simp [Ideal.ofBits, Ideal.ieee, -EReal.coe_mul]; norm_num
  show masked x0 e t l * Ideal.ofBits .bf16 0x3E00#16 + spareQ (64 - 64 * e.val) (x3 (ix2 t (⟨64 * e.val, by omega⟩ : Fin 128))) l = _
  rw [masked_coe (fun e => (H e).q) x0 B.q, B.c, h1, h8, spareQ_coe, ← EReal.coe_mul, ← EReal.coe_add]

section
variable {K a : ℕ} (ha : a + 512 ≤ 2048) (hK : 0 + K ≤ 2048) (hKa : K = a + 512)
  {hq : (M3 512 128).ShapeCasts (M2 512 128)} {hk : (M3 K 128).ShapeCasts (M2 K 128)}
  {hr : (M2 512 K).Reduces [1] ⟨1, ![512]⟩} {hc : Shape.ShapeCasts ⟨1, ![512]⟩ (M2 512 1)} {hb : (M2 512 1).Broadcasts (M2 512 K)}
  {hw : FTy.bits .bf16 < FTy.bits .f32} {hl : (M2 512 1).Broadcasts (M2 512 128)}
  {h11 : (M2 512 1).ShapeCasts (M2 512 1)} {hs1 : (M2 1 128).ShapeCasts (M2 1 128)} {hbs : (M2 1 128).Broadcasts (M2 512 128)}
  {hv1 : (M2 K 128).ShapeCasts (M2 K 128)}

include B in
theorem scores_at (e : Fin 2) {msk : IVec (M2 512 K) 1} (hm : Causal msk a) {qa : FVec Ideal (M3 512 128) .bf16} {ka : FVec Ideal (M3 K 128) .bf16}
    (hqa : IsRows qa (qp x0 x3 e) a) (hka : IsRows ka (kp x1 x3 e) 0) {b : Ideal .f32} (hbot : b = (⊥ : EReal)) (r : Fin 512) (c : Fin K) :
    scores hq hk msk qa ka b (ix2 r c) = sc (Head.on (up a ha r)) ((H e).score (up a ha r)) (up 0 hK c) := by
  rw [scores_apply]
  unfold sc
  have h : (msk (ix2 r c) = 1#1) = Head.on (up a ha r) (up 0 hK c) := propext ((hm r c).trans (by
    show c.val ≤ a + r.val ↔ 0 + c.val ≤ a + r.val
    rw [Nat.zero_add]))
  refine if_congr (iff_of_eq h) ?_ hbot
  have e1 : ∀ l : Fin 128, qa (ix3 (0 : Fin 1) r l) * ka (ix3 (0 : Fin 1) c l) = ((((if hd l = e then (H e).k (up 0 hK c) (pl l) else 0) + rk (64 - 64 * e.val) (-(H e).c (up 0 hK c)) l)
      * ((if hd l = e then (H e).q (up a ha r) (pl l) else 0) * (1 / 8) + rq (64 - 64 * e.val) ((H e).c (up a ha r)) l) : ℝ) : EReal) := fun l => by
    rw [hqa ha r l, hka hK c l, qp_eq B, kp_eq B, mul_comm, ← EReal.coe_mul]
  simp only [e1]
  rw [← coe_sum, sum_spare e, ← sub_eq_add_neg]
  rfl

/-- A tile of the result and of the log-sums. -/
def tileO (sel : IVec (M2 1 128) 1) (s0 s1 : FVec Ideal (M2 512 K) .f32) (v : FVec Ideal (M2 K 128) .bf16)
    (hr : (M2 512 K).Reduces [1] ⟨1, ![512]⟩) (hc : Shape.ShapeCasts ⟨1, ![512]⟩ (M2 512 1)) (hb : (M2 512 1).Broadcasts (M2 512 K))
    (hw : FTy.bits .bf16 < FTy.bits .f32) (hl : (M2 512 1).Broadcasts (M2 512 128)) (hs1 : (M2 1 128).ShapeCasts (M2 1 128))
    (hbs : (M2 1 128).Broadcasts (M2 512 128)) : FVec Ideal (M2 512 128) .bf16 :=
  truncf .bf16 (select (broadcastTo (M2 512 128) (shapeCast (M2 1 128) sel hs1) hbs) (outs hr hc hb hw hl s0 v) (outs hr hc hb hw hl s1 v)) hw

def tileL (sel : IVec (M2 1 128) 1) (s0 s1 : FVec Ideal (M2 512 K) .f32)
    (hr : (M2 512 K).Reduces [1] ⟨1, ![512]⟩) (hc : Shape.ShapeCasts ⟨1, ![512]⟩ (M2 512 1)) (hb : (M2 512 1).Broadcasts (M2 512 K))
    (hl : (M2 512 1).Broadcasts (M2 512 128)) (h11 : (M2 512 1).ShapeCasts (M2 512 1)) (hs1 : (M2 1 128).ShapeCasts (M2 1 128))
    (hbs : (M2 1 128).Broadcasts (M2 512 128)) : FVec Ideal (M2 512 128) .f32 :=
  select (broadcastTo (M2 512 128) (shapeCast (M2 1 128) sel hs1) hbs) (broadcastTo (M2 512 128) (shapeCast (M2 512 1) (logs hr hc hb s0) h11) hl)
    (broadcastTo (M2 512 128) (shapeCast (M2 512 1) (logs hr hc hb s1) h11) hl)

theorem sel_at {sel : IVec (M2 1 128) 1} (hsel : ∀ l, sel (ix2 (0 : Fin 1) l) = 1#1 ↔ half 0 l) (x y : FVec Ideal (M2 512 128) .f32) (r : Fin 512) (l : Fin 128) :
    select (broadcastTo (M2 512 128) (shapeCast (M2 1 128) sel hs1) hbs) x y (ix2 r l) = if hd l = 0 then x (ix2 r l) else y (ix2 r l) := by
  have e : broadcastTo (M2 512 128) (shapeCast (M2 1 128) sel hs1) hbs (ix2 r l) = sel (ix2 (0 : Fin 1) l) := by
    refine (broadcastTo_apply _ hbs (ix2 r l) (ix2 (0 : Fin 1) l) ?_).trans (shapeCast_apply sel hs1 _ _ rfl)
    intro a
    match a with
    | ⟨0, _⟩ => rfl
    | ⟨1, _⟩ =>
      show l.val = if 128 = 1 then 0 else l.val
      exact (if_neg (by decide)).symm
  show (if broadcastTo (M2 512 128) (shapeCast (M2 1 128) sel hs1) hbs (ix2 r l) = 1#1 then x (ix2 r l) else y (ix2 r l)) = _
  rw [e]
  exact if_congr ((hsel l).trans (half_iff 0 l)) rfl rfl

theorem pick (l : Fin 128) {x : EReal} (f : Fin 2 → EReal) (h : x = if hd l = 0 then f 0 else f 1) : x = f (hd l) := by
  rw [h]
  have h2 : hd l = 0 ∨ hd l = 1 := by
    have := (hd l).isLt
    rcases Nat.lt_or_ge (hd l).val 1 with h | h
    · exact .inl (Fin.ext (by show _ = 0; omega))
    · exact .inr (Fin.ext (by show _ = 1; omega))
  rcases h2 with h2 | h2
  · rw [h2, if_pos rfl]
  · rw [h2, if_neg (by decide)]

variable {sel : IVec (M2 1 128) 1} (hsel : ∀ l, sel (ix2 (0 : Fin 1) l) = 1#1 ↔ half 0 l) {msk msk' : IVec (M2 512 K) 1} (hm : Causal msk a) (hm' : Causal msk' a)
  {qa qa' : FVec Ideal (M3 512 128) .bf16} {ka ka' : FVec Ideal (M3 K 128) .bf16} {b b' : Ideal .f32} (hbot : b = (⊥ : EReal)) (hbot' : b' = (⊥ : EReal))
  (hqa : IsRows qa (qp x0 x3 0) a) (hka : IsRows ka (kp x1 x3 0) 0) (hqa' : IsRows qa' (qp x0 x3 1) a) (hka' : IsRows ka' (kp x1 x3 1) 0)

include B hsel hm hm' hbot hbot' hqa hka hqa' hka' ha hK hKa

theorem tileO_eq {v : FVec Ideal (M2 K 128) .bf16} (hv : ∀ c l, v (ix2 c l) = x2 (ix2 (up 0 hK c) l)) (r : Fin 512) (l : Fin 128) :
    tileO sel (scores hq hk msk qa ka b) (scores hq hk msk' qa' ka' b') (shapeCast (M2 K 128) v hv1) hr hc hb hw hl hs1 hbs (ix2 r l)
      = out (H (hd l)) (fun s => x2 (ix2 s l)) (up a ha r) := by
  have hv' : ∀ c l, shapeCast (M2 K 128) v hv1 (ix2 c l) = x2 (ix2 (up 0 hK c) l) := fun c l =>
    (shapeCast_apply v hv1 _ _ rfl).trans (hv c l)
  have h0 := outs_eq hr hc hb hw hl ha hK hKa (H 0).score (scores_at B ha hK 0 hm hqa hka hbot (hq := hq) (hk := hk)) _ (fun t l => x2 (ix2 t l)) hv' r l
  have h1 := outs_eq hr hc hb hw hl ha hK hKa (H 1).score (scores_at B ha hK 1 hm' hqa' hka' hbot' (hq := hq) (hk := hk)) _ (fun t l => x2 (ix2 t l)) hv' r l
  refine pick l (fun e => out (H e) (fun s => x2 (ix2 s l)) (up a ha r)) ?_
  refine (sel_at (hs1 := hs1) (hbs := hbs) hsel _ _ r l).trans ?_
  rw [h0, h1]
  rfl

theorem tileL_eq (r : Fin 512) (l : Fin 128) :
    tileL sel (scores hq hk msk qa ka b) (scores hq hk msk' qa' ka' b') hr hc hb hl h11 hs1 hbs (ix2 r l) = ((H (hd l)).lse (up a ha r) : EReal) := by
  have h0 := logs_eq hr hc hb ha hK hKa (H 0).score (scores_at B ha hK 0 hm hqa hka hbot (hq := hq) (hk := hk)) r
  have h1 := logs_eq hr hc hb ha hK hKa (H 1).score (scores_at B ha hK 1 hm' hqa' hka' hbot' (hq := hq) (hk := hk)) r
  refine pick l (fun e => ((H e).lse (up a ha r) : EReal)) ?_
  refine (sel_at (hs1 := hs1) (hbs := hbs) hsel _ _ r l).trans ?_
  rw [col_apply, col_apply, h0, h1]
  rfl

end

/-- The first `n` rows are written. -/
def Full {φ : EltTy} (L : List (View.Piece (Elt Ideal) (M2 2048 128) φ)) (S : Fin 2048 → Fin 128 → Elt Ideal φ) (n : ℕ) : Prop :=
  ∀ (s : Fin 2048) (l : Fin 128), s.val < n → View.canon L (ix2 s l) = S s l

theorem Full.push {φ : EltTy} {L : List (View.Piece (Elt Ideal) (M2 2048 128) φ)} {S : Fin 2048 → Fin 128 → Elt Ideal φ} {a : ℕ} (ha : a + 512 ≤ 2048)
    {w : Vec Ideal (M2 512 128) φ} {h : ∀ i, (![a, 0] : Fin 2 → ℕ) i + (M2 512 128).size i ≤ (M2 2048 128).size i}
    (hw : ∀ r l, w (ix2 r l) = S (up a ha r) l) (hL : Full L S a) :
    Full ((⟨Rect.unit (s := M2 2048 128) ![a, 0] (M2 512 128).size h, w⟩ : View.Piece (Elt Ideal) (M2 2048 128) φ) :: L) S (a + 512) := by
  intro s l hs
  by_cases hlt : s.val < a
  · rw [View.canon_cons_of_not_mem, hL s l hlt]
    intro hm
    have := ((Rect.mem_set_unit (inb := h)).mp hm) 0
    have h2 : a ≤ s.val := this.1
    omega
  · have hc : s.val - a < 512 := by omega
    have e : ix2 s l = (Rect.unit (s := M2 2048 128) ![a, 0] (M2 512 128).size h).emb (ix2 (⟨s.val - a, hc⟩ : Fin 512) l) := by
      funext i; apply Fin.ext
      match i with
      | ⟨0, _⟩ => show s.val = a + 1 * (s.val - a); omega
      | ⟨1, _⟩ => show l.val = 0 + 1 * l.val; omega
    have e2 : up a ha (⟨s.val - a, hc⟩ : Fin 512) = s := Fin.ext (by show a + (s.val - a) = s.val; omega)
    rw [e, View.canon_cons_emb, hw, e2]

/-- The values of the first keys. -/
theorem ld_keys (x : FVec Ideal S2048x128 .bf16) {K : ℕ} (hin : ∀ i, (![0, 0] : Fin 2 → ℕ) i + (M2 K 128).size i ≤ S2048x128.size i) (hK : 0 + K ≤ 2048)
    (c : Fin K) (l : Fin 128) : View.ld (Val := Elt Ideal) (e' := .bf16) x (Rect.unit (s := S2048x128) ![0, 0] (M2 K 128).size hin) (ix2 c l) = x (ix2 (up 0 hK c) l) := by
  refine congrArg x ?_
  ext a
  match a with
  | ⟨0, _⟩ => show 0 + 1 * c.val = 0 + c.val; omega
  | ⟨1, _⟩ => show 0 + 1 * l.val = l.val; omega

theorem all_keys (x : FVec Ideal S2048x128 .bf16) (hK : 0 + 2048 ≤ 2048) (c : Fin 2048) (l : Fin 128) : x (ix2 c l) = x (ix2 (up 0 hK c) l) := by
  rw [Cert.Kernel5Ideal.FoxBody.up_zero]

theorem bot_mask : Named.named (F := Ideal) κ "mask" (φ := .f32) 0xF149F2CA#32 = (⊥ : EReal) :=
  IdealRules.named_const.ideal_named_scalar _ _ _ _ rfl

variable (m : (ℓ : Loc nD τ sig) → Buf (Elt Ideal) ℓ)

set_option maxHeartbeats 4000000 in
theorem after4 (c : Dev nD) (t : Fin cfg0.N) (B : Blocks H (iblk m c 0 t) (iblk m c 1 t) (iblk m c 3 t)) (s : Fin 2048) (l : Fin 128) :
    ((dats m 0 c).after 4 t) (ix2 s l) = out (H (hd l)) (fun s => (iblk m c 2 t : FVec Ideal S2048x128 .bf16) (ix2 s l)) s := by
  rw [after0_4]; unfold outsAt0 out0_A_4; frame_open
  simp (disch := decide) only [View.read_writes_junk_eq_canon, View.readAt_eq_ld, View.ld_unit_lit', Memref.IsWhole.read_unread]
  refine (?_ : Full (φ := .bf16) _ (fun s l => out (H (hd l)) (fun s => (iblk m c 2 t : FVec Ideal S2048x128 .bf16) (ix2 s l)) s) 2048) s l s.isLt
  iterate 4
    refine Full.push ?_ (fun r l => ?_) ?_
    · decide
    · refine tileO_eq B ?_ ?_ ?_ lanes ?_ ?_ bot_mask bot_mask ?_ ?_ ?_ ?_ ?_ r l
      · decide
      · decide
      · exact causal_iota _ _ (by decide) (by decide)
      · exact causal_iota _ _ (by decide) (by decide)
      · exact rows_first (q_first _ _) _
      · exact rows_first (k_first _ _) _
      · exact rows_second (q_second _ _) _
      · exact rows_second (k_second _ _) _
      · first | exact ld_keys _ _ _ | exact all_keys _ _
  exact fun s l h => absurd h (Nat.not_lt_zero _)

set_option maxHeartbeats 4000000 in
theorem after5 (c : Dev nD) (t : Fin cfg0.N) (B : Blocks H (iblk m c 0 t) (iblk m c 1 t) (iblk m c 3 t)) (s : Fin 2048) (l : Fin 128) :
    ((dats m 0 c).after 5 t) (ix2 s l) = ((H (hd l)).lse s : EReal) := by
  rw [after0_5]; unfold outsAt0 out0_A_5; frame_open
  simp (disch := decide) only [View.read_writes_junk_eq_canon, View.readAt_eq_ld, View.ld_unit_lit', Memref.IsWhole.read_unread]
  refine (?_ : Full (φ := .f32) _ (fun s l => ((H (hd l)).lse s : EReal)) 2048) s l s.isLt
  iterate 4
    refine Full.push ?_ (fun r l => ?_) ?_
    · decide
    · refine tileL_eq B ?_ ?_ ?_ lanes ?_ ?_ bot_mask bot_mask ?_ ?_ ?_ ?_ r l
      · decide
      · decide
      · exact causal_iota _ _ (by decide) (by decide)
      · exact causal_iota _ _ (by decide) (by decide)
      · exact rows_first (q_first _ _) _
      · exact rows_first (k_first _ _) _
      · exact rows_second (q_second _ _) _
      · exact rows_second (k_second _ _) _
  exact fun s l h => absurd h (Nat.not_lt_zero _)

end Cert.Kernel11Ideal.FoxFwd
-- ==== Proof.FoxFwdValue.lean ====
/-
  The forward forgetting attention: the host's arrays, the two result arrays and the reference.
-/
module

public import proofs.«01_k».proof.Proof.FoxFwdBody
public import proofs.«01_k».proof.Proof.FoxValue
public import proofs.«01_k».proof.Pre_ffwd_finite
public import proofs.«01_k».proof.Proof.Gen.Reference11Ideal.Read
public import Idealize.ShloMosaic.Lib.Pipeline.ValueKit

@[expose] public section

set_option maxRecDepth 16384

noncomputable section

namespace Cert.Kernel11Ideal.FoxFwd

open Cert.Kernel11Ideal Cert.Kernel11Ideal.Gen Idealize.ShloMosaic Idealize.ShloMosaic.TcCoe Idealize.SL.Sem
open Idealize.ShloMosaic.Pipeline (Dat)
open Cert.SoftMath
open Cert.FoxRef (row col Args sum_real)
open Cert.Kernel5Ideal.FoxBody (Head hd pl)
open Cert.Kernel5Ideal.FoxHost (zcat zq_at zk_at zv_at mx es zs spread mx_at es_at zs_at spread_at)
open scoped BigOperators

/-! ### The reference -/

section
variable {x0 x1 x2 : FVec Ideal S8192x512 .bf16} {x3 : FVec Ideal S8192x8 .f32} {H : Fin 4 → Fin 8 → Head}
  (A : Args x0 x1 (fun _ => (0 : EReal)) (fun _ => (0 : EReal)) x3 H)

/-- The weights and the masked scores are those of the backward call's reference. -/
theorem weights_eq : Cert.Reference11Ideal.Read.val_main_v35 (F := Ideal) x0 x1 x3 = Cert.Reference5Ideal.Read.val_main_v50 (F := Ideal) x0 x1 x3 := rfl

abbrev maskedS (x0 x1 : FVec Ideal S8192x512 .bf16) (x3 : FVec Ideal S8192x8 .f32) : FVec Ideal Cert.Kernel5Ideal.S4x8x2048x2048 .f32 :=
  Cert.Reference5Ideal.Read.val_main_v25_0 (F := Ideal) x0 x1 x3

theorem sums_eq : Cert.Reference11Ideal.Read.val_main_v52 (F := Ideal) x0 x1 x3
    = spread (mx (maskedS x0 x1 x3)) (zs (es (maskedS x0 x1 x3) (mx (maskedS x0 x1 x3)))) := rfl

include A in
theorem ref_sums (b t h i) : Cert.Reference11Ideal.Read.val_main_v52 (F := Ideal) x0 x1 x3 (ix2 (row b t) (col h i)) = ((H b h).lse t : EReal) := by
  have e1 : mx (maskedS x0 x1 x3) (ix3 b h t) = (top (Head.on t) ((H b h).score t) : EReal) := by
    rw [mx_at, ← sup_eq (on := Head.on t) ((H b h).score t) t (le_refl _)]
    exact congrArg _ (funext fun k => Cert.FoxRef.v25_at A b h t k)
  have e2 : zs (es (maskedS x0 x1 x3) (mx (maskedS x0 x1 x3))) (ix3 b h t) = (tot (Head.on t) ((H b h).score t) : EReal) := by
    rw [zs_at]
    refine sum_real fun k => ?_
    rw [es_at, e1, ← exp_sc]
    exact congrArg (fun z => Ideal.exp (z - _)) (Cert.FoxRef.v25_at A b h t k)
  rw [sums_eq, spread_at, e1, e2, log_tot (on := Head.on t) _ t (le_refl _), ← EReal.coe_add]
  rfl

theorem hidx (b t h i) : Cert.Reference11Ideal.Read.idx_main_v38 (ix2 (row b t) (col h i)) = ix4 b t h i := by
  have hb := b.isLt; have ht := t.isLt; have hh := h.isLt; have hi := i.isLt
  ext a
  match a with
  | ⟨0, _⟩ => show ((2048 * b.val + t.val) * 512 + (64 * h.val + i.val)) / 1048576 = b.val; omega
  | ⟨1, _⟩ => show ((2048 * b.val + t.val) * 512 + (64 * h.val + i.val)) / 512 % 2048 = t.val; omega
  | ⟨2, _⟩ => show ((2048 * b.val + t.val) * 512 + (64 * h.val + i.val)) / 64 % 8 = h.val; omega
  | ⟨3, _⟩ => show ((2048 * b.val + t.val) * 512 + (64 * h.val + i.val)) % 64 = i.val; omega

include A in
theorem ref_out (b t h i) : Cert.Reference11Ideal.Read.val_main_v50 (F := Ideal) x0 x1 x2 x3 (ix2 (row b t) (col h i))
    = out (H b h) (fun s => x2 (ix2 (row b s) (col h i))) t := by
  rw [Cert.Reference11Ideal.Read.val_main_v50_apply, Cert.Reference11Ideal.Read.val_main_v38_apply, hidx]
  show Cert.Reference11Ideal.Read.val_main_v37 (F := Ideal) x0 x1 x2 x3 (ix4 b t h i) = _
  pointwise [Cert.Reference11Ideal.Read.val_main_v37, Cert.Reference11Ideal.Read.val_main_v36]
  unfold out
  refine Finset.sum_congr rfl fun s _ => ?_
  rw [show Cert.Reference11Ideal.Read.val_main_v5 (F := Ideal) x2 (ix4 b s h i) = _ from Cert.FoxRef.v4_at x2 b s h i, weights_eq,
    Cert.FoxRef.v50_at A, mul_comm]

end

/-! ### The host's arrays and the blocks -/

variable (m : (ℓ : Loc nD τ sig) → Buf (Elt Ideal) ℓ) (c : Dev nD) {H : Fin 4 → Fin 8 → Head}

abbrev Q : FVec Ideal S8192x512 .bf16 := m ((c : Thread nD τ).loc main_arg0)
abbrev K : FVec Ideal S8192x512 .bf16 := m ((c : Thread nD τ).loc main_arg1)
abbrev W : FVec Ideal S8192x512 .bf16 := m ((c : Thread nD τ).loc main_arg2)
abbrev C : FVec Ideal S8192x8 .f32 := m ((c : Thread nD τ).loc main_arg3)

variable (A : Args (Q m c) (K m c) (fun _ => (0 : EReal)) (fun _ => (0 : EReal)) (C m c) H)

set_option maxHeartbeats 2000000 in
theorem z_eq : V m c main_v3 = zcat (Q m c) (K m c) (W m c) := by
  simp only [V, List.flatten_cons, List.flatten_nil, List.cons_append, List.nil_append]; entry_read
  rfl

theorem c_at (r : Fin 8192) (h : Fin 8) (i : Fin 64) : V m c main_v5 (ix2 r (col h i)) = C m c (ix2 r h) := by
  have hh := h.isLt; have hi := i.isLt
  simp only [V, List.flatten_cons, List.flatten_nil, List.cons_append, List.nil_append]; entry_read
  pointwise
  refine congrArg (C m c) ?_
  ext a
  match a with
  | ⟨0, _⟩ => rfl
  | ⟨1, _⟩ => show (64 * h.val + i.val) / 64 = h.val; omega

/-- The block of every window at every grid point. -/
theorem idx : ∀ t : Fin cfg0.N, win0_0.index t = ![t.val / 4, 12 + t.val % 4] ∧ win0_1.index t = ![t.val / 4, 16 + t.val % 4]
    ∧ win0_2.index t = ![t.val / 4, 20 + t.val % 4] ∧ win0_3.index t = ![t.val / 4, t.val % 4] ∧ win0_4.index t = ![t.val / 4, t.val % 4]
    ∧ win0_5.index t = ![t.val / 4, t.val % 4] := (by decide +kernel : ∀ t : Fin grid0.N, _)

theorem points : ∀ t : Fin cfg0.N, t.val < 16 := (by decide +kernel : ∀ t : Fin grid0.N, _)

/-- A grid point's batch and its two heads. -/
def bt (t : Fin cfg0.N) : Fin 4 := ⟨t.val / 4, by have := points t; omega⟩
def ht (t : Fin cfg0.N) (e : Fin 2) : Fin 8 := ⟨2 * (t.val % 4) + e.val, by have := points t; have := e.isLt; omega⟩

theorem lane (t : Fin cfg0.N) (l : Fin 128) : (col (ht t (hd l)) (pl l)).val = 128 * (t.val % 4) + l.val := by
  show 64 * (2 * (t.val % 4) + l.val / 64) + l.val % 64 = _
  omega

theorem place (t : Fin cfg0.N) (r : Fin 2048) : t.val / 4 * 2048 + r.val = (row (bt t) r).val := by
  show _ = 2048 * (t.val / 4) + r.val
  omega

theorem read0 (t : Fin cfg0.N) (r l) (a : Buf (Elt Ideal) ((c : Thread nD τ).loc main_v3)) :
    View.read (Elt Ideal) ((cfg0.win 0).blk t).view a (ix2 r l) = a (ix2 (row (bt t) r) ⟨1536 + (col (ht t (hd l)) (pl l)).val, by omega⟩) := by
  have hl := lane t l
  blk_ext [idx t]
  exact place t r
theorem read1 (t : Fin cfg0.N) (r l) (a : Buf (Elt Ideal) ((c : Thread nD τ).loc main_v3)) :
    View.read (Elt Ideal) ((cfg0.win 1).blk t).view a (ix2 r l) = a (ix2 (row (bt t) r) ⟨2048 + (col (ht t (hd l)) (pl l)).val, by omega⟩) := by
  have hl := lane t l
  blk_ext [idx t]
  exact place t r
theorem read2 (t : Fin cfg0.N) (r l) (a : Buf (Elt Ideal) ((c : Thread nD τ).loc main_v3)) :
    View.read (Elt Ideal) ((cfg0.win 2).blk t).view a (ix2 r l) = a (ix2 (row (bt t) r) ⟨2560 + (col (ht t (hd l)) (pl l)).val, by omega⟩) := by
  have hl := lane t l
  blk_ext [idx t]
  exact place t r
theorem read3 (t : Fin cfg0.N) (r l) (a : Buf (Elt Ideal) ((c : Thread nD τ).loc main_v5)) :
    View.read (Elt Ideal) ((cfg0.win 3).blk t).view a (ix2 r l) = a (ix2 (row (bt t) r) (col (ht t (hd l)) (pl l))) := by
  have hl := lane t l
  blk_ext [idx t]
  exact place t r
theorem emb4 (t : Fin cfg0.N) (r : Fin 2048) (l : Fin 128) : (win0_4.blk t).view.emb (ix2 r l) = ix2 (row (bt t) r) (col (ht t (hd l)) (pl l)) := by
  have hl := lane t l
  blk_ext [idx t]
  exact place t r
theorem emb5 (t : Fin cfg0.N) (r : Fin 2048) (l : Fin 128) : (win0_5.blk t).view.emb (ix2 r l) = ix2 (row (bt t) r) (col (ht t (hd l)) (pl l)) := by
  have hl := lane t l
  blk_ext [idx t]
  exact place t r

include A in
theorem blocks (t : Fin cfg0.N) : Blocks (fun e => H (bt t) (ht t e)) (iblk m c 0 t) (iblk m c 1 t) (iblk m c 3 t) where
  q r l := (read0 c t r l _).trans (by rw [z_eq, zq_at, A.q])
  k r l := (read1 c t r l _).trans (by rw [z_eq, zk_at, A.k])
  c r l := (read3 c t r l _).trans ((c_at m c _ _ _).trans (A.c _ _ _))

theorem v_at (t : Fin cfg0.N) (r : Fin 2048) (l : Fin 128) : (iblk m c 2 t : FVec Ideal S2048x128 .bf16) (ix2 r l)
    = W m c (ix2 (row (bt t) r) (col (ht t (hd l)) (pl l))) :=
  (read2 c t r l _).trans (by rw [z_eq, zv_at])

theorem split (y : S2048x128.Idx) : ∃ r l, y = ix2 (n0 := 2048) (n1 := 128) r l :=
  ⟨y 0, y 1, by ext a; match a with | ⟨0, _⟩ => rfl | ⟨1, _⟩ => rfl⟩

include A in
theorem final4 : (dats m 0 c).arrAt 4 cfg0.N = Cert.Reference11Ideal.Read.val_main_v50 (F := Ideal) (Q m c) (K m c) (W m c) (C m c) := by
  refine (dats m 0 c).arrAt_eq_of_covers 4 _ (by decide +kernel) fun t hf y => ?_
  obtain ⟨r, l, rfl⟩ := split y
  refine (after4 m c t (blocks m c A t) r l).trans ?_
  simp only [v_at]
  exact (ref_out A _ _ _ _).symm.trans (congrArg (Cert.Reference11Ideal.Read.val_main_v50 (F := Ideal) _ _ _ _) (emb4 t r l).symm)

include A in
theorem final5 : (dats m 0 c).arrAt 5 cfg0.N = Cert.Reference11Ideal.Read.val_main_v52 (F := Ideal) (Q m c) (K m c) (C m c) := by
  refine (dats m 0 c).arrAt_eq_of_covers 5 _ (by decide +kernel) fun t hf y => ?_
  obtain ⟨r, l, rfl⟩ := split y
  exact (after5 m c t (blocks m c A t) r l).trans ((ref_sums A _ _ _ _).symm.trans
    (congrArg (Cert.Reference11Ideal.Read.val_main_v52 (F := Ideal) _ _ _) (emb5 t r l).symm))

/-! ### The precondition -/

theorem args [Cert.Pre_ffwd_finite.Facts] (x0 x1 x2 : FVec Ideal S8192x512 .bf16) (x3 : FVec Ideal S8192x8 .f32)
    (h : Cert.Pre_ffwd_finite.fn (F := Ideal) x0 x1 x2 x3 = fun _ => 1#1) :
    Args x0 x1 (fun _ => (0 : EReal)) (fun _ => (0 : EReal)) x3
      (Cert.Kernel5Ideal.FoxValue.heads x0 x1 (fun _ => (0 : EReal)) (fun _ => (0 : EReal)) x3) := by
  have h0 := congrFun h ix0
  dsimp only [Cert.Pre_ffwd_finite.fn] at h0
  obtain ⟨h0, e2⟩ := Cert.Finite.of_and h0
  obtain ⟨e0, e1⟩ := Cert.Finite.of_and h0
  haveI : Subsingleton Cert.Pre_ffwd_finite.S_.Idx := ⟨fun a b => funext fun k => k.elim0⟩
  exact ⟨fun _ _ _ _ => Cert.Finite.real_of_all _ _ _ _ _ _ (fun _ => Cert.Finite.inf_word) e0 _,
    fun _ _ _ _ => Cert.Finite.real_of_all _ _ _ _ _ _ (fun _ => Cert.Finite.inf_word) e1 _, fun _ _ _ _ => rfl,
    fun _ _ _ => Cert.Finite.real_of_all _ _ _ _ _ _ (fun _ => Cert.Finite.inf_word) e2 _, fun _ _ _ _ => rfl⟩

end Cert.Kernel11Ideal.FoxFwd
-- ==== Proof.DilMath.lean ====
/-
  Dilated banded attention of one head, three dilations mixed by their log-sums: over tokens, block by block, and the running mixture.
-/
module

public import proofs.«01_k».proof.Proof.XHead

@[expose] public section

noncomputable section

namespace Cert.Dil

open Idealize.ShloMosaic Cert.SoftMath
open scoped BigOperators

/-- One head of one batch. -/
structure Head where
  q : Fin 2048 → Fin 64 → ℝ
  k : Fin 2048 → Fin 64 → ℝ
  slope : ℝ

/-- The tokens that token `t` reads at dilation `d`: itself and up to 128 earlier ones, `d` apart. -/
def On (d : ℕ) (t s : Fin 2048) : Prop := (s.val ≤ t.val ∧ t.val ≤ s.val + 128 * d) ∧ t.val % d = s.val % d

instance (d : ℕ) (t : Fin 2048) : DecidablePred (On d t) := fun s => by unfold On; infer_instance

theorem on_self (d : ℕ) (t : Fin 2048) : On d t t := ⟨⟨le_refl _, Nat.le_add_right _ _⟩, rfl⟩

/-- The three dilations. -/
def dil : Fin 3 → ℕ := ![1, 4, 16]

abbrev all3 : Fin 3 → Prop := fun _ => True

/-- A row's log-sum. -/
def lsum {κ : Type} [Fintype κ] (on : κ → Prop) [DecidablePred on] (s : κ → ℝ) : ℝ := top on s + Real.log (tot on s)

theorem lsum_all (s : Fin 3 → ℝ) : lsum all3 s = Real.log (∑ b, Real.exp (s b)) := by
  have h : tot all3 s = (∑ b, Real.exp (s b)) * Real.exp (-top all3 s) := by
    unfold tot
    rw [Finset.sum_mul]
    refine Finset.sum_congr rfl fun b _ => ?_
    unfold ex
    rw [if_pos trivial, ← Real.exp_add, sub_eq_add_neg]
  have hp : (0 : ℝ) < ∑ b, Real.exp (s b) := Finset.sum_pos (fun b _ => Real.exp_pos _) ⟨0, Finset.mem_univ _⟩
  unfold lsum
  rw [h, Real.log_mul hp.ne' (Real.exp_ne_zero _), Real.log_exp]
  ring

theorem wt_all (s : Fin 3 → ℝ) (b : Fin 3) : wt all3 s b = Real.exp (s b) / ∑ b, Real.exp (s b) := by
  rw [← wt_eq (on := all3) s 0 trivial (k := b) trivial, Real.exp_sub]
  have hp : (0 : ℝ) < ∑ b, Real.exp (s b) := Finset.sum_pos (fun b _ => Real.exp_pos _) ⟨0, Finset.mem_univ _⟩
  have h := lsum_all s
  unfold lsum at h
  rw [h, Real.exp_log hp]

namespace Head
variable (H : Head)

/-- The score of a key, with its linear bias. -/
def score (t s : Fin 2048) : ℝ := (∑ i, H.q t i * H.k s i) * (1 / 8) - H.slope * ((t.val : ℝ) - (s.val : ℝ))

/-- One dilation's weights, log-sum and result. -/
def w (d : ℕ) (t s : Fin 2048) : ℝ := wt (On d t) (H.score t) s
def lse (d : ℕ) (t : Fin 2048) : ℝ := lsum (On d t) (H.score t)
def out (d : ℕ) (V : Fin 2048 → EReal) (t : Fin 2048) : EReal := ∑ s, (H.w d t s : EReal) * V s

/-- The mixture of the three dilations by the softmax of their log-sums. -/
def lses (t : Fin 2048) (b : Fin 3) : ℝ := H.lse (dil b) t
def total (t : Fin 2048) : ℝ := lsum all3 (H.lses t)
def mixed (V : Fin 2048 → EReal) (t : Fin 2048) : EReal := ∑ b, (wt all3 (H.lses t) b : EReal) * H.out (dil b) V t

end Head

/-! ### The running mixture -/

/-- The log-sum of two log-sums. -/
def lae (a b : ℝ) : ℝ := Real.log (Real.exp a + Real.exp b)

/-- The mixture of two results by their log-sums. -/
def mix (a b : ℝ) (x y : EReal) : EReal :=
  ((Real.exp a / (Real.exp a + Real.exp b) : ℝ) : EReal) * x + ((Real.exp b / (Real.exp a + Real.exp b) : ℝ) : EReal) * y

theorem lae_eq (a b m : ℝ) : m + Real.log (Real.exp (a - m) + Real.exp (b - m)) = lae a b := by
  have hp : (0 : ℝ) < Real.exp a + Real.exp b := add_pos (Real.exp_pos _) (Real.exp_pos _)
  rw [Real.exp_sub, Real.exp_sub, ← add_div, Real.log_div hp.ne' (Real.exp_ne_zero _), Real.log_exp]
  unfold lae; ring

/-- The step as it is computed. -/
theorem lae_step (a b : ℝ) : max (a : EReal) (b : EReal) + Ideal.log (Ideal.exp ((a : EReal) - max (a : EReal) (b : EReal))
    + Ideal.exp ((b : EReal) - max (a : EReal) (b : EReal))) = (lae a b : EReal) := by
  rw [show max (a : EReal) (b : EReal) = ((max a b : ℝ) : EReal) from (EReal.coe_strictMono.monotone.map_max).symm]
  rw [← EReal.coe_sub, ← EReal.coe_sub, Ideal.exp_coe, Ideal.exp_coe, ← EReal.coe_add, Ideal.log_coe,
    if_neg (not_le.mpr (add_pos (Real.exp_pos _) (Real.exp_pos _))), ← EReal.coe_add, lae_eq]

theorem mix_step (a b : ℝ) (x y : EReal) : (Ideal.exp ((a : EReal) - max (a : EReal) (b : EReal)) * x
      + Ideal.exp ((b : EReal) - max (a : EReal) (b : EReal)) * y)
    * Ideal.div 1 (Ideal.exp ((a : EReal) - max (a : EReal) (b : EReal)) + Ideal.exp ((b : EReal) - max (a : EReal) (b : EReal))) = mix a b x y := by
  rw [show max (a : EReal) (b : EReal) = ((max a b : ℝ) : EReal) from (EReal.coe_strictMono.monotone.map_max).symm]
  generalize max a b = m
  have hp : (0 : ℝ) < Real.exp (a - m) + Real.exp (b - m) := add_pos (Real.exp_pos _) (Real.exp_pos _)
  rw [← EReal.coe_sub, ← EReal.coe_sub, Ideal.exp_coe, Ideal.exp_coe, ← EReal.coe_add, Ideal.div_coe hp.ne', one_mul, mul_comm,
    EReal.left_distrib_of_nonneg_of_ne_top (by exact_mod_cast (one_div_pos.mpr hp).le) (EReal.coe_ne_top _), ← mul_assoc, ← mul_assoc,
    ← EReal.coe_mul, ← EReal.coe_mul]
  unfold mix
  have e : ∀ u : ℝ, 1 / (Real.exp (a - m) + Real.exp (b - m)) * Real.exp (u - m) = Real.exp u / (Real.exp a + Real.exp b) := fun u => by
    rw [Real.exp_sub, Real.exp_sub, Real.exp_sub, ← add_div]
    have h1 := Real.exp_ne_zero m
    have h2 : Real.exp a + Real.exp b ≠ 0 := (add_pos (Real.exp_pos _) (Real.exp_pos _)).ne'
    field_simp
  rw [e, e]

theorem exp_lae (a b : ℝ) : Real.exp (lae a b) = Real.exp a + Real.exp b := Real.exp_log (add_pos (Real.exp_pos _) (Real.exp_pos _))

namespace Head
variable (H : Head)

/-- Mixing one dilation after the other gives the mixture of all three. -/
theorem total_eq (t : Fin 2048) : lae (lae (H.lse 1 t) (H.lse 4 t)) (H.lse 16 t) = H.total t := by
  unfold total
  rw [lsum_all, Fin.sum_univ_three]
  unfold lae
  rw [show Real.exp (Real.log (Real.exp (H.lse 1 t) + Real.exp (H.lse 4 t))) = _ from exp_lae _ _]
  rfl

theorem mixed_eq (V : Fin 2048 → EReal) (t : Fin 2048) :
    mix (lae (H.lse 1 t) (H.lse 4 t)) (H.lse 16 t) (mix (H.lse 1 t) (H.lse 4 t) (H.out 1 V t) (H.out 4 V t)) (H.out 16 V t) = H.mixed V t := by
  unfold mixed
  rw [Fin.sum_univ_three, wt_all, wt_all, wt_all, Fin.sum_univ_three]
  show mix (lae (H.lse 1 t) (H.lse 4 t)) (H.lse 16 t) (mix (H.lse 1 t) (H.lse 4 t) (H.out 1 V t) (H.out 4 V t)) (H.out 16 V t)
    = ((Real.exp (H.lse 1 t) / (Real.exp (H.lse 1 t) + Real.exp (H.lse 4 t) + Real.exp (H.lse 16 t)) : ℝ) : EReal) * H.out 1 V t
      + ((Real.exp (H.lse 4 t) / (Real.exp (H.lse 1 t) + Real.exp (H.lse 4 t) + Real.exp (H.lse 16 t)) : ℝ) : EReal) * H.out 4 V t
      + ((Real.exp (H.lse 16 t) / (Real.exp (H.lse 1 t) + Real.exp (H.lse 4 t) + Real.exp (H.lse 16 t)) : ℝ) : EReal) * H.out 16 V t
  unfold mix
  rw [exp_lae]
  have h1 := Real.exp_pos (H.lse 1 t)
  have h4 := Real.exp_pos (H.lse 4 t)
  have h16 := Real.exp_pos (H.lse 16 t)
  generalize Real.exp (H.lse 1 t) = a at *
  generalize Real.exp (H.lse 4 t) = b at *
  generalize Real.exp (H.lse 16 t) = c at *
  have hw : (0 : ℝ) ≤ (a + b) / (a + b + c) := by positivity
  have e : ∀ u : ℝ, (a + b) / (a + b + c) * (u / (a + b)) = u / (a + b + c) := fun u => by
    have : a + b ≠ 0 := by positivity
    have : a + b + c ≠ 0 := by positivity
    field_simp
  rw [EReal.left_distrib_of_nonneg_of_ne_top (by exact_mod_cast hw) (EReal.coe_ne_top _), ← mul_assoc, ← mul_assoc, ← EReal.coe_mul, ← EReal.coe_mul, e, e]

end Head

/-! ### Blocks -/

/-- Row `i` of block `n` in the order by residues. -/
def tok {d : ℕ} (hd : d = 1 ∨ d = 4 ∨ d = 16) (n : Fin 16) (i : Fin 128) : Fin 2048 :=
  ⟨(n.val % (16 / d) * 128 + i.val) * d + n.val / (16 / d), by
    have := n.isLt; have := i.isLt
    rcases hd with h | h | h <;> subst h <;> omega⟩

/-- The block before, where there is one. -/
def before (n : Fin 16) : Fin 16 := ⟨n.val - 1, by have := n.isLt; omega⟩

variable {d : ℕ} (hd : d = 1 ∨ d = 4 ∨ d = 16)

theorem tok_inj (n : Fin 16) : Function.Injective (tok hd n) := fun i j h => by
  have h' := congrArg Fin.val h
  unfold tok at h'
  apply Fin.ext
  rcases hd with e | e | e <;> subst e <;> simp only at h' <;> omega

theorem tok_ne (n : Fin 16) (h : n.val % (16 / d) ≠ 0) (i j : Fin 128) : tok hd n i ≠ tok hd (before n) j := fun h' => by
  have h' := congrArg Fin.val h'
  have := n.isLt; have := i.isLt; have := j.isLt
  unfold tok before at h'
  rcases hd with e | e | e <;> subst e <;> simp only at h' <;> omega

theorem tok_before (n : Fin 16) (h : n.val % (16 / d) ≠ 0) (j : Fin 128) :
    (tok hd (before n) j).val + 128 * d = (n.val % (16 / d) * 128 + j.val) * d + n.val / (16 / d) := by
  have e : (before n).val % (16 / d) + 1 = n.val % (16 / d) ∧ (before n).val / (16 / d) = n.val / (16 / d) := by
    have := n.isLt
    unfold before
    rcases hd with e | e | e <;> subst e <;> simp only [Nat.reduceDiv] at h ⊢ <;> omega
  show ((before n).val % (16 / d) * 128 + j.val) * d + (before n).val / (16 / d) + 128 * d = _
  rw [e.2, ← e.1]
  ring

/-- What a row reads in its own block and in the one before. -/
theorem on_own (n : Fin 16) (i j : Fin 128) : On d (tok hd n i) (tok hd n j) ↔ j.val ≤ i.val := by
  have := n.isLt; have := i.isLt; have := j.isLt
  unfold On tok
  rcases hd with e | e | e <;> subst e <;> simp only <;> omega

theorem on_before (n : Fin 16) (h : n.val % (16 / d) ≠ 0) (i j : Fin 128) : On d (tok hd n i) (tok hd (before n) j) ↔ i.val ≤ j.val := by
  have := n.isLt; have := i.isLt; have := j.isLt
  have hb := tok_before hd n h j
  generalize (tok hd (before n) j) = s at *
  unfold On tok
  rcases hd with e | e | e <;> subst e <;> simp only [Nat.reduceDiv] at hb h ⊢ <;> omega

theorem dist_own (n : Fin 16) (i j : Fin 128) : ((tok hd n i).val : ℝ) - ((tok hd n j).val : ℝ) = d * ((i.val : ℝ) - (j.val : ℝ)) := by
  unfold tok
  push_cast
  ring

theorem dist_before (n : Fin 16) (h : n.val % (16 / d) ≠ 0) (i j : Fin 128) :
    ((tok hd n i).val : ℝ) - ((tok hd (before n) j).val : ℝ) = d * ((i.val : ℝ) + 128 - (j.val : ℝ)) := by
  have e : (tok hd n i).val + j.val * d = (tok hd (before n) j).val + (i.val + 128) * d := by
    have hb := tok_before hd n h j
    show (n.val % (16 / d) * 128 + i.val) * d + n.val / (16 / d) + j.val * d = _
    rw [show (i.val + 128) * d = i.val * d + 128 * d by ring, add_comm (i.val * d), ← add_assoc, hb]
    ring
  have e' := congrArg (fun x : ℕ => (x : ℝ)) e
  push_cast at e'
  linarith

/-- Nothing else is read. -/
theorem covered (n : Fin 16) (i : Fin 128) (s : Fin 2048) (h : On d (tok hd n i) s) :
    (∃ j, tok hd n j = s) ∨ (n.val % (16 / d) ≠ 0 ∧ ∃ j, tok hd (before n) j = s) := by
  have hn := n.isLt; have hi := i.isLt; have hs := s.isLt
  by_cases hc : (s.val / d) / 128 = n.val % (16 / d)
  · refine .inl ⟨⟨s.val / d % 128, Nat.mod_lt _ (by decide)⟩, Fin.ext ?_⟩
    unfold On tok at h
    unfold tok
    rcases hd with e | e | e <;> subst e <;> simp only at h hc ⊢ <;> omega
  · have h0 : n.val % (16 / d) ≠ 0 := by
      unfold On tok at h
      rcases hd with e | e | e <;> subst e <;> simp only at h hc ⊢ <;> omega
    refine .inr ⟨h0, ⟨s.val / d % 128, Nat.mod_lt _ (by decide)⟩, ?_⟩
    have hb := tok_before hd n h0 ⟨s.val / d % 128, Nat.mod_lt _ (by decide)⟩
    have h1 : s.val / d / 128 + 1 = n.val % (16 / d) := by
      unfold On tok at h
      rcases hd with e | e | e <;> subst e <;> simp only [Nat.reduceDiv] at h hc h0 ⊢ <;> omega
    have h2 : s.val % d = n.val / (16 / d) := by
      unfold On tok at h
      rcases hd with e | e | e <;> subst e <;> simp only [Nat.reduceDiv] at h hc h0 ⊢ <;> omega
    apply Fin.ext
    generalize (tok hd (before n) ⟨s.val / d % 128, Nat.mod_lt _ (by decide)⟩).val = x at *
    clear h hc
    rcases hd with e | e | e <;> subst e <;> simp only [Nat.reduceDiv] at h0 h1 h2 hb ⊢ <;> omega

/-- A sum over what a row reads, block by block. -/
theorem sum_blocks {M : Type*} [AddCommMonoid M] (n : Fin 16) (i : Fin 128) (f : Fin 2048 → M) (hf : ∀ s, ¬ On d (tok hd n i) s → f s = 0) :
    ∑ s, f s = ∑ j, f (tok hd n j) + ∑ j, if n.val % (16 / d) ≠ 0 then f (tok hd (before n) j) else 0 := by
  by_cases h : n.val % (16 / d) ≠ 0
  · simp only [if_pos h]
    refine Eq.trans ?_ (Fintype.sum_sum_type (Sum.elim (fun j => f (tok hd n j)) (fun j => f (tok hd (before n) j))))
    symm
    refine Fintype.sum_of_injective (Sum.elim (tok hd n) (tok hd (before n))) ?_ _ _ (fun s hs => hf s fun ho => ?_) ?_
    · exact (tok_inj hd n).sumElim (tok_inj hd _) (tok_ne hd n h)
    · rcases covered hd n i s ho with ⟨j, rfl⟩ | ⟨_, j, rfl⟩
      · exact hs ⟨.inl j, rfl⟩
      · exact hs ⟨.inr j, rfl⟩
    · rintro (j | j) <;> rfl
  · simp only [if_neg h, Finset.sum_const_zero, add_zero]
    symm
    refine Fintype.sum_of_injective (tok hd n) (tok_inj hd n) _ _ (fun s hs => hf s fun ho => ?_) fun _ => rfl
    rcases covered hd n i s ho with ⟨j, rfl⟩ | ⟨h', _⟩
    · exact hs ⟨j, rfl⟩
    · exact absurd h' h

theorem sup_blocks (n : Fin 16) (i : Fin 128) (f : Fin 2048 → EReal) (hf : ∀ s, ¬ On d (tok hd n i) s → f s = ⊥) :
    Finset.univ.sup f = max (Finset.univ.sup fun j => f (tok hd n j))
      (Finset.univ.sup fun j => if n.val % (16 / d) ≠ 0 then f (tok hd (before n) j) else ⊥) := by
  refine le_antisymm (Finset.sup_le fun s _ => ?_) (max_le (Finset.sup_le fun j _ => Finset.le_sup (f := f) (Finset.mem_univ _))
    (Finset.sup_le fun j _ => ?_))
  · by_cases ho : On d (tok hd n i) s
    · rcases covered hd n i s ho with ⟨j, rfl⟩ | ⟨h, j, rfl⟩
      · exact le_max_of_le_left (Finset.le_sup (f := fun j => f (tok hd n j)) (Finset.mem_univ j))
      · refine le_max_of_le_right (le_trans (le_of_eq (if_pos h).symm)
          (Finset.le_sup (f := fun j => if n.val % (16 / d) ≠ 0 then f (tok hd (before n) j) else ⊥) (Finset.mem_univ j)))
    · rw [hf s ho]; exact bot_le
  · show (if n.val % (16 / d) ≠ 0 then f (tok hd (before n) j) else ⊥) ≤ _
    split_ifs
    · exact Finset.le_sup (f := f) (Finset.mem_univ _)
    · exact bot_le

end Cert.Dil
-- ==== Proof.DilTile.lean ====
/-
  One dilation of the banded attention on sixteen blocks of 128 rows: each block against itself and the block before.
-/
module

public import proofs.«01_k».proof.Proof.Gen.Kernel12Ideal.Frame
public import proofs.«01_k».proof.Proof.DilMath
public import proofs.«01_k».proof.Proof.FoxReal

@[expose] public section

set_option maxRecDepth 16384

noncomputable section

namespace Cert.Kernel12Ideal.DilFwd

open Cert.Kernel12Ideal Cert.Kernel12Ideal.Gen Idealize.ShloMosaic Idealize.ShloMosaic.TcCoe
open Cert.Dil Cert.SoftMath
open Cert.Kernel5Ideal.FoxBody (hd pl half half_iff mask sum_half)
open scoped BigOperators

/-- The stack of blocks, a column per row, and a plane. -/
abbrev B := S16x128x128
abbrev C1 := S16x128x1
abbrev Q := S128x128

theorem bot_mask : Named.named (F := Ideal) κ "mask" (φ := .f32) 0xF149F2CA#32 = (⊥ : EReal) :=
  IdealRules.named_const.ideal_named_scalar _ _ _ _ rfl

/-! ### The operations -/

def biasC (x c : Ideal .f32) : FVec Ideal Q .f32 :=
  select (cmpi .sle (iota .tc Q 32 [1] iota_S128x128_d1_w32) (iota .tc Q 32 [0] iota_S128x128_d0_w32))
    (mulf (broadcast Q (Scalar.mulf (Scalar.subf (Scalar.ofBits .f32 0x00000000#32) x) c))
      (sitofp .f32 (subi (iota .tc Q 32 [0] iota_S128x128_d0_w32) (iota .tc Q 32 [1] iota_S128x128_d1_w32))))
    (broadcast Q (Named.named κ "mask" 0xF149F2CA#32))

def biasP (x c : Ideal .f32) : FVec Ideal Q .f32 :=
  select (cmpi .sge (iota .tc Q 32 [1] iota_S128x128_d1_w32) (iota .tc Q 32 [0] iota_S128x128_d0_w32))
    (mulf (broadcast Q (Scalar.mulf (Scalar.subf (Scalar.ofBits .f32 0x00000000#32) x) c))
      (sitofp .f32 (subi (addi (iota .tc Q 32 [0] iota_S128x128_d0_w32) (broadcast Q 128#32)) (iota .tc Q 32 [1] iota_S128x128_d1_w32))))
    (broadcast Q (Named.named κ "mask" 0xF149F2CA#32))

/-- The blocks with no block before them in their residue. -/
def wrap (nb : BitVec 32) : IVec S16x1x1 1 :=
  let b : BitVec 32 := Scalar.select (Scalar.cmpi .eq nb 0#32) 1#32 nb
  let r : IVec S16x1x1 32 := remsi (iota .tc S16x1x1 32 [0] iota_S16x1x1_d0_w32) (broadcast S16x1x1 b)
  cmpi .eq (select (andi (xori (cmpi .slt r (broadcast S16x1x1 0#32)) (broadcastTo S16x1x1 (broadcast S16x1x1 (Scalar.cmpi .slt b 0#32)) broadcasts_S16x1x1_S16x1x1))
    (cmpi .ne r (broadcast S16x1x1 0#32))) (addi r (broadcast S16x1x1 b)) r) (broadcast S16x1x1 0#32)

variable (hm : FVec Ideal S1x128 .bf16) (q k kp : FVec Ideal B .bf16) (v vp : FVec Ideal B .bf16) (bias : FVec Ideal Q .f32) (wr : IVec S16x1x1 1)

def masked (x : FVec Ideal B .bf16) : FVec Ideal B .bf16 :=
  mulf x (broadcastTo B (shapeCast S1x1x128 hm shapeCasts_S1x128_S1x1x128) broadcasts_S1x1x128_S16x128x128)

def dots : FVec Ideal B .f32 :=
  mulf (matmul dot_S16x128x128_S16x128x128_S16x128x128_2_2_1_1_0_0 none (masked hm q) k (constant B .f32 0x00000000#32))
    (broadcast B (Scalar.ofBits .f32 0x3E000000#32))

def spread : FVec Ideal B .f32 :=
  broadcastTo B (shapeCast S1x128x128 bias shapeCasts_S128x128_S1x128x128) broadcasts_S1x128x128_S16x128x128

def scoreC : FVec Ideal B .f32 := addf (dots hm q k) (spread bias)

def scoreP : FVec Ideal B .f32 := addf (dots hm q kp) (select
  (broadcastTo B (shapeCast S16x1x1 wr shapeCasts_S16x1x1_S16x1x1) broadcasts_S16x1x1_S16x128x128)
  (broadcast B (Named.named κ "mask" 0xF149F2CA#32)) (spread bias))

variable (s p : FVec Ideal B .f32) (m den : FVec Ideal C1 .f32)

def peak : FVec Ideal C1 .f32 :=
  shapeCast C1 (multiReduction .maximumf [2] S16x128 s 0xFF800000#32 reduces_S16x128x128_S16x128 (.inl rfl) rfl) shapeCasts_S16x128_S16x128x1

def pe : FVec Ideal B .f32 := exp (subf s (broadcastTo B m broadcasts_S16x128x1_S16x128x128))

def rows : FVec Ideal C1 .f32 :=
  shapeCast C1 (multiReduction .add [2] S16x128 s 0x00000000#32 reduces_S16x128x128_S16x128 (.inl rfl) rfl) shapeCasts_S16x128_S16x128x1

def read : FVec Ideal B .f32 :=
  matmul dot_S16x128x128_S16x128x128_S16x128x128_2_1_1_2_0_0 none (truncf .bf16 (pe s m) bitsLt_bf16_f32) v (constant B .f32 0x00000000#32)

def over : FVec Ideal B .f32 :=
  mulf s (broadcastTo B (divf (broadcast C1 (Scalar.ofBits .f32 0x3F800000#32)) den) broadcasts_S16x128x1_S16x128x128)

def pickO (sel : IVec S1x128 1) (x y : FVec Ideal B .f32) : FVec Ideal B .f32 :=
  shapeCast B (select (broadcastTo B (shapeCast S1x1x128 sel shapeCasts_S1x128_S1x1x128) broadcasts_S1x1x128_S16x128x128) x y) shapeCasts_S16x128x128_S16x128x128

def colB (x : FVec Ideal C1 .f32) : FVec Ideal B .f32 :=
  broadcastTo B (shapeCast C1 x shapeCasts_S16x128x1_S16x128x1) broadcasts_S16x128x1_S16x128x128

/-! ### Read at an index -/

theorem float_int (w : BitVec 32) (z : ℤ) (h : w.toInt = z) : FloatOps.sitofp (F := Ideal) .f32 w = ((z : ℝ) : EReal) := by
  subst h; rfl

theorem diff_int (a b : ℕ) (ha : a < 256) (hb : b ≤ a) : (IntOp.subi (BitVec.ofNat 32 a) (BitVec.ofNat 32 b)).toInt = (a : ℤ) - (b : ℤ) := by
  have e : IntOp.subi (BitVec.ofNat 32 a) (BitVec.ofNat 32 b) = BitVec.ofNat 32 (a - b) := by
    apply BitVec.eq_of_toNat_eq
    unfold IntOp.subi
    rw [BitVec.toNat_sub, BitVec.toNat_ofNat, BitVec.toNat_ofNat, BitVec.toNat_ofNat]
    omega
  rw [e, BitVec.toInt_eq_toNat_of_lt (by rw [BitVec.toNat_ofNat]; omega), BitVec.toNat_ofNat]
  omega

theorem bool_pick {α : Type} (b : BitVec 1) (x y : α) : Scalar.select b x y = if b = 1#1 then x else y := by
  rcases BitVec.eq_zero_or_eq_one b with h | h <;> subst h <;> rfl

theorem biasC_apply (x c : Ideal .f32) (i j : Fin 128) : biasC x c (ix2 i j)
    = if j.val ≤ i.val then (0 - x) * c * (((i.val : ℝ) - (j.val : ℝ) : ℝ) : EReal) else ⊥ := by
  have hi := i.isLt; have hj := j.isLt
  pointwise [biasC]
  rw [bot_mask, Idealize.ShloMosaic.WordCmp.cmpi_sle_of_lt (by simp only [BitVec.toNat_ofNat]; omega) (by simp only [BitVec.toNat_ofNat]; omega)]
  simp only [BitVec.toNat_ofNat]
  rw [Nat.mod_eq_of_lt (by omega : i.val < 2 ^ 32), Nat.mod_eq_of_lt (by omega : j.val < 2 ^ 32)]
  by_cases h : j.val ≤ i.val
  · simp only [h, decide_true, if_true]
    rw [float_int _ ((i.val : ℤ) - (j.val : ℤ)) (diff_int _ _ (by omega) h)]
    push_cast; rfl
  · simp only [h, decide_false, if_false]
    rfl

theorem biasP_apply (x c : Ideal .f32) (i j : Fin 128) : biasP x c (ix2 i j)
    = if i.val ≤ j.val then (0 - x) * c * (((i.val : ℝ) + 128 - (j.val : ℝ) : ℝ) : EReal) else ⊥ := by
  have hi := i.isLt; have hj := j.isLt
  pointwise [biasP]
  rw [bot_mask, show IntOp.cmpi .sge (BitVec.ofNat 32 j.val) (BitVec.ofNat 32 i.val) = IntOp.cmpi .sle (BitVec.ofNat 32 i.val) (BitVec.ofNat 32 j.val) from rfl,
    Idealize.ShloMosaic.WordCmp.cmpi_sle_of_lt (by simp only [BitVec.toNat_ofNat]; omega) (by simp only [BitVec.toNat_ofNat]; omega)]
  simp only [BitVec.toNat_ofNat]
  rw [Nat.mod_eq_of_lt (by omega : i.val < 2 ^ 32), Nat.mod_eq_of_lt (by omega : j.val < 2 ^ 32)]
  by_cases h : i.val ≤ j.val
  · simp only [h, decide_true, if_true]
    rw [float_int _ ((i.val : ℤ) + 128 - (j.val : ℤ)) (by
      rw [show IntOp.addi (BitVec.ofNat 32 i.val) 128#32 = BitVec.ofNat 32 (i.val + 128) from (BitVec.ofNat_add ..).symm]
      rw [diff_int _ _ (by omega) (by omega)]; push_cast; rfl)]
    push_cast; rfl
  · simp only [h, decide_false, if_false]
    rfl

theorem wrap_apply (nb : ℕ) (h : nb = 16 ∨ nb = 4) (n : Fin 16) :
    wrap (BitVec.ofNat 32 nb) (ix3 n (0 : Fin 1) (0 : Fin 1)) = 1#1 ↔ n.val % nb = 0 := by
  rcases h with h | h <;> subst h <;> revert n
  · pointwise [wrap]
    decide
  · pointwise [wrap]
    decide

theorem masked_apply (n : Fin 16) (i l : Fin 128) : masked hm q (ix3 n i l) = q (ix3 n i l) * hm (ix2 (0 : Fin 1) l) := by
  pointwise [masked]

theorem spread_apply (n : Fin 16) (i j : Fin 128) : spread bias (ix3 n i j) = bias (ix2 i j) := by
  pointwise [spread]

theorem scoreP_apply (n : Fin 16) (i j : Fin 128) : scoreP hm q kp bias wr (ix3 n i j)
    = dots hm q kp (ix3 n i j) + if wr (ix3 n (0 : Fin 1) (0 : Fin 1)) = 1#1 then (⊥ : EReal) else bias (ix2 i j) := by
  pointwise [scoreP]
  rw [bool_pick, bot_mask, spread_apply]

theorem peak_apply (n : Fin 16) (i : Fin 128) : peak s (ix3 n i (0 : Fin 1)) = Finset.univ.sup fun j : Fin 128 => s (ix3 n i j) := by
  pointwise [peak]
  rw [show Ideal.ofBits .f32 0xFF800000#32 = (⊥ : EReal) by simp [Ideal.ofBits, Ideal.ieee]]
  rfl

theorem pe_apply (n : Fin 16) (i j : Fin 128) : pe s m (ix3 n i j) = Ideal.exp (s (ix3 n i j) - m (ix3 n i (0 : Fin 1))) := by
  pointwise [pe]

theorem rows_apply (n : Fin 16) (i : Fin 128) : rows s (ix3 n i (0 : Fin 1)) = ∑ j : Fin 128, s (ix3 n i j) := by
  pointwise [rows]

theorem over_apply (n : Fin 16) (i l : Fin 128) : over s den (ix3 n i l) = s (ix3 n i l) * Ideal.div 1 (den (ix3 n i (0 : Fin 1))) := by
  pointwise [over]

theorem pickO_apply (sel : IVec S1x128 1) (x y : FVec Ideal B .f32) (n : Fin 16) (i l : Fin 128) :
    pickO sel x y (ix3 n i l) = if sel (ix2 (0 : Fin 1) l) = 1#1 then x (ix3 n i l) else y (ix3 n i l) := by
  pointwise [pickO]
  exact bool_pick _ _ _

theorem colB_apply (x : FVec Ideal C1 .f32) (n : Fin 16) (i l : Fin 128) : colB x (ix3 n i l) = x (ix3 n i (0 : Fin 1)) := by
  pointwise [colB]

abbrev dqk := dot_S16x128x128_S16x128x128_S16x128x128_2_2_1_1_0_0
abbrev dpv := dot_S16x128x128_S16x128x128_S16x128x128_2_1_1_2_0_0

theorem dots_apply (n : Fin 16) (i j : Fin 128) : dots hm q k (ix3 n i j)
    = (∑ l : Fin 128, q (ix3 n i l) * hm (ix2 (0 : Fin 1) l) * k (ix3 n j l)) * ((1 / 8 : ℝ) : EReal) := by
  have h : matmul dqk none (masked hm q) k (constant B .f32 0x00000000#32) (ix3 n i j)
      = ∑ l : Fin 128, masked hm q (ix3 n i l) * k (ix3 n j l) := by
    show FloatOps.matmul dqk none _ _ _ (ix3 n i j) = _
    rw [Ideal.matmul_apply, ← Equiv.sum_comp (ValueIdx.contrEquiv1 dqk 128 rfl rfl).symm]
    show Ideal.ofBits .f32 0x00000000#32 + _ = _
    rw [Ideal.ofBits_zero_f32, zero_add]
    refine Finset.sum_congr rfl fun l _ => ?_
    have hl := ValueIdx.contrEquiv1_symm_val dqk 128 (show dqk.contr.rank = 1 from rfl) rfl l
    have el : dqk.lhsIdx (ix3 n i j) ((ValueIdx.contrEquiv1 dqk 128 rfl rfl).symm l) = ix3 n i l := by
      funext a; apply Fin.ext
      match a with
      | ⟨0, _⟩ => rfl
      | ⟨1, _⟩ => rfl
      | ⟨2, _⟩ => exact hl
    have er : dqk.rhsIdx (ix3 n i j) ((ValueIdx.contrEquiv1 dqk 128 rfl rfl).symm l) = ix3 n j l := by
      funext a; apply Fin.ext
      match a with
      | ⟨0, _⟩ => rfl
      | ⟨1, _⟩ => rfl
      | ⟨2, _⟩ => exact hl
    rw [el, er]
  have e : Ideal.ofBits .f32 0x3E000000#32 = ((1 / 8 : ℝ) : EReal) := by
    simp [Ideal.ofBits, Ideal.ieee]
    rw [← EReal.coe_mul]
    norm_num
  show matmul dqk none (masked hm q) k (constant B .f32 0x00000000#32) (ix3 n i j) * Ideal.ofBits .f32 0x3E000000#32 = _
  rw [h, e]
  simp only [masked_apply]

theorem read_apply (n : Fin 16) (i l : Fin 128) : read v s m (ix3 n i l) = ∑ j : Fin 128, pe s m (ix3 n i j) * v (ix3 n j l) := by
  show FloatOps.matmul dpv none _ _ _ (ix3 n i l) = _
  rw [Ideal.matmul_apply, ← Equiv.sum_comp (ValueIdx.contrEquiv1 dpv 128 rfl rfl).symm]
  show Ideal.ofBits .f32 0x00000000#32 + _ = _
  rw [Ideal.ofBits_zero_f32, zero_add]
  refine Finset.sum_congr rfl fun j _ => ?_
  have hj := ValueIdx.contrEquiv1_symm_val dpv 128 (show dpv.contr.rank = 1 from rfl) rfl j
  have el : dpv.lhsIdx (ix3 n i l) ((ValueIdx.contrEquiv1 dpv 128 rfl rfl).symm j) = ix3 n i j := by
    funext a; apply Fin.ext
    match a with
    | ⟨0, _⟩ => rfl
    | ⟨1, _⟩ => rfl
    | ⟨2, _⟩ => exact hj
  have er : dpv.rhsIdx (ix3 n i l) ((ValueIdx.contrEquiv1 dpv 128 rfl rfl).symm j) = ix3 n j l := by
    funext a; apply Fin.ext
    match a with
    | ⟨0, _⟩ => rfl
    | ⟨1, _⟩ => exact hj
    | ⟨2, _⟩ => rfl
  rw [el, er]
  rfl

/-! ### Their values on a head's queries and keys -/

section values
variable {d : ℕ} (hd3 : d = 1 ∨ d = 4 ∨ d = 16) (H : Fin 2 → Head) (e : Fin 2) (V : Fin 2048 → Fin 128 → EReal)
  (hhm : ∀ l, hm (ix2 (0 : Fin 1) l) = mask e l)
  (hq : ∀ n i l, q (ix3 n i l) = ((H (hd l)).q (tok hd3 n i) (pl l) : EReal))

include hhm hq in
theorem dots_eq {f : Fin 16 → Fin 128 → Fin 2048} (n : Fin 16) (i j : Fin 128) (hk : ∀ l, k (ix3 n j l) = ((H (hd l)).k (f n j) (pl l) : EReal)) :
    dots hm q k (ix3 n i j) = (((∑ a, (H e).q (tok hd3 n i) a * (H e).k (f n j) a) * (1 / 8) : ℝ) : EReal) := by
  rw [dots_apply, EReal.coe_mul]
  refine congrArg (· * _) ?_
  rw [← sum_half e (fun a => (H e).q (tok hd3 n i) a * (H e).k (f n j) a), coe_sum]
  refine Finset.sum_congr rfl fun l _ => ?_
  rw [hhm, hq, hk]
  unfold mask
  by_cases h : hd l = e
  · rw [if_pos ((Cert.Kernel5Ideal.FoxBody.half_iff e l).mpr h), if_pos h, mul_one, h, ← EReal.coe_mul]
  · rw [if_neg (fun h' => h ((Cert.Kernel5Ideal.FoxBody.half_iff e l).mp h')), if_neg h, mul_zero, zero_mul, EReal.coe_zero]

theorem bias_real (a b z : ℝ) : (0 - (a : EReal)) * (b : EReal) * (z : EReal) = ((-(a * (b * z)) : ℝ) : EReal) := by
  rw [← EReal.coe_zero, ← EReal.coe_sub, ← EReal.coe_mul, ← EReal.coe_mul]
  congr 1; ring

variable {x c : Ideal .f32} (hx : x = ((H e).slope : EReal)) (hc : c = ((d : ℝ) : EReal))

include hhm hq hx hc in
theorem scoreC_eq (hk : ∀ n j l, k (ix3 n j l) = ((H (hd l)).k (tok hd3 n j) (pl l) : EReal)) (n : Fin 16) (i j : Fin 128) :
    scoreC hm q k (biasC x c) (ix3 n i j) = sc (On d (tok hd3 n i)) ((H e).score (tok hd3 n i)) (tok hd3 n j) := by
  show dots hm q k (ix3 n i j) + spread (biasC x c) (ix3 n i j) = _
  rw [dots_eq hm q k hd3 H e hhm hq (f := tok hd3) n i j (hk n j), spread_apply, biasC_apply, hx, hc]
  unfold sc
  by_cases h : j.val ≤ i.val
  · rw [if_pos h, if_pos ((on_own hd3 n i j).mpr h), bias_real, ← EReal.coe_add]
    unfold Head.score
    rw [dist_own hd3 n i j]; rfl
  · rw [if_neg h, if_neg (fun h' => h ((on_own hd3 n i j).mp h')), EReal.add_bot]

include hhm hq hx hc in
theorem scoreP_eq (hw : ∀ n : Fin 16, wr (ix3 n (0 : Fin 1) (0 : Fin 1)) = 1#1 ↔ n.val % (16 / d) = 0)
    (hk : ∀ n : Fin 16, n.val % (16 / d) ≠ 0 → ∀ j l, kp (ix3 n j l) = ((H (hd l)).k (tok hd3 (before n) j) (pl l) : EReal)) (n : Fin 16) (i j : Fin 128) :
    scoreP hm q kp (biasP x c) wr (ix3 n i j)
      = if n.val % (16 / d) ≠ 0 then sc (On d (tok hd3 n i)) ((H e).score (tok hd3 n i)) (tok hd3 (before n) j) else ⊥ := by
  rw [scoreP_apply]
  by_cases hn : n.val % (16 / d) = 0
  · rw [if_pos ((hw n).mpr hn), if_neg (not_not.mpr hn), EReal.add_bot]
  · rw [if_neg (fun h' => hn ((hw n).mp h')), if_pos hn,
      dots_eq hm q kp hd3 H e hhm hq (f := fun n j => tok hd3 (before n) j) n i j (hk n hn j), biasP_apply, hx, hc]
    unfold sc
    by_cases h : i.val ≤ j.val
    · rw [if_pos h, if_pos ((on_before hd3 n hn i j).mpr h), bias_real, ← EReal.coe_add]
      unfold Head.score
      rw [dist_before hd3 n hn i j]; rfl
    · rw [if_neg h, if_neg (fun h' => h ((on_before hd3 n hn i j).mp h')), EReal.add_bot]

variable {s p} (score : Fin 2048 → Fin 2048 → ℝ)
  (hs : ∀ n i j, s (ix3 n i j) = sc (On d (tok hd3 n i)) (score (tok hd3 n i)) (tok hd3 n j))
  (hp : ∀ n i j, p (ix3 n i j) = if n.val % (16 / d) ≠ 0 then sc (On d (tok hd3 n i)) (score (tok hd3 n i)) (tok hd3 (before n) j) else ⊥)

theorem sup_bot : (Finset.univ.sup fun _ : Fin 128 => (⊥ : EReal)) = ⊥ := Finset.sup_bot _

include hs hp in
theorem peak_two (n : Fin 16) (i : Fin 128) : maximumf (peak s) (peak p) (ix3 n i (0 : Fin 1)) = (top (On d (tok hd3 n i)) (score (tok hd3 n i)) : EReal) := by
  show max (peak s (ix3 n i (0 : Fin 1))) (peak p (ix3 n i (0 : Fin 1))) = _
  rw [peak_apply, peak_apply, ← sup_eq (on := On d (tok hd3 n i)) _ (tok hd3 n i) (on_self _ _),
    sup_blocks hd3 n i (sc (On d (tok hd3 n i)) (score (tok hd3 n i))) fun s h => if_neg h]
  simp only [hs, hp]

include hs in
theorem peak_one (h16 : d = 16) (n : Fin 16) (i : Fin 128) : peak s (ix3 n i (0 : Fin 1)) = (top (On d (tok hd3 n i)) (score (tok hd3 n i)) : EReal) := by
  have hz : ¬ n.val % (16 / d) ≠ 0 := by subst h16; omega
  rw [peak_apply, ← sup_eq (on := On d (tok hd3 n i)) _ (tok hd3 n i) (on_self _ _),
    sup_blocks hd3 n i (sc (On d (tok hd3 n i)) (score (tok hd3 n i))) fun s h => if_neg h]
  simp only [hs, if_neg hz, sup_bot, max_bot_right]

variable {m} (hm' : ∀ n i, m (ix3 n i (0 : Fin 1)) = (top (On d (tok hd3 n i)) (score (tok hd3 n i)) : EReal))

include hs hm' in
theorem pe_own (n : Fin 16) (i j : Fin 128) : pe s m (ix3 n i j) = (ex (On d (tok hd3 n i)) (score (tok hd3 n i)) (tok hd3 n j) : EReal) := by
  rw [pe_apply, hm', hs, exp_sc]

include hp hm' in
theorem pe_before (n : Fin 16) (i j : Fin 128) : pe p m (ix3 n i j)
    = ((if n.val % (16 / d) ≠ 0 then ex (On d (tok hd3 n i)) (score (tok hd3 n i)) (tok hd3 (before n) j) else 0 : ℝ) : EReal) := by
  rw [pe_apply, hm', hp]
  by_cases h : n.val % (16 / d) ≠ 0
  · rw [if_pos h, if_pos h, exp_sc]
  · rw [if_neg h, if_neg h, EReal.bot_sub]; rfl

include hs hp hm' in
theorem tot_two (n : Fin 16) (i : Fin 128) : addf (rows (pe s m)) (rows (pe p m)) (ix3 n i (0 : Fin 1)) = (tot (On d (tok hd3 n i)) (score (tok hd3 n i)) : EReal) := by
  show rows (pe s m) (ix3 n i (0 : Fin 1)) + rows (pe p m) (ix3 n i (0 : Fin 1)) = _
  rw [rows_apply, rows_apply]
  simp only [pe_own hd3 score hs hm', pe_before hd3 score hp hm']
  rw [← coe_sum, ← coe_sum, ← EReal.coe_add]
  unfold tot
  rw [sum_blocks hd3 n i (ex (On d (tok hd3 n i)) (score (tok hd3 n i))) fun s h => if_neg h]

include hs hm' in
theorem tot_one (h16 : d = 16) (n : Fin 16) (i : Fin 128) : rows (pe s m) (ix3 n i (0 : Fin 1)) = (tot (On d (tok hd3 n i)) (score (tok hd3 n i)) : EReal) := by
  have hz : ¬ n.val % (16 / d) ≠ 0 := by subst h16; omega
  rw [rows_apply]
  simp only [pe_own hd3 score hs hm']
  rw [← coe_sum]
  unfold tot
  rw [sum_blocks hd3 n i (ex (On d (tok hd3 n i)) (score (tok hd3 n i))) fun s h => if_neg h]
  simp only [if_neg hz, Finset.sum_const_zero, add_zero]

variable {den} (ht : ∀ n i, den (ix3 n i (0 : Fin 1)) = (tot (On d (tok hd3 n i)) (score (tok hd3 n i)) : EReal))

include hm' ht in
theorem log_eq (n : Fin 16) (i : Fin 128) : addf m (log den) (ix3 n i (0 : Fin 1)) = (lsum (On d (tok hd3 n i)) (score (tok hd3 n i)) : EReal) := by
  show m (ix3 n i (0 : Fin 1)) + Ideal.log (den (ix3 n i (0 : Fin 1))) = _
  rw [hm', ht, log_tot (on := On d (tok hd3 n i)) _ (tok hd3 n i) (on_self _ _), ← EReal.coe_add]
  rfl

include ht in
theorem over_eq {z : FVec Ideal B .f32} (n : Fin 16) (i l : Fin 128)
    (hz : z (ix3 n i l) = ∑ s, (ex (On d (tok hd3 n i)) (score (tok hd3 n i)) s : EReal) * V s l) :
    over z den (ix3 n i l) = ∑ s, (wt (On d (tok hd3 n i)) (score (tok hd3 n i)) s : EReal) * V s l := by
  have hpos := tot_pos (on := On d (tok hd3 n i)) (score (tok hd3 n i)) (tok hd3 n i) (on_self _ _)
  rw [over_apply, hz, ht, Ideal.div_coe hpos.ne', one_mul, mul_comm, Cert.XHead.mul_sum _ _ (one_div_pos.mpr hpos).le]
  refine Finset.sum_congr rfl fun t _ => ?_
  rw [← mul_assoc, ← EReal.coe_mul]
  refine congrArg (fun x : ℝ => (x : EReal) * V t l) ?_
  unfold wt
  rw [one_div_mul_eq_div]

variable (hv : ∀ n j l, v (ix3 n j l) = V (tok hd3 n j) l)
  (hvp : ∀ n : Fin 16, n.val % (16 / d) ≠ 0 → ∀ j l, vp (ix3 n j l) = V (tok hd3 (before n) j) l)

theorem off_zero (n : Fin 16) (i l : Fin 128) (s : Fin 2048) (h : ¬ On d (tok hd3 n i) s) :
    (ex (On d (tok hd3 n i)) (score (tok hd3 n i)) s : EReal) * V s l = 0 := by
  unfold ex; rw [if_neg h, EReal.coe_zero, zero_mul]

include hs hp hm' hv hvp in
theorem read_two (n : Fin 16) (i l : Fin 128) : addf (read v s m) (read vp p m) (ix3 n i l)
    = ∑ s, (ex (On d (tok hd3 n i)) (score (tok hd3 n i)) s : EReal) * V s l := by
  show read v s m (ix3 n i l) + read vp p m (ix3 n i l) = _
  rw [read_apply, read_apply, sum_blocks hd3 n i _ fun s h => off_zero hd3 V score n i l s h]
  refine congrArg₂ (· + ·) (Finset.sum_congr rfl fun j _ => ?_) (Finset.sum_congr rfl fun j _ => ?_)
  · rw [pe_own hd3 score hs hm', hv]
  · rw [pe_before hd3 score hp hm']
    by_cases h : n.val % (16 / d) ≠ 0
    · rw [if_pos h, if_pos h, hvp n h]
    · rw [if_neg h, if_neg h, EReal.coe_zero, zero_mul]

include hs hm' hv in
theorem read_one (h16 : d = 16) (n : Fin 16) (i l : Fin 128) : read v s m (ix3 n i l)
    = ∑ s, (ex (On d (tok hd3 n i)) (score (tok hd3 n i)) s : EReal) * V s l := by
  have hz : ¬ n.val % (16 / d) ≠ 0 := by subst h16; omega
  rw [read_apply, sum_blocks hd3 n i _ fun s h => off_zero hd3 V score n i l s h]
  simp only [if_neg hz, Finset.sum_const_zero, add_zero, pe_own hd3 score hs hm', hv]

end values

end Cert.Kernel12Ideal.DilFwd
-- ==== Proof.DilFill.lean ====
/-
  The buffers of the banded attention between its stages: blocks filled a residue at a time, and accumulators changed
  on one residue's rows at a time.
-/
module

public import proofs.«01_k».proof.Proof.DilTile
public import proofs.«01_k».proof.Proof.FoxTile

@[expose] public section

set_option maxRecDepth 16384

noncomputable section

namespace Cert.Kernel12Ideal.DilFwd

open Cert.Kernel12Ideal Cert.Kernel12Ideal.Gen Idealize.ShloMosaic Idealize.ShloMosaic.TcCoe
open Cert.Dil Cert.SoftMath
open Cert.FoxTile (M2 Reads)
open scoped BigOperators

/-- A stack of blocks. -/
abbrev Bl (N : ℕ) : Shape := ⟨3, ![N, 128, 128]⟩

variable {φ : EltTy} {N nb K d r b lead k : ℕ}

/-- The first blocks of the stack are written, after `lead` others. -/
def Blk (L : List (View.Piece (Elt Ideal) (Bl N) φ)) (lead : ℕ) (S : Fin 16 → Fin 128 → Fin 128 → Elt Ideal φ) (k : ℕ) : Prop :=
  ∀ (n : Fin 16) (hN : n.val + lead < N), n.val < k → ∀ i l, View.canon L (ix3 (⟨n.val + lead, hN⟩ : Fin N) i l) = S n i l

theorem Blk.push {L : List (View.Piece (Elt Ideal) (Bl N) φ)} {S : Fin 16 → Fin 128 → Fin 128 → Elt Ideal φ} (hb : b = lead + k)
    {w : Vec Ideal (Bl nb) φ} {h : ∀ i, (![b, 0, 0] : Fin 3 → ℕ) i + (Bl nb).size i ≤ (Bl N).size i} (h16 : k + nb ≤ 16)
    (hw : ∀ (a : Fin nb) (i l : Fin 128), w (ix3 a i l) = S ⟨k + a.val, by omega⟩ i l) (hL : Blk L lead S k) :
    Blk ((⟨Rect.unit (s := Bl N) ![b, 0, 0] (Bl nb).size h, w⟩ : View.Piece (Elt Ideal) (Bl N) φ) :: L) lead S (k + nb) := by
  intro n hN hn i l
  by_cases hlt : n.val < k
  · rw [View.canon_cons_of_not_mem, hL n hN hlt]
    intro hm
    have := ((Rect.mem_set_unit (inb := h)).mp hm) 0
    have h2 : b ≤ n.val + lead := this.1
    omega
  · have hc : n.val - k < nb := by omega
    have e : ix3 (⟨n.val + lead, hN⟩ : Fin N) i l = (Rect.unit (s := Bl N) ![b, 0, 0] (Bl nb).size h).emb (ix3 (⟨n.val - k, hc⟩ : Fin nb) i l) := by
      funext a; apply Fin.ext
      match a with
      | ⟨0, _⟩ => show n.val + lead = b + 1 * (n.val - k); omega
      | ⟨1, _⟩ => show i.val = 0 + 1 * i.val; omega
      | ⟨2, _⟩ => show l.val = 0 + 1 * l.val; omega
    have e2 : (⟨k + (n.val - k), by have := n.isLt; omega⟩ : Fin 16) = n := Fin.ext (by show k + (n.val - k) = n.val; omega)
    rw [e, View.canon_cons_emb, hw, e2]

theorem Blk.none (L : List (View.Piece (Elt Ideal) (Bl N) φ)) (lead : ℕ) (S : Fin 16 → Fin 128 → Fin 128 → Elt Ideal φ) : Blk L lead S 0 :=
  fun _ _ h => absurd h (Nat.not_lt_zero _)

variable {sig : RefSig} {κ : Kind} {sp : Space}

/-- The sixteen blocks read from the one after `lead` on. -/
theorem Blk.load {L : List (View.Piece (Elt Ideal) (Bl N) φ)} {S : Fin 16 → Fin 128 → Fin 128 → Elt Ideal φ} (hL : Blk L lead S 16)
    (v : View sig κ sp (Bl N) φ) {h : ∀ i, (![lead, 0, 0] : Fin 3 → ℕ) i + (Bl 16).size i ≤ (Bl N).size i} (n : Fin 16) (i l : Fin 128) :
    v.readCov L (Rect.unit (s := Bl N) ![lead, 0, 0] (Bl 16).size h).toLoadRect (ix3 n i l) = S n i l := by
  have hN : n.val + lead < N := by have : lead + 16 ≤ N := h 0; have := n.isLt; omega
  rw [View.readCov_eq_canon']
  refine Eq.trans (congrArg (View.canon L) ?_) (hL n hN n.isLt i l)
  funext a; apply Fin.ext
  match a with
  | ⟨0, _⟩ => show lead + 1 * n.val = n.val + lead; omega
  | ⟨1, _⟩ => show 0 + 1 * i.val = i.val; omega
  | ⟨2, _⟩ => show 0 + 1 * l.val = l.val; omega

/-- The sixteen blocks read one block earlier. -/
theorem Blk.load_before {L : List (View.Piece (Elt Ideal) (Bl 17) φ)} {S : Fin 16 → Fin 128 → Fin 128 → Elt Ideal φ} (hL : Blk L 1 S 16)
    (v : View sig κ sp (Bl 17) φ) {h : ∀ i, (![0, 0, 0] : Fin 3 → ℕ) i + (Bl 16).size i ≤ (Bl 17).size i} (n : Fin 16) (hn : n.val ≠ 0) (i l : Fin 128) :
    v.readCov L (Rect.unit (s := Bl 17) ![0, 0, 0] (Bl 16).size h).toLoadRect (ix3 n i l) = S (before n) i l := by
  have hb : (before n).val + 1 = n.val := by show n.val - 1 + 1 = n.val; omega
  have hn' := n.isLt
  rw [View.readCov_eq_canon']
  refine Eq.trans (congrArg (View.canon L) ?_) (hL (before n) (by omega) (before n).isLt i l)
  funext a; apply Fin.ext
  match a with
  | ⟨0, _⟩ => show 0 + 1 * n.val = (before n).val + 1; omega
  | ⟨1, _⟩ => show 0 + 1 * i.val = i.val; omega
  | ⟨2, _⟩ => show 0 + 1 * l.val = l.val; omega

/-- Rows read as blocks, and blocks as rows. -/
theorem cast_up (hK : K = nb * 128) (x : Vec Ideal (M2 K 128) φ) (h : (M2 K 128).ShapeCasts (Bl nb)) (a : Fin nb) (i l : Fin 128) :
    shapeCast (Bl nb) x h (ix3 a i l) = x (ix2 (⟨a.val * 128 + i.val, by have := a.isLt; have := i.isLt; subst hK; omega⟩ : Fin K) l) :=
  shapeCast_apply x h _ _ (by
    rw [Shape.rowMajor_val_two, Shape.rowMajor_val_three]
    rfl)

theorem cast_down (hK : K = nb * 128) (x : Vec Ideal (Bl nb) φ) (h : (Bl nb).ShapeCasts (M2 K 128)) (j : Fin K) (l : Fin 128) :
    shapeCast (M2 K 128) x h (ix2 j l) = x (ix3 (⟨j.val / 128, by have := j.isLt; subst hK; omega⟩ : Fin nb) (⟨j.val % 128, Nat.mod_lt _ (by decide)⟩ : Fin 128) l) :=
  shapeCast_apply x h _ _ (by
    rw [Shape.rowMajor_val_two, Shape.rowMajor_val_three]
    show (j.val / 128 * 128 + j.val % 128) * 128 + l.val = j.val * 128 + l.val
    omega)

/-- A residue's rows. -/
def row (hK : K * d = 2048) (hr : r < d) (j : Fin K) : Fin 2048 := ⟨r + d * j.val, by
  have h := j.isLt
  have : d * j.val + d ≤ K * d := by rw [← Nat.mul_succ, Nat.mul_comm K]; exact Nat.mul_le_mul_left _ h
  omega⟩

section rows
variable (hK : K * d = 2048) (hr : r < d)

theorem row_mod (j : Fin K) : (row hK hr j).val % d = r := by
  show (r + d * j.val) % d = r
  rw [Nat.add_mul_mod_self_left, Nat.mod_eq_of_lt hr]

theorem row_div (t : Fin 2048) (h : t.val % d = r) : ∃ j : Fin K, row hK hr j = t := by
  have hd : 0 < d := by omega
  refine ⟨⟨t.val / d, ?_⟩, Fin.ext ?_⟩
  · rw [Nat.div_lt_iff_lt_mul hd, hK]; exact t.isLt
  · show r + d * (t.val / d) = t.val
    have := Nat.mod_add_div t.val d
    omega

theorem row_tok (hd3 : d = 1 ∨ d = 4 ∨ d = 16) (hnb : nb * d = 16) (hb : b = r * nb) (a : Fin nb) (i : Fin 128) (h : b + a.val < 16) (hj : a.val * 128 + i.val < K) :
    row hK hr ⟨a.val * 128 + i.val, hj⟩ = tok hd3 ⟨b + a.val, h⟩ i := by
  apply Fin.ext
  have ha := a.isLt
  subst hb
  show r + d * (a.val * 128 + i.val) = ((r * nb + a.val) % (16 / d) * 128 + i.val) * d + (r * nb + a.val) / (16 / d)
  rcases hd3 with e | e | e <;> subst e
  · obtain rfl : nb = 16 := by omega
    omega
  · obtain rfl : nb = 4 := by omega
    omega
  · obtain rfl : nb = 1 := by omega
    omega

/-- A load of a residue's rows. -/
theorem load_rows {L : List (View.Piece (Elt Ideal) (M2 2048 128) .f32)} {S : Fin 2048 → Fin 128 → EReal} (hL : Reads L S) (v : View sig κ sp (M2 2048 128) .f32)
    {inb : ∀ a, (M2 K 128).size a = 0 ∨ (![r, 0] : Fin 2 → ℕ) a + (![d, 1] : Fin 2 → ℕ) a * ((M2 K 128).size a - 1) < (M2 2048 128).size a} (j : Fin K) (l : Fin 128) :
    v.readCov L (⟨![r, 0], (M2 K 128).size, ![d, 1], inb⟩ : LoadRect (M2 2048 128)) (ix2 j l) = S (row hK hr j) l := by
  rw [View.readCov_eq_canon']
  refine Eq.trans (congrArg (View.canon L) ?_) (hL (row hK hr j) l)
  funext a; apply Fin.ext
  match a with
  | ⟨0, _⟩ => rfl
  | ⟨1, _⟩ => show 0 + 1 * l.val = l.val; omega

/-- The first residues are changed. -/
def stage {α : Type} (d r : ℕ) (x y : Fin 2048 → Fin 128 → α) (t : Fin 2048) (l : Fin 128) : α := if t.val % d < r then y t l else x t l

/-- A store to a residue's rows. -/
theorem store_rows {L : List (View.Piece (Elt Ideal) (M2 2048 128) .f32)} {x y : Fin 2048 → Fin 128 → EReal} (hL : Reads L (stage d r x y))
    {inb : ∀ a, (M2 K 128).size a = 0 ∨ (![r, 0] : Fin 2 → ℕ) a + (![d, 1] : Fin 2 → ℕ) a * ((M2 K 128).size a - 1) < (M2 2048 128).size a}
    {pos : ∀ a, 0 < (⟨![r, 0], (M2 K 128).size, ![d, 1], inb⟩ : LoadRect (M2 2048 128)).stride a}
    {w : FVec Ideal (M2 K 128) .f32} (hw : ∀ j l, w (ix2 j l) = y (row hK hr j) l) :
    Reads ((⟨⟨(⟨![r, 0], (M2 K 128).size, ![d, 1], inb⟩ : LoadRect (M2 2048 128)), pos⟩, w⟩ : View.Piece (Elt Ideal) (M2 2048 128) .f32) :: L) (stage d (r + 1) x y) := by
  intro t l
  by_cases h : t.val % d = r
  · obtain ⟨j, hj⟩ := row_div hK hr t h
    have e : ix2 t l = (⟨(⟨![r, 0], (M2 K 128).size, ![d, 1], inb⟩ : LoadRect (M2 2048 128)), pos⟩ : Rect (M2 2048 128)).emb (ix2 j l) := by
      rw [← hj]
      funext a; apply Fin.ext
      match a with
      | ⟨0, _⟩ => rfl
      | ⟨1, _⟩ => show l.val = 0 + 1 * l.val; omega
    rw [e, View.canon_cons_emb, hw, hj]
    exact (if_pos (by omega)).symm
  · show View.canon (Val := Elt Ideal) (e := .f32) _ _ = stage d (r + 1) x y t l
    rw [View.canon_cons_of_not_mem, hL t l]
    · unfold stage
      by_cases h2 : t.val % d < r
      · rw [if_pos h2, if_pos (by omega)]
      · rw [if_neg h2, if_neg (by omega)]
    · intro hm
      obtain ⟨j, hj, e⟩ := ((LoadRect.mem_set _).mp hm) 0
      have e' : t.val = r + d * j := e
      exact h (by rw [e', Nat.add_mul_mod_self_left, Nat.mod_eq_of_lt hr])

/-- What a dilation has left in its blocks. -/
def Tiles (hd3 : d = 1 ∨ d = 4 ∨ d = 16) (L : List (View.Piece (Elt Ideal) (Bl 16) .f32)) (S : Fin 2048 → Fin 128 → EReal) : Prop :=
  ∀ n i l, View.canon L (ix3 n i l) = S (tok hd3 n i) l

theorem Tiles.init (hd3 : d = 1 ∨ d = 4 ∨ d = 16) {L : List (View.Piece (Elt Ideal) (Bl 16) .f32)} {S : Fin 2048 → Fin 128 → EReal} {w : FVec Ideal (Bl 16) .f32}
    {h : ∀ a, (![0, 0, 0] : Fin 3 → ℕ) a + (Bl 16).size a ≤ (Bl 16).size a} (hw : ∀ n i l, w (ix3 n i l) = S (tok hd3 n i) l) :
    Tiles hd3 ((⟨Rect.unit (s := Bl 16) ![0, 0, 0] (Bl 16).size h, w⟩ : View.Piece (Elt Ideal) (Bl 16) .f32) :: L) S := by
  intro n i l
  exact (congrFun (View.canon_cons_unit_lit (S := Bl 16) (Val := Elt Ideal) (e := .f32) h w L (by decide)) (ix3 n i l)).trans (hw n i l)

/-- A residue's blocks read as its rows. -/
theorem Tiles.load {hd3 : d = 1 ∨ d = 4 ∨ d = 16} {L : List (View.Piece (Elt Ideal) (Bl 16) .f32)} {S : Fin 2048 → Fin 128 → EReal} (hL : Tiles hd3 L S)
    (v : View sig κ sp (Bl 16) .f32) (hKn : K = nb * 128) (hnb : nb * d = 16) (hb : b = r * nb)
    {h : ∀ i, (![b, 0, 0] : Fin 3 → ℕ) i + (Bl nb).size i ≤ (Bl 16).size i} {hc : (Bl nb).ShapeCasts (M2 K 128)} (j : Fin K) (l : Fin 128) :
    shapeCast (M2 K 128) (v.readCov L (Rect.unit (s := Bl 16) ![b, 0, 0] (Bl nb).size h).toLoadRect) hc (ix2 j l) = S (row hK hr j) l := by
  have hj := j.isLt
  have ha : j.val / 128 < nb := by subst hKn; omega
  have h16 : b + nb ≤ 16 := h 0
  rw [cast_down hKn, View.readCov_eq_canon']
  have e2 := row_tok hK hr hd3 hnb hb ⟨j.val / 128, ha⟩ ⟨j.val % 128, Nat.mod_lt _ (by decide)⟩ (by show b + j.val / 128 < 16; omega)
    (by show j.val / 128 * 128 + j.val % 128 < K; omega)
  have e3 : (⟨j.val / 128 * 128 + j.val % 128, by omega⟩ : Fin K) = j := Fin.ext (by show j.val / 128 * 128 + j.val % 128 = j.val; omega)
  rw [show row hK hr j = _ from (congrArg (row hK hr) e3.symm).trans e2]
  refine Eq.trans (congrArg (View.canon L) ?_) (hL _ _ l)
  funext a; apply Fin.ext
  match a with
  | ⟨0, _⟩ => show b + 1 * (j.val / 128) = b + j.val / 128; omega
  | ⟨1, _⟩ => show 0 + 1 * (j.val % 128) = j.val % 128; omega
  | ⟨2, _⟩ => show 0 + 1 * l.val = l.val; omega

end rows

/-! ### The mixture by the log-sums -/

section mixture
variable (lo ln oo on : FVec Ideal (M2 K 128) .f32)

def wold : FVec Ideal (M2 K 128) .f32 := exp (subf lo (maximumf lo ln))
def wnew : FVec Ideal (M2 K 128) .f32 := exp (subf ln (maximumf lo ln))

def mixO (h : (M2 K 128).ShapeCasts (M2 K 128)) : FVec Ideal (M2 K 128) .f32 :=
  shapeCast (M2 K 128) (mulf (addf (mulf (wold lo ln) oo) (mulf (wnew lo ln) on))
    (divf (broadcast (M2 K 128) (Scalar.ofBits .f32 0x3F800000#32)) (addf (wold lo ln) (wnew lo ln)))) h

def mixL (h : (M2 K 128).ShapeCasts (M2 K 128)) : FVec Ideal (M2 K 128) .f32 :=
  shapeCast (M2 K 128) (addf (maximumf lo ln) (log (addf (wold lo ln) (wnew lo ln)))) h

variable {lo ln oo on}

theorem mixL_apply {h} {a b : ℝ} (j : Fin K) (l : Fin 128) (ha : lo (ix2 j l) = (a : EReal)) (hb : ln (ix2 j l) = (b : EReal)) :
    mixL lo ln h (ix2 j l) = (lae a b : EReal) := by
  refine (shapeCast_apply _ h _ (ix2 j l) rfl).trans ?_
  show max (lo (ix2 j l)) (ln (ix2 j l)) + Ideal.log (Ideal.exp (lo (ix2 j l) - max (lo (ix2 j l)) (ln (ix2 j l)))
    + Ideal.exp (ln (ix2 j l) - max (lo (ix2 j l)) (ln (ix2 j l)))) = _
  rw [ha, hb, lae_step]

theorem mixO_apply {h} {a b : ℝ} (j : Fin K) (l : Fin 128) (ha : lo (ix2 j l) = (a : EReal)) (hb : ln (ix2 j l) = (b : EReal)) :
    mixO lo ln oo on h (ix2 j l) = mix a b (oo (ix2 j l)) (on (ix2 j l)) := by
  refine (shapeCast_apply _ h _ (ix2 j l) rfl).trans ?_
  have e1 : Ideal.ofBits .f32 0x3F800000#32 = (1 : EReal) := Ideal.ofBits_one_f32
  show (Ideal.exp (lo (ix2 j l) - max (lo (ix2 j l)) (ln (ix2 j l))) * oo (ix2 j l) + Ideal.exp (ln (ix2 j l) - max (lo (ix2 j l)) (ln (ix2 j l))) * on (ix2 j l))
    * Ideal.div (Ideal.ofBits .f32 0x3F800000#32) (Ideal.exp (lo (ix2 j l) - max (lo (ix2 j l)) (ln (ix2 j l)))
    + Ideal.exp (ln (ix2 j l) - max (lo (ix2 j l)) (ln (ix2 j l)))) = _
  rw [ha, hb, e1, mix_step]

end mixture

section steps
variable (hd3 : d = 1 ∨ d = 4 ∨ d = 16) (a b' : Fin 2048 → Fin 128 → ℝ) (x y : Fin 2048 → Fin 128 → EReal)

def coe2 (a : Fin 2048 → Fin 128 → ℝ) (t : Fin 2048) (l : Fin 128) : EReal := (a t l : EReal)
def lae2 (t : Fin 2048) (l : Fin 128) : ℝ := lae (a t l) (b' t l)
def mix2 (t : Fin 2048) (l : Fin 128) : EReal := mix (a t l) (b' t l) (x t l) (y t l)

/-- What the first residues' changes leave, given the dilation's blocks. -/
def Logs (r : ℕ) (ld : List (View.Piece (Elt Ideal) (Bl 16) .f32)) (Ll : List (View.Piece (Elt Ideal) (M2 2048 128) .f32)) : Prop :=
  Tiles hd3 ld (coe2 b') → Reads Ll (stage d r (coe2 a) (coe2 (lae2 a b')))

def Both (r : ℕ) (od ld : List (View.Piece (Elt Ideal) (Bl 16) .f32)) (Lo Ll : List (View.Piece (Elt Ideal) (M2 2048 128) .f32)) : Prop :=
  Tiles hd3 od y → Tiles hd3 ld (coe2 b') → Reads Lo (stage d r x (mix2 a b' x y)) ∧ Reads Ll (stage d r (coe2 a) (coe2 (lae2 a b')))

variable {hd3 a b' x y} {od ld : List (View.Piece (Elt Ideal) (Bl 16) .f32)} {Lo Ll : List (View.Piece (Elt Ideal) (M2 2048 128) .f32)}
  (hK : K * d = 2048) (hr : r < d) (hKn : K = nb * 128) (hnb : nb * d = 16) (hb : b = r * nb)
  {v16 v17 : View sig κ sp (M2 2048 128) .f32} {v14 v15 : View sig κ sp (Bl 16) .f32}
  {inb : ∀ a, (M2 K 128).size a = 0 ∨ (![r, 0] : Fin 2 → ℕ) a + (![d, 1] : Fin 2 → ℕ) a * ((M2 K 128).size a - 1) < (M2 2048 128).size a}
  {pos : ∀ a, 0 < (⟨![r, 0], (M2 K 128).size, ![d, 1], inb⟩ : LoadRect (M2 2048 128)).stride a}
  {h : ∀ i, (![b, 0, 0] : Fin 3 → ℕ) i + (Bl nb).size i ≤ (Bl 16).size i} {hc : (Bl nb).ShapeCasts (M2 K 128)} {hs : (M2 K 128).ShapeCasts (M2 K 128)}

theorem stage_at {α : Type} (x y : Fin 2048 → Fin 128 → α) (j : Fin K) (l : Fin 128) : stage d r x y (row hK hr j) l = x (row hK hr j) l :=
  if_neg (by rw [row_mod]; exact Nat.lt_irrefl _)

theorem stage_zero {α : Type} (d : ℕ) (x y : Fin 2048 → Fin 128 → α) : stage d 0 x y = x := by
  funext t l; exact if_neg (Nat.not_lt_zero _)

theorem stage_all {α : Type} (hd : 0 < d) (x y : Fin 2048 → Fin 128 → α) : stage d d x y = y := by
  funext t l; exact if_pos (Nat.mod_lt _ hd)

include hK hr hKn hnb hb in
theorem Logs.push (H : Logs hd3 a b' r ld Ll) :
    Logs hd3 a b' (r + 1) ld ((⟨⟨(⟨![r, 0], (M2 K 128).size, ![d, 1], inb⟩ : LoadRect (M2 2048 128)), pos⟩,
      mixL (v17.readCov Ll (⟨![r, 0], (M2 K 128).size, ![d, 1], inb⟩ : LoadRect (M2 2048 128)))
        (shapeCast (M2 K 128) (v15.readCov ld (Rect.unit (s := Bl 16) ![b, 0, 0] (Bl nb).size h).toLoadRect) hc) hs⟩ : View.Piece (Elt Ideal) (M2 2048 128) .f32) :: Ll) := by
  intro hld
  refine store_rows hK hr (H hld) fun j l => ?_
  exact mixL_apply j l ((load_rows hK hr (H hld) v17 j l).trans (stage_at hK hr _ _ j l)) (Tiles.load hK hr hld v15 hKn hnb hb j l)

include hK hr hKn hnb hb in
theorem Both.outs (H : Both hd3 a b' x y r od ld Lo Ll) (hod : Tiles hd3 od y) (hld : Tiles hd3 ld (coe2 b')) :
    Reads ((⟨⟨(⟨![r, 0], (M2 K 128).size, ![d, 1], inb⟩ : LoadRect (M2 2048 128)), pos⟩,
      mixO (v17.readCov Ll (⟨![r, 0], (M2 K 128).size, ![d, 1], inb⟩ : LoadRect (M2 2048 128)))
        (shapeCast (M2 K 128) (v15.readCov ld (Rect.unit (s := Bl 16) ![b, 0, 0] (Bl nb).size h).toLoadRect) hc)
        (v16.readCov Lo (⟨![r, 0], (M2 K 128).size, ![d, 1], inb⟩ : LoadRect (M2 2048 128)))
        (shapeCast (M2 K 128) (v14.readCov od (Rect.unit (s := Bl 16) ![b, 0, 0] (Bl nb).size h).toLoadRect) hc) hs⟩ : View.Piece (Elt Ideal) (M2 2048 128) .f32) :: Lo)
      (stage d (r + 1) x (mix2 a b' x y)) := by
  obtain ⟨ho, hl⟩ := H hod hld
  refine store_rows hK hr ho fun j l => ?_
  rw [mixO_apply j l ((load_rows hK hr hl v17 j l).trans (stage_at hK hr _ _ j l)) (Tiles.load hK hr hld v15 hKn hnb hb j l),
    load_rows hK hr ho v16 j l, stage_at hK hr, Tiles.load hK hr hod v14 hKn hnb hb j l]
  rfl

include hK hr hKn hnb hb in
theorem Both.push (H : Both hd3 a b' x y r od ld Lo Ll) {inb' pos' hs'} {h' : ∀ i, (![b, 0, 0] : Fin 3 → ℕ) i + (Bl nb).size i ≤ (Bl 16).size i} {hc'} :
    Both hd3 a b' x y (r + 1) od ld ((⟨⟨(⟨![r, 0], (M2 K 128).size, ![d, 1], inb⟩ : LoadRect (M2 2048 128)), pos⟩,
      mixO (v17.readCov Ll (⟨![r, 0], (M2 K 128).size, ![d, 1], inb⟩ : LoadRect (M2 2048 128)))
        (shapeCast (M2 K 128) (v15.readCov ld (Rect.unit (s := Bl 16) ![b, 0, 0] (Bl nb).size h).toLoadRect) hc)
        (v16.readCov Lo (⟨![r, 0], (M2 K 128).size, ![d, 1], inb⟩ : LoadRect (M2 2048 128)))
        (shapeCast (M2 K 128) (v14.readCov od (Rect.unit (s := Bl 16) ![b, 0, 0] (Bl nb).size h).toLoadRect) hc) hs⟩ : View.Piece (Elt Ideal) (M2 2048 128) .f32) :: Lo)
      ((⟨⟨(⟨![r, 0], (M2 K 128).size, ![d, 1], inb'⟩ : LoadRect (M2 2048 128)), pos'⟩,
      mixL (v17.readCov Ll (⟨![r, 0], (M2 K 128).size, ![d, 1], inb'⟩ : LoadRect (M2 2048 128)))
        (shapeCast (M2 K 128) (v15.readCov ld (Rect.unit (s := Bl 16) ![b, 0, 0] (Bl nb).size h').toLoadRect) hc') hs'⟩ : View.Piece (Elt Ideal) (M2 2048 128) .f32) :: Ll) :=
  fun hod hld => ⟨Both.outs hK hr hKn hnb hb H hod hld, Logs.push hK hr hKn hnb hb (fun _ => (H hod hld).2) hld⟩

end steps

end Cert.Kernel12Ideal.DilFwd
-- ==== Proof.DilBody.lean ====
/-
  The body of the banded attention at a grid point: three dilations one after the other, each mixed into what the others
  have left.
-/
module

public import proofs.«01_k».proof.Proof.Gen.Kernel12Ideal.Value
public import proofs.«01_k».proof.Proof.DilFill
public import proofs.«01_k».proof.Proof.FoxFwdBody
public import Idealize.ShloMosaic.Lib.Pipeline.ValueKit

@[expose] public section

set_option maxRecDepth 16384

noncomputable section

namespace Cert.Kernel12Ideal.DilFwd

open Cert.Kernel12Ideal Cert.Kernel12Ideal.Gen Idealize.ShloMosaic Idealize.ShloMosaic.TcCoe Idealize.SL.Sem
open Idealize.ShloMosaic.Pipeline (Dat)
open Cert.Dil Cert.SoftMath
open Cert.Kernel5Ideal.FoxBody (hd pl half half_iff mask)
open Cert.FoxTile (M2 Reads)
open scoped BigOperators

/-- The blocks of a grid point hold its two heads. -/
structure Blocks (H : Fin 2 → Head) (x0 x1 : FVec Ideal S2048x128 .bf16) : Prop where
  q : ∀ t l, x0 (ix2 t l) = ((H (hd l)).q t (pl l) : EReal)
  k : ∀ t l, x1 (ix2 t l) = ((H (hd l)).k t (pl l) : EReal)

theorem mask_first (l : Fin 128) : k0_pay2 (F := Ideal) (ix2 (0 : Fin 1) l) = mask 0 l := Cert.Kernel5Ideal.FoxBody.mask_first l
theorem mask_second (l : Fin 128) : k0_pay3 (F := Ideal) (ix2 (0 : Fin 1) l) = mask 1 l := Cert.Kernel5Ideal.FoxBody.mask_second l
theorem lanes (l : Fin 128) : k0_pay1 (ix2 (0 : Fin 1) l) = 1#1 ↔ half 0 l := Cert.Kernel5Ideal.FoxBody.first_apply l

section
variable {d : ℕ} (hd3 : d = 1 ∨ d = 4 ∨ d = 16) (H : Fin 2 → Head) (V : Fin 2048 → Fin 128 → EReal)

/-- A head's scores, their greatest and the sum of the exponentials. -/
structure Part (P : Head) (s p : FVec Ideal B .f32) (m den : FVec Ideal C1 .f32) : Prop where
  hs : ∀ n i j, s (ix3 n i j) = sc (On d (tok hd3 n i)) (P.score (tok hd3 n i)) (tok hd3 n j)
  hp : ∀ n i j, p (ix3 n i j) = if n.val % (16 / d) ≠ 0 then sc (On d (tok hd3 n i)) (P.score (tok hd3 n i)) (tok hd3 (before n) j) else ⊥
  hm : ∀ n i, m (ix3 n i (0 : Fin 1)) = (top (On d (tok hd3 n i)) (P.score (tok hd3 n i)) : EReal)
  ht : ∀ n i, den (ix3 n i (0 : Fin 1)) = (tot (On d (tok hd3 n i)) (P.score (tok hd3 n i)) : EReal)

structure Single (P : Head) (s : FVec Ideal B .f32) (m den : FVec Ideal C1 .f32) : Prop where
  hs : ∀ n i j, s (ix3 n i j) = sc (On d (tok hd3 n i)) (P.score (tok hd3 n i)) (tok hd3 n j)
  hm : ∀ n i, m (ix3 n i (0 : Fin 1)) = (top (On d (tok hd3 n i)) (P.score (tok hd3 n i)) : EReal)
  ht : ∀ n i, den (ix3 n i (0 : Fin 1)) = (tot (On d (tok hd3 n i)) (P.score (tok hd3 n i)) : EReal)

variable {hd3} {P : Head} {s p : FVec Ideal B .f32} {m den : FVec Ideal C1 .f32}

theorem Part.of (hs : ∀ n i j, s (ix3 n i j) = sc (On d (tok hd3 n i)) (P.score (tok hd3 n i)) (tok hd3 n j))
    (hp : ∀ n i j, p (ix3 n i j) = if n.val % (16 / d) ≠ 0 then sc (On d (tok hd3 n i)) (P.score (tok hd3 n i)) (tok hd3 (before n) j) else ⊥) :
    Part hd3 P s p (maximumf (peak s) (peak p)) (addf (rows (pe s (maximumf (peak s) (peak p)))) (rows (pe p (maximumf (peak s) (peak p))))) :=
  ⟨hs, hp, peak_two hd3 P.score hs hp, tot_two hd3 P.score hs hp (peak_two hd3 P.score hs hp)⟩

theorem Single.of (h16 : d = 16) (hs : ∀ n i j, s (ix3 n i j) = sc (On d (tok hd3 n i)) (P.score (tok hd3 n i)) (tok hd3 n j)) :
    Single hd3 P s (peak s) (rows (pe s (peak s))) :=
  ⟨hs, peak_one hd3 P.score hs h16, tot_one hd3 P.score hs (peak_one hd3 P.score hs h16) h16⟩

theorem Part.log (h : Part hd3 P s p m den) (n : Fin 16) (i : Fin 128) : addf m (Idealize.ShloMosaic.log den) (ix3 n i (0 : Fin 1)) = (P.lse d (tok hd3 n i) : EReal) :=
  log_eq hd3 P.score h.hm h.ht n i

theorem Single.log (h : Single hd3 P s m den) (n : Fin 16) (i : Fin 128) : addf m (Idealize.ShloMosaic.log den) (ix3 n i (0 : Fin 1)) = (P.lse d (tok hd3 n i) : EReal) :=
  log_eq hd3 P.score h.hm h.ht n i

variable {v vp : FVec Ideal B .bf16} {V}

theorem Part.out (h : Part hd3 P s p m den) (hv : ∀ n j l, v (ix3 n j l) = V (tok hd3 n j) l)
    (hvp : ∀ n : Fin 16, n.val % (16 / d) ≠ 0 → ∀ j l, vp (ix3 n j l) = V (tok hd3 (before n) j) l) (n : Fin 16) (i l : Fin 128) :
    over (addf (read v s m) (read vp p m)) den (ix3 n i l) = P.out d (fun t => V t l) (tok hd3 n i) :=
  over_eq hd3 V P.score h.ht n i l (read_two v vp hd3 V P.score h.hs h.hp h.hm hv hvp n i l)

theorem Single.out (h16 : d = 16) (h : Single hd3 P s m den) (hv : ∀ n j l, v (ix3 n j l) = V (tok hd3 n j) l) (n : Fin 16) (i l : Fin 128) :
    over (read v s m) den (ix3 n i l) = P.out d (fun t => V t l) (tok hd3 n i) :=
  over_eq hd3 V P.score h.ht n i l (read_one v hd3 V P.score h.hs h.hm hv h16 n i l)

variable {sel : IVec S1x128 1} (hsel : ∀ l, sel (ix2 (0 : Fin 1) l) = 1#1 ↔ half 0 l) {L : List (View.Piece (Elt Ideal) (Bl 16) .f32)}
  {hin : ∀ a, (![0, 0, 0] : Fin 3 → ℕ) a + (Bl 16).size a ≤ (Bl 16).size a} {H}

include hsel in
theorem Tiles.outs {o0 o1 : FVec Ideal B .f32} (h0 : ∀ n i l, o0 (ix3 n i l) = (H 0).out d (fun t => V t l) (tok hd3 n i))
    (h1 : ∀ n i l, o1 (ix3 n i l) = (H 1).out d (fun t => V t l) (tok hd3 n i)) :
    Tiles hd3 ((⟨Rect.unit (s := Bl 16) ![0, 0, 0] (Bl 16).size hin, pickO sel o0 o1⟩ : View.Piece (Elt Ideal) (Bl 16) .f32) :: L)
      (fun t l => (H (hd l)).out d (fun t => V t l) t) := by
  refine Tiles.init hd3 fun n i l => ?_
  refine Cert.Kernel11Ideal.FoxFwd.pick l (fun e => (H e).out d (fun t => V t l) (tok hd3 n i)) ?_
  rw [pickO_apply, h0, h1]
  exact if_congr ((hsel l).trans (half_iff 0 l)) rfl rfl

include hsel in
theorem Tiles.logs {c0 c1 : FVec Ideal C1 .f32} (h0 : ∀ n i, c0 (ix3 n i (0 : Fin 1)) = ((H 0).lse d (tok hd3 n i) : EReal))
    (h1 : ∀ n i, c1 (ix3 n i (0 : Fin 1)) = ((H 1).lse d (tok hd3 n i) : EReal)) :
    Tiles hd3 ((⟨Rect.unit (s := Bl 16) ![0, 0, 0] (Bl 16).size hin, pickO sel (colB c0) (colB c1)⟩ : View.Piece (Elt Ideal) (Bl 16) .f32) :: L)
      (coe2 fun t l => (H (hd l)).lse d t) := by
  refine Tiles.init hd3 fun n i l => ?_
  refine Cert.Kernel11Ideal.FoxFwd.pick l (fun e => ((H e).lse d (tok hd3 n i) : EReal)) ?_
  rw [pickO_apply, colB_apply, colB_apply, h0, h1]
  exact if_congr ((hsel l).trans (half_iff 0 l)) rfl rfl

end

/-- A residue's rows stored as blocks. -/
def fill {K nb : ℕ} (x : FVec Ideal (M2 K 128) .f32) (h : (M2 K 128).ShapeCasts (Bl nb)) (h' : (Bl nb).ShapeCasts (Bl nb)) (hw : FTy.bits .bf16 < FTy.bits .f32) : FVec Ideal (Bl nb) .bf16 :=
  shapeCast (Bl nb) (truncf .bf16 (shapeCast (Bl nb) x h) hw) h'

theorem fill_push {d K nb r b lead N k : ℕ} {sig : RefSig} {κ : Kind} {sp : Space} {hd3 : d = 1 ∨ d = 4 ∨ d = 16} {X : Fin 2048 → Fin 128 → EReal}
    {Lf : List (View.Piece (Elt Ideal) (M2 2048 128) .f32)} (hX : Reads Lf X) {L : List (View.Piece (Elt Ideal) (Bl N) .bf16)}
    {v : View sig κ sp (M2 2048 128) .f32} (hK : K * d = 2048) (hr : r < d) (hKn : K = nb * 128) (hnb : nb * d = 16)
    (hk : k = (r + 1) * nb) (hb : b = lead + r * nb)
    {inb : ∀ a, (M2 K 128).size a = 0 ∨ (![r, 0] : Fin 2 → ℕ) a + (![d, 1] : Fin 2 → ℕ) a * ((M2 K 128).size a - 1) < (M2 2048 128).size a}
    {hin : ∀ i, (![b, 0, 0] : Fin 3 → ℕ) i + (Bl nb).size i ≤ (Bl N).size i} {h h' hw}
    (hL : Blk (φ := .bf16) L lead (fun n i l => X (tok hd3 n i) l) (r * nb)) :
    Blk (φ := .bf16) ((⟨Rect.unit (s := Bl N) ![b, 0, 0] (Bl nb).size hin,
      fill (v.readCov Lf (⟨![r, 0], (M2 K 128).size, ![d, 1], inb⟩ : LoadRect (M2 2048 128))) h h' hw⟩ : View.Piece (Elt Ideal) (Bl N) .bf16) :: L)
      lead (fun n i l => X (tok hd3 n i) l) k := by
  have h16 : r * nb + nb ≤ 16 := by
    rw [← Nat.succ_mul, ← hnb, Nat.mul_comm nb]; exact Nat.mul_le_mul_right _ hr
  have e : k = r * nb + nb := by rw [hk, Nat.succ_mul]
  rw [e]
  refine Blk.push hb h16 (fun a i l => ?_) hL
  have ha := a.isLt
  have hi := i.isLt
  unfold fill
  refine (shapeCast_apply _ _ _ (ix3 a i l) rfl).trans ?_
  show shapeCast (Bl nb) (v.readCov Lf (⟨![r, 0], (M2 K 128).size, ![d, 1], inb⟩ : LoadRect (M2 2048 128))) h (ix3 a i l) = _
  rw [cast_up (φ := .f32) hKn, load_rows hK hr hX v, row_tok hK hr hd3 hnb rfl a i (by omega)]

/-- The rows as they stand, stored as blocks. -/
theorem fill_whole {lead N : ℕ} {hd3 : 1 = 1 ∨ 1 = 4 ∨ 1 = 16} {X : Fin 2048 → Fin 128 → EReal} {L : List (View.Piece (Elt Ideal) (Bl N) .bf16)}
    {x : FVec Ideal (M2 2048 128) .bf16} (hx : ∀ t l, x (ix2 t l) = X t l)
    {hin : ∀ i, (![lead, 0, 0] : Fin 3 → ℕ) i + (Bl 16).size i ≤ (Bl N).size i} {h : (M2 2048 128).ShapeCasts (Bl 16)} {h' : (Bl 16).ShapeCasts (Bl 16)}
    {h2 : (M2 2048 128).ShapeCasts (M2 2048 128)} :
    Blk (φ := .bf16) ((⟨Rect.unit (s := Bl N) ![lead, 0, 0] (Bl 16).size hin,
      shapeCast (Bl 16) (shapeCast (Bl 16) (shapeCast (M2 2048 128) x h2) h) h'⟩ : View.Piece (Elt Ideal) (Bl N) .bf16) :: L)
      lead (fun n i l => X (tok hd3 n i) l) 16 := by
  refine Blk.push (k := 0) (nb := 16) rfl (by decide) (fun a i l => ?_) (Blk.none _ _ _)
  have ha := a.isLt
  have hi := i.isLt
  refine (shapeCast_apply _ _ _ (ix3 a i l) rfl).trans ?_
  rw [cast_up (φ := .bf16) rfl, shapeCast_apply (s := M2 2048 128) _ h2 _ (ix2 (⟨a.val * 128 + i.val, by omega⟩ : Fin 2048) l) rfl, hx]
  refine congrArg (X · l) (Fin.ext ?_)
  show a.val * 128 + i.val = ((0 + a.val) % (16 / 1) * 128 + i.val) * 1 + (0 + a.val) / (16 / 1)
  omega

/-- The rows held as numbers of full width. -/
theorem wide {X : Fin 2048 → Fin 128 → EReal} {x : FVec Ideal (M2 2048 128) .bf16} (hx : ∀ t l, x (ix2 t l) = X t l) {h h2 h3 hw} :
    Reads [(⟨Rect.unit (s := M2 2048 128) ![0, 0] (M2 2048 128).size h, shapeCast (M2 2048 128) (extf .f32 (shapeCast (M2 2048 128) x h2) hw) h3⟩ :
      View.Piece (Elt Ideal) (M2 2048 128) .f32)] X :=
  Reads.init fun s l => by
    refine (shapeCast_apply _ h3 _ (ix2 s l) rfl).trans ?_
    show shapeCast (M2 2048 128) x h2 (ix2 s l) = _
    rw [shapeCast_apply (s := M2 2048 128) _ h2 _ (ix2 s l) rfl, hx]

/-- A whole buffer read as it stands, and the first dilation's blocks read as rows. -/
theorem whole_read {sig : RefSig} {κ : Kind} {sp : Space} {L : List (View.Piece (Elt Ideal) (M2 2048 128) .f32)} {X : Fin 2048 → Fin 128 → EReal} (hL : Reads L X)
    (v : View sig κ sp (M2 2048 128) .f32) {h : ∀ a, (![0, 0] : Fin 2 → ℕ) a + (M2 2048 128).size a ≤ (M2 2048 128).size a} (s : Fin 2048) (l : Fin 128) :
    v.readCov L (Rect.unit (s := M2 2048 128) ![0, 0] (M2 2048 128).size h).toLoadRect (ix2 s l) = X s l :=
  (Reads.load (K := 2048) hL v (h := h) (by decide) s l).trans (congrArg (X · l) (Fin.ext (Nat.zero_add _)))

theorem first_rows {sig : RefSig} {κ : Kind} {sp : Space} {L : List (View.Piece (Elt Ideal) (Bl 16) .f32)} {S : Fin 2048 → Fin 128 → EReal}
    (hL : Tiles (.inl rfl : 1 = 1 ∨ 1 = 4 ∨ 1 = 16) L S) {v : View sig κ sp (Bl 16) .f32}
    {h : ∀ i, (![0, 0, 0] : Fin 3 → ℕ) i + (Bl 16).size i ≤ (Bl 16).size i} {h1 : (Bl 16).ShapeCasts (M2 2048 128)} {h2 : (M2 2048 128).ShapeCasts (M2 2048 128)} {hin} :
    Reads [(⟨Rect.unit (s := M2 2048 128) ![0, 0] (M2 2048 128).size hin,
      shapeCast (M2 2048 128) (shapeCast (M2 2048 128) (v.readCov L (Rect.unit (s := Bl 16) ![0, 0, 0] (Bl 16).size h).toLoadRect) h1) h2⟩ :
      View.Piece (Elt Ideal) (M2 2048 128) .f32)] S :=
  Reads.init fun s l => by
    refine (shapeCast_apply _ h2 _ (ix2 s l) rfl).trans ?_
    rw [Tiles.load (K := 2048) (nb := 16) (d := 1) (r := 0) rfl (by decide) hL v rfl rfl rfl s l]
    exact congrArg (S · l) (Fin.ext (by show 0 + 1 * s.val = s.val; omega))

end Cert.Kernel12Ideal.DilFwd
-- ==== Proof.DilAfter.lean ====
/-
  The two outputs of the banded attention at a grid point: the mixed values and the logarithm of the whole weight.
-/
module

public import proofs.«01_k».proof.Proof.DilBody
@[expose] public section
set_option maxRecDepth 16384
noncomputable section
namespace Cert.Kernel12Ideal.DilFwd

open Cert.Kernel12Ideal Cert.Kernel12Ideal.Gen Idealize.ShloMosaic Idealize.ShloMosaic.TcCoe Idealize.SL.Sem
open Idealize.ShloMosaic.Pipeline (Dat)
open Cert.Dil Cert.SoftMath
open Cert.Kernel5Ideal.FoxBody (hd pl half half_iff mask)
open Cert.FoxTile (M2 Reads)
variable (m : (ℓ : Loc nD τ sig) → Buf (Elt Ideal) ℓ) {H : Fin 2 → Head}

def one3 : (1:ℕ) = 1 ∨ (1:ℕ) = 4 ∨ (1:ℕ) = 16 := .inl rfl
def four3 : (4:ℕ) = 1 ∨ (4:ℕ) = 4 ∨ (4:ℕ) = 16 := .inr (.inl rfl)
def sixteen3 : (16:ℕ) = 1 ∨ (16:ℕ) = 4 ∨ (16:ℕ) = 16 := .inr (.inr rfl)

theorem Logs.final {d : ℕ} {hd3 : d = 1 ∨ d = 4 ∨ d = 16} {a b' c : Fin 2048 → Fin 128 → ℝ} {ld Ll} (h : Logs hd3 a b' d ld Ll) (hld : Tiles hd3 ld (coe2 b'))
    (hc : ∀ t l, lae (a t l) (b' t l) = c t l) : Reads Ll (coe2 c) := fun t l => by
  rw [h hld t l, stage_all (by omega)]
  exact congrArg _ (hc t l)

theorem Logs.start {d : ℕ} {hd3 : d = 1 ∨ d = 4 ∨ d = 16} {a b' : Fin 2048 → Fin 128 → ℝ} {ld Ll} (h : Reads Ll (coe2 a)) : Logs hd3 a b' 0 ld Ll :=
  fun _ => by rw [stage_zero]; exact h

theorem Both.start {d : ℕ} {hd3 : d = 1 ∨ d = 4 ∨ d = 16} {a b' : Fin 2048 → Fin 128 → ℝ} {x y od ld Lo Ll} (h : Reads Lo x ∧ Reads Ll (coe2 a)) :
    Both hd3 a b' x y 0 od ld Lo Ll :=
  fun _ _ => by rw [stage_zero, stage_zero]; exact h

theorem Both.final {d : ℕ} {hd3 : d = 1 ∨ d = 4 ∨ d = 16} {a b' : Fin 2048 → Fin 128 → ℝ} {x y od ld Lo Ll} (h : Both hd3 a b' x y d od ld Lo Ll) (hod : Tiles hd3 od y)
    (hld : Tiles hd3 ld (coe2 b')) : Reads Lo (mix2 a b' x y) ∧ Reads Ll (coe2 (lae2 a b')) := by
  have := h hod hld
  rw [stage_all (by omega), stage_all (by omega)] at this
  exact this

theorem out5 {sig : RefSig} {κ : Kind} {sp : Space} {L : List (View.Piece (Elt Ideal) (M2 2048 128) .f32)} {X : Fin 2048 → Fin 128 → EReal} (hL : Reads L X)
    {v : View sig κ sp (M2 2048 128) .f32} {h : ∀ a, (![0, 0] : Fin 2 → ℕ) a + (M2 2048 128).size a ≤ (M2 2048 128).size a} {hin} :
    Reads [(⟨Rect.unit (s := M2 2048 128) ![0, 0] (M2 2048 128).size hin,
      (v.readCov L (Rect.unit (s := M2 2048 128) ![0, 0] (M2 2048 128).size h).toLoadRect)⟩ : View.Piece (Elt Ideal) (M2 2048 128) .f32)] X :=
  Reads.init fun s l => whole_read hL v s l

theorem out4 {sig : RefSig} {κ : Kind} {sp : Space} {L : List (View.Piece (Elt Ideal) (M2 2048 128) .f32)} {X : Fin 2048 → Fin 128 → EReal} (hL : Reads L X)
    {v : View sig κ sp (M2 2048 128) .f32} {h : ∀ a, (![0, 0] : Fin 2 → ℕ) a + (M2 2048 128).size a ≤ (M2 2048 128).size a} {hin} (s : Fin 2048) (l : Fin 128) :
    View.canon [(⟨Rect.unit (s := M2 2048 128) ![0, 0] (M2 2048 128).size hin,
      k0_pay315 (v.readCov L (Rect.unit (s := M2 2048 128) ![0, 0] (M2 2048 128).size h).toLoadRect)⟩ : View.Piece (Elt Ideal) (M2 2048 128) .bf16)] (ix2 s l) = X s l :=
  Reads.init (fun s l => whole_read hL v s l) s l

def Qs (H : Fin 2 → Head) (t : Fin 2048) (l : Fin 128) : EReal := ((H (hd l)).q t (pl l) : EReal)
def Ks (H : Fin 2 → Head) (t : Fin 2048) (l : Fin 128) : EReal := ((H (hd l)).k t (pl l) : EReal)

/-- A dilation's queries, keys and values as its blocks hold them. -/
structure Loaded {d : ℕ} (hd3 : d = 1 ∨ d = 4 ∨ d = 16) (H : Fin 2 → Head) (q k : FVec Ideal B .bf16) : Prop where
  q : ∀ n i l, q (ix3 n i l) = Qs H (tok hd3 n i) l
  k : ∀ n i l, k (ix3 n i l) = Ks H (tok hd3 n i) l

def Earlier {d : ℕ} (hd3 : d = 1 ∨ d = 4 ∨ d = 16) (S : Fin 2048 → Fin 128 → EReal) (x : FVec Ideal B .bf16) : Prop :=
  ∀ n : Fin 16, n.val % (16 / d) ≠ 0 → ∀ j l, x (ix3 n j l) = S (tok hd3 (before n) j) l

section parts
variable {d : ℕ} {hd3 : d = 1 ∨ d = 4 ∨ d = 16} {q k kp v vp : FVec Ideal B .bf16} {x0 x1 z : Ideal .f32} {wr : IVec S16x1x1 1} {hm0 hm1 : FVec Ideal S1x128 .bf16}

theorem Loaded.of {lead N : ℕ} {Lq : List (View.Piece (Elt Ideal) (Bl 16) .bf16)} {Lk : List (View.Piece (Elt Ideal) (Bl N) .bf16)}
    (hq : Blk (φ := .bf16) Lq 0 (fun n i l => Qs H (tok hd3 n i) l) 16) (hk : Blk (φ := .bf16) Lk lead (fun n i l => Ks H (tok hd3 n i) l) 16)
    {sig : RefSig} {κ κ' : Kind} {sp sp' : Space} {vq : View sig κ sp (Bl 16) .bf16} {vk : View sig κ' sp' (Bl N) .bf16}
    {h : ∀ i, (![0, 0, 0] : Fin 3 → ℕ) i + (Bl 16).size i ≤ (Bl 16).size i} {h' : ∀ i, (![lead, 0, 0] : Fin 3 → ℕ) i + (Bl 16).size i ≤ (Bl N).size i} :
    Loaded hd3 H (vq.readCov Lq (Rect.unit (s := Bl 16) ![0, 0, 0] (Bl 16).size h).toLoadRect) (vk.readCov Lk (Rect.unit (s := Bl N) ![lead, 0, 0] (Bl 16).size h').toLoadRect) :=
  ⟨Blk.load hq vq, Blk.load hk vk⟩

theorem Earlier.of {S : Fin 2048 → Fin 128 → EReal} {L : List (View.Piece (Elt Ideal) (Bl 17) .bf16)}
    (hk : Blk (φ := .bf16) L 1 (fun n i l => S (tok hd3 n i) l) 16) {sig : RefSig} {κ : Kind} {sp : Space} {v : View sig κ sp (Bl 17) .bf16}
    {h : ∀ i, (![0, 0, 0] : Fin 3 → ℕ) i + (Bl 16).size i ≤ (Bl 17).size i} :
    Earlier hd3 S (v.readCov L (Rect.unit (s := Bl 17) ![0, 0, 0] (Bl 16).size h).toLoadRect) := fun n hn =>
  Blk.load_before hk v n fun h0 => hn (by rw [h0]; exact Nat.zero_mod _)

theorem part_of {hm : FVec Ideal S1x128 .bf16} {x : Ideal .f32} (e : Fin 2) (hm' : ∀ l, hm (ix2 (0 : Fin 1) l) = mask e l) (hx : x = ((H e).slope : EReal))
    (h : Loaded hd3 H q k) (hz : z = ((d : ℝ) : EReal)) (hkp : Earlier hd3 (Ks H) kp)
    (hw : ∀ n : Fin 16, wr (ix3 n (0 : Fin 1) (0 : Fin 1)) = 1#1 ↔ n.val % (16 / d) = 0) :
    Part hd3 (H e) (scoreC hm q k (biasC x z)) (scoreP hm q kp (biasP x z) wr) (maximumf (peak (scoreC hm q k (biasC x z))) (peak (scoreP hm q kp (biasP x z) wr)))
      (addf (rows (pe (scoreC hm q k (biasC x z)) (maximumf (peak (scoreC hm q k (biasC x z))) (peak (scoreP hm q kp (biasP x z) wr)))))
        (rows (pe (scoreP hm q kp (biasP x z) wr) (maximumf (peak (scoreC hm q k (biasC x z))) (peak (scoreP hm q kp (biasP x z) wr)))))) :=
  Part.of (scoreC_eq hm q k hd3 H e hm' h.q hx hz h.k) (scoreP_eq hm q kp wr hd3 H e hm' h.q hx hz hw hkp)

theorem single_of {hm : FVec Ideal S1x128 .bf16} {x : Ideal .f32} (e : Fin 2) (hm' : ∀ l, hm (ix2 (0 : Fin 1) l) = mask e l) (hx : x = ((H e).slope : EReal))
    (h : Loaded hd3 H q k) (hz : z = ((d : ℝ) : EReal)) (h16 : d = 16) :
    Single hd3 (H e) (scoreC hm q k (biasC x z)) (peak (scoreC hm q k (biasC x z))) (rows (pe (scoreC hm q k (biasC x z)) (peak (scoreC hm q k (biasC x z))))) :=
  Single.of h16 (scoreC_eq hm q k hd3 H e hm' h.q hx hz h.k)

end parts

theorem z_one : Scalar.ofBits (F := Ideal) .f32 0x3F800000#32 = ((((1:ℕ)):ℝ) : EReal) := Ideal.ofBits_one_f32.trans (by norm_num)
theorem z_four : Scalar.ofBits (F := Ideal) .f32 0x40800000#32 = ((((4:ℕ)):ℝ) : EReal) := by
  show Ideal.ofBits .f32 0x40800000#32 = _
  simp [Ideal.ofBits, Ideal.ieee, -EReal.coe_mul]; norm_num
theorem z_sixteen : Scalar.ofBits (F := Ideal) .f32 0x41800000#32 = ((((16:ℕ)):ℝ) : EReal) := by
  show Ideal.ofBits .f32 0x41800000#32 = _
  simp [Ideal.ofBits, Ideal.ieee, -EReal.coe_mul]; norm_num

/-- The slopes a grid point's heads take. -/
def Slopes (H : Fin 2 → Head) (c : Dev nD) (t : Fin cfg0.N) : Prop :=
  View.ld (iblk m c 0 t) (Rect.unit (s := S8) (k0_off1 (grid0.coords t) 0#32) S1.size (k0_off1_inb (grid0.coords t) 0)) (Shape.Idx.first (numel1_S1.symm.subst (motive := fun n => 0 < n) Nat.one_pos)) = ((H 0).slope : EReal)
    ∧ View.ld (iblk m c 0 t) (Rect.unit (s := S8) (k0_off1 (grid0.coords t) 1#32) S1.size (k0_off1_inb (grid0.coords t) 1)) (Shape.Idx.first (numel1_S1.symm.subst (motive := fun n => 0 < n) Nat.one_pos)) = ((H 1).slope : EReal)

/-- What the first two dilations leave. -/
def two (V : Fin 2048 → Fin 128 → EReal) (s : Fin 2048) (l : Fin 128) : EReal :=
  mix ((H (hd l)).lse 1 s) ((H (hd l)).lse 4 s) ((H (hd l)).out 1 (fun t => V t l) s) ((H (hd l)).out 4 (fun t => V t l) s)

set_option maxHeartbeats 4000000 in
theorem after5 (c : Dev nD) (t : Fin cfg0.N) (B : Blocks H (iblk m c 1 t) (iblk m c 2 t)) (S : Slopes m H c t) (s : Fin 2048) (l : Fin 128) :
    ((dats m 0 c).after 5 t) (ix2 s l) = ((H (hd l)).total s : EReal) := by
  rw [after0_5]; unfold outsAt0 out0_A_5; frame_open
  simp (disch := decide) only [View.read_writes_junk_eq_canon, View.readAt_eq_ld, View.ld_unit_lit', Memref.IsWhole.read_unread]
  refine (?_ : Reads _ (coe2 fun s l => (H (hd l)).total s)) s l
  refine out5 ?_
  apply Logs.final (d := 16) (hd3 := sixteen3) (a := fun s l => lae ((H (hd l)).lse 1 s) ((H (hd l)).lse 4 s)) (b' := fun s l => (H (hd l)).lse 16 s) (hc := fun t l => (H (hd l)).total_eq t)
  · iterate 16 refine Logs.push (K := 128) (nb := 1) (d := 16) (by decide) (by decide) (by decide) (by decide) (by decide) ?_
    refine Logs.start ?_
    apply Logs.final (d := 4) (hd3 := four3) (a := fun s l => (H (hd l)).lse 1 s) (b' := fun s l => (H (hd l)).lse 4 s) (hc := fun t l => rfl)
    · iterate 4 refine Logs.push (K := 512) (nb := 4) (d := 4) (by decide) (by decide) (by decide) (by decide) (by decide) ?_
      refine Logs.start ?_
      refine first_rows ?_
      refine have h : Loaded one3 H _ _ ∧ Earlier one3 (Ks H) _ := ?_; Tiles.logs lanes (Part.log (part_of 0 mask_first S.1 h.1 z_one h.2 (wrap_apply 16 (.inl rfl))))
          (Part.log (part_of 1 mask_second S.2 h.1 z_one h.2 (wrap_apply 16 (.inl rfl))))
      exact ⟨Loaded.of (fill_whole B.q) (fill_whole B.k), Earlier.of (fill_whole B.k)⟩
    · refine have h : Loaded four3 H _ _ ∧ Earlier four3 (Ks H) _ := ?_; Tiles.logs lanes (Part.log (part_of 0 mask_first S.1 h.1 z_four h.2 (wrap_apply 4 (.inr rfl))))
          (Part.log (part_of 1 mask_second S.2 h.1 z_four h.2 (wrap_apply 4 (.inr rfl))))
      refine ⟨Loaded.of ?_ ?_, Earlier.of ?_⟩
      · iterate 4 refine fill_push (X := Qs H) (K := 512) (nb := 4) (d := 4) (wide B.q) (by decide) (by decide) (by decide) (by decide) (by decide) (by decide) ?_
        exact Blk.none _ _ _
      all_goals
        iterate 4 refine fill_push (X := Ks H) (K := 512) (nb := 4) (d := 4) (wide B.k) (by decide) (by decide) (by decide) (by decide) (by decide) (by decide) ?_
        exact Blk.none _ _ _
  · refine have h : Loaded sixteen3 H _ _ := ?_; Tiles.logs lanes (Single.log (single_of 0 mask_first S.1 h z_sixteen rfl)) (Single.log (single_of 1 mask_second S.2 h z_sixteen rfl))
    refine Loaded.of ?_ ?_
    · iterate 16 refine fill_push (X := Qs H) (K := 128) (nb := 1) (d := 16) (wide B.q) (by decide) (by decide) (by decide) (by decide) (by decide) (by decide) ?_
      exact Blk.none _ _ _
    · iterate 16 refine fill_push (X := Ks H) (K := 128) (nb := 1) (d := 16) (wide B.k) (by decide) (by decide) (by decide) (by decide) (by decide) (by decide) ?_
      exact Blk.none _ _ _

set_option maxHeartbeats 4000000 in
theorem after4 (c : Dev nD) (t : Fin cfg0.N) (B : Blocks H (iblk m c 1 t) (iblk m c 2 t)) (S : Slopes m H c t) {V : Fin 2048 → Fin 128 → EReal}
    (hv : ∀ s l, (iblk m c 3 t : FVec Ideal S2048x128 .bf16) (ix2 s l) = V s l) (s : Fin 2048) (l : Fin 128) :
    ((dats m 0 c).after 4 t) (ix2 s l) = (H (hd l)).mixed (fun t => V t l) s := by
  rw [after0_4]; unfold outsAt0 out0_A_4; frame_open
  simp (disch := decide) only [View.read_writes_junk_eq_canon, View.readAt_eq_ld, View.ld_unit_lit', Memref.IsWhole.read_unread]
  refine (out4 (X := stage 16 (15 + 1) (two (H := H) V) (mix2 (fun s l => lae ((H (hd l)).lse 1 s) ((H (hd l)).lse 4 s)) (fun s l => (H (hd l)).lse 16 s) (two (H := H) V)
    (fun s l => (H (hd l)).out 16 (fun t => V t l) s))) ?_ s l).trans ?_
  rotate_left
  · rw [stage_all (by decide)]; exact (H (hd l)).mixed_eq (fun t => V t l) s
  apply Both.outs (K := 128) (nb := 1) (d := 16) (hd3 := sixteen3) (hK := by decide) (hr := by decide) (hKn := by decide) (hnb := by decide) (hb := by decide)
  · iterate 15 refine Both.push (K := 128) (nb := 1) (d := 16) (by decide) (by decide) (by decide) (by decide) (by decide) ?_
    refine Both.start ?_
    apply Both.final (d := 4) (hd3 := four3) (a := fun s l => (H (hd l)).lse 1 s) (b' := fun s l => (H (hd l)).lse 4 s) (x := fun s l => (H (hd l)).out 1 (fun t => V t l) s)
      (y := fun s l => (H (hd l)).out 4 (fun t => V t l) s)
    · iterate 4 refine Both.push (K := 512) (nb := 4) (d := 4) (by decide) (by decide) (by decide) (by decide) (by decide) ?_
      refine Both.start ⟨first_rows ?_, first_rows ?_⟩
      · refine have h : Loaded one3 H _ _ ∧ Earlier one3 (Ks H) _ ∧ (∀ n j l, _ = V (tok one3 n j) l) ∧ Earlier one3 V _ := ?_; Tiles.outs (V := V) lanes (Part.out (part_of 0 mask_first S.1 h.1 z_one h.2.1 (wrap_apply 16 (.inl rfl))) h.2.2.1 h.2.2.2)
          (Part.out (part_of 1 mask_second S.2 h.1 z_one h.2.1 (wrap_apply 16 (.inl rfl))) h.2.2.1 h.2.2.2)
        exact ⟨Loaded.of (fill_whole B.q) (fill_whole B.k), Earlier.of (fill_whole B.k), Blk.load (fill_whole hv) _, Earlier.of (fill_whole hv)⟩
      · refine have h : Loaded one3 H _ _ ∧ Earlier one3 (Ks H) _ := ?_; Tiles.logs lanes (Part.log (part_of 0 mask_first S.1 h.1 z_one h.2 (wrap_apply 16 (.inl rfl))))
          (Part.log (part_of 1 mask_second S.2 h.1 z_one h.2 (wrap_apply 16 (.inl rfl))))
        exact ⟨Loaded.of (fill_whole B.q) (fill_whole B.k), Earlier.of (fill_whole B.k)⟩
    · refine have h : Loaded four3 H _ _ ∧ Earlier four3 (Ks H) _ ∧ (∀ n j l, _ = V (tok four3 n j) l) ∧ Earlier four3 V _ := ?_; Tiles.outs (V := V) lanes (Part.out (part_of 0 mask_first S.1 h.1 z_four h.2.1 (wrap_apply 4 (.inr rfl))) h.2.2.1 h.2.2.2)
          (Part.out (part_of 1 mask_second S.2 h.1 z_four h.2.1 (wrap_apply 4 (.inr rfl))) h.2.2.1 h.2.2.2)
      refine ⟨Loaded.of ?_ ?_, Earlier.of ?_, Blk.load ?_ _, Earlier.of ?_⟩
      · iterate 4 refine fill_push (X := Qs H) (K := 512) (nb := 4) (d := 4) (wide B.q) (by decide) (by decide) (by decide) (by decide) (by decide) (by decide) ?_
        exact Blk.none _ _ _
      · iterate 4 refine fill_push (X := Ks H) (K := 512) (nb := 4) (d := 4) (wide B.k) (by decide) (by decide) (by decide) (by decide) (by decide) (by decide) ?_
        exact Blk.none _ _ _
      · iterate 4 refine fill_push (X := Ks H) (K := 512) (nb := 4) (d := 4) (wide B.k) (by decide) (by decide) (by decide) (by decide) (by decide) (by decide) ?_
        exact Blk.none _ _ _
      · iterate 4 refine fill_push (X := V) (K := 512) (nb := 4) (d := 4) (wide hv) (by decide) (by decide) (by decide) (by decide) (by decide) (by decide) ?_
        exact Blk.none _ _ _
      · iterate 4 refine fill_push (X := V) (K := 512) (nb := 4) (d := 4) (wide hv) (by decide) (by decide) (by decide) (by decide) (by decide) (by decide) ?_
        exact Blk.none _ _ _
    · refine have h : Loaded four3 H _ _ ∧ Earlier four3 (Ks H) _ := ?_; Tiles.logs lanes (Part.log (part_of 0 mask_first S.1 h.1 z_four h.2 (wrap_apply 4 (.inr rfl))))
          (Part.log (part_of 1 mask_second S.2 h.1 z_four h.2 (wrap_apply 4 (.inr rfl))))
      refine ⟨Loaded.of ?_ ?_, Earlier.of ?_⟩
      · iterate 4 refine fill_push (X := Qs H) (K := 512) (nb := 4) (d := 4) (wide B.q) (by decide) (by decide) (by decide) (by decide) (by decide) (by decide) ?_
        exact Blk.none _ _ _
      · iterate 4 refine fill_push (X := Ks H) (K := 512) (nb := 4) (d := 4) (wide B.k) (by decide) (by decide) (by decide) (by decide) (by decide) (by decide) ?_
        exact Blk.none _ _ _
      · iterate 4 refine fill_push (X := Ks H) (K := 512) (nb := 4) (d := 4) (wide B.k) (by decide) (by decide) (by decide) (by decide) (by decide) (by decide) ?_
        exact Blk.none _ _ _
  · refine have h : Loaded sixteen3 H _ _ ∧ (∀ n j l, _ = V (tok sixteen3 n j) l) := ?_; Tiles.outs (V := V) lanes (Single.out rfl (single_of 0 mask_first S.1 h.1 z_sixteen rfl) h.2) (Single.out rfl (single_of 1 mask_second S.2 h.1 z_sixteen rfl) h.2)
    refine ⟨Loaded.of ?_ ?_, Blk.load ?_ _⟩
    · iterate 16 refine fill_push (X := Qs H) (K := 128) (nb := 1) (d := 16) (wide B.q) (by decide) (by decide) (by decide) (by decide) (by decide) (by decide) ?_
      exact Blk.none _ _ _
    · iterate 16 refine fill_push (X := Ks H) (K := 128) (nb := 1) (d := 16) (wide B.k) (by decide) (by decide) (by decide) (by decide) (by decide) (by decide) ?_
      exact Blk.none _ _ _
    · iterate 16 refine fill_push (X := V) (K := 128) (nb := 1) (d := 16) (wide hv) (by decide) (by decide) (by decide) (by decide) (by decide) (by decide) ?_
      exact Blk.none _ _ _
  · refine have h : Loaded sixteen3 H _ _ := ?_; Tiles.logs lanes (Single.log (single_of 0 mask_first S.1 h z_sixteen rfl)) (Single.log (single_of 1 mask_second S.2 h z_sixteen rfl))
    refine Loaded.of ?_ ?_
    · iterate 16 refine fill_push (X := Qs H) (K := 128) (nb := 1) (d := 16) (wide B.q) (by decide) (by decide) (by decide) (by decide) (by decide) (by decide) ?_
      exact Blk.none _ _ _
    · iterate 16 refine fill_push (X := Ks H) (K := 128) (nb := 1) (d := 16) (wide B.k) (by decide) (by decide) (by decide) (by decide) (by decide) (by decide) ?_
      exact Blk.none _ _ _

end Cert.Kernel12Ideal.DilFwd
-- ==== Proof.DilRef.lean ====
/-
  The plain banded attention read at an index: one dilation's masked scores, weights and log-sums, and the mixture of
  the three by the softmax of their log-sums.
-/
module

public import proofs.«01_k».proof.Proof.Gen.Reference12Ideal.Read
public import proofs.«01_k».proof.Proof.DilMath
public import proofs.«01_k».proof.Proof.FoxRef
public import Idealize.ShloMosaic.Lib.Pipeline.ValueKit
public import Idealize.ShloMosaic.Lib.Affine

@[expose] public section

set_option maxRecDepth 16384

noncomputable section

namespace Cert.DilRef

open Cert.Reference12Ideal Cert.Reference12Ideal.Gen Cert.Reference12Ideal.Read Idealize.ShloMosaic
open Cert.SoftMath Cert.Dil
open Cert.FoxRef (row col eighth bottom sum_real idx_eq)
open scoped BigOperators

/-! ### One dilation -/

/-- Which keys a row reads. -/
def valid (w d : BitVec 32) : IVec S2048x2048 1 :=
  andi (andi (cmpi .sle (val_main_v31 (F := Ideal)) (val_main_v32 (F := Ideal)))
      (cmpi .sle (val_main_v36 (F := Ideal)) (broadcastInDim S2048x2048 ![0, 1] bcast_S1x2048_S2048x2048_0_1
        (addi (val_main_v16 (F := Ideal)) (broadcastInDim S1x2048 ![] bcast_S_S1x2048 (constantI S_ 32 w))))))
    (cmpi .eq (broadcastInDim S2048x2048 ![0, 1] bcast_S2048x1_S2048x2048_0_1 (Host.remsi (val_main_v15 (F := Ideal)) (broadcastInDim S2048x1 ![] bcast_S_S2048x1 (constantI S_ 32 d))))
      (broadcastInDim S2048x2048 ![0, 1] bcast_S1x2048_S2048x2048_0_1 (Host.remsi (val_main_v16 (F := Ideal)) (broadcastInDim S1x2048 ![] bcast_S_S1x2048 (constantI S_ 32 d)))))

def masked (w d : BitVec 32) (s : FVec Ideal S4x8x2048x2048 .f32) : FVec Ideal S4x8x2048x2048 .f32 :=
  select (broadcastInDim S4x8x2048x2048 ![0, 1, 2, 3] bcast_S1x1x2048x2048_S4x8x2048x2048_0_1_2_3 (broadcastInDim S1x1x2048x2048 ![2, 3] bcast_S2048x2048_S1x1x2048x2048_2_3 (valid w d)))
    s (broadcastInDim S4x8x2048x2048 ![] bcast_S_S4x8x2048x2048 (id (constant S_ .f32 0xFF800000#32)))

variable (S : FVec Ideal S4x8x2048x2048 .f32) (v : FVec Ideal S4x2048x8x64 .f32)

def spread (x : FVec Ideal S4x8x2048x1 .f32) : FVec Ideal S4x8x2048x2048 .f32 :=
  broadcastInDim S4x8x2048x2048 ![0, 1, 2, 3] bcast_S4x8x2048x1_S4x8x2048x2048_0_1_2_3 x
def keep (x : FVec Ideal S4x8x2048 .f32) : FVec Ideal S4x8x2048x1 .f32 := broadcastInDim S4x8x2048x1 ![0, 1, 2] bcast_S4x8x2048_S4x8x2048x1_0_1_2 x

def peaks : FVec Ideal S4x8x2048x1 .f32 := keep (Host.reduce FloatOps.maximumf S (constant S_ .f32 0xFF800000#32) reducesTo_S4x8x2048x2048_S4x8x2048_d3 h_S_)
def powers (M : FVec Ideal S4x8x2048x1 .f32) : FVec Ideal S4x8x2048x2048 .f32 := Host.exp (subf S (spread M))
def totals (E : FVec Ideal S4x8x2048x2048 .f32) : FVec Ideal S4x8x2048x1 .f32 :=
  keep (Host.reduceAdd E (constant S_ .f32 0x00000000#32) reducesTo_S4x8x2048x2048_S4x8x2048_d3 h_S_)
def sums (M Z : FVec Ideal S4x8x2048x1 .f32) : FVec Ideal S4x8x2048x1 .f32 := addf M (Host.log Z)
def logs : FVec Ideal S4x8x2048x1 .f32 := sums (peaks S) (totals (powers S (peaks S)))

def rows : FVec Ideal S4x2048x8 .f32 := transpose S4x2048x8 [0, 2, 1] (shapeCast S4x8x2048 (logs S) shapeCasts_S4x8x2048x1_S4x8x2048) transposes_S4x8x2048_S4x2048x8_0_2_1

def outs : FVec Ideal S4x2048x8x64 .f32 :=
  transpose S4x2048x8x64 [0, 3, 1, 2] (Host.dotGeneral dot_S4x2048x8x64_S4x8x2048x2048_S4x8x64x2048_1_3_3_2_02_01 none v (powers S (logs S)))
    transposes_S4x8x64x2048_S4x2048x8x64_0_3_1_2

theorem masked_at (w d : BitVec 32) (b h t s) : masked w d S (ix4 b h t s) = if valid w d (ix2 t s) = 1#1 then S (ix4 b h t s) else ⊥ := by
  unfold masked
  pointwise
  show Scalar.select _ _ (Ideal.ofBits .f32 0xFF800000#32) = _
  rw [bottom]
  rfl

theorem powers_at (M : FVec Ideal S4x8x2048x1 .f32) (b h t s) : powers S M (ix4 b h t s) = Ideal.exp (S (ix4 b h t s) - M (ix4 b h t (0 : Fin 1))) := by
  unfold powers spread
  pointwise

theorem totals_at (E : FVec Ideal S4x8x2048x2048 .f32) (b h t) : totals E (ix4 b h t (0 : Fin 1)) = ∑ s, E (ix4 b h t s) := by
  unfold totals keep
  pointwise

theorem sums_at (M Z : FVec Ideal S4x8x2048x1 .f32) (j) : sums M Z j = M j + Ideal.log (Z j) := rfl

variable {S} {b : Fin 4} {h : Fin 8} {t : Fin 2048} {on : Fin 2048 → Prop} [DecidablePred on] {sr : Fin 2048 → ℝ} (hS : ∀ s, S (ix4 b h t s) = sc on sr s) (t₀ : Fin 2048) (h₀ : on t₀)

include hS h₀ in
theorem peaks_at : peaks S (ix4 b h t (0 : Fin 1)) = (top on sr : EReal) := by
  rw [← sup_eq (on := on) sr t₀ h₀]
  unfold peaks keep
  pointwise
  simp only [hS, bottom]
  rfl

include hS h₀ in
theorem logs_at : logs S (ix4 b h t (0 : Fin 1)) = (lsum on sr : EReal) := by
  have e2 : totals (powers S (peaks S)) (ix4 b h t (0 : Fin 1)) = (tot on sr : EReal) := by
    rw [totals_at]
    refine sum_real fun s => ?_
    rw [powers_at, peaks_at hS t₀ h₀, hS, exp_sc]
  rw [logs, sums_at, e2, peaks_at hS t₀ h₀, log_tot sr t₀ h₀, ← EReal.coe_add, lsum]

include hS h₀ in
theorem rows_at : rows S (ix3 b t h) = (lsum on sr : EReal) := by
  rw [← logs_at hS t₀ h₀]
  unfold rows
  pointwise

include hS h₀ in
theorem outs_at (i : Fin 64) : outs S v (ix4 b t h i) = ∑ s, (wt on sr s : EReal) * v (ix4 b s h i) := by
  have e : ∀ s, powers S (logs S) (ix4 b h t s) = (wt on sr s : EReal) := fun s => by
    rw [powers_at, logs_at hS t₀ h₀, hS]
    unfold sc
    by_cases hon : on s
    · rw [if_pos hon, ← EReal.coe_sub, Ideal.exp_coe, lsum, wt_eq sr t₀ h₀ hon]
    · rw [if_neg hon, EReal.bot_sub]
      unfold wt ex
      rw [if_neg hon, zero_div]
      rfl
  unfold outs
  pointwise
  refine Finset.sum_congr rfl fun s _ => ?_
  rw [e, mul_comm]

/-! ### Which keys -/

theorem word_on {d t s w : ℕ} (hd : 0 < d) (hd' : d < 17) (ht : t < 2048) (hs : s < 2048) (hw : w < 2177) :
    IntOp.andi (IntOp.andi (IntOp.cmpi .sle (BitVec.ofNat 32 s) (BitVec.ofNat 32 t))
      (IntOp.cmpi .sle (BitVec.ofNat 32 t) (IntOp.addi (BitVec.ofNat 32 s) (BitVec.ofNat 32 w))))
      (IntOp.cmpi .eq (IntOp.remsi ArithUnit.host (BitVec.ofNat 32 t) (BitVec.ofNat 32 d)) (IntOp.remsi ArithUnit.host (BitVec.ofNat 32 s) (BitVec.ofNat 32 d))) = 1#1
      ↔ (s ≤ t ∧ t ≤ s + w) ∧ t % d = s % d := by
  have n : ∀ {a : ℕ}, a < 8192 → (BitVec.ofNat 32 a).toNat = a := fun {a} h => by rw [BitVec.toNat_ofNat]; exact Nat.mod_eq_of_lt (lt_trans h (by norm_num))
  have r : ∀ {a : ℕ}, a < 8192 → (IntOp.remsi ArithUnit.host (BitVec.ofNat 32 a) (BitVec.ofNat 32 d)).toNat = a % d := fun {a} h => by
    rw [IntOp.toNat_remsi _ (by rw [n h]; omega) d hd (by omega), n h]
  have p : (IntOp.addi (BitVec.ofNat 32 s) (BitVec.ofNat 32 w)).toNat = s + w := by
    unfold IntOp.addi
    rw [BitVec.toNat_add, n (by omega), n (by omega)]
    exact Nat.mod_eq_of_lt (by omega)
  have l : ∀ {x : BitVec 32}, x.toNat < 8192 → x.toNat < 2 ^ (32 - 1) := fun h => lt_trans h (by norm_num)
  rw [WordCmp.cmpi_eq_eq_toNat, r (by omega), r (by omega), WordCmp.cmpi_sle_of_lt (l (by rw [n] <;> omega)) (l (by rw [n] <;> omega)),
    WordCmp.cmpi_sle_of_lt (l (by rw [n] <;> omega)) (l (by rw [p]; omega)), p, n (by omega), n (by omega),
    WordCmp.andi_ofBool, WordCmp.andi_ofBool, WordCmp.ofBool_eq_one_iff, Bool.and_eq_true, Bool.and_eq_true, decide_eq_true_iff, decide_eq_true_iff, decide_eq_true_iff]

theorem valid_at (d : ℕ) (hd : 0 < d) (hd' : d < 17) (t s : Fin 2048) : valid (BitVec.ofNat 32 (128 * d)) (BitVec.ofNat 32 d) (ix2 t s) = 1#1 ↔ On d t s := by
  refine Iff.trans (Eq.to_iff (congrArg (· = 1#1) ?_)) (word_on (w := 128 * d) hd hd' t.isLt s.isLt (by omega))
  generalize 128 * d = w
  unfold valid
  pointwise [val_main_v31, val_main_v32, val_main_v36, val_main_v15, val_main_v16, val_main_v14]

theorem scores_at {S : FVec Ideal S4x8x2048x2048 .f32} {b h t} {sr : Fin 2048 → ℝ} (hS : ∀ s, S (ix4 b h t s) = (sr s : EReal))
    (d : ℕ) (hd : 0 < d) (hd' : d < 17) (s : Fin 2048) :
    masked (BitVec.ofNat 32 (128 * d)) (BitVec.ofNat 32 d) S (ix4 b h t s) = sc (On d t) sr s := by
  rw [masked_at, hS]
  unfold sc
  exact if_congr (valid_at d hd hd' t s) rfl rfl

end Cert.DilRef
-- ==== Proof.DilMix.lean ====
/-
  The mixture of three dilations by the softmax of their log-sums, and the plain reference's two results.
-/
module

public import proofs.«01_k».proof.Proof.DilRef

@[expose] public section

set_option maxRecDepth 16384

noncomputable section

namespace Cert.DilRef

open Cert.Reference12Ideal Cert.Reference12Ideal.Gen Cert.Reference12Ideal.Read Idealize.ShloMosaic
open Cert.SoftMath Cert.Dil
open Cert.FoxRef (row col eighth bottom sum_real idx_eq)
open scoped BigOperators

/-! ### The mixture -/

def three (x y z : FVec Ideal S4x2048x8 .f32) : FVec Ideal S3x4x2048x8 .f32 :=
  concatenate S3x4x2048x8 0 [⟨S1x4x2048x8, broadcastInDim S1x4x2048x8 ![1, 2, 3] bcast_S4x2048x8_S1x4x2048x8_1_2_3 x⟩,
    ⟨S1x4x2048x8, broadcastInDim S1x4x2048x8 ![1, 2, 3] bcast_S4x2048x8_S1x4x2048x8_1_2_3 y⟩,
    ⟨S1x4x2048x8, broadcastInDim S1x4x2048x8 ![1, 2, 3] bcast_S4x2048x8_S1x4x2048x8_1_2_3 z⟩]
    concatenates_S1x4x2048x8_S1x4x2048x8_S1x4x2048x8_S3x4x2048x8_d0
def three5 (x y z : FVec Ideal S4x2048x8x64 .f32) : FVec Ideal S3x4x2048x8x64 .f32 :=
  concatenate S3x4x2048x8x64 0 [⟨S1x4x2048x8x64, broadcastInDim S1x4x2048x8x64 ![1, 2, 3, 4] bcast_S4x2048x8x64_S1x4x2048x8x64_1_2_3_4 x⟩,
    ⟨S1x4x2048x8x64, broadcastInDim S1x4x2048x8x64 ![1, 2, 3, 4] bcast_S4x2048x8x64_S1x4x2048x8x64_1_2_3_4 y⟩,
    ⟨S1x4x2048x8x64, broadcastInDim S1x4x2048x8x64 ![1, 2, 3, 4] bcast_S4x2048x8x64_S1x4x2048x8x64_1_2_3_4 z⟩]
    concatenates_S1x4x2048x8x64_S1x4x2048x8x64_S1x4x2048x8x64_S3x4x2048x8x64_d0
def high (L : FVec Ideal S3x4x2048x8 .f32) : FVec Ideal S4x2048x8 .f32 :=
  Host.reduce FloatOps.maximumf L (constant S_ .f32 0xFF800000#32) reducesTo_S3x4x2048x8_S4x2048x8_d0 h_S_
def atLeast (M : FVec Ideal S4x2048x8 .f32) : FVec Ideal S4x2048x8 .f32 :=
  maximumf (broadcastInDim S4x2048x8 ![] bcast_S_S4x2048x8 (constant S_ .f32 0xFF800000#32)) M
def each (M : FVec Ideal S4x2048x8 .f32) : FVec Ideal S3x4x2048x8 .f32 :=
  broadcastInDim S3x4x2048x8 ![0, 1, 2, 3] bcast_S1x4x2048x8_S3x4x2048x8_0_1_2_3 (broadcastInDim S1x4x2048x8 ![1, 2, 3] bcast_S4x2048x8_S1x4x2048x8_1_2_3 M)
def ups (L : FVec Ideal S3x4x2048x8 .f32) (M : FVec Ideal S4x2048x8 .f32) : FVec Ideal S3x4x2048x8 .f32 := Host.exp (subf L (each M))
def addup (E : FVec Ideal S3x4x2048x8 .f32) : FVec Ideal S4x2048x8 .f32 :=
  Host.reduceAdd E (constant S_ .f32 0x00000000#32) reducesTo_S3x4x2048x8_S4x2048x8_d0 h_S_
def parts (E : FVec Ideal S3x4x2048x8 .f32) : FVec Ideal S3x4x2048x8 .f32 := Host.divf E (each (addup E))
def blend (W : FVec Ideal S3x4x2048x8 .f32) (O : FVec Ideal S3x4x2048x8x64 .f32) : FVec Ideal S4x2048x8x64 .f32 :=
  Host.reduceAdd (mulf (broadcastInDim S3x4x2048x8x64 ![0, 1, 2, 3, 4] bcast_S3x4x2048x8x1_S3x4x2048x8x64_0_1_2_3_4
    (broadcastInDim S3x4x2048x8x1 ![0, 1, 2, 3] bcast_S3x4x2048x8_S3x4x2048x8x1_0_1_2_3 W)) O)
    (constant S_ .f32 0x00000000#32) reducesTo_S3x4x2048x8x64_S4x2048x8x64_d0 h_S_
def sumsAll (M : FVec Ideal S4x2048x8 .f32) (Z : FVec Ideal S4x2048x8 .f32) : FVec Ideal S4x2048x8 .f32 := addf M (Host.log Z)

theorem three_at (x y z) (k : Fin 3) (b t h) : three x y z (ix4 k b t h) = ![x (ix3 b t h), y (ix3 b t h), z (ix3 b t h)] k := by
  unfold three
  match k with
  | 0 => pointwise
  | 1 => pointwise
  | 2 => pointwise

theorem three5_at (x y z) (k : Fin 3) (b t h i) : three5 x y z (ix5 k b t h i) = ![x (ix4 b t h i), y (ix4 b t h i), z (ix4 b t h i)] k := by
  unfold three5
  match k with
  | 0 => pointwise
  | 1 => pointwise
  | 2 => pointwise

theorem ups_at (L M k b t h) : ups L M (ix4 k b t h) = Ideal.exp (L (ix4 k b t h) - M (ix3 b t h)) := by
  unfold ups each
  pointwise

theorem addup_at (E b t h) : addup E (ix3 b t h) = ∑ k, E (ix4 k b t h) := by
  unfold addup
  pointwise

theorem parts_at (E k b t h) : parts E (ix4 k b t h) = Ideal.div (E (ix4 k b t h)) (addup E (ix3 b t h)) := by
  unfold parts each
  pointwise

theorem blend_at (W O b t h i) : blend W O (ix4 b t h i) = ∑ k, W (ix4 k b t h) * O (ix5 k b t h i) := by
  unfold blend
  pointwise

theorem atLeast_at (M j) : atLeast M j = max ⊥ (M j) := by
  rw [← bottom]
  rfl

variable {L : FVec Ideal S3x4x2048x8 .f32} {b : Fin 4} {t : Fin 2048} {h : Fin 8} {g : Fin 3 → ℝ} (hL : ∀ k, L (ix4 k b t h) = (g k : EReal))

include hL in
theorem high_at : high L (ix3 b t h) = (top all3 g : EReal) := by
  rw [← sup_eq (on := all3) g 0 trivial]
  unfold high
  pointwise
  simp only [hL, bottom]
  refine congrArg (fun f => Finset.fold max (⊥ : EReal) f Finset.univ) ?_
  funext k
  exact (if_pos trivial).symm

include hL in
theorem ups_of {M : FVec Ideal S4x2048x8 .f32} (hM : M (ix3 b t h) = (top all3 g : EReal)) (k : Fin 3) : ups L M (ix4 k b t h) = (ex all3 g k : EReal) := by
  rw [ups_at, hM, hL, ← exp_sc]
  exact congrArg (fun z => Ideal.exp (z - _)) (if_pos trivial).symm

include hL in
theorem addup_of {M : FVec Ideal S4x2048x8 .f32} (hM : M (ix3 b t h) = (top all3 g : EReal)) : addup (ups L M) (ix3 b t h) = (tot all3 g : EReal) := by
  rw [addup_at]
  exact sum_real fun k => ups_of hL hM k

include hL in
theorem all_at : sumsAll (high L) (addup (ups L (high L))) (ix3 b t h) = (lsum all3 g : EReal) := by
  show high L (ix3 b t h) + Ideal.log (addup (ups L (high L)) (ix3 b t h)) = _
  rw [high_at hL, addup_of hL (high_at hL), log_tot g 0 trivial, ← EReal.coe_add, lsum]

include hL in
theorem parts_of (k : Fin 3) : parts (ups L (atLeast (high L))) (ix4 k b t h) = (wt all3 g k : EReal) := by
  have hM : atLeast (high L) (ix3 b t h) = (top all3 g : EReal) := by rw [atLeast_at, high_at hL, max_eq_right bot_le]
  rw [parts_at, ups_of hL hM, addup_of hL hM, Ideal.div_coe (tot_pos (on := all3) g 0 trivial).ne', ← EReal.coe_mul, mul_one_div]
  rfl

/-! ### The reference -/

variable (x0 x1 x2 : FVec Ideal S8192x512 .bf16)

/-- The heads the arguments hold. -/
def heads (b : Fin 4) (h : Fin 8) : Head where
  q t i := (x0 (ix2 (row b t) (col h i))).toReal
  k t i := (x1 (ix2 (row b t) (col h i))).toReal
  slope := ((val_main_v13 (F := Ideal) (ix1 h) : EReal)).toReal

structure Args (H : Fin 4 → Fin 8 → Head) : Prop where
  q : ∀ b t h i, x0 (ix2 (row b t) (col h i)) = (((H b h).q t i : ℝ) : EReal)
  k : ∀ b t h i, x1 (ix2 (row b t) (col h i)) = (((H b h).k t i : ℝ) : EReal)
  slope : ∀ b h, val_main_v13 (F := Ideal) (ix1 h) = (((H b h).slope : ℝ) : EReal)

theorem one_word : Ideal.ofBits .f32 0x3F800000#32 = ((1 : ℝ) : EReal) := by
  simp [Ideal.ofBits, Ideal.ieee, -EReal.coe_mul]; norm_num
theorem two_word : Ideal.ofBits .f32 0x40000000#32 = ((2 : ℝ) : EReal) := by
  simp [Ideal.ofBits, Ideal.ieee, -EReal.coe_mul]; norm_num

/-- Every slope is a number. -/
theorem slope_real (h : Fin 8) : ∃ r : ℝ, val_main_v13 (F := Ideal) (ix1 h) = (r : EReal) := by
  refine ⟨Real.rpow 2 (-((1 + (((BitVec.ofNat 32 h.val).toInt : ℤ) : ℝ)) * 1)), ?_⟩
  show Ideal.pow (Ideal.ofBits .f32 0x40000000#32) (-((Ideal.ofBits .f32 0x3F800000#32 + (((BitVec.ofNat 32 h.val).toInt : ℝ) : EReal)) * Ideal.ofBits .f32 0x3F800000#32)) = _
  rw [one_word, two_word, ← EReal.coe_add, ← EReal.coe_mul, ← EReal.coe_neg]
  rfl

variable {x0 x1 x2} {H : Fin 4 → Fin 8 → Head} (A : Args x0 x1 H)

theorem cut_at (x : FVec Ideal S8192x512 .bf16) (b t h i) : val_main_v5 (F := Ideal) x (ix4 b t h i) = x (ix2 (row b t) (col h i)) := by
  rw [val_main_v5_apply]
  refine congrArg x (idx_eq _ b t h i ?_ ?_)
  · show (((b.val * 2048 + t.val) * 8 + h.val) * 64 + i.val) / 512 = _
    have := h.isLt; have := i.isLt; omega
  · show (((b.val * 2048 + t.val) * 8 + h.val) * 64 + i.val) % 512 = _
    have := h.isLt; have := i.isLt; omega

include A in
theorem prod_at (b h t s) : val_main_v17 (F := Ideal) x0 x1 (ix4 b h t s) = ((∑ i, (H b h).q t i * (H b h).k s i : ℝ) : EReal) := by
  pointwise [val_main_v17]
  refine sum_real fun i => ?_
  rw [show val_main_v1 (F := Ideal) x0 (ix4 b t h i) = _ from cut_at x0 b t h i, show val_main_v3 (F := Ideal) x1 (ix4 b s h i) = _ from cut_at x1 b s h i, A.q, A.k, EReal.coe_mul]

theorem apart {t s : ℕ} (ht : t < 2048) (hs : s < 2048) : ((IntOp.subi (BitVec.ofNat 32 t) (BitVec.ofNat 32 s)).toInt : ℝ) = (t : ℝ) - (s : ℝ) := by
  have e : (IntOp.subi (BitVec.ofNat 32 t) (BitVec.ofNat 32 s)).toInt = (t : ℤ) - s := by
    unfold IntOp.subi
    rw [BitVec.toInt_sub, WordCmp.toInt_ofNat_of_lt (by norm_num; omega), WordCmp.toInt_ofNat_of_lt (by norm_num; omega)]
    unfold Int.bmod
    norm_num
    omega
  rw [e]
  push_cast
  rfl

include A in
theorem base_at (b h t s) : val_main_v30 (F := Ideal) x0 x1 (ix4 b h t s) = ((H b h).score t s : EReal) := by
  have e1 : val_main_v29 (F := Ideal) (ix4 b h t s) = val_main_v13 (F := Ideal) (ix1 h) * (((IntOp.subi (BitVec.ofNat 32 t.val) (BitVec.ofNat 32 s.val)).toInt : ℝ) : EReal) := by
    pointwise [val_main_v29, val_main_v28, val_main_v27, val_main_v26, val_main_v25, val_main_v24, val_main_v23, val_main_v22, val_main_v21, val_main_v20, val_main_v16, val_main_v15, val_main_v14]
    rfl
  show val_main_v17 (F := Ideal) x0 x1 (ix4 b h t s) * Ideal.ofBits .f32 0x3E000000#32 - val_main_v29 (F := Ideal) (ix4 b h t s) = _
  rw [e1, prod_at A, A.slope b h, apart t.isLt s.isLt, eighth, ← EReal.coe_mul, ← EReal.coe_mul, ← EReal.coe_sub]
  rfl

abbrev band (x0 x1 : FVec Ideal S8192x512 .bf16) (d : ℕ) : FVec Ideal S4x8x2048x2048 .f32 :=
  masked (BitVec.ofNat 32 (128 * d)) (BitVec.ofNat 32 d) (val_main_v30 (F := Ideal) x0 x1)

abbrev lseAll (x0 x1 : FVec Ideal S8192x512 .bf16) : FVec Ideal S3x4x2048x8 .f32 := three (rows (band x0 x1 1)) (rows (band x0 x1 4)) (rows (band x0 x1 16))
abbrev outAll (x0 x1 x2 : FVec Ideal S8192x512 .bf16) : FVec Ideal S3x4x2048x8x64 .f32 :=
  three5 (outs (band x0 x1 1) (val_main_v5 (F := Ideal) x2)) (outs (band x0 x1 4) (val_main_v5 (F := Ideal) x2)) (outs (band x0 x1 16) (val_main_v5 (F := Ideal) x2))

theorem lse_eq : val_main_v139 (F := Ideal) x0 x1 = lseAll x0 x1 := rfl
theorem out_eq : val_main_v155 (F := Ideal) x0 x1 x2 = outAll x0 x1 x2 := rfl
theorem total_eq : val_main_v167 (F := Ideal) x0 x1
    = sumsAll (high (val_main_v139 (F := Ideal) x0 x1)) (addup (ups (val_main_v139 (F := Ideal) x0 x1) (high (val_main_v139 (F := Ideal) x0 x1)))) := rfl
theorem mixed_eq : val_main_v158 (F := Ideal) x0 x1 x2
    = blend (parts (ups (val_main_v139 (F := Ideal) x0 x1) (atLeast (high (val_main_v139 (F := Ideal) x0 x1))))) (val_main_v155 (F := Ideal) x0 x1 x2) := rfl

include A in
theorem band_at (b h t) (d : ℕ) (hd : 0 < d) (hd' : d < 17) (s) : band x0 x1 d (ix4 b h t s) = sc (On d t) ((H b h).score t) s :=
  scores_at (fun s => base_at A b h t s) d hd hd' s

theorem pick {f : Fin 3 → EReal} {x y z : EReal} (h0 : x = f 0) (h1 : y = f 1) (h2 : z = f 2) (k : Fin 3) : ![x, y, z] k = f k := by
  match k with
  | 0 => exact h0
  | 1 => exact h1
  | 2 => exact h2

theorem dil0 : dil 0 = 1 := rfl
theorem dil1 : dil 1 = 4 := rfl
theorem dil2 : dil 2 = 16 := rfl

include A in
theorem lseAll_at (k : Fin 3) (b t h) : val_main_v139 (F := Ideal) x0 x1 (ix4 k b t h) = ((H b h).lses t k : EReal) := by
  have e : ∀ d (hd : 0 < d) (hd' : d < 17), rows (band x0 x1 d) (ix3 b t h) = ((H b h).lse d t : EReal) := fun d hd hd' =>
    rows_at (band_at A b h t d hd hd') t (on_self d t)
  rw [lse_eq, lseAll, three_at]
  refine pick (f := fun k => ((H b h).lses t k : EReal)) ?_ ?_ ?_ k
  · rw [e 1 (by norm_num) (by norm_num), Head.lses, dil0]
  · rw [e 4 (by norm_num) (by norm_num), Head.lses, dil1]
  · rw [e 16 (by norm_num) (by norm_num), Head.lses, dil2]

include A in
theorem outAll_at (k : Fin 3) (b t h i) :
    val_main_v155 (F := Ideal) x0 x1 x2 (ix5 k b t h i) = (H b h).out (dil k) (fun s => x2 (ix2 (row b s) (col h i))) t := by
  have e : ∀ d (hd : 0 < d) (hd' : d < 17), outs (band x0 x1 d) (val_main_v5 (F := Ideal) x2) (ix4 b t h i) = (H b h).out d (fun s => x2 (ix2 (row b s) (col h i))) t := fun d hd hd' => by
    rw [outs_at _ (band_at A b h t d hd hd') t (on_self d t) i]
    exact Finset.sum_congr rfl fun s _ => congrArg _ (cut_at x2 b s h i)
  rw [out_eq, outAll, three5_at]
  refine pick (f := fun k => (H b h).out (dil k) (fun s => x2 (ix2 (row b s) (col h i))) t) ?_ ?_ ?_ k
  · rw [e 1 (by norm_num) (by norm_num), dil0]
  · rw [e 4 (by norm_num) (by norm_num), dil1]
  · rw [e 16 (by norm_num) (by norm_num), dil2]

theorem idx_mix (b t h i) : idx_main_v159 (ix2 (row b t) (col h i)) = ix4 b t h i := by
  have hb := b.isLt; have ht := t.isLt; have hh := h.isLt; have hi := i.isLt
  ext a
  match a with
  | ⟨0, _⟩ => simp only [idx_main_v159, row, col, ix2, ix4]; show _ = b.val; omega
  | ⟨1, _⟩ => simp only [idx_main_v159, row, col, ix2, ix4]; show _ = t.val; omega
  | ⟨2, _⟩ => simp only [idx_main_v159, row, col, ix2, ix4]; show _ = h.val; omega
  | ⟨3, _⟩ => simp only [idx_main_v159, row, col, ix2, ix4]; show _ = i.val; omega

include A in
theorem ref_mixed (b t h i) : val_main_v168 (F := Ideal) x0 x1 x2 (ix2 (row b t) (col h i)) = (H b h).mixed (fun s => x2 (ix2 (row b s) (col h i))) t := by
  show val_main_v159 (F := Ideal) x0 x1 x2 (ix2 (row b t) (col h i)) = _
  rw [val_main_v159_apply, idx_mix, mixed_eq, blend_at]
  refine Finset.sum_congr rfl fun k _ => ?_
  rw [parts_of (fun k => lseAll_at A k b t h), outAll_at A]

include A in
theorem ref_total (b t h i) : val_main_v171 (F := Ideal) x0 x1 (ix2 (row b t) (col h i)) = ((H b h).total t : EReal) := by
  have e : val_main_v171 (F := Ideal) x0 x1 (ix2 (row b t) (col h i)) = val_main_v167 (F := Ideal) x0 x1 (ix3 b t h) := by
    have hb := b.isLt; have ht := t.isLt; have hh := h.isLt; have hi := i.isLt
    pointwise [val_main_v171, val_main_v170, val_main_v169]
    refine congrArg (val_main_v167 (F := Ideal) x0 x1) ?_
    ext a
    match a with
    | ⟨0, _⟩ => simp only [row, ix3]; show _ = b.val; omega
    | ⟨1, _⟩ => simp only [row, ix3]; show _ = t.val; omega
    | ⟨2, _⟩ => simp only [col, ix3]; show _ = h.val; omega
  rw [e, total_eq, all_at (fun k => lseAll_at A k b t h)]
  rfl

end Cert.DilRef
-- ==== Proof.DilValue.lean ====
/-
  The banded attention's two result arrays: the host's arrays, the blocks of a grid point and the reference.
-/
module

public import proofs.«01_k».proof.Proof.DilAfter
public import proofs.«01_k».proof.Proof.DilMix
public import proofs.«01_k».proof.Proof.Finite
public import proofs.«01_k».proof.Pre_dfwd_finite
public import Idealize.ShloMosaic.Lib.Pipeline.ValueKit

@[expose] public section

set_option maxRecDepth 16384

noncomputable section

namespace Cert.Kernel12Ideal.DilOut

open Cert.Kernel12Ideal Cert.Kernel12Ideal.Gen Idealize.ShloMosaic Idealize.ShloMosaic.TcCoe Idealize.SL.Sem
open Idealize.ShloMosaic.Pipeline (Dat)
open Cert.SoftMath Cert.Dil
open Cert.FoxRef (row col)
open Cert.Kernel12Ideal.DilFwd (after4 after5 Blocks Slopes)
open Cert.DilRef (Args heads ref_mixed ref_total slope_real)
open Cert.Kernel5Ideal.FoxBody (hd pl)
open scoped BigOperators

variable (m : (ℓ : Loc nD τ sig) → Buf (Elt Ideal) ℓ) (c : Dev nD) {H : Fin 4 → Fin 8 → Head}

abbrev Q : FVec Ideal S8192x512 .bf16 := m ((c : Thread nD τ).loc main_arg0)
abbrev K : FVec Ideal S8192x512 .bf16 := m ((c : Thread nD τ).loc main_arg1)
abbrev W : FVec Ideal S8192x512 .bf16 := m ((c : Thread nD τ).loc main_arg2)

variable (A : Args (Q m c) (K m c) H)

/-- The host's array of the three projections. -/
def joined (q k v : FVec Ideal S8192x512 .bf16) : FVec Ideal S8192x3072 .bf16 :=
  concatenate S8192x3072 1 [⟨S8192x1024, concatenate S8192x1024 1 [⟨S8192x512, q⟩, ⟨S8192x512, k⟩] concatenates_S8192x512_S8192x512_S8192x1024_d1⟩,
    ⟨S8192x2048, concatenate S8192x2048 1 [⟨S8192x512, v⟩, ⟨S8192x1536, broadcastInDim S8192x1536 ![] bcast_S_S8192x1536 (constant S_ .bf16 0x0000#16)⟩]
      concatenates_S8192x512_S8192x1536_S8192x2048_d1⟩] concatenates_S8192x1024_S8192x2048_S8192x3072_d1

set_option maxHeartbeats 2000000 in
theorem z_eq : V m c main_v3 = joined (Q m c) (K m c) (W m c) := by
  simp only [V, List.flatten_cons, List.flatten_nil, List.cons_append, List.nil_append]; entry_read
  rfl

set_option maxHeartbeats 2000000 in
theorem s_eq : V m c main_v11 = Cert.Reference12Ideal.Read.val_main_v13 (F := Ideal) := by
  simp only [V, List.flatten_cons, List.flatten_nil, List.cons_append, List.nil_append]; entry_read
  rfl

theorem jq (q k v : FVec Ideal S8192x512 .bf16) (r : Fin 8192) (j : Fin 512) (h : j.val < 3072) : joined q k v (ix2 r ⟨j.val, h⟩) = q (ix2 r j) := by
  have hj := j.isLt
  unfold joined
  pointwise
  rw [dif_pos (by omega)]
theorem jk (q k v : FVec Ideal S8192x512 .bf16) (r : Fin 8192) (j : Fin 512) (h : 512 + j.val < 3072) : joined q k v (ix2 r ⟨512 + j.val, h⟩) = k (ix2 r j) := by
  have hj := j.isLt
  unfold joined
  pointwise
  rw [dif_pos (by omega)]
theorem jv (q k v : FVec Ideal S8192x512 .bf16) (r : Fin 8192) (j : Fin 512) (h : 1024 + j.val < 3072) : joined q k v (ix2 r ⟨1024 + j.val, h⟩) = v (ix2 r j) := by
  have hj := j.isLt
  unfold joined
  pointwise

/-- The block of every window at every grid point. -/
theorem idx : ∀ t : Fin cfg0.N, win0_0.index t = ![0] ∧ win0_1.index t = ![t.val / 4, t.val % 4] ∧ win0_2.index t = ![t.val / 4, 4 + t.val % 4]
    ∧ win0_3.index t = ![t.val / 4, 8 + t.val % 4] ∧ win0_4.index t = ![t.val / 4, t.val % 4]
    ∧ win0_5.index t = ![t.val / 4, t.val % 4] := (by decide +kernel : ∀ t : Fin grid0.N, _)

theorem points : ∀ t : Fin cfg0.N, t.val < 16 := (by decide +kernel : ∀ t : Fin grid0.N, _)

/-- A grid point's batch and its two heads. -/
def bt (t : Fin cfg0.N) : Fin 4 := ⟨t.val / 4, by have := points t; omega⟩
def ht (t : Fin cfg0.N) (e : Fin 2) : Fin 8 := ⟨2 * (t.val % 4) + e.val, by have := points t; have := e.isLt; omega⟩

theorem lane (t : Fin cfg0.N) (l : Fin 128) : (col (ht t (hd l)) (pl l)).val = 128 * (t.val % 4) + l.val := by
  show 64 * (2 * (t.val % 4) + l.val / 64) + l.val % 64 = _
  omega

theorem place (t : Fin cfg0.N) (r : Fin 2048) : t.val / 4 * 2048 + r.val = (row (bt t) r).val := by
  show _ = 2048 * (t.val / 4) + r.val
  omega

theorem read1 (t : Fin cfg0.N) (r l) (a : Buf (Elt Ideal) ((c : Thread nD τ).loc main_v3)) :
    View.read (Elt Ideal) ((cfg0.win 1).blk t).view a (ix2 r l) = a (ix2 (row (bt t) r) ⟨(col (ht t (hd l)) (pl l)).val, by omega⟩) := by
  have hl := lane t l
  blk_ext [idx t]
  exact place t r
theorem read2 (t : Fin cfg0.N) (r l) (a : Buf (Elt Ideal) ((c : Thread nD τ).loc main_v3)) :
    View.read (Elt Ideal) ((cfg0.win 2).blk t).view a (ix2 r l) = a (ix2 (row (bt t) r) ⟨512 + (col (ht t (hd l)) (pl l)).val, by omega⟩) := by
  have hl := lane t l
  blk_ext [idx t]
  exact place t r
theorem read3 (t : Fin cfg0.N) (r l) (a : Buf (Elt Ideal) ((c : Thread nD τ).loc main_v3)) :
    View.read (Elt Ideal) ((cfg0.win 3).blk t).view a (ix2 r l) = a (ix2 (row (bt t) r) ⟨1024 + (col (ht t (hd l)) (pl l)).val, by omega⟩) := by
  have hl := lane t l
  blk_ext [idx t]
  exact place t r
theorem emb4 (t : Fin cfg0.N) (r : Fin 2048) (l : Fin 128) : (win0_4.blk t).view.emb (ix2 r l) = ix2 (row (bt t) r) (col (ht t (hd l)) (pl l)) := by
  have hl := lane t l
  blk_ext [idx t]
  exact place t r
theorem emb5 (t : Fin cfg0.N) (r : Fin 2048) (l : Fin 128) : (win0_5.blk t).view.emb (ix2 r l) = ix2 (row (bt t) r) (col (ht t (hd l)) (pl l)) := by
  have hl := lane t l
  blk_ext [idx t]
  exact place t r

include A in
theorem blocks (t : Fin cfg0.N) : Blocks (fun e => H (bt t) (ht t e)) (iblk m c 1 t) (iblk m c 2 t) where
  q r l := (read1 c t r l _).trans (by rw [z_eq, jq, A.q])
  k r l := (read2 c t r l _).trans (by rw [z_eq, jk, A.k])

theorem v_at (t : Fin cfg0.N) (r : Fin 2048) (l : Fin 128) : (iblk m c 3 t : FVec Ideal S2048x128 .bf16) (ix2 r l)
    = W m c (ix2 (row (bt t) r) (col (ht t (hd l)) (pl l))) :=
  (read3 c t r l _).trans (by rw [z_eq, jv])

theorem slot : ∀ (t : Fin cfg0.N) (e : Fin 2), k0_off1 (grid0.coords t) (BitVec.ofNat 32 e.val) 0 = 2 * (t.val % 4) + e.val :=
  (by decide +kernel : ∀ (t : Fin grid0.N) (e : Fin 2), _)

theorem whole0 (t : Fin cfg0.N) (j : S8.Idx) (a : Buf (Elt Ideal) ((c : Thread nD τ).loc main_v11)) : View.read (Elt Ideal) ((cfg0.win 0).blk t).view a j = a j := by
  blk_ext [idx t]

include A in
theorem slopes (t : Fin cfg0.N) : Slopes m (fun e => H (bt t) (ht t e)) c t := by
  have one : ∀ (o : Fin 1 → ℕ) (hin : ∀ a, o a + S1.size a ≤ S8.size a) (h : Fin 8) (j : S1.Idx), o 0 = h.val →
      View.ld (iblk m c 0 t) (Rect.unit (s := S8) o S1.size hin) j = (((H (bt t) h).slope : ℝ) : EReal) := fun o hin h j ho => by
    rw [← A.slope (bt t) h, ← s_eq m c]
    refine (whole0 c t _ _).trans (congrArg (V m c main_v11) ?_)
    ext a
    match a with
    | ⟨0, _⟩ =>
      have hj : (j 0).val < 1 := (j 0).isLt
      show o 0 + 1 * (j 0).val = h.val
      omega
  exact ⟨one _ _ (ht t 0) _ (slot t 0), one _ _ (ht t 1) _ (slot t 1)⟩

theorem split (y : S2048x128.Idx) : ∃ r l, y = ix2 (n0 := 2048) (n1 := 128) r l :=
  ⟨y 0, y 1, by ext a; match a with | ⟨0, _⟩ => rfl | ⟨1, _⟩ => rfl⟩

include A in
theorem final4 : (dats m 0 c).arrAt 4 cfg0.N = Cert.Reference12Ideal.Read.val_main_v168 (F := Ideal) (Q m c) (K m c) (W m c) := by
  refine (dats m 0 c).arrAt_eq_of_covers 4 _ (by decide +kernel) fun t hf y => ?_
  obtain ⟨r, l, rfl⟩ := split y
  refine (after4 m c t (blocks m c A t) (slopes m c A t) (fun s l => v_at m c t s l) r l).trans ?_
  exact (ref_mixed A _ _ _ _).symm.trans (congrArg (Cert.Reference12Ideal.Read.val_main_v168 (F := Ideal) _ _ _) (emb4 t r l).symm)

include A in
theorem final5 : (dats m 0 c).arrAt 5 cfg0.N = Cert.Reference12Ideal.Read.val_main_v171 (F := Ideal) (Q m c) (K m c) := by
  refine (dats m 0 c).arrAt_eq_of_covers 5 _ (by decide +kernel) fun t hf y => ?_
  obtain ⟨r, l, rfl⟩ := split y
  exact (after5 m c t (blocks m c A t) (slopes m c A t) r l).trans ((ref_total A _ _ _ _).symm.trans
    (congrArg (Cert.Reference12Ideal.Read.val_main_v171 (F := Ideal) _ _) (emb5 t r l).symm))

/-! ### The precondition -/

theorem args [Cert.Pre_dfwd_finite.Facts] (x0 x1 x2 : FVec Ideal S8192x512 .bf16)
    (h : Cert.Pre_dfwd_finite.fn (F := Ideal) x0 x1 x2 = fun _ => 1#1) : Args x0 x1 (heads x0 x1) := by
  have h0 := congrFun h ix0
  dsimp only [Cert.Pre_dfwd_finite.fn] at h0
  obtain ⟨e0, e1⟩ := Cert.Finite.of_and h0
  haveI : Subsingleton Cert.Pre_dfwd_finite.S_.Idx := ⟨fun a b => funext fun k => k.elim0⟩
  refine ⟨fun _ _ _ _ => Cert.Finite.real_of_all _ _ _ _ _ _ (fun _ => Cert.Finite.inf_word) e0 _,
    fun _ _ _ _ => Cert.Finite.real_of_all _ _ _ _ _ _ (fun _ => Cert.Finite.inf_word) e1 _, fun b h => ?_⟩
  obtain ⟨r, hr⟩ := slope_real h
  show _ = ((EReal.toReal (Cert.Reference12Ideal.Read.val_main_v13 (F := Ideal) (ix1 h)) : ℝ) : EReal)
  rw [hr, EReal.toReal_coe]

end Cert.Kernel12Ideal.DilOut
-- ==== Proof.GateFwd.lean ====
/-
  The running sum of the log gates: the kernel's eleven doublings, each adding the column shifted down by a power of two,
  are the sum from the first row to each row, and each head's column is spread over its 64 lanes.
-/
module

public import proofs.«01_k».proof.Proof.Gen.Kernel13Ideal.Frame
public import proofs.«01_k».proof.Proof.Gen.Reference13Ideal.Read
public import Idealize.ShloMosaic.Lib.Pipeline.ValueKit
public import proofs.«01_k».proof.Proof.ScanMath

@[expose] public section

set_option maxRecDepth 16384

noncomputable section

namespace Cert.Kernel13Ideal.GateFwd

open Cert.Kernel13Ideal Cert.Kernel13Ideal.Gen Idealize.ShloMosaic Idealize.ShloMosaic.TcCoe Idealize.SL.Sem
open Idealize.ShloMosaic.Pipeline (Dat)

/-- The log-sigmoid as the kernel writes it. -/
def logSig (x : EReal) : EReal := min x 0 - Ideal.log (1 + Ideal.exp (0 - max x (-x)))

/-- It is the negative of the guarded soft-plus of the negative, on every extended real. -/
theorem logSig_eq (x : EReal) : logSig x = -(max (-x) 0 + Ideal.log1p (Ideal.exp (-(max (-x) (- -x))))) := by
  unfold logSig
  induction x with
  | bot => simp [Ideal.log1p, ScanMath.log_one]
  | top => simp [Ideal.log1p, ScanMath.log_one]
  | coe y =>
    have h1 : max (y : EReal) (-(y : EReal)) = ((|y| : ℝ) : EReal) := by
      rw [abs_eq_max_neg, EReal.coe_strictMono.monotone.map_max, EReal.coe_neg]
    have h2 : min (y : EReal) 0 = ((min y 0 : ℝ) : EReal) := (EReal.coe_strictMono.monotone.map_min (a := y) (b := 0)).symm
    have hp : 0 < 1 + Real.exp (-|y|) := by positivity
    have h3 := ScanMath.softplus_coe (-y)
    rw [EReal.coe_neg] at h3
    rw [h3, h1, h2, zero_sub, ← EReal.coe_neg, Ideal.exp_coe, show (1 : EReal) + ((Real.exp (-|y|) : ℝ) : EReal) = ((1 + Real.exp (-|y|) : ℝ) : EReal) by norm_cast,
      Ideal.log_coe, if_neg (not_le.mpr hp), ← EReal.coe_sub, ← EReal.coe_neg]
    congr 1
    rcases le_total 0 y with hy | hy
    · rw [min_eq_right hy, abs_of_nonneg hy, zero_sub]
    · rw [min_eq_left hy, abs_of_nonpos hy, neg_neg]
      have : 1 + Real.exp (-y) = Real.exp (-y) * (1 + Real.exp y) := by rw [mul_add, ← Real.exp_add]; simp [add_comm]
      rw [this, Real.log_mul (by positivity) (by positivity), Real.log_exp]
      ring

/-- One doubling of the running sum: to each row from row `n` on, add the row `n` above it. -/
def step (n : BitVec 32) (x : FVec Ideal S2048x128 .f32) : FVec Ideal S2048x128 .f32 :=
  addf x (select (cmpi .sge (iota .tc S2048x128 32 [0] iota_S2048x128_d0_w32) (broadcast S2048x128 n)) (dynamicRotate 0 n none x rotates_S2048x128_d0)
    (broadcast S2048x128 (Scalar.ofBits .f32 0x00000000#32)))

theorem step_apply (w : ℕ) (h0 : 0 < w) (hw : w < 2048) (x : FVec Ideal S2048x128 .f32) (r : Fin 2048) (c : Fin 128) :
    step (BitVec.ofNat 32 w) x (ix2 r c) = (show EReal from x (ix2 r c)) + (if h : w ≤ r.val then x (ix2 ⟨r.val - w, by omega⟩ c) else 0 : EReal) := by
  have hr := r.isLt
  have hge : (IntOp.cmpi .sge (BitVec.ofNat 32 r.val) (BitVec.ofNat 32 w) = 1#1) ↔ w ≤ r.val := by
    rw [WordCmp.cmpi_sge_ofNat_eq_one_iff (by omega) (by omega)]
  have hm : (BitVec.ofNat 32 w).toNat = w := by simp; omega
  pointwise [step]
  congr 1
  unfold Scalar.select
  split_ifs with h1 h2 h2
  · congr 3
    rw [hm]
    omega
  · exact absurd (hge.mp h1) h2
  · exact absurd (hge.mpr h2) h1
  · rfl

/-- The entry `j` rows above a row, zero past the first row. -/
def cell (x : FVec Ideal S2048x128 .f32) (c : Fin 128) (r : Fin 2048) (j : ℕ) : EReal := if h : j ≤ r.val then x (ix2 ⟨r.val - j, by omega⟩ c) else 0

/-- The sums of the `w` rows that end at each row. -/
def run (w : ℕ) (x : FVec Ideal S2048x128 .f32) : FVec Ideal S2048x128 .f32 := fun i => ∑ j ∈ Finset.range w, cell x (i 1) (i 0) j

theorem run_one (x : FVec Ideal S2048x128 .f32) : run 1 x = x := by
  funext i
  obtain ⟨r, c, rfl⟩ : ∃ (r : Fin 2048) (c : Fin 128), i = ix2 r c := ⟨i 0, i 1, by idx_vars i⟩
  change ∑ j ∈ Finset.range 1, cell x c r j = _
  rw [Finset.sum_range_one, cell, dif_pos (by omega)]
  rfl

theorem step_run (w : ℕ) (h0 : 0 < w) (hw : w < 2048) (x : FVec Ideal S2048x128 .f32) : step (BitVec.ofNat 32 w) (run w x) = run (2 * w) x := by
  funext i
  obtain ⟨r, c, rfl⟩ : ∃ (r : Fin 2048) (c : Fin 128), i = ix2 r c := ⟨i 0, i 1, by idx_vars i⟩
  rw [step_apply w h0 hw]
  change (∑ j ∈ Finset.range w, cell x c r j) + _ = ∑ j ∈ Finset.range (2 * w), cell x c r j
  rw [two_mul, Finset.sum_range_add]
  refine congrArg (_ + ·) ?_
  split_ifs with h
  · refine Finset.sum_congr rfl fun j _ => ?_
    change cell x c ⟨r.val - w, _⟩ j = _
    unfold cell
    by_cases hj : w + j ≤ r.val
    · rw [dif_pos (show j ≤ r.val - w by omega), dif_pos hj]
      refine congrArg (fun q => (x (ix2 q c) : EReal)) (Fin.ext ?_)
      change r.val - w - j = r.val - (w + j)
      omega
    · rw [dif_neg (show ¬ j ≤ r.val - w by omega), dif_neg hj]
  · exact (Finset.sum_eq_zero fun j _ => dif_neg (by omega)).symm

/-- The eleven doublings of a tile. -/
def scan (x : FVec Ideal S2048x128 .f32) : FVec Ideal S2048x128 .f32 :=
  step 1024#32 (step 512#32 (step 256#32 (step 128#32 (step 64#32 (step 32#32 (step 16#32 (step 8#32 (step 4#32 (step 2#32 (step 1#32 x))))))))))

/-- The doublings leave the sum from the first row to each row. -/
theorem scan_run (x : FVec Ideal S2048x128 .f32) : scan x = run 2048 x := by
  unfold scan
  conv_lhs => rw [← run_one x]
  rw [step_run 1 (by decide) (by decide), step_run 2 (by decide) (by decide), step_run 4 (by decide) (by decide), step_run 8 (by decide) (by decide),
    step_run 16 (by decide) (by decide), step_run 32 (by decide) (by decide), step_run 64 (by decide) (by decide), step_run 128 (by decide) (by decide),
    step_run 256 (by decide) (by decide), step_run 512 (by decide) (by decide), step_run 1024 (by decide) (by decide)]

section
variable (g : FVec Ideal S2048x128 .f32) (b : FVec Ideal S1x128 .f32)

/-- The tile summed: the log gates, zero in the lanes behind the heads. -/
def base : FVec Ideal S2048x128 .f32 := fun i => if (i 1).val < 8 then logSig (g i + b (ix2 0 (i 1))) else 0

/-- The host side of the comparison with eight. -/
theorem select_lt8 (c : Fin 128) (a : EReal) : Scalar.select (IntOp.cmpi .slt (BitVec.ofNat 32 c.val) 8#32) a 0 = if c.val < 8 then a else 0 := by
  have := WordCmp.cmpi_slt_ofNat_eq_one_iff (w := 32) (a := c.val) (b := 8) (by omega) (by omega)
  unfold Scalar.select
  split_ifs with h1 h2 h2
  · rfl
  · exact absurd (this.mp h1) h2
  · exact absurd (this.mpr h2) h1
  · rfl

/-- The log gates before the doublings, as the kernel writes them. -/
def gates : FVec Ideal S2048x128 .f32 :=
  select (cmpi .slt (iota .tc S2048x128 32 [1] iota_S2048x128_d1_w32) (broadcast S2048x128 8#32))
    (subf (minimumf (addf (shapeCast S2048x128 g shapeCasts_S2048x128_S2048x128) (broadcastTo S2048x128 (shapeCast S1x128 b shapeCasts_S1x128_S1x128) broadcasts_S1x128_S2048x128)) (broadcast S2048x128 (Scalar.ofBits .f32 0x00000000#32)))
      (log (addf (broadcast S2048x128 (Scalar.ofBits .f32 0x3F800000#32)) (exp (subf (broadcast S2048x128 (Scalar.ofBits .f32 0x00000000#32))
        (absf (addf (shapeCast S2048x128 g shapeCasts_S2048x128_S2048x128) (broadcastTo S2048x128 (shapeCast S1x128 b shapeCasts_S1x128_S1x128) broadcasts_S1x128_S2048x128))))))))
    (broadcast S2048x128 (Scalar.ofBits .f32 0x00000000#32))

theorem gates_eq : gates g b = base g b := by
  funext i
  obtain ⟨r, c, rfl⟩ : ∃ (r : Fin 2048) (c : Fin 128), i = ix2 r c := ⟨i 0, i 1, by idx_vars i⟩
  change _ = if c.val < 8 then logSig (g (ix2 r c) + b (ix2 0 c)) else 0
  rw [← select_lt8]
  pointwise [gates]
  rfl

/-- The tile of a row's numbers. -/
abbrev rows : IVec S2048x128 32 := iota .tc S2048x128 32 [0] iota_S2048x128_d0_w32

theorem first_eq : k0_pay2 (F := Ideal) g b = step 4#32 (step 2#32 (step 1#32 (gates g b))) := rfl

theorem later_eq (x : FVec Ideal S2048x128 .f32) : k0_pay7 rows (k0_pay3 rows x 8#32) (k0_pay4 rows) (k0_pay5 rows x 8#32) k0_pay6
    = step 1024#32 (step 512#32 (step 256#32 (step 128#32 (step 64#32 (step 32#32 (step 16#32 (step 8#32 x))))))) := rfl

theorem sums_eq : k0_pay7 (F := Ideal) rows (k0_pay3 (F := Ideal) rows (k0_pay2 (F := Ideal) g b) 8#32) (k0_pay4 rows) (k0_pay5 (F := Ideal) rows (k0_pay2 (F := Ideal) g b) 8#32) k0_pay6
    = run 2048 (base g b) := by
  rw [← scan_run, ← gates_eq, first_eq, later_eq]
  rfl
end

/-- The head of a lane. -/
theorem head_word (r : Fin 2048) (k : Fin 512) : k0_pay8 (ix2 r k) = BitVec.ofNat 32 (k.val / 64) := by
  pointwise [k0_pay8]
  revert k
  decide +kernel

/-- Each head's column over its 64 lanes. -/
theorem lanes (x y z : FVec Ideal S2048x128 .f32) (w : IVec S2048x128 1) (r : Fin 2048) (k : Fin 512) (i : Fin 8) (hi : k.val / 64 = i.val) :
    k0_pay1 (k0_pay7 rows x w y z) k0_pay8 (k0_pay9 rows x w y z) 2#32 (ix2 r k) = k0_pay7 rows x w y z (ix2 r ⟨i.val, by omega⟩) := by
  unfold k0_pay1 k0_pay9
  generalize k0_pay7 rows x w y z = v
  pointwise
  rw [head_word, hi]
  fin_cases i <;> rfl

theorem spread (g : FVec Ideal S2048x128 .f32) (b : FVec Ideal S1x128 .f32) (r : Fin 2048) (k : Fin 512) (i : Fin 8) (hi : k.val / 64 = i.val) :
    out0_2 (F := Ideal) g b (ix2 r k) = run 2048 (base g b) (ix2 r ⟨i.val, by omega⟩) := by
  unfold_out out0_2
  frame_out
  rw [← sums_eq]
  exact lanes _ _ _ _ r k i hi

variable (m : (ℓ : Loc nD τ sig) → Buf (Elt Ideal) ℓ) (c : Dev nD)

/-- The block of every window at every grid point. -/
theorem idx : ∀ t : Fin cfg0.N, win0_0.index t = ![t.val, 0] ∧ win0_1.index t = ![0, 0] ∧ win0_2.index t = ![t.val, 0] :=
  (by decide +kernel : ∀ t : Fin grid0.N, _)

abbrev G : S8192x8.Idx → EReal := m ((c : Thread nD τ).loc main_arg0)
abbrev B : S8.Idx → EReal := m ((c : Thread nD τ).loc main_arg1)

/-- The sum of the log gates up to a row, in one batch and head. -/
def above (G : S8192x8.Idx → EReal) (B : S8.Idx → EReal) (b : Fin 4) (r : Fin 2048) (h : Fin 8) : EReal :=
  ∑ j : Fin 2048, if j.val ≤ r.val then logSig (G (ix2 ⟨b.val * 2048 + (r.val - j.val), by omega⟩ h) + B (ix1 h)) else 0

/-- The gate's argument with lanes behind the heads. -/
theorem gate_apply (r : Fin 8192) (h : Fin 8) : V m c main_v2 (ix2 r ⟨h.val, by omega⟩) = G m c (ix2 r h) := by
  simp only [V, List.flatten_cons, List.flatten_nil, List.cons_append, List.nil_append]
  entry_read
  change pad (α := EReal) (s := S8192x8) S8192x128 ![0, 0] ![0, 120] ![0, 0] (m ((c : Thread nD τ).loc main_arg0)) (sitofp (F := Ideal) .f32 (constantI S_ 32 0#32))
    pads_S8192x8_S8192x128_000_01200 h_S_ (ix2 r ⟨h.val, by omega⟩) = _
  pointwise

theorem bias_apply (h : Fin 8) : V m c main_v1 (ix2 0 ⟨h.val, by omega⟩) = B m c (ix1 h) := by
  simp only [V, List.flatten_cons, List.flatten_nil, List.cons_append, List.nil_append]
  entry_read
  change shapeCast S1x128 (pad (α := EReal) (s := S8) S128 ![0] ![120] ![0] (m ((c : Thread nD τ).loc main_arg1)) (sitofp (F := Ideal) .f32 (constantI S_ 32 0#32))
    pads_S8_S128_01200 h_S_) shapeCasts_S128_S1x128 (ix2 0 ⟨h.val, by omega⟩) = _
  pointwise

theorem gate_blk (t : Fin cfg0.N) (ht : t.val < 4) (r : Fin 2048) (h : Fin 8) : iblk m c 0 t (ix2 r ⟨h.val, by omega⟩)
    = G m c (ix2 ⟨t.val * 2048 + r.val, by omega⟩ h) := by
  refine Eq.trans ?_ (gate_apply m c _ h)
  blk_ext [iblk, idx t]

theorem bias_blk (t : Fin cfg0.N) (h : Fin 8) : iblk m c 1 t (ix2 0 ⟨h.val, by omega⟩) = B m c (ix1 h) := by
  refine Eq.trans ?_ (bias_apply m c h)
  blk_ext [iblk, idx t]

/-- What a grid point finds at one position. -/
theorem at_point (t : Fin cfg0.N) (ht : t.val < 4) (r : Fin 2048) (h : Fin 8) :
    run 2048 (base (iblk m c 0 t) (iblk m c 1 t)) (ix2 r ⟨h.val, by omega⟩) = above (G m c) (B m c) ⟨t.val, ht⟩ r h := by
  refine (Finset.sum_range _).trans (Finset.sum_congr rfl fun j _ => ?_)
  change cell _ _ r j.val = _
  unfold cell
  by_cases hj : j.val ≤ r.val
  · rw [dif_pos hj, if_pos hj]
    refine (if_pos h.isLt).trans (congrArg logSig ?_)
    exact congrArg₂ (· + ·) (gate_blk m c t ht ⟨r.val - j.val, by omega⟩ h) (bias_blk m c t h)
  · rw [dif_neg hj, if_neg hj]

section
open Cert.Reference13Ideal.Read
variable (G : S8192x8.Idx → EReal) (B : S8.Idx → EReal)

theorem ref_neg (b : Fin 4) (r : Fin 2048) (h : Fin 8) :
    val_main_call0_v0 (F := Ideal) G B (ix3 b r h) = -(G (ix2 ⟨b.val * 2048 + r.val, by omega⟩ h) + B (ix1 h)) := by
  pointwise [val_main_call0_v0, val_main_v3, val_main_v2, val_main_v1, val_main_v0]

/-- The reference's log gate: its test for an undefined value never holds. -/
theorem ref_gate (b : Fin 4) (r : Fin 2048) (h : Fin 8) :
    val_main_v4 (F := Ideal) G B (ix3 b r h) = logSig (G (ix2 ⟨b.val * 2048 + r.val, by omega⟩ h) + B (ix1 h)) := by
  rw [logSig_eq]
  pointwise [val_main_v4, val_main_call0_v1, val_main_call0_call0_v11, val_main_call0_call0_v10, val_main_call0_call0_v9, val_main_call0_call0_v8,
    val_main_call0_call0_v7, val_main_call0_call0_v6, val_main_call0_call0_v5, val_main_call0_call0_v4, val_main_call0_call0_v3,
    val_main_call0_call0_v2, val_main_call0_call0_v1, val_main_call0_call0_v0, val_main_call0_call0_cst]
  rw [ref_neg, if_neg (by simp)]
  rfl

/-- The reference's running sum. -/
theorem ref_above (b : Fin 4) (r : Fin 2048) (h : Fin 8) : val_main_v5 (F := Ideal) G B (ix3 b r h) = above G B b r h := by
  have h0 : val_main_call1_call0_v0 (F := Ideal) (Shape.Idx.first h_S_) = 0 := by
    pointwise [val_main_call1_call0_v0, val_main_call1_call0_cst]
  unfold val_main_v5 Host.reduceWindowAdd
  rw [Ideal.hostReduceWindowAdd_def, h0, ScanMath.window_sum]
  refine (sum_idx3 (n0 := 1) (n1 := 2048) (n2 := 1) _).trans ?_
  rw [Fin.sum_univ_one]
  refine (Equiv.sum_comp Fin.revPerm _).symm.trans ?_
  refine Finset.sum_congr rfl fun j _ => ?_
  rw [Fin.sum_univ_one, Fin.revPerm_apply]
  have hv : (Fin.rev j).val = 2047 - j.val := by rw [Fin.val_rev]; omega
  by_cases hj : j.val ≤ r.val
  · rw [if_pos hj, dif_pos (show _ from ?_)]
    · refine Eq.trans (b := val_main_v4 (F := Ideal) G B (ix3 b ⟨r.val - j.val, by omega⟩ h)) (congrArg (val_main_v4 (F := Ideal) G B) ?_) (ref_gate G B b _ h)
      funext a
      apply Fin.ext
      match a with
      | ⟨0, _⟩ => change b.val * 1 + 0 - 0 = b.val; omega
      | ⟨1, _⟩ => change r.val * 1 + (Fin.rev j).val - 2047 = r.val - j.val; omega
      | ⟨2, _⟩ => change h.val * 1 + 0 - 0 = h.val; omega
    · intro a
      match a with
      | ⟨0, _⟩ => exact ⟨Nat.zero_le _, by change b.val * 1 + 0 - 0 < 4; omega⟩
      | ⟨1, _⟩ => exact ⟨by change 2047 ≤ r.val * 1 + (Fin.rev j).val; omega, by change r.val * 1 + (Fin.rev j).val - 2047 < 2048; omega⟩
      | ⟨2, _⟩ => exact ⟨Nat.zero_le _, by change h.val * 1 + 0 - 0 < 8; omega⟩
  · rw [if_neg hj, dif_neg]
    intro hin
    have := (hin ⟨1, by decide⟩).1
    change 2047 ≤ r.val * 1 + (Fin.rev j).val at this
    omega

/-- The reference's result. -/
theorem ref_result (b : Fin 4) (r : Fin 2048) (k : Fin 512) :
    val_main_v8 (F := Ideal) G B (ix2 ⟨b.val * 2048 + r.val, by omega⟩ k) = above G B b r ⟨k.val / 64, by omega⟩ := by
  rw [← ref_above]
  pointwise [val_main_v8, val_main_v7, val_main_v6]
end

/-- The result after the run. -/
theorem final2 : (dats m 0 c).arrAt 2 (cfgs 0).N = Cert.Reference13Ideal.Read.val_main_v8 (F := Ideal) (G m c) (B m c) := by
  refine (dats m 0 c).arrAt_eq_of_covers 2 _ (by decide +kernel) fun t _ y => ?_
  have ht : t.val < 4 := t.isLt
  blk_simp
  rw [after0_2]
  obtain ⟨r, k, rfl⟩ : ∃ (r : Fin 2048) (k : Fin 512), y = ix2 r k := ⟨y 0, y 1, by idx_vars y⟩
  refine (spread _ _ r k ⟨k.val / 64, by omega⟩ rfl).trans ((at_point m c t ht r _).trans ((ref_result _ _ ⟨t.val, ht⟩ r k).symm.trans ?_))
  refine congrArg (Cert.Reference13Ideal.Read.val_main_v8 (F := Ideal) (G m c) (B m c)) ?_
  blk_ext [idx t]

end Cert.Kernel13Ideal.GateFwd

end
-- ==== Proof.Norm.lean ====
/-
  One row through the root-mean-square norm, on all extended reals: the norm's factor, the gradient as the kernels write
  it (one mean of the gradient times the normed row), and the gradient as the chain rule gives it (through the mean of
  the squares and the reciprocal root).  The two are equal on every row: a row with an infinite entry has factor 0, and
  on a row of numbers the factor is a positive number, which passes through every sum.
-/
module

public import proofs.«01_k».proof.Proof.XHead

@[expose] public section

noncomputable section

namespace Cert.Norm

open Idealize.ShloMosaic Cert.SoftMath Cert.XHead
open scoped BigOperators

/-- The number of columns, as the programs' word. -/
abbrev cols : EReal := Ideal.ofBits FTy.f32 0x44800000#32
/-- The small number under the root. -/
abbrev eps : EReal := Ideal.ofBits FTy.f32 0x358637BD#32

/-- The mean of the squares plus the small number. -/
def mean (x : Fin 1024 → EReal) : EReal := Ideal.div (∑ k, x k * x k) cols + eps
/-- The norm's factor. -/
def inv (x : Fin 1024 → EReal) : EReal := Ideal.rsqrt (mean x)
/-- The gradient as the kernels write it, `t` the gradient of the normed row. -/
def grad (x t : Fin 1024 → EReal) (j : Fin 1024) : EReal :=
  inv x * (t j - x j * inv x * Ideal.div (∑ k, t k * (x k * inv x)) cols)
/-- The gradient of the mean of the squares, by the chain rule. -/
def slope (x t : Fin 1024 → EReal) : EReal :=
  Ideal.div ((∑ k, x k * t k) * (Ideal.ofBits FTy.f32 0xBF000000#32 * Ideal.div (inv x) (mean x))) cols
/-- The gradient by the chain rule. -/
def pull (x t : Fin 1024 → EReal) (j : Fin 1024) : EReal := t j * inv x + x j * slope x t + slope x t * x j

theorem cols_eq : cols = ((1024 : ℝ) : EReal) := by simp [Ideal.ofBits, Ideal.ieee, -EReal.coe_mul] <;> norm_num
theorem minus_half : Ideal.ofBits FTy.f32 0xBF000000#32 = ((-(1 / 2) : ℝ) : EReal) := by
  simp [Ideal.ofBits, Ideal.ieee, -EReal.coe_mul] <;> norm_num
theorem eps_eq : ∃ e : ℝ, 0 < e ∧ eps = (e : EReal) := by
  refine ⟨8796093 * 2 ^ (-43 : ℤ), by positivity, ?_⟩
  simp [Ideal.ofBits, Ideal.ieee, -EReal.coe_mul] <;> norm_num

theorem sq_nonneg (u : EReal) : 0 ≤ u * u := by
  rcases le_total 0 u with h | h
  · exact mul_nonneg h h
  · rw [← neg_mul_neg]; exact mul_nonneg (EReal.neg_nonneg.mpr h) (EReal.neg_nonneg.mpr h)

/-- A row is of numbers, or the mean of its squares is infinite. -/
theorem cases (x : Fin 1024 → EReal) : (∃ y : Fin 1024 → ℝ, x = fun k => (y k : EReal)) ∨ mean x = ⊤ := by
  by_cases h : ∀ k, x k ≠ ⊤ ∧ x k ≠ ⊥
  · exact .inl ⟨fun k => (x k).toReal, funext fun k => (EReal.coe_toReal (h k).1 (h k).2).symm⟩
  · right
    push Not at h
    obtain ⟨k, hk⟩ := h
    have hs : x k * x k = ⊤ := by
      by_cases ht : x k = ⊤
      · rw [ht]; rfl
      · rw [hk ht]; rfl
    have : ∑ k, x k * x k = ⊤ := top_le_iff.mp (hs ▸ Finset.single_le_sum (f := fun k => x k * x k) (fun k _ => sq_nonneg (x k)) (Finset.mem_univ k))
    obtain ⟨e, he, heq⟩ := eps_eq
    rw [mean, this, cols_eq, Ideal.div_coe (by norm_num), heq, EReal.top_mul_coe_of_pos (by norm_num), EReal.top_add_coe]

/-- On a row of numbers the mean is a positive number, and the factor its reciprocal root. -/
theorem real (y : Fin 1024 → ℝ) : ∃ M : ℝ, 0 < M ∧ mean (fun k => (y k : EReal)) = (M : EReal) ∧ inv (fun k => (y k : EReal)) = ((Real.sqrt M)⁻¹ : ℝ) := by
  obtain ⟨e, he, heq⟩ := eps_eq
  have hM : 0 < (∑ k, y k * y k) * (1 / 1024) + e :=
    add_pos_of_nonneg_of_pos (mul_nonneg (Finset.sum_nonneg fun k _ => mul_self_nonneg _) (by norm_num)) he
  have hm : mean (fun k => (y k : EReal)) = (((∑ k, y k * y k) * (1 / 1024) + e : ℝ) : EReal) := by
    rw [mean, cols_eq, Ideal.div_coe (by norm_num), heq]
    simp only [← EReal.coe_mul]
    rw [← coe_sum, ← EReal.coe_mul, ← EReal.coe_add]
  refine ⟨_, hM, hm, ?_⟩
  rw [inv, hm, Ideal.rsqrt_coe, if_neg hM.not_gt, if_neg hM.ne']

theorem twice (b : ℝ) (S : EReal) : (b : EReal) * S + (b : EReal) * S = ((2 * b : ℝ) : EReal) * S := by
  have : ((2 * b : ℝ) : EReal) = ((2 : ℝ) : EReal) * (b : EReal) := EReal.coe_mul _ _
  rw [this, mul_assoc, show ((2 : ℝ) : EReal) = 1 + 1 by norm_cast, EReal.right_distrib_of_nonneg zero_le_one zero_le_one, one_mul]

/-- The kernels' gradient is the chain rule's. -/
theorem grad_eq (x t : Fin 1024 → EReal) (j : Fin 1024) : grad x t j = pull x t j := by
  rcases cases x with ⟨y, rfl⟩ | h
  · obtain ⟨M, hM, hm, hi⟩ := real y
    have hρ : (0 : ℝ) ≤ (Real.sqrt M)⁻¹ := by positivity
    have hρ2 : (Real.sqrt M)⁻¹ * (Real.sqrt M)⁻¹ = 1 / M := by
      rw [← mul_inv, Real.mul_self_sqrt hM.le, one_div]
    have hs : slope (fun k => (y k : EReal)) t = ((-(1 / 2) * ((Real.sqrt M)⁻¹ * (1 / M)) * (1 / 1024) : ℝ) : EReal) * ∑ k, (y k : EReal) * t k := by
      rw [slope, hm, hi, cols_eq, minus_half, Ideal.div_coe hM.ne', Ideal.div_coe (by norm_num)]
      simp only [EReal.coe_mul]; ac_rfl
    have hg : ∑ k, t k * ((y k : EReal) * ((Real.sqrt M)⁻¹ : ℝ)) = (((Real.sqrt M)⁻¹ : ℝ) : EReal) * ∑ k, (y k : EReal) * t k := by
      rw [mul_sum _ _ hρ]; exact Finset.sum_congr rfl fun k _ => by ac_rfl
    simp only [grad, pull, hs, hi, hg, cols_eq]
    rw [Ideal.div_coe (by norm_num), mul_sub hρ, sub_eq_add_neg, add_assoc]
    generalize ∑ k, (y k : EReal) * t k = S
    congr 1
    · exact mul_comm _ _
    · have e1 : ∀ b : ℝ, (y j : EReal) * ((b : EReal) * S) = ((y j * b : ℝ) : EReal) * S := fun b => by rw [EReal.coe_mul, mul_assoc]
      rw [mul_comm ((_ : EReal) * S) (y j : EReal), e1, twice]
      have e2 : (((Real.sqrt M)⁻¹ : ℝ) : EReal) * ((y j : EReal) * (((Real.sqrt M)⁻¹ : ℝ) : EReal) * ((((Real.sqrt M)⁻¹ : ℝ) : EReal) * S * ((1 / 1024 : ℝ) : EReal)))
          = (((Real.sqrt M)⁻¹ * y j * (Real.sqrt M)⁻¹ * (Real.sqrt M)⁻¹ * (1 / 1024) : ℝ) : EReal) * S := by
        simp only [EReal.coe_mul]; ac_rfl
      rw [e2, ← neg_mul, ← EReal.coe_neg]
      congr 2
      rw [← hρ2]; ring
  · have hi : inv x = 0 := by rw [inv, h]; rfl
    have hs : slope x t = 0 := by
      rw [slope, hi, h, cols_eq, Ideal.div_coe (by norm_num), Ideal.div, if_neg (by simp)]; simp
    rw [grad, pull, hs, hi]; simp

end Cert.Norm

end
-- ==== Proof.UpFwd.lean ====
/-
  The forward pass from the cross attention to the rectifier: each of the kernel's sixteen row blocks multiplies by the
  output weight, adds the residual stream, norms the sum row by row, multiplies by the up projection and rectifies.
-/
module

public import proofs.«01_k».proof.Proof.Gen.Kernel14Ideal.Frame
public import proofs.«01_k».proof.Proof.Gen.Reference14Ideal.Read
public import Idealize.ShloMosaic.Lib.Pipeline.ValueKit
public import proofs.«01_k».proof.Proof.Norm

@[expose] public section

set_option maxRecDepth 16384

noncomputable section

namespace Cert.Kernel14Ideal.UpFwd

open Cert.Kernel14Ideal Cert.Kernel14Ideal.Gen Idealize.ShloMosaic Idealize.ShloMosaic.TcCoe Idealize.SL.Sem
open Idealize.ShloMosaic.Pipeline (Dat)

/-- A row normed and scaled. -/
def normed (x g : Fin 1024 → EReal) (j : Fin 1024) : EReal := x j * Norm.inv x * g j
/-- A normed row through the up projection and the rectifier. -/
def up (h : Fin 1024 → EReal) (w : Fin 1024 → EReal) : EReal := max (∑ k, h k * w k) 0

section
variable (o : Vec Ideal S512x1024 .bf16) (p : Vec Ideal S1024x1024 .bf16) (x : Vec Ideal S512x1024 .f32) (g : Vec Ideal S1x1024 .f32) (u : Vec Ideal S1024x4096 .bf16)

/-- A row of the residual stream behind the attention. -/
def line (r : Fin 512) (j : Fin 1024) : EReal := (x (ix2 r j) : EReal) + ∑ k : Fin 1024, (o (ix2 r k) : EReal) * p (ix2 k j)

theorem line_eq (r : Fin 512) (j : Fin 1024) : k0_pay1 x o p (ix2 r j) = line o p x r j := by
  pointwise [k0_pay1]; rfl
theorem normed_eq (r : Fin 512) (j : Fin 1024) : k0_pay2 x o p g (ix2 r j) = normed (line o p x r) (fun k => g (ix2 0 k)) j := by
  pointwise [k0_pay2]; simp only [line_eq]; rfl
theorem up_eq (r : Fin 512) (j : Fin 4096) : k0_pay3 x o p g u (ix2 r j) = up (normed (line o p x r) (fun k => g (ix2 0 k))) (fun k => u (ix2 k j)) := by
  pointwise [k0_pay3]; simp only [normed_eq]; rfl
end

section
open Cert.Reference14Ideal.Read
variable (O : S8192x1024.Idx → EReal) (P : S1024x1024.Idx → EReal) (X : S8192x1024.Idx → EReal) (G : S1024.Idx → EReal) (U : S1024x4096.Idx → EReal)

/-- A row of the reference's stream behind the attention. -/
def row (r : Fin 8192) (j : Fin 1024) : EReal := X (ix2 r j) + ∑ k : Fin 1024, O (ix2 r k) * P (ix2 k j)

theorem ref_row (r : Fin 8192) (j : Fin 1024) : val_main_v4 (F := Ideal) O P X (ix2 r j) = row O P X r j := by
  pointwise [val_main_v4, val_main_v3, val_main_v1, val_main_v0]; rfl
theorem ref_inv (r : Fin 8192) : val_main_v12 (F := Ideal) O P X (ix2 r 0) = Norm.inv (row O P X r) := by
  pointwise [val_main_v12, val_main_v11, val_main_v10, val_main_v9, val_main_v8, val_main_v7, val_main_v6, val_main_v5, val_main_cst, val_main_cst_0, val_main_cst_1]
  simp only [ref_row]; rfl
theorem ref_normed (r : Fin 8192) (j : Fin 1024) : val_main_v17 (F := Ideal) O P X G (ix2 r j) = normed (row O P X r) (fun k => G (ix1 k)) j := by
  pointwise [val_main_v17, val_main_v16, val_main_v15, val_main_v14, val_main_v13]
  rw [ref_inv, ref_row]; rfl
theorem ref_second (r : Fin 8192) (j : Fin 1024) : val_main_v20 (F := Ideal) O P X G (ix2 r j) = normed (row O P X r) (fun k => G (ix1 k)) j := by
  pointwise [val_main_v20]
  exact ref_normed O P X G r j
theorem ref_third (r : Fin 8192) (j : Fin 4096) : val_main_v21 (F := Ideal) O P X G U (ix2 r j) = up (normed (row O P X r) (fun k => G (ix1 k))) (fun k => U (ix2 k j)) := by
  pointwise [val_main_v21, val_main_v19, val_main_v18, val_main_v2, val_main_call0_v0, val_main_call0_cst]
  simp only [ref_normed]; rfl
end

variable (m : (ℓ : Loc nD τ sig) → Buf (Elt Ideal) ℓ) (c : Dev nD)

/-- The block of every window at every grid point. -/
theorem idx : ∀ t : Fin cfg0.N, win0_0.index t = ![t.val, 0] ∧ win0_1.index t = ![0, 0] ∧ win0_2.index t = ![t.val, 0] ∧ win0_3.index t = ![0, 0]
    ∧ win0_4.index t = ![0, 0] ∧ win0_5.index t = ![t.val, 0] ∧ win0_6.index t = ![t.val, 0] ∧ win0_7.index t = ![t.val, 0] :=
  (by decide +kernel : ∀ t : Fin grid0.N, _)

/-- The row of the stream that row `r` of block `t` is. -/
def at_ (t : Fin cfg0.N) (r : Fin 512) : Fin 8192 := ⟨t.val * 512 + r.val, by have h : t.val < 16 := t.isLt; omega⟩

abbrev O : S8192x1024.Idx → EReal := m ((c : Thread nD τ).loc main_arg0)
abbrev P : S1024x1024.Idx → EReal := m ((c : Thread nD τ).loc main_arg1)
abbrev X : S8192x1024.Idx → EReal := m ((c : Thread nD τ).loc main_arg2)
abbrev G : S1024.Idx → EReal := m ((c : Thread nD τ).loc main_arg3)
abbrev U : S1024x4096.Idx → EReal := m ((c : Thread nD τ).loc main_arg4)

theorem gain_apply (j : Fin 1024) : V m c main_v0 (ix2 0 j) = G m c (ix1 j) := by
  entry_read
  pointwise
theorem o_blk (t : Fin cfg0.N) (r : Fin 512) (k : Fin 1024) : iblk m c 0 t (ix2 r k) = O m c (ix2 (at_ t r) k) := by
  blk_ext [iblk, V, idx t, at_]
theorem p_blk (t : Fin cfg0.N) (j k : Fin 1024) : iblk m c 1 t (ix2 j k) = P m c (ix2 j k) := by
  blk_ext [iblk, V, idx t]
theorem x_blk (t : Fin cfg0.N) (r : Fin 512) (k : Fin 1024) : iblk m c 2 t (ix2 r k) = X m c (ix2 (at_ t r) k) := by
  blk_ext [iblk, V, idx t, at_]
theorem g_blk (t : Fin cfg0.N) (k : Fin 1024) : iblk m c 3 t (ix2 0 k) = G m c (ix1 k) := by
  refine Eq.trans ?_ (gain_apply m c k)
  blk_ext [iblk, idx t]
theorem u_blk (t : Fin cfg0.N) (j : Fin 1024) (k : Fin 4096) : iblk m c 4 t (ix2 j k) = U m c (ix2 j k) := by
  blk_ext [iblk, V, idx t]

theorem line_at (t : Fin cfg0.N) (r : Fin 512) : line (iblk m c 0 t) (iblk m c 1 t) (iblk m c 2 t) r = row (O m c) (P m c) (X m c) (at_ t r) := by
  funext j
  unfold line row
  simp only [o_blk, p_blk, x_blk]

/-- The first result after the run: the residual stream. -/
theorem final5 : (dats m 0 c).arrAt 5 (cfgs 0).N = Cert.Reference14Ideal.Read.val_main_v4 (F := Ideal) (O m c) (P m c) (X m c) := by
  refine (dats m 0 c).arrAt_eq_of_covers 5 _ (by decide +kernel) fun t _ y => ?_
  blk_simp
  rw [after0_5]; frame_out
  obtain ⟨r, j, rfl⟩ : ∃ (r : Fin 512) (j : Fin 1024), y = ix2 r j := ⟨y 0, y 1, by idx_vars y⟩
  rw [line_eq, line_at]
  refine (ref_row (O m c) (P m c) (X m c) (at_ t r) j).symm.trans ?_
  blk_ext [idx t, at_]

/-- The second result after the run: the normed stream. -/
theorem final6 : (dats m 0 c).arrAt 6 (cfgs 0).N = Cert.Reference14Ideal.Read.val_main_v20 (F := Ideal) (O m c) (P m c) (X m c) (G m c) := by
  refine (dats m 0 c).arrAt_eq_of_covers 6 _ (by decide +kernel) fun t _ y => ?_
  blk_simp
  rw [after0_6]; frame_out
  obtain ⟨r, j, rfl⟩ : ∃ (r : Fin 512) (j : Fin 1024), y = ix2 r j := ⟨y 0, y 1, by idx_vars y⟩
  rw [normed_eq, line_at]
  simp only [g_blk]
  refine (ref_second (O m c) (P m c) (X m c) (G m c) (at_ t r) j).symm.trans ?_
  blk_ext [idx t, at_]

/-- The third result after the run: the rectified up projection. -/
theorem final7 : (dats m 0 c).arrAt 7 (cfgs 0).N = Cert.Reference14Ideal.Read.val_main_v21 (F := Ideal) (O m c) (P m c) (X m c) (G m c) (U m c) := by
  refine (dats m 0 c).arrAt_eq_of_covers 7 _ (by decide +kernel) fun t _ y => ?_
  blk_simp
  rw [after0_7]; frame_out
  obtain ⟨r, j, rfl⟩ : ∃ (r : Fin 512) (j : Fin 4096), y = ix2 r j := ⟨y 0, y 1, by idx_vars y⟩
  rw [up_eq, line_at]
  simp only [g_blk, u_blk]
  refine (ref_third (O m c) (P m c) (X m c) (G m c) (U m c) (at_ t r) j).symm.trans ?_
  blk_ext [idx t, at_]

end Cert.Kernel14Ideal.UpFwd

end
-- ==== Proof.NormFwd.lean ====
/-
  The first norm of the forward pass: each of the kernel's eight row blocks is normed row by row.
-/
module

public import proofs.«01_k».proof.Proof.Gen.Kernel15Ideal.Frame
public import proofs.«01_k».proof.Proof.Gen.Reference15Ideal.Read
public import Idealize.ShloMosaic.Lib.Pipeline.ValueKit
public import proofs.«01_k».proof.Proof.Norm

@[expose] public section

set_option maxRecDepth 16384

noncomputable section

namespace Cert.Kernel15Ideal.NormFwd

open Cert.Kernel15Ideal Cert.Kernel15Ideal.Gen Idealize.ShloMosaic Idealize.ShloMosaic.TcCoe Idealize.SL.Sem
open Idealize.ShloMosaic.Pipeline (Dat)

/-- A row of the block, normed and scaled. -/
theorem tile_eq (x : Vec Ideal S1024x1024 .f32) (g : Vec Ideal S1x1024 .f32) (r j : Fin 1024) :
    k0_pay1 x g (ix2 r j) = x (ix2 r j) * Norm.inv (fun k => x (ix2 r k)) * g (ix2 0 j) := by
  pointwise [k0_pay1]; rfl

section
open Cert.Reference15Ideal.Read
variable (X : S8192x1024.Idx → EReal) (G : S1024.Idx → EReal)

theorem ref_inv (r : Fin 8192) : val_main_v7 (F := Ideal) X (ix2 r 0) = Norm.inv (fun k => X (ix2 r k)) := by
  pointwise [val_main_v7, val_main_v6, val_main_v5, val_main_v4, val_main_v3, val_main_v2, val_main_v1, val_main_v0, val_main_cst, val_main_cst_0, val_main_cst_1]
  rfl

theorem ref_at (r : Fin 8192) (j : Fin 1024) : val_main_v13 (F := Ideal) X G (ix2 r j) = X (ix2 r j) * Norm.inv (fun k => X (ix2 r k)) * G (ix1 j) := by
  pointwise [val_main_v13, val_main_v12, val_main_v11, val_main_v10, val_main_v9, val_main_v8]
  rw [ref_inv]
end

variable (m : (ℓ : Loc nD τ sig) → Buf (Elt Ideal) ℓ) (c : Dev nD)

/-- The block of every window at every grid point. -/
theorem idx : ∀ t : Fin cfg0.N, win0_0.index t = ![t.val, 0] ∧ win0_1.index t = ![0, 0] ∧ win0_2.index t = ![t.val, 0] :=
  (by decide +kernel : ∀ t : Fin grid0.N, _)

/-- The row of the stream that row `r` of block `t` is. -/
def at_ (t : Fin cfg0.N) (r : Fin 1024) : Fin 8192 := ⟨t.val * 1024 + r.val, by have h : t.val < 8 := t.isLt; omega⟩

abbrev X : S8192x1024.Idx → EReal := m ((c : Thread nD τ).loc main_arg0)
abbrev G : S1024.Idx → EReal := m ((c : Thread nD τ).loc main_arg1)

theorem gain_apply (j : Fin 1024) : V m c main_v0 (ix2 0 j) = G m c (ix1 j) := by
  entry_read
  pointwise
theorem x_blk (t : Fin cfg0.N) (r k : Fin 1024) : iblk m c 0 t (ix2 r k) = X m c (ix2 (at_ t r) k) := by
  blk_ext [iblk, V, idx t, at_]
theorem g_blk (t : Fin cfg0.N) (k : Fin 1024) : iblk m c 1 t (ix2 0 k) = G m c (ix1 k) := by
  refine Eq.trans ?_ (gain_apply m c k)
  blk_ext [iblk, idx t]

/-- The result after the run. -/
theorem final2 : (dats m 0 c).arrAt 2 (cfgs 0).N = Cert.Reference15Ideal.Read.val_main_v13 (F := Ideal) (X m c) (G m c) := by
  refine (dats m 0 c).arrAt_eq_of_covers 2 _ (by decide +kernel) fun t _ y => ?_
  blk_simp
  rw [after0_2]; frame_out
  obtain ⟨r, j, rfl⟩ : ∃ (r j : Fin 1024), y = ix2 r j := ⟨y 0, y 1, by idx_vars y⟩
  rw [tile_eq]
  simp only [x_blk, g_blk]
  refine (ref_at (X m c) (G m c) (at_ t r) j).symm.trans ?_
  blk_ext [idx t, at_]

end Cert.Kernel15Ideal.NormFwd

end
-- ==== Proof.MemRef.lean ====
/-
  The reference's gradient of the memory's norm, read index by index: the gradient of the normed rows is the two
  projections' sum, and the norm's gradient is the chain rule's of `Norm`.
-/
module

public import proofs.«01_k».proof.Proof.Gen.Reference8Ideal.Read
public import proofs.«01_k».proof.Proof.Norm

@[expose] public section

set_option maxRecDepth 16384

noncomputable section

namespace Cert.Reference8Ideal.MemRef

open Cert.Reference8Ideal Cert.Reference8Ideal.Gen Cert.Reference8Ideal.Read Idealize.ShloMosaic

variable (X : S1024x1024.Idx → EReal) (G : S1024.Idx → EReal) (K W : S1024x1024.Idx → EReal) (D : S1024x2048.Idx → EReal)

/-- A row of the memory. -/
def row (r k : Fin 1024) : EReal := X (ix2 r k)

/-- The gradient of a normed row: through the keys' weight and the values'. -/
def dh (r j : Fin 1024) : EReal :=
  (∑ k : Fin 1024, D (ix2 r ⟨1024 + k.val, by omega⟩) * W (ix2 j k)) + ∑ k : Fin 1024, D (ix2 r ⟨k.val, by omega⟩) * K (ix2 j k)

theorem mean_eq (r : Fin 1024) : val_main_v8 (F := Ideal) X (ix2 r 0) = Norm.mean (row X r) := by
  pointwise [val_main_v8, val_main_v7, val_main_v6, val_main_v5, val_main_v4, val_main_v3, val_main_v2, val_main_cst, val_main_cst_0, val_main_cst_1]
  rfl

theorem inv_eq (r : Fin 1024) : val_main_v9 (F := Ideal) X (ix2 r 0) = Norm.inv (row X r) := by
  pointwise [val_main_v9]
  rw [mean_eq]; rfl

theorem dh_eq (r j : Fin 1024) : val_main_v24 (F := Ideal) K W D (ix2 r j) = dh K W D r j := by
  pointwise [val_main_v24, val_main_v23, val_main_v22, val_main_v21, val_main_v20, val_main_v1, val_main_v0]
  rfl

/-- The gradient of the normed row before its gain. -/
theorem scaled_eq (r j : Fin 1024) : val_main_v29 (F := Ideal) G K W D (ix2 r j) = dh K W D r j * G (ix1 j) := by
  pointwise [val_main_v29, val_main_v28, val_main_v15]
  rw [dh_eq]

theorem slope_eq (r : Fin 1024) : val_main_v39 (F := Ideal) X G K W D (ix1 r) = Norm.slope (row X r) (fun k => dh K W D r k * G (ix1 k)) := by
  pointwise [val_main_v39, val_main_v38, val_main_v37, val_main_v36, val_main_v33, val_main_v32, val_main_v31, val_main_v12, val_main_v11, val_main_v10,
    val_main_cst_2, val_main_cst_5, val_main_cst_6, val_main_cst_7]
  simp only [mean_eq, inv_eq, scaled_eq, Fin.sum_univ_one, zero_add]
  rfl

/-- The first result: the gradient of the memory. -/
theorem first (r j : Fin 1024) : val_main_v44 (F := Ideal) X G K W D (ix2 r j) = Norm.pull (row X r) (fun k => dh K W D r k * G (ix1 k)) j := by
  pointwise [val_main_v44, val_main_v43, val_main_v42, val_main_v41, val_main_v40, val_main_v35, val_main_v34]
  rw [inv_eq, slope_eq, scaled_eq]; rfl

/-- The second result: the gradient of the gain. -/
theorem second (j : Fin 1024) : val_main_v45 (F := Ideal) X K W D (ix2 0 j) = ∑ r : Fin 1024, row X r j * Norm.inv (row X r) * dh K W D r j := by
  pointwise [val_main_v45, val_main_v30, val_main_v27, val_main_v26, val_main_v25, val_main_v14, val_main_v13, val_main_cst_3, val_main_cst_4]
  simp only [inv_eq, dh_eq, Fin.sum_univ_one, zero_add]
  rfl

end Cert.Reference8Ideal.MemRef

end
-- ==== Proof.MemValue.lean ====
/-
  The gradient of the memory's norm: each of the kernel's two row blocks multiplies the joint gradient by the joint
  weight, takes the norm's gradient row by row, and adds its rows to the gain's gradient.
-/
module

public import proofs.«01_k».proof.Proof.Gen.Kernel8Ideal.Value
public import proofs.«01_k».proof.Proof.MemRef

@[expose] public section

set_option maxRecDepth 16384

noncomputable section

namespace Cert.Kernel8Ideal.MemValue

open Cert.Kernel8Ideal Cert.Kernel8Ideal.Gen Idealize.ShloMosaic Idealize.ShloMosaic.TcCoe Idealize.SL.Sem
open Idealize.ShloMosaic.Pipeline (Dat)
open Cert.Reference8Ideal.MemRef (row dh)

section
variable (x : Vec Ideal S512x2048 .f32) (w : Vec Ideal S1024x2048 .bf16) (v : Vec Ideal S512x1024 .f32) (g a : Vec Ideal S1x1024 .f32)

/-- A row of a block. -/
def line (r : Fin 512) (k : Fin 1024) : EReal := v (ix2 r k)
/-- The product with the transposed weight. -/
def dot (r : Fin 512) (j : Fin 1024) : EReal := ∑ k : Fin 2048, (x (ix2 r k) : EReal) * w (ix2 j k)
/-- What a block adds to the gain's gradient. -/
def part (j : Fin 1024) : EReal := ∑ r : Fin 512, dot x w r j * (line v r j * Norm.inv (line v r))

theorem dot_eq (r : Fin 512) (j : Fin 1024) : k0_pay2 x w (ix2 r j) = dot x w r j := by
  pointwise [k0_pay2]; rfl
theorem inv_eq (r : Fin 512) : k0_pay3 v (ix2 r 0) = Norm.inv (line v r) := by
  pointwise [k0_pay3]; rfl
theorem normed_eq (r : Fin 512) (j : Fin 1024) : k0_pay4 v (ix2 r j) = line v r j * Norm.inv (line v r) := by
  pointwise [k0_pay4]; rw [inv_eq]; rfl
theorem grad_eq (r : Fin 512) (j : Fin 1024) : k0_pay5 x w v g (ix2 r j) = Norm.grad (line v r) (fun k => dot x w r k * g (ix2 0 k)) j := by
  pointwise [k0_pay5]; simp only [dot_eq, inv_eq, normed_eq]; rfl
theorem part_eq (j : Fin 1024) : k0_pay6 x w v (ix2 0 j) = part x w v j := by
  pointwise [k0_pay6]; simp only [dot_eq, normed_eq]; rfl
theorem add_eq (j : Fin 1024) : k0_pay1 (k0_pay6 x w v) a (ix2 0 j) = a (ix2 0 j) + part x w v j := by
  pointwise [k0_pay1]; rw [part_eq]
end

variable (m : (ℓ : Loc nD τ sig) → Buf (Elt Ideal) ℓ) (c : Dev nD)

/-- The block of every window at every grid point. -/
theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![0, 0] :=
  (by decide +kernel : ∀ t : Fin grid0.N, _)

/-- The row of the memory that row `r` of block `t` is. -/
def at_ (t : Fin cfg0.N) (r : Fin 512) : Fin 1024 := ⟨t.val * 512 + r.val, by have h : t.val < 2 := t.isLt; omega⟩

abbrev X : S1024x1024.Idx → EReal := m ((c : Thread nD τ).loc main_arg0)
abbrev G : S1024.Idx → EReal := m ((c : Thread nD τ).loc main_arg1)
abbrev K : S1024x1024.Idx → EReal := m ((c : Thread nD τ).loc main_arg2)
abbrev W : S1024x1024.Idx → EReal := m ((c : Thread nD τ).loc main_arg3)
abbrev D : S1024x2048.Idx → EReal := m ((c : Thread nD τ).loc main_arg4)

/-- The joint weight the host prepares: the keys' columns, then the values'. -/
def joint (j : Fin 1024) (k : Fin 2048) : EReal := if h : k.val < 1024 then K m c (ix2 j ⟨k.val, h⟩) else W m c (ix2 j ⟨k.val - 1024, by omega⟩)
theorem joint_apply (j : Fin 1024) (k : Fin 2048) : V m c main_v0 (ix2 j k) = joint m c j k := by
  unfold joint
  entry_read
  pointwise
theorem gain_apply (j : Fin 1024) : V m c main_v1 (ix2 0 j) = G m c (ix1 j) := by
  entry_read
  pointwise

theorem x_blk (t : Fin cfg0.N) (r : Fin 512) (k : Fin 2048) : iblk m c 0 t (ix2 r k) = D m c (ix2 (at_ t r) k) := by
  blk_ext [iblk, V, idx t, at_]
theorem w_blk (t : Fin cfg0.N) (j : Fin 1024) (k : Fin 2048) : iblk m c 1 t (ix2 j k) = joint m c j k := by
  refine Eq.trans ?_ (joint_apply m c j k)
  blk_ext [iblk, idx t]
theorem v_blk (t : Fin cfg0.N) (r : Fin 512) (k : Fin 1024) : iblk m c 2 t (ix2 r k) = X m c (ix2 (at_ t r) k) := by
  blk_ext [iblk, V, idx t, at_]
theorem g_blk (t : Fin cfg0.N) (k : Fin 1024) : iblk m c 3 t (ix2 0 k) = G m c (ix1 k) := by
  refine Eq.trans ?_ (gain_apply m c k)
  blk_ext [iblk, idx t]

theorem line_eq (t : Fin cfg0.N) (r : Fin 512) : line (iblk m c 2 t) r = row (X m c) (at_ t r) := funext fun k => v_blk m c t r k

/-- The product over the joint columns is the two products' sum. -/
theorem dot_apply (t : Fin cfg0.N) (r : Fin 512) (j : Fin 1024) : dot (iblk m c 0 t) (iblk m c 1 t) r j = dh (K m c) (W m c) (D m c) (at_ t r) j := by
  unfold dot dh
  simp only [x_blk, w_blk]
  rw [Fin.sum_univ_add (a := 1024) (b := 1024), add_comm]
  congr 1

/-- What a grid point stores to its block of the first result. -/
theorem out_first (t : Fin cfg0.N) (r : Fin 512) (j : Fin 1024) : (outsAt0 m c t.val t.isLt).1 (ix2 r j)
    = Norm.grad (row (X m c) (at_ t r)) (fun k => dh (K m c) (W m c) (D m c) (at_ t r) k * G m c (ix1 k)) j := by
  have key : (outsAt0 m c t.val t.isLt).1 (ix2 r j) = k0_pay5 (iblk m c 0 t) (iblk m c 1 t) (iblk m c 2 t) (iblk m c 3 t) (ix2 r j) := by
    by_cases h : t.val % 2 = 0
    · rw [outsAt0_A m c t h (by omega)]; frame_out
    · rw [outsAt0_B m c t h (by omega)]; frame_out
  rw [key, grad_eq, line_eq]
  simp only [dot_apply, g_blk]

/-- The running total over the row blocks so far. -/
theorem out_second (n : ℕ) (hn : n < cfg0.N) (j : Fin 1024) : (outsAt0 m c n hn).2 (ix2 0 j)
    = ∑ t : Fin (n + 1), part (iblk m c 0 ⟨t, by omega⟩) (iblk m c 1 ⟨t, by omega⟩) (iblk m c 2 ⟨t, by omega⟩) j := by
  induction n with
  | zero =>
    rw [outsAt0_A m c ⟨0, hn⟩ rfl (by change ¬0 % 2 = 1; omega)]; frame_out
    rw [Fin.sum_univ_one]
    exact part_eq _ _ _ j
  | succ n ih =>
    have h2 : n + 1 < 2 := hn
    rw [outsAt0_B m c ⟨n + 1, hn⟩ (by change ¬(n + 1) % 2 = 0; omega) (by change (n + 1) % 2 = 1; omega)]; frame_out
    rw [Fin.sum_univ_castSucc]
    refine (add_eq _ _ _ _ j).trans ?_
    exact congrArg (· + _) (ih (by omega))

/-- The first result after the run. -/
theorem final4 : (dats m 0 c).arrAt 4 (cfgs 0).N
    = Cert.Reference8Ideal.Read.val_main_v44 (F := Ideal) (X m c) (G m c) (K m c) (W m c) (D m c) := by
  refine (dats m 0 c).arrAt_eq_of_covers 4 _ (by decide +kernel) fun t _ y => ?_
  blk_simp
  rw [after0_4]
  obtain ⟨r, j, rfl⟩ : ∃ (r : Fin 512) (j : Fin 1024), y = ix2 r j := ⟨y 0, y 1, by idx_vars y⟩
  rw [out_first, Norm.grad_eq]
  refine (Cert.Reference8Ideal.MemRef.first (X m c) (G m c) (K m c) (W m c) (D m c) (at_ t r) j).symm.trans ?_
  blk_ext [idx t, at_]

theorem one_row (y : S1x1024.Idx) : y = ix2 0 (y 1) := by
  funext a
  match a with
  | ⟨0, _⟩ => exact Fin.ext (by have := (y 0).isLt; change (y 0).val < 1 at this; change (y 0).val = 0; omega)
  | ⟨1, _⟩ => rfl

/-- The blocks' parts add up to the sum over all rows. -/
theorem total_eq (j : Fin 1024) : ∑ t : Fin 2, part (iblk m c 0 t) (iblk m c 1 t) (iblk m c 2 t) j
    = ∑ r : Fin 1024, row (X m c) r j * Norm.inv (row (X m c) r) * dh (K m c) (W m c) (D m c) r j := by
  unfold part
  refine Fin.sum_mul_add_congr (S := 2) (n := 512) fun t r hl => ?_
  rw [dot_apply m c t, line_eq m c t, mul_comm]
  rfl

/-- The second result after the run. -/
theorem final5 : (dats m 0 c).arrAt 5 (cfgs 0).N
    = Cert.Reference8Ideal.Read.val_main_v45 (F := Ideal) (X m c) (K m c) (W m c) (D m c) := by
  refine (dats m 0 c).arrAt_eq_of_covers 5 _ (by decide +kernel) fun t hf y => ?_
  have ht : t.val = 1 := by
    have := (flush0_5 t).mp hf
    have : t.val < 2 := t.isLt
    omega
  blk_simp
  rw [after0_5]
  obtain ⟨j, rfl⟩ : ∃ j : Fin 1024, y = ix2 0 j := ⟨y 1, one_row y⟩
  refine (out_second m c t.val t.isLt j).trans (Eq.trans ?_ (Eq.trans (Cert.Reference8Ideal.MemRef.second (X m c) (K m c) (W m c) (D m c) j).symm ?_))
  · obtain ⟨t, h2⟩ := t
    obtain rfl : t = 1 := ht
    exact total_eq m c j
  · blk_ext [idx t]

end Cert.Kernel8Ideal.MemValue

end
-- ==== Proof.UpRef.lean ====
/-
  The reference's gradient through the norm before the feed-forward block, read index by index: the chain rule's gradient
  of `Norm` on the residual stream, added to the residual's own gradient, and its product with the transposed output weight.
-/
module

public import proofs.«01_k».proof.Proof.Gen.Reference7Ideal.Read
public import proofs.«01_k».proof.Proof.Norm

@[expose] public section

set_option maxRecDepth 16384

noncomputable section

namespace Cert.Reference7Ideal.UpRef

open Cert.Reference7Ideal Cert.Reference7Ideal.Gen Cert.Reference7Ideal.Read Idealize.ShloMosaic

variable (X1 : S8192x1024.Idx → EReal) (O : S8192x1024.Idx → EReal) (P : S1024x1024.Idx → EReal) (G : S1024.Idx → EReal)
  (U : S1024x4096.Idx → EReal) (R : S8192x1024.Idx → EReal) (D : S8192x4096.Idx → EReal)

/-- A row of the residual stream behind the cross attention. -/
def row (r : Fin 8192) (k : Fin 1024) : EReal := X1 (ix2 r k) + ∑ q : Fin 1024, O (ix2 r q) * P (ix2 q k)
/-- The gradient of a normed row. -/
def dh (r : Fin 8192) (j : Fin 1024) : EReal := ∑ k : Fin 4096, D (ix2 r k) * U (ix2 j k)
/-- The gradient of the residual stream. -/
def dx (r : Fin 8192) (j : Fin 1024) : EReal := R (ix2 r j) + Norm.pull (row X1 O P r) (fun k => dh U D r k * G (ix1 k)) j

theorem row_eq (r : Fin 8192) (k : Fin 1024) : val_main_v5 (F := Ideal) X1 O P (ix2 r k) = row X1 O P r k := by
  pointwise [val_main_v5, val_main_v4, val_main_v1, val_main_v0]
  rfl

theorem mean_eq (r : Fin 8192) : val_main_v12 (F := Ideal) X1 O P (ix2 r 0) = Norm.mean (row X1 O P r) := by
  pointwise [val_main_v12, val_main_v11, val_main_v10, val_main_v9, val_main_v8, val_main_v7, val_main_v6, val_main_cst, val_main_cst_0, val_main_cst_1]
  simp only [row_eq]; rfl

theorem inv_eq (r : Fin 8192) : val_main_v13 (F := Ideal) X1 O P (ix2 r 0) = Norm.inv (row X1 O P r) := by
  pointwise [val_main_v13]
  rw [mean_eq]; rfl

theorem dh_eq (r : Fin 8192) (j : Fin 1024) : val_main_v23 (F := Ideal) U D (ix2 r j) = dh U D r j := by
  pointwise [val_main_v23, val_main_v3, val_main_v2]
  rfl

theorem scaled_eq (r : Fin 8192) (j : Fin 1024) : val_main_v28 (F := Ideal) G U D (ix2 r j) = dh U D r j * G (ix1 j) := by
  pointwise [val_main_v28, val_main_v27, val_main_v19]
  rw [dh_eq]

theorem slope_eq (r : Fin 8192) : val_main_v39 (F := Ideal) X1 O P G U D (ix1 r) = Norm.slope (row X1 O P r) (fun k => dh U D r k * G (ix1 k)) := by
  pointwise [val_main_v39, val_main_v38, val_main_v37, val_main_v36, val_main_v32, val_main_v31, val_main_v30, val_main_v16, val_main_v15, val_main_v14,
    val_main_cst_2, val_main_cst_5, val_main_cst_6, val_main_cst_7]
  simp only [mean_eq, inv_eq, scaled_eq, row_eq, Fin.sum_univ_one, zero_add]
  rfl

/-- The first result: the gradient of the residual stream. -/
theorem first (r : Fin 8192) (j : Fin 1024) : val_main_v44 (F := Ideal) X1 O P G U R D (ix2 r j) = dx X1 O P G U R D r j := by
  pointwise [val_main_v44, val_main_v43, val_main_v42, val_main_v41, val_main_v40, val_main_v35, val_main_v34, val_main_v33]
  rw [inv_eq, slope_eq, scaled_eq, row_eq, add_assoc, add_assoc, ← add_assoc (_ * _)]; rfl

/-- The second result: the gradient of the gain. -/
theorem second (j : Fin 1024) : val_main_v47 (F := Ideal) X1 O P U D (ix2 0 j) = ∑ r : Fin 8192, row X1 O P r j * Norm.inv (row X1 O P r) * dh U D r j := by
  pointwise [val_main_v47, val_main_v29, val_main_v26, val_main_v25, val_main_v24, val_main_v18, val_main_v17, val_main_cst_3, val_main_cst_4]
  simp only [inv_eq, dh_eq, row_eq, Fin.sum_univ_one, zero_add]

/-- The third result: the gradient of the cross attention's output. -/
theorem third (r : Fin 8192) (j : Fin 1024) : val_main_v48 (F := Ideal) X1 O P G U R D (ix2 r j) = ∑ k : Fin 1024, dx X1 O P G U R D r k * P (ix2 j k) := by
  pointwise [val_main_v48, val_main_v46, val_main_v45, val_main_v1]
  exact Finset.sum_congr rfl fun k _ => congrArg (· * _) (first X1 O P G U R D r k)

end Cert.Reference7Ideal.UpRef

end
-- ==== Proof.UpValue.lean ====
/-
  The gradient through the norm before the feed-forward block: each of the kernel's sixteen row blocks multiplies the
  gradient by the transposed weight, takes the norm's gradient row by row, adds the residual's gradient, multiplies the
  sum by the transposed output weight, and adds its rows to the gain's gradient.
-/
module

public import proofs.«01_k».proof.Proof.Gen.Kernel7Ideal.Value
public import proofs.«01_k».proof.Proof.UpRef

@[expose] public section

set_option maxRecDepth 16384

noncomputable section

namespace Cert.Kernel7Ideal.UpValue

open Cert.Kernel7Ideal Cert.Kernel7Ideal.Gen Idealize.ShloMosaic Idealize.ShloMosaic.TcCoe Idealize.SL.Sem
open Idealize.ShloMosaic.Pipeline (Dat)
open Cert.Reference7Ideal.UpRef (row dh dx)

section
variable (x : Vec Ideal S512x4096 .bf16) (w : Vec Ideal S1024x4096 .bf16) (v d : Vec Ideal S512x1024 .f32) (g a : Vec Ideal S1x1024 .f32)
  (p : Vec Ideal S1024x1024 .bf16)

/-- A row of a block. -/
def line (r : Fin 512) (k : Fin 1024) : EReal := v (ix2 r k)
/-- The product with the transposed weight. -/
def dot (r : Fin 512) (j : Fin 1024) : EReal := ∑ k : Fin 4096, (x (ix2 r k) : EReal) * w (ix2 j k)
/-- What a block adds to the gain's gradient. -/
def part (j : Fin 1024) : EReal := ∑ r : Fin 512, dot x w r j * (line v r j * Norm.inv (line v r))
/-- The gradient of the residual stream. -/
def sum (r : Fin 512) (j : Fin 1024) : EReal := (d (ix2 r j) : EReal) + Norm.grad (line v r) (fun k => dot x w r k * g (ix2 0 k)) j

theorem dot_eq (r : Fin 512) (j : Fin 1024) : k0_pay3 x w (ix2 r j) = dot x w r j := by
  pointwise [k0_pay3]; rfl
theorem inv_eq (r : Fin 512) : k0_pay5 v (ix2 r 0) = Norm.inv (line v r) := by
  pointwise [k0_pay5, k0_pay4]; rfl
theorem normed_eq (r : Fin 512) (j : Fin 1024) : k0_pay6 v (ix2 r j) = line v r j * Norm.inv (line v r) := by
  pointwise [k0_pay6, k0_pay4]; rw [inv_eq]; rfl
theorem part_eq (j : Fin 1024) : k0_pay7 x w v (ix2 0 j) = part x w v j := by
  pointwise [k0_pay7]; simp only [dot_eq, normed_eq]; rfl
theorem add_eq (j : Fin 1024) : k0_pay2 (k0_pay7 x w v) a (ix2 0 j) = a (ix2 0 j) + part x w v j := by
  pointwise [k0_pay2]; rw [part_eq]
theorem sum_eq (r : Fin 512) (j : Fin 1024) : k0_pay8 x w v g d (ix2 r j) = sum x w v d g r j := by
  pointwise [k0_pay8]; simp only [dot_eq, inv_eq, normed_eq]; rfl
theorem then_eq (r : Fin 512) (j : Fin 1024) : k0_pay1 (k0_pay9 x w v g d) p (ix2 r j) = ∑ k : Fin 1024, sum x w v d g r k * p (ix2 j k) := by
  pointwise [k0_pay1, k0_pay9]; simp only [sum_eq]
end

variable (m : (ℓ : Loc nD τ sig) → Buf (Elt Ideal) ℓ) (c : Dev nD)

/-- The block of every window at every grid point. -/
theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![0, 0] ∧ win0_6.index t = ![t.val, 0] ∧ win0_7.index t = ![0, 0] ∧ win0_8.index t = ![t.val, 0] :=
  (by decide +kernel : ∀ t : Fin grid0.N, _)

/-- The row of the stream that row `r` of block `t` is. -/
def at_ (t : Fin cfg0.N) (r : Fin 512) : Fin 8192 := ⟨t.val * 512 + r.val, by have h : t.val < 16 := t.isLt; omega⟩

abbrev X1 : S8192x1024.Idx → EReal := m ((c : Thread nD τ).loc main_arg0)
abbrev O : S8192x1024.Idx → EReal := m ((c : Thread nD τ).loc main_arg1)
abbrev P : S1024x1024.Idx → EReal := m ((c : Thread nD τ).loc main_arg2)
abbrev G : S1024.Idx → EReal := m ((c : Thread nD τ).loc main_arg3)
abbrev U : S1024x4096.Idx → EReal := m ((c : Thread nD τ).loc main_arg4)
abbrev R : S8192x1024.Idx → EReal := m ((c : Thread nD τ).loc main_arg5)
abbrev D : S8192x4096.Idx → EReal := m ((c : Thread nD τ).loc main_arg6)

/-- The residual stream the host prepares. -/
theorem row_apply (r : Fin 8192) (k : Fin 1024) : V m c main_v1 (ix2 r k) = row (X1 m c) (O m c) (P m c) r k := by
  entry_read
  pointwise
  rfl
theorem gain_apply (j : Fin 1024) : V m c main_v2 (ix2 0 j) = G m c (ix1 j) := by
  entry_read
  pointwise

theorem x_blk (t : Fin cfg0.N) (r : Fin 512) (k : Fin 4096) : iblk m c 0 t (ix2 r k) = D m c (ix2 (at_ t r) k) := by
  blk_ext [iblk, V, idx t, at_]
theorem w_blk (t : Fin cfg0.N) (j : Fin 1024) (k : Fin 4096) : iblk m c 1 t (ix2 j k) = U m c (ix2 j k) := by
  blk_ext [iblk, V, idx t]
theorem v_blk (t : Fin cfg0.N) (r : Fin 512) (k : Fin 1024) : iblk m c 2 t (ix2 r k) = row (X1 m c) (O m c) (P m c) (at_ t r) k := by
  refine Eq.trans ?_ (row_apply m c (at_ t r) k)
  blk_ext [iblk, idx t, at_]
theorem g_blk (t : Fin cfg0.N) (k : Fin 1024) : iblk m c 3 t (ix2 0 k) = G m c (ix1 k) := by
  refine Eq.trans ?_ (gain_apply m c k)
  blk_ext [iblk, idx t]
theorem d_blk (t : Fin cfg0.N) (r : Fin 512) (k : Fin 1024) : iblk m c 4 t (ix2 r k) = R m c (ix2 (at_ t r) k) := by
  blk_ext [iblk, V, idx t, at_]
theorem p_blk (t : Fin cfg0.N) (j k : Fin 1024) : iblk m c 5 t (ix2 j k) = P m c (ix2 j k) := by
  blk_ext [iblk, V, idx t]

theorem line_eq (t : Fin cfg0.N) (r : Fin 512) : line (iblk m c 2 t) r = row (X1 m c) (O m c) (P m c) (at_ t r) := funext fun k => v_blk m c t r k
theorem dot_apply (t : Fin cfg0.N) (r : Fin 512) (j : Fin 1024) : dot (iblk m c 0 t) (iblk m c 1 t) r j = dh (U m c) (D m c) (at_ t r) j := by
  unfold dot dh
  simp only [x_blk, w_blk]
theorem sum_apply (t : Fin cfg0.N) (r : Fin 512) (j : Fin 1024) : sum (iblk m c 0 t) (iblk m c 1 t) (iblk m c 2 t) (iblk m c 4 t) (iblk m c 3 t) r j
    = dx (X1 m c) (O m c) (P m c) (G m c) (U m c) (R m c) (D m c) (at_ t r) j := by
  unfold sum dx
  simp only [Norm.grad_eq, line_eq, dot_apply, g_blk, d_blk]

/-- What a grid point stores to its blocks of the row-wise results. -/
theorem out_rows (t : Fin cfg0.N) (r : Fin 512) (j : Fin 1024) : (outsAt0 m c t.val t.isLt).1 (ix2 r j) = dx (X1 m c) (O m c) (P m c) (G m c) (U m c) (R m c) (D m c) (at_ t r) j
    ∧ (outsAt0 m c t.val t.isLt).2.2 (ix2 r j) = ∑ k : Fin 1024, dx (X1 m c) (O m c) (P m c) (G m c) (U m c) (R m c) (D m c) (at_ t r) k * P m c (ix2 j k) := by
  have key : (outsAt0 m c t.val t.isLt).1 (ix2 r j) = k0_pay8 (iblk m c 0 t) (iblk m c 1 t) (iblk m c 2 t) (iblk m c 3 t) (iblk m c 4 t) (ix2 r j)
      ∧ (outsAt0 m c t.val t.isLt).2.2 (ix2 r j) = k0_pay1 (k0_pay9 (iblk m c 0 t) (iblk m c 1 t) (iblk m c 2 t) (iblk m c 3 t) (iblk m c 4 t)) (iblk m c 5 t) (ix2 r j) := by
    have h16 : t.val < 16 := t.isLt
    by_cases h : t.val % 16 = 0
    · constructor
      · rw [outsAt0_A m c t h (by omega)]; frame_out
      · rw [outsAt0_A m c t h (by omega)]; frame_out
    · constructor
      · rw [outsAt0_B m c t h (by omega)]; frame_out
      · rw [outsAt0_B m c t h (by omega)]; frame_out
  rw [key.1, key.2, sum_eq, then_eq]
  simp only [sum_apply, p_blk, and_self]

/-- The running total over the row blocks so far. -/
theorem out_gain (n : ℕ) (hn : n < cfg0.N) (j : Fin 1024) : (outsAt0 m c n hn).2.1 (ix2 0 j)
    = ∑ t : Fin (n + 1), part (iblk m c 0 ⟨t, by omega⟩) (iblk m c 1 ⟨t, by omega⟩) (iblk m c 2 ⟨t, by omega⟩) j := by
  induction n with
  | zero =>
    rw [outsAt0_A m c ⟨0, hn⟩ rfl (by change ¬1 ≤ 0; omega)]; frame_out
    rw [Fin.sum_univ_one]
    exact part_eq _ _ _ j
  | succ n ih =>
    have h16 : n + 1 < 16 := hn
    rw [outsAt0_B m c ⟨n + 1, hn⟩ (by change ¬(n + 1) % 16 = 0; omega) (by change 1 ≤ n + 1; omega)]; frame_out
    rw [Fin.sum_univ_castSucc]
    refine (add_eq _ _ _ _ j).trans ?_
    exact congrArg (· + _) (ih (by omega))

/-- The first result after the run. -/
theorem final6 : (dats m 0 c).arrAt 6 (cfgs 0).N
    = Cert.Reference7Ideal.Read.val_main_v44 (F := Ideal) (X1 m c) (O m c) (P m c) (G m c) (U m c) (R m c) (D m c) := by
  refine (dats m 0 c).arrAt_eq_of_covers 6 _ (by decide +kernel) fun t _ y => ?_
  blk_simp
  rw [after0_6]
  obtain ⟨r, j, rfl⟩ : ∃ (r : Fin 512) (j : Fin 1024), y = ix2 r j := ⟨y 0, y 1, by idx_vars y⟩
  refine ((out_rows m c t r j).1.trans (Cert.Reference7Ideal.UpRef.first (X1 m c) (O m c) (P m c) (G m c) (U m c) (R m c) (D m c) (at_ t r) j).symm).trans ?_
  blk_ext [idx t, at_]

/-- The third result after the run. -/
theorem final8 : (dats m 0 c).arrAt 8 (cfgs 0).N
    = Cert.Reference7Ideal.Read.val_main_v48 (F := Ideal) (X1 m c) (O m c) (P m c) (G m c) (U m c) (R m c) (D m c) := by
  refine (dats m 0 c).arrAt_eq_of_covers 8 _ (by decide +kernel) fun t _ y => ?_
  blk_simp
  rw [after0_8]
  obtain ⟨r, j, rfl⟩ : ∃ (r : Fin 512) (j : Fin 1024), y = ix2 r j := ⟨y 0, y 1, by idx_vars y⟩
  refine ((out_rows m c t r j).2.trans (Cert.Reference7Ideal.UpRef.third (X1 m c) (O m c) (P m c) (G m c) (U m c) (R m c) (D m c) (at_ t r) j).symm).trans ?_
  blk_ext [idx t, at_]

theorem one_row (y : S1x1024.Idx) : y = ix2 0 (y 1) := by
  funext a
  match a with
  | ⟨0, _⟩ => exact Fin.ext (by have := (y 0).isLt; change (y 0).val < 1 at this; change (y 0).val = 0; omega)
  | ⟨1, _⟩ => rfl

/-- The blocks' parts add up to the sum over all rows. -/
theorem total_eq (j : Fin 1024) : ∑ t : Fin 16, part (iblk m c 0 t) (iblk m c 1 t) (iblk m c 2 t) j
    = ∑ r : Fin 8192, row (X1 m c) (O m c) (P m c) r j * Norm.inv (row (X1 m c) (O m c) (P m c) r) * dh (U m c) (D m c) r j := by
  unfold part
  refine Fin.sum_mul_add_congr (S := 16) (n := 512) fun t r hl => ?_
  rw [dot_apply m c t, line_eq m c t, mul_comm]
  rfl

/-- The second result after the run. -/
theorem final7 : (dats m 0 c).arrAt 7 (cfgs 0).N
    = Cert.Reference7Ideal.Read.val_main_v47 (F := Ideal) (X1 m c) (O m c) (P m c) (U m c) (D m c) := by
  refine (dats m 0 c).arrAt_eq_of_covers 7 _ (by decide +kernel) fun t hf y => ?_
  have ht : t.val = 15 := by
    have := (flush0_7 t).mp hf
    have : t.val < 16 := t.isLt
    omega
  blk_simp
  rw [after0_7]
  obtain ⟨j, rfl⟩ : ∃ j : Fin 1024, y = ix2 0 j := ⟨y 1, one_row y⟩
  refine (out_gain m c t.val t.isLt j).trans (Eq.trans ?_ (Eq.trans (Cert.Reference7Ideal.UpRef.second (X1 m c) (O m c) (P m c) (U m c) (D m c) j).symm ?_))
  · obtain ⟨t, h2⟩ := t
    obtain rfl : t = 15 := ht
    exact total_eq m c j
  · blk_ext [idx t]

end Cert.Kernel7Ideal.UpValue

end
-- ==== Proof.InRef.lean ====
/-
  The reference's gradient through a layer's first norm, read index by index: the seven gradients of the projections side
  by side, their product with the transposed input weight, and the chain rule's gradient of `Norm` on the layer's input.
-/
module

public import proofs.«01_k».proof.Proof.Gen.Reference9Ideal.Read
public import proofs.«01_k».proof.Proof.Norm

@[expose] public section

set_option maxRecDepth 16384

noncomputable section

namespace Cert.Reference9Ideal.InRef

open Cert.Reference9Ideal Cert.Reference9Ideal.Gen Cert.Reference9Ideal.Read Idealize.ShloMosaic

variable (X : S8192x1024.Idx → EReal) (G : S1024.Idx → EReal) (W : S1024x3080.Idx → EReal) (R : S8192x1024.Idx → EReal)
  (A B C D E F : S8192x512.Idx → EReal) (H : S8192x8.Idx → EReal)

/-- The gradients of the seven projections, side by side: each is padded with zeros to the joint width and added. -/
def cols (r : Fin 8192) (k : Fin 3080) : EReal :=
  (((if h : 3072 ≤ k.val ∧ k.val - 3072 < 8 then H (ix2 r ⟨k.val - 3072, h.2⟩) else 0) +
    if h : 1536 ≤ k.val ∧ k.val - 1536 < 1536 then
      if h1 : k.val - 1536 < 512 then D (ix2 r ⟨k.val - 1536, h1⟩)
      else if h2 : k.val - 1536 - 512 < 512 then E (ix2 r ⟨k.val - 1536 - 512, h2⟩) else F (ix2 r ⟨k.val - 1536 - 512 - 512, by omega⟩)
    else 0) +
    if h : k.val < 1536 then
      if h1 : k.val < 512 then A (ix2 r ⟨k.val, h1⟩)
      else if h2 : k.val - 512 < 512 then B (ix2 r ⟨k.val - 512, h2⟩) else C (ix2 r ⟨k.val - 512 - 512, by omega⟩)
    else 0)

theorem cols_eq (r : Fin 8192) (k : Fin 3080) : val_main_v40 (F := Ideal) A B C D E F H (ix2 r k) = cols A B C D E F H r k := by
  pointwise [val_main_v40, val_main_v39, val_main_v38, val_main_v37, val_main_v36, val_main_v35, val_main_v34, val_main_v1, val_main_v2, val_main_v3,
    val_main_v4, val_main_v5, val_main_v6, val_main_v7, val_main_cst_3, val_main_cst_4, val_main_cst_5]
  unfold cols
  rfl

/-- A sum over `512` of the joint columns from `off` on is a sum over the piece they hold. -/
theorem piece {n off : ℕ} (hoff : off + n ≤ 3080) (w : Fin 3080 → EReal) (Z : (Fin n) → EReal) (r : Fin 8192)
    (h : ∀ k : Fin n, cols A B C D E F H r ⟨off + k.val, by omega⟩ = Z k) :
    ∑ k : Fin n, cols A B C D E F H r ⟨off + k.val, by omega⟩ * w ⟨off + k.val, by omega⟩ = ∑ k : Fin n, Z k * w ⟨off + k.val, by omega⟩ :=
  Finset.sum_congr rfl fun k _ => congrArg (· * _) (h k)

theorem cols_a (r : Fin 8192) (k : Fin 512) : cols A B C D E F H r ⟨k.val, by omega⟩ = A (ix2 r k) := by
  have := k.isLt
  unfold cols
  rw [dif_neg (by simp; omega), dif_neg (by simp; omega), dif_pos (by simp; omega), dif_pos (by simp)]; simp
theorem cols_b (r : Fin 8192) (k : Fin 512) : cols A B C D E F H r ⟨512 + k.val, by omega⟩ = B (ix2 r k) := by
  have := k.isLt
  unfold cols
  rw [dif_neg (by simp; omega), dif_neg (by simp; omega), dif_pos (by simp; omega), dif_neg (by simp), dif_pos (by simp)]; simp
theorem cols_c (r : Fin 8192) (k : Fin 512) : cols A B C D E F H r ⟨1024 + k.val, by omega⟩ = C (ix2 r k) := by
  have := k.isLt
  unfold cols
  rw [dif_neg (by simp; omega), dif_neg (by simp; omega), dif_pos (by simp; omega), dif_neg (by simp; omega), dif_neg (by simp; omega), zero_add, zero_add]
  exact congrArg C (congrArg (ix2 r) (Fin.ext (by simp; omega)))
theorem cols_d (r : Fin 8192) (k : Fin 512) : cols A B C D E F H r ⟨1536 + k.val, by omega⟩ = D (ix2 r k) := by
  have := k.isLt
  unfold cols
  rw [dif_neg (by simp; omega), dif_pos (by simp; omega), dif_pos (by simp), dif_neg (by simp)]; simp
theorem cols_e (r : Fin 8192) (k : Fin 512) : cols A B C D E F H r ⟨2048 + k.val, by omega⟩ = E (ix2 r k) := by
  have := k.isLt
  unfold cols
  rw [dif_neg (by simp; omega), dif_pos (by simp; omega), dif_neg (by simp; omega), dif_pos (by simp; omega), dif_neg (by simp; omega), zero_add, add_zero]
  exact congrArg E (congrArg (ix2 r) (Fin.ext (by simp; omega)))
theorem cols_f (r : Fin 8192) (k : Fin 512) : cols A B C D E F H r ⟨2560 + k.val, by omega⟩ = F (ix2 r k) := by
  have := k.isLt
  unfold cols
  rw [dif_neg (by simp; omega), dif_pos (by simp; omega), dif_neg (by simp; omega), dif_neg (by simp; omega), dif_neg (by simp; omega), zero_add, add_zero]
  exact congrArg F (congrArg (ix2 r) (Fin.ext (by simp; omega)))
theorem cols_h (r : Fin 8192) (k : Fin 8) : cols A B C D E F H r ⟨3072 + k.val, by omega⟩ = H (ix2 r k) := by
  have := k.isLt
  unfold cols
  rw [dif_pos (by simp), dif_neg (by simp; omega), dif_neg (by simp; omega), add_zero, add_zero]
  exact congrArg H (congrArg (ix2 r) (Fin.ext (by simp)))

/-- The product of the seven pieces with their own columns of the weight. -/
def dot (w : Fin 3080 → EReal) (a b c d e f : Fin 512 → EReal) (h : Fin 8 → EReal) : EReal :=
  ((((((∑ k : Fin 512, a k * w ⟨k.val, by omega⟩) + ∑ k : Fin 512, b k * w ⟨512 + k.val, by omega⟩)
     + ∑ k : Fin 512, c k * w ⟨1024 + k.val, by omega⟩) + ∑ k : Fin 512, d k * w ⟨1536 + k.val, by omega⟩)
     + ∑ k : Fin 512, e k * w ⟨2048 + k.val, by omega⟩) + ∑ k : Fin 512, f k * w ⟨2560 + k.val, by omega⟩)
     + ∑ k : Fin 8, h k * w ⟨3072 + k.val, by omega⟩

/-- The joint product is the seven pieces' products added. -/
theorem sum_cols (w : Fin 3080 → EReal) (r : Fin 8192) : ∑ k, cols A B C D E F H r k * w k =
    dot w (fun k => A (ix2 r k)) (fun k => B (ix2 r k)) (fun k => C (ix2 r k)) (fun k => D (ix2 r k)) (fun k => E (ix2 r k)) (fun k => F (ix2 r k)) (fun k => H (ix2 r k)) := by
  rw [Fin.sum_univ_add (a := 3072) (b := 8), Fin.sum_univ_add (a := 2560) (b := 512), Fin.sum_univ_add (a := 2048) (b := 512),
    Fin.sum_univ_add (a := 1536) (b := 512), Fin.sum_univ_add (a := 1024) (b := 512), Fin.sum_univ_add (a := 512) (b := 512)]
  unfold dot
  exact congrArg₂ (· + ·) (congrArg₂ (· + ·) (congrArg₂ (· + ·) (congrArg₂ (· + ·) (congrArg₂ (· + ·) (congrArg₂ (· + ·)
    (Finset.sum_congr rfl fun k _ => congrArg (· * _) (cols_a A B C D E F H r k))
    (piece A B C D E F H (by omega) w _ r (cols_b A B C D E F H r)))
    (piece A B C D E F H (by omega) w _ r (cols_c A B C D E F H r)))
    (piece A B C D E F H (by omega) w _ r (cols_d A B C D E F H r)))
    (piece A B C D E F H (by omega) w _ r (cols_e A B C D E F H r)))
    (piece A B C D E F H (by omega) w _ r (cols_f A B C D E F H r)))
    (piece A B C D E F H (by omega) w _ r (cols_h A B C D E F H r))

/-- A row of the layer's input. -/
def row (r : Fin 8192) (k : Fin 1024) : EReal := X (ix2 r k)
/-- The gradient of a normed row. -/
def dh (r : Fin 8192) (j : Fin 1024) : EReal := ∑ k : Fin 3080, cols A B C D E F H r k * W (ix2 j k)
/-- The gradient of the layer's input. -/
def dx (r : Fin 8192) (j : Fin 1024) : EReal := R (ix2 r j) + Norm.pull (row X r) (fun k => dh W A B C D E F H r k * G (ix1 k)) j

theorem mean_eq (r : Fin 8192) : val_main_v14 (F := Ideal) X (ix2 r 0) = Norm.mean (row X r) := by
  pointwise [val_main_v14, val_main_v13, val_main_v12, val_main_v11, val_main_v10, val_main_v9, val_main_v8, val_main_cst, val_main_cst_0, val_main_cst_1]
  rfl

theorem inv_eq (r : Fin 8192) : val_main_v15 (F := Ideal) X (ix2 r 0) = Norm.inv (row X r) := by
  pointwise [val_main_v15]
  rw [mean_eq]; rfl

theorem dh_eq (r : Fin 8192) (j : Fin 1024) : val_main_v41 (F := Ideal) W A B C D E F H (ix2 r j) = dh W A B C D E F H r j := by
  pointwise [val_main_v41, val_main_v0]
  simp only [cols_eq]
  rfl

theorem scaled_eq (r : Fin 8192) (j : Fin 1024) : val_main_v46 (F := Ideal) G W A B C D E F H (ix2 r j) = dh W A B C D E F H r j * G (ix1 j) := by
  pointwise [val_main_v46, val_main_v45, val_main_v21]
  rw [dh_eq]

theorem slope_eq (r : Fin 8192) : val_main_v57 (F := Ideal) X G W A B C D E F H (ix1 r) = Norm.slope (row X r) (fun k => dh W A B C D E F H r k * G (ix1 k)) := by
  pointwise [val_main_v57, val_main_v56, val_main_v55, val_main_v54, val_main_v50, val_main_v49, val_main_v48, val_main_v18, val_main_v17, val_main_v16,
    val_main_cst_2, val_main_cst_8, val_main_cst_9, val_main_cst_10]
  simp only [mean_eq, inv_eq, scaled_eq, Fin.sum_univ_one, zero_add]
  rfl

/-- The first result: the gradient of the layer's input. -/
theorem first (r : Fin 8192) (j : Fin 1024) : val_main_v62 (F := Ideal) X G W R A B C D E F H (ix2 r j) = dx X G W R A B C D E F H r j := by
  pointwise [val_main_v62, val_main_v61, val_main_v60, val_main_v59, val_main_v58, val_main_v53, val_main_v52, val_main_v51]
  rw [inv_eq, slope_eq, scaled_eq, add_assoc, add_assoc, ← add_assoc (_ * _)]; rfl

/-- The second result: the gradient of the gain. -/
theorem second (j : Fin 1024) : val_main_v63 (F := Ideal) X W A B C D E F H (ix2 0 j) = ∑ r : Fin 8192, row X r j * Norm.inv (row X r) * dh W A B C D E F H r j := by
  pointwise [val_main_v63, val_main_v47, val_main_v44, val_main_v43, val_main_v42, val_main_v20, val_main_v19, val_main_cst_6, val_main_cst_7]
  simp only [inv_eq, dh_eq, Fin.sum_univ_one, zero_add]
  rfl

end Cert.Reference9Ideal.InRef

end
-- ==== Proof.InValue.lean ====
/-
  The gradient through a layer's first norm: each of the kernel's sixteen row blocks multiplies the seven gradients of the
  projections by their columns of the transposed input weight, takes the norm's gradient row by row, adds the residual's
  gradient, and adds its rows to the gain's gradient.
-/
module

public import proofs.«01_k».proof.Proof.Gen.Kernel9Ideal.Value
public import proofs.«01_k».proof.Proof.InRef

@[expose] public section

set_option maxRecDepth 16384

noncomputable section

namespace Cert.Kernel9Ideal.InValue

open Cert.Kernel9Ideal Cert.Kernel9Ideal.Gen Idealize.ShloMosaic Idealize.ShloMosaic.TcCoe Idealize.SL.Sem
open Idealize.ShloMosaic.Pipeline (Dat)
open Cert.Reference9Ideal.InRef (row dh dx sum_cols)

/-- Columns `off`, `off + 1`, … of the weight. -/
def colsOf {n : ℕ} (w : Vec Ideal S1024x3200 .bf16) (off : ℕ) (h : off + n ≤ 3200) : Vec Ideal (⟨2, ![1024, n]⟩ : Shape) .bf16 :=
  fun i => w (ix2 (i 0) ⟨off + (i 1).val, by have : (i 1).val < n := (i 1).isLt; omega⟩)

theorem ld_cols {n : ℕ} (w : Vec Ideal S1024x3200 .bf16) (off : ℕ) (h : off + n ≤ 3200) (hin) :
    View.ld w (Rect.unit ![0, off] ![1024, n] hin) = colsOf w off h := by
  funext i
  refine congrArg w ?_
  ext a
  match a with
  | ⟨0, _⟩ => exact (Nat.zero_add _).trans (Nat.one_mul _)
  | ⟨1, _⟩ => exact congrArg (off + ·) (Nat.one_mul _)

section
variable (x0 x1 x2 x3 x4 x5 : Vec Ideal S512x512 .bf16) (x6 : Vec Ideal S512x128 .bf16) (w : Vec Ideal S1024x3200 .bf16)
  (v d : Vec Ideal S512x1024 .f32) (g a : Vec Ideal S1x1024 .f32)

/-- The weight's columns for each piece. -/
abbrev w0 : Vec Ideal S1024x512 .bf16 := colsOf w 0 (by omega)
abbrev w1 : Vec Ideal S1024x512 .bf16 := colsOf w 512 (by omega)
abbrev w2 : Vec Ideal S1024x512 .bf16 := colsOf w 1024 (by omega)
abbrev w3 : Vec Ideal S1024x512 .bf16 := colsOf w 1536 (by omega)
abbrev w4 : Vec Ideal S1024x512 .bf16 := colsOf w 2048 (by omega)
abbrev w5 : Vec Ideal S1024x512 .bf16 := colsOf w 2560 (by omega)
abbrev w6 : Vec Ideal S1024x128 .bf16 := colsOf w 3072 (by omega)

/-- A row of a block. -/
def line (r : Fin 512) (k : Fin 1024) : EReal := v (ix2 r k)
/-- The product of one piece with its columns. -/
def part1 {n : ℕ} (x : Vec Ideal (⟨2, ![512, n]⟩ : Shape) .bf16) (off : ℕ) (h : off + n ≤ 3200) (r : Fin 512) (j : Fin 1024) : EReal :=
  ∑ k : Fin n, (x (ix2 r k) : EReal) * w (ix2 j ⟨off + k.val, by omega⟩)
/-- The product of the seven pieces with the transposed weight. -/
def dot (r : Fin 512) (j : Fin 1024) : EReal :=
  (((((part1 w x0 0 (by omega) r j + part1 w x1 512 (by omega) r j) + part1 w x2 1024 (by omega) r j) + part1 w x3 1536 (by omega) r j)
    + part1 w x4 2048 (by omega) r j) + part1 w x5 2560 (by omega) r j) + part1 w x6 3072 (by omega) r j
/-- What a block adds to the gain's gradient. -/
def part (j : Fin 1024) : EReal := ∑ r : Fin 512, dot x0 x1 x2 x3 x4 x5 x6 w r j * (line v r j * Norm.inv (line v r))
/-- The gradient of the layer's input. -/
def sum (r : Fin 512) (j : Fin 1024) : EReal := (d (ix2 r j) : EReal) + Norm.grad (line v r) (fun k => dot x0 x1 x2 x3 x4 x5 x6 w r k * g (ix2 0 k)) j

/-- The first six pieces' products as the body forms them. -/
abbrev five : Vec Ideal S512x1024 .f32 := k0_pay2 x0 (w0 w) x1 (w1 w) x2 (w2 w) x3 (w3 w) x4 (w4 w)
abbrev sixth : Vec Ideal S512x1024 .f32 := k0_pay3 x5 (w5 w)

theorem five_ld : k0_pay2 x0 (View.ld w (Rect.unit ![0, 0] ![1024, 512] inb_S1024x3200_S1024x512_0_0)) x1 (View.ld w (Rect.unit ![0, 512] ![1024, 512] inb_S1024x3200_S1024x512_0_512)) x2 (View.ld w (Rect.unit ![0, 1024] ![1024, 512] inb_S1024x3200_S1024x512_0_1024))
    x3 (View.ld w (Rect.unit ![0, 1536] ![1024, 512] inb_S1024x3200_S1024x512_0_1536)) x4 (View.ld w (Rect.unit ![0, 2048] ![1024, 512] inb_S1024x3200_S1024x512_0_2048)) = five x0 x1 x2 x3 x4 w := by
  have e0 : (View.ld w (Rect.unit ![0, 0] ![1024, 512] inb_S1024x3200_S1024x512_0_0)) = w0 w := ld_cols w 0 (by omega) _
  have e1 : (View.ld w (Rect.unit ![0, 512] ![1024, 512] inb_S1024x3200_S1024x512_0_512)) = w1 w := ld_cols w 512 (by omega) _
  have e2 : (View.ld w (Rect.unit ![0, 1024] ![1024, 512] inb_S1024x3200_S1024x512_0_1024)) = w2 w := ld_cols w 1024 (by omega) _
  have e3 : (View.ld w (Rect.unit ![0, 1536] ![1024, 512] inb_S1024x3200_S1024x512_0_1536)) = w3 w := ld_cols w 1536 (by omega) _
  have e4 : (View.ld w (Rect.unit ![0, 2048] ![1024, 512] inb_S1024x3200_S1024x512_0_2048)) = w4 w := ld_cols w 2048 (by omega) _
  rw [e0, e1, e2, e3, e4]
theorem sixth_ld : k0_pay3 x5 (View.ld w (Rect.unit ![0, 2560] ![1024, 512] inb_S1024x3200_S1024x512_0_2560)) = sixth x5 w := by
  have e5 : (View.ld w (Rect.unit ![0, 2560] ![1024, 512] inb_S1024x3200_S1024x512_0_2560)) = w5 w := ld_cols w 2560 (by omega) _
  rw [e5]
theorem w6_ld : (View.ld w (Rect.unit ![0, 3072] ![1024, 128] inb_S1024x3200_S1024x128_0_3072)) = w6 w := ld_cols w 3072 (by omega) _

theorem dot_eq (r : Fin 512) (j : Fin 1024) : k0_pay4 (five x0 x1 x2 x3 x4 w) (sixth x5 w) x6 (w6 w) (ix2 r j) = dot x0 x1 x2 x3 x4 x5 x6 w r j := by
  pointwise [k0_pay4, k0_pay3, k0_pay2]; rfl
theorem inv_eq (r : Fin 512) : k0_pay5 v (ix2 r 0) = Norm.inv (line v r) := by
  pointwise [k0_pay5]; rfl
theorem normed_eq (r : Fin 512) (j : Fin 1024) : k0_pay6 v (ix2 r j) = line v r j * Norm.inv (line v r) := by
  pointwise [k0_pay6]; rw [inv_eq]; rfl
theorem part_eq (j : Fin 1024) : k0_pay7 (five x0 x1 x2 x3 x4 w) (sixth x5 w) x6 (w6 w) v (ix2 0 j) = part x0 x1 x2 x3 x4 x5 x6 w v j := by
  pointwise [k0_pay7]; simp only [dot_eq, normed_eq]; rfl
theorem add_eq (j : Fin 1024) : k0_pay1 (k0_pay7 (five x0 x1 x2 x3 x4 w) (sixth x5 w) x6 (w6 w) v) a (ix2 0 j) = a (ix2 0 j) + part x0 x1 x2 x3 x4 x5 x6 w v j := by
  pointwise [k0_pay1]; rw [part_eq]
theorem sum_eq (r : Fin 512) (j : Fin 1024) : k0_pay8 (five x0 x1 x2 x3 x4 w) (sixth x5 w) x6 (w6 w) v g d (ix2 r j) = sum x0 x1 x2 x3 x4 x5 x6 w v d g r j := by
  pointwise [k0_pay8]; simp only [dot_eq, inv_eq, normed_eq]; rfl
end

variable (m : (ℓ : Loc nD τ sig) → Buf (Elt Ideal) ℓ) (c : Dev nD)

/-- The block of every window at every grid point. -/
theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![0, 0] ∧ win0_8.index t = ![t.val, 0]
    ∧ win0_9.index t = ![0, 0] ∧ win0_10.index t = ![t.val, 0] ∧ win0_11.index t = ![t.val, 0] ∧ win0_12.index t = ![0, 0] :=
  (by decide +kernel : ∀ t : Fin grid0.N, _)

/-- The row of the stream that row `r` of block `t` is. -/
def at_ (t : Fin cfg0.N) (r : Fin 512) : Fin 8192 := ⟨t.val * 512 + r.val, by have h : t.val < 16 := t.isLt; omega⟩

abbrev X : S8192x1024.Idx → EReal := m ((c : Thread nD τ).loc main_arg0)
abbrev G : S1024.Idx → EReal := m ((c : Thread nD τ).loc main_arg1)
abbrev W : S1024x3080.Idx → EReal := m ((c : Thread nD τ).loc main_arg2)
abbrev R : S8192x1024.Idx → EReal := m ((c : Thread nD τ).loc main_arg3)
abbrev A : S8192x512.Idx → EReal := m ((c : Thread nD τ).loc main_arg4)
abbrev B : S8192x512.Idx → EReal := m ((c : Thread nD τ).loc main_arg5)
abbrev C : S8192x512.Idx → EReal := m ((c : Thread nD τ).loc main_arg6)
abbrev D : S8192x512.Idx → EReal := m ((c : Thread nD τ).loc main_arg7)
abbrev E : S8192x512.Idx → EReal := m ((c : Thread nD τ).loc main_arg8)
abbrev F : S8192x512.Idx → EReal := m ((c : Thread nD τ).loc main_arg9)
abbrev H : S8192x8.Idx → EReal := m ((c : Thread nD τ).loc main_arg10)

/-- What the host pads with. -/
theorem filler : (FloatOps.sitofp (F := Ideal) .bf16 0#32 : EReal) = 0 := by
  change (((0#32 : BitVec 32).toInt : ℝ) : EReal) = 0
  simp

theorem gain_apply (j : Fin 1024) : V m c main_v2 (ix2 0 j) = G m c (ix1 j) := by
  unfold V
  simp only [hostOps0, hostOps0_1, hostOps0_2, hostOps0_3, hostOps0_4, List.flatten_cons, List.flatten_nil, List.append_nil, List.cons_append, List.nil_append]
  entry_read
  pointwise
/-- The weight the host pads. -/
theorem w_apply (j : Fin 1024) (k : Fin 3200) : V m c main_v0 (ix2 j k) = if h : k.val < 3080 then W m c (ix2 j ⟨k.val, h⟩) else 0 := by
  unfold V
  simp only [hostOps0, hostOps0_1, hostOps0_2, hostOps0_3, hostOps0_4, List.flatten_cons, List.flatten_nil, List.append_nil, List.cons_append, List.nil_append]
  entry_read
  change pad S1024x3200 ![0, 0] ![0, 120] ![0, 0] (W m c : Vec Ideal S1024x3080 .bf16) (sitofp (F := Ideal) .bf16 (constantI S_ 32 0#32)) pads_S1024x3080_S1024x3200_000_01200 h_S_ (ix2 j k) = _
  pointwise
  rw [filler]
theorem h_apply (r : Fin 8192) (k : Fin 128) : V m c main_v1 (ix2 r k) = if h : k.val < 8 then H m c (ix2 r ⟨k.val, h⟩) else 0 := by
  unfold V
  simp only [hostOps0, hostOps0_1, hostOps0_2, hostOps0_3, hostOps0_4, List.flatten_cons, List.flatten_nil, List.append_nil, List.cons_append, List.nil_append]
  entry_read
  change pad S8192x128 ![0, 0] ![0, 120] ![0, 0] (H m c : Vec Ideal S8192x8 .bf16) (sitofp (F := Ideal) .bf16 (constantI S_ 32 0#32)) pads_S8192x8_S8192x128_000_01200 h_S_ (ix2 r k) = _
  pointwise
  rw [filler]

theorem a_blk (t : Fin cfg0.N) (r : Fin 512) (k : Fin 512) : iblk m c 0 t (ix2 r k) = A m c (ix2 (at_ t r) k) := by
  blk_ext [iblk, V, idx t, at_]
theorem b_blk (t : Fin cfg0.N) (r : Fin 512) (k : Fin 512) : iblk m c 1 t (ix2 r k) = B m c (ix2 (at_ t r) k) := by
  blk_ext [iblk, V, idx t, at_]
theorem c_blk (t : Fin cfg0.N) (r : Fin 512) (k : Fin 512) : iblk m c 2 t (ix2 r k) = C m c (ix2 (at_ t r) k) := by
  blk_ext [iblk, V, idx t, at_]
theorem d_blk (t : Fin cfg0.N) (r : Fin 512) (k : Fin 512) : iblk m c 3 t (ix2 r k) = D m c (ix2 (at_ t r) k) := by
  blk_ext [iblk, V, idx t, at_]
theorem e_blk (t : Fin cfg0.N) (r : Fin 512) (k : Fin 512) : iblk m c 4 t (ix2 r k) = E m c (ix2 (at_ t r) k) := by
  blk_ext [iblk, V, idx t, at_]
theorem f_blk (t : Fin cfg0.N) (r : Fin 512) (k : Fin 512) : iblk m c 5 t (ix2 r k) = F m c (ix2 (at_ t r) k) := by
  blk_ext [iblk, V, idx t, at_]
theorem h_blk (t : Fin cfg0.N) (r : Fin 512) (k : Fin 128) : iblk m c 6 t (ix2 r k) = if h : k.val < 8 then H m c (ix2 (at_ t r) ⟨k.val, h⟩) else 0 := by
  refine Eq.trans ?_ (h_apply m c (at_ t r) k)
  blk_ext [iblk, idx t, at_]
theorem w_blk (t : Fin cfg0.N) (j : Fin 1024) (k : Fin 3200) : iblk m c 7 t (ix2 j k) = if h : k.val < 3080 then W m c (ix2 j ⟨k.val, h⟩) else 0 := by
  refine Eq.trans ?_ (w_apply m c j k)
  blk_ext [iblk, idx t]
theorem v_blk (t : Fin cfg0.N) (r : Fin 512) (k : Fin 1024) : iblk m c 8 t (ix2 r k) = X m c (ix2 (at_ t r) k) := by
  blk_ext [iblk, V, idx t, at_]
theorem g_blk (t : Fin cfg0.N) (k : Fin 1024) : iblk m c 9 t (ix2 0 k) = G m c (ix1 k) := by
  refine Eq.trans ?_ (gain_apply m c k)
  blk_ext [iblk, idx t]
theorem r_blk (t : Fin cfg0.N) (r : Fin 512) (k : Fin 1024) : iblk m c 10 t (ix2 r k) = R m c (ix2 (at_ t r) k) := by
  blk_ext [iblk, V, idx t, at_]

/-- A piece's product, over the weight without its padding. -/
theorem part1_eq (t : Fin cfg0.N) (x : Vec Ideal S512x512 .bf16) (off : ℕ) (h : off + 512 ≤ 3080) (r : Fin 512) (j : Fin 1024) :
    part1 (iblk m c 7 t) x off (by omega) r j = ∑ k : Fin 512, (x (ix2 r k) : EReal) * W m c (ix2 j ⟨off + k.val, by omega⟩) := by
  refine Finset.sum_congr rfl fun k _ => congrArg (_ * ·) ((w_blk m c t j _).trans ?_)
  rw [dif_pos (by simp; omega)]

theorem last_eq (t : Fin cfg0.N) (r : Fin 512) (j : Fin 1024) :
    part1 (iblk m c 7 t) (iblk m c 6 t) 3072 (by omega) r j = ∑ k : Fin 8, H m c (ix2 (at_ t r) k) * W m c (ix2 j ⟨3072 + k.val, by omega⟩) := by
  unfold part1
  rw [Fin.sum_univ_add (a := 8) (b := 120)]
  refine (congrArg₂ (· + ·) (Finset.sum_congr rfl fun k _ => ?_) (Finset.sum_eq_zero fun k _ => ?_)).trans (add_zero _)
  · rw [h_blk, w_blk, dif_pos (by simp), dif_pos (by simp; omega)]
    rfl
  · rw [h_blk, dif_neg (by simp), zero_mul]

theorem line_eq (t : Fin cfg0.N) (r : Fin 512) : line (iblk m c 8 t) r = row (X m c) (at_ t r) := funext fun k => v_blk m c t r k
theorem dot_apply (t : Fin cfg0.N) (r : Fin 512) (j : Fin 1024) :
    dot (iblk m c 0 t) (iblk m c 1 t) (iblk m c 2 t) (iblk m c 3 t) (iblk m c 4 t) (iblk m c 5 t) (iblk m c 6 t) (iblk m c 7 t) r j = dh (W m c) (A m c) (B m c) (C m c) (D m c) (E m c) (F m c) (H m c) (at_ t r) j := by
  unfold dh
  rw [sum_cols (A m c) (B m c) (C m c) (D m c) (E m c) (F m c) (H m c) (fun k => W m c (ix2 j k)) (at_ t r)]
  unfold dot Cert.Reference9Ideal.InRef.dot
  rw [part1_eq m c t _ 0 (by omega), part1_eq m c t _ 512 (by omega), part1_eq m c t _ 1024 (by omega), part1_eq m c t _ 1536 (by omega),
    part1_eq m c t _ 2048 (by omega), part1_eq m c t _ 2560 (by omega), last_eq]
  simp only [a_blk, b_blk, c_blk, d_blk, e_blk, f_blk, zero_add]
theorem sum_apply (t : Fin cfg0.N) (r : Fin 512) (j : Fin 1024) :
    sum (iblk m c 0 t) (iblk m c 1 t) (iblk m c 2 t) (iblk m c 3 t) (iblk m c 4 t) (iblk m c 5 t) (iblk m c 6 t) (iblk m c 7 t) (iblk m c 8 t) (iblk m c 10 t) (iblk m c 9 t) r j
    = dx (X m c) (G m c) (W m c) (R m c) (A m c) (B m c) (C m c) (D m c) (E m c) (F m c) (H m c) (at_ t r) j := by
  unfold sum dx
  simp only [Norm.grad_eq, line_eq, dot_apply, g_blk, r_blk]

/-- What block `t` adds to the gain's gradient. -/
def partAt (t : Fin cfg0.N) (j : Fin 1024) : EReal := part (iblk m c 0 t) (iblk m c 1 t) (iblk m c 2 t) (iblk m c 3 t) (iblk m c 4 t) (iblk m c 5 t) (iblk m c 6 t) (iblk m c 7 t) (iblk m c 8 t) j

/-- What a grid point stores to its block of the row-wise result. -/
theorem out_rows (t : Fin cfg0.N) (r : Fin 512) (j : Fin 1024) : (outsAt0 m c t.val t.isLt).1 (ix2 r j)
    = dx (X m c) (G m c) (W m c) (R m c) (A m c) (B m c) (C m c) (D m c) (E m c) (F m c) (H m c) (at_ t r) j := by
  have key : (outsAt0 m c t.val t.isLt).1 (ix2 r j)
      = k0_pay8 (five (iblk m c 0 t) (iblk m c 1 t) (iblk m c 2 t) (iblk m c 3 t) (iblk m c 4 t) (iblk m c 7 t)) (sixth (iblk m c 5 t) (iblk m c 7 t))
        (iblk m c 6 t) (w6 (iblk m c 7 t)) (iblk m c 8 t) (iblk m c 9 t) (iblk m c 10 t) (ix2 r j) := by
    have h16 : t.val < 16 := t.isLt
    by_cases h : t.val % 16 = 0
    · rw [outsAt0_A m c t h (by omega)]; frame_out
      rw [five_ld, sixth_ld, w6_ld]
    · rw [outsAt0_B m c t h (by omega)]; frame_out
      rw [five_ld, sixth_ld, w6_ld]
  rw [key, sum_eq, sum_apply]

/-- The running total over the row blocks so far. -/
theorem out_gain (n : ℕ) (hn : n < cfg0.N) (j : Fin 1024) : (outsAt0 m c n hn).2 (ix2 0 j)
    = ∑ t : Fin (n + 1), partAt m c ⟨t, by omega⟩ j := by
  induction n with
  | zero =>
    rw [outsAt0_A m c ⟨0, hn⟩ rfl (by change ¬1 ≤ 0; omega)]; frame_out
    rw [Fin.sum_univ_one]
    rw [five_ld, sixth_ld, w6_ld]
    exact part_eq _ _ _ _ _ _ _ _ _ j
  | succ n ih =>
    have h16 : n + 1 < 16 := hn
    rw [outsAt0_B m c ⟨n + 1, hn⟩ (by change ¬(n + 1) % 16 = 0; omega) (by change 1 ≤ n + 1; omega)]; frame_out
    rw [Fin.sum_univ_castSucc]
    rw [five_ld, sixth_ld, w6_ld]
    refine (add_eq _ _ _ _ _ _ _ _ _ _ j).trans ?_
    exact congrArg (· + _) (ih (by omega))

/-- The first result after the run. -/
theorem final11 : (dats m 0 c).arrAt 11 (cfgs 0).N
    = Cert.Reference9Ideal.Read.val_main_v62 (F := Ideal) (X m c) (G m c) (W m c) (R m c) (A m c) (B m c) (C m c) (D m c) (E m c) (F m c) (H m c) := by
  refine (dats m 0 c).arrAt_eq_of_covers 11 _ (by decide +kernel) fun t _ y => ?_
  blk_simp
  rw [after0_11]
  obtain ⟨r, j, rfl⟩ : ∃ (r : Fin 512) (j : Fin 1024), y = ix2 r j := ⟨y 0, y 1, by idx_vars y⟩
  refine ((out_rows m c t r j).trans (Cert.Reference9Ideal.InRef.first (X m c) (G m c) (W m c) (R m c) (A m c) (B m c) (C m c) (D m c) (E m c) (F m c) (H m c) (at_ t r) j).symm).trans ?_
  blk_ext [idx t, at_]

theorem one_row (y : S1x1024.Idx) : y = ix2 0 (y 1) := by
  funext a
  match a with
  | ⟨0, _⟩ => exact Fin.ext (by have := (y 0).isLt; change (y 0).val < 1 at this; change (y 0).val = 0; omega)
  | ⟨1, _⟩ => rfl

/-- The blocks' parts add up to the sum over all rows. -/
theorem total_eq (j : Fin 1024) : ∑ t : Fin 16, partAt m c t j
    = ∑ r : Fin 8192, row (X m c) r j * Norm.inv (row (X m c) r) * dh (W m c) (A m c) (B m c) (C m c) (D m c) (E m c) (F m c) (H m c) r j := by
  unfold partAt part
  refine Fin.sum_mul_add_congr (S := 16) (n := 512) fun t r hl => ?_
  rw [dot_apply m c t, line_eq m c t, mul_comm]
  rfl

/-- The second result after the run. -/
theorem final12 : (dats m 0 c).arrAt 12 (cfgs 0).N
    = Cert.Reference9Ideal.Read.val_main_v63 (F := Ideal) (X m c) (W m c) (A m c) (B m c) (C m c) (D m c) (E m c) (F m c) (H m c) := by
  refine (dats m 0 c).arrAt_eq_of_covers 12 _ (by decide +kernel) fun t hf y => ?_
  have ht : t.val = 15 := by
    have := (flush0_12 t).mp hf
    have : t.val < 16 := t.isLt
    omega
  blk_simp
  rw [after0_12]
  obtain ⟨j, rfl⟩ : ∃ j : Fin 1024, y = ix2 0 j := ⟨y 1, one_row y⟩
  refine (out_gain m c t.val t.isLt j).trans (Eq.trans ?_ (Eq.trans (Cert.Reference9Ideal.InRef.second (X m c) (W m c) (A m c) (B m c) (C m c) (D m c) (E m c) (F m c) (H m c) j).symm ?_))
  · obtain ⟨t, h2⟩ := t
    obtain rfl : t = 15 := ht
    exact total_eq m c j
  · blk_ext [idx t]

end Cert.Kernel9Ideal.InValue

end
-- ==== Proof.LossRef.lean ====
/-
  The reference's loss and its gradient, read index by index: the last residual row, its norm, the difference to the
  target, half the mean of its square summed over the rows, and the chain rule's gradient of `Norm` on the residual row.
-/
module

public import proofs.«01_k».proof.Proof.Gen.Reference4Ideal.Read
public import proofs.«01_k».proof.Proof.Norm

@[expose] public section

set_option maxRecDepth 16384

noncomputable section

namespace Cert.Reference4Ideal.LossRef

open Cert.Reference4Ideal Cert.Reference4Ideal.Gen Cert.Reference4Ideal.Read Idealize.ShloMosaic

variable (A : S8192x4096.Idx → EReal) (W : S4096x1024.Idx → EReal) (X : S8192x1024.Idx → EReal) (G : S1024.Idx → EReal) (T : S8192x1024.Idx → EReal)

/-- One half and the reciprocal of the number of columns, as the kernel's words. -/
abbrev half : EReal := Ideal.ofBits FTy.f32 0x3F000000#32
abbrev part : EReal := Ideal.ofBits FTy.f32 0x3A800000#32

theorem half_eq : half = ((1 / 2 : ℝ) : EReal) := by simp [Ideal.ofBits, Ideal.ieee, -EReal.coe_mul] <;> norm_num
theorem part_val : part = ((1 / 1024 : ℝ) : EReal) := by simp [Ideal.ofBits, Ideal.ieee, -EReal.coe_mul] <;> norm_num
theorem two_eq : Ideal.ofBits FTy.f32 0x40000000#32 = ((2 : ℝ) : EReal) := by simp [Ideal.ofBits, Ideal.ieee, -EReal.coe_mul] <;> norm_num

/-- Half the derivative of a square over the number of columns is the difference over the number of columns. -/
theorem scale_eq (d : EReal) : Ideal.div half Norm.cols * (Ideal.ofBits FTy.f32 0x40000000#32 * d) = d * part := by
  rw [half_eq, two_eq, part_val, Norm.cols_eq, Ideal.div_coe (by norm_num), ← mul_assoc, mul_comm d]
  simp only [← EReal.coe_mul]
  norm_num

/-- A row of the last residual stream. -/
def row (r : Fin 8192) (k : Fin 1024) : EReal := X (ix2 r k) + ∑ q : Fin 4096, A (ix2 r q) * A (ix2 r q) * W (ix2 q k)
/-- The difference to the target. -/
def diff (r : Fin 8192) (k : Fin 1024) : EReal := row A W X r k * Norm.inv (row A W X r) * G (ix1 k) - T (ix2 r k)
/-- The gradient of the residual stream. -/
def dx (r : Fin 8192) (j : Fin 1024) : EReal := Norm.pull (row A W X r) (fun k => diff A W X G T r k * part * G (ix1 k)) j
/-- A row's share of the loss. -/
def share (r : Fin 8192) : EReal := Ideal.div (∑ k, diff A W X G T r k * diff A W X G T r k) Norm.cols

theorem row_eq (r : Fin 8192) (k : Fin 1024) : val_main_v4 (F := Ideal) A W X (ix2 r k) = row A W X r k := by
  pointwise [val_main_v4, val_main_v3, val_main_v2, val_main_v1, val_main_v0]
  rfl

theorem mean_eq (r : Fin 8192) : val_main_v11 (F := Ideal) A W X (ix2 r 0) = Norm.mean (row A W X r) := by
  pointwise [val_main_v11, val_main_v10, val_main_v9, val_main_v8, val_main_v7, val_main_v6, val_main_v5, val_main_cst, val_main_cst_0, val_main_cst_1]
  simp only [row_eq]; rfl

theorem inv_eq (r : Fin 8192) : val_main_v12 (F := Ideal) A W X (ix2 r 0) = Norm.inv (row A W X r) := by
  pointwise [val_main_v12]
  rw [mean_eq]; rfl

theorem diff_eq (r : Fin 8192) (j : Fin 1024) : val_main_v21 (F := Ideal) A W X G T (ix2 r j) = diff A W X G T r j := by
  pointwise [val_main_v21, val_main_v20, val_main_v19, val_main_v18, val_main_v17, val_main_v16]
  rw [inv_eq, row_eq]; rfl

theorem dy_eq (r : Fin 8192) (j : Fin 1024) : val_main_v35 (F := Ideal) A W X G T (ix2 r j) = diff A W X G T r j * part := by
  pointwise [val_main_v35, val_main_v34, val_main_v33, val_main_v32, val_main_v31, val_main_v30, val_main_v24, val_main_v23, val_main_cst_3, val_main_cst_8,
    val_main_cst_9, val_main_cst_10]
  rw [diff_eq]
  exact scale_eq _

theorem scaled_eq (r : Fin 8192) (j : Fin 1024) : val_main_v40 (F := Ideal) A W X G T (ix2 r j) = diff A W X G T r j * part * G (ix1 j) := by
  pointwise [val_main_v40, val_main_v39, val_main_v18]
  rw [dy_eq]

theorem slope_eq (r : Fin 8192) : val_main_v50 (F := Ideal) A W X G T (ix1 r) = Norm.slope (row A W X r) (fun k => diff A W X G T r k * part * G (ix1 k)) := by
  pointwise [val_main_v50, val_main_v49, val_main_v48, val_main_v47, val_main_v44, val_main_v43, val_main_v42, val_main_v15, val_main_v14, val_main_v13,
    val_main_cst_2, val_main_cst_13, val_main_cst_14, val_main_cst_15]
  simp only [mean_eq, inv_eq, scaled_eq, row_eq, Fin.sum_univ_one, zero_add]
  rfl

/-- The first result: the gradient of the residual stream. -/
theorem first (r : Fin 8192) (j : Fin 1024) : val_main_v55 (F := Ideal) A W X G T (ix2 r j) = dx A W X G T r j := by
  pointwise [val_main_v55, val_main_v54, val_main_v53, val_main_v52, val_main_v51, val_main_v46, val_main_v45]
  rw [inv_eq, slope_eq, scaled_eq, row_eq]; rfl

/-- The second result: the same gradient, rounded. -/
theorem second (r : Fin 8192) (j : Fin 1024) : val_main_v56 (F := Ideal) A W X G T (ix2 r j) = dx A W X G T r j := by
  pointwise [val_main_v56]
  exact first A W X G T r j

/-- The third result: the gradient of the gain. -/
theorem third (j : Fin 1024) : val_main_v57 (F := Ideal) A W X G T (ix2 0 j)
    = ∑ r : Fin 8192, row A W X r j * Norm.inv (row A W X r) * (diff A W X G T r j * part) := by
  pointwise [val_main_v57, val_main_v41, val_main_v38, val_main_v37, val_main_v36, val_main_v17, val_main_v16, val_main_cst_11, val_main_cst_12]
  simp only [inv_eq, dy_eq, row_eq, Fin.sum_univ_one, zero_add]

/-- The fourth result: the loss. -/
theorem fourth (a : Fin 8) (b : Fin 128) : val_main_v58 (F := Ideal) A W X G T (ix2 a b) = half * ∑ r : Fin 8192, share A W X G T r := by
  pointwise [val_main_v58, val_main_v29, val_main_v28, val_main_v27, val_main_v26, val_main_v25, val_main_v22, val_main_cst_4, val_main_cst_5,
    val_main_cst_6, val_main_cst_7]
  simp only [diff_eq]
  rfl

end Cert.Reference4Ideal.LossRef

end
-- ==== Proof.LossValue.lean ====
/-
  The loss and its gradient: each of the kernel's sixteen row blocks forms its residual rows and their norm, subtracts the
  target, takes the norm's gradient row by row, and adds its rows to the gain's gradient and to the loss.
-/
module

public import proofs.«01_k».proof.Proof.Gen.Kernel4Ideal.Value
public import proofs.«01_k».proof.Proof.LossRef

@[expose] public section

set_option maxRecDepth 16384

noncomputable section

namespace Cert.Kernel4Ideal.LossValue

open Cert.Kernel4Ideal Cert.Kernel4Ideal.Gen Idealize.ShloMosaic Idealize.ShloMosaic.TcCoe Idealize.SL.Sem
open Idealize.ShloMosaic.Pipeline (Dat)
open Cert.Reference4Ideal.LossRef (row diff dx share half)

section
variable (a : Vec Ideal S512x4096 .bf16) (w : Vec Ideal S4096x1024 .bf16) (x : Vec Ideal S512x1024 .f32) (g : Vec Ideal S1x1024 .f32)
  (y : Vec Ideal S512x1024 .f32) (s : Vec Ideal S1x1024 .f32) (l : Vec Ideal S8x128 .f32)

/-- A row of a block's residual stream. -/
def line (r : Fin 512) (k : Fin 1024) : EReal := (x (ix2 r k) : EReal) + ∑ q : Fin 4096, (a (ix2 r q) : EReal) * a (ix2 r q) * w (ix2 q k)
/-- The difference to the target. -/
def gap (r : Fin 512) (k : Fin 1024) : EReal := line a w x r k * Norm.inv (line a w x r) * g (ix2 0 k) - y (ix2 r k)
/-- The gradient of the normed row behind the gain. -/
def dy (r : Fin 512) (k : Fin 1024) : EReal := gap a w x g y r k * Cert.Reference4Ideal.LossRef.part
/-- What a block adds to the gain's gradient. -/
def part (j : Fin 1024) : EReal := ∑ r : Fin 512, dy a w x g y r j * (line a w x r j * Norm.inv (line a w x r))
/-- What a block adds to the loss. -/
def lossPart : EReal := half * ∑ r : Fin 512, Ideal.div (∑ k, gap a w x g y r k * gap a w x g y r k) Norm.cols
/-- The gradient of the residual stream. -/
def grad (r : Fin 512) (j : Fin 1024) : EReal := Norm.grad (line a w x r) (fun k => dy a w x g y r k * g (ix2 0 k)) j

theorem line_at (r : Fin 512) (j : Fin 1024) : k0_pay7 a x w (ix2 r j) = line a w x r j := by
  pointwise [k0_pay7]; rfl
theorem inv_eq (r : Fin 512) : k0_pay9 a x w (ix2 r 0) = Norm.inv (line a w x r) := by
  pointwise [k0_pay9]; simp only [line_at]; rfl
theorem normed_eq (r : Fin 512) (j : Fin 1024) : k0_pay10 a x w (ix2 r j) = line a w x r j * Norm.inv (line a w x r) := by
  pointwise [k0_pay10]; rw [inv_eq, line_at]
theorem gap_eq (r : Fin 512) (j : Fin 1024) : k0_pay11 a x w g y (ix2 r j) = gap a w x g y r j := by
  pointwise [k0_pay11, k0_pay8]; rw [normed_eq]; rfl
theorem dy_eq (r : Fin 512) (j : Fin 1024) : k0_pay13 a x w g y (ix2 r j) = dy a w x g y r j := by
  pointwise [k0_pay13]; rw [gap_eq]; rfl
theorem scaled_eq (r : Fin 512) (j : Fin 1024) : k0_pay14 a x w g y (ix2 r j) = dy a w x g y r j * g (ix2 0 j) := by
  pointwise [k0_pay14, k0_pay8]; rw [dy_eq]
theorem grad_eq (r : Fin 512) (j : Fin 1024) :
    k0_pay1 (k0_pay9 a x w) (k0_pay10 a x w) (k0_pay14 a x w g y) (k0_pay15 a x w g y) (ix2 r j) = grad a w x g y r j := by
  pointwise [k0_pay1, k0_pay15]; simp only [inv_eq, normed_eq, scaled_eq]; rfl
theorem rounded_eq (r : Fin 512) (j : Fin 1024) :
    k0_pay2 (k0_pay9 a x w) (k0_pay10 a x w) (k0_pay14 a x w g y) (k0_pay15 a x w g y) (ix2 r j) = grad a w x g y r j := by
  pointwise [k0_pay2]; rw [grad_eq]
theorem part_eq (j : Fin 1024) : k0_pay3 (k0_pay10 a x w) (k0_pay13 a x w g y) (ix2 0 j) = part a w x g y j := by
  pointwise [k0_pay3]; simp only [dy_eq, normed_eq]; rfl
theorem add_eq (j : Fin 1024) : k0_pay5 (k0_pay10 a x w) (k0_pay13 a x w g y) s (ix2 0 j) = s (ix2 0 j) + part a w x g y j := by
  pointwise [k0_pay5]; rw [part_eq]
theorem loss_eq (p : Fin 8) (q : Fin 128) : k0_pay4 (k0_pay12 a x w g y) (ix2 p q) = lossPart a w x g y := by
  pointwise [k0_pay4, k0_pay12]; simp only [gap_eq]; rfl
theorem loss_add (p : Fin 8) (q : Fin 128) : k0_pay6 (k0_pay12 a x w g y) l (ix2 p q) = l (ix2 p q) + lossPart a w x g y := by
  pointwise [k0_pay6]; rw [loss_eq]
end

variable (m : (ℓ : Loc nD τ sig) → Buf (Elt Ideal) ℓ) (c : Dev nD)

/-- The block of every window at every grid point. -/
theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] ∧ win0_6.index t = ![t.val, 0] ∧ win0_7.index t = ![0, 0] ∧ win0_8.index t = ![0, 0] :=
  (by decide +kernel : ∀ t : Fin grid0.N, _)

/-- The row of the stream that row `r` of block `t` is. -/
def at_ (t : Fin cfg0.N) (r : Fin 512) : Fin 8192 := ⟨t.val * 512 + r.val, by have h : t.val < 16 := t.isLt; omega⟩

abbrev A : S8192x4096.Idx → EReal := m ((c : Thread nD τ).loc main_arg0)
abbrev W : S4096x1024.Idx → EReal := m ((c : Thread nD τ).loc main_arg1)
abbrev X : S8192x1024.Idx → EReal := m ((c : Thread nD τ).loc main_arg2)
abbrev G : S1024.Idx → EReal := m ((c : Thread nD τ).loc main_arg3)
abbrev T : S8192x1024.Idx → EReal := m ((c : Thread nD τ).loc main_arg4)

theorem gain_apply (j : Fin 1024) : V m c main_v0 (ix2 0 j) = G m c (ix1 j) := by
  entry_read
  pointwise

theorem a_blk (t : Fin cfg0.N) (r : Fin 512) (k : Fin 4096) : iblk m c 0 t (ix2 r k) = A m c (ix2 (at_ t r) k) := by
  blk_ext [iblk, V, idx t, at_]
theorem w_blk (t : Fin cfg0.N) (j : Fin 4096) (k : Fin 1024) : iblk m c 1 t (ix2 j k) = W m c (ix2 j k) := by
  blk_ext [iblk, V, idx t]
theorem x_blk (t : Fin cfg0.N) (r : Fin 512) (k : Fin 1024) : iblk m c 2 t (ix2 r k) = X m c (ix2 (at_ t r) k) := by
  blk_ext [iblk, V, idx t, at_]
theorem g_blk (t : Fin cfg0.N) (k : Fin 1024) : iblk m c 3 t (ix2 0 k) = G m c (ix1 k) := by
  refine Eq.trans ?_ (gain_apply m c k)
  blk_ext [iblk, idx t]
theorem t_blk (t : Fin cfg0.N) (r : Fin 512) (k : Fin 1024) : iblk m c 4 t (ix2 r k) = T m c (ix2 (at_ t r) k) := by
  blk_ext [iblk, V, idx t, at_]

theorem line_eq (t : Fin cfg0.N) (r : Fin 512) : line (iblk m c 0 t) (iblk m c 1 t) (iblk m c 2 t) r = row (A m c) (W m c) (X m c) (at_ t r) := by
  funext k
  unfold line row
  simp only [a_blk, w_blk, x_blk]
theorem gap_apply (t : Fin cfg0.N) (r : Fin 512) (k : Fin 1024) : gap (iblk m c 0 t) (iblk m c 1 t) (iblk m c 2 t) (iblk m c 3 t) (iblk m c 4 t) r k
    = diff (A m c) (W m c) (X m c) (G m c) (T m c) (at_ t r) k := by
  unfold gap diff
  rw [line_eq, g_blk, t_blk]
theorem grad_apply (t : Fin cfg0.N) (r : Fin 512) (j : Fin 1024) : grad (iblk m c 0 t) (iblk m c 1 t) (iblk m c 2 t) (iblk m c 3 t) (iblk m c 4 t) r j
    = dx (A m c) (W m c) (X m c) (G m c) (T m c) (at_ t r) j := by
  unfold grad dx dy
  simp only [Norm.grad_eq, line_eq, gap_apply, g_blk]

/-- What a grid point stores to its blocks of the row-wise results. -/
theorem out_rows (t : Fin cfg0.N) (r : Fin 512) (j : Fin 1024) :
    (outsAt0 m c t.val t.isLt).1 (ix2 r j) = dx (A m c) (W m c) (X m c) (G m c) (T m c) (at_ t r) j
    ∧ (outsAt0 m c t.val t.isLt).2.1 (ix2 r j) = dx (A m c) (W m c) (X m c) (G m c) (T m c) (at_ t r) j := by
  have key : (outsAt0 m c t.val t.isLt).1 (ix2 r j) = grad (iblk m c 0 t) (iblk m c 1 t) (iblk m c 2 t) (iblk m c 3 t) (iblk m c 4 t) r j
      ∧ (outsAt0 m c t.val t.isLt).2.1 (ix2 r j) = grad (iblk m c 0 t) (iblk m c 1 t) (iblk m c 2 t) (iblk m c 3 t) (iblk m c 4 t) r j := by
    have h16 : t.val < 16 := t.isLt
    by_cases h : t.val % 16 = 0
    · constructor
      · rw [outsAt0_A m c t h (by omega), ← grad_eq]; frame_out
      · rw [outsAt0_A m c t h (by omega), ← rounded_eq]; frame_out
    · constructor
      · rw [outsAt0_B m c t h (by omega), ← grad_eq]; frame_out
      · rw [outsAt0_B m c t h (by omega), ← rounded_eq]; frame_out
  rw [key.1, key.2]
  exact ⟨grad_apply m c t r j, grad_apply m c t r j⟩

/-- The running totals over the row blocks so far. -/
theorem out_gain (n : ℕ) (hn : n < cfg0.N) (j : Fin 1024) : (outsAt0 m c n hn).2.2.1 (ix2 0 j)
    = ∑ t : Fin (n + 1), part (iblk m c 0 ⟨t, by omega⟩) (iblk m c 1 ⟨t, by omega⟩) (iblk m c 2 ⟨t, by omega⟩) (iblk m c 3 ⟨t, by omega⟩) (iblk m c 4 ⟨t, by omega⟩) j := by
  induction n with
  | zero =>
    rw [outsAt0_A m c ⟨0, hn⟩ rfl (by change ¬1 ≤ 0; omega)]; frame_out
    rw [Fin.sum_univ_one]
    exact part_eq _ _ _ _ _ j
  | succ n ih =>
    have h16 : n + 1 < 16 := hn
    rw [outsAt0_B m c ⟨n + 1, hn⟩ (by change ¬(n + 1) % 16 = 0; omega) (by change 1 ≤ n + 1; omega)]; frame_out
    rw [Fin.sum_univ_castSucc]
    refine (add_eq _ _ _ _ _ _ j).trans ?_
    exact congrArg (· + _) (ih (by omega))

theorem out_loss (n : ℕ) (hn : n < cfg0.N) (p : Fin 8) (q : Fin 128) : (outsAt0 m c n hn).2.2.2 (ix2 p q)
    = ∑ t : Fin (n + 1), lossPart (iblk m c 0 ⟨t, by omega⟩) (iblk m c 1 ⟨t, by omega⟩) (iblk m c 2 ⟨t, by omega⟩) (iblk m c 3 ⟨t, by omega⟩) (iblk m c 4 ⟨t, by omega⟩) := by
  induction n with
  | zero =>
    rw [outsAt0_A m c ⟨0, hn⟩ rfl (by change ¬1 ≤ 0; omega)]; frame_out
    rw [Fin.sum_univ_one]
    exact loss_eq _ _ _ _ _ p q
  | succ n ih =>
    have h16 : n + 1 < 16 := hn
    rw [outsAt0_B m c ⟨n + 1, hn⟩ (by change ¬(n + 1) % 16 = 0; omega) (by change 1 ≤ n + 1; omega)]; frame_out
    rw [Fin.sum_univ_castSucc]
    refine (loss_add _ _ _ _ _ _ p q).trans ?_
    exact congrArg (· + _) (ih (by omega))

/-- The first two results after the run. -/
theorem final5 : (dats m 0 c).arrAt 5 (cfgs 0).N
    = Cert.Reference4Ideal.Read.val_main_v55 (F := Ideal) (A m c) (W m c) (X m c) (G m c) (T m c) := by
  refine (dats m 0 c).arrAt_eq_of_covers 5 _ (by decide +kernel) fun t _ y => ?_
  blk_simp
  rw [after0_5]
  obtain ⟨r, j, rfl⟩ : ∃ (r : Fin 512) (j : Fin 1024), y = ix2 r j := ⟨y 0, y 1, by idx_vars y⟩
  refine ((out_rows m c t r j).1.trans (Cert.Reference4Ideal.LossRef.first (A m c) (W m c) (X m c) (G m c) (T m c) (at_ t r) j).symm).trans ?_
  blk_ext [idx t, at_]

theorem final6 : (dats m 0 c).arrAt 6 (cfgs 0).N
    = Cert.Reference4Ideal.Read.val_main_v56 (F := Ideal) (A m c) (W m c) (X m c) (G m c) (T m c) := by
  refine (dats m 0 c).arrAt_eq_of_covers 6 _ (by decide +kernel) fun t _ y => ?_
  blk_simp
  rw [after0_6]
  obtain ⟨r, j, rfl⟩ : ∃ (r : Fin 512) (j : Fin 1024), y = ix2 r j := ⟨y 0, y 1, by idx_vars y⟩
  refine ((out_rows m c t r j).2.trans (Cert.Reference4Ideal.LossRef.second (A m c) (W m c) (X m c) (G m c) (T m c) (at_ t r) j).symm).trans ?_
  blk_ext [idx t, at_]

theorem one_row (y : S1x1024.Idx) : y = ix2 0 (y 1) := by
  funext a
  match a with
  | ⟨0, _⟩ => exact Fin.ext (by have := (y 0).isLt; change (y 0).val < 1 at this; change (y 0).val = 0; omega)
  | ⟨1, _⟩ => rfl

/-- The blocks' parts add up to the sum over all rows. -/
theorem total_eq (j : Fin 1024) : ∑ t : Fin 16, part (iblk m c 0 t) (iblk m c 1 t) (iblk m c 2 t) (iblk m c 3 t) (iblk m c 4 t) j
    = ∑ r : Fin 8192, row (A m c) (W m c) (X m c) r j * Norm.inv (row (A m c) (W m c) (X m c) r)
      * (diff (A m c) (W m c) (X m c) (G m c) (T m c) r j * Cert.Reference4Ideal.LossRef.part) := by
  unfold part dy
  refine Fin.sum_mul_add_congr (S := 16) (n := 512) fun t r hl => ?_
  rw [gap_apply m c t, line_eq m c t, mul_comm]
  rfl

theorem loss_total : ∑ t : Fin 16, lossPart (iblk m c 0 t) (iblk m c 1 t) (iblk m c 2 t) (iblk m c 3 t) (iblk m c 4 t)
    = half * ∑ r : Fin 8192, share (A m c) (W m c) (X m c) (G m c) (T m c) r := by
  unfold lossPart
  rw [Cert.Reference4Ideal.LossRef.half_eq, ← XHead.mul_sum _ _ (by norm_num)]
  refine congrArg _ (Fin.sum_mul_add_congr (S := 16) (n := 512) fun t r hl => ?_)
  simp only [gap_apply m c t]
  rfl

theorem last {t : Fin cfg0.N} (h : t.val % 16 = 15) : t.val = 15 := by
  have : t.val < 16 := t.isLt
  omega

/-- The third result after the run. -/
theorem final7 : (dats m 0 c).arrAt 7 (cfgs 0).N
    = Cert.Reference4Ideal.Read.val_main_v57 (F := Ideal) (A m c) (W m c) (X m c) (G m c) (T m c) := by
  refine (dats m 0 c).arrAt_eq_of_covers 7 _ (by decide +kernel) fun t hf y => ?_
  have ht := last ((flush0_7 t).mp hf)
  blk_simp
  rw [after0_7]
  obtain ⟨j, rfl⟩ : ∃ j : Fin 1024, y = ix2 0 j := ⟨y 1, one_row y⟩
  refine (out_gain m c t.val t.isLt j).trans (Eq.trans ?_ (Eq.trans (Cert.Reference4Ideal.LossRef.third (A m c) (W m c) (X m c) (G m c) (T m c) j).symm ?_))
  · obtain ⟨t, h2⟩ := t
    obtain rfl : t = 15 := ht
    exact total_eq m c j
  · blk_ext [idx t]

/-- The fourth result after the run. -/
theorem final8 : (dats m 0 c).arrAt 8 (cfgs 0).N
    = Cert.Reference4Ideal.Read.val_main_v58 (F := Ideal) (A m c) (W m c) (X m c) (G m c) (T m c) := by
  refine (dats m 0 c).arrAt_eq_of_covers 8 _ (by decide +kernel) fun t hf y => ?_
  have ht := last ((flush0_8 t).mp hf)
  blk_simp
  rw [after0_8]
  obtain ⟨p, q, rfl⟩ : ∃ (p : Fin 8) (q : Fin 128), y = ix2 p q := ⟨y 0, y 1, by idx_vars y⟩
  refine (out_loss m c t.val t.isLt p q).trans (Eq.trans ?_ (Eq.trans (Cert.Reference4Ideal.LossRef.fourth (A m c) (W m c) (X m c) (G m c) (T m c) p q).symm ?_))
  · obtain ⟨t, h2⟩ := t
    obtain rfl : t = 15 := ht
    exact loss_total m c
  · blk_ext [idx t]

end Cert.Kernel4Ideal.LossValue

end
-- ==== Proof.lean ====
/-
  The claims: the frames are the generated ones, each value claim sets the arrays the kernel leaves beside the arrays the
  reference leaves, by the modules that read them.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Pre_fox_finite
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_xattn_finite
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Kernel12.Frame
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13.Frame
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14.Frame
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15.Frame
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16.Frame
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.InFwd
public import proofs.«01_k».proof.Proof.Gen.Kernel17.Frame
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.DownGrad
public import proofs.«01_k».proof.Proof.Gen.Kernel18.Frame
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.PieceGrad
public import proofs.«01_k».proof.Proof.Gen.Kernel19.Frame
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.Optimiser
public import proofs.«01_k».proof.Proof.Gen.Pre_dfwd_finite
public import proofs.«01_k».proof.Proof.Gen.Reference11Ideal
public import proofs.«01_k».proof.Proof.Gen.Reference11Ideal.Run
public import proofs.«01_k».proof.Proof.Gen.Reference11Ideal.Read
public import proofs.«01_k».proof.Proof.Gen.Pre_ffwd_finite
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Pre_xfwd_finite
public import proofs.«01_k».proof.Proof.ActValue
public import proofs.«01_k».proof.Proof.GateValue
public import proofs.«01_k».proof.Proof.FoxValue
public import proofs.«01_k».proof.Proof.XValue
public import proofs.«01_k».proof.Proof.XFwd
public import proofs.«01_k».proof.Proof.FoxFwdValue
public import proofs.«01_k».proof.Proof.DilValue
public import proofs.«01_k».proof.Proof.GateFwd
public import proofs.«01_k».proof.Proof.UpFwd
public import proofs.«01_k».proof.Proof.NormFwd
public import proofs.«01_k».proof.Proof.MemValue
public import proofs.«01_k».proof.Proof.UpValue
public import proofs.«01_k».proof.Proof.InValue
public import proofs.«01_k».proof.Proof.LossValue
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

/-- The frame of the reference of the `dact` pair. -/
theorem frame_dact : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

/-- The gradient of the squared rectifier. -/
theorem algebraic_dact : Cert.algebraic_KernelIdeal_ReferenceIdeal (hKernelIdeal := Cert.KernelIdeal.Gen.facts)
    (hReferenceIdeal := Cert.ReferenceIdeal.Gen.facts) := by
  pair_intro
  · run_from Cert.KernelIdeal.Gen.run_main m g
  · run_from Cert.ReferenceIdeal.Value.run m' g'
    rw [Cert.KernelIdeal.ActValue.final m c]
    exact Cert.ReferenceIdeal.Read.val_main_v14_eq ..

/-- The frame of the reference of the `gate` pair. -/
theorem frame_gate : Cert.quiescent_Reference2Ideal (hReference2Ideal := Cert.Reference2Ideal.Gen.facts) := fun m g _ =>
  (θ_run Cert.Reference2Ideal.defs _ _).mono (fun r h => ⟨fun c => (h c).2.2, sem_eq_zero_of_no_sems (by decide) r.2⟩)
    (Cert.Reference2Ideal.Value.run (F := Ideal) m g)

/-- The gradients of the gate's argument and of its bias. -/
theorem algebraic_gate : Cert.algebraic_Kernel2Ideal_Reference2Ideal (hKernel2Ideal := Cert.Kernel2Ideal.Gen.facts)
    (hReference2Ideal := Cert.Reference2Ideal.Gen.facts) := by
  pair_intro
  · run_from Cert.Kernel2Ideal.Value.run_blocks m g
  · run_from Cert.Reference2Ideal.Value.run m' g'
    all_goals obtain ⟨h0, h1, h2⟩ := hagree c
    · rw [Cert.Kernel2Ideal.GateValue.final3 m c, Cert.Reference2Ideal.Read.val_main_v15_eq m' c, h0, h1, h2]
    · rw [Cert.Kernel2Ideal.GateValue.final4 m c, Cert.Reference2Ideal.Read.val_main_v17_eq m' c, h0, h1, h2]

/-- The frame of the reference of the `fox` pair. -/
theorem frame_fox : Cert.quiescent_Reference5Ideal (hReference5Ideal := Cert.Reference5Ideal.Gen.facts) := fun m g _ =>
  (θ_run Cert.Reference5Ideal.defs _ _).mono (fun r h => ⟨fun c => (h c).2.2.2.2, sem_eq_zero_of_no_sems (by decide) r.2⟩)
    (Cert.Reference5Ideal.Value.run (F := Ideal) m g)

theorem algebraic_fox : Cert.algebraic_Kernel5Ideal_Reference5Ideal_pre_fox_finite (hKernel5Ideal := Cert.Kernel5Ideal.Gen.facts)
    (hReference5Ideal := Cert.Reference5Ideal.Gen.facts) (hPre_fox_finite := Cert.Pre_fox_finite.Gen.facts) := by
  pair_intro
  · run_from Cert.Kernel5Ideal.Value.run_blocks m g
  · run_from Cert.Reference5Ideal.Value.run m' g'
    all_goals
      obtain ⟨h0, h1, h2, h3, h4⟩ := hagree c
      have A := @Cert.Kernel5Ideal.FoxValue.args Cert.Pre_fox_finite.Gen.facts _ _ _ _ _ (hpre c)
    · rw [Cert.Kernel5Ideal.FoxValue.final6 m c A, Cert.Reference5Ideal.Read.val_main_v94_eq m' c, h0, h1, h2, h3, h4]
      exact Cert.Kernel5Ideal.FoxValue.eq_flat (fun b h t i => Cert.FoxRef.dq_at A b t h i)
    · rw [Cert.Kernel5Ideal.FoxValue.final7 m c A, Cert.Reference5Ideal.Read.val_main_v95_eq m' c, h0, h1, h2, h3, h4]
      exact Cert.Kernel5Ideal.FoxValue.eq_flat (fun b h t i => Cert.FoxRef.dk_at A b t h i)
    · rw [Cert.Kernel5Ideal.FoxValue.final8 m c A, Cert.Reference5Ideal.Read.val_main_v96_eq m' c, h0, h1, h3, h4]
      exact Cert.Kernel5Ideal.FoxValue.eq_flat (fun b h t i => Cert.FoxRef.dv_at A b t h i)
    · rw [Cert.Kernel5Ideal.FoxValue.final9 m c A, Cert.Reference5Ideal.Read.val_main_v98_eq m' c, h0, h1, h2, h3, h4]
      exact Cert.Kernel5Ideal.FoxValue.eq_flat (fun b h t i => Cert.FoxRef.dc_at A b t h i)

/-- The frame of the reference of the `xattn` pair. -/
theorem frame_xattn : Cert.quiescent_Reference3Ideal (hReference3Ideal := Cert.Reference3Ideal.Gen.facts) := fun m g _ =>
  (θ_run Cert.Reference3Ideal.defs _ _).mono (fun r h => ⟨fun c => (h c).2.2, sem_eq_zero_of_no_sems (by decide) r.2⟩)
    (Cert.Reference3Ideal.Value.run (F := Ideal) m g)

theorem algebraic_xattn : Cert.algebraic_Kernel3Ideal_Reference3Ideal_pre_xattn_finite (hKernel3Ideal := Cert.Kernel3Ideal.Gen.facts)
    (hReference3Ideal := Cert.Reference3Ideal.Gen.facts) (hPre_xattn_finite := Cert.Pre_xattn_finite.Gen.facts) := by
  pair_intro
  · run_from Cert.Kernel3Ideal.Value.run_blocks m g
  · run_from Cert.Reference3Ideal.Value.run m' g'
    all_goals
      obtain ⟨h0, h1, h2, h3⟩ := hagree c
      have A := @Cert.Kernel3Ideal.XValue.args Cert.Pre_xattn_finite.Gen.facts _ _ _ _ (hpre c)
    · rw [Cert.Kernel3Ideal.XValue.final3 m c A, Cert.Reference3Ideal.Read.val_main_v67_eq m' c, h0, h1, h2, h3]
    · rw [Cert.Kernel3Ideal.XValue.final4 m c A, Cert.Reference3Ideal.Read.val_main_v68_eq m' c, h0, h1, h2, h3]

/-- The frame of the reference of the `dmem` pair. -/
theorem frame_dmem : Cert.quiescent_Reference8Ideal (hReference8Ideal := Cert.Reference8Ideal.Gen.facts) := fun m g _ =>
  (θ_run Cert.Reference8Ideal.defs _ _).mono (fun r h => ⟨fun c => (h c).2.2, sem_eq_zero_of_no_sems (by decide) r.2⟩)
    (Cert.Reference8Ideal.Value.run (F := Ideal) m g)

/-- The gradient of the memory's norm. -/
theorem algebraic_dmem : Cert.algebraic_Kernel8Ideal_Reference8Ideal (hKernel8Ideal := Cert.Kernel8Ideal.Gen.facts)
    (hReference8Ideal := Cert.Reference8Ideal.Gen.facts) := by
  pair_intro
  · run_from Cert.Kernel8Ideal.Value.run_blocks m g
  · run_from Cert.Reference8Ideal.Value.run m' g'
    all_goals obtain ⟨h0, h1, h2, h3, h4⟩ := hagree c
    · rw [Cert.Kernel8Ideal.MemValue.final4 m c, Cert.Reference8Ideal.Read.val_main_v44_eq m' c, h0, h1, h2, h3, h4]
    · rw [Cert.Kernel8Ideal.MemValue.final5 m c, Cert.Reference8Ideal.Read.val_main_v45_eq]

/-- The frame of the reference of the `dh3` pair. -/
theorem frame_dh3 : Cert.quiescent_Reference7Ideal (hReference7Ideal := Cert.Reference7Ideal.Gen.facts) := fun m g _ =>
  (θ_run Cert.Reference7Ideal.defs _ _).mono (fun r h => ⟨fun c => (h c).2.2.2, sem_eq_zero_of_no_sems (by decide) r.2⟩)
    (Cert.Reference7Ideal.Value.run (F := Ideal) m g)

/-- The gradient through the norm before the feed-forward block. -/
theorem algebraic_dh3 : Cert.algebraic_Kernel7Ideal_Reference7Ideal (hKernel7Ideal := Cert.Kernel7Ideal.Gen.facts)
    (hReference7Ideal := Cert.Reference7Ideal.Gen.facts) := by
  pair_intro
  · run_from Cert.Kernel7Ideal.Value.run_blocks m g
  · run_from Cert.Reference7Ideal.Value.run m' g'
    all_goals obtain ⟨h0, h1, h2, h3, h4, h5, h6⟩ := hagree c
    · rw [Cert.Kernel7Ideal.UpValue.final6 m c, Cert.Reference7Ideal.Read.val_main_v44_eq m' c, h0, h1, h2, h3, h4, h5, h6]
    · rw [Cert.Kernel7Ideal.UpValue.final7 m c, Cert.Reference7Ideal.Read.val_main_v47_eq]
    · rw [Cert.Kernel7Ideal.UpValue.final8 m c, Cert.Reference7Ideal.Read.val_main_v48_eq m' c, h0, h1, h2, h3, h4, h5, h6]

/-- The frame of the reference of the `dh1` pair. -/
theorem frame_dh1 : Cert.quiescent_Reference9Ideal (hReference9Ideal := Cert.Reference9Ideal.Gen.facts) := fun m g _ =>
  (θ_run Cert.Reference9Ideal.defs _ _).mono (fun r h => ⟨fun c => (h c).2.2, sem_eq_zero_of_no_sems (by decide) r.2⟩)
    (Cert.Reference9Ideal.Value.run (F := Ideal) m g)

/-- The gradient through a layer's first norm. -/
theorem algebraic_dh1 : Cert.algebraic_Kernel9Ideal_Reference9Ideal (hKernel9Ideal := Cert.Kernel9Ideal.Gen.facts)
    (hReference9Ideal := Cert.Reference9Ideal.Gen.facts) := by
  pair_intro
  · run_from Cert.Kernel9Ideal.Value.run_blocks m g
  · run_from Cert.Reference9Ideal.Value.run m' g'
    all_goals obtain ⟨h0, h1, h2, h3, h4, h5, h6, h7, h8, h9, h10⟩ := hagree c
    · rw [Cert.Kernel9Ideal.InValue.final11 m c, Cert.Reference9Ideal.Read.val_main_v62_eq m' c, h0, h1, h2, h3, h4, h5, h6, h7, h8, h9, h10]
    · rw [Cert.Kernel9Ideal.InValue.final12 m c, Cert.Reference9Ideal.Read.val_main_v63_eq, h4, h5, h6, h7, h8, h9]

/-- The frame of the reference of the `loss` pair. -/
theorem frame_loss : Cert.quiescent_Reference4Ideal (hReference4Ideal := Cert.Reference4Ideal.Gen.facts) := fun m g _ =>
  (θ_run Cert.Reference4Ideal.defs _ _).mono (fun r h => ⟨fun c => (h c).2.2.2.2, sem_eq_zero_of_no_sems (by decide) r.2⟩)
    (Cert.Reference4Ideal.Value.run (F := Ideal) m g)

/-- The loss and its gradient through the last norm. -/
theorem algebraic_loss : Cert.algebraic_Kernel4Ideal_Reference4Ideal (hKernel4Ideal := Cert.Kernel4Ideal.Gen.facts)
    (hReference4Ideal := Cert.Reference4Ideal.Gen.facts) := by
  pair_intro
  · run_from Cert.Kernel4Ideal.Value.run_blocks m g
  · run_from Cert.Reference4Ideal.Value.run m' g'
    all_goals obtain ⟨h0, h1, h2, h3, h4⟩ := hagree c
    · rw [Cert.Kernel4Ideal.LossValue.final5 m c, Cert.Reference4Ideal.Read.val_main_v55_eq m' c, h0, h1, h2, h3, h4]
    · rw [Cert.Kernel4Ideal.LossValue.final6 m c, Cert.Reference4Ideal.Read.val_main_v56_eq m' c, h0, h1, h2, h3, h4]
    · rw [Cert.Kernel4Ideal.LossValue.final7 m c, Cert.Reference4Ideal.Read.val_main_v57_eq]
    · rw [Cert.Kernel4Ideal.LossValue.final8 m c, Cert.Reference4Ideal.Read.val_main_v58_eq]

/-- The frame of the reference of the `xfwd` pair. -/
theorem frame_xfwd : Cert.quiescent_Reference10Ideal (hReference10Ideal := Cert.Reference10Ideal.Gen.facts) := fun m g _ =>
  (θ_run Cert.Reference10Ideal.defs _ _).mono (fun r h => ⟨fun c => (h c).2, sem_eq_zero_of_no_sems (by decide) r.2⟩)
    (Cert.Reference10Ideal.Value.run (F := Ideal) m g)

/-- The forward cross attention. -/
theorem algebraic_xfwd : Cert.algebraic_Kernel10Ideal_Reference10Ideal_pre_xfwd_finite (hKernel10Ideal := Cert.Kernel10Ideal.Gen.facts)
    (hReference10Ideal := Cert.Reference10Ideal.Gen.facts) (hPre_xfwd_finite := Cert.Pre_xfwd_finite.Gen.facts) := by
  pair_intro
  · run_from Cert.Kernel10Ideal.Value.run_blocks m g
  · run_from Cert.Reference10Ideal.Value.run m' g'
    all_goals
      have A := @Cert.Kernel10Ideal.XFwd.args Cert.Pre_xfwd_finite.Gen.facts _ _ _ (hpre c)
    · rw [Cert.Kernel10Ideal.XFwd.final2 m c A]
      exact Cert.Reference10Ideal.Read.val_main_v23_eq _ _ _

/-- The frame of the reference of the `ffwd` pair. -/
theorem frame_ffwd : Cert.quiescent_Reference11Ideal (hReference11Ideal := Cert.Reference11Ideal.Gen.facts) := fun m g _ =>
  (θ_run Cert.Reference11Ideal.defs _ _).mono (fun r h => ⟨fun c => (h c).2.2, sem_eq_zero_of_no_sems (by decide) r.2⟩)
    (Cert.Reference11Ideal.Value.run (F := Ideal) m g)

/-- The forward forgetting attention and its row log-sums. -/
theorem algebraic_ffwd : Cert.algebraic_Kernel11Ideal_Reference11Ideal_pre_ffwd_finite (hKernel11Ideal := Cert.Kernel11Ideal.Gen.facts)
    (hReference11Ideal := Cert.Reference11Ideal.Gen.facts) (hPre_ffwd_finite := Cert.Pre_ffwd_finite.Gen.facts) := by
  pair_intro
  · run_from Cert.Kernel11Ideal.Value.run_blocks m g
  · refine (θ_run Cert.Reference11Ideal.defs _ _).mono (fun r h c => ?_) (Cert.Reference11Ideal.Value.run (F := Ideal) m' g')
    obtain ⟨h0, h1, h2, h3⟩ := hagree c
    have A := @Cert.Kernel11Ideal.FoxFwd.args Cert.Pre_ffwd_finite.Gen.facts _ _ _ _ (hpre c)
    refine ⟨(h c).1.trans ?_, (h c).2.1.trans ?_, (h c).2.2⟩
    · rw [Cert.Kernel11Ideal.FoxFwd.final4 m c A, Cert.Reference11Ideal.Read.val_main_v50_eq m' c, h0, h1, h2, h3]
    · rw [Cert.Kernel11Ideal.FoxFwd.final5 m c A, Cert.Reference11Ideal.Read.val_main_v52_eq m' c, h0, h1, h3]

/-- The frame of the reference of the `dfwd` pair. -/
theorem frame_dfwd : Cert.quiescent_Reference12Ideal (hReference12Ideal := Cert.Reference12Ideal.Gen.facts) := fun m g _ =>
  (θ_run Cert.Reference12Ideal.defs _ _).mono (fun r h => ⟨fun c => (h c).2.2, sem_eq_zero_of_no_sems (by decide) r.2⟩)
    (Cert.Reference12Ideal.Value.run (F := Ideal) m g)

/-- The forward dilated attention and its log-sums over the three dilations. -/
theorem algebraic_dfwd : Cert.algebraic_Kernel12Ideal_Reference12Ideal_pre_dfwd_finite (hKernel12Ideal := Cert.Kernel12Ideal.Gen.facts)
    (hReference12Ideal := Cert.Reference12Ideal.Gen.facts) (hPre_dfwd_finite := Cert.Pre_dfwd_finite.Gen.facts) := by
  pair_intro
  · run_from Cert.Kernel12Ideal.Value.run_blocks m g
  · refine (θ_run Cert.Reference12Ideal.defs _ _).mono (fun r h c => ?_) (Cert.Reference12Ideal.Value.run (F := Ideal) m' g')
    obtain ⟨h0, h1, h2⟩ := hagree c
    have A := @Cert.Kernel12Ideal.DilOut.args Cert.Pre_dfwd_finite.Gen.facts _ _ _ (hpre c)
    refine ⟨(h c).1.trans ?_, (h c).2.1.trans ?_, (h c).2.2⟩
    · rw [Cert.Kernel12Ideal.DilOut.final4 m c A]
      exact (Cert.Reference12Ideal.Read.val_main_v168_eq (StableHlo.launchContents m' c)).trans
        (congr (congrArg₂ (Cert.Reference12Ideal.Read.val_main_v168 (F := Ideal)) h0 h1) h2)
    · rw [Cert.Kernel12Ideal.DilOut.final5 m c A]
      exact (Cert.Reference12Ideal.Read.val_main_v171_eq (StableHlo.launchContents m' c)).trans
        (congrArg₂ (Cert.Reference12Ideal.Read.val_main_v171 (F := Ideal)) h0 h1)

/-- The frame of the reference of the `gfwd` pair. -/
theorem frame_gfwd : Cert.quiescent_Reference13Ideal (hReference13Ideal := Cert.Reference13Ideal.Gen.facts) := fun m g _ =>
  (θ_run Cert.Reference13Ideal.defs _ _).mono (fun r h => ⟨fun c => (h c).2, sem_eq_zero_of_no_sems (by decide) r.2⟩)
    (Cert.Reference13Ideal.Value.run (F := Ideal) m g)

/-- The running sum of the log gates. -/
theorem algebraic_gfwd : Cert.algebraic_Kernel13Ideal_Reference13Ideal (hKernel13Ideal := Cert.Kernel13Ideal.Gen.facts)
    (hReference13Ideal := Cert.Reference13Ideal.Gen.facts) := by
  pair_intro
  · run_from Cert.Kernel13Ideal.Value.run_blocks m g
  · refine (θ_run Cert.Reference13Ideal.defs _ _).mono (fun r h c => ?_) (Cert.Reference13Ideal.Value.run (F := Ideal) m' g')
    obtain ⟨h0, h1⟩ := hagree c
    refine ⟨(h c).1.trans ?_, (h c).2⟩
    rw [Cert.Kernel13Ideal.GateFwd.final2 m c]
    exact (Cert.Reference13Ideal.Read.val_main_v8_eq _ _).trans (congrArg₂ (Cert.Reference13Ideal.Read.val_main_v8 (F := Ideal)) h0 h1)

/-- The frame of the reference of the `up` pair. -/
theorem frame_up : Cert.quiescent_Reference14Ideal (hReference14Ideal := Cert.Reference14Ideal.Gen.facts) := fun m g _ =>
  (θ_run Cert.Reference14Ideal.defs _ _).mono (fun r h => ⟨fun c => (h c).2.2.2, sem_eq_zero_of_no_sems (by decide) r.2⟩)
    (Cert.Reference14Ideal.Value.run (F := Ideal) m g)

/-- The forward pass from the cross attention to the rectifier. -/
theorem algebraic_up : Cert.algebraic_Kernel14Ideal_Reference14Ideal (hKernel14Ideal := Cert.Kernel14Ideal.Gen.facts)
    (hReference14Ideal := Cert.Reference14Ideal.Gen.facts) := by
  pair_intro
  · run_from Cert.Kernel14Ideal.Value.run_blocks m g
  · run_from Cert.Reference14Ideal.Value.run m' g'
    · rw [Cert.Kernel14Ideal.UpFwd.final5 m c, Cert.Reference14Ideal.Read.val_main_v4_eq]
    · rw [Cert.Kernel14Ideal.UpFwd.final6 m c, Cert.Reference14Ideal.Read.val_main_v20_eq]
    · rw [Cert.Kernel14Ideal.UpFwd.final7 m c, Cert.Reference14Ideal.Read.val_main_v21_eq]

/-- The frame of the reference of the `norm` pair. -/
theorem frame_norm : Cert.quiescent_Reference15Ideal (hReference15Ideal := Cert.Reference15Ideal.Gen.facts) := fun m g _ =>
  (θ_run Cert.Reference15Ideal.defs _ _).mono (fun r h => ⟨fun c => (h c).2, sem_eq_zero_of_no_sems (by decide) r.2⟩)
    (Cert.Reference15Ideal.Value.run (F := Ideal) m g)

/-- The first norm of the forward pass. -/
theorem algebraic_norm : Cert.algebraic_Kernel15Ideal_Reference15Ideal (hKernel15Ideal := Cert.Kernel15Ideal.Gen.facts)
    (hReference15Ideal := Cert.Reference15Ideal.Gen.facts) := by
  pair_intro
  · run_from Cert.Kernel15Ideal.Value.run_blocks m g
  · run_from Cert.Reference15Ideal.Value.run m' g'
    rw [Cert.Kernel15Ideal.NormFwd.final2 m c, Cert.Reference15Ideal.Read.val_main_v13_eq]

/-- The frame of the reference of the `proj` pair. -/
theorem frame_proj : Cert.quiescent_Reference16Ideal (hReference16Ideal := Cert.Reference16Ideal.Gen.facts) := fun m g _ =>
  (θ_run Cert.Reference16Ideal.defs _ _).mono (fun r h => ⟨fun c => (h c).2.2, sem_eq_zero_of_no_sems (by decide) r.2⟩)
    (Cert.Reference16Ideal.Value.run (F := Ideal) m g)

/-- The input projection of a layer. -/
theorem algebraic_proj : Cert.algebraic_Kernel16Ideal_Reference16Ideal (hKernel16Ideal := Cert.Kernel16Ideal.Gen.facts)
    (hReference16Ideal := Cert.Reference16Ideal.Gen.facts) := by
  pair_intro
  · run_from Cert.Kernel16Ideal.Value.run_blocks m g
  · run_from Cert.Reference16Ideal.Value.run m' g'
    · rw [Cert.Kernel16Ideal.InFwd.final4 m c, Cert.Reference16Ideal.Read.val_main_v4_eq]
    · rw [Cert.Kernel16Ideal.InFwd.final5 m c, Cert.Reference16Ideal.Read.val_main_v6_eq]

/-- The frame of the reference of the `wdown` pair. -/
theorem frame_wdown : Cert.quiescent_Reference17Ideal (hReference17Ideal := Cert.Reference17Ideal.Gen.facts) := fun m g _ =>
  (θ_run Cert.Reference17Ideal.defs _ _).mono (fun r h => ⟨fun c => (h c).2, sem_eq_zero_of_no_sems (by decide) r.2⟩)
    (Cert.Reference17Ideal.Value.run (F := Ideal) m g)

/-- The gradient of the down projection's weight. -/
theorem algebraic_wdown : Cert.algebraic_Kernel17Ideal_Reference17Ideal (hKernel17Ideal := Cert.Kernel17Ideal.Gen.facts)
    (hReference17Ideal := Cert.Reference17Ideal.Gen.facts) := by
  pair_intro
  · run_from Cert.Kernel17Ideal.Value.run_blocks m g
  · run_from Cert.Reference17Ideal.Value.run m' g'
    rw [Cert.Kernel17Ideal.DownGrad.final2 m c, Cert.Reference17Ideal.Read.val_main_v7_eq]

/-- The frame of the reference of the `winfox` pair. -/
theorem frame_winfox : Cert.quiescent_Reference18Ideal (hReference18Ideal := Cert.Reference18Ideal.Gen.facts) := fun m g _ =>
  (θ_run Cert.Reference18Ideal.defs _ _).mono (fun r h => ⟨fun c => (h c).2, sem_eq_zero_of_no_sems (by decide) r.2⟩)
    (Cert.Reference18Ideal.Value.run (F := Ideal) m g)

/-- The gradient of the input projection's weight at the forgetting attention's columns. -/
theorem algebraic_winfox : Cert.algebraic_Kernel18Ideal_Reference18Ideal (hKernel18Ideal := Cert.Kernel18Ideal.Gen.facts)
    (hReference18Ideal := Cert.Reference18Ideal.Gen.facts) := by
  pair_intro
  · run_from Cert.Kernel18Ideal.Value.run_blocks m g
  · run_from Cert.Reference18Ideal.Value.run m' g'
    rw [Cert.Kernel18Ideal.PieceGrad.final5 m c, Cert.Reference18Ideal.Read.val_main_v21_eq]

/-- The frame of the reference of the `adam` pair. -/
theorem frame_adam : Cert.quiescent_Reference19Ideal (hReference19Ideal := Cert.Reference19Ideal.Gen.facts) := fun m g _ =>
  (θ_run Cert.Reference19Ideal.defs _ _).mono (fun r h => ⟨fun c => (h c).2.2.2.2, sem_eq_zero_of_no_sems (by decide) r.2⟩)
    (Cert.Reference19Ideal.Value.run (F := Ideal) m g)

/-- The optimiser's step. -/
theorem algebraic_adam : Cert.algebraic_Kernel19Ideal_Reference19Ideal (hKernel19Ideal := Cert.Kernel19Ideal.Gen.facts)
    (hReference19Ideal := Cert.Reference19Ideal.Gen.facts) := by
  pair_intro
  · run_from Cert.Kernel19Ideal.Value.run_blocks m g
  · refine (θ_run Cert.Reference19Ideal.defs _ _).mono (fun r h c => ?_) (Cert.Reference19Ideal.Value.run (F := Ideal) m' g')
    obtain ⟨h0, h1, h2, h3⟩ := hagree c
    refine ⟨(h c).1.trans ?_, (h c).2.1.trans ?_, (h c).2.2.1.trans ?_, (h c).2.2.2.1.trans ?_, (h c).2.2.2.2⟩
    · rw [Cert.Kernel19Ideal.Optimiser.final4 m c]
      exact (Cert.Reference19Ideal.Read.val_main_v1_eq _).trans (by rw [h0])
    · rw [Cert.Kernel19Ideal.Optimiser.final5 m c]
      exact (Cert.Reference19Ideal.Read.val_main_v25_eq _ _ _ _).trans (by rw [h0, h1, h2, h3])
    · rw [Cert.Kernel19Ideal.Optimiser.final6 m c]
      exact (Cert.Reference19Ideal.Read.val_main_v6_eq _ _).trans (by rw [h0, h2])
    · rw [Cert.Kernel19Ideal.Optimiser.final7 m c]
      exact (Cert.Reference19Ideal.Read.val_main_v12_eq _ _).trans (by rw [h0, h3])

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel5.Gen.facts, Cert.Kernel5Ideal.Gen.facts, Cert.Reference5Ideal.Gen.facts,
  Cert.Kernel3.Gen.facts, Cert.Kernel3Ideal.Gen.facts, Cert.Reference3Ideal.Gen.facts,
  Cert.Kernel8.Gen.facts, Cert.Kernel8Ideal.Gen.facts, Cert.Reference8Ideal.Gen.facts,
  Cert.Kernel7.Gen.facts, Cert.Kernel7Ideal.Gen.facts, Cert.Reference7Ideal.Gen.facts,
  Cert.Kernel9.Gen.facts, Cert.Kernel9Ideal.Gen.facts, Cert.Reference9Ideal.Gen.facts,
  Cert.Kernel4.Gen.facts, Cert.Kernel4Ideal.Gen.facts, Cert.Reference4Ideal.Gen.facts,
  Cert.Kernel10.Gen.facts, Cert.Kernel10Ideal.Gen.facts, Cert.Reference10Ideal.Gen.facts,
  Cert.Kernel6.Gen.facts, Cert.Kernel6Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Pre_fox_finite.Gen.facts,
  Cert.Pre_xattn_finite.Gen.facts,
  Cert.Pre_xfwd_finite.Gen.facts,
  Cert.Pre_ffwd_finite.Gen.facts,
  Cert.Pre_dfwd_finite.Gen.facts,
  fun m g _ => Cert.Kernel.Gen.frame m g,
  fun m g _ => Cert.KernelIdeal.Gen.frame m g,
  frame_dact,
  fun m g _ => Cert.Kernel2.Gen.frame m g,
  fun m g _ => Cert.Kernel2Ideal.Gen.frame m g,
  frame_gate,
  fun m g _ => Cert.Kernel5.Gen.frame m g,
  fun m g _ => Cert.Kernel5Ideal.Gen.frame m g,
  fun m g _ => Cert.Kernel5Ideal.Gen.frame m g,
  frame_fox,
  fun m g _ => frame_fox m g True.intro,
  fun m g _ => Cert.Kernel3.Gen.frame m g,
  fun m g _ => Cert.Kernel3Ideal.Gen.frame m g,
  fun m g _ => Cert.Kernel3Ideal.Gen.frame m g,
  frame_xattn,
  fun m g _ => frame_xattn m g True.intro,
  fun m g _ => Cert.Kernel8.Gen.frame m g,
  fun m g _ => Cert.Kernel8Ideal.Gen.frame m g,
  frame_dmem,
  fun m g _ => Cert.Kernel7.Gen.frame m g,
  fun m g _ => Cert.Kernel7Ideal.Gen.frame m g,
  frame_dh3,
  fun m g _ => Cert.Kernel9.Gen.frame m g,
  fun m g _ => Cert.Kernel9Ideal.Gen.frame m g,
  frame_dh1,
  fun m g _ => Cert.Kernel4.Gen.frame m g,
  fun m g _ => Cert.Kernel4Ideal.Gen.frame m g,
  frame_loss,
  fun m g _ => Cert.Kernel10.Gen.frame m g,
  fun m g _ => Cert.Kernel10Ideal.Gen.frame m g,
  fun m g _ => Cert.Kernel10Ideal.Gen.frame m g,
  frame_xfwd,
  fun m g _ => frame_xfwd m g True.intro,
  fun m g _ => Cert.Kernel6.Gen.frame m g,
  fun m g _ => Cert.Kernel6Ideal.Gen.frame m g,
  fun m g _ => Cert.Kernel11.Gen.frame m g,
  fun m g _ => Cert.Kernel11Ideal.Gen.frame m g,
  fun m g _ => Cert.Kernel11Ideal.Gen.frame m g,
  frame_ffwd,
  fun m g _ => frame_ffwd m g True.intro,
  fun m g _ => Cert.Kernel12.Gen.frame m g,
  fun m g _ => Cert.Kernel12Ideal.Gen.frame m g,
  fun m g _ => Cert.Kernel12Ideal.Gen.frame m g,
  frame_dfwd,
  fun m g _ => frame_dfwd m g True.intro,
  fun m g _ => Cert.Kernel13.Gen.frame m g,
  fun m g _ => Cert.Kernel13Ideal.Gen.frame m g,
  frame_gfwd,
  fun m g _ => Cert.Kernel14.Gen.frame m g,
  fun m g _ => Cert.Kernel14Ideal.Gen.frame m g,
  frame_up,
  fun m g _ => Cert.Kernel15.Gen.frame m g,
  fun m g _ => Cert.Kernel15Ideal.Gen.frame m g,
  frame_norm,
  fun m g _ => Cert.Kernel16.Gen.frame m g,
  fun m g _ => Cert.Kernel16Ideal.Gen.frame m g,
  frame_proj,
  fun m g _ => Cert.Kernel17.Gen.frame m g,
  fun m g _ => Cert.Kernel17Ideal.Gen.frame m g,
  frame_wdown,
  fun m g _ => Cert.Kernel18.Gen.frame m g,
  fun m g _ => Cert.Kernel18Ideal.Gen.frame m g,
  frame_winfox,
  fun m g _ => Cert.Kernel19.Gen.frame m g,
  fun m g _ => Cert.Kernel19Ideal.Gen.frame m g,
  frame_adam,
  trivial,
  algebraic_dact,
  trivial,
  algebraic_gate,
  trivial,
  algebraic_fox,
  trivial,
  algebraic_xattn,
  trivial,
  algebraic_dmem,
  trivial,
  algebraic_dh3,
  trivial,
  algebraic_dh1,
  trivial,
  algebraic_loss,
  trivial,
  algebraic_xfwd,
  IdealRules.named_const.statement Cert.Kernel6Ideal.κ "mask" .f32 0xF149F2CA#32 ⊥ rfl,
  IdealRules.named_const.statement Cert.Kernel11Ideal.κ "mask" .f32 0xF149F2CA#32 ⊥ rfl,
  algebraic_ffwd,
  IdealRules.named_const.statement Cert.Kernel12Ideal.κ "mask" .f32 0xF149F2CA#32 ⊥ rfl,
  algebraic_dfwd,
  trivial,
  algebraic_gfwd,
  trivial,
  algebraic_up,
  trivial,
  algebraic_norm,
  trivial,
  algebraic_proj,
  trivial,
  algebraic_wdown,
  trivial,
  algebraic_winfox,
  trivial,
  algebraic_adam⟩

end Cert.Proof

end
